-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_InFwd (m : (ℓ : Loc Cert.InFwd.nD Cert.InFwd.τ Cert.InFwd.sig) → Buf (Elt Bits) ℓ) : Prop :=
  True

def Pre_InFwdIdeal (m : (ℓ : Loc Cert.InFwdIdeal.nD Cert.InFwdIdeal.τ Cert.InFwdIdeal.sig) → Buf (Elt Ideal) ℓ) : Prop :=
  True

def Pre_InFwdRefIdeal (m : (ℓ : Loc Cert.InFwdRefIdeal.nD Cert.InFwdRefIdeal.τ Cert.InFwdRefIdeal.sig) → Buf (Elt Ideal) ℓ) : Prop :=
  True

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_OutFwdRefIdeal (m : (ℓ : Loc Cert.OutFwdRefIdeal.nD Cert.OutFwdRefIdeal.τ Cert.OutFwdRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamUq (m : (ℓ : Loc Cert.AdamUq.nD Cert.AdamUq.τ Cert.AdamUq.sig) → Buf (Elt Bits) ℓ) : Prop :=
  True

def Pre_AdamUqIdeal (m : (ℓ : Loc Cert.AdamUqIdeal.nD Cert.AdamUqIdeal.τ Cert.AdamUqIdeal.sig) → Buf (Elt Ideal) ℓ) : Prop :=
  True

def Pre_AdamUqRefIdeal (m : (ℓ : Loc Cert.AdamUqRefIdeal.nD Cert.AdamUqRefIdeal.τ Cert.AdamUqRefIdeal.sig) → Buf (Elt Ideal) ℓ) : Prop :=
  True

def Pre_AdamUkv (m : (ℓ : Loc Cert.AdamUkv.nD Cert.AdamUkv.τ Cert.AdamUkv.sig) → Buf (Elt Bits) ℓ) : Prop :=
  True

def Pre_AdamUkvIdeal (m : (ℓ : Loc Cert.AdamUkvIdeal.nD Cert.AdamUkvIdeal.τ Cert.AdamUkvIdeal.sig) → Buf (Elt Ideal) ℓ) : Prop :=
  True

def Pre_AdamUkvRefIdeal (m : (ℓ : Loc Cert.AdamUkvRefIdeal.nD Cert.AdamUkvRefIdeal.τ Cert.AdamUkvRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5)
      ∧ r.2.mem ((c.tc : Thread Cert.InProj.nD Cert.InProj.τ).loc Cert.InProj.main_arg6) = m ((c.tc : Thread Cert.InProj.nD Cert.InProj.τ).loc Cert.InProj.main_arg6)
      ∧ r.2.mem ((c.tc : Thread Cert.InProj.nD Cert.InProj.τ).loc Cert.InProj.main_arg7) = m ((c.tc : Thread Cert.InProj.nD Cert.InProj.τ).loc Cert.InProj.main_arg7))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
      ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5)
      ∧ r.2.mem ((c.tc : Thread Cert.InProjRefIdeal.nD Cert.InProjRefIdeal.τ).loc Cert.InProjRefIdeal.main_arg6) = m ((c.tc : Thread Cert.InProjRefIdeal.nD Cert.InProjRefIdeal.τ).loc Cert.InProjRefIdeal.main_arg6)
      ∧ r.2.mem ((c.tc : Thread Cert.InProjRefIdeal.nD Cert.InProjRefIdeal.τ).loc Cert.InProjRefIdeal.main_arg7) = m ((c.tc : Thread Cert.InProjRefIdeal.nD Cert.InProjRefIdeal.τ).loc Cert.InProjRefIdeal.main_arg7))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4))
      ∧ r.2.sem = fun _ => 0)

def quiescent_InFwd [hInFwd : Cert.InFwd.Facts] : Prop :=
  ∀ (m : (ℓ : Loc Cert.InFwd.nD Cert.InFwd.τ Cert.InFwd.sig) → Buf (Elt Bits) ℓ) (g : Dev Cert.InFwd.nD → PrngReg), Pre_InFwd m →
    θ_run (Cert.InFwd.defs (F := Bits)) (onTc (τ := Cert.InFwd.τ) (Cert.InFwd.main (F := Bits))) ⟨m, fun _ => 0, g⟩ (fun r => (∀ c : Dev Cert.InFwd.nD,
      r.2.mem ((c.tc : Thread Cert.InFwd.nD Cert.InFwd.τ).loc Cert.InFwd.main_arg0) = m ((c.tc : Thread Cert.InFwd.nD Cert.InFwd.τ).loc Cert.InFwd.main_arg0)
      ∧ r.2.mem ((c.tc : Thread Cert.InFwd.nD Cert.InFwd.τ).loc Cert.InFwd.main_arg1) = m ((c.tc : Thread Cert.InFwd.nD Cert.InFwd.τ).loc Cert.InFwd.main_arg1)
      ∧ r.2.mem ((c.tc : Thread Cert.InFwd.nD Cert.InFwd.τ).loc Cert.InFwd.main_arg2) = m ((c.tc : Thread Cert.InFwd.nD Cert.InFwd.τ).loc Cert.InFwd.main_arg2))
      ∧ r.2.sem = fun _ => 0)

def quiescent_InFwdIdeal [hInFwdIdeal : Cert.InFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
      ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2))
      ∧ r.2.sem = fun _ => 0)

def quiescent_InFwdRefIdeal [hInFwdRefIdeal : Cert.InFwdRefIdeal.Facts] : Prop :=
  ∀ (m : (ℓ : Loc Cert.InFwdRefIdeal.nD Cert.InFwdRefIdeal.τ Cert.InFwdRefIdeal.sig) → Buf (Elt Ideal) ℓ) (g : Dev Cert.InFwdRefIdeal.nD → PrngReg), Pre_InFwdRefIdeal m →
    θ_run (Cert.InFwdRefIdeal.defs (F := Ideal)) (onTc (τ := Cert.InFwdRefIdeal.τ) (Cert.InFwdRefIdeal.main (F := Ideal))) ⟨m, fun _ => 0, g⟩ (fun r => (∀ c : Dev Cert.InFwdRefIdeal.nD,
      r.2.mem ((c.tc : Thread Cert.InFwdRefIdeal.nD Cert.InFwdRefIdeal.τ).loc Cert.InFwdRefIdeal.main_arg0) = m ((c.tc : Thread Cert.InFwdRefIdeal.nD Cert.InFwdRefIdeal.τ).loc Cert.InFwdRefIdeal.main_arg0)
      ∧ r.2.mem ((c.tc : Thread Cert.InFwdRefIdeal.nD Cert.InFwdRefIdeal.τ).loc Cert.InFwdRefIdeal.main_arg1) = m ((c.tc : Thread Cert.InFwdRefIdeal.nD Cert.InFwdRefIdeal.τ).loc Cert.InFwdRefIdeal.main_arg1)
      ∧ r.2.mem ((c.tc : Thread Cert.InFwdRefIdeal.nD Cert.InFwdRefIdeal.τ).loc Cert.InFwdRefIdeal.main_arg2) = m ((c.tc : Thread Cert.InFwdRefIdeal.nD Cert.InFwdRefIdeal.τ).loc Cert.InFwdRefIdeal.main_arg2))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1)
      ∧ r.2.mem ((c.tc : Thread Cert.OutFwd.nD Cert.OutFwd.τ).loc Cert.OutFwd.main_arg2) = m ((c.tc : Thread Cert.OutFwd.nD Cert.OutFwd.τ).loc Cert.OutFwd.main_arg2)
      ∧ r.2.mem ((c.tc : Thread Cert.OutFwd.nD Cert.OutFwd.τ).loc Cert.OutFwd.main_arg3) = m ((c.tc : Thread Cert.OutFwd.nD Cert.OutFwd.τ).loc Cert.OutFwd.main_arg3)
      ∧ r.2.mem ((c.tc : Thread Cert.OutFwd.nD Cert.OutFwd.τ).loc Cert.OutFwd.main_arg4) = m ((c.tc : Thread Cert.OutFwd.nD Cert.OutFwd.τ).loc Cert.OutFwd.main_arg4)
      ∧ r.2.mem ((c.tc : Thread Cert.OutFwd.nD Cert.OutFwd.τ).loc Cert.OutFwd.main_arg5) = m ((c.tc : Thread Cert.OutFwd.nD Cert.OutFwd.τ).loc Cert.OutFwd.main_arg5))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
      ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
      ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3)
      ∧ r.2.mem ((c.tc : Thread Cert.OutFwdIdeal.nD Cert.OutFwdIdeal.τ).loc Cert.OutFwdIdeal.main_arg4) = m ((c.tc : Thread Cert.OutFwdIdeal.nD Cert.OutFwdIdeal.τ).loc Cert.OutFwdIdeal.main_arg4)
      ∧ r.2.mem ((c.tc : Thread Cert.OutFwdIdeal.nD Cert.OutFwdIdeal.τ).loc Cert.OutFwdIdeal.main_arg5) = m ((c.tc : Thread Cert.OutFwdIdeal.nD Cert.OutFwdIdeal.τ).loc Cert.OutFwdIdeal.main_arg5))
      ∧ r.2.sem = fun _ => 0)

def quiescent_OutFwdRefIdeal [hOutFwdRefIdeal : Cert.OutFwdRefIdeal.Facts] : Prop :=
  ∀ (m : (ℓ : Loc Cert.OutFwdRefIdeal.nD Cert.OutFwdRefIdeal.τ Cert.OutFwdRefIdeal.sig) → Buf (Elt Ideal) ℓ) (g : Dev Cert.OutFwdRefIdeal.nD → PrngReg), Pre_OutFwdRefIdeal m →
    θ_run (Cert.OutFwdRefIdeal.defs (F := Ideal)) (onTc (τ := Cert.OutFwdRefIdeal.τ) (Cert.OutFwdRefIdeal.main (F := Ideal))) ⟨m, fun _ => 0, g⟩ (fun r => (∀ c : Dev Cert.OutFwdRefIdeal.nD,
      r.2.mem ((c.tc : Thread Cert.OutFwdRefIdeal.nD Cert.OutFwdRefIdeal.τ).loc Cert.OutFwdRefIdeal.main_arg0) = m ((c.tc : Thread Cert.OutFwdRefIdeal.nD Cert.OutFwdRefIdeal.τ).loc Cert.OutFwdRefIdeal.main_arg0)
      ∧ r.2.mem ((c.tc : Thread Cert.OutFwdRefIdeal.nD Cert.OutFwdRefIdeal.τ).loc Cert.OutFwdRefIdeal.main_arg1) = m ((c.tc : Thread Cert.OutFwdRefIdeal.nD Cert.OutFwdRefIdeal.τ).loc Cert.OutFwdRefIdeal.main_arg1)
      ∧ r.2.mem ((c.tc : Thread Cert.OutFwdRefIdeal.nD Cert.OutFwdRefIdeal.τ).loc Cert.OutFwdRefIdeal.main_arg2) = m ((c.tc : Thread Cert.OutFwdRefIdeal.nD Cert.OutFwdRefIdeal.τ).loc Cert.OutFwdRefIdeal.main_arg2)
      ∧ r.2.mem ((c.tc : Thread Cert.OutFwdRefIdeal.nD Cert.OutFwdRefIdeal.τ).loc Cert.OutFwdRefIdeal.main_arg3) = m ((c.tc : Thread Cert.OutFwdRefIdeal.nD Cert.OutFwdRefIdeal.τ).loc Cert.OutFwdRefIdeal.main_arg3)
      ∧ r.2.mem ((c.tc : Thread Cert.OutFwdRefIdeal.nD Cert.OutFwdRefIdeal.τ).loc Cert.OutFwdRefIdeal.main_arg4) = m ((c.tc : Thread Cert.OutFwdRefIdeal.nD Cert.OutFwdRefIdeal.τ).loc Cert.OutFwdRefIdeal.main_arg4)
      ∧ r.2.mem ((c.tc : Thread Cert.OutFwdRefIdeal.nD Cert.OutFwdRefIdeal.τ).loc Cert.OutFwdRefIdeal.main_arg5) = m ((c.tc : Thread Cert.OutFwdRefIdeal.nD Cert.OutFwdRefIdeal.τ).loc Cert.OutFwdRefIdeal.main_arg5))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamUq [hAdamUq : Cert.AdamUq.Facts] : Prop :=
  ∀ (m : (ℓ : Loc Cert.AdamUq.nD Cert.AdamUq.τ Cert.AdamUq.sig) → Buf (Elt Bits) ℓ) (g : Dev Cert.AdamUq.nD → PrngReg), Pre_AdamUq m →
    θ_run (Cert.AdamUq.defs (F := Bits)) (onTc (τ := Cert.AdamUq.τ) (Cert.AdamUq.main (F := Bits))) ⟨m, fun _ => 0, g⟩ (fun r => (∀ c : Dev Cert.AdamUq.nD,
      r.2.mem ((c.tc : Thread Cert.AdamUq.nD Cert.AdamUq.τ).loc Cert.AdamUq.main_arg0) = m ((c.tc : Thread Cert.AdamUq.nD Cert.AdamUq.τ).loc Cert.AdamUq.main_arg0)
      ∧ r.2.mem ((c.tc : Thread Cert.AdamUq.nD Cert.AdamUq.τ).loc Cert.AdamUq.main_arg1) = m ((c.tc : Thread Cert.AdamUq.nD Cert.AdamUq.τ).loc Cert.AdamUq.main_arg1)
      ∧ r.2.mem ((c.tc : Thread Cert.AdamUq.nD Cert.AdamUq.τ).loc Cert.AdamUq.main_arg2) = m ((c.tc : Thread Cert.AdamUq.nD Cert.AdamUq.τ).loc Cert.AdamUq.main_arg2)
      ∧ r.2.mem ((c.tc : Thread Cert.AdamUq.nD Cert.AdamUq.τ).loc Cert.AdamUq.main_arg3) = m ((c.tc : Thread Cert.AdamUq.nD Cert.AdamUq.τ).loc Cert.AdamUq.main_arg3))
      ∧ r.2.sem = fun _ => 0)

def quiescent_AdamUqIdeal [hAdamUqIdeal : Cert.AdamUqIdeal.Facts] : Prop :=
  ∀ (m : (ℓ : Loc Cert.AdamUqIdeal.nD Cert.AdamUqIdeal.τ Cert.AdamUqIdeal.sig) → Buf (Elt Ideal) ℓ) (g : Dev Cert.AdamUqIdeal.nD → PrngReg), Pre_AdamUqIdeal m →
    θ_run (Cert.AdamUqIdeal.defs (F := Ideal)) (onTc (τ := Cert.AdamUqIdeal.τ) (Cert.AdamUqIdeal.main (F := Ideal))) ⟨m, fun _ => 0, g⟩ (fun r => (∀ c : Dev Cert.AdamUqIdeal.nD,
      r.2.mem ((c.tc : Thread Cert.AdamUqIdeal.nD Cert.AdamUqIdeal.τ).loc Cert.AdamUqIdeal.main_arg0) = m ((c.tc : Thread Cert.AdamUqIdeal.nD Cert.AdamUqIdeal.τ).loc Cert.AdamUqIdeal.main_arg0)
      ∧ r.2.mem ((c.tc : Thread Cert.AdamUqIdeal.nD Cert.AdamUqIdeal.τ).loc Cert.AdamUqIdeal.main_arg1) = m ((c.tc : Thread Cert.AdamUqIdeal.nD Cert.AdamUqIdeal.τ).loc Cert.AdamUqIdeal.main_arg1)
      ∧ r.2.mem ((c.tc : Thread Cert.AdamUqIdeal.nD Cert.AdamUqIdeal.τ).loc Cert.AdamUqIdeal.main_arg2) = m ((c.tc : Thread Cert.AdamUqIdeal.nD Cert.AdamUqIdeal.τ).loc Cert.AdamUqIdeal.main_arg2)
      ∧ r.2.mem ((c.tc : Thread Cert.AdamUqIdeal.nD Cert.AdamUqIdeal.τ).loc Cert.AdamUqIdeal.main_arg3) = m ((c.tc : Thread Cert.AdamUqIdeal.nD Cert.AdamUqIdeal.τ).loc Cert.AdamUqIdeal.main_arg3))
      ∧ r.2.sem = fun _ => 0)

def quiescent_AdamUqRefIdeal [hAdamUqRefIdeal : Cert.AdamUqRefIdeal.Facts] : Prop :=
  ∀ (m : (ℓ : Loc Cert.AdamUqRefIdeal.nD Cert.AdamUqRefIdeal.τ Cert.AdamUqRefIdeal.sig) → Buf (Elt Ideal) ℓ) (g : Dev Cert.AdamUqRefIdeal.nD → PrngReg), Pre_AdamUqRefIdeal m →
    θ_run (Cert.AdamUqRefIdeal.defs (F := Ideal)) (onTc (τ := Cert.AdamUqRefIdeal.τ) (Cert.AdamUqRefIdeal.main (F := Ideal))) ⟨m, fun _ => 0, g⟩ (fun r => (∀ c : Dev Cert.AdamUqRefIdeal.nD,
      r.2.mem ((c.tc : Thread Cert.AdamUqRefIdeal.nD Cert.AdamUqRefIdeal.τ).loc Cert.AdamUqRefIdeal.main_arg0) = m ((c.tc : Thread Cert.AdamUqRefIdeal.nD Cert.AdamUqRefIdeal.τ).loc Cert.AdamUqRefIdeal.main_arg0)
      ∧ r.2.mem ((c.tc : Thread Cert.AdamUqRefIdeal.nD Cert.AdamUqRefIdeal.τ).loc Cert.AdamUqRefIdeal.main_arg1) = m ((c.tc : Thread Cert.AdamUqRefIdeal.nD Cert.AdamUqRefIdeal.τ).loc Cert.AdamUqRefIdeal.main_arg1)
      ∧ r.2.mem ((c.tc : Thread Cert.AdamUqRefIdeal.nD Cert.AdamUqRefIdeal.τ).loc Cert.AdamUqRefIdeal.main_arg2) = m ((c.tc : Thread Cert.AdamUqRefIdeal.nD Cert.AdamUqRefIdeal.τ).loc Cert.AdamUqRefIdeal.main_arg2)
      ∧ r.2.mem ((c.tc : Thread Cert.AdamUqRefIdeal.nD Cert.AdamUqRefIdeal.τ).loc Cert.AdamUqRefIdeal.main_arg3) = m ((c.tc : Thread Cert.AdamUqRefIdeal.nD Cert.AdamUqRefIdeal.τ).loc Cert.AdamUqRefIdeal.main_arg3))
      ∧ r.2.sem = fun _ => 0)

def quiescent_AdamUkv [hAdamUkv : Cert.AdamUkv.Facts] : Prop :=
  ∀ (m : (ℓ : Loc Cert.AdamUkv.nD Cert.AdamUkv.τ Cert.AdamUkv.sig) → Buf (Elt Bits) ℓ) (g : Dev Cert.AdamUkv.nD → PrngReg), Pre_AdamUkv m →
    θ_run (Cert.AdamUkv.defs (F := Bits)) (onTc (τ := Cert.AdamUkv.τ) (Cert.AdamUkv.main (F := Bits))) ⟨m, fun _ => 0, g⟩ (fun r => (∀ c : Dev Cert.AdamUkv.nD,
      r.2.mem ((c.tc : Thread Cert.AdamUkv.nD Cert.AdamUkv.τ).loc Cert.AdamUkv.main_arg0) = m ((c.tc : Thread Cert.AdamUkv.nD Cert.AdamUkv.τ).loc Cert.AdamUkv.main_arg0)
      ∧ r.2.mem ((c.tc : Thread Cert.AdamUkv.nD Cert.AdamUkv.τ).loc Cert.AdamUkv.main_arg1) = m ((c.tc : Thread Cert.AdamUkv.nD Cert.AdamUkv.τ).loc Cert.AdamUkv.main_arg1)
      ∧ r.2.mem ((c.tc : Thread Cert.AdamUkv.nD Cert.AdamUkv.τ).loc Cert.AdamUkv.main_arg2) = m ((c.tc : Thread Cert.AdamUkv.nD Cert.AdamUkv.τ).loc Cert.AdamUkv.main_arg2)
      ∧ r.2.mem ((c.tc : Thread Cert.AdamUkv.nD Cert.AdamUkv.τ).loc Cert.AdamUkv.main_arg3) = m ((c.tc : Thread Cert.AdamUkv.nD Cert.AdamUkv.τ).loc Cert.AdamUkv.main_arg3))
      ∧ r.2.sem = fun _ => 0)

def quiescent_AdamUkvIdeal [hAdamUkvIdeal : Cert.AdamUkvIdeal.Facts] : Prop :=
  ∀ (m : (ℓ : Loc Cert.AdamUkvIdeal.nD Cert.AdamUkvIdeal.τ Cert.AdamUkvIdeal.sig) → Buf (Elt Ideal) ℓ) (g : Dev Cert.AdamUkvIdeal.nD → PrngReg), Pre_AdamUkvIdeal m →
    θ_run (Cert.AdamUkvIdeal.defs (F := Ideal)) (onTc (τ := Cert.AdamUkvIdeal.τ) (Cert.AdamUkvIdeal.main (F := Ideal))) ⟨m, fun _ => 0, g⟩ (fun r => (∀ c : Dev Cert.AdamUkvIdeal.nD,
      r.2.mem ((c.tc : Thread Cert.AdamUkvIdeal.nD Cert.AdamUkvIdeal.τ).loc Cert.AdamUkvIdeal.main_arg0) = m ((c.tc : Thread Cert.AdamUkvIdeal.nD Cert.AdamUkvIdeal.τ).loc Cert.AdamUkvIdeal.main_arg0)
      ∧ r.2.mem ((c.tc : Thread Cert.AdamUkvIdeal.nD Cert.AdamUkvIdeal.τ).loc Cert.AdamUkvIdeal.main_arg1) = m ((c.tc : Thread Cert.AdamUkvIdeal.nD Cert.AdamUkvIdeal.τ).loc Cert.AdamUkvIdeal.main_arg1)
      ∧ r.2.mem ((c.tc : Thread Cert.AdamUkvIdeal.nD Cert.AdamUkvIdeal.τ).loc Cert.AdamUkvIdeal.main_arg2) = m ((c.tc : Thread Cert.AdamUkvIdeal.nD Cert.AdamUkvIdeal.τ).loc Cert.AdamUkvIdeal.main_arg2)
      ∧ r.2.mem ((c.tc : Thread Cert.AdamUkvIdeal.nD Cert.AdamUkvIdeal.τ).loc Cert.AdamUkvIdeal.main_arg3) = m ((c.tc : Thread Cert.AdamUkvIdeal.nD Cert.AdamUkvIdeal.τ).loc Cert.AdamUkvIdeal.main_arg3))
      ∧ r.2.sem = fun _ => 0)

def quiescent_AdamUkvRefIdeal [hAdamUkvRefIdeal : Cert.AdamUkvRefIdeal.Facts] : Prop :=
  ∀ (m : (ℓ : Loc Cert.AdamUkvRefIdeal.nD Cert.AdamUkvRefIdeal.τ Cert.AdamUkvRefIdeal.sig) → Buf (Elt Ideal) ℓ) (g : Dev Cert.AdamUkvRefIdeal.nD → PrngReg), Pre_AdamUkvRefIdeal m →
    θ_run (Cert.AdamUkvRefIdeal.defs (F := Ideal)) (onTc (τ := Cert.AdamUkvRefIdeal.τ) (Cert.AdamUkvRefIdeal.main (F := Ideal))) ⟨m, fun _ => 0, g⟩ (fun r => (∀ c : Dev Cert.AdamUkvRefIdeal.nD,
      r.2.mem ((c.tc : Thread Cert.AdamUkvRefIdeal.nD Cert.AdamUkvRefIdeal.τ).loc Cert.AdamUkvRefIdeal.main_arg0) = m ((c.tc : Thread Cert.AdamUkvRefIdeal.nD Cert.AdamUkvRefIdeal.τ).loc Cert.AdamUkvRefIdeal.main_arg0)
      ∧ r.2.mem ((c.tc : Thread Cert.AdamUkvRefIdeal.nD Cert.AdamUkvRefIdeal.τ).loc Cert.AdamUkvRefIdeal.main_arg1) = m ((c.tc : Thread Cert.AdamUkvRefIdeal.nD Cert.AdamUkvRefIdeal.τ).loc Cert.AdamUkvRefIdeal.main_arg1)
      ∧ r.2.mem ((c.tc : Thread Cert.AdamUkvRefIdeal.nD Cert.AdamUkvRefIdeal.τ).loc Cert.AdamUkvRefIdeal.main_arg2) = m ((c.tc : Thread Cert.AdamUkvRefIdeal.nD Cert.AdamUkvRefIdeal.τ).loc Cert.AdamUkvRefIdeal.main_arg2)
      ∧ r.2.mem ((c.tc : Thread Cert.AdamUkvRefIdeal.nD Cert.AdamUkvRefIdeal.τ).loc Cert.AdamUkvRefIdeal.main_arg3) = m ((c.tc : Thread Cert.AdamUkvRefIdeal.nD Cert.AdamUkvRefIdeal.τ).loc Cert.AdamUkvRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "scale_log2e" .f32 0x3DD53B95#32 (((Real.sqrt 192)⁻¹ * (Real.log 2)⁻¹ : ℝ) : EReal)
  ∧ IdealRules.named_const.Statement Cert.KernelIdeal.κ "scale" .f32 0x3D93CD3A#32 (((Real.sqrt 192)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v34_0)) (v1 : (c : Dev Cert.KernelIdeal.nD) → Buf (Elt Ideal) ((c.tc : Thread Cert.KernelIdeal.nD Cert.KernelIdeal.τ).loc Cert.KernelIdeal.main_v34_1)) (v2 : (c : Dev Cert.KernelIdeal.nD) → Buf (Elt Ideal) ((c.tc : Thread Cert.KernelIdeal.nD Cert.KernelIdeal.τ).loc Cert.KernelIdeal.main_v34_2)) (v3 : (c : Dev Cert.KernelIdeal.nD) → Buf (Elt Ideal) ((c.tc : Thread Cert.KernelIdeal.nD Cert.KernelIdeal.τ).loc Cert.KernelIdeal.main_v34_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34_0) = v0 c
          ∧ r.2.mem ((c.tc : Thread Cert.KernelIdeal.nD Cert.KernelIdeal.τ).loc Cert.KernelIdeal.main_v34_1) = v1 c
          ∧ r.2.mem ((c.tc : Thread Cert.KernelIdeal.nD Cert.KernelIdeal.τ).loc Cert.KernelIdeal.main_v34_2) = v2 c
          ∧ r.2.mem ((c.tc : Thread Cert.KernelIdeal.nD Cert.KernelIdeal.τ).loc Cert.KernelIdeal.main_v34_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_v76) = v1 c
          ∧ r.2.mem ((c.tc : Thread Cert.ReferenceIdeal.nD Cert.ReferenceIdeal.τ).loc Cert.ReferenceIdeal.main_v74) = v2 c
          ∧ r.2.mem ((c.tc : Thread Cert.ReferenceIdeal.nD Cert.ReferenceIdeal.τ).loc Cert.ReferenceIdeal.main_v58) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)
      ∧ m' ((c.tc : Thread Cert.InProjRefIdeal.nD Cert.InProjRefIdeal.τ).loc Cert.InProjRefIdeal.main_arg5) = m ((c.tc : Thread Cert.InProjIdeal.nD Cert.InProjIdeal.τ).loc Cert.InProjIdeal.main_arg5)
      ∧ m' ((c.tc : Thread Cert.InProjRefIdeal.nD Cert.InProjRefIdeal.τ).loc Cert.InProjRefIdeal.main_arg6) = m ((c.tc : Thread Cert.InProjIdeal.nD Cert.InProjIdeal.τ).loc Cert.InProjIdeal.main_arg6)
      ∧ m' ((c.tc : Thread Cert.InProjRefIdeal.nD Cert.InProjRefIdeal.τ).loc Cert.InProjRefIdeal.main_arg7) = m ((c.tc : Thread Cert.InProjIdeal.nD Cert.InProjIdeal.τ).loc Cert.InProjIdeal.main_arg7)) →
    ∃ (v0 : (c : Dev Cert.InProjIdeal.nD) → Buf (Elt Ideal) ((c.tc : Thread Cert.InProjIdeal.nD Cert.InProjIdeal.τ).loc Cert.InProjIdeal.main_v13_0)) (v1 : (c : Dev Cert.InProjIdeal.nD) → Buf (Elt Ideal) ((c.tc : Thread Cert.InProjIdeal.nD Cert.InProjIdeal.τ).loc Cert.InProjIdeal.main_v13_1)) (v2 : (c : Dev Cert.InProjIdeal.nD) → Buf (Elt Ideal) ((c.tc : Thread Cert.InProjIdeal.nD Cert.InProjIdeal.τ).loc Cert.InProjIdeal.main_v13_2)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v13_0) = v0 c
          ∧ r.2.mem ((c.tc : Thread Cert.InProjIdeal.nD Cert.InProjIdeal.τ).loc Cert.InProjIdeal.main_v13_1) = v1 c
          ∧ r.2.mem ((c.tc : Thread Cert.InProjIdeal.nD Cert.InProjIdeal.τ).loc Cert.InProjIdeal.main_v13_2) = v2 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
          ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
          ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v44) = v0 c
          ∧ r.2.mem ((c.tc : Thread Cert.InProjRefIdeal.nD Cert.InProjRefIdeal.τ).loc Cert.InProjRefIdeal.main_v23) = v1 c
          ∧ r.2.mem ((c.tc : Thread Cert.InProjRefIdeal.nD Cert.InProjRefIdeal.τ).loc Cert.InProjRefIdeal.main_v27) = v2 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4)
          ∧ r.2.mem ((c.tc : Thread Cert.InProjRefIdeal.nD Cert.InProjRefIdeal.τ).loc Cert.InProjRefIdeal.main_arg5) = m' ((c.tc : Thread Cert.InProjRefIdeal.nD Cert.InProjRefIdeal.τ).loc Cert.InProjRefIdeal.main_arg5)
          ∧ r.2.mem ((c.tc : Thread Cert.InProjRefIdeal.nD Cert.InProjRefIdeal.τ).loc Cert.InProjRefIdeal.main_arg6) = m' ((c.tc : Thread Cert.InProjRefIdeal.nD Cert.InProjRefIdeal.τ).loc Cert.InProjRefIdeal.main_arg6)
          ∧ r.2.mem ((c.tc : Thread Cert.InProjRefIdeal.nD Cert.InProjRefIdeal.τ).loc Cert.InProjRefIdeal.main_arg7) = m' ((c.tc : Thread Cert.InProjRefIdeal.nD Cert.InProjRefIdeal.τ).loc Cert.InProjRefIdeal.main_arg7))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)) →
    ∃ (v0 : (c : Dev Cert.OutProjIdeal.nD) → Buf (Elt Ideal) ((c.tc : Thread Cert.OutProjIdeal.nD Cert.OutProjIdeal.τ).loc Cert.OutProjIdeal.main_v4_0)) (v1 : (c : Dev Cert.OutProjIdeal.nD) → Buf (Elt Ideal) ((c.tc : Thread Cert.OutProjIdeal.nD Cert.OutProjIdeal.τ).loc Cert.OutProjIdeal.main_v4_1)) (v2 : (c : Dev Cert.OutProjIdeal.nD) → Buf (Elt Ideal) ((c.tc : Thread Cert.OutProjIdeal.nD Cert.OutProjIdeal.τ).loc Cert.OutProjIdeal.main_v4_2)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v4_0) = v0 c
          ∧ r.2.mem ((c.tc : Thread Cert.OutProjIdeal.nD Cert.OutProjIdeal.τ).loc Cert.OutProjIdeal.main_v4_1) = v1 c
          ∧ r.2.mem ((c.tc : Thread Cert.OutProjIdeal.nD Cert.OutProjIdeal.τ).loc Cert.OutProjIdeal.main_v4_2) = v2 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v40) = v0 c
          ∧ r.2.mem ((c.tc : Thread Cert.OutProjRefIdeal.nD Cert.OutProjRefIdeal.τ).loc Cert.OutProjRefIdeal.main_v39) = v1 c
          ∧ r.2.mem ((c.tc : Thread Cert.OutProjRefIdeal.nD Cert.OutProjRefIdeal.τ).loc Cert.OutProjRefIdeal.main_v21) = v2 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4))

def preserves_InFwd_InFwdIdeal : Prop :=
  True

def algebraic_InFwdIdeal_InFwdRefIdeal [hInFwdIdeal : Cert.InFwdIdeal.Facts] [hInFwdRefIdeal : Cert.InFwdRefIdeal.Facts] : Prop :=
  ∀ (m : (ℓ : Loc Cert.InFwdIdeal.nD Cert.InFwdIdeal.τ Cert.InFwdIdeal.sig) → Buf (Elt Ideal) ℓ) (g : Dev Cert.InFwdIdeal.nD → PrngReg)
    (m' : (ℓ : Loc Cert.InFwdRefIdeal.nD Cert.InFwdRefIdeal.τ Cert.InFwdRefIdeal.sig) → Buf (Elt Ideal) ℓ) (g' : Dev Cert.InFwdRefIdeal.nD → PrngReg), Pre_InFwdIdeal m →
    (∀ c : Dev Cert.InFwdIdeal.nD,
      m' ((c.tc : Thread Cert.InFwdRefIdeal.nD Cert.InFwdRefIdeal.τ).loc Cert.InFwdRefIdeal.main_arg0) = m ((c.tc : Thread Cert.InFwdIdeal.nD Cert.InFwdIdeal.τ).loc Cert.InFwdIdeal.main_arg0)
      ∧ m' ((c.tc : Thread Cert.InFwdRefIdeal.nD Cert.InFwdRefIdeal.τ).loc Cert.InFwdRefIdeal.main_arg1) = m ((c.tc : Thread Cert.InFwdIdeal.nD Cert.InFwdIdeal.τ).loc Cert.InFwdIdeal.main_arg1)
      ∧ m' ((c.tc : Thread Cert.InFwdRefIdeal.nD Cert.InFwdRefIdeal.τ).loc Cert.InFwdRefIdeal.main_arg2) = m ((c.tc : Thread Cert.InFwdIdeal.nD Cert.InFwdIdeal.τ).loc Cert.InFwdIdeal.main_arg2)) →
    ∃ (v0 : (c : Dev Cert.InFwdIdeal.nD) → Buf (Elt Ideal) ((c.tc : Thread Cert.InFwdIdeal.nD Cert.InFwdIdeal.τ).loc Cert.InFwdIdeal.main_v0_0)) (v1 : (c : Dev Cert.InFwdIdeal.nD) → Buf (Elt Ideal) ((c.tc : Thread Cert.InFwdIdeal.nD Cert.InFwdIdeal.τ).loc Cert.InFwdIdeal.main_v0_1)),
      θ_run (Cert.InFwdIdeal.defs (F := Ideal)) (onTc (τ := Cert.InFwdIdeal.τ) (Cert.InFwdIdeal.main (F := Ideal))) ⟨m, fun _ => 0, g⟩ (fun r => ∀ c : Dev Cert.InFwdIdeal.nD,
          r.2.mem ((c.tc : Thread Cert.InFwdIdeal.nD Cert.InFwdIdeal.τ).loc Cert.InFwdIdeal.main_v0_0) = v0 c
          ∧ r.2.mem ((c.tc : Thread Cert.InFwdIdeal.nD Cert.InFwdIdeal.τ).loc Cert.InFwdIdeal.main_v0_1) = v1 c
          ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
          ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
          ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2))
      ∧ θ_run (Cert.InFwdRefIdeal.defs (F := Ideal)) (onTc (τ := Cert.InFwdRefIdeal.τ) (Cert.InFwdRefIdeal.main (F := Ideal))) ⟨m', fun _ => 0, g'⟩ (fun r => ∀ c : Dev Cert.InFwdRefIdeal.nD,
          r.2.mem ((c.tc : Thread Cert.InFwdRefIdeal.nD Cert.InFwdRefIdeal.τ).loc Cert.InFwdRefIdeal.main_v13) = v0 c
          ∧ r.2.mem ((c.tc : Thread Cert.InFwdRefIdeal.nD Cert.InFwdRefIdeal.τ).loc Cert.InFwdRefIdeal.main_v14) = v1 c
          ∧ r.2.mem ((c.tc : Thread Cert.InFwdRefIdeal.nD Cert.InFwdRefIdeal.τ).loc Cert.InFwdRefIdeal.main_arg0) = m' ((c.tc : Thread Cert.InFwdRefIdeal.nD Cert.InFwdRefIdeal.τ).loc Cert.InFwdRefIdeal.main_arg0)
          ∧ r.2.mem ((c.tc : Thread Cert.InFwdRefIdeal.nD Cert.InFwdRefIdeal.τ).loc Cert.InFwdRefIdeal.main_arg1) = m' ((c.tc : Thread Cert.InFwdRefIdeal.nD Cert.InFwdRefIdeal.τ).loc Cert.InFwdRefIdeal.main_arg1)
          ∧ r.2.mem ((c.tc : Thread Cert.InFwdRefIdeal.nD Cert.InFwdRefIdeal.τ).loc Cert.InFwdRefIdeal.main_arg2) = m' ((c.tc : Thread Cert.InFwdRefIdeal.nD Cert.InFwdRefIdeal.τ).loc Cert.InFwdRefIdeal.main_arg2))

def preserves_OutFwd_OutFwdIdeal : Prop :=
  True

def algebraic_OutFwdIdeal_OutFwdRefIdeal [hOutFwdIdeal : Cert.OutFwdIdeal.Facts] [hOutFwdRefIdeal : Cert.OutFwdRefIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.OutFwdRefIdeal.nD Cert.OutFwdRefIdeal.τ Cert.OutFwdRefIdeal.sig) → Buf (Elt Ideal) ℓ) (g' : Dev Cert.OutFwdRefIdeal.nD → PrngReg), Pre_OutFwdIdeal m →
    (∀ c : Dev Cert.OutFwdIdeal.nD,
      m' ((c.tc : Thread Cert.OutFwdRefIdeal.nD Cert.OutFwdRefIdeal.τ).loc Cert.OutFwdRefIdeal.main_arg0) = m ((c.tc : Thread Cert.OutFwdIdeal.nD Cert.OutFwdIdeal.τ).loc Cert.OutFwdIdeal.main_arg0)
      ∧ m' ((c.tc : Thread Cert.OutFwdRefIdeal.nD Cert.OutFwdRefIdeal.τ).loc Cert.OutFwdRefIdeal.main_arg1) = m ((c.tc : Thread Cert.OutFwdIdeal.nD Cert.OutFwdIdeal.τ).loc Cert.OutFwdIdeal.main_arg1)
      ∧ m' ((c.tc : Thread Cert.OutFwdRefIdeal.nD Cert.OutFwdRefIdeal.τ).loc Cert.OutFwdRefIdeal.main_arg2) = m ((c.tc : Thread Cert.OutFwdIdeal.nD Cert.OutFwdIdeal.τ).loc Cert.OutFwdIdeal.main_arg2)
      ∧ m' ((c.tc : Thread Cert.OutFwdRefIdeal.nD Cert.OutFwdRefIdeal.τ).loc Cert.OutFwdRefIdeal.main_arg3) = m ((c.tc : Thread Cert.OutFwdIdeal.nD Cert.OutFwdIdeal.τ).loc Cert.OutFwdIdeal.main_arg3)
      ∧ m' ((c.tc : Thread Cert.OutFwdRefIdeal.nD Cert.OutFwdRefIdeal.τ).loc Cert.OutFwdRefIdeal.main_arg4) = m ((c.tc : Thread Cert.OutFwdIdeal.nD Cert.OutFwdIdeal.τ).loc Cert.OutFwdIdeal.main_arg4)
      ∧ m' ((c.tc : Thread Cert.OutFwdRefIdeal.nD Cert.OutFwdRefIdeal.τ).loc Cert.OutFwdRefIdeal.main_arg5) = m ((c.tc : Thread Cert.OutFwdIdeal.nD Cert.OutFwdIdeal.τ).loc Cert.OutFwdIdeal.main_arg5)) →
    ∃ (v0 : (c : Dev Cert.OutFwdIdeal.nD) → Buf (Elt Ideal) ((c.tc : Thread Cert.OutFwdIdeal.nD Cert.OutFwdIdeal.τ).loc Cert.OutFwdIdeal.main_v0_0)) (v1 : (c : Dev Cert.OutFwdIdeal.nD) → Buf (Elt Ideal) ((c.tc : Thread Cert.OutFwdIdeal.nD Cert.OutFwdIdeal.τ).loc Cert.OutFwdIdeal.main_v0_1)) (v2 : (c : Dev Cert.OutFwdIdeal.nD) → Buf (Elt Ideal) ((c.tc : Thread Cert.OutFwdIdeal.nD Cert.OutFwdIdeal.τ).loc Cert.OutFwdIdeal.main_v0_2)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v0_0) = v0 c
          ∧ r.2.mem ((c.tc : Thread Cert.OutFwdIdeal.nD Cert.OutFwdIdeal.τ).loc Cert.OutFwdIdeal.main_v0_1) = v1 c
          ∧ r.2.mem ((c.tc : Thread Cert.OutFwdIdeal.nD Cert.OutFwdIdeal.τ).loc Cert.OutFwdIdeal.main_v0_2) = v2 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
          ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
          ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3)
          ∧ r.2.mem ((c.tc : Thread Cert.OutFwdIdeal.nD Cert.OutFwdIdeal.τ).loc Cert.OutFwdIdeal.main_arg4) = m ((c.tc : Thread Cert.OutFwdIdeal.nD Cert.OutFwdIdeal.τ).loc Cert.OutFwdIdeal.main_arg4)
          ∧ r.2.mem ((c.tc : Thread Cert.OutFwdIdeal.nD Cert.OutFwdIdeal.τ).loc Cert.OutFwdIdeal.main_arg5) = m ((c.tc : Thread Cert.OutFwdIdeal.nD Cert.OutFwdIdeal.τ).loc Cert.OutFwdIdeal.main_arg5))
      ∧ θ_run (Cert.OutFwdRefIdeal.defs (F := Ideal)) (onTc (τ := Cert.OutFwdRefIdeal.τ) (Cert.OutFwdRefIdeal.main (F := Ideal))) ⟨m', fun _ => 0, g'⟩ (fun r => ∀ c : Dev Cert.OutFwdRefIdeal.nD,
          r.2.mem ((c.tc : Thread Cert.OutFwdRefIdeal.nD Cert.OutFwdRefIdeal.τ).loc Cert.OutFwdRefIdeal.main_v3) = v0 c
          ∧ r.2.mem ((c.tc : Thread Cert.OutFwdRefIdeal.nD Cert.OutFwdRefIdeal.τ).loc Cert.OutFwdRefIdeal.main_v31) = v1 c
          ∧ r.2.mem ((c.tc : Thread Cert.OutFwdRefIdeal.nD Cert.OutFwdRefIdeal.τ).loc Cert.OutFwdRefIdeal.main_v32) = v2 c
          ∧ r.2.mem ((c.tc : Thread Cert.OutFwdRefIdeal.nD Cert.OutFwdRefIdeal.τ).loc Cert.OutFwdRefIdeal.main_arg0) = m' ((c.tc : Thread Cert.OutFwdRefIdeal.nD Cert.OutFwdRefIdeal.τ).loc Cert.OutFwdRefIdeal.main_arg0)
          ∧ r.2.mem ((c.tc : Thread Cert.OutFwdRefIdeal.nD Cert.OutFwdRefIdeal.τ).loc Cert.OutFwdRefIdeal.main_arg1) = m' ((c.tc : Thread Cert.OutFwdRefIdeal.nD Cert.OutFwdRefIdeal.τ).loc Cert.OutFwdRefIdeal.main_arg1)
          ∧ r.2.mem ((c.tc : Thread Cert.OutFwdRefIdeal.nD Cert.OutFwdRefIdeal.τ).loc Cert.OutFwdRefIdeal.main_arg2) = m' ((c.tc : Thread Cert.OutFwdRefIdeal.nD Cert.OutFwdRefIdeal.τ).loc Cert.OutFwdRefIdeal.main_arg2)
          ∧ r.2.mem ((c.tc : Thread Cert.OutFwdRefIdeal.nD Cert.OutFwdRefIdeal.τ).loc Cert.OutFwdRefIdeal.main_arg3) = m' ((c.tc : Thread Cert.OutFwdRefIdeal.nD Cert.OutFwdRefIdeal.τ).loc Cert.OutFwdRefIdeal.main_arg3)
          ∧ r.2.mem ((c.tc : Thread Cert.OutFwdRefIdeal.nD Cert.OutFwdRefIdeal.τ).loc Cert.OutFwdRefIdeal.main_arg4) = m' ((c.tc : Thread Cert.OutFwdRefIdeal.nD Cert.OutFwdRefIdeal.τ).loc Cert.OutFwdRefIdeal.main_arg4)
          ∧ r.2.mem ((c.tc : Thread Cert.OutFwdRefIdeal.nD Cert.OutFwdRefIdeal.τ).loc Cert.OutFwdRefIdeal.main_arg5) = m' ((c.tc : Thread Cert.OutFwdRefIdeal.nD Cert.OutFwdRefIdeal.τ).loc Cert.OutFwdRefIdeal.main_arg5))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v23) = v0 c
          ∧ r.2.mem ((c.tc : Thread Cert.AdamInRefIdeal.nD Cert.AdamInRefIdeal.τ).loc Cert.AdamInRefIdeal.main_v4) = v1 c
          ∧ r.2.mem ((c.tc : Thread Cert.AdamInRefIdeal.nD Cert.AdamInRefIdeal.τ).loc Cert.AdamInRefIdeal.main_v10) = v2 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamUq_AdamUqIdeal : Prop :=
  True

def algebraic_AdamUqIdeal_AdamUqRefIdeal [hAdamUqIdeal : Cert.AdamUqIdeal.Facts] [hAdamUqRefIdeal : Cert.AdamUqRefIdeal.Facts] : Prop :=
  ∀ (m : (ℓ : Loc Cert.AdamUqIdeal.nD Cert.AdamUqIdeal.τ Cert.AdamUqIdeal.sig) → Buf (Elt Ideal) ℓ) (g : Dev Cert.AdamUqIdeal.nD → PrngReg)
    (m' : (ℓ : Loc Cert.AdamUqRefIdeal.nD Cert.AdamUqRefIdeal.τ Cert.AdamUqRefIdeal.sig) → Buf (Elt Ideal) ℓ) (g' : Dev Cert.AdamUqRefIdeal.nD → PrngReg), Pre_AdamUqIdeal m →
    (∀ c : Dev Cert.AdamUqIdeal.nD,
      m' ((c.tc : Thread Cert.AdamUqRefIdeal.nD Cert.AdamUqRefIdeal.τ).loc Cert.AdamUqRefIdeal.main_arg0) = m ((c.tc : Thread Cert.AdamUqIdeal.nD Cert.AdamUqIdeal.τ).loc Cert.AdamUqIdeal.main_arg0)
      ∧ m' ((c.tc : Thread Cert.AdamUqRefIdeal.nD Cert.AdamUqRefIdeal.τ).loc Cert.AdamUqRefIdeal.main_arg1) = m ((c.tc : Thread Cert.AdamUqIdeal.nD Cert.AdamUqIdeal.τ).loc Cert.AdamUqIdeal.main_arg1)
      ∧ m' ((c.tc : Thread Cert.AdamUqRefIdeal.nD Cert.AdamUqRefIdeal.τ).loc Cert.AdamUqRefIdeal.main_arg2) = m ((c.tc : Thread Cert.AdamUqIdeal.nD Cert.AdamUqIdeal.τ).loc Cert.AdamUqIdeal.main_arg2)
      ∧ m' ((c.tc : Thread Cert.AdamUqRefIdeal.nD Cert.AdamUqRefIdeal.τ).loc Cert.AdamUqRefIdeal.main_arg3) = m ((c.tc : Thread Cert.AdamUqIdeal.nD Cert.AdamUqIdeal.τ).loc Cert.AdamUqIdeal.main_arg3)) →
    ∃ (v0 : (c : Dev Cert.AdamUqIdeal.nD) → Buf (Elt Ideal) ((c.tc : Thread Cert.AdamUqIdeal.nD Cert.AdamUqIdeal.τ).loc Cert.AdamUqIdeal.main_v0_0)) (v1 : (c : Dev Cert.AdamUqIdeal.nD) → Buf (Elt Ideal) ((c.tc : Thread Cert.AdamUqIdeal.nD Cert.AdamUqIdeal.τ).loc Cert.AdamUqIdeal.main_v0_1)) (v2 : (c : Dev Cert.AdamUqIdeal.nD) → Buf (Elt Ideal) ((c.tc : Thread Cert.AdamUqIdeal.nD Cert.AdamUqIdeal.τ).loc Cert.AdamUqIdeal.main_v0_2)),
      θ_run (Cert.AdamUqIdeal.defs (F := Ideal)) (onTc (τ := Cert.AdamUqIdeal.τ) (Cert.AdamUqIdeal.main (F := Ideal))) ⟨m, fun _ => 0, g⟩ (fun r => ∀ c : Dev Cert.AdamUqIdeal.nD,
          r.2.mem ((c.tc : Thread Cert.AdamUqIdeal.nD Cert.AdamUqIdeal.τ).loc Cert.AdamUqIdeal.main_v0_0) = v0 c
          ∧ r.2.mem ((c.tc : Thread Cert.AdamUqIdeal.nD Cert.AdamUqIdeal.τ).loc Cert.AdamUqIdeal.main_v0_1) = v1 c
          ∧ r.2.mem ((c.tc : Thread Cert.AdamUqIdeal.nD Cert.AdamUqIdeal.τ).loc Cert.AdamUqIdeal.main_v0_2) = v2 c
          ∧ r.2.mem ((c.tc : Thread Cert.AdamUqIdeal.nD Cert.AdamUqIdeal.τ).loc Cert.AdamUqIdeal.main_arg0) = m ((c.tc : Thread Cert.AdamUqIdeal.nD Cert.AdamUqIdeal.τ).loc Cert.AdamUqIdeal.main_arg0)
          ∧ r.2.mem ((c.tc : Thread Cert.AdamUqIdeal.nD Cert.AdamUqIdeal.τ).loc Cert.AdamUqIdeal.main_arg1) = m ((c.tc : Thread Cert.AdamUqIdeal.nD Cert.AdamUqIdeal.τ).loc Cert.AdamUqIdeal.main_arg1)
          ∧ r.2.mem ((c.tc : Thread Cert.AdamUqIdeal.nD Cert.AdamUqIdeal.τ).loc Cert.AdamUqIdeal.main_arg2) = m ((c.tc : Thread Cert.AdamUqIdeal.nD Cert.AdamUqIdeal.τ).loc Cert.AdamUqIdeal.main_arg2)
          ∧ r.2.mem ((c.tc : Thread Cert.AdamUqIdeal.nD Cert.AdamUqIdeal.τ).loc Cert.AdamUqIdeal.main_arg3) = m ((c.tc : Thread Cert.AdamUqIdeal.nD Cert.AdamUqIdeal.τ).loc Cert.AdamUqIdeal.main_arg3))
      ∧ θ_run (Cert.AdamUqRefIdeal.defs (F := Ideal)) (onTc (τ := Cert.AdamUqRefIdeal.τ) (Cert.AdamUqRefIdeal.main (F := Ideal))) ⟨m', fun _ => 0, g'⟩ (fun r => ∀ c : Dev Cert.AdamUqRefIdeal.nD,
          r.2.mem ((c.tc : Thread Cert.AdamUqRefIdeal.nD Cert.AdamUqRefIdeal.τ).loc Cert.AdamUqRefIdeal.main_v23) = v0 c
          ∧ r.2.mem ((c.tc : Thread Cert.AdamUqRefIdeal.nD Cert.AdamUqRefIdeal.τ).loc Cert.AdamUqRefIdeal.main_v4) = v1 c
          ∧ r.2.mem ((c.tc : Thread Cert.AdamUqRefIdeal.nD Cert.AdamUqRefIdeal.τ).loc Cert.AdamUqRefIdeal.main_v10) = v2 c
          ∧ r.2.mem ((c.tc : Thread Cert.AdamUqRefIdeal.nD Cert.AdamUqRefIdeal.τ).loc Cert.AdamUqRefIdeal.main_arg0) = m' ((c.tc : Thread Cert.AdamUqRefIdeal.nD Cert.AdamUqRefIdeal.τ).loc Cert.AdamUqRefIdeal.main_arg0)
          ∧ r.2.mem ((c.tc : Thread Cert.AdamUqRefIdeal.nD Cert.AdamUqRefIdeal.τ).loc Cert.AdamUqRefIdeal.main_arg1) = m' ((c.tc : Thread Cert.AdamUqRefIdeal.nD Cert.AdamUqRefIdeal.τ).loc Cert.AdamUqRefIdeal.main_arg1)
          ∧ r.2.mem ((c.tc : Thread Cert.AdamUqRefIdeal.nD Cert.AdamUqRefIdeal.τ).loc Cert.AdamUqRefIdeal.main_arg2) = m' ((c.tc : Thread Cert.AdamUqRefIdeal.nD Cert.AdamUqRefIdeal.τ).loc Cert.AdamUqRefIdeal.main_arg2)
          ∧ r.2.mem ((c.tc : Thread Cert.AdamUqRefIdeal.nD Cert.AdamUqRefIdeal.τ).loc Cert.AdamUqRefIdeal.main_arg3) = m' ((c.tc : Thread Cert.AdamUqRefIdeal.nD Cert.AdamUqRefIdeal.τ).loc Cert.AdamUqRefIdeal.main_arg3))

def preserves_AdamUkv_AdamUkvIdeal : Prop :=
  True

def algebraic_AdamUkvIdeal_AdamUkvRefIdeal [hAdamUkvIdeal : Cert.AdamUkvIdeal.Facts] [hAdamUkvRefIdeal : Cert.AdamUkvRefIdeal.Facts] : Prop :=
  ∀ (m : (ℓ : Loc Cert.AdamUkvIdeal.nD Cert.AdamUkvIdeal.τ Cert.AdamUkvIdeal.sig) → Buf (Elt Ideal) ℓ) (g : Dev Cert.AdamUkvIdeal.nD → PrngReg)
    (m' : (ℓ : Loc Cert.AdamUkvRefIdeal.nD Cert.AdamUkvRefIdeal.τ Cert.AdamUkvRefIdeal.sig) → Buf (Elt Ideal) ℓ) (g' : Dev Cert.AdamUkvRefIdeal.nD → PrngReg), Pre_AdamUkvIdeal m →
    (∀ c : Dev Cert.AdamUkvIdeal.nD,
      m' ((c.tc : Thread Cert.AdamUkvRefIdeal.nD Cert.AdamUkvRefIdeal.τ).loc Cert.AdamUkvRefIdeal.main_arg0) = m ((c.tc : Thread Cert.AdamUkvIdeal.nD Cert.AdamUkvIdeal.τ).loc Cert.AdamUkvIdeal.main_arg0)
      ∧ m' ((c.tc : Thread Cert.AdamUkvRefIdeal.nD Cert.AdamUkvRefIdeal.τ).loc Cert.AdamUkvRefIdeal.main_arg1) = m ((c.tc : Thread Cert.AdamUkvIdeal.nD Cert.AdamUkvIdeal.τ).loc Cert.AdamUkvIdeal.main_arg1)
      ∧ m' ((c.tc : Thread Cert.AdamUkvRefIdeal.nD Cert.AdamUkvRefIdeal.τ).loc Cert.AdamUkvRefIdeal.main_arg2) = m ((c.tc : Thread Cert.AdamUkvIdeal.nD Cert.AdamUkvIdeal.τ).loc Cert.AdamUkvIdeal.main_arg2)
      ∧ m' ((c.tc : Thread Cert.AdamUkvRefIdeal.nD Cert.AdamUkvRefIdeal.τ).loc Cert.AdamUkvRefIdeal.main_arg3) = m ((c.tc : Thread Cert.AdamUkvIdeal.nD Cert.AdamUkvIdeal.τ).loc Cert.AdamUkvIdeal.main_arg3)) →
    ∃ (v0 : (c : Dev Cert.AdamUkvIdeal.nD) → Buf (Elt Ideal) ((c.tc : Thread Cert.AdamUkvIdeal.nD Cert.AdamUkvIdeal.τ).loc Cert.AdamUkvIdeal.main_v0_0)) (v1 : (c : Dev Cert.AdamUkvIdeal.nD) → Buf (Elt Ideal) ((c.tc : Thread Cert.AdamUkvIdeal.nD Cert.AdamUkvIdeal.τ).loc Cert.AdamUkvIdeal.main_v0_1)) (v2 : (c : Dev Cert.AdamUkvIdeal.nD) → Buf (Elt Ideal) ((c.tc : Thread Cert.AdamUkvIdeal.nD Cert.AdamUkvIdeal.τ).loc Cert.AdamUkvIdeal.main_v0_2)),
      θ_run (Cert.AdamUkvIdeal.defs (F := Ideal)) (onTc (τ := Cert.AdamUkvIdeal.τ) (Cert.AdamUkvIdeal.main (F := Ideal))) ⟨m, fun _ => 0, g⟩ (fun r => ∀ c : Dev Cert.AdamUkvIdeal.nD,
          r.2.mem ((c.tc : Thread Cert.AdamUkvIdeal.nD Cert.AdamUkvIdeal.τ).loc Cert.AdamUkvIdeal.main_v0_0) = v0 c
          ∧ r.2.mem ((c.tc : Thread Cert.AdamUkvIdeal.nD Cert.AdamUkvIdeal.τ).loc Cert.AdamUkvIdeal.main_v0_1) = v1 c
          ∧ r.2.mem ((c.tc : Thread Cert.AdamUkvIdeal.nD Cert.AdamUkvIdeal.τ).loc Cert.AdamUkvIdeal.main_v0_2) = v2 c
          ∧ r.2.mem ((c.tc : Thread Cert.AdamUkvIdeal.nD Cert.AdamUkvIdeal.τ).loc Cert.AdamUkvIdeal.main_arg0) = m ((c.tc : Thread Cert.AdamUkvIdeal.nD Cert.AdamUkvIdeal.τ).loc Cert.AdamUkvIdeal.main_arg0)
          ∧ r.2.mem ((c.tc : Thread Cert.AdamUkvIdeal.nD Cert.AdamUkvIdeal.τ).loc Cert.AdamUkvIdeal.main_arg1) = m ((c.tc : Thread Cert.AdamUkvIdeal.nD Cert.AdamUkvIdeal.τ).loc Cert.AdamUkvIdeal.main_arg1)
          ∧ r.2.mem ((c.tc : Thread Cert.AdamUkvIdeal.nD Cert.AdamUkvIdeal.τ).loc Cert.AdamUkvIdeal.main_arg2) = m ((c.tc : Thread Cert.AdamUkvIdeal.nD Cert.AdamUkvIdeal.τ).loc Cert.AdamUkvIdeal.main_arg2)
          ∧ r.2.mem ((c.tc : Thread Cert.AdamUkvIdeal.nD Cert.AdamUkvIdeal.τ).loc Cert.AdamUkvIdeal.main_arg3) = m ((c.tc : Thread Cert.AdamUkvIdeal.nD Cert.AdamUkvIdeal.τ).loc Cert.AdamUkvIdeal.main_arg3))
      ∧ θ_run (Cert.AdamUkvRefIdeal.defs (F := Ideal)) (onTc (τ := Cert.AdamUkvRefIdeal.τ) (Cert.AdamUkvRefIdeal.main (F := Ideal))) ⟨m', fun _ => 0, g'⟩ (fun r => ∀ c : Dev Cert.AdamUkvRefIdeal.nD,
          r.2.mem ((c.tc : Thread Cert.AdamUkvRefIdeal.nD Cert.AdamUkvRefIdeal.τ).loc Cert.AdamUkvRefIdeal.main_v23) = v0 c
          ∧ r.2.mem ((c.tc : Thread Cert.AdamUkvRefIdeal.nD Cert.AdamUkvRefIdeal.τ).loc Cert.AdamUkvRefIdeal.main_v4) = v1 c
          ∧ r.2.mem ((c.tc : Thread Cert.AdamUkvRefIdeal.nD Cert.AdamUkvRefIdeal.τ).loc Cert.AdamUkvRefIdeal.main_v10) = v2 c
          ∧ r.2.mem ((c.tc : Thread Cert.AdamUkvRefIdeal.nD Cert.AdamUkvRefIdeal.τ).loc Cert.AdamUkvRefIdeal.main_arg0) = m' ((c.tc : Thread Cert.AdamUkvRefIdeal.nD Cert.AdamUkvRefIdeal.τ).loc Cert.AdamUkvRefIdeal.main_arg0)
          ∧ r.2.mem ((c.tc : Thread Cert.AdamUkvRefIdeal.nD Cert.AdamUkvRefIdeal.τ).loc Cert.AdamUkvRefIdeal.main_arg1) = m' ((c.tc : Thread Cert.AdamUkvRefIdeal.nD Cert.AdamUkvRefIdeal.τ).loc Cert.AdamUkvRefIdeal.main_arg1)
          ∧ r.2.mem ((c.tc : Thread Cert.AdamUkvRefIdeal.nD Cert.AdamUkvRefIdeal.τ).loc Cert.AdamUkvRefIdeal.main_arg2) = m' ((c.tc : Thread Cert.AdamUkvRefIdeal.nD Cert.AdamUkvRefIdeal.τ).loc Cert.AdamUkvRefIdeal.main_arg2)
          ∧ r.2.mem ((c.tc : Thread Cert.AdamUkvRefIdeal.nD Cert.AdamUkvRefIdeal.τ).loc Cert.AdamUkvRefIdeal.main_arg3) = m' ((c.tc : Thread Cert.AdamUkvRefIdeal.nD Cert.AdamUkvRefIdeal.τ).loc Cert.AdamUkvRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v23) = v0 c
          ∧ r.2.mem ((c.tc : Thread Cert.AdamOutRefIdeal.nD Cert.AdamOutRefIdeal.τ).loc Cert.AdamOutRefIdeal.main_v4) = v1 c
          ∧ r.2.mem ((c.tc : Thread Cert.AdamOutRefIdeal.nD Cert.AdamOutRefIdeal.τ).loc Cert.AdamOutRefIdeal.main_v10) = v2 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hInFwd : Cert.InFwd.Facts) (hInFwdIdeal : Cert.InFwdIdeal.Facts) (hInFwdRefIdeal : Cert.InFwdRefIdeal.Facts) (hOutFwd : Cert.OutFwd.Facts) (hOutFwdIdeal : Cert.OutFwdIdeal.Facts) (hOutFwdRefIdeal : Cert.OutFwdRefIdeal.Facts) (hAdamIn : Cert.AdamIn.Facts) (hAdamInIdeal : Cert.AdamInIdeal.Facts) (hAdamInRefIdeal : Cert.AdamInRefIdeal.Facts) (hAdamUq : Cert.AdamUq.Facts) (hAdamUqIdeal : Cert.AdamUqIdeal.Facts) (hAdamUqRefIdeal : Cert.AdamUqRefIdeal.Facts) (hAdamUkv : Cert.AdamUkv.Facts) (hAdamUkvIdeal : Cert.AdamUkvIdeal.Facts) (hAdamUkvRefIdeal : Cert.AdamUkvRefIdeal.Facts) (hAdamOut : Cert.AdamOut.Facts) (hAdamOutIdeal : Cert.AdamOutIdeal.Facts) (hAdamOutRefIdeal : Cert.AdamOutRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_InFwd (hInFwd := hInFwd)
    ∧ quiescent_InFwdIdeal (hInFwdIdeal := hInFwdIdeal)
    ∧ quiescent_InFwdRefIdeal (hInFwdRefIdeal := hInFwdRefIdeal)
    ∧ quiescent_OutFwd (hOutFwd := hOutFwd)
    ∧ quiescent_OutFwdIdeal (hOutFwdIdeal := hOutFwdIdeal)
    ∧ quiescent_OutFwdRefIdeal (hOutFwdRefIdeal := hOutFwdRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamUq (hAdamUq := hAdamUq)
    ∧ quiescent_AdamUqIdeal (hAdamUqIdeal := hAdamUqIdeal)
    ∧ quiescent_AdamUqRefIdeal (hAdamUqRefIdeal := hAdamUqRefIdeal)
    ∧ quiescent_AdamUkv (hAdamUkv := hAdamUkv)
    ∧ quiescent_AdamUkvIdeal (hAdamUkvIdeal := hAdamUkvIdeal)
    ∧ quiescent_AdamUkvRefIdeal (hAdamUkvRefIdeal := hAdamUkvRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_InProj_InProjIdeal
    ∧ algebraic_InProjIdeal_InProjRefIdeal (hInProjIdeal := hInProjIdeal) (hInProjRefIdeal := hInProjRefIdeal)
    ∧ preserves_OutProj_OutProjIdeal
    ∧ algebraic_OutProjIdeal_OutProjRefIdeal (hOutProjIdeal := hOutProjIdeal) (hOutProjRefIdeal := hOutProjRefIdeal)
    ∧ preserves_InFwd_InFwdIdeal
    ∧ algebraic_InFwdIdeal_InFwdRefIdeal (hInFwdIdeal := hInFwdIdeal) (hInFwdRefIdeal := hInFwdRefIdeal)
    ∧ preserves_OutFwd_OutFwdIdeal
    ∧ algebraic_OutFwdIdeal_OutFwdRefIdeal (hOutFwdIdeal := hOutFwdIdeal) (hOutFwdRefIdeal := hOutFwdRefIdeal)
    ∧ preserves_AdamIn_AdamInIdeal
    ∧ algebraic_AdamInIdeal_AdamInRefIdeal (hAdamInIdeal := hAdamInIdeal) (hAdamInRefIdeal := hAdamInRefIdeal)
    ∧ preserves_AdamUq_AdamUqIdeal
    ∧ algebraic_AdamUqIdeal_AdamUqRefIdeal (hAdamUqIdeal := hAdamUqIdeal) (hAdamUqRefIdeal := hAdamUqRefIdeal)
    ∧ preserves_AdamUkv_AdamUkvIdeal
    ∧ algebraic_AdamUkvIdeal_AdamUkvRefIdeal (hAdamUkvIdeal := hAdamUkvIdeal) (hAdamUkvRefIdeal := hAdamUkvRefIdeal)
    ∧ preserves_AdamOut_AdamOutIdeal
    ∧ algebraic_AdamOutIdeal_AdamOutRefIdeal (hAdamOutIdeal := hAdamOutIdeal) (hAdamOutRefIdeal := hAdamOutRefIdeal)
-- ==== Pre_finite.lean ====
abbrev S4x16384x256 : Shape := ⟨3, ![4, 16384, 256]⟩
abbrev S4x16384x128 : Shape := ⟨3, ![4, 16384, 128]⟩
abbrev S16384x1024 : Shape := ⟨2, ![16384, 1024]⟩
abbrev S16384x2560 : Shape := ⟨2, ![16384, 2560]⟩
abbrev S_ : Shape := ⟨0, ![]⟩

class Facts : Prop where
  bitsLt_bf16_f32 : FTy.bits .bf16 < FTy.bits .f32
  bcast_S_S4x16384x256 : S_.BroadcastsInDim S4x16384x256 (![] : Fin 0 → Fin S4x16384x256.rank)
  bcast_S_S4x16384x128 : S_.BroadcastsInDim S4x16384x128 (![] : Fin 0 → Fin S4x16384x128.rank)
  bcast_S_S16384x1024 : S_.BroadcastsInDim S16384x1024 (![] : Fin 0 → Fin S16384x1024.rank)
  bcast_S_S16384x2560 : S_.BroadcastsInDim S16384x2560 (![] : Fin 0 → Fin S16384x2560.rank)

variable [Facts]

def fn {F : FTy → Type} [FloatOps F] (main_arg0 : FVec F S4x16384x256 .bf16) (main_arg1 : FVec F S4x16384x256 .bf16) (main_arg2 : FVec F S4x16384x128 .bf16) (main_arg3 : FVec F S16384x1024 .f32) (main_arg4 : FVec F S16384x2560 .f32) : IVec S4x16384x256 1 × IVec S4x16384x256 1 × IVec S4x16384x128 1 × IVec S16384x1024 1 × IVec S16384x2560 1 :=
  let main_v0 : FVec F S4x16384x256 .f32 := (extf .f32 · bitsLt_bf16_f32) main_arg0
  let main_v1 : FVec F S4x16384x256 .f32 := Host.absf main_v0
  let main_cst : FVec F S_ .f32 := constant S_ .f32 0x7F800000#32
  let main_v2 : FVec F S4x16384x256 .f32 := broadcastInDim S4x16384x256 ![] bcast_S_S4x16384x256 main_cst
  let main_v3 : IVec S4x16384x256 1 := cmpf .olt main_v1 main_v2
  let main_v4 : FVec F S4x16384x256 .f32 := (extf .f32 · bitsLt_bf16_f32) main_arg1
  let main_v5 : FVec F S4x16384x256 .f32 := Host.absf main_v4
  let main_cst_0 : FVec F S_ .f32 := constant S_ .f32 0x7F800000#32
  let main_v6 : FVec F S4x16384x256 .f32 := broadcastInDim S4x16384x256 ![] bcast_S_S4x16384x256 main_cst_0
  let main_v7 : IVec S4x16384x256 1 := cmpf .olt main_v5 main_v6
  let main_v8 : FVec F S4x16384x128 .f32 := (extf .f32 · bitsLt_bf16_f32) main_arg2
  let main_v9 : FVec F S4x16384x128 .f32 := Host.absf main_v8
  let main_cst_1 : FVec F S_ .f32 := constant S_ .f32 0x7F800000#32
  let main_v10 : FVec F S4x16384x128 .f32 := broadcastInDim S4x16384x128 ![] bcast_S_S4x16384x128 main_cst_1
  let main_v11 : IVec S4x16384x128 1 := cmpf .olt main_v9 main_v10
  let main_v12 : FVec F S16384x1024 .f32 := Host.absf main_arg3
  let main_cst_2 : FVec F S_ .f32 := constant S_ .f32 0x7F800000#32
  let main_v13 : FVec F S16384x1024 .f32 := broadcastInDim S16384x1024 ![] bcast_S_S16384x1024 main_cst_2
  let main_v14 : IVec S16384x1024 1 := cmpf .olt main_v12 main_v13
  let main_v15 : FVec F S16384x2560 .f32 := Host.absf main_arg4
  let main_cst_3 : FVec F S_ .f32 := constant S_ .f32 0x7F800000#32
  let main_v16 : FVec F S16384x2560 .f32 := broadcastInDim S16384x2560 ![] bcast_S_S16384x2560 main_cst_3
  let main_v17 : IVec S16384x2560 1 := cmpf .olt main_v15 main_v16
  (main_v3, main_v7, main_v11, main_v14, main_v17)
-- ==== Kernel.lean ====
abbrev S4x16384x256 : Shape := ⟨3, ![4, 16384, 256]⟩
abbrev S4x16384x128 : Shape := ⟨3, ![4, 16384, 128]⟩
abbrev S16384x1024 : Shape := ⟨2, ![16384, 1024]⟩
abbrev S16384x2560 : Shape := ⟨2, ![16384, 2560]⟩
abbrev S4x16384x16384 : Shape := ⟨3, ![4, 16384, 16384]⟩
abbrev S_ : Shape := ⟨0, ![]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S4x16384 : Shape := ⟨2, ![4, 16384]⟩
abbrev S4x16384x1 : Shape := ⟨3, ![4, 16384, 1]⟩
abbrev S4x128x16384 : Shape := ⟨3, ![4, 128, 16384]⟩
abbrev S16384x4x128 : Shape := ⟨3, ![16384, 4, 128]⟩
abbrev S16384x512 : Shape := ⟨2, ![16384, 512]⟩
abbrev S1x512x256 : Shape := ⟨3, ![1, 512, 256]⟩
abbrev S512x128 : Shape := ⟨2, ![512, 128]⟩
abbrev S1x512x128 : Shape := ⟨3, ![1, 512, 128]⟩
abbrev S16384x256 : Shape := ⟨2, ![16384, 256]⟩
abbrev S16384x128 : Shape := ⟨2, ![16384, 128]⟩
abbrev S512x256 : Shape := ⟨2, ![512, 256]⟩
abbrev S512x512 : Shape := ⟨2, ![512, 512]⟩
abbrev S2x512x512 : Shape := ⟨3, ![2, 512, 512]⟩
abbrev S4 : Shape := ⟨1, ![4]⟩
abbrev S1 : Shape := ⟨1, ![1]⟩
abbrev S1x16384x256 : Shape := ⟨3, ![1, 16384, 256]⟩
abbrev S1x16384x128 : Shape := ⟨3, ![1, 16384, 128]⟩
abbrev S15872x256 : Shape := ⟨2, ![15872, 256]⟩
abbrev S1x15872x256 : Shape := ⟨3, ![1, 15872, 256]⟩
abbrev S15872x128 : Shape := ⟨2, ![15872, 128]⟩
abbrev S1x15872x128 : Shape := ⟨3, ![1, 15872, 128]⟩
abbrev S1x512x512 : Shape := ⟨3, ![1, 512, 512]⟩
abbrev S512 : Shape := ⟨1, ![512]⟩
abbrev S512x1 : Shape := ⟨2, ![512, 1]⟩

abbrev nBuf : Space → Nat
  | .hbm => 69
  | .vmem => 25
  | .smem => 0
  | _ => 0

abbrev bufTy : (tb : Table) → Fin (tcTables nBuf tb) → BufTy
  | .hbm, ⟨0, _⟩ => ⟨S4x16384x256, .bf16⟩
  | .hbm, ⟨1, _⟩ => ⟨S4x16384x256, .bf16⟩
  | .hbm, ⟨2, _⟩ => ⟨S4x16384x128, .bf16⟩
  | .hbm, ⟨3, _⟩ => ⟨S16384x1024, .f32⟩
  | .hbm, ⟨4, _⟩ => ⟨S16384x2560, .f32⟩
  | .hbm, ⟨5, _⟩ => ⟨S4x16384x256, .f32⟩
  | .hbm, ⟨6, _⟩ => ⟨S4x16384x256, .f32⟩
  | .hbm, ⟨7, _⟩ => ⟨S4x16384x128, .f32⟩
  | .hbm, ⟨8, _⟩ => ⟨S4x16384x16384, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S4x16384x16384, .f32⟩
  | .hbm, ⟨14, _⟩ => ⟨S4x16384x16384, .f32⟩
  | .hbm, ⟨15, _⟩ => ⟨S16384, .i32⟩
  | .hbm, ⟨16, _⟩ => ⟨S_, .i32⟩
  | .hbm, ⟨17, _⟩ => ⟨S_, .i32⟩
  | .hbm, ⟨18, _⟩ => ⟨S16384, .i32⟩
  | .hbm, ⟨19, _⟩ => ⟨S16384, .i32⟩
  | .hbm, ⟨20, _⟩ => ⟨S16384, .i32⟩
  | .hbm, ⟨21, _⟩ => ⟨S_, .i32⟩
  | .hbm, ⟨22, _⟩ => ⟨S16384, .i32⟩
  | .hbm, ⟨23, _⟩ => ⟨S16384, .i1⟩
  | .hbm, ⟨24, _⟩ => ⟨S16384, .i32⟩
  | .hbm, ⟨25, _⟩ => ⟨S16384, .i32⟩
  | .hbm, ⟨26, _⟩ => ⟨S_, .i32⟩
  | .hbm, ⟨27, _⟩ => ⟨S16384, .i32⟩
  | .hbm, ⟨28, _⟩ => ⟨S16384, .i1⟩
  | .hbm, ⟨29, _⟩ => ⟨S16384, .i1⟩
  | .hbm, ⟨30, _⟩ => ⟨S_, .i32⟩
  | .hbm, ⟨31, _⟩ => ⟨S16384, .i32⟩
  | .hbm, ⟨32, _⟩ => ⟨S16384, .i32⟩
  | .hbm, ⟨33, _⟩ => ⟨S16384, .i32⟩
  | .hbm, ⟨34, _⟩ => ⟨S1x16384, .i32⟩
  | .hbm, ⟨35, _⟩ => ⟨S16384x1, .i32⟩
  | .hbm, ⟨36, _⟩ => ⟨S16384x16384, .i32⟩
  | .hbm, ⟨37, _⟩ => ⟨S16384x16384, .i32⟩
  | .hbm, ⟨38, _⟩ => ⟨S16384x16384, .i1⟩
  | .hbm, ⟨39, _⟩ => ⟨S_, .f32⟩
  | .hbm, ⟨40, _⟩ => ⟨S_, .f32⟩
  | .hbm, ⟨41, _⟩ => ⟨S4x16384x16384, .i1⟩
  | .hbm, ⟨42, _⟩ => ⟨S4x16384x16384, .f32⟩
  | .hbm, ⟨43, _⟩ => ⟨S4x16384x16384, .f32⟩
  | .hbm, ⟨44, _⟩ => ⟨S_, .f32⟩
  | .hbm, ⟨45, _⟩ => ⟨S4x16384, .f32⟩
  | .hbm, ⟨46, _⟩ => ⟨S4x16384x1, .f32⟩
  | .hbm, ⟨47, _⟩ => ⟨S4x16384x16384, .f32⟩
  | .hbm, ⟨48, _⟩ => ⟨S4x16384x16384, .f32⟩
  | .hbm, ⟨49, _⟩ => ⟨S4x16384x16384, .f32⟩
  | .hbm, ⟨50, _⟩ => ⟨S_, .f32⟩
  | .hbm, ⟨51, _⟩ => ⟨S4x16384, .f32⟩
  | .hbm, ⟨52, _⟩ => ⟨S4x16384x1, .f32⟩
  | .hbm, ⟨53, _⟩ => ⟨S4x16384x16384, .f32⟩
  | .hbm, ⟨54, _⟩ => ⟨S4x16384x16384, .f32⟩
  | .hbm, ⟨55, _⟩ => ⟨S4x128x16384, .f32⟩
  | .hbm, ⟨56, _⟩ => ⟨S16384x4x128, .f32⟩
  | .hbm, ⟨57, _⟩ => ⟨S16384x512, .f32⟩
  | .hbm, ⟨58, _⟩ => ⟨S4x16384x1, .f32⟩
  | .hbm, ⟨59, _⟩ => ⟨S4x16384x1, .f32⟩
  | .hbm, ⟨60, _⟩ => ⟨S_, .f32⟩
  | .hbm, ⟨61, _⟩ => ⟨S_, .f32⟩
  | .hbm, ⟨62, _⟩ => ⟨S4x16384x1, .f32⟩
  | .hbm, ⟨63, _⟩ => ⟨S4x16384x1, .f32⟩
  | .hbm, ⟨64, _⟩ => ⟨S4x16384x128, .f32⟩
  | .hbm, ⟨65, _⟩ => ⟨S4x16384x256, .f32⟩
  | .hbm, ⟨66, _⟩ => ⟨S16384x512, .bf16⟩
  | .hbm, ⟨67, _⟩ => ⟨S4x16384x256, .f32⟩
  | .hbm, ⟨68, _⟩ => ⟨S4x16384x128, .f32⟩
  | .local _ .vmem, ⟨0, _⟩ => ⟨S1x512x256, .bf16⟩
  | .local _ .vmem, ⟨1, _⟩ => ⟨S1x512x256, .bf16⟩
  | .local _ .vmem, ⟨2, _⟩ => ⟨S512x128, .f32⟩
  | .local _ .vmem, ⟨3, _⟩ => ⟨S512x128, .f32⟩
  | .local _ .vmem, ⟨4, _⟩ => ⟨S1x512x128, .f32⟩
  | .local _ .vmem, ⟨5, _⟩ => ⟨S1x512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S1x512x256, .f32⟩
  | .local _ .vmem, ⟨11, _⟩ => ⟨S1x512x256, .f32⟩
  | .local _ .vmem, ⟨12, _⟩ => ⟨S512x128, .bf16⟩
  | .local _ .vmem, ⟨13, _⟩ => ⟨S512x128, .bf16⟩
  | .local _ .vmem, ⟨14, _⟩ => ⟨S16384x256, .bf16⟩
  | .local _ .vmem, ⟨15, _⟩ => ⟨S16384x128, .bf16⟩
  | .local _ .vmem, ⟨16, _⟩ => ⟨S16384x256, .f32⟩
  | .local _ .vmem, ⟨17, _⟩ => ⟨S16384x128, .f32⟩
  | .local _ .vmem, ⟨18, _⟩ => ⟨S512x256, .f32⟩
  | .local _ .vmem, ⟨19, _⟩ => ⟨S512x128, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S2x512x512, .f32⟩
  | _, _ => ⟨S4x16384x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_c : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_0 : Ref sig .tc := ⟨.hbm, 30, rfl⟩
abbrev main_call0_v12 : Ref sig .tc := ⟨.hbm, 31, rfl⟩
abbrev main_call0_v13 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_cst_1 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v15 : Ref sig .tc := ⟨.hbm, 43, rfl⟩
abbrev main_cst_2 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_cst_3 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_cst_4 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34_0 : Ref sig .tc := ⟨.hbm, 65, rfl⟩
abbrev main_v34_1 : Ref sig .tc := ⟨.hbm, 66, rfl⟩
abbrev main_v34_2 : Ref sig .tc := ⟨.hbm, 67, rfl⟩
abbrev main_v34_3 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_scratch7 : Ref sig .tc := ⟨.vmem, 21, rfl⟩
abbrev cc0_scratch8 : Ref sig .tc := ⟨.vmem, 22, rfl⟩
abbrev cc0_scratch9 : Ref sig .tc := ⟨.vmem, 23, rfl⟩
abbrev cc0_scratch10 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 32], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_1 : BitVec 32 := 0#32
  let v2 : BitVec 1 := Scalar.cmpi .ne v1 c0_i32_1
  v2

def k0_off1 (i : grid0.Coords) : Fin 3 → Nat :=
  let arg0 : BitVec 32 := BitVec.ofNat 32 (i 0).val
  let c0_i32_112 : BitVec 32 := 0#32
  let c0_i32_113 : BitVec 32 := 0#32
  ![arg0.toNat, 0, 0]
def k0_off2 (i : grid0.Coords) : Fin 3 → Nat :=
  let arg0 : BitVec 32 := BitVec.ofNat 32 (i 0).val
  let c0_i32_112 : BitVec 32 := 0#32
  let c0_i32_113 : BitVec 32 := 0#32
  ![arg0.toNat, 0, 0]
def k0_off3 (i : grid0.Coords) : Fin 3 → Nat :=
  let arg0 : BitVec 32 := BitVec.ofNat 32 (i 0).val
  let c0_i32_118 : BitVec 32 := 0#32
  let c0_i32_119 : BitVec 32 := 0#32
  ![arg0.toNat, 0, 0]
def k0_off4 (i : grid0.Coords) : Fin 3 → Nat :=
  let arg0 : BitVec 32 := BitVec.ofNat 32 (i 0).val
  let c0_i32_118 : BitVec 32 := 0#32
  let c0_i32_119 : BitVec 32 := 0#32
  ![arg0.toNat, 0, 0]
def k0_off5 (i : grid0.Coords) : Fin 3 → Nat :=
  let arg0 : BitVec 32 := BitVec.ofNat 32 (i 0).val
  let c0_i32_124 : BitVec 32 := 0#32
  ![arg0.toNat, 512, 0]
def k0_off6 (i : grid0.Coords) : Fin 3 → Nat :=
  let arg0 : BitVec 32 := BitVec.ofNat 32 (i 0).val
  let c0_i32_130 : BitVec 32 := 0#32
  ![arg0.toNat, 512, 0]
def k0_cond2 (i : grid0.Coords) : BitVec 1 :=
  let arg1 : BitVec 32 := BitVec.ofNat 32 (i 1).val
  let c1_i32_2 : BitVec 32 := 1#32
  let v3 : BitVec 1 := Scalar.cmpi .eq arg1 c1_i32_2
  let v4 : BitVec 32 := Scalar.extui v3
  let c0_i32_5 : BitVec 32 := 0#32
  let v5 : BitVec 1 := Scalar.cmpi .ne v4 c0_i32_5
  v5

def k0_off7 (i : grid0.Coords) : Fin 3 → Nat :=
  let arg0 : BitVec 32 := BitVec.ofNat 32 (i 0).val
  let c0_i32_111 : BitVec 32 := 0#32
  let c0_i32_112 : BitVec 32 := 0#32
  ![arg0.toNat, 0, 0]
def k0_off8 (i : grid0.Coords) : Fin 3 → Nat :=
  let arg0 : BitVec 32 := BitVec.ofNat 32 (i 0).val
  let c0_i32_112 : BitVec 32 := 0#32
  ![arg0.toNat, 512, 0]
def k0_off9 (i : grid0.Coords) : Fin 3 → Nat :=
  let arg0 : BitVec 32 := BitVec.ofNat 32 (i 0).val
  let c0_i32_117 : BitVec 32 := 0#32
  let c0_i32_118 : BitVec 32 := 0#32
  ![arg0.toNat, 0, 0]
def k0_off10 (i : grid0.Coords) : Fin 3 → Nat :=
  let arg0 : BitVec 32 := BitVec.ofNat 32 (i 0).val
  let c0_i32_118 : BitVec 32 := 0#32
  ![arg0.toNat, 512, 0]
def k0_mult1 : BitVec 32 :=
  let c0_i32_23 : BitVec 32 := 0#32
  c0_i32_23
def k0_off11 (i : grid0.Coords) : Fin 3 → Nat :=
  let arg1 : BitVec 32 := BitVec.ofNat 32 (i 1).val
  let c0_i32_27 : BitVec 32 := 0#32
  let v44 : BitVec 1 := Scalar.cmpi .eq arg1 c0_i32_27
  let v45 : BitVec 32 := Scalar.extui v44
  let v46 : Index := Scalar.indexCast v45
  let c0_28 : Index := 0#32
  let c0_29 : Index := 0#32
  ![v46.toNat, 0, 0]
def k0_mult2 : BitVec 32 :=
  let c0_i32_35 : BitVec 32 := 0#32
  c0_i32_35
@[reducible] def k0_t1_loop (i : grid0.Coords) : Scf.Loop 32 :=
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_59 : BitVec 32 := 1#32
  ⟨c0_i32_57, v106, c1_i32_59⟩
def k0_mult3 (i : grid0.Coords) (k0_t1 : Fin (k0_t1_loop i).trips) : BitVec 32 :=
  let c2_i32_119 : BitVec 32 := 2#32
  let c2_i32_118 : BitVec 32 := 2#32
  let c2_i32_115 : BitVec 32 := 2#32
  let c2_i32_112 : BitVec 32 := 2#32
  let c0_i32_57 : BitVec 32 := 0#32
  let c1_i32_59 : BitVec 32 := 1#32
  let arg25 : BitVec 32 := Scf.iv c0_i32_57 c1_i32_59 k0_t1
  let v198 : BitVec 32 := Scalar.muli c2_i32_112 arg25
  let v201 : BitVec 32 := Scalar.muli c2_i32_115 v198
  let v204 : BitVec 32 := Scalar.muli c2_i32_118 v201
  let v205 : BitVec 32 := Scalar.muli c2_i32_119 v204
  let c1_i32_120 : BitVec 32 := 1#32
  let v206 : BitVec 32 := Scalar.addi v205 c1_i32_120
  let c512_i32 : BitVec 32 := 512#32
  let v207 : BitVec 32 := Scalar.muli v206 c512_i32
  v207
def k0_off12 (i : grid0.Coords) (k0_t1 : Fin (k0_t1_loop i).trips) : Fin 2 → Nat :=
  let c2_i32_119 : BitVec 32 := 2#32
  let c2_i32_118 : BitVec 32 := 2#32
  let c2_i32_115 : BitVec 32 := 2#32
  let c2_i32_112 : BitVec 32 := 2#32
  let c0_i32_57 : BitVec 32 := 0#32
  let c1_i32_59 : BitVec 32 := 1#32
  let arg25 : BitVec 32 := Scf.iv c0_i32_57 c1_i32_59 k0_t1
  let v198 : BitVec 32 := Scalar.muli c2_i32_112 arg25
  let v201 : BitVec 32 := Scalar.muli c2_i32_115 v198
  let v204 : BitVec 32 := Scalar.muli c2_i32_118 v201
  let v205 : BitVec 32 := Scalar.muli c2_i32_119 v204
  let c1_i32_120 : BitVec 32 := 1#32
  let v206 : BitVec 32 := Scalar.addi v205 c1_i32_120
  let c512_i32 : BitVec 32 := 512#32
  let v207 : BitVec 32 := Scalar.muli v206 c512_i32
  let v208 : BitVec 32 := v207
  let v209 : Index := Scalar.indexCast v208
  let c0_121 : Index := 0#32
  ![v209.toNat, 0]
def k0_off13 (i : grid0.Coords) (k0_t1 : Fin (k0_t1_loop i).trips) : Fin 3 → Nat :=
  let c2_i32_119 : BitVec 32 := 2#32
  let c2_i32_118 : BitVec 32 := 2#32
  let c2_i32_115 : BitVec 32 := 2#32
  let c2_i32_112 : BitVec 32 := 2#32
  let c0_i32_57 : BitVec 32 := 0#32
  let c1_i32_59 : BitVec 32 := 1#32
  let arg25 : BitVec 32 := Scf.iv c0_i32_57 c1_i32_59 k0_t1
  let v198 : BitVec 32 := Scalar.muli c2_i32_112 arg25
  let v201 : BitVec 32 := Scalar.muli c2_i32_115 v198
  let v204 : BitVec 32 := Scalar.muli c2_i32_118 v201
  let v205 : BitVec 32 := Scalar.muli c2_i32_119 v204
  let c1_i32_120 : BitVec 32 := 1#32
  let v206 : BitVec 32 := Scalar.addi v205 c1_i32_120
  let arg1 : BitVec 32 := BitVec.ofNat 32 (i 1).val
  let v214 : BitVec 1 := Scalar.cmpi .eq v206 arg1
  let v215 : BitVec 32 := Scalar.extui v214
  let v216 : Index := Scalar.indexCast v215
  let c0_124 : Index := 0#32
  let c0_125 : Index := 0#32
  ![v216.toNat, 0, 0]
def k0_mult4 (i : grid0.Coords) (k0_t1 : Fin (k0_t1_loop i).trips) : BitVec 32 :=
  let c2_i32_119 : BitVec 32 := 2#32
  let c2_i32_118 : BitVec 32 := 2#32
  let c2_i32_115 : BitVec 32 := 2#32
  let c2_i32_112 : BitVec 32 := 2#32
  let c0_i32_57 : BitVec 32 := 0#32
  let c1_i32_59 : BitVec 32 := 1#32
  let arg25 : BitVec 32 := Scf.iv c0_i32_57 c1_i32_59 k0_t1
  let v198 : BitVec 32 := Scalar.muli c2_i32_112 arg25
  let v201 : BitVec 32 := Scalar.muli c2_i32_115 v198
  let v204 : BitVec 32 := Scalar.muli c2_i32_118 v201
  let v205 : BitVec 32 := Scalar.muli c2_i32_119 v204
  let c1_i32_120 : BitVec 32 := 1#32
  let v206 : BitVec 32 := Scalar.addi v205 c1_i32_120
  let c512_i32_131 : BitVec 32 := 512#32
  let v227 : BitVec 32 := Scalar.muli v206 c512_i32_131
  v227
def k0_off14 (i : grid0.Coords) (k0_t1 : Fin (k0_t1_loop i).trips) : Fin 2 → Nat :=
  let c2_i32_119 : BitVec 32 := 2#32
  let c2_i32_118 : BitVec 32 := 2#32
  let c2_i32_115 : BitVec 32 := 2#32
  let c2_i32_112 : BitVec 32 := 2#32
  let c0_i32_57 : BitVec 32 := 0#32
  let c1_i32_59 : BitVec 32 := 1#32
  let arg25 : BitVec 32 := Scf.iv c0_i32_57 c1_i32_59 k0_t1
  let v198 : BitVec 32 := Scalar.muli c2_i32_112 arg25
  let v201 : BitVec 32 := Scalar.muli c2_i32_115 v198
  let v204 : BitVec 32 := Scalar.muli c2_i32_118 v201
  let v205 : BitVec 32 := Scalar.muli c2_i32_119 v204
  let c1_i32_120 : BitVec 32 := 1#32
  let v206 : BitVec 32 := Scalar.addi v205 c1_i32_120
  let c512_i32_131 : BitVec 32 := 512#32
  let v227 : BitVec 32 := Scalar.muli v206 c512_i32_131
  let v228 : BitVec 32 := v227
  let v229 : Index := Scalar.indexCast v228
  let c0_132 : Index := 0#32
  ![v229.toNat, 0]
def k0_mult5 (i : grid0.Coords) (k0_t1 : Fin (k0_t1_loop i).trips) : BitVec 32 :=
  let c2_i32_138 : BitVec 32 := 2#32
  let c2_i32_118 : BitVec 32 := 2#32
  let c2_i32_115 : BitVec 32 := 2#32
  let c2_i32_112 : BitVec 32 := 2#32
  let c0_i32_57 : BitVec 32 := 0#32
  let c1_i32_59 : BitVec 32 := 1#32
  let arg25 : BitVec 32 := Scf.iv c0_i32_57 c1_i32_59 k0_t1
  let v198 : BitVec 32 := Scalar.muli c2_i32_112 arg25
  let v201 : BitVec 32 := Scalar.muli c2_i32_115 v198
  let v204 : BitVec 32 := Scalar.muli c2_i32_118 v201
  let v238 : BitVec 32 := Scalar.muli c2_i32_138 v204
  let c512_i32_139 : BitVec 32 := 512#32
  let v239 : BitVec 32 := Scalar.muli v238 c512_i32_139
  v239
def k0_off15 (i : grid0.Coords) (k0_t1 : Fin (k0_t1_loop i).trips) : Fin 2 → Nat :=
  let c2_i32_138 : BitVec 32 := 2#32
  let c2_i32_118 : BitVec 32 := 2#32
  let c2_i32_115 : BitVec 32 := 2#32
  let c2_i32_112 : BitVec 32 := 2#32
  let c0_i32_57 : BitVec 32 := 0#32
  let c1_i32_59 : BitVec 32 := 1#32
  let arg25 : BitVec 32 := Scf.iv c0_i32_57 c1_i32_59 k0_t1
  let v198 : BitVec 32 := Scalar.muli c2_i32_112 arg25
  let v201 : BitVec 32 := Scalar.muli c2_i32_115 v198
  let v204 : BitVec 32 := Scalar.muli c2_i32_118 v201
  let v238 : BitVec 32 := Scalar.muli c2_i32_138 v204
  let c512_i32_139 : BitVec 32 := 512#32
  let v239 : BitVec 32 := Scalar.muli v238 c512_i32_139
  let v240 : BitVec 32 := v239
  let v250 : Index := Scalar.indexCast v240
  let c0_147 : Index := 0#32
  ![v250.toNat, 0]
def k0_off16 (i : grid0.Coords) (k0_t1 : Fin (k0_t1_loop i).trips) : Fin 2 → Nat :=
  let c2_i32_138 : BitVec 32 := 2#32
  let c2_i32_118 : BitVec 32 := 2#32
  let c2_i32_115 : BitVec 32 := 2#32
  let c2_i32_112 : BitVec 32 := 2#32
  let c0_i32_57 : BitVec 32 := 0#32
  let c1_i32_59 : BitVec 32 := 1#32
  let arg25 : BitVec 32 := Scf.iv c0_i32_57 c1_i32_59 k0_t1
  let v198 : BitVec 32 := Scalar.muli c2_i32_112 arg25
  let v201 : BitVec 32 := Scalar.muli c2_i32_115 v198
  let v204 : BitVec 32 := Scalar.muli c2_i32_118 v201
  let v238 : BitVec 32 := Scalar.muli c2_i32_138 v204
  let c512_i32_139 : BitVec 32 := 512#32
  let v239 : BitVec 32 := Scalar.muli v238 c512_i32_139
  let v240 : BitVec 32 := v239
  let v265 : Index := Scalar.indexCast v240
  let c0_154 : Index := 0#32
  ![v265.toNat, 0]
def k0_mult6 (i : grid0.Coords) (k0_t1 : Fin (k0_t1_loop i).trips) : BitVec 32 :=
  let c2_i32_157 : BitVec 32 := 2#32
  let c2_i32_118 : BitVec 32 := 2#32
  let c2_i32_115 : BitVec 32 := 2#32
  let c2_i32_112 : BitVec 32 := 2#32
  let c0_i32_57 : BitVec 32 := 0#32
  let c1_i32_59 : BitVec 32 := 1#32
  let arg25 : BitVec 32 := Scf.iv c0_i32_57 c1_i32_59 k0_t1
  let v198 : BitVec 32 := Scalar.muli c2_i32_112 arg25
  let v201 : BitVec 32 := Scalar.muli c2_i32_115 v198
  let v204 : BitVec 32 := Scalar.muli c2_i32_118 v201
  let v273 : BitVec 32 := Scalar.muli c2_i32_157 v204
  let c2_i32_158 : BitVec 32 := 2#32
  let v274 : BitVec 32 := Scalar.addi v273 c2_i32_158
  let arg1 : BitVec 32 := BitVec.ofNat 32 (i 1).val
  let v275 : BitVec 32 := Scalar.minsi v274 arg1
  let c512_i32_159 : BitVec 32 := 512#32
  let v276 : BitVec 32 := Scalar.muli v275 c512_i32_159
  v276
def k0_off17 (i : grid0.Coords) (k0_t1 : Fin (k0_t1_loop i).trips) : Fin 2 → Nat :=
  let c2_i32_157 : BitVec 32 := 2#32
  let c2_i32_118 : BitVec 32 := 2#32
  let c2_i32_115 : BitVec 32 := 2#32
  let c2_i32_112 : BitVec 32 := 2#32
  let c0_i32_57 : BitVec 32 := 0#32
  let c1_i32_59 : BitVec 32 := 1#32
  let arg25 : BitVec 32 := Scf.iv c0_i32_57 c1_i32_59 k0_t1
  let v198 : BitVec 32 := Scalar.muli c2_i32_112 arg25
  let v201 : BitVec 32 := Scalar.muli c2_i32_115 v198
  let v204 : BitVec 32 := Scalar.muli c2_i32_118 v201
  let v273 : BitVec 32 := Scalar.muli c2_i32_157 v204
  let c2_i32_158 : BitVec 32 := 2#32
  let v274 : BitVec 32 := Scalar.addi v273 c2_i32_158
  let arg1 : BitVec 32 := BitVec.ofNat 32 (i 1).val
  let v275 : BitVec 32 := Scalar.minsi v274 arg1
  let c512_i32_159 : BitVec 32 := 512#32
  let v276 : BitVec 32 := Scalar.muli v275 c512_i32_159
  let v277 : BitVec 32 := v276
  let v278 : Index := Scalar.indexCast v277
  let c0_160 : Index := 0#32
  ![v278.toNat, 0]
def k0_off18 (i : grid0.Coords) (k0_t1 : Fin (k0_t1_loop i).trips) : Fin 3 → Nat :=
  let c2_i32_157 : BitVec 32 := 2#32
  let c2_i32_118 : BitVec 32 := 2#32
  let c2_i32_115 : BitVec 32 := 2#32
  let c2_i32_112 : BitVec 32 := 2#32
  let c0_i32_57 : BitVec 32 := 0#32
  let c1_i32_59 : BitVec 32 := 1#32
  let arg25 : BitVec 32 := Scf.iv c0_i32_57 c1_i32_59 k0_t1
  let v198 : BitVec 32 := Scalar.muli c2_i32_112 arg25
  let v201 : BitVec 32 := Scalar.muli c2_i32_115 v198
  let v204 : BitVec 32 := Scalar.muli c2_i32_118 v201
  let v273 : BitVec 32 := Scalar.muli c2_i32_157 v204
  let c2_i32_158 : BitVec 32 := 2#32
  let v274 : BitVec 32 := Scalar.addi v273 c2_i32_158
  let arg1 : BitVec 32 := BitVec.ofNat 32 (i 1).val
  let v275 : BitVec 32 := Scalar.minsi v274 arg1
  let v283 : BitVec 1 := Scalar.cmpi .eq v275 arg1
  let v284 : BitVec 32 := Scalar.extui v283
  let v285 : Index := Scalar.indexCast v284
  let c0_163 : Index := 0#32
  let c0_164 : Index := 0#32
  ![v285.toNat, 0, 0]
def k0_mult7 (i : grid0.Coords) (k0_t1 : Fin (k0_t1_loop i).trips) : BitVec 32 :=
  let c2_i32_157 : BitVec 32 := 2#32
  let c2_i32_118 : BitVec 32 := 2#32
  let c2_i32_115 : BitVec 32 := 2#32
  let c2_i32_112 : BitVec 32 := 2#32
  let c0_i32_57 : BitVec 32 := 0#32
  let c1_i32_59 : BitVec 32 := 1#32
  let arg25 : BitVec 32 := Scf.iv c0_i32_57 c1_i32_59 k0_t1
  let v198 : BitVec 32 := Scalar.muli c2_i32_112 arg25
  let v201 : BitVec 32 := Scalar.muli c2_i32_115 v198
  let v204 : BitVec 32 := Scalar.muli c2_i32_118 v201
  let v273 : BitVec 32 := Scalar.muli c2_i32_157 v204
  let c2_i32_158 : BitVec 32 := 2#32
  let v274 : BitVec 32 := Scalar.addi v273 c2_i32_158
  let arg1 : BitVec 32 := BitVec.ofNat 32 (i 1).val
  let v275 : BitVec 32 := Scalar.minsi v274 arg1
  let c512_i32_170 : BitVec 32 := 512#32
  let v296 : BitVec 32 := Scalar.muli v275 c512_i32_170
  v296
def k0_off19 (i : grid0.Coords) (k0_t1 : Fin (k0_t1_loop i).trips) : Fin 2 → Nat :=
  let c2_i32_157 : BitVec 32 := 2#32
  let c2_i32_118 : BitVec 32 := 2#32
  let c2_i32_115 : BitVec 32 := 2#32
  let c2_i32_112 : BitVec 32 := 2#32
  let c0_i32_57 : BitVec 32 := 0#32
  let c1_i32_59 : BitVec 32 := 1#32
  let arg25 : BitVec 32 := Scf.iv c0_i32_57 c1_i32_59 k0_t1
  let v198 : BitVec 32 := Scalar.muli c2_i32_112 arg25
  let v201 : BitVec 32 := Scalar.muli c2_i32_115 v198
  let v204 : BitVec 32 := Scalar.muli c2_i32_118 v201
  let v273 : BitVec 32 := Scalar.muli c2_i32_157 v204
  let c2_i32_158 : BitVec 32 := 2#32
  let v274 : BitVec 32 := Scalar.addi v273 c2_i32_158
  let arg1 : BitVec 32 := BitVec.ofNat 32 (i 1).val
  let v275 : BitVec 32 := Scalar.minsi v274 arg1
  let c512_i32_170 : BitVec 32 := 512#32
  let v296 : BitVec 32 := Scalar.muli v275 c512_i32_170
  let v297 : BitVec 32 := v296
  let v298 : Index := Scalar.indexCast v297
  let c0_171 : Index := 0#32
  ![v298.toNat, 0]
def k0_mult8 (i : grid0.Coords) (k0_t1 : Fin (k0_t1_loop i).trips) : BitVec 32 :=
  let c2_i32_177 : BitVec 32 := 2#32
  let c2_i32_118 : BitVec 32 := 2#32
  let c2_i32_115 : BitVec 32 := 2#32
  let c2_i32_112 : BitVec 32 := 2#32
  let c0_i32_57 : BitVec 32 := 0#32
  let c1_i32_59 : BitVec 32 := 1#32
  let arg25 : BitVec 32 := Scf.iv c0_i32_57 c1_i32_59 k0_t1
  let v198 : BitVec 32 := Scalar.muli c2_i32_112 arg25
  let v201 : BitVec 32 := Scalar.muli c2_i32_115 v198
  let v204 : BitVec 32 := Scalar.muli c2_i32_118 v201
  let v307 : BitVec 32 := Scalar.muli c2_i32_177 v204
  let c1_i32_178 : BitVec 32 := 1#32
  let v308 : BitVec 32 := Scalar.addi v307 c1_i32_178
  let c512_i32_179 : BitVec 32 := 512#32
  let v309 : BitVec 32 := Scalar.muli v308 c512_i32_179
  v309
def k0_mult9 (i : grid0.Coords) (k0_t1 : Fin (k0_t1_loop i).trips) : BitVec 32 :=
  let c2_i32_197 : BitVec 32 := 2#32
  let c2_i32_116 : BitVec 32 := 2#32
  let c2_i32_115 : BitVec 32 := 2#32
  let c2_i32_112 : BitVec 32 := 2#32
  let c0_i32_57 : BitVec 32 := 0#32
  let c1_i32_59 : BitVec 32 := 1#32
  let arg25 : BitVec 32 := Scf.iv c0_i32_57 c1_i32_59 k0_t1
  let v198 : BitVec 32 := Scalar.muli c2_i32_112 arg25
  let v201 : BitVec 32 := Scalar.muli c2_i32_115 v198
  let v202 : BitVec 32 := Scalar.muli c2_i32_116 v201
  let c1_i32_117 : BitVec 32 := 1#32
  let v203 : BitVec 32 := Scalar.addi v202 c1_i32_117
  let v343 : BitVec 32 := Scalar.muli c2_i32_197 v203
  let c1_i32_198 : BitVec 32 := 1#32
  let v344 : BitVec 32 := Scalar.addi v343 c1_i32_198
  let c512_i32_199 : BitVec 32 := 512#32
  let v345 : BitVec 32 := Scalar.muli v344 c512_i32_199
  v345
def k0_off20 (i : grid0.Coords) (k0_t1 : Fin (k0_t1_loop i).trips) : Fin 2 → Nat :=
  let c2_i32_197 : BitVec 32 := 2#32
  let c2_i32_116 : BitVec 32 := 2#32
  let c2_i32_115 : BitVec 32 := 2#32
  let c2_i32_112 : BitVec 32 := 2#32
  let c0_i32_57 : BitVec 32 := 0#32
  let c1_i32_59 : BitVec 32 := 1#32
  let arg25 : BitVec 32 := Scf.iv c0_i32_57 c1_i32_59 k0_t1
  let v198 : BitVec 32 := Scalar.muli c2_i32_112 arg25
  let v201 : BitVec 32 := Scalar.muli c2_i32_115 v198
  let v202 : BitVec 32 := Scalar.muli c2_i32_116 v201
  let c1_i32_117 : BitVec 32 := 1#32
  let v203 : BitVec 32 := Scalar.addi v202 c1_i32_117
  let v343 : BitVec 32 := Scalar.muli c2_i32_197 v203
  let c1_i32_198 : BitVec 32 := 1#32
  let v344 : BitVec 32 := Scalar.addi v343 c1_i32_198
  let c512_i32_199 : BitVec 32 := 512#32
  let v345 : BitVec 32 := Scalar.muli v344 c512_i32_199
  let v346 : BitVec 32 := v345
  let v347 : Index := Scalar.indexCast v346
  let c0_200 : Index := 0#32
  ![v347.toNat, 0]
def k0_off21 (i : grid0.Coords) (k0_t1 : Fin (k0_t1_loop i).trips) : Fin 3 → Nat :=
  let c2_i32_197 : BitVec 32 := 2#32
  let c2_i32_116 : BitVec 32 := 2#32
  let c2_i32_115 : BitVec 32 := 2#32
  let c2_i32_112 : BitVec 32 := 2#32
  let c0_i32_57 : BitVec 32 := 0#32
  let c1_i32_59 : BitVec 32 := 1#32
  let arg25 : BitVec 32 := Scf.iv c0_i32_57 c1_i32_59 k0_t1
  let v198 : BitVec 32 := Scalar.muli c2_i32_112 arg25
  let v201 : BitVec 32 := Scalar.muli c2_i32_115 v198
  let v202 : BitVec 32 := Scalar.muli c2_i32_116 v201
  let c1_i32_117 : BitVec 32 := 1#32
  let v203 : BitVec 32 := Scalar.addi v202 c1_i32_117
  let v343 : BitVec 32 := Scalar.muli c2_i32_197 v203
  let c1_i32_198 : BitVec 32 := 1#32
  let v344 : BitVec 32 := Scalar.addi v343 c1_i32_198
  let arg1 : BitVec 32 := BitVec.ofNat 32 (i 1).val
  let v352 : BitVec 1 := Scalar.cmpi .eq v344 arg1
  let v353 : BitVec 32 := Scalar.extui v352
  let v354 : Index := Scalar.indexCast v353
  let c0_203 : Index := 0#32
  let c0_204 : Index := 0#32
  ![v354.toNat, 0, 0]
def k0_mult10 (i : grid0.Coords) (k0_t1 : Fin (k0_t1_loop i).trips) : BitVec 32 :=
  let c2_i32_197 : BitVec 32 := 2#32
  let c2_i32_116 : BitVec 32 := 2#32
  let c2_i32_115 : BitVec 32 := 2#32
  let c2_i32_112 : BitVec 32 := 2#32
  let c0_i32_57 : BitVec 32 := 0#32
  let c1_i32_59 : BitVec 32 := 1#32
  let arg25 : BitVec 32 := Scf.iv c0_i32_57 c1_i32_59 k0_t1
  let v198 : BitVec 32 := Scalar.muli c2_i32_112 arg25
  let v201 : BitVec 32 := Scalar.muli c2_i32_115 v198
  let v202 : BitVec 32 := Scalar.muli c2_i32_116 v201
  let c1_i32_117 : BitVec 32 := 1#32
  let v203 : BitVec 32 := Scalar.addi v202 c1_i32_117
  let v343 : BitVec 32 := Scalar.muli c2_i32_197 v203
  let c1_i32_198 : BitVec 32 := 1#32
  let v344 : BitVec 32 := Scalar.addi v343 c1_i32_198
  let c512_i32_210 : BitVec 32 := 512#32
  let v365 : BitVec 32 := Scalar.muli v344 c512_i32_210
  v365
def k0_off22 (i : grid0.Coords) (k0_t1 : Fin (k0_t1_loop i).trips) : Fin 2 → Nat :=
  let c2_i32_197 : BitVec 32 := 2#32
  let c2_i32_116 : BitVec 32 := 2#32
  let c2_i32_115 : BitVec 32 := 2#32
  let c2_i32_112 : BitVec 32 := 2#32
  let c0_i32_57 : BitVec 32 := 0#32
  let c1_i32_59 : BitVec 32 := 1#32
  let arg25 : BitVec 32 := Scf.iv c0_i32_57 c1_i32_59 k0_t1
  let v198 : BitVec 32 := Scalar.muli c2_i32_112 arg25
  let v201 : BitVec 32 := Scalar.muli c2_i32_115 v198
  let v202 : BitVec 32 := Scalar.muli c2_i32_116 v201
  let c1_i32_117 : BitVec 32 := 1#32
  let v203 : BitVec 32 := Scalar.addi v202 c1_i32_117
  let v343 : BitVec 32 := Scalar.muli c2_i32_197 v203
  let c1_i32_198 : BitVec 32 := 1#32
  let v344 : BitVec 32 := Scalar.addi v343 c1_i32_198
  let c512_i32_210 : BitVec 32 := 512#32
  let v365 : BitVec 32 := Scalar.muli v344 c512_i32_210
  let v366 : BitVec 32 := v365
  let v367 : Index := Scalar.indexCast v366
  let c0_211 : Index := 0#32
  ![v367.toNat, 0]
def k0_mult11 (i : grid0.Coords) (k0_t1 : Fin (k0_t1_loop i).trips) : BitVec 32 :=
  let c2_i32_217 : BitVec 32 := 2#32
  let c2_i32_116 : BitVec 32 := 2#32
  let c2_i32_115 : BitVec 32 := 2#32
  let c2_i32_112 : BitVec 32 := 2#32
  let c0_i32_57 : BitVec 32 := 0#32
  let c1_i32_59 : BitVec 32 := 1#32
  let arg25 : BitVec 32 := Scf.iv c0_i32_57 c1_i32_59 k0_t1
  let v198 : BitVec 32 := Scalar.muli c2_i32_112 arg25
  let v201 : BitVec 32 := Scalar.muli c2_i32_115 v198
  let v202 : BitVec 32 := Scalar.muli c2_i32_116 v201
  let c1_i32_117 : BitVec 32 := 1#32
  let v203 : BitVec 32 := Scalar.addi v202 c1_i32_117
  let v376 : BitVec 32 := Scalar.muli c2_i32_217 v203
  let c512_i32_218 : BitVec 32 := 512#32
  let v377 : BitVec 32 := Scalar.muli v376 c512_i32_218
  v377
def k0_off23 (i : grid0.Coords) (k0_t1 : Fin (k0_t1_loop i).trips) : Fin 2 → Nat :=
  let c2_i32_217 : BitVec 32 := 2#32
  let c2_i32_116 : BitVec 32 := 2#32
  let c2_i32_115 : BitVec 32 := 2#32
  let c2_i32_112 : BitVec 32 := 2#32
  let c0_i32_57 : BitVec 32 := 0#32
  let c1_i32_59 : BitVec 32 := 1#32
  let arg25 : BitVec 32 := Scf.iv c0_i32_57 c1_i32_59 k0_t1
  let v198 : BitVec 32 := Scalar.muli c2_i32_112 arg25
  let v201 : BitVec 32 := Scalar.muli c2_i32_115 v198
  let v202 : BitVec 32 := Scalar.muli c2_i32_116 v201
  let c1_i32_117 : BitVec 32 := 1#32
  let v203 : BitVec 32 := Scalar.addi v202 c1_i32_117
  let v376 : BitVec 32 := Scalar.muli c2_i32_217 v203
  let c512_i32_218 : BitVec 32 := 512#32
  let v377 : BitVec 32 := Scalar.muli v376 c512_i32_218
  let v378 : BitVec 32 := v377
  let v388 : Index := Scalar.indexCast v378
  let c0_226 : Index := 0#32
  ![v388.toNat, 0]
def k0_off24 (i : grid0.Coords) (k0_t1 : Fin (k0_t1_loop i).trips) : Fin 2 → Nat :=
  let c2_i32_217 : BitVec 32 := 2#32
  let c2_i32_116 : BitVec 32 := 2#32
  let c2_i32_115 : BitVec 32 := 2#32
  let c2_i32_112 : BitVec 32 := 2#32
  let c0_i32_57 : BitVec 32 := 0#32
  let c1_i32_59 : BitVec 32 := 1#32
  let arg25 : BitVec 32 := Scf.iv c0_i32_57 c1_i32_59 k0_t1
  let v198 : BitVec 32 := Scalar.muli c2_i32_112 arg25
  let v201 : BitVec 32 := Scalar.muli c2_i32_115 v198
  let v202 : BitVec 32 := Scalar.muli c2_i32_116 v201
  let c1_i32_117 : BitVec 32 := 1#32
  let v203 : BitVec 32 := Scalar.addi v202 c1_i32_117
  let v376 : BitVec 32 := Scalar.muli c2_i32_217 v203
  let c512_i32_218 : BitVec 32 := 512#32
  let v377 : BitVec 32 := Scalar.muli v376 c512_i32_218
  let v378 : BitVec 32 := v377
  let v403 : Index := Scalar.indexCast v378
  let c0_233 : Index := 0#32
  ![v403.toNat, 0]
def k0_mult12 (i : grid0.Coords) (k0_t1 : Fin (k0_t1_loop i).trips) : BitVec 32 :=
  let c2_i32_236 : BitVec 32 := 2#32
  let c2_i32_116 : BitVec 32 := 2#32
  let c2_i32_115 : BitVec 32 := 2#32
  let c2_i32_112 : BitVec 32 := 2#32
  let c0_i32_57 : BitVec 32 := 0#32
  let c1_i32_59 : BitVec 32 := 1#32
  let arg25 : BitVec 32 := Scf.iv c0_i32_57 c1_i32_59 k0_t1
  let v198 : BitVec 32 := Scalar.muli c2_i32_112 arg25
  let v201 : BitVec 32 := Scalar.muli c2_i32_115 v198
  let v202 : BitVec 32 := Scalar.muli c2_i32_116 v201
  let c1_i32_117 : BitVec 32 := 1#32
  let v203 : BitVec 32 := Scalar.addi v202 c1_i32_117
  let v411 : BitVec 32 := Scalar.muli c2_i32_236 v203
  let c2_i32_237 : BitVec 32 := 2#32
  let v412 : BitVec 32 := Scalar.addi v411 c2_i32_237
  let arg1 : BitVec 32 := BitVec.ofNat 32 (i 1).val
  let v413 : BitVec 32 := Scalar.minsi v412 arg1
  let c512_i32_238 : BitVec 32 := 512#32
  let v414 : BitVec 32 := Scalar.muli v413 c512_i32_238
  v414
def k0_off25 (i : grid0.Coords) (k0_t1 : Fin (k0_t1_loop i).trips) : Fin 2 → Nat :=
  let c2_i32_236 : BitVec 32 := 2#32
  let c2_i32_116 : BitVec 32 := 2#32
  let c2_i32_115 : BitVec 32 := 2#32
  let c2_i32_112 : BitVec 32 := 2#32
  let c0_i32_57 : BitVec 32 := 0#32
  let c1_i32_59 : BitVec 32 := 1#32
  let arg25 : BitVec 32 := Scf.iv c0_i32_57 c1_i32_59 k0_t1
  let v198 : BitVec 32 := Scalar.muli c2_i32_112 arg25
  let v201 : BitVec 32 := Scalar.muli c2_i32_115 v198
  let v202 : BitVec 32 := Scalar.muli c2_i32_116 v201
  let c1_i32_117 : BitVec 32 := 1#32
  let v203 : BitVec 32 := Scalar.addi v202 c1_i32_117
  let v411 : BitVec 32 := Scalar.muli c2_i32_236 v203
  let c2_i32_237 : BitVec 32 := 2#32
  let v412 : BitVec 32 := Scalar.addi v411 c2_i32_237
  let arg1 : BitVec 32 := BitVec.ofNat 32 (i 1).val
  let v413 : BitVec 32 := Scalar.minsi v412 arg1
  let c512_i32_238 : BitVec 32 := 512#32
  let v414 : BitVec 32 := Scalar.muli v413 c512_i32_238
  let v415 : BitVec 32 := v414
  let v416 : Index := Scalar.indexCast v415
  let c0_239 : Index := 0#32
  ![v416.toNat, 0]
def k0_off26 (i : grid0.Coords) (k0_t1 : Fin (k0_t1_loop i).trips) : Fin 3 → Nat :=
  let c2_i32_236 : BitVec 32 := 2#32
  let c2_i32_116 : BitVec 32 := 2#32
  let c2_i32_115 : BitVec 32 := 2#32
  let c2_i32_112 : BitVec 32 := 2#32
  let c0_i32_57 : BitVec 32 := 0#32
  let c1_i32_59 : BitVec 32 := 1#32
  let arg25 : BitVec 32 := Scf.iv c0_i32_57 c1_i32_59 k0_t1
  let v198 : BitVec 32 := Scalar.muli c2_i32_112 arg25
  let v201 : BitVec 32 := Scalar.muli c2_i32_115 v198
  let v202 : BitVec 32 := Scalar.muli c2_i32_116 v201
  let c1_i32_117 : BitVec 32 := 1#32
  let v203 : BitVec 32 := Scalar.addi v202 c1_i32_117
  let v411 : BitVec 32 := Scalar.muli c2_i32_236 v203
  let c2_i32_237 : BitVec 32 := 2#32
  let v412 : BitVec 32 := Scalar.addi v411 c2_i32_237
  let arg1 : BitVec 32 := BitVec.ofNat 32 (i 1).val
  let v413 : BitVec 32 := Scalar.minsi v412 arg1
  let v421 : BitVec 1 := Scalar.cmpi .eq v413 arg1
  let v422 : BitVec 32 := Scalar.extui v421
  let v423 : Index := Scalar.indexCast v422
  let c0_242 : Index := 0#32
  let c0_243 : Index := 0#32
  ![v423.toNat, 0, 0]
def k0_mult13 (i : grid0.Coords) (k0_t1 : Fin (k0_t1_loop i).trips) : BitVec 32 :=
  let c2_i32_236 : BitVec 32 := 2#32
  let c2_i32_116 : BitVec 32 := 2#32
  let c2_i32_115 : BitVec 32 := 2#32
  let c2_i32_112 : BitVec 32 := 2#32
  let c0_i32_57 : BitVec 32 := 0#32
  let c1_i32_59 : BitVec 32 := 1#32
  let arg25 : BitVec 32 := Scf.iv c0_i32_57 c1_i32_59 k0_t1
  let v198 : BitVec 32 := Scalar.muli c2_i32_112 arg25
  let v201 : BitVec 32 := Scalar.muli c2_i32_115 v198
  let v202 : BitVec 32 := Scalar.muli c2_i32_116 v201
  let c1_i32_117 : BitVec 32 := 1#32
  let v203 : BitVec 32 := Scalar.addi v202 c1_i32_117
  let v411 : BitVec 32 := Scalar.muli c2_i32_236 v203
  let c2_i32_237 : BitVec 32 := 2#32
  let v412 : BitVec 32 := Scalar.addi v411 c2_i32_237
  let arg1 : BitVec 32 := BitVec.ofNat 32 (i 1).val
  let v413 : BitVec 32 := Scalar.minsi v412 arg1
  let c512_i32_249 : BitVec 32 := 512#32
  let v434 : BitVec 32 := Scalar.muli v413 c512_i32_249
  v434
def k0_off27 (i : grid0.Coords) (k0_t1 : Fin (k0_t1_loop i).trips) : Fin 2 → Nat :=
  let c2_i32_236 : BitVec 32 := 2#32
  let c2_i32_116 : BitVec 32 := 2#32
  let c2_i32_115 : BitVec 32 := 2#32
  let c2_i32_112 : BitVec 32 := 2#32
  let c0_i32_57 : BitVec 32 := 0#32
  let c1_i32_59 : BitVec 32 := 1#32
  let arg25 : BitVec 32 := Scf.iv c0_i32_57 c1_i32_59 k0_t1
  let v198 : BitVec 32 := Scalar.muli c2_i32_112 arg25
  let v201 : BitVec 32 := Scalar.muli c2_i32_115 v198
  let v202 : BitVec 32 := Scalar.muli c2_i32_116 v201
  let c1_i32_117 : BitVec 32 := 1#32
  let v203 : BitVec 32 := Scalar.addi v202 c1_i32_117
  let v411 : BitVec 32 := Scalar.muli c2_i32_236 v203
  let c2_i32_237 : BitVec 32 := 2#32
  let v412 : BitVec 32 := Scalar.addi v411 c2_i32_237
  let arg1 : BitVec 32 := BitVec.ofNat 32 (i 1).val
  let v413 : BitVec 32 := Scalar.minsi v412 arg1
  let c512_i32_249 : BitVec 32 := 512#32
  let v434 : BitVec 32 := Scalar.muli v413 c512_i32_249
  let v435 : BitVec 32 := v434
  let v436 : Index := Scalar.indexCast v435
  let c0_250 : Index := 0#32
  ![v436.toNat, 0]
def k0_mult14 (i : grid0.Coords) (k0_t1 : Fin (k0_t1_loop i).trips) : BitVec 32 :=
  let c2_i32_256 : BitVec 32 := 2#32
  let c2_i32_116 : BitVec 32 := 2#32
  let c2_i32_115 : BitVec 32 := 2#32
  let c2_i32_112 : BitVec 32 := 2#32
  let c0_i32_57 : BitVec 32 := 0#32
  let c1_i32_59 : BitVec 32 := 1#32
  let arg25 : BitVec 32 := Scf.iv c0_i32_57 c1_i32_59 k0_t1
  let v198 : BitVec 32 := Scalar.muli c2_i32_112 arg25
  let v201 : BitVec 32 := Scalar.muli c2_i32_115 v198
  let v202 : BitVec 32 := Scalar.muli c2_i32_116 v201
  let c1_i32_117 : BitVec 32 := 1#32
  let v203 : BitVec 32 := Scalar.addi v202 c1_i32_117
  let v445 : BitVec 32 := Scalar.muli c2_i32_256 v203
  let c1_i32_257 : BitVec 32 := 1#32
  let v446 : BitVec 32 := Scalar.addi v445 c1_i32_257
  let c512_i32_258 : BitVec 32 := 512#32
  let v447 : BitVec 32 := Scalar.muli v446 c512_i32_258
  v447
def k0_mult15 (i : grid0.Coords) (k0_t1 : Fin (k0_t1_loop i).trips) : BitVec 32 :=
  let c2_i32_279 : BitVec 32 := 2#32
  let c2_i32_278 : BitVec 32 := 2#32
  let c2_i32_113 : BitVec 32 := 2#32
  let c2_i32_112 : BitVec 32 := 2#32
  let c0_i32_57 : BitVec 32 := 0#32
  let c1_i32_59 : BitVec 32 := 1#32
  let arg25 : BitVec 32 := Scf.iv c0_i32_57 c1_i32_59 k0_t1
  let v198 : BitVec 32 := Scalar.muli c2_i32_112 arg25
  let v199 : BitVec 32 := Scalar.muli c2_i32_113 v198
  let c1_i32_114 : BitVec 32 := 1#32
  let v200 : BitVec 32 := Scalar.addi v199 c1_i32_114
  let v483 : BitVec 32 := Scalar.muli c2_i32_278 v200
  let v484 : BitVec 32 := Scalar.muli c2_i32_279 v483
  let c1_i32_280 : BitVec 32 := 1#32
  let v485 : BitVec 32 := Scalar.addi v484 c1_i32_280
  let c512_i32_281 : BitVec 32 := 512#32
  let v486 : BitVec 32 := Scalar.muli v485 c512_i32_281
  v486
def k0_off28 (i : grid0.Coords) (k0_t1 : Fin (k0_t1_loop i).trips) : Fin 2 → Nat :=
  let c2_i32_279 : BitVec 32 := 2#32
  let c2_i32_278 : BitVec 32 := 2#32
  let c2_i32_113 : BitVec 32 := 2#32
  let c2_i32_112 : BitVec 32 := 2#32
  let c0_i32_57 : BitVec 32 := 0#32
  let c1_i32_59 : BitVec 32 := 1#32
  let arg25 : BitVec 32 := Scf.iv c0_i32_57 c1_i32_59 k0_t1
  let v198 : BitVec 32 := Scalar.muli c2_i32_112 arg25
  let v199 : BitVec 32 := Scalar.muli c2_i32_113 v198
  let c1_i32_114 : BitVec 32 := 1#32
  let v200 : BitVec 32 := Scalar.addi v199 c1_i32_114
  let v483 : BitVec 32 := Scalar.muli c2_i32_278 v200
  let v484 : BitVec 32 := Scalar.muli c2_i32_279 v483
  let c1_i32_280 : BitVec 32 := 1#32
  let v485 : BitVec 32 := Scalar.addi v484 c1_i32_280
  let c512_i32_281 : BitVec 32 := 512#32
  let v486 : BitVec 32 := Scalar.muli v485 c512_i32_281
  let v487 : BitVec 32 := v486
  let v488 : Index := Scalar.indexCast v487
  let c0_282 : Index := 0#32
  ![v488.toNat, 0]
def k0_off29 (i : grid0.Coords) (k0_t1 : Fin (k0_t1_loop i).trips) : Fin 3 → Nat :=
  let c2_i32_279 : BitVec 32 := 2#32
  let c2_i32_278 : BitVec 32 := 2#32
  let c2_i32_113 : BitVec 32 := 2#32
  let c2_i32_112 : BitVec 32 := 2#32
  let c0_i32_57 : BitVec 32 := 0#32
  let c1_i32_59 : BitVec 32 := 1#32
  let arg25 : BitVec 32 := Scf.iv c0_i32_57 c1_i32_59 k0_t1
  let v198 : BitVec 32 := Scalar.muli c2_i32_112 arg25
  let v199 : BitVec 32 := Scalar.muli c2_i32_113 v198
  let c1_i32_114 : BitVec 32 := 1#32
  let v200 : BitVec 32 := Scalar.addi v199 c1_i32_114
  let v483 : BitVec 32 := Scalar.muli c2_i32_278 v200
  let v484 : BitVec 32 := Scalar.muli c2_i32_279 v483
  let c1_i32_280 : BitVec 32 := 1#32
  let v485 : BitVec 32 := Scalar.addi v484 c1_i32_280
  let arg1 : BitVec 32 := BitVec.ofNat 32 (i 1).val
  let v493 : BitVec 1 := Scalar.cmpi .eq v485 arg1
  let v494 : BitVec 32 := Scalar.extui v493
  let v495 : Index := Scalar.indexCast v494
  let c0_285 : Index := 0#32
  let c0_286 : Index := 0#32
  ![v495.toNat, 0, 0]
def k0_mult16 (i : grid0.Coords) (k0_t1 : Fin (k0_t1_loop i).trips) : BitVec 32 :=
  let c2_i32_279 : BitVec 32 := 2#32
  let c2_i32_278 : BitVec 32 := 2#32
  let c2_i32_113 : BitVec 32 := 2#32
  let c2_i32_112 : BitVec 32 := 2#32
  let c0_i32_57 : BitVec 32 := 0#32
  let c1_i32_59 : BitVec 32 := 1#32
  let arg25 : BitVec 32 := Scf.iv c0_i32_57 c1_i32_59 k0_t1
  let v198 : BitVec 32 := Scalar.muli c2_i32_112 arg25
  let v199 : BitVec 32 := Scalar.muli c2_i32_113 v198
  let c1_i32_114 : BitVec 32 := 1#32
  let v200 : BitVec 32 := Scalar.addi v199 c1_i32_114
  let v483 : BitVec 32 := Scalar.muli c2_i32_278 v200
  let v484 : BitVec 32 := Scalar.muli c2_i32_279 v483
  let c1_i32_280 : BitVec 32 := 1#32
  let v485 : BitVec 32 := Scalar.addi v484 c1_i32_280
  let c512_i32_292 : BitVec 32 := 512#32
  let v506 : BitVec 32 := Scalar.muli v485 c512_i32_292
  v506
def k0_off30 (i : grid0.Coords) (k0_t1 : Fin (k0_t1_loop i).trips) : Fin 2 → Nat :=
  let c2_i32_279 : BitVec 32 := 2#32
  let c2_i32_278 : BitVec 32 := 2#32
  let c2_i32_113 : BitVec 32 := 2#32
  let c2_i32_112 : BitVec 32 := 2#32
  let c0_i32_57 : BitVec 32 := 0#32
  let c1_i32_59 : BitVec 32 := 1#32
  let arg25 : BitVec 32 := Scf.iv c0_i32_57 c1_i32_59 k0_t1
  let v198 : BitVec 32 := Scalar.muli c2_i32_112 arg25
  let v199 : BitVec 32 := Scalar.muli c2_i32_113 v198
  let c1_i32_114 : BitVec 32 := 1#32
  let v200 : BitVec 32 := Scalar.addi v199 c1_i32_114
  let v483 : BitVec 32 := Scalar.muli c2_i32_278 v200
  let v484 : BitVec 32 := Scalar.muli c2_i32_279 v483
  let c1_i32_280 : BitVec 32 := 1#32
  let v485 : BitVec 32 := Scalar.addi v484 c1_i32_280
  let c512_i32_292 : BitVec 32 := 512#32
  let v506 : BitVec 32 := Scalar.muli v485 c512_i32_292
  let v507 : BitVec 32 := v506
  let v508 : Index := Scalar.indexCast v507
  let c0_293 : Index := 0#32
  ![v508.toNat, 0]
def k0_mult17 (i : grid0.Coords) (k0_t1 : Fin (k0_t1_loop i).trips) : BitVec 32 :=
  let c2_i32_299 : BitVec 32 := 2#32
  let c2_i32_278 : BitVec 32 := 2#32
  let c2_i32_113 : BitVec 32 := 2#32
  let c2_i32_112 : BitVec 32 := 2#32
  let c0_i32_57 : BitVec 32 := 0#32
  let c1_i32_59 : BitVec 32 := 1#32
  let arg25 : BitVec 32 := Scf.iv c0_i32_57 c1_i32_59 k0_t1
  let v198 : BitVec 32 := Scalar.muli c2_i32_112 arg25
  let v199 : BitVec 32 := Scalar.muli c2_i32_113 v198
  let c1_i32_114 : BitVec 32 := 1#32
  let v200 : BitVec 32 := Scalar.addi v199 c1_i32_114
  let v483 : BitVec 32 := Scalar.muli c2_i32_278 v200
  let v517 : BitVec 32 := Scalar.muli c2_i32_299 v483
  let c512_i32_300 : BitVec 32 := 512#32
  let v518 : BitVec 32 := Scalar.muli v517 c512_i32_300
  v518
def k0_off31 (i : grid0.Coords) (k0_t1 : Fin (k0_t1_loop i).trips) : Fin 2 → Nat :=
  let c2_i32_299 : BitVec 32 := 2#32
  let c2_i32_278 : BitVec 32 := 2#32
  let c2_i32_113 : BitVec 32 := 2#32
  let c2_i32_112 : BitVec 32 := 2#32
  let c0_i32_57 : BitVec 32 := 0#32
  let c1_i32_59 : BitVec 32 := 1#32
  let arg25 : BitVec 32 := Scf.iv c0_i32_57 c1_i32_59 k0_t1
  let v198 : BitVec 32 := Scalar.muli c2_i32_112 arg25
  let v199 : BitVec 32 := Scalar.muli c2_i32_113 v198
  let c1_i32_114 : BitVec 32 := 1#32
  let v200 : BitVec 32 := Scalar.addi v199 c1_i32_114
  let v483 : BitVec 32 := Scalar.muli c2_i32_278 v200
  let v517 : BitVec 32 := Scalar.muli c2_i32_299 v483
  let c512_i32_300 : BitVec 32 := 512#32
  let v518 : BitVec 32 := Scalar.muli v517 c512_i32_300
  let v519 : BitVec 32 := v518
  let v529 : Index := Scalar.indexCast v519
  let c0_308 : Index := 0#32
  ![v529.toNat, 0]
def k0_off32 (i : grid0.Coords) (k0_t1 : Fin (k0_t1_loop i).trips) : Fin 2 → Nat :=
  let c2_i32_299 : BitVec 32 := 2#32
  let c2_i32_278 : BitVec 32 := 2#32
  let c2_i32_113 : BitVec 32 := 2#32
  let c2_i32_112 : BitVec 32 := 2#32
  let c0_i32_57 : BitVec 32 := 0#32
  let c1_i32_59 : BitVec 32 := 1#32
  let arg25 : BitVec 32 := Scf.iv c0_i32_57 c1_i32_59 k0_t1
  let v198 : BitVec 32 := Scalar.muli c2_i32_112 arg25
  let v199 : BitVec 32 := Scalar.muli c2_i32_113 v198
  let c1_i32_114 : BitVec 32 := 1#32
  let v200 : BitVec 32 := Scalar.addi v199 c1_i32_114
  let v483 : BitVec 32 := Scalar.muli c2_i32_278 v200
  let v517 : BitVec 32 := Scalar.muli c2_i32_299 v483
  let c512_i32_300 : BitVec 32 := 512#32
  let v518 : BitVec 32 := Scalar.muli v517 c512_i32_300
  let v519 : BitVec 32 := v518
  let v544 : Index := Scalar.indexCast v519
  let c0_315 : Index := 0#32
  ![v544.toNat, 0]
def k0_mult18 (i : grid0.Coords) (k0_t1 : Fin (k0_t1_loop i).trips) : BitVec 32 :=
  let c2_i32_318 : BitVec 32 := 2#32
  let c2_i32_278 : BitVec 32 := 2#32
  let c2_i32_113 : BitVec 32 := 2#32
  let c2_i32_112 : BitVec 32 := 2#32
  let c0_i32_57 : BitVec 32 := 0#32
  let c1_i32_59 : BitVec 32 := 1#32
  let arg25 : BitVec 32 := Scf.iv c0_i32_57 c1_i32_59 k0_t1
  let v198 : BitVec 32 := Scalar.muli c2_i32_112 arg25
  let v199 : BitVec 32 := Scalar.muli c2_i32_113 v198
  let c1_i32_114 : BitVec 32 := 1#32
  let v200 : BitVec 32 := Scalar.addi v199 c1_i32_114
  let v483 : BitVec 32 := Scalar.muli c2_i32_278 v200
  let v552 : BitVec 32 := Scalar.muli c2_i32_318 v483
  let c2_i32_319 : BitVec 32 := 2#32
  let v553 : BitVec 32 := Scalar.addi v552 c2_i32_319
  let arg1 : BitVec 32 := BitVec.ofNat 32 (i 1).val
  let v554 : BitVec 32 := Scalar.minsi v553 arg1
  let c512_i32_320 : BitVec 32 := 512#32
  let v555 : BitVec 32 := Scalar.muli v554 c512_i32_320
  v555
def k0_off33 (i : grid0.Coords) (k0_t1 : Fin (k0_t1_loop i).trips) : Fin 2 → Nat :=
  let c2_i32_318 : BitVec 32 := 2#32
  let c2_i32_278 : BitVec 32 := 2#32
  let c2_i32_113 : BitVec 32 := 2#32
  let c2_i32_112 : BitVec 32 := 2#32
  let c0_i32_57 : BitVec 32 := 0#32
  let c1_i32_59 : BitVec 32 := 1#32
  let arg25 : BitVec 32 := Scf.iv c0_i32_57 c1_i32_59 k0_t1
  let v198 : BitVec 32 := Scalar.muli c2_i32_112 arg25
  let v199 : BitVec 32 := Scalar.muli c2_i32_113 v198
  let c1_i32_114 : BitVec 32 := 1#32
  let v200 : BitVec 32 := Scalar.addi v199 c1_i32_114
  let v483 : BitVec 32 := Scalar.muli c2_i32_278 v200
  let v552 : BitVec 32 := Scalar.muli c2_i32_318 v483
  let c2_i32_319 : BitVec 32 := 2#32
  let v553 : BitVec 32 := Scalar.addi v552 c2_i32_319
  let arg1 : BitVec 32 := BitVec.ofNat 32 (i 1).val
  let v554 : BitVec 32 := Scalar.minsi v553 arg1
  let c512_i32_320 : BitVec 32 := 512#32
  let v555 : BitVec 32 := Scalar.muli v554 c512_i32_320
  let v556 : BitVec 32 := v555
  let v557 : Index := Scalar.indexCast v556
  let c0_321 : Index := 0#32
  ![v557.toNat, 0]
def k0_off34 (i : grid0.Coords) (k0_t1 : Fin (k0_t1_loop i).trips) : Fin 3 → Nat :=
  let c2_i32_318 : BitVec 32 := 2#32
  let c2_i32_278 : BitVec 32 := 2#32
  let c2_i32_113 : BitVec 32 := 2#32
  let c2_i32_112 : BitVec 32 := 2#32
  let c0_i32_57 : BitVec 32 := 0#32
  let c1_i32_59 : BitVec 32 := 1#32
  let arg25 : BitVec 32 := Scf.iv c0_i32_57 c1_i32_59 k0_t1
  let v198 : BitVec 32 := Scalar.muli c2_i32_112 arg25
  let v199 : BitVec 32 := Scalar.muli c2_i32_113 v198
  let c1_i32_114 : BitVec 32 := 1#32
  let v200 : BitVec 32 := Scalar.addi v199 c1_i32_114
  let v483 : BitVec 32 := Scalar.muli c2_i32_278 v200
  let v552 : BitVec 32 := Scalar.muli c2_i32_318 v483
  let c2_i32_319 : BitVec 32 := 2#32
  let v553 : BitVec 32 := Scalar.addi v552 c2_i32_319
  let arg1 : BitVec 32 := BitVec.ofNat 32 (i 1).val
  let v554 : BitVec 32 := Scalar.minsi v553 arg1
  let v562 : BitVec 1 := Scalar.cmpi .eq v554 arg1
  let v563 : BitVec 32 := Scalar.extui v562
  let v564 : Index := Scalar.indexCast v563
  let c0_324 : Index := 0#32
  let c0_325 : Index := 0#32
  ![v564.toNat, 0, 0]
def k0_mult19 (i : grid0.Coords) (k0_t1 : Fin (k0_t1_loop i).trips) : BitVec 32 :=
  let c2_i32_318 : BitVec 32 := 2#32
  let c2_i32_278 : BitVec 32 := 2#32
  let c2_i32_113 : BitVec 32 := 2#32
  let c2_i32_112 : BitVec 32 := 2#32
  let c0_i32_57 : BitVec 32 := 0#32
  let c1_i32_59 : BitVec 32 := 1#32
  let arg25 : BitVec 32 := Scf.iv c0_i32_57 c1_i32_59 k0_t1
  let v198 : BitVec 32 := Scalar.muli c2_i32_112 arg25
  let v199 : BitVec 32 := Scalar.muli c2_i32_113 v198
  let c1_i32_114 : BitVec 32 := 1#32
  let v200 : BitVec 32 := Scalar.addi v199 c1_i32_114
  let v483 : BitVec 32 := Scalar.muli c2_i32_278 v200
  let v552 : BitVec 32 := Scalar.muli c2_i32_318 v483
  let c2_i32_319 : BitVec 32 := 2#32
  let v553 : BitVec 32 := Scalar.addi v552 c2_i32_319
  let arg1 : BitVec 32 := BitVec.ofNat 32 (i 1).val
  let v554 : BitVec 32 := Scalar.minsi v553 arg1
  let c512_i32_331 : BitVec 32 := 512#32
  let v575 : BitVec 32 := Scalar.muli v554 c512_i32_331
  v575
def k0_off35 (i : grid0.Coords) (k0_t1 : Fin (k0_t1_loop i).trips) : Fin 2 → Nat :=
  let c2_i32_318 : BitVec 32 := 2#32
  let c2_i32_278 : BitVec 32 := 2#32
  let c2_i32_113 : BitVec 32 := 2#32
  let c2_i32_112 : BitVec 32 := 2#32
  let c0_i32_57 : BitVec 32 := 0#32
  let c1_i32_59 : BitVec 32 := 1#32
  let arg25 : BitVec 32 := Scf.iv c0_i32_57 c1_i32_59 k0_t1
  let v198 : BitVec 32 := Scalar.muli c2_i32_112 arg25
  let v199 : BitVec 32 := Scalar.muli c2_i32_113 v198
  let c1_i32_114 : BitVec 32 := 1#32
  let v200 : BitVec 32 := Scalar.addi v199 c1_i32_114
  let v483 : BitVec 32 := Scalar.muli c2_i32_278 v200
  let v552 : BitVec 32 := Scalar.muli c2_i32_318 v483
  let c2_i32_319 : BitVec 32 := 2#32
  let v553 : BitVec 32 := Scalar.addi v552 c2_i32_319
  let arg1 : BitVec 32 := BitVec.ofNat 32 (i 1).val
  let v554 : BitVec 32 := Scalar.minsi v553 arg1
  let c512_i32_331 : BitVec 32 := 512#32
  let v575 : BitVec 32 := Scalar.muli v554 c512_i32_331
  let v576 : BitVec 32 := v575
  let v577 : Index := Scalar.indexCast v576
  let c0_332 : Index := 0#32
  ![v577.toNat, 0]
def k0_mult20 (i : grid0.Coords) (k0_t1 : Fin (k0_t1_loop i).trips) : BitVec 32 :=
  let c2_i32_338 : BitVec 32 := 2#32
  let c2_i32_278 : BitVec 32 := 2#32
  let c2_i32_113 : BitVec 32 := 2#32
  let c2_i32_112 : BitVec 32 := 2#32
  let c0_i32_57 : BitVec 32 := 0#32
  let c1_i32_59 : BitVec 32 := 1#32
  let arg25 : BitVec 32 := Scf.iv c0_i32_57 c1_i32_59 k0_t1
  let v198 : BitVec 32 := Scalar.muli c2_i32_112 arg25
  let v199 : BitVec 32 := Scalar.muli c2_i32_113 v198
  let c1_i32_114 : BitVec 32 := 1#32
  let v200 : BitVec 32 := Scalar.addi v199 c1_i32_114
  let v483 : BitVec 32 := Scalar.muli c2_i32_278 v200
  let v586 : BitVec 32 := Scalar.muli c2_i32_338 v483
  let c1_i32_339 : BitVec 32 := 1#32
  let v587 : BitVec 32 := Scalar.addi v586 c1_i32_339
  let c512_i32_340 : BitVec 32 := 512#32
  let v588 : BitVec 32 := Scalar.muli v587 c512_i32_340
  v588
def k0_mult21 (i : grid0.Coords) (k0_t1 : Fin (k0_t1_loop i).trips) : BitVec 32 :=
  let c2_i32_358 : BitVec 32 := 2#32
  let c2_i32_276 : BitVec 32 := 2#32
  let c2_i32_113 : BitVec 32 := 2#32
  let c2_i32_112 : BitVec 32 := 2#32
  let c0_i32_57 : BitVec 32 := 0#32
  let c1_i32_59 : BitVec 32 := 1#32
  let arg25 : BitVec 32 := Scf.iv c0_i32_57 c1_i32_59 k0_t1
  let v198 : BitVec 32 := Scalar.muli c2_i32_112 arg25
  let v199 : BitVec 32 := Scalar.muli c2_i32_113 v198
  let c1_i32_114 : BitVec 32 := 1#32
  let v200 : BitVec 32 := Scalar.addi v199 c1_i32_114
  let v481 : BitVec 32 := Scalar.muli c2_i32_276 v200
  let c1_i32_277 : BitVec 32 := 1#32
  let v482 : BitVec 32 := Scalar.addi v481 c1_i32_277
  let v622 : BitVec 32 := Scalar.muli c2_i32_358 v482
  let c1_i32_359 : BitVec 32 := 1#32
  let v623 : BitVec 32 := Scalar.addi v622 c1_i32_359
  let c512_i32_360 : BitVec 32 := 512#32
  let v624 : BitVec 32 := Scalar.muli v623 c512_i32_360
  v624
def k0_off36 (i : grid0.Coords) (k0_t1 : Fin (k0_t1_loop i).trips) : Fin 2 → Nat :=
  let c2_i32_358 : BitVec 32 := 2#32
  let c2_i32_276 : BitVec 32 := 2#32
  let c2_i32_113 : BitVec 32 := 2#32
  let c2_i32_112 : BitVec 32 := 2#32
  let c0_i32_57 : BitVec 32 := 0#32
  let c1_i32_59 : BitVec 32 := 1#32
  let arg25 : BitVec 32 := Scf.iv c0_i32_57 c1_i32_59 k0_t1
  let v198 : BitVec 32 := Scalar.muli c2_i32_112 arg25
  let v199 : BitVec 32 := Scalar.muli c2_i32_113 v198
  let c1_i32_114 : BitVec 32 := 1#32
  let v200 : BitVec 32 := Scalar.addi v199 c1_i32_114
  let v481 : BitVec 32 := Scalar.muli c2_i32_276 v200
  let c1_i32_277 : BitVec 32 := 1#32
  let v482 : BitVec 32 := Scalar.addi v481 c1_i32_277
  let v622 : BitVec 32 := Scalar.muli c2_i32_358 v482
  let c1_i32_359 : BitVec 32 := 1#32
  let v623 : BitVec 32 := Scalar.addi v622 c1_i32_359
  let c512_i32_360 : BitVec 32 := 512#32
  let v624 : BitVec 32 := Scalar.muli v623 c512_i32_360
  let v625 : BitVec 32 := v624
  let v626 : Index := Scalar.indexCast v625
  let c0_361 : Index := 0#32
  ![v626.toNat, 0]
def k0_off37 (i : grid0.Coords) (k0_t1 : Fin (k0_t1_loop i).trips) : Fin 3 → Nat :=
  let c2_i32_358 : BitVec 32 := 2#32
  let c2_i32_276 : BitVec 32 := 2#32
  let c2_i32_113 : BitVec 32 := 2#32
  let c2_i32_112 : BitVec 32 := 2#32
  let c0_i32_57 : BitVec 32 := 0#32
  let c1_i32_59 : BitVec 32 := 1#32
  let arg25 : BitVec 32 := Scf.iv c0_i32_57 c1_i32_59 k0_t1
  let v198 : BitVec 32 := Scalar.muli c2_i32_112 arg25
  let v199 : BitVec 32 := Scalar.muli c2_i32_113 v198
  let c1_i32_114 : BitVec 32 := 1#32
  let v200 : BitVec 32 := Scalar.addi v199 c1_i32_114
  let v481 : BitVec 32 := Scalar.muli c2_i32_276 v200
  let c1_i32_277 : BitVec 32 := 1#32
  let v482 : BitVec 32 := Scalar.addi v481 c1_i32_277
  let v622 : BitVec 32 := Scalar.muli c2_i32_358 v482
  let c1_i32_359 : BitVec 32 := 1#32
  let v623 : BitVec 32 := Scalar.addi v622 c1_i32_359
  let arg1 : BitVec 32 := BitVec.ofNat 32 (i 1).val
  let v631 : BitVec 1 := Scalar.cmpi .eq v623 arg1
  let v632 : BitVec 32 := Scalar.extui v631
  let v633 : Index := Scalar.indexCast v632
  let c0_364 : Index := 0#32
  let c0_365 : Index := 0#32
  ![v633.toNat, 0, 0]
def k0_mult22 (i : grid0.Coords) (k0_t1 : Fin (k0_t1_loop i).trips) : BitVec 32 :=
  let c2_i32_358 : BitVec 32 := 2#32
  let c2_i32_276 : BitVec 32 := 2#32
  let c2_i32_113 : BitVec 32 := 2#32
  let c2_i32_112 : BitVec 32 := 2#32
  let c0_i32_57 : BitVec 32 := 0#32
  let c1_i32_59 : BitVec 32 := 1#32
  let arg25 : BitVec 32 := Scf.iv c0_i32_57 c1_i32_59 k0_t1
  let v198 : BitVec 32 := Scalar.muli c2_i32_112 arg25
  let v199 : BitVec 32 := Scalar.muli c2_i32_113 v198
  let c1_i32_114 : BitVec 32 := 1#32
  let v200 : BitVec 32 := Scalar.addi v199 c1_i32_114
  let v481 : BitVec 32 := Scalar.muli c2_i32_276 v200
  let c1_i32_277 : BitVec 32 := 1#32
  let v482 : BitVec 32 := Scalar.addi v481 c1_i32_277
  let v622 : BitVec 32 := Scalar.muli c2_i32_358 v482
  let c1_i32_359 : BitVec 32 := 1#32
  let v623 : BitVec 32 := Scalar.addi v622 c1_i32_359
  let c512_i32_371 : BitVec 32 := 512#32
  let v644 : BitVec 32 := Scalar.muli v623 c512_i32_371
  v644
def k0_off38 (i : grid0.Coords) (k0_t1 : Fin (k0_t1_loop i).trips) : Fin 2 → Nat :=
  let c2_i32_358 : BitVec 32 := 2#32
  let c2_i32_276 : BitVec 32 := 2#32
  let c2_i32_113 : BitVec 32 := 2#32
  let c2_i32_112 : BitVec 32 := 2#32
  let c0_i32_57 : BitVec 32 := 0#32
  let c1_i32_59 : BitVec 32 := 1#32
  let arg25 : BitVec 32 := Scf.iv c0_i32_57 c1_i32_59 k0_t1
  let v198 : BitVec 32 := Scalar.muli c2_i32_112 arg25
  let v199 : BitVec 32 := Scalar.muli c2_i32_113 v198
  let c1_i32_114 : BitVec 32 := 1#32
  let v200 : BitVec 32 := Scalar.addi v199 c1_i32_114
  let v481 : BitVec 32 := Scalar.muli c2_i32_276 v200
  let c1_i32_277 : BitVec 32 := 1#32
  let v482 : BitVec 32 := Scalar.addi v481 c1_i32_277
  let v622 : BitVec 32 := Scalar.muli c2_i32_358 v482
  let c1_i32_359 : BitVec 32 := 1#32
  let v623 : BitVec 32 := Scalar.addi v622 c1_i32_359
  let c512_i32_371 : BitVec 32 := 512#32
  let v644 : BitVec 32 := Scalar.muli v623 c512_i32_371
  let v645 : BitVec 32 := v644
  let v646 : Index := Scalar.indexCast v645
  let c0_372 : Index := 0#32
  ![v646.toNat, 0]
def k0_mult23 (i : grid0.Coords) (k0_t1 : Fin (k0_t1_loop i).trips) : BitVec 32 :=
  let c2_i32_378 : BitVec 32 := 2#32
  let c2_i32_276 : BitVec 32 := 2#32
  let c2_i32_113 : BitVec 32 := 2#32
  let c2_i32_112 : BitVec 32 := 2#32
  let c0_i32_57 : BitVec 32 := 0#32
  let c1_i32_59 : BitVec 32 := 1#32
  let arg25 : BitVec 32 := Scf.iv c0_i32_57 c1_i32_59 k0_t1
  let v198 : BitVec 32 := Scalar.muli c2_i32_112 arg25
  let v199 : BitVec 32 := Scalar.muli c2_i32_113 v198
  let c1_i32_114 : BitVec 32 := 1#32
  let v200 : BitVec 32 := Scalar.addi v199 c1_i32_114
  let v481 : BitVec 32 := Scalar.muli c2_i32_276 v200
  let c1_i32_277 : BitVec 32 := 1#32
  let v482 : BitVec 32 := Scalar.addi v481 c1_i32_277
  let v655 : BitVec 32 := Scalar.muli c2_i32_378 v482
  let c512_i32_379 : BitVec 32 := 512#32
  let v656 : BitVec 32 := Scalar.muli v655 c512_i32_379
  v656
def k0_off39 (i : grid0.Coords) (k0_t1 : Fin (k0_t1_loop i).trips) : Fin 2 → Nat :=
  let c2_i32_378 : BitVec 32 := 2#32
  let c2_i32_276 : BitVec 32 := 2#32
  let c2_i32_113 : BitVec 32 := 2#32
  let c2_i32_112 : BitVec 32 := 2#32
  let c0_i32_57 : BitVec 32 := 0#32
  let c1_i32_59 : BitVec 32 := 1#32
  let arg25 : BitVec 32 := Scf.iv c0_i32_57 c1_i32_59 k0_t1
  let v198 : BitVec 32 := Scalar.muli c2_i32_112 arg25
  let v199 : BitVec 32 := Scalar.muli c2_i32_113 v198
  let c1_i32_114 : BitVec 32 := 1#32
  let v200 : BitVec 32 := Scalar.addi v199 c1_i32_114
  let v481 : BitVec 32 := Scalar.muli c2_i32_276 v200
  let c1_i32_277 : BitVec 32 := 1#32
  let v482 : BitVec 32 := Scalar.addi v481 c1_i32_277
  let v655 : BitVec 32 := Scalar.muli c2_i32_378 v482
  let c512_i32_379 : BitVec 32 := 512#32
  let v656 : BitVec 32 := Scalar.muli v655 c512_i32_379
  let v657 : BitVec 32 := v656
  let v667 : Index := Scalar.indexCast v657
  let c0_387 : Index := 0#32
  ![v667.toNat, 0]
def k0_off40 (i : grid0.Coords) (k0_t1 : Fin (k0_t1_loop i).trips) : Fin 2 → Nat :=
  let c2_i32_378 : BitVec 32 := 2#32
  let c2_i32_276 : BitVec 32 := 2#32
  let c2_i32_113 : BitVec 32 := 2#32
  let c2_i32_112 : BitVec 32 := 2#32
  let c0_i32_57 : BitVec 32 := 0#32
  let c1_i32_59 : BitVec 32 := 1#32
  let arg25 : BitVec 32 := Scf.iv c0_i32_57 c1_i32_59 k0_t1
  let v198 : BitVec 32 := Scalar.muli c2_i32_112 arg25
  let v199 : BitVec 32 := Scalar.muli c2_i32_113 v198
  let c1_i32_114 : BitVec 32 := 1#32
  let v200 : BitVec 32 := Scalar.addi v199 c1_i32_114
  let v481 : BitVec 32 := Scalar.muli c2_i32_276 v200
  let c1_i32_277 : BitVec 32 := 1#32
  let v482 : BitVec 32 := Scalar.addi v481 c1_i32_277
  let v655 : BitVec 32 := Scalar.muli c2_i32_378 v482
  let c512_i32_379 : BitVec 32 := 512#32
  let v656 : BitVec 32 := Scalar.muli v655 c512_i32_379
  let v657 : BitVec 32 := v656
  let v682 : Index := Scalar.indexCast v657
  let c0_394 : Index := 0#32
  ![v682.toNat, 0]
def k0_mult24 (i : grid0.Coords) (k0_t1 : Fin (k0_t1_loop i).trips) : BitVec 32 :=
  let c2_i32_397 : BitVec 32 := 2#32
  let c2_i32_276 : BitVec 32 := 2#32
  let c2_i32_113 : BitVec 32 := 2#32
  let c2_i32_112 : BitVec 32 := 2#32
  let c0_i32_57 : BitVec 32 := 0#32
  let c1_i32_59 : BitVec 32 := 1#32
  let arg25 : BitVec 32 := Scf.iv c0_i32_57 c1_i32_59 k0_t1
  let v198 : BitVec 32 := Scalar.muli c2_i32_112 arg25
  let v199 : BitVec 32 := Scalar.muli c2_i32_113 v198
  let c1_i32_114 : BitVec 32 := 1#32
  let v200 : BitVec 32 := Scalar.addi v199 c1_i32_114
  let v481 : BitVec 32 := Scalar.muli c2_i32_276 v200
  let c1_i32_277 : BitVec 32 := 1#32
  let v482 : BitVec 32 := Scalar.addi v481 c1_i32_277
  let v690 : BitVec 32 := Scalar.muli c2_i32_397 v482
  let c2_i32_398 : BitVec 32 := 2#32
  let v691 : BitVec 32 := Scalar.addi v690 c2_i32_398
  let arg1 : BitVec 32 := BitVec.ofNat 32 (i 1).val
  let v692 : BitVec 32 := Scalar.minsi v691 arg1
  let c512_i32_399 : BitVec 32 := 512#32
  let v693 : BitVec 32 := Scalar.muli v692 c512_i32_399
  v693
def k0_off41 (i : grid0.Coords) (k0_t1 : Fin (k0_t1_loop i).trips) : Fin 2 → Nat :=
  let c2_i32_397 : BitVec 32 := 2#32
  let c2_i32_276 : BitVec 32 := 2#32
  let c2_i32_113 : BitVec 32 := 2#32
  let c2_i32_112 : BitVec 32 := 2#32
  let c0_i32_57 : BitVec 32 := 0#32
  let c1_i32_59 : BitVec 32 := 1#32
  let arg25 : BitVec 32 := Scf.iv c0_i32_57 c1_i32_59 k0_t1
  let v198 : BitVec 32 := Scalar.muli c2_i32_112 arg25
  let v199 : BitVec 32 := Scalar.muli c2_i32_113 v198
  let c1_i32_114 : BitVec 32 := 1#32
  let v200 : BitVec 32 := Scalar.addi v199 c1_i32_114
  let v481 : BitVec 32 := Scalar.muli c2_i32_276 v200
  let c1_i32_277 : BitVec 32 := 1#32
  let v482 : BitVec 32 := Scalar.addi v481 c1_i32_277
  let v690 : BitVec 32 := Scalar.muli c2_i32_397 v482
  let c2_i32_398 : BitVec 32 := 2#32
  let v691 : BitVec 32 := Scalar.addi v690 c2_i32_398
  let arg1 : BitVec 32 := BitVec.ofNat 32 (i 1).val
  let v692 : BitVec 32 := Scalar.minsi v691 arg1
  let c512_i32_399 : BitVec 32 := 512#32
  let v693 : BitVec 32 := Scalar.muli v692 c512_i32_399
  let v694 : BitVec 32 := v693
  let v695 : Index := Scalar.indexCast v694
  let c0_400 : Index := 0#32
  ![v695.toNat, 0]
def k0_off42 (i : grid0.Coords) (k0_t1 : Fin (k0_t1_loop i).trips) : Fin 3 → Nat :=
  let c2_i32_397 : BitVec 32 := 2#32
  let c2_i32_276 : BitVec 32 := 2#32
  let c2_i32_113 : BitVec 32 := 2#32
  let c2_i32_112 : BitVec 32 := 2#32
  let c0_i32_57 : BitVec 32 := 0#32
  let c1_i32_59 : BitVec 32 := 1#32
  let arg25 : BitVec 32 := Scf.iv c0_i32_57 c1_i32_59 k0_t1
  let v198 : BitVec 32 := Scalar.muli c2_i32_112 arg25
  let v199 : BitVec 32 := Scalar.muli c2_i32_113 v198
  let c1_i32_114 : BitVec 32 := 1#32
  let v200 : BitVec 32 := Scalar.addi v199 c1_i32_114
  let v481 : BitVec 32 := Scalar.muli c2_i32_276 v200
  let c1_i32_277 : BitVec 32 := 1#32
  let v482 : BitVec 32 := Scalar.addi v481 c1_i32_277
  let v690 : BitVec 32 := Scalar.muli c2_i32_397 v482
  let c2_i32_398 : BitVec 32 := 2#32
  let v691 : BitVec 32 := Scalar.addi v690 c2_i32_398
  let arg1 : BitVec 32 := BitVec.ofNat 32 (i 1).val
  let v692 : BitVec 32 := Scalar.minsi v691 arg1
  let v700 : BitVec 1 := Scalar.cmpi .eq v692 arg1
  let v701 : BitVec 32 := Scalar.extui v700
  let v702 : Index := Scalar.indexCast v701
  let c0_403 : Index := 0#32
  let c0_404 : Index := 0#32
  ![v702.toNat, 0, 0]
def k0_mult25 (i : grid0.Coords) (k0_t1 : Fin (k0_t1_loop i).trips) : BitVec 32 :=
  let c2_i32_397 : BitVec 32 := 2#32
  let c2_i32_276 : BitVec 32 := 2#32
  let c2_i32_113 : BitVec 32 := 2#32
  let c2_i32_112 : BitVec 32 := 2#32
  let c0_i32_57 : BitVec 32 := 0#32
  let c1_i32_59 : BitVec 32 := 1#32
  let arg25 : BitVec 32 := Scf.iv c0_i32_57 c1_i32_59 k0_t1
  let v198 : BitVec 32 := Scalar.muli c2_i32_112 arg25
  let v199 : BitVec 32 := Scalar.muli c2_i32_113 v198
  let c1_i32_114 : BitVec 32 := 1#32
  let v200 : BitVec 32 := Scalar.addi v199 c1_i32_114
  let v481 : BitVec 32 := Scalar.muli c2_i32_276 v200
  let c1_i32_277 : BitVec 32 := 1#32
  let v482 : BitVec 32 := Scalar.addi v481 c1_i32_277
  let v690 : BitVec 32 := Scalar.muli c2_i32_397 v482
  let c2_i32_398 : BitVec 32 := 2#32
  let v691 : BitVec 32 := Scalar.addi v690 c2_i32_398
  let arg1 : BitVec 32 := BitVec.ofNat 32 (i 1).val
  let v692 : BitVec 32 := Scalar.minsi v691 arg1
  let c512_i32_410 : BitVec 32 := 512#32
  let v713 : BitVec 32 := Scalar.muli v692 c512_i32_410
  v713
def k0_off43 (i : grid0.Coords) (k0_t1 : Fin (k0_t1_loop i).trips) : Fin 2 → Nat :=
  let c2_i32_397 : BitVec 32 := 2#32
  let c2_i32_276 : BitVec 32 := 2#32
  let c2_i32_113 : BitVec 32 := 2#32
  let c2_i32_112 : BitVec 32 := 2#32
  let c0_i32_57 : BitVec 32 := 0#32
  let c1_i32_59 : BitVec 32 := 1#32
  let arg25 : BitVec 32 := Scf.iv c0_i32_57 c1_i32_59 k0_t1
  let v198 : BitVec 32 := Scalar.muli c2_i32_112 arg25
  let v199 : BitVec 32 := Scalar.muli c2_i32_113 v198
  let c1_i32_114 : BitVec 32 := 1#32
  let v200 : BitVec 32 := Scalar.addi v199 c1_i32_114
  let v481 : BitVec 32 := Scalar.muli c2_i32_276 v200
  let c1_i32_277 : BitVec 32 := 1#32
  let v482 : BitVec 32 := Scalar.addi v481 c1_i32_277
  let v690 : BitVec 32 := Scalar.muli c2_i32_397 v482
  let c2_i32_398 : BitVec 32 := 2#32
  let v691 : BitVec 32 := Scalar.addi v690 c2_i32_398
  let arg1 : BitVec 32 := BitVec.ofNat 32 (i 1).val
  let v692 : BitVec 32 := Scalar.minsi v691 arg1
  let c512_i32_410 : BitVec 32 := 512#32
  let v713 : BitVec 32 := Scalar.muli v692 c512_i32_410
  let v714 : BitVec 32 := v713
  let v715 : Index := Scalar.indexCast v714
  let c0_411 : Index := 0#32
  ![v715.toNat, 0]
def k0_mult26 (i : grid0.Coords) (k0_t1 : Fin (k0_t1_loop i).trips) : BitVec 32 :=
  let c2_i32_417 : BitVec 32 := 2#32
  let c2_i32_276 : BitVec 32 := 2#32
  let c2_i32_113 : BitVec 32 := 2#32
  let c2_i32_112 : BitVec 32 := 2#32
  let c0_i32_57 : BitVec 32 := 0#32
  let c1_i32_59 : BitVec 32 := 1#32
  let arg25 : BitVec 32 := Scf.iv c0_i32_57 c1_i32_59 k0_t1
  let v198 : BitVec 32 := Scalar.muli c2_i32_112 arg25
  let v199 : BitVec 32 := Scalar.muli c2_i32_113 v198
  let c1_i32_114 : BitVec 32 := 1#32
  let v200 : BitVec 32 := Scalar.addi v199 c1_i32_114
  let v481 : BitVec 32 := Scalar.muli c2_i32_276 v200
  let c1_i32_277 : BitVec 32 := 1#32
  let v482 : BitVec 32 := Scalar.addi v481 c1_i32_277
  let v724 : BitVec 32 := Scalar.muli c2_i32_417 v482
  let c1_i32_418 : BitVec 32 := 1#32
  let v725 : BitVec 32 := Scalar.addi v724 c1_i32_418
  let c512_i32_419 : BitVec 32 := 512#32
  let v726 : BitVec 32 := Scalar.muli v725 c512_i32_419
  v726
def k0_mult27 (i : grid0.Coords) (k0_t1 : Fin (k0_t1_loop i).trips) : BitVec 32 :=
  let c2_i32_443 : BitVec 32 := 2#32
  let c2_i32_442 : BitVec 32 := 2#32
  let c2_i32_439 : BitVec 32 := 2#32
  let c2_i32_110 : BitVec 32 := 2#32
  let c0_i32_57 : BitVec 32 := 0#32
  let c1_i32_59 : BitVec 32 := 1#32
  let arg25 : BitVec 32 := Scf.iv c0_i32_57 c1_i32_59 k0_t1
  let v196 : BitVec 32 := Scalar.muli c2_i32_110 arg25
  let c1_i32_111 : BitVec 32 := 1#32
  let v197 : BitVec 32 := Scalar.addi v196 c1_i32_111
  let v762 : BitVec 32 := Scalar.muli c2_i32_439 v197
  let v765 : BitVec 32 := Scalar.muli c2_i32_442 v762
  let v766 : BitVec 32 := Scalar.muli c2_i32_443 v765
  let c1_i32_444 : BitVec 32 := 1#32
  let v767 : BitVec 32 := Scalar.addi v766 c1_i32_444
  let c512_i32_445 : BitVec 32 := 512#32
  let v768 : BitVec 32 := Scalar.muli v767 c512_i32_445
  v768
def k0_off44 (i : grid0.Coords) (k0_t1 : Fin (k0_t1_loop i).trips) : Fin 2 → Nat :=
  let c2_i32_443 : BitVec 32 := 2#32
  let c2_i32_442 : BitVec 32 := 2#32
  let c2_i32_439 : BitVec 32 := 2#32
  let c2_i32_110 : BitVec 32 := 2#32
  let c0_i32_57 : BitVec 32 := 0#32
  let c1_i32_59 : BitVec 32 := 1#32
  let arg25 : BitVec 32 := Scf.iv c0_i32_57 c1_i32_59 k0_t1
  let v196 : BitVec 32 := Scalar.muli c2_i32_110 arg25
  let c1_i32_111 : BitVec 32 := 1#32
  let v197 : BitVec 32 := Scalar.addi v196 c1_i32_111
  let v762 : BitVec 32 := Scalar.muli c2_i32_439 v197
  let v765 : BitVec 32 := Scalar.muli c2_i32_442 v762
  let v766 : BitVec 32 := Scalar.muli c2_i32_443 v765
  let c1_i32_444 : BitVec 32 := 1#32
  let v767 : BitVec 32 := Scalar.addi v766 c1_i32_444
  let c512_i32_445 : BitVec 32 := 512#32
  let v768 : BitVec 32 := Scalar.muli v767 c512_i32_445
  let v769 : BitVec 32 := v768
  let v770 : Index := Scalar.indexCast v769
  let c0_446 : Index := 0#32
  ![v770.toNat, 0]
def k0_off45 (i : grid0.Coords) (k0_t1 : Fin (k0_t1_loop i).trips) : Fin 3 → Nat :=
  let c2_i32_443 : BitVec 32 := 2#32
  let c2_i32_442 : BitVec 32 := 2#32
  let c2_i32_439 : BitVec 32 := 2#32
  let c2_i32_110 : BitVec 32 := 2#32
  let c0_i32_57 : BitVec 32 := 0#32
  let c1_i32_59 : BitVec 32 := 1#32
  let arg25 : BitVec 32 := Scf.iv c0_i32_57 c1_i32_59 k0_t1
  let v196 : BitVec 32 := Scalar.muli c2_i32_110 arg25
  let c1_i32_111 : BitVec 32 := 1#32
  let v197 : BitVec 32 := Scalar.addi v196 c1_i32_111
  let v762 : BitVec 32 := Scalar.muli c2_i32_439 v197
  let v765 : BitVec 32 := Scalar.muli c2_i32_442 v762
  let v766 : BitVec 32 := Scalar.muli c2_i32_443 v765
  let c1_i32_444 : BitVec 32 := 1#32
  let v767 : BitVec 32 := Scalar.addi v766 c1_i32_444
  let arg1 : BitVec 32 := BitVec.ofNat 32 (i 1).val
  let v775 : BitVec 1 := Scalar.cmpi .eq v767 arg1
  let v776 : BitVec 32 := Scalar.extui v775
  let v777 : Index := Scalar.indexCast v776
  let c0_449 : Index := 0#32
  let c0_450 : Index := 0#32
  ![v777.toNat, 0, 0]
def k0_mult28 (i : grid0.Coords) (k0_t1 : Fin (k0_t1_loop i).trips) : BitVec 32 :=
  let c2_i32_443 : BitVec 32 := 2#32
  let c2_i32_442 : BitVec 32 := 2#32
  let c2_i32_439 : BitVec 32 := 2#32
  let c2_i32_110 : BitVec 32 := 2#32
  let c0_i32_57 : BitVec 32 := 0#32
  let c1_i32_59 : BitVec 32 := 1#32
  let arg25 : BitVec 32 := Scf.iv c0_i32_57 c1_i32_59 k0_t1
  let v196 : BitVec 32 := Scalar.muli c2_i32_110 arg25
  let c1_i32_111 : BitVec 32 := 1#32
  let v197 : BitVec 32 := Scalar.addi v196 c1_i32_111
  let v762 : BitVec 32 := Scalar.muli c2_i32_439 v197
  let v765 : BitVec 32 := Scalar.muli c2_i32_442 v762
  let v766 : BitVec 32 := Scalar.muli c2_i32_443 v765
  let c1_i32_444 : BitVec 32 := 1#32
  let v767 : BitVec 32 := Scalar.addi v766 c1_i32_444
  let c512_i32_456 : BitVec 32 := 512#32
  let v788 : BitVec 32 := Scalar.muli v767 c512_i32_456
  v788
def k0_off46 (i : grid0.Coords) (k0_t1 : Fin (k0_t1_loop i).trips) : Fin 2 → Nat :=
  let c2_i32_443 : BitVec 32 := 2#32
  let c2_i32_442 : BitVec 32 := 2#32
  let c2_i32_439 : BitVec 32 := 2#32
  let c2_i32_110 : BitVec 32 := 2#32
  let c0_i32_57 : BitVec 32 := 0#32
  let c1_i32_59 : BitVec 32 := 1#32
  let arg25 : BitVec 32 := Scf.iv c0_i32_57 c1_i32_59 k0_t1
  let v196 : BitVec 32 := Scalar.muli c2_i32_110 arg25
  let c1_i32_111 : BitVec 32 := 1#32
  let v197 : BitVec 32 := Scalar.addi v196 c1_i32_111
  let v762 : BitVec 32 := Scalar.muli c2_i32_439 v197
  let v765 : BitVec 32 := Scalar.muli c2_i32_442 v762
  let v766 : BitVec 32 := Scalar.muli c2_i32_443 v765
  let c1_i32_444 : BitVec 32 := 1#32
  let v767 : BitVec 32 := Scalar.addi v766 c1_i32_444
  let c512_i32_456 : BitVec 32 := 512#32
  let v788 : BitVec 32 := Scalar.muli v767 c512_i32_456
  let v789 : BitVec 32 := v788
  let v790 : Index := Scalar.indexCast v789
  let c0_457 : Index := 0#32
  ![v790.toNat, 0]
def k0_mult29 (i : grid0.Coords) (k0_t1 : Fin (k0_t1_loop i).trips) : BitVec 32 :=
  let c2_i32_463 : BitVec 32 := 2#32
  let c2_i32_442 : BitVec 32 := 2#32
  let c2_i32_439 : BitVec 32 := 2#32
  let c2_i32_110 : BitVec 32 := 2#32
  let c0_i32_57 : BitVec 32 := 0#32
  let c1_i32_59 : BitVec 32 := 1#32
  let arg25 : BitVec 32 := Scf.iv c0_i32_57 c1_i32_59 k0_t1
  let v196 : BitVec 32 := Scalar.muli c2_i32_110 arg25
  let c1_i32_111 : BitVec 32 := 1#32
  let v197 : BitVec 32 := Scalar.addi v196 c1_i32_111
  let v762 : BitVec 32 := Scalar.muli c2_i32_439 v197
  let v765 : BitVec 32 := Scalar.muli c2_i32_442 v762
  let v799 : BitVec 32 := Scalar.muli c2_i32_463 v765
  let c512_i32_464 : BitVec 32 := 512#32
  let v800 : BitVec 32 := Scalar.muli v799 c512_i32_464
  v800
def k0_off47 (i : grid0.Coords) (k0_t1 : Fin (k0_t1_loop i).trips) : Fin 2 → Nat :=
  let c2_i32_463 : BitVec 32 := 2#32
  let c2_i32_442 : BitVec 32 := 2#32
  let c2_i32_439 : BitVec 32 := 2#32
  let c2_i32_110 : BitVec 32 := 2#32
  let c0_i32_57 : BitVec 32 := 0#32
  let c1_i32_59 : BitVec 32 := 1#32
  let arg25 : BitVec 32 := Scf.iv c0_i32_57 c1_i32_59 k0_t1
  let v196 : BitVec 32 := Scalar.muli c2_i32_110 arg25
  let c1_i32_111 : BitVec 32 := 1#32
  let v197 : BitVec 32 := Scalar.addi v196 c1_i32_111
  let v762 : BitVec 32 := Scalar.muli c2_i32_439 v197
  let v765 : BitVec 32 := Scalar.muli c2_i32_442 v762
  let v799 : BitVec 32 := Scalar.muli c2_i32_463 v765
  let c512_i32_464 : BitVec 32 := 512#32
  let v800 : BitVec 32 := Scalar.muli v799 c512_i32_464
  let v801 : BitVec 32 := v800
  let v811 : Index := Scalar.indexCast v801
  let c0_472 : Index := 0#32
  ![v811.toNat, 0]
def k0_off48 (i : grid0.Coords) (k0_t1 : Fin (k0_t1_loop i).trips) : Fin 2 → Nat :=
  let c2_i32_463 : BitVec 32 := 2#32
  let c2_i32_442 : BitVec 32 := 2#32
  let c2_i32_439 : BitVec 32 := 2#32
  let c2_i32_110 : BitVec 32 := 2#32
  let c0_i32_57 : BitVec 32 := 0#32
  let c1_i32_59 : BitVec 32 := 1#32
  let arg25 : BitVec 32 := Scf.iv c0_i32_57 c1_i32_59 k0_t1
  let v196 : BitVec 32 := Scalar.muli c2_i32_110 arg25
  let c1_i32_111 : BitVec 32 := 1#32
  let v197 : BitVec 32 := Scalar.addi v196 c1_i32_111
  let v762 : BitVec 32 := Scalar.muli c2_i32_439 v197
  let v765 : BitVec 32 := Scalar.muli c2_i32_442 v762
  let v799 : BitVec 32 := Scalar.muli c2_i32_463 v765
  let c512_i32_464 : BitVec 32 := 512#32
  let v800 : BitVec 32 := Scalar.muli v799 c512_i32_464
  let v801 : BitVec 32 := v800
  let v826 : Index := Scalar.indexCast v801
  let c0_479 : Index := 0#32
  ![v826.toNat, 0]
def k0_mult30 (i : grid0.Coords) (k0_t1 : Fin (k0_t1_loop i).trips) : BitVec 32 :=
  let c2_i32_482 : BitVec 32 := 2#32
  let c2_i32_442 : BitVec 32 := 2#32
  let c2_i32_439 : BitVec 32 := 2#32
  let c2_i32_110 : BitVec 32 := 2#32
  let c0_i32_57 : BitVec 32 := 0#32
  let c1_i32_59 : BitVec 32 := 1#32
  let arg25 : BitVec 32 := Scf.iv c0_i32_57 c1_i32_59 k0_t1
  let v196 : BitVec 32 := Scalar.muli c2_i32_110 arg25
  let c1_i32_111 : BitVec 32 := 1#32
  let v197 : BitVec 32 := Scalar.addi v196 c1_i32_111
  let v762 : BitVec 32 := Scalar.muli c2_i32_439 v197
  let v765 : BitVec 32 := Scalar.muli c2_i32_442 v762
  let v834 : BitVec 32 := Scalar.muli c2_i32_482 v765
  let c2_i32_483 : BitVec 32 := 2#32
  let v835 : BitVec 32 := Scalar.addi v834 c2_i32_483
  let arg1 : BitVec 32 := BitVec.ofNat 32 (i 1).val
  let v836 : BitVec 32 := Scalar.minsi v835 arg1
  let c512_i32_484 : BitVec 32 := 512#32
  let v837 : BitVec 32 := Scalar.muli v836 c512_i32_484
  v837
def k0_off49 (i : grid0.Coords) (k0_t1 : Fin (k0_t1_loop i).trips) : Fin 2 → Nat :=
  let c2_i32_482 : BitVec 32 := 2#32
  let c2_i32_442 : BitVec 32 := 2#32
  let c2_i32_439 : BitVec 32 := 2#32
  let c2_i32_110 : BitVec 32 := 2#32
  let c0_i32_57 : BitVec 32 := 0#32
  let c1_i32_59 : BitVec 32 := 1#32
  let arg25 : BitVec 32 := Scf.iv c0_i32_57 c1_i32_59 k0_t1
  let v196 : BitVec 32 := Scalar.muli c2_i32_110 arg25
  let c1_i32_111 : BitVec 32 := 1#32
  let v197 : BitVec 32 := Scalar.addi v196 c1_i32_111
  let v762 : BitVec 32 := Scalar.muli c2_i32_439 v197
  let v765 : BitVec 32 := Scalar.muli c2_i32_442 v762
  let v834 : BitVec 32 := Scalar.muli c2_i32_482 v765
  let c2_i32_483 : BitVec 32 := 2#32
  let v835 : BitVec 32 := Scalar.addi v834 c2_i32_483
  let arg1 : BitVec 32 := BitVec.ofNat 32 (i 1).val
  let v836 : BitVec 32 := Scalar.minsi v835 arg1
  let c512_i32_484 : BitVec 32 := 512#32
  let v837 : BitVec 32 := Scalar.muli v836 c512_i32_484
  let v838 : BitVec 32 := v837
  let v839 : Index := Scalar.indexCast v838
  let c0_485 : Index := 0#32
  ![v839.toNat, 0]
def k0_off50 (i : grid0.Coords) (k0_t1 : Fin (k0_t1_loop i).trips) : Fin 3 → Nat :=
  let c2_i32_482 : BitVec 32 := 2#32
  let c2_i32_442 : BitVec 32 := 2#32
  let c2_i32_439 : BitVec 32 := 2#32
  let c2_i32_110 : BitVec 32 := 2#32
  let c0_i32_57 : BitVec 32 := 0#32
  let c1_i32_59 : BitVec 32 := 1#32
  let arg25 : BitVec 32 := Scf.iv c0_i32_57 c1_i32_59 k0_t1
  let v196 : BitVec 32 := Scalar.muli c2_i32_110 arg25
  let c1_i32_111 : BitVec 32 := 1#32
  let v197 : BitVec 32 := Scalar.addi v196 c1_i32_111
  let v762 : BitVec 32 := Scalar.muli c2_i32_439 v197
  let v765 : BitVec 32 := Scalar.muli c2_i32_442 v762
  let v834 : BitVec 32 := Scalar.muli c2_i32_482 v765
  let c2_i32_483 : BitVec 32 := 2#32
  let v835 : BitVec 32 := Scalar.addi v834 c2_i32_483
  let arg1 : BitVec 32 := BitVec.ofNat 32 (i 1).val
  let v836 : BitVec 32 := Scalar.minsi v835 arg1
  let v844 : BitVec 1 := Scalar.cmpi .eq v836 arg1
  let v845 : BitVec 32 := Scalar.extui v844
  let v846 : Index := Scalar.indexCast v845
  let c0_488 : Index := 0#32
  let c0_489 : Index := 0#32
  ![v846.toNat, 0, 0]
def k0_mult31 (i : grid0.Coords) (k0_t1 : Fin (k0_t1_loop i).trips) : BitVec 32 :=
  let c2_i32_482 : BitVec 32 := 2#32
  let c2_i32_442 : BitVec 32 := 2#32
  let c2_i32_439 : BitVec 32 := 2#32
  let c2_i32_110 : BitVec 32 := 2#32
  let c0_i32_57 : BitVec 32 := 0#32
  let c1_i32_59 : BitVec 32 := 1#32
  let arg25 : BitVec 32 := Scf.iv c0_i32_57 c1_i32_59 k0_t1
  let v196 : BitVec 32 := Scalar.muli c2_i32_110 arg25
  let c1_i32_111 : BitVec 32 := 1#32
  let v197 : BitVec 32 := Scalar.addi v196 c1_i32_111
  let v762 : BitVec 32 := Scalar.muli c2_i32_439 v197
  let v765 : BitVec 32 := Scalar.muli c2_i32_442 v762
  let v834 : BitVec 32 := Scalar.muli c2_i32_482 v765
  let c2_i32_483 : BitVec 32 := 2#32
  let v835 : BitVec 32 := Scalar.addi v834 c2_i32_483
  let arg1 : BitVec 32 := BitVec.ofNat 32 (i 1).val
  let v836 : BitVec 32 := Scalar.minsi v835 arg1
  let c512_i32_495 : BitVec 32 := 512#32
  let v857 : BitVec 32 := Scalar.muli v836 c512_i32_495
  v857
def k0_off51 (i : grid0.Coords) (k0_t1 : Fin (k0_t1_loop i).trips) : Fin 2 → Nat :=
  let c2_i32_482 : BitVec 32 := 2#32
  let c2_i32_442 : BitVec 32 := 2#32
  let c2_i32_439 : BitVec 32 := 2#32
  let c2_i32_110 : BitVec 32 := 2#32
  let c0_i32_57 : BitVec 32 := 0#32
  let c1_i32_59 : BitVec 32 := 1#32
  let arg25 : BitVec 32 := Scf.iv c0_i32_57 c1_i32_59 k0_t1
  let v196 : BitVec 32 := Scalar.muli c2_i32_110 arg25
  let c1_i32_111 : BitVec 32 := 1#32
  let v197 : BitVec 32 := Scalar.addi v196 c1_i32_111
  let v762 : BitVec 32 := Scalar.muli c2_i32_439 v197
  let v765 : BitVec 32 := Scalar.muli c2_i32_442 v762
  let v834 : BitVec 32 := Scalar.muli c2_i32_482 v765
  let c2_i32_483 : BitVec 32 := 2#32
  let v835 : BitVec 32 := Scalar.addi v834 c2_i32_483
  let arg1 : BitVec 32 := BitVec.ofNat 32 (i 1).val
  let v836 : BitVec 32 := Scalar.minsi v835 arg1
  let c512_i32_495 : BitVec 32 := 512#32
  let v857 : BitVec 32 := Scalar.muli v836 c512_i32_495
  let v858 : BitVec 32 := v857
  let v859 : Index := Scalar.indexCast v858
  let c0_496 : Index := 0#32
  ![v859.toNat, 0]
def k0_mult32 (i : grid0.Coords) (k0_t1 : Fin (k0_t1_loop i).trips) : BitVec 32 :=
  let c2_i32_502 : BitVec 32 := 2#32
  let c2_i32_442 : BitVec 32 := 2#32
  let c2_i32_439 : BitVec 32 := 2#32
  let c2_i32_110 : BitVec 32 := 2#32
  let c0_i32_57 : BitVec 32 := 0#32
  let c1_i32_59 : BitVec 32 := 1#32
  let arg25 : BitVec 32 := Scf.iv c0_i32_57 c1_i32_59 k0_t1
  let v196 : BitVec 32 := Scalar.muli c2_i32_110 arg25
  let c1_i32_111 : BitVec 32 := 1#32
  let v197 : BitVec 32 := Scalar.addi v196 c1_i32_111
  let v762 : BitVec 32 := Scalar.muli c2_i32_439 v197
  let v765 : BitVec 32 := Scalar.muli c2_i32_442 v762
  let v868 : BitVec 32 := Scalar.muli c2_i32_502 v765
  let c1_i32_503 : BitVec 32 := 1#32
  let v869 : BitVec 32 := Scalar.addi v868 c1_i32_503
  let c512_i32_504 : BitVec 32 := 512#32
  let v870 : BitVec 32 := Scalar.muli v869 c512_i32_504
  v870
def k0_mult33 (i : grid0.Coords) (k0_t1 : Fin (k0_t1_loop i).trips) : BitVec 32 :=
  let c2_i32_522 : BitVec 32 := 2#32
  let c2_i32_440 : BitVec 32 := 2#32
  let c2_i32_439 : BitVec 32 := 2#32
  let c2_i32_110 : BitVec 32 := 2#32
  let c0_i32_57 : BitVec 32 := 0#32
  let c1_i32_59 : BitVec 32 := 1#32
  let arg25 : BitVec 32 := Scf.iv c0_i32_57 c1_i32_59 k0_t1
  let v196 : BitVec 32 := Scalar.muli c2_i32_110 arg25
  let c1_i32_111 : BitVec 32 := 1#32
  let v197 : BitVec 32 := Scalar.addi v196 c1_i32_111
  let v762 : BitVec 32 := Scalar.muli c2_i32_439 v197
  let v763 : BitVec 32 := Scalar.muli c2_i32_440 v762
  let c1_i32_441 : BitVec 32 := 1#32
  let v764 : BitVec 32 := Scalar.addi v763 c1_i32_441
  let v904 : BitVec 32 := Scalar.muli c2_i32_522 v764
  let c1_i32_523 : BitVec 32 := 1#32
  let v905 : BitVec 32 := Scalar.addi v904 c1_i32_523
  let c512_i32_524 : BitVec 32 := 512#32
  let v906 : BitVec 32 := Scalar.muli v905 c512_i32_524
  v906
def k0_off52 (i : grid0.Coords) (k0_t1 : Fin (k0_t1_loop i).trips) : Fin 2 → Nat :=
  let c2_i32_522 : BitVec 32 := 2#32
  let c2_i32_440 : BitVec 32 := 2#32
  let c2_i32_439 : BitVec 32 := 2#32
  let c2_i32_110 : BitVec 32 := 2#32
  let c0_i32_57 : BitVec 32 := 0#32
  let c1_i32_59 : BitVec 32 := 1#32
  let arg25 : BitVec 32 := Scf.iv c0_i32_57 c1_i32_59 k0_t1
  let v196 : BitVec 32 := Scalar.muli c2_i32_110 arg25
  let c1_i32_111 : BitVec 32 := 1#32
  let v197 : BitVec 32 := Scalar.addi v196 c1_i32_111
  let v762 : BitVec 32 := Scalar.muli c2_i32_439 v197
  let v763 : BitVec 32 := Scalar.muli c2_i32_440 v762
  let c1_i32_441 : BitVec 32 := 1#32
  let v764 : BitVec 32 := Scalar.addi v763 c1_i32_441
  let v904 : BitVec 32 := Scalar.muli c2_i32_522 v764
  let c1_i32_523 : BitVec 32 := 1#32
  let v905 : BitVec 32 := Scalar.addi v904 c1_i32_523
  let c512_i32_524 : BitVec 32 := 512#32
  let v906 : BitVec 32 := Scalar.muli v905 c512_i32_524
  let v907 : BitVec 32 := v906
  let v908 : Index := Scalar.indexCast v907
  let c0_525 : Index := 0#32
  ![v908.toNat, 0]
def k0_off53 (i : grid0.Coords) (k0_t1 : Fin (k0_t1_loop i).trips) : Fin 3 → Nat :=
  let c2_i32_522 : BitVec 32 := 2#32
  let c2_i32_440 : BitVec 32 := 2#32
  let c2_i32_439 : BitVec 32 := 2#32
  let c2_i32_110 : BitVec 32 := 2#32
  let c0_i32_57 : BitVec 32 := 0#32
  let c1_i32_59 : BitVec 32 := 1#32
  let arg25 : BitVec 32 := Scf.iv c0_i32_57 c1_i32_59 k0_t1
  let v196 : BitVec 32 := Scalar.muli c2_i32_110 arg25
  let c1_i32_111 : BitVec 32 := 1#32
  let v197 : BitVec 32 := Scalar.addi v196 c1_i32_111
  let v762 : BitVec 32 := Scalar.muli c2_i32_439 v197
  let v763 : BitVec 32 := Scalar.muli c2_i32_440 v762
  let c1_i32_441 : BitVec 32 := 1#32
  let v764 : BitVec 32 := Scalar.addi v763 c1_i32_441
  let v904 : BitVec 32 := Scalar.muli c2_i32_522 v764
  let c1_i32_523 : BitVec 32 := 1#32
  let v905 : BitVec 32 := Scalar.addi v904 c1_i32_523
  let arg1 : BitVec 32 := BitVec.ofNat 32 (i 1).val
  let v913 : BitVec 1 := Scalar.cmpi .eq v905 arg1
  let v914 : BitVec 32 := Scalar.extui v913
  let v915 : Index := Scalar.indexCast v914
  let c0_528 : Index := 0#32
  let c0_529 : Index := 0#32
  ![v915.toNat, 0, 0]
def k0_mult34 (i : grid0.Coords) (k0_t1 : Fin (k0_t1_loop i).trips) : BitVec 32 :=
  let c2_i32_522 : BitVec 32 := 2#32
  let c2_i32_440 : BitVec 32 := 2#32
  let c2_i32_439 : BitVec 32 := 2#32
  let c2_i32_110 : BitVec 32 := 2#32
  let c0_i32_57 : BitVec 32 := 0#32
  let c1_i32_59 : BitVec 32 := 1#32
  let arg25 : BitVec 32 := Scf.iv c0_i32_57 c1_i32_59 k0_t1
  let v196 : BitVec 32 := Scalar.muli c2_i32_110 arg25
  let c1_i32_111 : BitVec 32 := 1#32
  let v197 : BitVec 32 := Scalar.addi v196 c1_i32_111
  let v762 : BitVec 32 := Scalar.muli c2_i32_439 v197
  let v763 : BitVec 32 := Scalar.muli c2_i32_440 v762
  let c1_i32_441 : BitVec 32 := 1#32
  let v764 : BitVec 32 := Scalar.addi v763 c1_i32_441
  let v904 : BitVec 32 := Scalar.muli c2_i32_522 v764
  let c1_i32_523 : BitVec 32 := 1#32
  let v905 : BitVec 32 := Scalar.addi v904 c1_i32_523
  let c512_i32_535 : BitVec 32 := 512#32
  let v926 : BitVec 32 := Scalar.muli v905 c512_i32_535
  v926
def k0_off54 (i : grid0.Coords) (k0_t1 : Fin (k0_t1_loop i).trips) : Fin 2 → Nat :=
  let c2_i32_522 : BitVec 32 := 2#32
  let c2_i32_440 : BitVec 32 := 2#32
  let c2_i32_439 : BitVec 32 := 2#32
  let c2_i32_110 : BitVec 32 := 2#32
  let c0_i32_57 : BitVec 32 := 0#32
  let c1_i32_59 : BitVec 32 := 1#32
  let arg25 : BitVec 32 := Scf.iv c0_i32_57 c1_i32_59 k0_t1
  let v196 : BitVec 32 := Scalar.muli c2_i32_110 arg25
  let c1_i32_111 : BitVec 32 := 1#32
  let v197 : BitVec 32 := Scalar.addi v196 c1_i32_111
  let v762 : BitVec 32 := Scalar.muli c2_i32_439 v197
  let v763 : BitVec 32 := Scalar.muli c2_i32_440 v762
  let c1_i32_441 : BitVec 32 := 1#32
  let v764 : BitVec 32 := Scalar.addi v763 c1_i32_441
  let v904 : BitVec 32 := Scalar.muli c2_i32_522 v764
  let c1_i32_523 : BitVec 32 := 1#32
  let v905 : BitVec 32 := Scalar.addi v904 c1_i32_523
  let c512_i32_535 : BitVec 32 := 512#32
  let v926 : BitVec 32 := Scalar.muli v905 c512_i32_535
  let v927 : BitVec 32 := v926
  let v928 : Index := Scalar.indexCast v927
  let c0_536 : Index := 0#32
  ![v928.toNat, 0]
def k0_mult35 (i : grid0.Coords) (k0_t1 : Fin (k0_t1_loop i).trips) : BitVec 32 :=
  let c2_i32_542 : BitVec 32 := 2#32
  let c2_i32_440 : BitVec 32 := 2#32
  let c2_i32_439 : BitVec 32 := 2#32
  let c2_i32_110 : BitVec 32 := 2#32
  let c0_i32_57 : BitVec 32 := 0#32
  let c1_i32_59 : BitVec 32 := 1#32
  let arg25 : BitVec 32 := Scf.iv c0_i32_57 c1_i32_59 k0_t1
  let v196 : BitVec 32 := Scalar.muli c2_i32_110 arg25
  let c1_i32_111 : BitVec 32 := 1#32
  let v197 : BitVec 32 := Scalar.addi v196 c1_i32_111
  let v762 : BitVec 32 := Scalar.muli c2_i32_439 v197
  let v763 : BitVec 32 := Scalar.muli c2_i32_440 v762
  let c1_i32_441 : BitVec 32 := 1#32
  let v764 : BitVec 32 := Scalar.addi v763 c1_i32_441
  let v937 : BitVec 32 := Scalar.muli c2_i32_542 v764
  let c512_i32_543 : BitVec 32 := 512#32
  let v938 : BitVec 32 := Scalar.muli v937 c512_i32_543
  v938
def k0_off55 (i : grid0.Coords) (k0_t1 : Fin (k0_t1_loop i).trips) : Fin 2 → Nat :=
  let c2_i32_542 : BitVec 32 := 2#32
  let c2_i32_440 : BitVec 32 := 2#32
  let c2_i32_439 : BitVec 32 := 2#32
  let c2_i32_110 : BitVec 32 := 2#32
  let c0_i32_57 : BitVec 32 := 0#32
  let c1_i32_59 : BitVec 32 := 1#32
  let arg25 : BitVec 32 := Scf.iv c0_i32_57 c1_i32_59 k0_t1
  let v196 : BitVec 32 := Scalar.muli c2_i32_110 arg25
  let c1_i32_111 : BitVec 32 := 1#32
  let v197 : BitVec 32 := Scalar.addi v196 c1_i32_111
  let v762 : BitVec 32 := Scalar.muli c2_i32_439 v197
  let v763 : BitVec 32 := Scalar.muli c2_i32_440 v762
  let c1_i32_441 : BitVec 32 := 1#32
  let v764 : BitVec 32 := Scalar.addi v763 c1_i32_441
  let v937 : BitVec 32 := Scalar.muli c2_i32_542 v764
  let c512_i32_543 : BitVec 32 := 512#32
  let v938 : BitVec 32 := Scalar.muli v937 c512_i32_543
  let v939 : BitVec 32 := v938
  let v949 : Index := Scalar.indexCast v939
  let c0_551 : Index := 0#32
  ![v949.toNat, 0]
def k0_off56 (i : grid0.Coords) (k0_t1 : Fin (k0_t1_loop i).trips) : Fin 2 → Nat :=
  let c2_i32_542 : BitVec 32 := 2#32
  let c2_i32_440 : BitVec 32 := 2#32
  let c2_i32_439 : BitVec 32 := 2#32
  let c2_i32_110 : BitVec 32 := 2#32
  let c0_i32_57 : BitVec 32 := 0#32
  let c1_i32_59 : BitVec 32 := 1#32
  let arg25 : BitVec 32 := Scf.iv c0_i32_57 c1_i32_59 k0_t1
  let v196 : BitVec 32 := Scalar.muli c2_i32_110 arg25
  let c1_i32_111 : BitVec 32 := 1#32
  let v197 : BitVec 32 := Scalar.addi v196 c1_i32_111
  let v762 : BitVec 32 := Scalar.muli c2_i32_439 v197
  let v763 : BitVec 32 := Scalar.muli c2_i32_440 v762
  let c1_i32_441 : BitVec 32 := 1#32
  let v764 : BitVec 32 := Scalar.addi v763 c1_i32_441
  let v937 : BitVec 32 := Scalar.muli c2_i32_542 v764
  let c512_i32_543 : BitVec 32 := 512#32
  let v938 : BitVec 32 := Scalar.muli v937 c512_i32_543
  let v939 : BitVec 32 := v938
  let v964 : Index := Scalar.indexCast v939
  let c0_558 : Index := 0#32
  ![v964.toNat, 0]
def k0_mult36 (i : grid0.Coords) (k0_t1 : Fin (k0_t1_loop i).trips) : BitVec 32 :=
  let c2_i32_561 : BitVec 32 := 2#32
  let c2_i32_440 : BitVec 32 := 2#32
  let c2_i32_439 : BitVec 32 := 2#32
  let c2_i32_110 : BitVec 32 := 2#32
  let c0_i32_57 : BitVec 32 := 0#32
  let c1_i32_59 : BitVec 32 := 1#32
  let arg25 : BitVec 32 := Scf.iv c0_i32_57 c1_i32_59 k0_t1
  let v196 : BitVec 32 := Scalar.muli c2_i32_110 arg25
  let c1_i32_111 : BitVec 32 := 1#32
  let v197 : BitVec 32 := Scalar.addi v196 c1_i32_111
  let v762 : BitVec 32 := Scalar.muli c2_i32_439 v197
  let v763 : BitVec 32 := Scalar.muli c2_i32_440 v762
  let c1_i32_441 : BitVec 32 := 1#32
  let v764 : BitVec 32 := Scalar.addi v763 c1_i32_441
  let v972 : BitVec 32 := Scalar.muli c2_i32_561 v764
  let c2_i32_562 : BitVec 32 := 2#32
  let v973 : BitVec 32 := Scalar.addi v972 c2_i32_562
  let arg1 : BitVec 32 := BitVec.ofNat 32 (i 1).val
  let v974 : BitVec 32 := Scalar.minsi v973 arg1
  let c512_i32_563 : BitVec 32 := 512#32
  let v975 : BitVec 32 := Scalar.muli v974 c512_i32_563
  v975
def k0_off57 (i : grid0.Coords) (k0_t1 : Fin (k0_t1_loop i).trips) : Fin 2 → Nat :=
  let c2_i32_561 : BitVec 32 := 2#32
  let c2_i32_440 : BitVec 32 := 2#32
  let c2_i32_439 : BitVec 32 := 2#32
  let c2_i32_110 : BitVec 32 := 2#32
  let c0_i32_57 : BitVec 32 := 0#32
  let c1_i32_59 : BitVec 32 := 1#32
  let arg25 : BitVec 32 := Scf.iv c0_i32_57 c1_i32_59 k0_t1
  let v196 : BitVec 32 := Scalar.muli c2_i32_110 arg25
  let c1_i32_111 : BitVec 32 := 1#32
  let v197 : BitVec 32 := Scalar.addi v196 c1_i32_111
  let v762 : BitVec 32 := Scalar.muli c2_i32_439 v197
  let v763 : BitVec 32 := Scalar.muli c2_i32_440 v762
  let c1_i32_441 : BitVec 32 := 1#32
  let v764 : BitVec 32 := Scalar.addi v763 c1_i32_441
  let v972 : BitVec 32 := Scalar.muli c2_i32_561 v764
  let c2_i32_562 : BitVec 32 := 2#32
  let v973 : BitVec 32 := Scalar.addi v972 c2_i32_562
  let arg1 : BitVec 32 := BitVec.ofNat 32 (i 1).val
  let v974 : BitVec 32 := Scalar.minsi v973 arg1
  let c512_i32_563 : BitVec 32 := 512#32
  let v975 : BitVec 32 := Scalar.muli v974 c512_i32_563
  let v976 : BitVec 32 := v975
  let v977 : Index := Scalar.indexCast v976
  let c0_564 : Index := 0#32
  ![v977.toNat, 0]
def k0_off58 (i : grid0.Coords) (k0_t1 : Fin (k0_t1_loop i).trips) : Fin 3 → Nat :=
  let c2_i32_561 : BitVec 32 := 2#32
  let c2_i32_440 : BitVec 32 := 2#32
  let c2_i32_439 : BitVec 32 := 2#32
  let c2_i32_110 : BitVec 32 := 2#32
  let c0_i32_57 : BitVec 32 := 0#32
  let c1_i32_59 : BitVec 32 := 1#32
  let arg25 : BitVec 32 := Scf.iv c0_i32_57 c1_i32_59 k0_t1
  let v196 : BitVec 32 := Scalar.muli c2_i32_110 arg25
  let c1_i32_111 : BitVec 32 := 1#32
  let v197 : BitVec 32 := Scalar.addi v196 c1_i32_111
  let v762 : BitVec 32 := Scalar.muli c2_i32_439 v197
  let v763 : BitVec 32 := Scalar.muli c2_i32_440 v762
  let c1_i32_441 : BitVec 32 := 1#32
  let v764 : BitVec 32 := Scalar.addi v763 c1_i32_441
  let v972 : BitVec 32 := Scalar.muli c2_i32_561 v764
  let c2_i32_562 : BitVec 32 := 2#32
  let v973 : BitVec 32 := Scalar.addi v972 c2_i32_562
  let arg1 : BitVec 32 := BitVec.ofNat 32 (i 1).val
  let v974 : BitVec 32 := Scalar.minsi v973 arg1
  let v982 : BitVec 1 := Scalar.cmpi .eq v974 arg1
  let v983 : BitVec 32 := Scalar.extui v982
  let v984 : Index := Scalar.indexCast v983
  let c0_567 : Index := 0#32
  let c0_568 : Index := 0#32
  ![v984.toNat, 0, 0]
def k0_mult37 (i : grid0.Coords) (k0_t1 : Fin (k0_t1_loop i).trips) : BitVec 32 :=
  let c2_i32_561 : BitVec 32 := 2#32
  let c2_i32_440 : BitVec 32 := 2#32
  let c2_i32_439 : BitVec 32 := 2#32
  let c2_i32_110 : BitVec 32 := 2#32
  let c0_i32_57 : BitVec 32 := 0#32
  let c1_i32_59 : BitVec 32 := 1#32
  let arg25 : BitVec 32 := Scf.iv c0_i32_57 c1_i32_59 k0_t1
  let v196 : BitVec 32 := Scalar.muli c2_i32_110 arg25
  let c1_i32_111 : BitVec 32 := 1#32
  let v197 : BitVec 32 := Scalar.addi v196 c1_i32_111
  let v762 : BitVec 32 := Scalar.muli c2_i32_439 v197
  let v763 : BitVec 32 := Scalar.muli c2_i32_440 v762
  let c1_i32_441 : BitVec 32 := 1#32
  let v764 : BitVec 32 := Scalar.addi v763 c1_i32_441
  let v972 : BitVec 32 := Scalar.muli c2_i32_561 v764
  let c2_i32_562 : BitVec 32 := 2#32
  let v973 : BitVec 32 := Scalar.addi v972 c2_i32_562
  let arg1 : BitVec 32 := BitVec.ofNat 32 (i 1).val
  let v974 : BitVec 32 := Scalar.minsi v973 arg1
  let c512_i32_574 : BitVec 32 := 512#32
  let v995 : BitVec 32 := Scalar.muli v974 c512_i32_574
  v995
def k0_off59 (i : grid0.Coords) (k0_t1 : Fin (k0_t1_loop i).trips) : Fin 2 → Nat :=
  let c2_i32_561 : BitVec 32 := 2#32
  let c2_i32_440 : BitVec 32 := 2#32
  let c2_i32_439 : BitVec 32 := 2#32
  let c2_i32_110 : BitVec 32 := 2#32
  let c0_i32_57 : BitVec 32 := 0#32
  let c1_i32_59 : BitVec 32 := 1#32
  let arg25 : BitVec 32 := Scf.iv c0_i32_57 c1_i32_59 k0_t1
  let v196 : BitVec 32 := Scalar.muli c2_i32_110 arg25
  let c1_i32_111 : BitVec 32 := 1#32
  let v197 : BitVec 32 := Scalar.addi v196 c1_i32_111
  let v762 : BitVec 32 := Scalar.muli c2_i32_439 v197
  let v763 : BitVec 32 := Scalar.muli c2_i32_440 v762
  let c1_i32_441 : BitVec 32 := 1#32
  let v764 : BitVec 32 := Scalar.addi v763 c1_i32_441
  let v972 : BitVec 32 := Scalar.muli c2_i32_561 v764
  let c2_i32_562 : BitVec 32 := 2#32
  let v973 : BitVec 32 := Scalar.addi v972 c2_i32_562
  let arg1 : BitVec 32 := BitVec.ofNat 32 (i 1).val
  let v974 : BitVec 32 := Scalar.minsi v973 arg1
  let c512_i32_574 : BitVec 32 := 512#32
  let v995 : BitVec 32 := Scalar.muli v974 c512_i32_574
  let v996 : BitVec 32 := v995
  let v997 : Index := Scalar.indexCast v996
  let c0_575 : Index := 0#32
  ![v997.toNat, 0]
def k0_mult38 (i : grid0.Coords) (k0_t1 : Fin (k0_t1_loop i).trips) : BitVec 32 :=
  let c2_i32_581 : BitVec 32 := 2#32
  let c2_i32_440 : BitVec 32 := 2#32
  let c2_i32_439 : BitVec 32 := 2#32
  let c2_i32_110 : BitVec 32 := 2#32
  let c0_i32_57 : BitVec 32 := 0#32
  let c1_i32_59 : BitVec 32 := 1#32
  let arg25 : BitVec 32 := Scf.iv c0_i32_57 c1_i32_59 k0_t1
  let v196 : BitVec 32 := Scalar.muli c2_i32_110 arg25
  let c1_i32_111 : BitVec 32 := 1#32
  let v197 : BitVec 32 := Scalar.addi v196 c1_i32_111
  let v762 : BitVec 32 := Scalar.muli c2_i32_439 v197
  let v763 : BitVec 32 := Scalar.muli c2_i32_440 v762
  let c1_i32_441 : BitVec 32 := 1#32
  let v764 : BitVec 32 := Scalar.addi v763 c1_i32_441
  let v1006 : BitVec 32 := Scalar.muli c2_i32_581 v764
  let c1_i32_582 : BitVec 32 := 1#32
  let v1007 : BitVec 32 := Scalar.addi v1006 c1_i32_582
  let c512_i32_583 : BitVec 32 := 512#32
  let v1008 : BitVec 32 := Scalar.muli v1007 c512_i32_583
  v1008
def k0_mult39 (i : grid0.Coords) (k0_t1 : Fin (k0_t1_loop i).trips) : BitVec 32 :=
  let c2_i32_604 : BitVec 32 := 2#32
  let c2_i32_603 : BitVec 32 := 2#32
  let c2_i32_437 : BitVec 32 := 2#32
  let c2_i32_110 : BitVec 32 := 2#32
  let c0_i32_57 : BitVec 32 := 0#32
  let c1_i32_59 : BitVec 32 := 1#32
  let arg25 : BitVec 32 := Scf.iv c0_i32_57 c1_i32_59 k0_t1
  let v196 : BitVec 32 := Scalar.muli c2_i32_110 arg25
  let c1_i32_111 : BitVec 32 := 1#32
  let v197 : BitVec 32 := Scalar.addi v196 c1_i32_111
  let v760 : BitVec 32 := Scalar.muli c2_i32_437 v197
  let c1_i32_438 : BitVec 32 := 1#32
  let v761 : BitVec 32 := Scalar.addi v760 c1_i32_438
  let v1044 : BitVec 32 := Scalar.muli c2_i32_603 v761
  let v1045 : BitVec 32 := Scalar.muli c2_i32_604 v1044
  let c1_i32_605 : BitVec 32 := 1#32
  let v1046 : BitVec 32 := Scalar.addi v1045 c1_i32_605
  let c512_i32_606 : BitVec 32 := 512#32
  let v1047 : BitVec 32 := Scalar.muli v1046 c512_i32_606
  v1047
def k0_off60 (i : grid0.Coords) (k0_t1 : Fin (k0_t1_loop i).trips) : Fin 2 → Nat :=
  let c2_i32_604 : BitVec 32 := 2#32
  let c2_i32_603 : BitVec 32 := 2#32
  let c2_i32_437 : BitVec 32 := 2#32
  let c2_i32_110 : BitVec 32 := 2#32
  let c0_i32_57 : BitVec 32 := 0#32
  let c1_i32_59 : BitVec 32 := 1#32
  let arg25 : BitVec 32 := Scf.iv c0_i32_57 c1_i32_59 k0_t1
  let v196 : BitVec 32 := Scalar.muli c2_i32_110 arg25
  let c1_i32_111 : BitVec 32 := 1#32
  let v197 : BitVec 32 := Scalar.addi v196 c1_i32_111
  let v760 : BitVec 32 := Scalar.muli c2_i32_437 v197
  let c1_i32_438 : BitVec 32 := 1#32
  let v761 : BitVec 32 := Scalar.addi v760 c1_i32_438
  let v1044 : BitVec 32 := Scalar.muli c2_i32_603 v761
  let v1045 : BitVec 32 := Scalar.muli c2_i32_604 v1044
  let c1_i32_605 : BitVec 32 := 1#32
  let v1046 : BitVec 32 := Scalar.addi v1045 c1_i32_605
  let c512_i32_606 : BitVec 32 := 512#32
  let v1047 : BitVec 32 := Scalar.muli v1046 c512_i32_606
  let v1048 : BitVec 32 := v1047
  let v1049 : Index := Scalar.indexCast v1048
  let c0_607 : Index := 0#32
  ![v1049.toNat, 0]
def k0_off61 (i : grid0.Coords) (k0_t1 : Fin (k0_t1_loop i).trips) : Fin 3 → Nat :=
  let c2_i32_604 : BitVec 32 := 2#32
  let c2_i32_603 : BitVec 32 := 2#32
  let c2_i32_437 : BitVec 32 := 2#32
  let c2_i32_110 : BitVec 32 := 2#32
  let c0_i32_57 : BitVec 32 := 0#32
  let c1_i32_59 : BitVec 32 := 1#32
  let arg25 : BitVec 32 := Scf.iv c0_i32_57 c1_i32_59 k0_t1
  let v196 : BitVec 32 := Scalar.muli c2_i32_110 arg25
  let c1_i32_111 : BitVec 32 := 1#32
  let v197 : BitVec 32 := Scalar.addi v196 c1_i32_111
  let v760 : BitVec 32 := Scalar.muli c2_i32_437 v197
  let c1_i32_438 : BitVec 32 := 1#32
  let v761 : BitVec 32 := Scalar.addi v760 c1_i32_438
  let v1044 : BitVec 32 := Scalar.muli c2_i32_603 v761
  let v1045 : BitVec 32 := Scalar.muli c2_i32_604 v1044
  let c1_i32_605 : BitVec 32 := 1#32
  let v1046 : BitVec 32 := Scalar.addi v1045 c1_i32_605
  let arg1 : BitVec 32 := BitVec.ofNat 32 (i 1).val
  let v1054 : BitVec 1 := Scalar.cmpi .eq v1046 arg1
  let v1055 : BitVec 32 := Scalar.extui v1054
  let v1056 : Index := Scalar.indexCast v1055
  let c0_610 : Index := 0#32
  let c0_611 : Index := 0#32
  ![v1056.toNat, 0, 0]
def k0_mult40 (i : grid0.Coords) (k0_t1 : Fin (k0_t1_loop i).trips) : BitVec 32 :=
  let c2_i32_604 : BitVec 32 := 2#32
  let c2_i32_603 : BitVec 32 := 2#32
  let c2_i32_437 : BitVec 32 := 2#32
  let c2_i32_110 : BitVec 32 := 2#32
  let c0_i32_57 : BitVec 32 := 0#32
  let c1_i32_59 : BitVec 32 := 1#32
  let arg25 : BitVec 32 := Scf.iv c0_i32_57 c1_i32_59 k0_t1
  let v196 : BitVec 32 := Scalar.muli c2_i32_110 arg25
  let c1_i32_111 : BitVec 32 := 1#32
  let v197 : BitVec 32 := Scalar.addi v196 c1_i32_111
  let v760 : BitVec 32 := Scalar.muli c2_i32_437 v197
  let c1_i32_438 : BitVec 32 := 1#32
  let v761 : BitVec 32 := Scalar.addi v760 c1_i32_438
  let v1044 : BitVec 32 := Scalar.muli c2_i32_603 v761
  let v1045 : BitVec 32 := Scalar.muli c2_i32_604 v1044
  let c1_i32_605 : BitVec 32 := 1#32
  let v1046 : BitVec 32 := Scalar.addi v1045 c1_i32_605
  let c512_i32_617 : BitVec 32 := 512#32
  let v1067 : BitVec 32 := Scalar.muli v1046 c512_i32_617
  v1067
def k0_off62 (i : grid0.Coords) (k0_t1 : Fin (k0_t1_loop i).trips) : Fin 2 → Nat :=
  let c2_i32_604 : BitVec 32 := 2#32
  let c2_i32_603 : BitVec 32 := 2#32
  let c2_i32_437 : BitVec 32 := 2#32
  let c2_i32_110 : BitVec 32 := 2#32
  let c0_i32_57 : BitVec 32 := 0#32
  let c1_i32_59 : BitVec 32 := 1#32
  let arg25 : BitVec 32 := Scf.iv c0_i32_57 c1_i32_59 k0_t1
  let v196 : BitVec 32 := Scalar.muli c2_i32_110 arg25
  let c1_i32_111 : BitVec 32 := 1#32
  let v197 : BitVec 32 := Scalar.addi v196 c1_i32_111
  let v760 : BitVec 32 := Scalar.muli c2_i32_437 v197
  let c1_i32_438 : BitVec 32 := 1#32
  let v761 : BitVec 32 := Scalar.addi v760 c1_i32_438
  let v1044 : BitVec 32 := Scalar.muli c2_i32_603 v761
  let v1045 : BitVec 32 := Scalar.muli c2_i32_604 v1044
  let c1_i32_605 : BitVec 32 := 1#32
  let v1046 : BitVec 32 := Scalar.addi v1045 c1_i32_605
  let c512_i32_617 : BitVec 32 := 512#32
  let v1067 : BitVec 32 := Scalar.muli v1046 c512_i32_617
  let v1068 : BitVec 32 := v1067
  let v1069 : Index := Scalar.indexCast v1068
  let c0_618 : Index := 0#32
  ![v1069.toNat, 0]
def k0_mult41 (i : grid0.Coords) (k0_t1 : Fin (k0_t1_loop i).trips) : BitVec 32 :=
  let c2_i32_624 : BitVec 32 := 2#32
  let c2_i32_603 : BitVec 32 := 2#32
  let c2_i32_437 : BitVec 32 := 2#32
  let c2_i32_110 : BitVec 32 := 2#32
  let c0_i32_57 : BitVec 32 := 0#32
  let c1_i32_59 : BitVec 32 := 1#32
  let arg25 : BitVec 32 := Scf.iv c0_i32_57 c1_i32_59 k0_t1
  let v196 : BitVec 32 := Scalar.muli c2_i32_110 arg25
  let c1_i32_111 : BitVec 32 := 1#32
  let v197 : BitVec 32 := Scalar.addi v196 c1_i32_111
  let v760 : BitVec 32 := Scalar.muli c2_i32_437 v197
  let c1_i32_438 : BitVec 32 := 1#32
  let v761 : BitVec 32 := Scalar.addi v760 c1_i32_438
  let v1044 : BitVec 32 := Scalar.muli c2_i32_603 v761
  let v1078 : BitVec 32 := Scalar.muli c2_i32_624 v1044
  let c512_i32_625 : BitVec 32 := 512#32
  let v1079 : BitVec 32 := Scalar.muli v1078 c512_i32_625
  v1079
def k0_off63 (i : grid0.Coords) (k0_t1 : Fin (k0_t1_loop i).trips) : Fin 2 → Nat :=
  let c2_i32_624 : BitVec 32 := 2#32
  let c2_i32_603 : BitVec 32 := 2#32
  let c2_i32_437 : BitVec 32 := 2#32
  let c2_i32_110 : BitVec 32 := 2#32
  let c0_i32_57 : BitVec 32 := 0#32
  let c1_i32_59 : BitVec 32 := 1#32
  let arg25 : BitVec 32 := Scf.iv c0_i32_57 c1_i32_59 k0_t1
  let v196 : BitVec 32 := Scalar.muli c2_i32_110 arg25
  let c1_i32_111 : BitVec 32 := 1#32
  let v197 : BitVec 32 := Scalar.addi v196 c1_i32_111
  let v760 : BitVec 32 := Scalar.muli c2_i32_437 v197
  let c1_i32_438 : BitVec 32 := 1#32
  let v761 : BitVec 32 := Scalar.addi v760 c1_i32_438
  let v1044 : BitVec 32 := Scalar.muli c2_i32_603 v761
  let v1078 : BitVec 32 := Scalar.muli c2_i32_624 v1044
  let c512_i32_625 : BitVec 32 := 512#32
  let v1079 : BitVec 32 := Scalar.muli v1078 c512_i32_625
  let v1080 : BitVec 32 := v1079
  let v1090 : Index := Scalar.indexCast v1080
  let c0_633 : Index := 0#32
  ![v1090.toNat, 0]
def k0_off64 (i : grid0.Coords) (k0_t1 : Fin (k0_t1_loop i).trips) : Fin 2 → Nat :=
  let c2_i32_624 : BitVec 32 := 2#32
  let c2_i32_603 : BitVec 32 := 2#32
  let c2_i32_437 : BitVec 32 := 2#32
  let c2_i32_110 : BitVec 32 := 2#32
  let c0_i32_57 : BitVec 32 := 0#32
  let c1_i32_59 : BitVec 32 := 1#32
  let arg25 : BitVec 32 := Scf.iv c0_i32_57 c1_i32_59 k0_t1
  let v196 : BitVec 32 := Scalar.muli c2_i32_110 arg25
  let c1_i32_111 : BitVec 32 := 1#32
  let v197 : BitVec 32 := Scalar.addi v196 c1_i32_111
  let v760 : BitVec 32 := Scalar.muli c2_i32_437 v197
  let c1_i32_438 : BitVec 32 := 1#32
  let v761 : BitVec 32 := Scalar.addi v760 c1_i32_438
  let v1044 : BitVec 32 := Scalar.muli c2_i32_603 v761
  let v1078 : BitVec 32 := Scalar.muli c2_i32_624 v1044
  let c512_i32_625 : BitVec 32 := 512#32
  let v1079 : BitVec 32 := Scalar.muli v1078 c512_i32_625
  let v1080 : BitVec 32 := v1079
  let v1105 : Index := Scalar.indexCast v1080
  let c0_640 : Index := 0#32
  ![v1105.toNat, 0]
def k0_mult42 (i : grid0.Coords) (k0_t1 : Fin (k0_t1_loop i).trips) : BitVec 32 :=
  let c2_i32_643 : BitVec 32 := 2#32
  let c2_i32_603 : BitVec 32 := 2#32
  let c2_i32_437 : BitVec 32 := 2#32
  let c2_i32_110 : BitVec 32 := 2#32
  let c0_i32_57 : BitVec 32 := 0#32
  let c1_i32_59 : BitVec 32 := 1#32
  let arg25 : BitVec 32 := Scf.iv c0_i32_57 c1_i32_59 k0_t1
  let v196 : BitVec 32 := Scalar.muli c2_i32_110 arg25
  let c1_i32_111 : BitVec 32 := 1#32
  let v197 : BitVec 32 := Scalar.addi v196 c1_i32_111
  let v760 : BitVec 32 := Scalar.muli c2_i32_437 v197
  let c1_i32_438 : BitVec 32 := 1#32
  let v761 : BitVec 32 := Scalar.addi v760 c1_i32_438
  let v1044 : BitVec 32 := Scalar.muli c2_i32_603 v761
  let v1113 : BitVec 32 := Scalar.muli c2_i32_643 v1044
  let c2_i32_644 : BitVec 32 := 2#32
  let v1114 : BitVec 32 := Scalar.addi v1113 c2_i32_644
  let arg1 : BitVec 32 := BitVec.ofNat 32 (i 1).val
  let v1115 : BitVec 32 := Scalar.minsi v1114 arg1
  let c512_i32_645 : BitVec 32 := 512#32
  let v1116 : BitVec 32 := Scalar.muli v1115 c512_i32_645
  v1116
def k0_off65 (i : grid0.Coords) (k0_t1 : Fin (k0_t1_loop i).trips) : Fin 2 → Nat :=
  let c2_i32_643 : BitVec 32 := 2#32
  let c2_i32_603 : BitVec 32 := 2#32
  let c2_i32_437 : BitVec 32 := 2#32
  let c2_i32_110 : BitVec 32 := 2#32
  let c0_i32_57 : BitVec 32 := 0#32
  let c1_i32_59 : BitVec 32 := 1#32
  let arg25 : BitVec 32 := Scf.iv c0_i32_57 c1_i32_59 k0_t1
  let v196 : BitVec 32 := Scalar.muli c2_i32_110 arg25
  let c1_i32_111 : BitVec 32 := 1#32
  let v197 : BitVec 32 := Scalar.addi v196 c1_i32_111
  let v760 : BitVec 32 := Scalar.muli c2_i32_437 v197
  let c1_i32_438 : BitVec 32 := 1#32
  let v761 : BitVec 32 := Scalar.addi v760 c1_i32_438
  let v1044 : BitVec 32 := Scalar.muli c2_i32_603 v761
  let v1113 : BitVec 32 := Scalar.muli c2_i32_643 v1044
  let c2_i32_644 : BitVec 32 := 2#32
  let v1114 : BitVec 32 := Scalar.addi v1113 c2_i32_644
  let arg1 : BitVec 32 := BitVec.ofNat 32 (i 1).val
  let v1115 : BitVec 32 := Scalar.minsi v1114 arg1
  let c512_i32_645 : BitVec 32 := 512#32
  let v1116 : BitVec 32 := Scalar.muli v1115 c512_i32_645
  let v1117 : BitVec 32 := v1116
  let v1118 : Index := Scalar.indexCast v1117
  let c0_646 : Index := 0#32
  ![v1118.toNat, 0]
def k0_off66 (i : grid0.Coords) (k0_t1 : Fin (k0_t1_loop i).trips) : Fin 3 → Nat :=
  let c2_i32_643 : BitVec 32 := 2#32
  let c2_i32_603 : BitVec 32 := 2#32
  let c2_i32_437 : BitVec 32 := 2#32
  let c2_i32_110 : BitVec 32 := 2#32
  let c0_i32_57 : BitVec 32 := 0#32
  let c1_i32_59 : BitVec 32 := 1#32
  let arg25 : BitVec 32 := Scf.iv c0_i32_57 c1_i32_59 k0_t1
  let v196 : BitVec 32 := Scalar.muli c2_i32_110 arg25
  let c1_i32_111 : BitVec 32 := 1#32
  let v197 : BitVec 32 := Scalar.addi v196 c1_i32_111
  let v760 : BitVec 32 := Scalar.muli c2_i32_437 v197
  let c1_i32_438 : BitVec 32 := 1#32
  let v761 : BitVec 32 := Scalar.addi v760 c1_i32_438
  let v1044 : BitVec 32 := Scalar.muli c2_i32_603 v761
  let v1113 : BitVec 32 := Scalar.muli c2_i32_643 v1044
  let c2_i32_644 : BitVec 32 := 2#32
  let v1114 : BitVec 32 := Scalar.addi v1113 c2_i32_644
  let arg1 : BitVec 32 := BitVec.ofNat 32 (i 1).val
  let v1115 : BitVec 32 := Scalar.minsi v1114 arg1
  let v1123 : BitVec 1 := Scalar.cmpi .eq v1115 arg1
  let v1124 : BitVec 32 := Scalar.extui v1123
  let v1125 : Index := Scalar.indexCast v1124
  let c0_649 : Index := 0#32
  let c0_650 : Index := 0#32
  ![v1125.toNat, 0, 0]
def k0_mult43 (i : grid0.Coords) (k0_t1 : Fin (k0_t1_loop i).trips) : BitVec 32 :=
  let c2_i32_643 : BitVec 32 := 2#32
  let c2_i32_603 : BitVec 32 := 2#32
  let c2_i32_437 : BitVec 32 := 2#32
  let c2_i32_110 : BitVec 32 := 2#32
  let c0_i32_57 : BitVec 32 := 0#32
  let c1_i32_59 : BitVec 32 := 1#32
  let arg25 : BitVec 32 := Scf.iv c0_i32_57 c1_i32_59 k0_t1
  let v196 : BitVec 32 := Scalar.muli c2_i32_110 arg25
  let c1_i32_111 : BitVec 32 := 1#32
  let v197 : BitVec 32 := Scalar.addi v196 c1_i32_111
  let v760 : BitVec 32 := Scalar.muli c2_i32_437 v197
  let c1_i32_438 : BitVec 32 := 1#32
  let v761 : BitVec 32 := Scalar.addi v760 c1_i32_438
  let v1044 : BitVec 32 := Scalar.muli c2_i32_603 v761
  let v1113 : BitVec 32 := Scalar.muli c2_i32_643 v1044
  let c2_i32_644 : BitVec 32 := 2#32
  let v1114 : BitVec 32 := Scalar.addi v1113 c2_i32_644
  let arg1 : BitVec 32 := BitVec.ofNat 32 (i 1).val
  let v1115 : BitVec 32 := Scalar.minsi v1114 arg1
  let c512_i32_656 : BitVec 32 := 512#32
  let v1136 : BitVec 32 := Scalar.muli v1115 c512_i32_656
  v1136
def k0_off67 (i : grid0.Coords) (k0_t1 : Fin (k0_t1_loop i).trips) : Fin 2 → Nat :=
  let c2_i32_643 : BitVec 32 := 2#32
  let c2_i32_603 : BitVec 32 := 2#32
  let c2_i32_437 : BitVec 32 := 2#32
  let c2_i32_110 : BitVec 32 := 2#32
  let c0_i32_57 : BitVec 32 := 0#32
  let c1_i32_59 : BitVec 32 := 1#32
  let arg25 : BitVec 32 := Scf.iv c0_i32_57 c1_i32_59 k0_t1
  let v196 : BitVec 32 := Scalar.muli c2_i32_110 arg25
  let c1_i32_111 : BitVec 32 := 1#32
  let v197 : BitVec 32 := Scalar.addi v196 c1_i32_111
  let v760 : BitVec 32 := Scalar.muli c2_i32_437 v197
  let c1_i32_438 : BitVec 32 := 1#32
  let v761 : BitVec 32 := Scalar.addi v760 c1_i32_438
  let v1044 : BitVec 32 := Scalar.muli c2_i32_603 v761
  let v1113 : BitVec 32 := Scalar.muli c2_i32_643 v1044
  let c2_i32_644 : BitVec 32 := 2#32
  let v1114 : BitVec 32 := Scalar.addi v1113 c2_i32_644
  let arg1 : BitVec 32 := BitVec.ofNat 32 (i 1).val
  let v1115 : BitVec 32 := Scalar.minsi v1114 arg1
  let c512_i32_656 : BitVec 32 := 512#32
  let v1136 : BitVec 32 := Scalar.muli v1115 c512_i32_656
  let v1137 : BitVec 32 := v1136
  let v1138 : Index := Scalar.indexCast v1137
  let c0_657 : Index := 0#32
  ![v1138.toNat, 0]
def k0_mult44 (i : grid0.Coords) (k0_t1 : Fin (k0_t1_loop i).trips) : BitVec 32 :=
  let c2_i32_663 : BitVec 32 := 2#32
  let c2_i32_603 : BitVec 32 := 2#32
  let c2_i32_437 : BitVec 32 := 2#32
  let c2_i32_110 : BitVec 32 := 2#32
  let c0_i32_57 : BitVec 32 := 0#32
  let c1_i32_59 : BitVec 32 := 1#32
  let arg25 : BitVec 32 := Scf.iv c0_i32_57 c1_i32_59 k0_t1
  let v196 : BitVec 32 := Scalar.muli c2_i32_110 arg25
  let c1_i32_111 : BitVec 32 := 1#32
  let v197 : BitVec 32 := Scalar.addi v196 c1_i32_111
  let v760 : BitVec 32 := Scalar.muli c2_i32_437 v197
  let c1_i32_438 : BitVec 32 := 1#32
  let v761 : BitVec 32 := Scalar.addi v760 c1_i32_438
  let v1044 : BitVec 32 := Scalar.muli c2_i32_603 v761
  let v1147 : BitVec 32 := Scalar.muli c2_i32_663 v1044
  let c1_i32_664 : BitVec 32 := 1#32
  let v1148 : BitVec 32 := Scalar.addi v1147 c1_i32_664
  let c512_i32_665 : BitVec 32 := 512#32
  let v1149 : BitVec 32 := Scalar.muli v1148 c512_i32_665
  v1149
def k0_mult45 (i : grid0.Coords) (k0_t1 : Fin (k0_t1_loop i).trips) : BitVec 32 :=
  let c2_i32_683 : BitVec 32 := 2#32
  let c2_i32_601 : BitVec 32 := 2#32
  let c2_i32_437 : BitVec 32 := 2#32
  let c2_i32_110 : BitVec 32 := 2#32
  let c0_i32_57 : BitVec 32 := 0#32
  let c1_i32_59 : BitVec 32 := 1#32
  let arg25 : BitVec 32 := Scf.iv c0_i32_57 c1_i32_59 k0_t1
  let v196 : BitVec 32 := Scalar.muli c2_i32_110 arg25
  let c1_i32_111 : BitVec 32 := 1#32
  let v197 : BitVec 32 := Scalar.addi v196 c1_i32_111
  let v760 : BitVec 32 := Scalar.muli c2_i32_437 v197
  let c1_i32_438 : BitVec 32 := 1#32
  let v761 : BitVec 32 := Scalar.addi v760 c1_i32_438
  let v1042 : BitVec 32 := Scalar.muli c2_i32_601 v761
  let c1_i32_602 : BitVec 32 := 1#32
  let v1043 : BitVec 32 := Scalar.addi v1042 c1_i32_602
  let v1183 : BitVec 32 := Scalar.muli c2_i32_683 v1043
  let c1_i32_684 : BitVec 32 := 1#32
  let v1184 : BitVec 32 := Scalar.addi v1183 c1_i32_684
  let c512_i32_685 : BitVec 32 := 512#32
  let v1185 : BitVec 32 := Scalar.muli v1184 c512_i32_685
  v1185
def k0_off68 (i : grid0.Coords) (k0_t1 : Fin (k0_t1_loop i).trips) : Fin 2 → Nat :=
  let c2_i32_683 : BitVec 32 := 2#32
  let c2_i32_601 : BitVec 32 := 2#32
  let c2_i32_437 : BitVec 32 := 2#32
  let c2_i32_110 : BitVec 32 := 2#32
  let c0_i32_57 : BitVec 32 := 0#32
  let c1_i32_59 : BitVec 32 := 1#32
  let arg25 : BitVec 32 := Scf.iv c0_i32_57 c1_i32_59 k0_t1
  let v196 : BitVec 32 := Scalar.muli c2_i32_110 arg25
  let c1_i32_111 : BitVec 32 := 1#32
  let v197 : BitVec 32 := Scalar.addi v196 c1_i32_111
  let v760 : BitVec 32 := Scalar.muli c2_i32_437 v197
  let c1_i32_438 : BitVec 32 := 1#32
  let v761 : BitVec 32 := Scalar.addi v760 c1_i32_438
  let v1042 : BitVec 32 := Scalar.muli c2_i32_601 v761
  let c1_i32_602 : BitVec 32 := 1#32
  let v1043 : BitVec 32 := Scalar.addi v1042 c1_i32_602
  let v1183 : BitVec 32 := Scalar.muli c2_i32_683 v1043
  let c1_i32_684 : BitVec 32 := 1#32
  let v1184 : BitVec 32 := Scalar.addi v1183 c1_i32_684
  let c512_i32_685 : BitVec 32 := 512#32
  let v1185 : BitVec 32 := Scalar.muli v1184 c512_i32_685
  let v1186 : BitVec 32 := v1185
  let v1187 : Index := Scalar.indexCast v1186
  let c0_686 : Index := 0#32
  ![v1187.toNat, 0]
def k0_off69 (i : grid0.Coords) (k0_t1 : Fin (k0_t1_loop i).trips) : Fin 3 → Nat :=
  let c2_i32_683 : BitVec 32 := 2#32
  let c2_i32_601 : BitVec 32 := 2#32
  let c2_i32_437 : BitVec 32 := 2#32
  let c2_i32_110 : BitVec 32 := 2#32
  let c0_i32_57 : BitVec 32 := 0#32
  let c1_i32_59 : BitVec 32 := 1#32
  let arg25 : BitVec 32 := Scf.iv c0_i32_57 c1_i32_59 k0_t1
  let v196 : BitVec 32 := Scalar.muli c2_i32_110 arg25
  let c1_i32_111 : BitVec 32 := 1#32
  let v197 : BitVec 32 := Scalar.addi v196 c1_i32_111
  let v760 : BitVec 32 := Scalar.muli c2_i32_437 v197
  let c1_i32_438 : BitVec 32 := 1#32
  let v761 : BitVec 32 := Scalar.addi v760 c1_i32_438
  let v1042 : BitVec 32 := Scalar.muli c2_i32_601 v761
  let c1_i32_602 : BitVec 32 := 1#32
  let v1043 : BitVec 32 := Scalar.addi v1042 c1_i32_602
  let v1183 : BitVec 32 := Scalar.muli c2_i32_683 v1043
  let c1_i32_684 : BitVec 32 := 1#32
  let v1184 : BitVec 32 := Scalar.addi v1183 c1_i32_684
  let arg1 : BitVec 32 := BitVec.ofNat 32 (i 1).val
  let v1192 : BitVec 1 := Scalar.cmpi .eq v1184 arg1
  let v1193 : BitVec 32 := Scalar.extui v1192
  let v1194 : Index := Scalar.indexCast v1193
  let c0_689 : Index := 0#32
  let c0_690 : Index := 0#32
  ![v1194.toNat, 0, 0]
def k0_mult46 (i : grid0.Coords) (k0_t1 : Fin (k0_t1_loop i).trips) : BitVec 32 :=
  let c2_i32_683 : BitVec 32 := 2#32
  let c2_i32_601 : BitVec 32 := 2#32
  let c2_i32_437 : BitVec 32 := 2#32
  let c2_i32_110 : BitVec 32 := 2#32
  let c0_i32_57 : BitVec 32 := 0#32
  let c1_i32_59 : BitVec 32 := 1#32
  let arg25 : BitVec 32 := Scf.iv c0_i32_57 c1_i32_59 k0_t1
  let v196 : BitVec 32 := Scalar.muli c2_i32_110 arg25
  let c1_i32_111 : BitVec 32 := 1#32
  let v197 : BitVec 32 := Scalar.addi v196 c1_i32_111
  let v760 : BitVec 32 := Scalar.muli c2_i32_437 v197
  let c1_i32_438 : BitVec 32 := 1#32
  let v761 : BitVec 32 := Scalar.addi v760 c1_i32_438
  let v1042 : BitVec 32 := Scalar.muli c2_i32_601 v761
  let c1_i32_602 : BitVec 32 := 1#32
  let v1043 : BitVec 32 := Scalar.addi v1042 c1_i32_602
  let v1183 : BitVec 32 := Scalar.muli c2_i32_683 v1043
  let c1_i32_684 : BitVec 32 := 1#32
  let v1184 : BitVec 32 := Scalar.addi v1183 c1_i32_684
  let c512_i32_696 : BitVec 32 := 512#32
  let v1205 : BitVec 32 := Scalar.muli v1184 c512_i32_696
  v1205
def k0_off70 (i : grid0.Coords) (k0_t1 : Fin (k0_t1_loop i).trips) : Fin 2 → Nat :=
  let c2_i32_683 : BitVec 32 := 2#32
  let c2_i32_601 : BitVec 32 := 2#32
  let c2_i32_437 : BitVec 32 := 2#32
  let c2_i32_110 : BitVec 32 := 2#32
  let c0_i32_57 : BitVec 32 := 0#32
  let c1_i32_59 : BitVec 32 := 1#32
  let arg25 : BitVec 32 := Scf.iv c0_i32_57 c1_i32_59 k0_t1
  let v196 : BitVec 32 := Scalar.muli c2_i32_110 arg25
  let c1_i32_111 : BitVec 32 := 1#32
  let v197 : BitVec 32 := Scalar.addi v196 c1_i32_111
  let v760 : BitVec 32 := Scalar.muli c2_i32_437 v197
  let c1_i32_438 : BitVec 32 := 1#32
  let v761 : BitVec 32 := Scalar.addi v760 c1_i32_438
  let v1042 : BitVec 32 := Scalar.muli c2_i32_601 v761
  let c1_i32_602 : BitVec 32 := 1#32
  let v1043 : BitVec 32 := Scalar.addi v1042 c1_i32_602
  let v1183 : BitVec 32 := Scalar.muli c2_i32_683 v1043
  let c1_i32_684 : BitVec 32 := 1#32
  let v1184 : BitVec 32 := Scalar.addi v1183 c1_i32_684
  let c512_i32_696 : BitVec 32 := 512#32
  let v1205 : BitVec 32 := Scalar.muli v1184 c512_i32_696
  let v1206 : BitVec 32 := v1205
  let v1207 : Index := Scalar.indexCast v1206
  let c0_697 : Index := 0#32
  ![v1207.toNat, 0]
def k0_mult47 (i : grid0.Coords) (k0_t1 : Fin (k0_t1_loop i).trips) : BitVec 32 :=
  let c2_i32_703 : BitVec 32 := 2#32
  let c2_i32_601 : BitVec 32 := 2#32
  let c2_i32_437 : BitVec 32 := 2#32
  let c2_i32_110 : BitVec 32 := 2#32
  let c0_i32_57 : BitVec 32 := 0#32
  let c1_i32_59 : BitVec 32 := 1#32
  let arg25 : BitVec 32 := Scf.iv c0_i32_57 c1_i32_59 k0_t1
  let v196 : BitVec 32 := Scalar.muli c2_i32_110 arg25
  let c1_i32_111 : BitVec 32 := 1#32
  let v197 : BitVec 32 := Scalar.addi v196 c1_i32_111
  let v760 : BitVec 32 := Scalar.muli c2_i32_437 v197
  let c1_i32_438 : BitVec 32 := 1#32
  let v761 : BitVec 32 := Scalar.addi v760 c1_i32_438
  let v1042 : BitVec 32 := Scalar.muli c2_i32_601 v761
  let c1_i32_602 : BitVec 32 := 1#32
  let v1043 : BitVec 32 := Scalar.addi v1042 c1_i32_602
  let v1216 : BitVec 32 := Scalar.muli c2_i32_703 v1043
  let c512_i32_704 : BitVec 32 := 512#32
  let v1217 : BitVec 32 := Scalar.muli v1216 c512_i32_704
  v1217
def k0_off71 (i : grid0.Coords) (k0_t1 : Fin (k0_t1_loop i).trips) : Fin 2 → Nat :=
  let c2_i32_703 : BitVec 32 := 2#32
  let c2_i32_601 : BitVec 32 := 2#32
  let c2_i32_437 : BitVec 32 := 2#32
  let c2_i32_110 : BitVec 32 := 2#32
  let c0_i32_57 : BitVec 32 := 0#32
  let c1_i32_59 : BitVec 32 := 1#32
  let arg25 : BitVec 32 := Scf.iv c0_i32_57 c1_i32_59 k0_t1
  let v196 : BitVec 32 := Scalar.muli c2_i32_110 arg25
  let c1_i32_111 : BitVec 32 := 1#32
  let v197 : BitVec 32 := Scalar.addi v196 c1_i32_111
  let v760 : BitVec 32 := Scalar.muli c2_i32_437 v197
  let c1_i32_438 : BitVec 32 := 1#32
  let v761 : BitVec 32 := Scalar.addi v760 c1_i32_438
  let v1042 : BitVec 32 := Scalar.muli c2_i32_601 v761
  let c1_i32_602 : BitVec 32 := 1#32
  let v1043 : BitVec 32 := Scalar.addi v1042 c1_i32_602
  let v1216 : BitVec 32 := Scalar.muli c2_i32_703 v1043
  let c512_i32_704 : BitVec 32 := 512#32
  let v1217 : BitVec 32 := Scalar.muli v1216 c512_i32_704
  let v1218 : BitVec 32 := v1217
  let v1228 : Index := Scalar.indexCast v1218
  let c0_712 : Index := 0#32
  ![v1228.toNat, 0]
def k0_off72 (i : grid0.Coords) (k0_t1 : Fin (k0_t1_loop i).trips) : Fin 2 → Nat :=
  let c2_i32_703 : BitVec 32 := 2#32
  let c2_i32_601 : BitVec 32 := 2#32
  let c2_i32_437 : BitVec 32 := 2#32
  let c2_i32_110 : BitVec 32 := 2#32
  let c0_i32_57 : BitVec 32 := 0#32
  let c1_i32_59 : BitVec 32 := 1#32
  let arg25 : BitVec 32 := Scf.iv c0_i32_57 c1_i32_59 k0_t1
  let v196 : BitVec 32 := Scalar.muli c2_i32_110 arg25
  let c1_i32_111 : BitVec 32 := 1#32
  let v197 : BitVec 32 := Scalar.addi v196 c1_i32_111
  let v760 : BitVec 32 := Scalar.muli c2_i32_437 v197
  let c1_i32_438 : BitVec 32 := 1#32
  let v761 : BitVec 32 := Scalar.addi v760 c1_i32_438
  let v1042 : BitVec 32 := Scalar.muli c2_i32_601 v761
  let c1_i32_602 : BitVec 32 := 1#32
  let v1043 : BitVec 32 := Scalar.addi v1042 c1_i32_602
  let v1216 : BitVec 32 := Scalar.muli c2_i32_703 v1043
  let c512_i32_704 : BitVec 32 := 512#32
  let v1217 : BitVec 32 := Scalar.muli v1216 c512_i32_704
  let v1218 : BitVec 32 := v1217
  let v1243 : Index := Scalar.indexCast v1218
  let c0_719 : Index := 0#32
  ![v1243.toNat, 0]
def k0_mult48 (i : grid0.Coords) (k0_t1 : Fin (k0_t1_loop i).trips) : BitVec 32 :=
  let c2_i32_722 : BitVec 32 := 2#32
  let c2_i32_601 : BitVec 32 := 2#32
  let c2_i32_437 : BitVec 32 := 2#32
  let c2_i32_110 : BitVec 32 := 2#32
  let c0_i32_57 : BitVec 32 := 0#32
  let c1_i32_59 : BitVec 32 := 1#32
  let arg25 : BitVec 32 := Scf.iv c0_i32_57 c1_i32_59 k0_t1
  let v196 : BitVec 32 := Scalar.muli c2_i32_110 arg25
  let c1_i32_111 : BitVec 32 := 1#32
  let v197 : BitVec 32 := Scalar.addi v196 c1_i32_111
  let v760 : BitVec 32 := Scalar.muli c2_i32_437 v197
  let c1_i32_438 : BitVec 32 := 1#32
  let v761 : BitVec 32 := Scalar.addi v760 c1_i32_438
  let v1042 : BitVec 32 := Scalar.muli c2_i32_601 v761
  let c1_i32_602 : BitVec 32 := 1#32
  let v1043 : BitVec 32 := Scalar.addi v1042 c1_i32_602
  let v1251 : BitVec 32 := Scalar.muli c2_i32_722 v1043
  let c2_i32_723 : BitVec 32 := 2#32
  let v1252 : BitVec 32 := Scalar.addi v1251 c2_i32_723
  let arg1 : BitVec 32 := BitVec.ofNat 32 (i 1).val
  let v1253 : BitVec 32 := Scalar.minsi v1252 arg1
  let c512_i32_724 : BitVec 32 := 512#32
  let v1254 : BitVec 32 := Scalar.muli v1253 c512_i32_724
  v1254
def k0_off73 (i : grid0.Coords) (k0_t1 : Fin (k0_t1_loop i).trips) : Fin 2 → Nat :=
  let c2_i32_722 : BitVec 32 := 2#32
  let c2_i32_601 : BitVec 32 := 2#32
  let c2_i32_437 : BitVec 32 := 2#32
  let c2_i32_110 : BitVec 32 := 2#32
  let c0_i32_57 : BitVec 32 := 0#32
  let c1_i32_59 : BitVec 32 := 1#32
  let arg25 : BitVec 32 := Scf.iv c0_i32_57 c1_i32_59 k0_t1
  let v196 : BitVec 32 := Scalar.muli c2_i32_110 arg25
  let c1_i32_111 : BitVec 32 := 1#32
  let v197 : BitVec 32 := Scalar.addi v196 c1_i32_111
  let v760 : BitVec 32 := Scalar.muli c2_i32_437 v197
  let c1_i32_438 : BitVec 32 := 1#32
  let v761 : BitVec 32 := Scalar.addi v760 c1_i32_438
  let v1042 : BitVec 32 := Scalar.muli c2_i32_601 v761
  let c1_i32_602 : BitVec 32 := 1#32
  let v1043 : BitVec 32 := Scalar.addi v1042 c1_i32_602
  let v1251 : BitVec 32 := Scalar.muli c2_i32_722 v1043
  let c2_i32_723 : BitVec 32 := 2#32
  let v1252 : BitVec 32 := Scalar.addi v1251 c2_i32_723
  let arg1 : BitVec 32 := BitVec.ofNat 32 (i 1).val
  let v1253 : BitVec 32 := Scalar.minsi v1252 arg1
  let c512_i32_724 : BitVec 32 := 512#32
  let v1254 : BitVec 32 := Scalar.muli v1253 c512_i32_724
  let v1255 : BitVec 32 := v1254
  let v1256 : Index := Scalar.indexCast v1255
  let c0_725 : Index := 0#32
  ![v1256.toNat, 0]
def k0_off74 (i : grid0.Coords) (k0_t1 : Fin (k0_t1_loop i).trips) : Fin 3 → Nat :=
  let c2_i32_722 : BitVec 32 := 2#32
  let c2_i32_601 : BitVec 32 := 2#32
  let c2_i32_437 : BitVec 32 := 2#32
  let c2_i32_110 : BitVec 32 := 2#32
  let c0_i32_57 : BitVec 32 := 0#32
  let c1_i32_59 : BitVec 32 := 1#32
  let arg25 : BitVec 32 := Scf.iv c0_i32_57 c1_i32_59 k0_t1
  let v196 : BitVec 32 := Scalar.muli c2_i32_110 arg25
  let c1_i32_111 : BitVec 32 := 1#32
  let v197 : BitVec 32 := Scalar.addi v196 c1_i32_111
  let v760 : BitVec 32 := Scalar.muli c2_i32_437 v197
  let c1_i32_438 : BitVec 32 := 1#32
  let v761 : BitVec 32 := Scalar.addi v760 c1_i32_438
  let v1042 : BitVec 32 := Scalar.muli c2_i32_601 v761
  let c1_i32_602 : BitVec 32 := 1#32
  let v1043 : BitVec 32 := Scalar.addi v1042 c1_i32_602
  let v1251 : BitVec 32 := Scalar.muli c2_i32_722 v1043
  let c2_i32_723 : BitVec 32 := 2#32
  let v1252 : BitVec 32 := Scalar.addi v1251 c2_i32_723
  let arg1 : BitVec 32 := BitVec.ofNat 32 (i 1).val
  let v1253 : BitVec 32 := Scalar.minsi v1252 arg1
  let v1261 : BitVec 1 := Scalar.cmpi .eq v1253 arg1
  let v1262 : BitVec 32 := Scalar.extui v1261
  let v1263 : Index := Scalar.indexCast v1262
  let c0_728 : Index := 0#32
  let c0_729 : Index := 0#32
  ![v1263.toNat, 0, 0]
def k0_mult49 (i : grid0.Coords) (k0_t1 : Fin (k0_t1_loop i).trips) : BitVec 32 :=
  let c2_i32_722 : BitVec 32 := 2#32
  let c2_i32_601 : BitVec 32 := 2#32
  let c2_i32_437 : BitVec 32 := 2#32
  let c2_i32_110 : BitVec 32 := 2#32
  let c0_i32_57 : BitVec 32 := 0#32
  let c1_i32_59 : BitVec 32 := 1#32
  let arg25 : BitVec 32 := Scf.iv c0_i32_57 c1_i32_59 k0_t1
  let v196 : BitVec 32 := Scalar.muli c2_i32_110 arg25
  let c1_i32_111 : BitVec 32 := 1#32
  let v197 : BitVec 32 := Scalar.addi v196 c1_i32_111
  let v760 : BitVec 32 := Scalar.muli c2_i32_437 v197
  let c1_i32_438 : BitVec 32 := 1#32
  let v761 : BitVec 32 := Scalar.addi v760 c1_i32_438
  let v1042 : BitVec 32 := Scalar.muli c2_i32_601 v761
  let c1_i32_602 : BitVec 32 := 1#32
  let v1043 : BitVec 32 := Scalar.addi v1042 c1_i32_602
  let v1251 : BitVec 32 := Scalar.muli c2_i32_722 v1043
  let c2_i32_723 : BitVec 32 := 2#32
  let v1252 : BitVec 32 := Scalar.addi v1251 c2_i32_723
  let arg1 : BitVec 32 := BitVec.ofNat 32 (i 1).val
  let v1253 : BitVec 32 := Scalar.minsi v1252 arg1
  let c512_i32_735 : BitVec 32 := 512#32
  let v1274 : BitVec 32 := Scalar.muli v1253 c512_i32_735
  v1274
def k0_off75 (i : grid0.Coords) (k0_t1 : Fin (k0_t1_loop i).trips) : Fin 2 → Nat :=
  let c2_i32_722 : BitVec 32 := 2#32
  let c2_i32_601 : BitVec 32 := 2#32
  let c2_i32_437 : BitVec 32 := 2#32
  let c2_i32_110 : BitVec 32 := 2#32
  let c0_i32_57 : BitVec 32 := 0#32
  let c1_i32_59 : BitVec 32 := 1#32
  let arg25 : BitVec 32 := Scf.iv c0_i32_57 c1_i32_59 k0_t1
  let v196 : BitVec 32 := Scalar.muli c2_i32_110 arg25
  let c1_i32_111 : BitVec 32 := 1#32
  let v197 : BitVec 32 := Scalar.addi v196 c1_i32_111
  let v760 : BitVec 32 := Scalar.muli c2_i32_437 v197
  let c1_i32_438 : BitVec 32 := 1#32
  let v761 : BitVec 32 := Scalar.addi v760 c1_i32_438
  let v1042 : BitVec 32 := Scalar.muli c2_i32_601 v761
  let c1_i32_602 : BitVec 32 := 1#32
  let v1043 : BitVec 32 := Scalar.addi v1042 c1_i32_602
  let v1251 : BitVec 32 := Scalar.muli c2_i32_722 v1043
  let c2_i32_723 : BitVec 32 := 2#32
  let v1252 : BitVec 32 := Scalar.addi v1251 c2_i32_723
  let arg1 : BitVec 32 := BitVec.ofNat 32 (i 1).val
  let v1253 : BitVec 32 := Scalar.minsi v1252 arg1
  let c512_i32_735 : BitVec 32 := 512#32
  let v1274 : BitVec 32 := Scalar.muli v1253 c512_i32_735
  let v1275 : BitVec 32 := v1274
  let v1276 : Index := Scalar.indexCast v1275
  let c0_736 : Index := 0#32
  ![v1276.toNat, 0]
def k0_mult50 (i : grid0.Coords) (k0_t1 : Fin (k0_t1_loop i).trips) : BitVec 32 :=
  let c2_i32_742 : BitVec 32 := 2#32
  let c2_i32_601 : BitVec 32 := 2#32
  let c2_i32_437 : BitVec 32 := 2#32
  let c2_i32_110 : BitVec 32 := 2#32
  let c0_i32_57 : BitVec 32 := 0#32
  let c1_i32_59 : BitVec 32 := 1#32
  let arg25 : BitVec 32 := Scf.iv c0_i32_57 c1_i32_59 k0_t1
  let v196 : BitVec 32 := Scalar.muli c2_i32_110 arg25
  let c1_i32_111 : BitVec 32 := 1#32
  let v197 : BitVec 32 := Scalar.addi v196 c1_i32_111
  let v760 : BitVec 32 := Scalar.muli c2_i32_437 v197
  let c1_i32_438 : BitVec 32 := 1#32
  let v761 : BitVec 32 := Scalar.addi v760 c1_i32_438
  let v1042 : BitVec 32 := Scalar.muli c2_i32_601 v761
  let c1_i32_602 : BitVec 32 := 1#32
  let v1043 : BitVec 32 := Scalar.addi v1042 c1_i32_602
  let v1285 : BitVec 32 := Scalar.muli c2_i32_742 v1043
  let c1_i32_743 : BitVec 32 := 1#32
  let v1286 : BitVec 32 := Scalar.addi v1285 c1_i32_743
  let c512_i32_744 : BitVec 32 := 512#32
  let v1287 : BitVec 32 := Scalar.muli v1286 c512_i32_744
  v1287
@[reducible] def k0_t2_loop (i : grid0.Coords) : Scf.Loop 32 :=
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let v103 : BitVec 32 := Scalar.addi c0_i32_57 v102
  let c1_i32_60 : BitVec 32 := 1#32
  ⟨v106, v103, c1_i32_60⟩
def k0_mult51 (i : grid0.Coords) (k0_t2 : Fin (k0_t2_loop i).trips) : BitVec 32 :=
  let c2_i32_119 : BitVec 32 := 2#32
  let c2_i32_118 : BitVec 32 := 2#32
  let c2_i32_115 : BitVec 32 := 2#32
  let c2_i32_112 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v198 : BitVec 32 := Scalar.muli c2_i32_112 arg25
  let v201 : BitVec 32 := Scalar.muli c2_i32_115 v198
  let v204 : BitVec 32 := Scalar.muli c2_i32_118 v201
  let v205 : BitVec 32 := Scalar.muli c2_i32_119 v204
  let c1_i32_120 : BitVec 32 := 1#32
  let v206 : BitVec 32 := Scalar.addi v205 c1_i32_120
  let c512_i32 : BitVec 32 := 512#32
  let v207 : BitVec 32 := Scalar.muli v206 c512_i32
  v207
def k0_off76 (i : grid0.Coords) (k0_t2 : Fin (k0_t2_loop i).trips) : Fin 2 → Nat :=
  let c2_i32_119 : BitVec 32 := 2#32
  let c2_i32_118 : BitVec 32 := 2#32
  let c2_i32_115 : BitVec 32 := 2#32
  let c2_i32_112 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v198 : BitVec 32 := Scalar.muli c2_i32_112 arg25
  let v201 : BitVec 32 := Scalar.muli c2_i32_115 v198
  let v204 : BitVec 32 := Scalar.muli c2_i32_118 v201
  let v205 : BitVec 32 := Scalar.muli c2_i32_119 v204
  let c1_i32_120 : BitVec 32 := 1#32
  let v206 : BitVec 32 := Scalar.addi v205 c1_i32_120
  let c512_i32 : BitVec 32 := 512#32
  let v207 : BitVec 32 := Scalar.muli v206 c512_i32
  let v208 : BitVec 32 := v207
  let v209 : Index := Scalar.indexCast v208
  let c0_121 : Index := 0#32
  ![v209.toNat, 0]
def k0_off77 (i : grid0.Coords) (k0_t2 : Fin (k0_t2_loop i).trips) : Fin 3 → Nat :=
  let c2_i32_119 : BitVec 32 := 2#32
  let c2_i32_118 : BitVec 32 := 2#32
  let c2_i32_115 : BitVec 32 := 2#32
  let c2_i32_112 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v198 : BitVec 32 := Scalar.muli c2_i32_112 arg25
  let v201 : BitVec 32 := Scalar.muli c2_i32_115 v198
  let v204 : BitVec 32 := Scalar.muli c2_i32_118 v201
  let v205 : BitVec 32 := Scalar.muli c2_i32_119 v204
  let c1_i32_120 : BitVec 32 := 1#32
  let v206 : BitVec 32 := Scalar.addi v205 c1_i32_120
  let v214 : BitVec 1 := Scalar.cmpi .eq v206 arg1
  let v215 : BitVec 32 := Scalar.extui v214
  let v216 : Index := Scalar.indexCast v215
  let c0_124 : Index := 0#32
  let c0_125 : Index := 0#32
  ![v216.toNat, 0, 0]
def k0_mult52 (i : grid0.Coords) (k0_t2 : Fin (k0_t2_loop i).trips) : BitVec 32 :=
  let c2_i32_119 : BitVec 32 := 2#32
  let c2_i32_118 : BitVec 32 := 2#32
  let c2_i32_115 : BitVec 32 := 2#32
  let c2_i32_112 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v198 : BitVec 32 := Scalar.muli c2_i32_112 arg25
  let v201 : BitVec 32 := Scalar.muli c2_i32_115 v198
  let v204 : BitVec 32 := Scalar.muli c2_i32_118 v201
  let v205 : BitVec 32 := Scalar.muli c2_i32_119 v204
  let c1_i32_120 : BitVec 32 := 1#32
  let v206 : BitVec 32 := Scalar.addi v205 c1_i32_120
  let c512_i32_131 : BitVec 32 := 512#32
  let v227 : BitVec 32 := Scalar.muli v206 c512_i32_131
  v227
def k0_off78 (i : grid0.Coords) (k0_t2 : Fin (k0_t2_loop i).trips) : Fin 2 → Nat :=
  let c2_i32_119 : BitVec 32 := 2#32
  let c2_i32_118 : BitVec 32 := 2#32
  let c2_i32_115 : BitVec 32 := 2#32
  let c2_i32_112 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v198 : BitVec 32 := Scalar.muli c2_i32_112 arg25
  let v201 : BitVec 32 := Scalar.muli c2_i32_115 v198
  let v204 : BitVec 32 := Scalar.muli c2_i32_118 v201
  let v205 : BitVec 32 := Scalar.muli c2_i32_119 v204
  let c1_i32_120 : BitVec 32 := 1#32
  let v206 : BitVec 32 := Scalar.addi v205 c1_i32_120
  let c512_i32_131 : BitVec 32 := 512#32
  let v227 : BitVec 32 := Scalar.muli v206 c512_i32_131
  let v228 : BitVec 32 := v227
  let v229 : Index := Scalar.indexCast v228
  let c0_132 : Index := 0#32
  ![v229.toNat, 0]
def k0_mult53 (i : grid0.Coords) (k0_t2 : Fin (k0_t2_loop i).trips) : BitVec 32 :=
  let c2_i32_138 : BitVec 32 := 2#32
  let c2_i32_118 : BitVec 32 := 2#32
  let c2_i32_115 : BitVec 32 := 2#32
  let c2_i32_112 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v198 : BitVec 32 := Scalar.muli c2_i32_112 arg25
  let v201 : BitVec 32 := Scalar.muli c2_i32_115 v198
  let v204 : BitVec 32 := Scalar.muli c2_i32_118 v201
  let v238 : BitVec 32 := Scalar.muli c2_i32_138 v204
  let c512_i32_139 : BitVec 32 := 512#32
  let v239 : BitVec 32 := Scalar.muli v238 c512_i32_139
  v239
def k0_off79 (i : grid0.Coords) (k0_t2 : Fin (k0_t2_loop i).trips) : Fin 2 → Nat :=
  let c2_i32_138 : BitVec 32 := 2#32
  let c2_i32_118 : BitVec 32 := 2#32
  let c2_i32_115 : BitVec 32 := 2#32
  let c2_i32_112 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v198 : BitVec 32 := Scalar.muli c2_i32_112 arg25
  let v201 : BitVec 32 := Scalar.muli c2_i32_115 v198
  let v204 : BitVec 32 := Scalar.muli c2_i32_118 v201
  let v238 : BitVec 32 := Scalar.muli c2_i32_138 v204
  let c512_i32_139 : BitVec 32 := 512#32
  let v239 : BitVec 32 := Scalar.muli v238 c512_i32_139
  let v240 : BitVec 32 := v239
  let v250 : Index := Scalar.indexCast v240
  let c0_147 : Index := 0#32
  ![v250.toNat, 0]
def k0_off80 (i : grid0.Coords) (k0_t2 : Fin (k0_t2_loop i).trips) : Fin 2 → Nat :=
  let c2_i32_138 : BitVec 32 := 2#32
  let c2_i32_118 : BitVec 32 := 2#32
  let c2_i32_115 : BitVec 32 := 2#32
  let c2_i32_112 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v198 : BitVec 32 := Scalar.muli c2_i32_112 arg25
  let v201 : BitVec 32 := Scalar.muli c2_i32_115 v198
  let v204 : BitVec 32 := Scalar.muli c2_i32_118 v201
  let v238 : BitVec 32 := Scalar.muli c2_i32_138 v204
  let c512_i32_139 : BitVec 32 := 512#32
  let v239 : BitVec 32 := Scalar.muli v238 c512_i32_139
  let v240 : BitVec 32 := v239
  let v265 : Index := Scalar.indexCast v240
  let c0_154 : Index := 0#32
  ![v265.toNat, 0]
def k0_mult54 (i : grid0.Coords) (k0_t2 : Fin (k0_t2_loop i).trips) : BitVec 32 :=
  let c2_i32_157 : BitVec 32 := 2#32
  let c2_i32_118 : BitVec 32 := 2#32
  let c2_i32_115 : BitVec 32 := 2#32
  let c2_i32_112 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v198 : BitVec 32 := Scalar.muli c2_i32_112 arg25
  let v201 : BitVec 32 := Scalar.muli c2_i32_115 v198
  let v204 : BitVec 32 := Scalar.muli c2_i32_118 v201
  let v273 : BitVec 32 := Scalar.muli c2_i32_157 v204
  let c2_i32_158 : BitVec 32 := 2#32
  let v274 : BitVec 32 := Scalar.addi v273 c2_i32_158
  let v275 : BitVec 32 := Scalar.minsi v274 arg1
  let c512_i32_159 : BitVec 32 := 512#32
  let v276 : BitVec 32 := Scalar.muli v275 c512_i32_159
  v276
def k0_off81 (i : grid0.Coords) (k0_t2 : Fin (k0_t2_loop i).trips) : Fin 2 → Nat :=
  let c2_i32_157 : BitVec 32 := 2#32
  let c2_i32_118 : BitVec 32 := 2#32
  let c2_i32_115 : BitVec 32 := 2#32
  let c2_i32_112 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v198 : BitVec 32 := Scalar.muli c2_i32_112 arg25
  let v201 : BitVec 32 := Scalar.muli c2_i32_115 v198
  let v204 : BitVec 32 := Scalar.muli c2_i32_118 v201
  let v273 : BitVec 32 := Scalar.muli c2_i32_157 v204
  let c2_i32_158 : BitVec 32 := 2#32
  let v274 : BitVec 32 := Scalar.addi v273 c2_i32_158
  let v275 : BitVec 32 := Scalar.minsi v274 arg1
  let c512_i32_159 : BitVec 32 := 512#32
  let v276 : BitVec 32 := Scalar.muli v275 c512_i32_159
  let v277 : BitVec 32 := v276
  let v278 : Index := Scalar.indexCast v277
  let c0_160 : Index := 0#32
  ![v278.toNat, 0]
def k0_off82 (i : grid0.Coords) (k0_t2 : Fin (k0_t2_loop i).trips) : Fin 3 → Nat :=
  let c2_i32_157 : BitVec 32 := 2#32
  let c2_i32_118 : BitVec 32 := 2#32
  let c2_i32_115 : BitVec 32 := 2#32
  let c2_i32_112 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v198 : BitVec 32 := Scalar.muli c2_i32_112 arg25
  let v201 : BitVec 32 := Scalar.muli c2_i32_115 v198
  let v204 : BitVec 32 := Scalar.muli c2_i32_118 v201
  let v273 : BitVec 32 := Scalar.muli c2_i32_157 v204
  let c2_i32_158 : BitVec 32 := 2#32
  let v274 : BitVec 32 := Scalar.addi v273 c2_i32_158
  let v275 : BitVec 32 := Scalar.minsi v274 arg1
  let v283 : BitVec 1 := Scalar.cmpi .eq v275 arg1
  let v284 : BitVec 32 := Scalar.extui v283
  let v285 : Index := Scalar.indexCast v284
  let c0_163 : Index := 0#32
  let c0_164 : Index := 0#32
  ![v285.toNat, 0, 0]
def k0_mult55 (i : grid0.Coords) (k0_t2 : Fin (k0_t2_loop i).trips) : BitVec 32 :=
  let c2_i32_157 : BitVec 32 := 2#32
  let c2_i32_118 : BitVec 32 := 2#32
  let c2_i32_115 : BitVec 32 := 2#32
  let c2_i32_112 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v198 : BitVec 32 := Scalar.muli c2_i32_112 arg25
  let v201 : BitVec 32 := Scalar.muli c2_i32_115 v198
  let v204 : BitVec 32 := Scalar.muli c2_i32_118 v201
  let v273 : BitVec 32 := Scalar.muli c2_i32_157 v204
  let c2_i32_158 : BitVec 32 := 2#32
  let v274 : BitVec 32 := Scalar.addi v273 c2_i32_158
  let v275 : BitVec 32 := Scalar.minsi v274 arg1
  let c512_i32_170 : BitVec 32 := 512#32
  let v296 : BitVec 32 := Scalar.muli v275 c512_i32_170
  v296
def k0_off83 (i : grid0.Coords) (k0_t2 : Fin (k0_t2_loop i).trips) : Fin 2 → Nat :=
  let c2_i32_157 : BitVec 32 := 2#32
  let c2_i32_118 : BitVec 32 := 2#32
  let c2_i32_115 : BitVec 32 := 2#32
  let c2_i32_112 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v198 : BitVec 32 := Scalar.muli c2_i32_112 arg25
  let v201 : BitVec 32 := Scalar.muli c2_i32_115 v198
  let v204 : BitVec 32 := Scalar.muli c2_i32_118 v201
  let v273 : BitVec 32 := Scalar.muli c2_i32_157 v204
  let c2_i32_158 : BitVec 32 := 2#32
  let v274 : BitVec 32 := Scalar.addi v273 c2_i32_158
  let v275 : BitVec 32 := Scalar.minsi v274 arg1
  let c512_i32_170 : BitVec 32 := 512#32
  let v296 : BitVec 32 := Scalar.muli v275 c512_i32_170
  let v297 : BitVec 32 := v296
  let v298 : Index := Scalar.indexCast v297
  let c0_171 : Index := 0#32
  ![v298.toNat, 0]
def k0_mult56 (i : grid0.Coords) (k0_t2 : Fin (k0_t2_loop i).trips) : BitVec 32 :=
  let c2_i32_177 : BitVec 32 := 2#32
  let c2_i32_118 : BitVec 32 := 2#32
  let c2_i32_115 : BitVec 32 := 2#32
  let c2_i32_112 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v198 : BitVec 32 := Scalar.muli c2_i32_112 arg25
  let v201 : BitVec 32 := Scalar.muli c2_i32_115 v198
  let v204 : BitVec 32 := Scalar.muli c2_i32_118 v201
  let v307 : BitVec 32 := Scalar.muli c2_i32_177 v204
  let c1_i32_178 : BitVec 32 := 1#32
  let v308 : BitVec 32 := Scalar.addi v307 c1_i32_178
  let c512_i32_179 : BitVec 32 := 512#32
  let v309 : BitVec 32 := Scalar.muli v308 c512_i32_179
  v309
def k0_mult57 (i : grid0.Coords) (k0_t2 : Fin (k0_t2_loop i).trips) : BitVec 32 :=
  let c2_i32_197 : BitVec 32 := 2#32
  let c2_i32_116 : BitVec 32 := 2#32
  let c2_i32_115 : BitVec 32 := 2#32
  let c2_i32_112 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v198 : BitVec 32 := Scalar.muli c2_i32_112 arg25
  let v201 : BitVec 32 := Scalar.muli c2_i32_115 v198
  let v202 : BitVec 32 := Scalar.muli c2_i32_116 v201
  let c1_i32_117 : BitVec 32 := 1#32
  let v203 : BitVec 32 := Scalar.addi v202 c1_i32_117
  let v343 : BitVec 32 := Scalar.muli c2_i32_197 v203
  let c1_i32_198 : BitVec 32 := 1#32
  let v344 : BitVec 32 := Scalar.addi v343 c1_i32_198
  let c512_i32_199 : BitVec 32 := 512#32
  let v345 : BitVec 32 := Scalar.muli v344 c512_i32_199
  v345
def k0_off84 (i : grid0.Coords) (k0_t2 : Fin (k0_t2_loop i).trips) : Fin 2 → Nat :=
  let c2_i32_197 : BitVec 32 := 2#32
  let c2_i32_116 : BitVec 32 := 2#32
  let c2_i32_115 : BitVec 32 := 2#32
  let c2_i32_112 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v198 : BitVec 32 := Scalar.muli c2_i32_112 arg25
  let v201 : BitVec 32 := Scalar.muli c2_i32_115 v198
  let v202 : BitVec 32 := Scalar.muli c2_i32_116 v201
  let c1_i32_117 : BitVec 32 := 1#32
  let v203 : BitVec 32 := Scalar.addi v202 c1_i32_117
  let v343 : BitVec 32 := Scalar.muli c2_i32_197 v203
  let c1_i32_198 : BitVec 32 := 1#32
  let v344 : BitVec 32 := Scalar.addi v343 c1_i32_198
  let c512_i32_199 : BitVec 32 := 512#32
  let v345 : BitVec 32 := Scalar.muli v344 c512_i32_199
  let v346 : BitVec 32 := v345
  let v347 : Index := Scalar.indexCast v346
  let c0_200 : Index := 0#32
  ![v347.toNat, 0]
def k0_off85 (i : grid0.Coords) (k0_t2 : Fin (k0_t2_loop i).trips) : Fin 3 → Nat :=
  let c2_i32_197 : BitVec 32 := 2#32
  let c2_i32_116 : BitVec 32 := 2#32
  let c2_i32_115 : BitVec 32 := 2#32
  let c2_i32_112 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v198 : BitVec 32 := Scalar.muli c2_i32_112 arg25
  let v201 : BitVec 32 := Scalar.muli c2_i32_115 v198
  let v202 : BitVec 32 := Scalar.muli c2_i32_116 v201
  let c1_i32_117 : BitVec 32 := 1#32
  let v203 : BitVec 32 := Scalar.addi v202 c1_i32_117
  let v343 : BitVec 32 := Scalar.muli c2_i32_197 v203
  let c1_i32_198 : BitVec 32 := 1#32
  let v344 : BitVec 32 := Scalar.addi v343 c1_i32_198
  let v352 : BitVec 1 := Scalar.cmpi .eq v344 arg1
  let v353 : BitVec 32 := Scalar.extui v352
  let v354 : Index := Scalar.indexCast v353
  let c0_203 : Index := 0#32
  let c0_204 : Index := 0#32
  ![v354.toNat, 0, 0]
def k0_mult58 (i : grid0.Coords) (k0_t2 : Fin (k0_t2_loop i).trips) : BitVec 32 :=
  let c2_i32_197 : BitVec 32 := 2#32
  let c2_i32_116 : BitVec 32 := 2#32
  let c2_i32_115 : BitVec 32 := 2#32
  let c2_i32_112 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v198 : BitVec 32 := Scalar.muli c2_i32_112 arg25
  let v201 : BitVec 32 := Scalar.muli c2_i32_115 v198
  let v202 : BitVec 32 := Scalar.muli c2_i32_116 v201
  let c1_i32_117 : BitVec 32 := 1#32
  let v203 : BitVec 32 := Scalar.addi v202 c1_i32_117
  let v343 : BitVec 32 := Scalar.muli c2_i32_197 v203
  let c1_i32_198 : BitVec 32 := 1#32
  let v344 : BitVec 32 := Scalar.addi v343 c1_i32_198
  let c512_i32_210 : BitVec 32 := 512#32
  let v365 : BitVec 32 := Scalar.muli v344 c512_i32_210
  v365
def k0_off86 (i : grid0.Coords) (k0_t2 : Fin (k0_t2_loop i).trips) : Fin 2 → Nat :=
  let c2_i32_197 : BitVec 32 := 2#32
  let c2_i32_116 : BitVec 32 := 2#32
  let c2_i32_115 : BitVec 32 := 2#32
  let c2_i32_112 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v198 : BitVec 32 := Scalar.muli c2_i32_112 arg25
  let v201 : BitVec 32 := Scalar.muli c2_i32_115 v198
  let v202 : BitVec 32 := Scalar.muli c2_i32_116 v201
  let c1_i32_117 : BitVec 32 := 1#32
  let v203 : BitVec 32 := Scalar.addi v202 c1_i32_117
  let v343 : BitVec 32 := Scalar.muli c2_i32_197 v203
  let c1_i32_198 : BitVec 32 := 1#32
  let v344 : BitVec 32 := Scalar.addi v343 c1_i32_198
  let c512_i32_210 : BitVec 32 := 512#32
  let v365 : BitVec 32 := Scalar.muli v344 c512_i32_210
  let v366 : BitVec 32 := v365
  let v367 : Index := Scalar.indexCast v366
  let c0_211 : Index := 0#32
  ![v367.toNat, 0]
def k0_mult59 (i : grid0.Coords) (k0_t2 : Fin (k0_t2_loop i).trips) : BitVec 32 :=
  let c2_i32_217 : BitVec 32 := 2#32
  let c2_i32_116 : BitVec 32 := 2#32
  let c2_i32_115 : BitVec 32 := 2#32
  let c2_i32_112 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v198 : BitVec 32 := Scalar.muli c2_i32_112 arg25
  let v201 : BitVec 32 := Scalar.muli c2_i32_115 v198
  let v202 : BitVec 32 := Scalar.muli c2_i32_116 v201
  let c1_i32_117 : BitVec 32 := 1#32
  let v203 : BitVec 32 := Scalar.addi v202 c1_i32_117
  let v376 : BitVec 32 := Scalar.muli c2_i32_217 v203
  let c512_i32_218 : BitVec 32 := 512#32
  let v377 : BitVec 32 := Scalar.muli v376 c512_i32_218
  v377
def k0_off87 (i : grid0.Coords) (k0_t2 : Fin (k0_t2_loop i).trips) : Fin 2 → Nat :=
  let c2_i32_217 : BitVec 32 := 2#32
  let c2_i32_116 : BitVec 32 := 2#32
  let c2_i32_115 : BitVec 32 := 2#32
  let c2_i32_112 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v198 : BitVec 32 := Scalar.muli c2_i32_112 arg25
  let v201 : BitVec 32 := Scalar.muli c2_i32_115 v198
  let v202 : BitVec 32 := Scalar.muli c2_i32_116 v201
  let c1_i32_117 : BitVec 32 := 1#32
  let v203 : BitVec 32 := Scalar.addi v202 c1_i32_117
  let v376 : BitVec 32 := Scalar.muli c2_i32_217 v203
  let c512_i32_218 : BitVec 32 := 512#32
  let v377 : BitVec 32 := Scalar.muli v376 c512_i32_218
  let v378 : BitVec 32 := v377
  let v388 : Index := Scalar.indexCast v378
  let c0_226 : Index := 0#32
  ![v388.toNat, 0]
def k0_off88 (i : grid0.Coords) (k0_t2 : Fin (k0_t2_loop i).trips) : Fin 2 → Nat :=
  let c2_i32_217 : BitVec 32 := 2#32
  let c2_i32_116 : BitVec 32 := 2#32
  let c2_i32_115 : BitVec 32 := 2#32
  let c2_i32_112 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v198 : BitVec 32 := Scalar.muli c2_i32_112 arg25
  let v201 : BitVec 32 := Scalar.muli c2_i32_115 v198
  let v202 : BitVec 32 := Scalar.muli c2_i32_116 v201
  let c1_i32_117 : BitVec 32 := 1#32
  let v203 : BitVec 32 := Scalar.addi v202 c1_i32_117
  let v376 : BitVec 32 := Scalar.muli c2_i32_217 v203
  let c512_i32_218 : BitVec 32 := 512#32
  let v377 : BitVec 32 := Scalar.muli v376 c512_i32_218
  let v378 : BitVec 32 := v377
  let v403 : Index := Scalar.indexCast v378
  let c0_233 : Index := 0#32
  ![v403.toNat, 0]
def k0_mult60 (i : grid0.Coords) (k0_t2 : Fin (k0_t2_loop i).trips) : BitVec 32 :=
  let c2_i32_236 : BitVec 32 := 2#32
  let c2_i32_116 : BitVec 32 := 2#32
  let c2_i32_115 : BitVec 32 := 2#32
  let c2_i32_112 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v198 : BitVec 32 := Scalar.muli c2_i32_112 arg25
  let v201 : BitVec 32 := Scalar.muli c2_i32_115 v198
  let v202 : BitVec 32 := Scalar.muli c2_i32_116 v201
  let c1_i32_117 : BitVec 32 := 1#32
  let v203 : BitVec 32 := Scalar.addi v202 c1_i32_117
  let v411 : BitVec 32 := Scalar.muli c2_i32_236 v203
  let c2_i32_237 : BitVec 32 := 2#32
  let v412 : BitVec 32 := Scalar.addi v411 c2_i32_237
  let v413 : BitVec 32 := Scalar.minsi v412 arg1
  let c512_i32_238 : BitVec 32 := 512#32
  let v414 : BitVec 32 := Scalar.muli v413 c512_i32_238
  v414
def k0_off89 (i : grid0.Coords) (k0_t2 : Fin (k0_t2_loop i).trips) : Fin 2 → Nat :=
  let c2_i32_236 : BitVec 32 := 2#32
  let c2_i32_116 : BitVec 32 := 2#32
  let c2_i32_115 : BitVec 32 := 2#32
  let c2_i32_112 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v198 : BitVec 32 := Scalar.muli c2_i32_112 arg25
  let v201 : BitVec 32 := Scalar.muli c2_i32_115 v198
  let v202 : BitVec 32 := Scalar.muli c2_i32_116 v201
  let c1_i32_117 : BitVec 32 := 1#32
  let v203 : BitVec 32 := Scalar.addi v202 c1_i32_117
  let v411 : BitVec 32 := Scalar.muli c2_i32_236 v203
  let c2_i32_237 : BitVec 32 := 2#32
  let v412 : BitVec 32 := Scalar.addi v411 c2_i32_237
  let v413 : BitVec 32 := Scalar.minsi v412 arg1
  let c512_i32_238 : BitVec 32 := 512#32
  let v414 : BitVec 32 := Scalar.muli v413 c512_i32_238
  let v415 : BitVec 32 := v414
  let v416 : Index := Scalar.indexCast v415
  let c0_239 : Index := 0#32
  ![v416.toNat, 0]
def k0_off90 (i : grid0.Coords) (k0_t2 : Fin (k0_t2_loop i).trips) : Fin 3 → Nat :=
  let c2_i32_236 : BitVec 32 := 2#32
  let c2_i32_116 : BitVec 32 := 2#32
  let c2_i32_115 : BitVec 32 := 2#32
  let c2_i32_112 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v198 : BitVec 32 := Scalar.muli c2_i32_112 arg25
  let v201 : BitVec 32 := Scalar.muli c2_i32_115 v198
  let v202 : BitVec 32 := Scalar.muli c2_i32_116 v201
  let c1_i32_117 : BitVec 32 := 1#32
  let v203 : BitVec 32 := Scalar.addi v202 c1_i32_117
  let v411 : BitVec 32 := Scalar.muli c2_i32_236 v203
  let c2_i32_237 : BitVec 32 := 2#32
  let v412 : BitVec 32 := Scalar.addi v411 c2_i32_237
  let v413 : BitVec 32 := Scalar.minsi v412 arg1
  let v421 : BitVec 1 := Scalar.cmpi .eq v413 arg1
  let v422 : BitVec 32 := Scalar.extui v421
  let v423 : Index := Scalar.indexCast v422
  let c0_242 : Index := 0#32
  let c0_243 : Index := 0#32
  ![v423.toNat, 0, 0]
def k0_mult61 (i : grid0.Coords) (k0_t2 : Fin (k0_t2_loop i).trips) : BitVec 32 :=
  let c2_i32_236 : BitVec 32 := 2#32
  let c2_i32_116 : BitVec 32 := 2#32
  let c2_i32_115 : BitVec 32 := 2#32
  let c2_i32_112 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v198 : BitVec 32 := Scalar.muli c2_i32_112 arg25
  let v201 : BitVec 32 := Scalar.muli c2_i32_115 v198
  let v202 : BitVec 32 := Scalar.muli c2_i32_116 v201
  let c1_i32_117 : BitVec 32 := 1#32
  let v203 : BitVec 32 := Scalar.addi v202 c1_i32_117
  let v411 : BitVec 32 := Scalar.muli c2_i32_236 v203
  let c2_i32_237 : BitVec 32 := 2#32
  let v412 : BitVec 32 := Scalar.addi v411 c2_i32_237
  let v413 : BitVec 32 := Scalar.minsi v412 arg1
  let c512_i32_249 : BitVec 32 := 512#32
  let v434 : BitVec 32 := Scalar.muli v413 c512_i32_249
  v434
def k0_off91 (i : grid0.Coords) (k0_t2 : Fin (k0_t2_loop i).trips) : Fin 2 → Nat :=
  let c2_i32_236 : BitVec 32 := 2#32
  let c2_i32_116 : BitVec 32 := 2#32
  let c2_i32_115 : BitVec 32 := 2#32
  let c2_i32_112 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v198 : BitVec 32 := Scalar.muli c2_i32_112 arg25
  let v201 : BitVec 32 := Scalar.muli c2_i32_115 v198
  let v202 : BitVec 32 := Scalar.muli c2_i32_116 v201
  let c1_i32_117 : BitVec 32 := 1#32
  let v203 : BitVec 32 := Scalar.addi v202 c1_i32_117
  let v411 : BitVec 32 := Scalar.muli c2_i32_236 v203
  let c2_i32_237 : BitVec 32 := 2#32
  let v412 : BitVec 32 := Scalar.addi v411 c2_i32_237
  let v413 : BitVec 32 := Scalar.minsi v412 arg1
  let c512_i32_249 : BitVec 32 := 512#32
  let v434 : BitVec 32 := Scalar.muli v413 c512_i32_249
  let v435 : BitVec 32 := v434
  let v436 : Index := Scalar.indexCast v435
  let c0_250 : Index := 0#32
  ![v436.toNat, 0]
def k0_mult62 (i : grid0.Coords) (k0_t2 : Fin (k0_t2_loop i).trips) : BitVec 32 :=
  let c2_i32_256 : BitVec 32 := 2#32
  let c2_i32_116 : BitVec 32 := 2#32
  let c2_i32_115 : BitVec 32 := 2#32
  let c2_i32_112 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v198 : BitVec 32 := Scalar.muli c2_i32_112 arg25
  let v201 : BitVec 32 := Scalar.muli c2_i32_115 v198
  let v202 : BitVec 32 := Scalar.muli c2_i32_116 v201
  let c1_i32_117 : BitVec 32 := 1#32
  let v203 : BitVec 32 := Scalar.addi v202 c1_i32_117
  let v445 : BitVec 32 := Scalar.muli c2_i32_256 v203
  let c1_i32_257 : BitVec 32 := 1#32
  let v446 : BitVec 32 := Scalar.addi v445 c1_i32_257
  let c512_i32_258 : BitVec 32 := 512#32
  let v447 : BitVec 32 := Scalar.muli v446 c512_i32_258
  v447
def k0_mult63 (i : grid0.Coords) (k0_t2 : Fin (k0_t2_loop i).trips) : BitVec 32 :=
  let c2_i32_279 : BitVec 32 := 2#32
  let c2_i32_278 : BitVec 32 := 2#32
  let c2_i32_113 : BitVec 32 := 2#32
  let c2_i32_112 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v198 : BitVec 32 := Scalar.muli c2_i32_112 arg25
  let v199 : BitVec 32 := Scalar.muli c2_i32_113 v198
  let c1_i32_114 : BitVec 32 := 1#32
  let v200 : BitVec 32 := Scalar.addi v199 c1_i32_114
  let v483 : BitVec 32 := Scalar.muli c2_i32_278 v200
  let v484 : BitVec 32 := Scalar.muli c2_i32_279 v483
  let c1_i32_280 : BitVec 32 := 1#32
  let v485 : BitVec 32 := Scalar.addi v484 c1_i32_280
  let c512_i32_281 : BitVec 32 := 512#32
  let v486 : BitVec 32 := Scalar.muli v485 c512_i32_281
  v486
def k0_off92 (i : grid0.Coords) (k0_t2 : Fin (k0_t2_loop i).trips) : Fin 2 → Nat :=
  let c2_i32_279 : BitVec 32 := 2#32
  let c2_i32_278 : BitVec 32 := 2#32
  let c2_i32_113 : BitVec 32 := 2#32
  let c2_i32_112 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v198 : BitVec 32 := Scalar.muli c2_i32_112 arg25
  let v199 : BitVec 32 := Scalar.muli c2_i32_113 v198
  let c1_i32_114 : BitVec 32 := 1#32
  let v200 : BitVec 32 := Scalar.addi v199 c1_i32_114
  let v483 : BitVec 32 := Scalar.muli c2_i32_278 v200
  let v484 : BitVec 32 := Scalar.muli c2_i32_279 v483
  let c1_i32_280 : BitVec 32 := 1#32
  let v485 : BitVec 32 := Scalar.addi v484 c1_i32_280
  let c512_i32_281 : BitVec 32 := 512#32
  let v486 : BitVec 32 := Scalar.muli v485 c512_i32_281
  let v487 : BitVec 32 := v486
  let v488 : Index := Scalar.indexCast v487
  let c0_282 : Index := 0#32
  ![v488.toNat, 0]
def k0_off93 (i : grid0.Coords) (k0_t2 : Fin (k0_t2_loop i).trips) : Fin 3 → Nat :=
  let c2_i32_279 : BitVec 32 := 2#32
  let c2_i32_278 : BitVec 32 := 2#32
  let c2_i32_113 : BitVec 32 := 2#32
  let c2_i32_112 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v198 : BitVec 32 := Scalar.muli c2_i32_112 arg25
  let v199 : BitVec 32 := Scalar.muli c2_i32_113 v198
  let c1_i32_114 : BitVec 32 := 1#32
  let v200 : BitVec 32 := Scalar.addi v199 c1_i32_114
  let v483 : BitVec 32 := Scalar.muli c2_i32_278 v200
  let v484 : BitVec 32 := Scalar.muli c2_i32_279 v483
  let c1_i32_280 : BitVec 32 := 1#32
  let v485 : BitVec 32 := Scalar.addi v484 c1_i32_280
  let v493 : BitVec 1 := Scalar.cmpi .eq v485 arg1
  let v494 : BitVec 32 := Scalar.extui v493
  let v495 : Index := Scalar.indexCast v494
  let c0_285 : Index := 0#32
  let c0_286 : Index := 0#32
  ![v495.toNat, 0, 0]
def k0_mult64 (i : grid0.Coords) (k0_t2 : Fin (k0_t2_loop i).trips) : BitVec 32 :=
  let c2_i32_279 : BitVec 32 := 2#32
  let c2_i32_278 : BitVec 32 := 2#32
  let c2_i32_113 : BitVec 32 := 2#32
  let c2_i32_112 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v198 : BitVec 32 := Scalar.muli c2_i32_112 arg25
  let v199 : BitVec 32 := Scalar.muli c2_i32_113 v198
  let c1_i32_114 : BitVec 32 := 1#32
  let v200 : BitVec 32 := Scalar.addi v199 c1_i32_114
  let v483 : BitVec 32 := Scalar.muli c2_i32_278 v200
  let v484 : BitVec 32 := Scalar.muli c2_i32_279 v483
  let c1_i32_280 : BitVec 32 := 1#32
  let v485 : BitVec 32 := Scalar.addi v484 c1_i32_280
  let c512_i32_292 : BitVec 32 := 512#32
  let v506 : BitVec 32 := Scalar.muli v485 c512_i32_292
  v506
def k0_off94 (i : grid0.Coords) (k0_t2 : Fin (k0_t2_loop i).trips) : Fin 2 → Nat :=
  let c2_i32_279 : BitVec 32 := 2#32
  let c2_i32_278 : BitVec 32 := 2#32
  let c2_i32_113 : BitVec 32 := 2#32
  let c2_i32_112 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v198 : BitVec 32 := Scalar.muli c2_i32_112 arg25
  let v199 : BitVec 32 := Scalar.muli c2_i32_113 v198
  let c1_i32_114 : BitVec 32 := 1#32
  let v200 : BitVec 32 := Scalar.addi v199 c1_i32_114
  let v483 : BitVec 32 := Scalar.muli c2_i32_278 v200
  let v484 : BitVec 32 := Scalar.muli c2_i32_279 v483
  let c1_i32_280 : BitVec 32 := 1#32
  let v485 : BitVec 32 := Scalar.addi v484 c1_i32_280
  let c512_i32_292 : BitVec 32 := 512#32
  let v506 : BitVec 32 := Scalar.muli v485 c512_i32_292
  let v507 : BitVec 32 := v506
  let v508 : Index := Scalar.indexCast v507
  let c0_293 : Index := 0#32
  ![v508.toNat, 0]
def k0_mult65 (i : grid0.Coords) (k0_t2 : Fin (k0_t2_loop i).trips) : BitVec 32 :=
  let c2_i32_299 : BitVec 32 := 2#32
  let c2_i32_278 : BitVec 32 := 2#32
  let c2_i32_113 : BitVec 32 := 2#32
  let c2_i32_112 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v198 : BitVec 32 := Scalar.muli c2_i32_112 arg25
  let v199 : BitVec 32 := Scalar.muli c2_i32_113 v198
  let c1_i32_114 : BitVec 32 := 1#32
  let v200 : BitVec 32 := Scalar.addi v199 c1_i32_114
  let v483 : BitVec 32 := Scalar.muli c2_i32_278 v200
  let v517 : BitVec 32 := Scalar.muli c2_i32_299 v483
  let c512_i32_300 : BitVec 32 := 512#32
  let v518 : BitVec 32 := Scalar.muli v517 c512_i32_300
  v518
def k0_off95 (i : grid0.Coords) (k0_t2 : Fin (k0_t2_loop i).trips) : Fin 2 → Nat :=
  let c2_i32_299 : BitVec 32 := 2#32
  let c2_i32_278 : BitVec 32 := 2#32
  let c2_i32_113 : BitVec 32 := 2#32
  let c2_i32_112 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v198 : BitVec 32 := Scalar.muli c2_i32_112 arg25
  let v199 : BitVec 32 := Scalar.muli c2_i32_113 v198
  let c1_i32_114 : BitVec 32 := 1#32
  let v200 : BitVec 32 := Scalar.addi v199 c1_i32_114
  let v483 : BitVec 32 := Scalar.muli c2_i32_278 v200
  let v517 : BitVec 32 := Scalar.muli c2_i32_299 v483
  let c512_i32_300 : BitVec 32 := 512#32
  let v518 : BitVec 32 := Scalar.muli v517 c512_i32_300
  let v519 : BitVec 32 := v518
  let v529 : Index := Scalar.indexCast v519
  let c0_308 : Index := 0#32
  ![v529.toNat, 0]
def k0_off96 (i : grid0.Coords) (k0_t2 : Fin (k0_t2_loop i).trips) : Fin 2 → Nat :=
  let c2_i32_299 : BitVec 32 := 2#32
  let c2_i32_278 : BitVec 32 := 2#32
  let c2_i32_113 : BitVec 32 := 2#32
  let c2_i32_112 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v198 : BitVec 32 := Scalar.muli c2_i32_112 arg25
  let v199 : BitVec 32 := Scalar.muli c2_i32_113 v198
  let c1_i32_114 : BitVec 32 := 1#32
  let v200 : BitVec 32 := Scalar.addi v199 c1_i32_114
  let v483 : BitVec 32 := Scalar.muli c2_i32_278 v200
  let v517 : BitVec 32 := Scalar.muli c2_i32_299 v483
  let c512_i32_300 : BitVec 32 := 512#32
  let v518 : BitVec 32 := Scalar.muli v517 c512_i32_300
  let v519 : BitVec 32 := v518
  let v544 : Index := Scalar.indexCast v519
  let c0_315 : Index := 0#32
  ![v544.toNat, 0]
def k0_mult66 (i : grid0.Coords) (k0_t2 : Fin (k0_t2_loop i).trips) : BitVec 32 :=
  let c2_i32_318 : BitVec 32 := 2#32
  let c2_i32_278 : BitVec 32 := 2#32
  let c2_i32_113 : BitVec 32 := 2#32
  let c2_i32_112 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v198 : BitVec 32 := Scalar.muli c2_i32_112 arg25
  let v199 : BitVec 32 := Scalar.muli c2_i32_113 v198
  let c1_i32_114 : BitVec 32 := 1#32
  let v200 : BitVec 32 := Scalar.addi v199 c1_i32_114
  let v483 : BitVec 32 := Scalar.muli c2_i32_278 v200
  let v552 : BitVec 32 := Scalar.muli c2_i32_318 v483
  let c2_i32_319 : BitVec 32 := 2#32
  let v553 : BitVec 32 := Scalar.addi v552 c2_i32_319
  let v554 : BitVec 32 := Scalar.minsi v553 arg1
  let c512_i32_320 : BitVec 32 := 512#32
  let v555 : BitVec 32 := Scalar.muli v554 c512_i32_320
  v555
def k0_off97 (i : grid0.Coords) (k0_t2 : Fin (k0_t2_loop i).trips) : Fin 2 → Nat :=
  let c2_i32_318 : BitVec 32 := 2#32
  let c2_i32_278 : BitVec 32 := 2#32
  let c2_i32_113 : BitVec 32 := 2#32
  let c2_i32_112 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v198 : BitVec 32 := Scalar.muli c2_i32_112 arg25
  let v199 : BitVec 32 := Scalar.muli c2_i32_113 v198
  let c1_i32_114 : BitVec 32 := 1#32
  let v200 : BitVec 32 := Scalar.addi v199 c1_i32_114
  let v483 : BitVec 32 := Scalar.muli c2_i32_278 v200
  let v552 : BitVec 32 := Scalar.muli c2_i32_318 v483
  let c2_i32_319 : BitVec 32 := 2#32
  let v553 : BitVec 32 := Scalar.addi v552 c2_i32_319
  let v554 : BitVec 32 := Scalar.minsi v553 arg1
  let c512_i32_320 : BitVec 32 := 512#32
  let v555 : BitVec 32 := Scalar.muli v554 c512_i32_320
  let v556 : BitVec 32 := v555
  let v557 : Index := Scalar.indexCast v556
  let c0_321 : Index := 0#32
  ![v557.toNat, 0]
def k0_off98 (i : grid0.Coords) (k0_t2 : Fin (k0_t2_loop i).trips) : Fin 3 → Nat :=
  let c2_i32_318 : BitVec 32 := 2#32
  let c2_i32_278 : BitVec 32 := 2#32
  let c2_i32_113 : BitVec 32 := 2#32
  let c2_i32_112 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v198 : BitVec 32 := Scalar.muli c2_i32_112 arg25
  let v199 : BitVec 32 := Scalar.muli c2_i32_113 v198
  let c1_i32_114 : BitVec 32 := 1#32
  let v200 : BitVec 32 := Scalar.addi v199 c1_i32_114
  let v483 : BitVec 32 := Scalar.muli c2_i32_278 v200
  let v552 : BitVec 32 := Scalar.muli c2_i32_318 v483
  let c2_i32_319 : BitVec 32 := 2#32
  let v553 : BitVec 32 := Scalar.addi v552 c2_i32_319
  let v554 : BitVec 32 := Scalar.minsi v553 arg1
  let v562 : BitVec 1 := Scalar.cmpi .eq v554 arg1
  let v563 : BitVec 32 := Scalar.extui v562
  let v564 : Index := Scalar.indexCast v563
  let c0_324 : Index := 0#32
  let c0_325 : Index := 0#32
  ![v564.toNat, 0, 0]
def k0_mult67 (i : grid0.Coords) (k0_t2 : Fin (k0_t2_loop i).trips) : BitVec 32 :=
  let c2_i32_318 : BitVec 32 := 2#32
  let c2_i32_278 : BitVec 32 := 2#32
  let c2_i32_113 : BitVec 32 := 2#32
  let c2_i32_112 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v198 : BitVec 32 := Scalar.muli c2_i32_112 arg25
  let v199 : BitVec 32 := Scalar.muli c2_i32_113 v198
  let c1_i32_114 : BitVec 32 := 1#32
  let v200 : BitVec 32 := Scalar.addi v199 c1_i32_114
  let v483 : BitVec 32 := Scalar.muli c2_i32_278 v200
  let v552 : BitVec 32 := Scalar.muli c2_i32_318 v483
  let c2_i32_319 : BitVec 32 := 2#32
  let v553 : BitVec 32 := Scalar.addi v552 c2_i32_319
  let v554 : BitVec 32 := Scalar.minsi v553 arg1
  let c512_i32_331 : BitVec 32 := 512#32
  let v575 : BitVec 32 := Scalar.muli v554 c512_i32_331
  v575
def k0_off99 (i : grid0.Coords) (k0_t2 : Fin (k0_t2_loop i).trips) : Fin 2 → Nat :=
  let c2_i32_318 : BitVec 32 := 2#32
  let c2_i32_278 : BitVec 32 := 2#32
  let c2_i32_113 : BitVec 32 := 2#32
  let c2_i32_112 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v198 : BitVec 32 := Scalar.muli c2_i32_112 arg25
  let v199 : BitVec 32 := Scalar.muli c2_i32_113 v198
  let c1_i32_114 : BitVec 32 := 1#32
  let v200 : BitVec 32 := Scalar.addi v199 c1_i32_114
  let v483 : BitVec 32 := Scalar.muli c2_i32_278 v200
  let v552 : BitVec 32 := Scalar.muli c2_i32_318 v483
  let c2_i32_319 : BitVec 32 := 2#32
  let v553 : BitVec 32 := Scalar.addi v552 c2_i32_319
  let v554 : BitVec 32 := Scalar.minsi v553 arg1
  let c512_i32_331 : BitVec 32 := 512#32
  let v575 : BitVec 32 := Scalar.muli v554 c512_i32_331
  let v576 : BitVec 32 := v575
  let v577 : Index := Scalar.indexCast v576
  let c0_332 : Index := 0#32
  ![v577.toNat, 0]
def k0_mult68 (i : grid0.Coords) (k0_t2 : Fin (k0_t2_loop i).trips) : BitVec 32 :=
  let c2_i32_338 : BitVec 32 := 2#32
  let c2_i32_278 : BitVec 32 := 2#32
  let c2_i32_113 : BitVec 32 := 2#32
  let c2_i32_112 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v198 : BitVec 32 := Scalar.muli c2_i32_112 arg25
  let v199 : BitVec 32 := Scalar.muli c2_i32_113 v198
  let c1_i32_114 : BitVec 32 := 1#32
  let v200 : BitVec 32 := Scalar.addi v199 c1_i32_114
  let v483 : BitVec 32 := Scalar.muli c2_i32_278 v200
  let v586 : BitVec 32 := Scalar.muli c2_i32_338 v483
  let c1_i32_339 : BitVec 32 := 1#32
  let v587 : BitVec 32 := Scalar.addi v586 c1_i32_339
  let c512_i32_340 : BitVec 32 := 512#32
  let v588 : BitVec 32 := Scalar.muli v587 c512_i32_340
  v588
def k0_mult69 (i : grid0.Coords) (k0_t2 : Fin (k0_t2_loop i).trips) : BitVec 32 :=
  let c2_i32_358 : BitVec 32 := 2#32
  let c2_i32_276 : BitVec 32 := 2#32
  let c2_i32_113 : BitVec 32 := 2#32
  let c2_i32_112 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v198 : BitVec 32 := Scalar.muli c2_i32_112 arg25
  let v199 : BitVec 32 := Scalar.muli c2_i32_113 v198
  let c1_i32_114 : BitVec 32 := 1#32
  let v200 : BitVec 32 := Scalar.addi v199 c1_i32_114
  let v481 : BitVec 32 := Scalar.muli c2_i32_276 v200
  let c1_i32_277 : BitVec 32 := 1#32
  let v482 : BitVec 32 := Scalar.addi v481 c1_i32_277
  let v622 : BitVec 32 := Scalar.muli c2_i32_358 v482
  let c1_i32_359 : BitVec 32 := 1#32
  let v623 : BitVec 32 := Scalar.addi v622 c1_i32_359
  let c512_i32_360 : BitVec 32 := 512#32
  let v624 : BitVec 32 := Scalar.muli v623 c512_i32_360
  v624
def k0_off100 (i : grid0.Coords) (k0_t2 : Fin (k0_t2_loop i).trips) : Fin 2 → Nat :=
  let c2_i32_358 : BitVec 32 := 2#32
  let c2_i32_276 : BitVec 32 := 2#32
  let c2_i32_113 : BitVec 32 := 2#32
  let c2_i32_112 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v198 : BitVec 32 := Scalar.muli c2_i32_112 arg25
  let v199 : BitVec 32 := Scalar.muli c2_i32_113 v198
  let c1_i32_114 : BitVec 32 := 1#32
  let v200 : BitVec 32 := Scalar.addi v199 c1_i32_114
  let v481 : BitVec 32 := Scalar.muli c2_i32_276 v200
  let c1_i32_277 : BitVec 32 := 1#32
  let v482 : BitVec 32 := Scalar.addi v481 c1_i32_277
  let v622 : BitVec 32 := Scalar.muli c2_i32_358 v482
  let c1_i32_359 : BitVec 32 := 1#32
  let v623 : BitVec 32 := Scalar.addi v622 c1_i32_359
  let c512_i32_360 : BitVec 32 := 512#32
  let v624 : BitVec 32 := Scalar.muli v623 c512_i32_360
  let v625 : BitVec 32 := v624
  let v626 : Index := Scalar.indexCast v625
  let c0_361 : Index := 0#32
  ![v626.toNat, 0]
def k0_off101 (i : grid0.Coords) (k0_t2 : Fin (k0_t2_loop i).trips) : Fin 3 → Nat :=
  let c2_i32_358 : BitVec 32 := 2#32
  let c2_i32_276 : BitVec 32 := 2#32
  let c2_i32_113 : BitVec 32 := 2#32
  let c2_i32_112 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v198 : BitVec 32 := Scalar.muli c2_i32_112 arg25
  let v199 : BitVec 32 := Scalar.muli c2_i32_113 v198
  let c1_i32_114 : BitVec 32 := 1#32
  let v200 : BitVec 32 := Scalar.addi v199 c1_i32_114
  let v481 : BitVec 32 := Scalar.muli c2_i32_276 v200
  let c1_i32_277 : BitVec 32 := 1#32
  let v482 : BitVec 32 := Scalar.addi v481 c1_i32_277
  let v622 : BitVec 32 := Scalar.muli c2_i32_358 v482
  let c1_i32_359 : BitVec 32 := 1#32
  let v623 : BitVec 32 := Scalar.addi v622 c1_i32_359
  let v631 : BitVec 1 := Scalar.cmpi .eq v623 arg1
  let v632 : BitVec 32 := Scalar.extui v631
  let v633 : Index := Scalar.indexCast v632
  let c0_364 : Index := 0#32
  let c0_365 : Index := 0#32
  ![v633.toNat, 0, 0]
def k0_mult70 (i : grid0.Coords) (k0_t2 : Fin (k0_t2_loop i).trips) : BitVec 32 :=
  let c2_i32_358 : BitVec 32 := 2#32
  let c2_i32_276 : BitVec 32 := 2#32
  let c2_i32_113 : BitVec 32 := 2#32
  let c2_i32_112 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v198 : BitVec 32 := Scalar.muli c2_i32_112 arg25
  let v199 : BitVec 32 := Scalar.muli c2_i32_113 v198
  let c1_i32_114 : BitVec 32 := 1#32
  let v200 : BitVec 32 := Scalar.addi v199 c1_i32_114
  let v481 : BitVec 32 := Scalar.muli c2_i32_276 v200
  let c1_i32_277 : BitVec 32 := 1#32
  let v482 : BitVec 32 := Scalar.addi v481 c1_i32_277
  let v622 : BitVec 32 := Scalar.muli c2_i32_358 v482
  let c1_i32_359 : BitVec 32 := 1#32
  let v623 : BitVec 32 := Scalar.addi v622 c1_i32_359
  let c512_i32_371 : BitVec 32 := 512#32
  let v644 : BitVec 32 := Scalar.muli v623 c512_i32_371
  v644
def k0_off102 (i : grid0.Coords) (k0_t2 : Fin (k0_t2_loop i).trips) : Fin 2 → Nat :=
  let c2_i32_358 : BitVec 32 := 2#32
  let c2_i32_276 : BitVec 32 := 2#32
  let c2_i32_113 : BitVec 32 := 2#32
  let c2_i32_112 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v198 : BitVec 32 := Scalar.muli c2_i32_112 arg25
  let v199 : BitVec 32 := Scalar.muli c2_i32_113 v198
  let c1_i32_114 : BitVec 32 := 1#32
  let v200 : BitVec 32 := Scalar.addi v199 c1_i32_114
  let v481 : BitVec 32 := Scalar.muli c2_i32_276 v200
  let c1_i32_277 : BitVec 32 := 1#32
  let v482 : BitVec 32 := Scalar.addi v481 c1_i32_277
  let v622 : BitVec 32 := Scalar.muli c2_i32_358 v482
  let c1_i32_359 : BitVec 32 := 1#32
  let v623 : BitVec 32 := Scalar.addi v622 c1_i32_359
  let c512_i32_371 : BitVec 32 := 512#32
  let v644 : BitVec 32 := Scalar.muli v623 c512_i32_371
  let v645 : BitVec 32 := v644
  let v646 : Index := Scalar.indexCast v645
  let c0_372 : Index := 0#32
  ![v646.toNat, 0]
def k0_mult71 (i : grid0.Coords) (k0_t2 : Fin (k0_t2_loop i).trips) : BitVec 32 :=
  let c2_i32_378 : BitVec 32 := 2#32
  let c2_i32_276 : BitVec 32 := 2#32
  let c2_i32_113 : BitVec 32 := 2#32
  let c2_i32_112 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v198 : BitVec 32 := Scalar.muli c2_i32_112 arg25
  let v199 : BitVec 32 := Scalar.muli c2_i32_113 v198
  let c1_i32_114 : BitVec 32 := 1#32
  let v200 : BitVec 32 := Scalar.addi v199 c1_i32_114
  let v481 : BitVec 32 := Scalar.muli c2_i32_276 v200
  let c1_i32_277 : BitVec 32 := 1#32
  let v482 : BitVec 32 := Scalar.addi v481 c1_i32_277
  let v655 : BitVec 32 := Scalar.muli c2_i32_378 v482
  let c512_i32_379 : BitVec 32 := 512#32
  let v656 : BitVec 32 := Scalar.muli v655 c512_i32_379
  v656
def k0_off103 (i : grid0.Coords) (k0_t2 : Fin (k0_t2_loop i).trips) : Fin 2 → Nat :=
  let c2_i32_378 : BitVec 32 := 2#32
  let c2_i32_276 : BitVec 32 := 2#32
  let c2_i32_113 : BitVec 32 := 2#32
  let c2_i32_112 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v198 : BitVec 32 := Scalar.muli c2_i32_112 arg25
  let v199 : BitVec 32 := Scalar.muli c2_i32_113 v198
  let c1_i32_114 : BitVec 32 := 1#32
  let v200 : BitVec 32 := Scalar.addi v199 c1_i32_114
  let v481 : BitVec 32 := Scalar.muli c2_i32_276 v200
  let c1_i32_277 : BitVec 32 := 1#32
  let v482 : BitVec 32 := Scalar.addi v481 c1_i32_277
  let v655 : BitVec 32 := Scalar.muli c2_i32_378 v482
  let c512_i32_379 : BitVec 32 := 512#32
  let v656 : BitVec 32 := Scalar.muli v655 c512_i32_379
  let v657 : BitVec 32 := v656
  let v667 : Index := Scalar.indexCast v657
  let c0_387 : Index := 0#32
  ![v667.toNat, 0]
def k0_off104 (i : grid0.Coords) (k0_t2 : Fin (k0_t2_loop i).trips) : Fin 2 → Nat :=
  let c2_i32_378 : BitVec 32 := 2#32
  let c2_i32_276 : BitVec 32 := 2#32
  let c2_i32_113 : BitVec 32 := 2#32
  let c2_i32_112 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v198 : BitVec 32 := Scalar.muli c2_i32_112 arg25
  let v199 : BitVec 32 := Scalar.muli c2_i32_113 v198
  let c1_i32_114 : BitVec 32 := 1#32
  let v200 : BitVec 32 := Scalar.addi v199 c1_i32_114
  let v481 : BitVec 32 := Scalar.muli c2_i32_276 v200
  let c1_i32_277 : BitVec 32 := 1#32
  let v482 : BitVec 32 := Scalar.addi v481 c1_i32_277
  let v655 : BitVec 32 := Scalar.muli c2_i32_378 v482
  let c512_i32_379 : BitVec 32 := 512#32
  let v656 : BitVec 32 := Scalar.muli v655 c512_i32_379
  let v657 : BitVec 32 := v656
  let v682 : Index := Scalar.indexCast v657
  let c0_394 : Index := 0#32
  ![v682.toNat, 0]
def k0_mult72 (i : grid0.Coords) (k0_t2 : Fin (k0_t2_loop i).trips) : BitVec 32 :=
  let c2_i32_397 : BitVec 32 := 2#32
  let c2_i32_276 : BitVec 32 := 2#32
  let c2_i32_113 : BitVec 32 := 2#32
  let c2_i32_112 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v198 : BitVec 32 := Scalar.muli c2_i32_112 arg25
  let v199 : BitVec 32 := Scalar.muli c2_i32_113 v198
  let c1_i32_114 : BitVec 32 := 1#32
  let v200 : BitVec 32 := Scalar.addi v199 c1_i32_114
  let v481 : BitVec 32 := Scalar.muli c2_i32_276 v200
  let c1_i32_277 : BitVec 32 := 1#32
  let v482 : BitVec 32 := Scalar.addi v481 c1_i32_277
  let v690 : BitVec 32 := Scalar.muli c2_i32_397 v482
  let c2_i32_398 : BitVec 32 := 2#32
  let v691 : BitVec 32 := Scalar.addi v690 c2_i32_398
  let v692 : BitVec 32 := Scalar.minsi v691 arg1
  let c512_i32_399 : BitVec 32 := 512#32
  let v693 : BitVec 32 := Scalar.muli v692 c512_i32_399
  v693
def k0_off105 (i : grid0.Coords) (k0_t2 : Fin (k0_t2_loop i).trips) : Fin 2 → Nat :=
  let c2_i32_397 : BitVec 32 := 2#32
  let c2_i32_276 : BitVec 32 := 2#32
  let c2_i32_113 : BitVec 32 := 2#32
  let c2_i32_112 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v198 : BitVec 32 := Scalar.muli c2_i32_112 arg25
  let v199 : BitVec 32 := Scalar.muli c2_i32_113 v198
  let c1_i32_114 : BitVec 32 := 1#32
  let v200 : BitVec 32 := Scalar.addi v199 c1_i32_114
  let v481 : BitVec 32 := Scalar.muli c2_i32_276 v200
  let c1_i32_277 : BitVec 32 := 1#32
  let v482 : BitVec 32 := Scalar.addi v481 c1_i32_277
  let v690 : BitVec 32 := Scalar.muli c2_i32_397 v482
  let c2_i32_398 : BitVec 32 := 2#32
  let v691 : BitVec 32 := Scalar.addi v690 c2_i32_398
  let v692 : BitVec 32 := Scalar.minsi v691 arg1
  let c512_i32_399 : BitVec 32 := 512#32
  let v693 : BitVec 32 := Scalar.muli v692 c512_i32_399
  let v694 : BitVec 32 := v693
  let v695 : Index := Scalar.indexCast v694
  let c0_400 : Index := 0#32
  ![v695.toNat, 0]
def k0_off106 (i : grid0.Coords) (k0_t2 : Fin (k0_t2_loop i).trips) : Fin 3 → Nat :=
  let c2_i32_397 : BitVec 32 := 2#32
  let c2_i32_276 : BitVec 32 := 2#32
  let c2_i32_113 : BitVec 32 := 2#32
  let c2_i32_112 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v198 : BitVec 32 := Scalar.muli c2_i32_112 arg25
  let v199 : BitVec 32 := Scalar.muli c2_i32_113 v198
  let c1_i32_114 : BitVec 32 := 1#32
  let v200 : BitVec 32 := Scalar.addi v199 c1_i32_114
  let v481 : BitVec 32 := Scalar.muli c2_i32_276 v200
  let c1_i32_277 : BitVec 32 := 1#32
  let v482 : BitVec 32 := Scalar.addi v481 c1_i32_277
  let v690 : BitVec 32 := Scalar.muli c2_i32_397 v482
  let c2_i32_398 : BitVec 32 := 2#32
  let v691 : BitVec 32 := Scalar.addi v690 c2_i32_398
  let v692 : BitVec 32 := Scalar.minsi v691 arg1
  let v700 : BitVec 1 := Scalar.cmpi .eq v692 arg1
  let v701 : BitVec 32 := Scalar.extui v700
  let v702 : Index := Scalar.indexCast v701
  let c0_403 : Index := 0#32
  let c0_404 : Index := 0#32
  ![v702.toNat, 0, 0]
def k0_mult73 (i : grid0.Coords) (k0_t2 : Fin (k0_t2_loop i).trips) : BitVec 32 :=
  let c2_i32_397 : BitVec 32 := 2#32
  let c2_i32_276 : BitVec 32 := 2#32
  let c2_i32_113 : BitVec 32 := 2#32
  let c2_i32_112 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v198 : BitVec 32 := Scalar.muli c2_i32_112 arg25
  let v199 : BitVec 32 := Scalar.muli c2_i32_113 v198
  let c1_i32_114 : BitVec 32 := 1#32
  let v200 : BitVec 32 := Scalar.addi v199 c1_i32_114
  let v481 : BitVec 32 := Scalar.muli c2_i32_276 v200
  let c1_i32_277 : BitVec 32 := 1#32
  let v482 : BitVec 32 := Scalar.addi v481 c1_i32_277
  let v690 : BitVec 32 := Scalar.muli c2_i32_397 v482
  let c2_i32_398 : BitVec 32 := 2#32
  let v691 : BitVec 32 := Scalar.addi v690 c2_i32_398
  let v692 : BitVec 32 := Scalar.minsi v691 arg1
  let c512_i32_410 : BitVec 32 := 512#32
  let v713 : BitVec 32 := Scalar.muli v692 c512_i32_410
  v713
def k0_off107 (i : grid0.Coords) (k0_t2 : Fin (k0_t2_loop i).trips) : Fin 2 → Nat :=
  let c2_i32_397 : BitVec 32 := 2#32
  let c2_i32_276 : BitVec 32 := 2#32
  let c2_i32_113 : BitVec 32 := 2#32
  let c2_i32_112 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v198 : BitVec 32 := Scalar.muli c2_i32_112 arg25
  let v199 : BitVec 32 := Scalar.muli c2_i32_113 v198
  let c1_i32_114 : BitVec 32 := 1#32
  let v200 : BitVec 32 := Scalar.addi v199 c1_i32_114
  let v481 : BitVec 32 := Scalar.muli c2_i32_276 v200
  let c1_i32_277 : BitVec 32 := 1#32
  let v482 : BitVec 32 := Scalar.addi v481 c1_i32_277
  let v690 : BitVec 32 := Scalar.muli c2_i32_397 v482
  let c2_i32_398 : BitVec 32 := 2#32
  let v691 : BitVec 32 := Scalar.addi v690 c2_i32_398
  let v692 : BitVec 32 := Scalar.minsi v691 arg1
  let c512_i32_410 : BitVec 32 := 512#32
  let v713 : BitVec 32 := Scalar.muli v692 c512_i32_410
  let v714 : BitVec 32 := v713
  let v715 : Index := Scalar.indexCast v714
  let c0_411 : Index := 0#32
  ![v715.toNat, 0]
def k0_mult74 (i : grid0.Coords) (k0_t2 : Fin (k0_t2_loop i).trips) : BitVec 32 :=
  let c2_i32_417 : BitVec 32 := 2#32
  let c2_i32_276 : BitVec 32 := 2#32
  let c2_i32_113 : BitVec 32 := 2#32
  let c2_i32_112 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v198 : BitVec 32 := Scalar.muli c2_i32_112 arg25
  let v199 : BitVec 32 := Scalar.muli c2_i32_113 v198
  let c1_i32_114 : BitVec 32 := 1#32
  let v200 : BitVec 32 := Scalar.addi v199 c1_i32_114
  let v481 : BitVec 32 := Scalar.muli c2_i32_276 v200
  let c1_i32_277 : BitVec 32 := 1#32
  let v482 : BitVec 32 := Scalar.addi v481 c1_i32_277
  let v724 : BitVec 32 := Scalar.muli c2_i32_417 v482
  let c1_i32_418 : BitVec 32 := 1#32
  let v725 : BitVec 32 := Scalar.addi v724 c1_i32_418
  let c512_i32_419 : BitVec 32 := 512#32
  let v726 : BitVec 32 := Scalar.muli v725 c512_i32_419
  v726
def k0_mult75 (i : grid0.Coords) (k0_t2 : Fin (k0_t2_loop i).trips) : BitVec 32 :=
  let c2_i32_443 : BitVec 32 := 2#32
  let c2_i32_442 : BitVec 32 := 2#32
  let c2_i32_439 : BitVec 32 := 2#32
  let c2_i32_110 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v196 : BitVec 32 := Scalar.muli c2_i32_110 arg25
  let c1_i32_111 : BitVec 32 := 1#32
  let v197 : BitVec 32 := Scalar.addi v196 c1_i32_111
  let v762 : BitVec 32 := Scalar.muli c2_i32_439 v197
  let v765 : BitVec 32 := Scalar.muli c2_i32_442 v762
  let v766 : BitVec 32 := Scalar.muli c2_i32_443 v765
  let c1_i32_444 : BitVec 32 := 1#32
  let v767 : BitVec 32 := Scalar.addi v766 c1_i32_444
  let c512_i32_445 : BitVec 32 := 512#32
  let v768 : BitVec 32 := Scalar.muli v767 c512_i32_445
  v768
def k0_off108 (i : grid0.Coords) (k0_t2 : Fin (k0_t2_loop i).trips) : Fin 2 → Nat :=
  let c2_i32_443 : BitVec 32 := 2#32
  let c2_i32_442 : BitVec 32 := 2#32
  let c2_i32_439 : BitVec 32 := 2#32
  let c2_i32_110 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v196 : BitVec 32 := Scalar.muli c2_i32_110 arg25
  let c1_i32_111 : BitVec 32 := 1#32
  let v197 : BitVec 32 := Scalar.addi v196 c1_i32_111
  let v762 : BitVec 32 := Scalar.muli c2_i32_439 v197
  let v765 : BitVec 32 := Scalar.muli c2_i32_442 v762
  let v766 : BitVec 32 := Scalar.muli c2_i32_443 v765
  let c1_i32_444 : BitVec 32 := 1#32
  let v767 : BitVec 32 := Scalar.addi v766 c1_i32_444
  let c512_i32_445 : BitVec 32 := 512#32
  let v768 : BitVec 32 := Scalar.muli v767 c512_i32_445
  let v769 : BitVec 32 := v768
  let v770 : Index := Scalar.indexCast v769
  let c0_446 : Index := 0#32
  ![v770.toNat, 0]
def k0_off109 (i : grid0.Coords) (k0_t2 : Fin (k0_t2_loop i).trips) : Fin 3 → Nat :=
  let c2_i32_443 : BitVec 32 := 2#32
  let c2_i32_442 : BitVec 32 := 2#32
  let c2_i32_439 : BitVec 32 := 2#32
  let c2_i32_110 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v196 : BitVec 32 := Scalar.muli c2_i32_110 arg25
  let c1_i32_111 : BitVec 32 := 1#32
  let v197 : BitVec 32 := Scalar.addi v196 c1_i32_111
  let v762 : BitVec 32 := Scalar.muli c2_i32_439 v197
  let v765 : BitVec 32 := Scalar.muli c2_i32_442 v762
  let v766 : BitVec 32 := Scalar.muli c2_i32_443 v765
  let c1_i32_444 : BitVec 32 := 1#32
  let v767 : BitVec 32 := Scalar.addi v766 c1_i32_444
  let v775 : BitVec 1 := Scalar.cmpi .eq v767 arg1
  let v776 : BitVec 32 := Scalar.extui v775
  let v777 : Index := Scalar.indexCast v776
  let c0_449 : Index := 0#32
  let c0_450 : Index := 0#32
  ![v777.toNat, 0, 0]
def k0_mult76 (i : grid0.Coords) (k0_t2 : Fin (k0_t2_loop i).trips) : BitVec 32 :=
  let c2_i32_443 : BitVec 32 := 2#32
  let c2_i32_442 : BitVec 32 := 2#32
  let c2_i32_439 : BitVec 32 := 2#32
  let c2_i32_110 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v196 : BitVec 32 := Scalar.muli c2_i32_110 arg25
  let c1_i32_111 : BitVec 32 := 1#32
  let v197 : BitVec 32 := Scalar.addi v196 c1_i32_111
  let v762 : BitVec 32 := Scalar.muli c2_i32_439 v197
  let v765 : BitVec 32 := Scalar.muli c2_i32_442 v762
  let v766 : BitVec 32 := Scalar.muli c2_i32_443 v765
  let c1_i32_444 : BitVec 32 := 1#32
  let v767 : BitVec 32 := Scalar.addi v766 c1_i32_444
  let c512_i32_456 : BitVec 32 := 512#32
  let v788 : BitVec 32 := Scalar.muli v767 c512_i32_456
  v788
def k0_off110 (i : grid0.Coords) (k0_t2 : Fin (k0_t2_loop i).trips) : Fin 2 → Nat :=
  let c2_i32_443 : BitVec 32 := 2#32
  let c2_i32_442 : BitVec 32 := 2#32
  let c2_i32_439 : BitVec 32 := 2#32
  let c2_i32_110 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v196 : BitVec 32 := Scalar.muli c2_i32_110 arg25
  let c1_i32_111 : BitVec 32 := 1#32
  let v197 : BitVec 32 := Scalar.addi v196 c1_i32_111
  let v762 : BitVec 32 := Scalar.muli c2_i32_439 v197
  let v765 : BitVec 32 := Scalar.muli c2_i32_442 v762
  let v766 : BitVec 32 := Scalar.muli c2_i32_443 v765
  let c1_i32_444 : BitVec 32 := 1#32
  let v767 : BitVec 32 := Scalar.addi v766 c1_i32_444
  let c512_i32_456 : BitVec 32 := 512#32
  let v788 : BitVec 32 := Scalar.muli v767 c512_i32_456
  let v789 : BitVec 32 := v788
  let v790 : Index := Scalar.indexCast v789
  let c0_457 : Index := 0#32
  ![v790.toNat, 0]
def k0_mult77 (i : grid0.Coords) (k0_t2 : Fin (k0_t2_loop i).trips) : BitVec 32 :=
  let c2_i32_463 : BitVec 32 := 2#32
  let c2_i32_442 : BitVec 32 := 2#32
  let c2_i32_439 : BitVec 32 := 2#32
  let c2_i32_110 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v196 : BitVec 32 := Scalar.muli c2_i32_110 arg25
  let c1_i32_111 : BitVec 32 := 1#32
  let v197 : BitVec 32 := Scalar.addi v196 c1_i32_111
  let v762 : BitVec 32 := Scalar.muli c2_i32_439 v197
  let v765 : BitVec 32 := Scalar.muli c2_i32_442 v762
  let v799 : BitVec 32 := Scalar.muli c2_i32_463 v765
  let c512_i32_464 : BitVec 32 := 512#32
  let v800 : BitVec 32 := Scalar.muli v799 c512_i32_464
  v800
def k0_off111 (i : grid0.Coords) (k0_t2 : Fin (k0_t2_loop i).trips) : Fin 2 → Nat :=
  let c2_i32_463 : BitVec 32 := 2#32
  let c2_i32_442 : BitVec 32 := 2#32
  let c2_i32_439 : BitVec 32 := 2#32
  let c2_i32_110 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v196 : BitVec 32 := Scalar.muli c2_i32_110 arg25
  let c1_i32_111 : BitVec 32 := 1#32
  let v197 : BitVec 32 := Scalar.addi v196 c1_i32_111
  let v762 : BitVec 32 := Scalar.muli c2_i32_439 v197
  let v765 : BitVec 32 := Scalar.muli c2_i32_442 v762
  let v799 : BitVec 32 := Scalar.muli c2_i32_463 v765
  let c512_i32_464 : BitVec 32 := 512#32
  let v800 : BitVec 32 := Scalar.muli v799 c512_i32_464
  let v801 : BitVec 32 := v800
  let v811 : Index := Scalar.indexCast v801
  let c0_472 : Index := 0#32
  ![v811.toNat, 0]
def k0_off112 (i : grid0.Coords) (k0_t2 : Fin (k0_t2_loop i).trips) : Fin 2 → Nat :=
  let c2_i32_463 : BitVec 32 := 2#32
  let c2_i32_442 : BitVec 32 := 2#32
  let c2_i32_439 : BitVec 32 := 2#32
  let c2_i32_110 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v196 : BitVec 32 := Scalar.muli c2_i32_110 arg25
  let c1_i32_111 : BitVec 32 := 1#32
  let v197 : BitVec 32 := Scalar.addi v196 c1_i32_111
  let v762 : BitVec 32 := Scalar.muli c2_i32_439 v197
  let v765 : BitVec 32 := Scalar.muli c2_i32_442 v762
  let v799 : BitVec 32 := Scalar.muli c2_i32_463 v765
  let c512_i32_464 : BitVec 32 := 512#32
  let v800 : BitVec 32 := Scalar.muli v799 c512_i32_464
  let v801 : BitVec 32 := v800
  let v826 : Index := Scalar.indexCast v801
  let c0_479 : Index := 0#32
  ![v826.toNat, 0]
def k0_mult78 (i : grid0.Coords) (k0_t2 : Fin (k0_t2_loop i).trips) : BitVec 32 :=
  let c2_i32_482 : BitVec 32 := 2#32
  let c2_i32_442 : BitVec 32 := 2#32
  let c2_i32_439 : BitVec 32 := 2#32
  let c2_i32_110 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v196 : BitVec 32 := Scalar.muli c2_i32_110 arg25
  let c1_i32_111 : BitVec 32 := 1#32
  let v197 : BitVec 32 := Scalar.addi v196 c1_i32_111
  let v762 : BitVec 32 := Scalar.muli c2_i32_439 v197
  let v765 : BitVec 32 := Scalar.muli c2_i32_442 v762
  let v834 : BitVec 32 := Scalar.muli c2_i32_482 v765
  let c2_i32_483 : BitVec 32 := 2#32
  let v835 : BitVec 32 := Scalar.addi v834 c2_i32_483
  let v836 : BitVec 32 := Scalar.minsi v835 arg1
  let c512_i32_484 : BitVec 32 := 512#32
  let v837 : BitVec 32 := Scalar.muli v836 c512_i32_484
  v837
def k0_off113 (i : grid0.Coords) (k0_t2 : Fin (k0_t2_loop i).trips) : Fin 2 → Nat :=
  let c2_i32_482 : BitVec 32 := 2#32
  let c2_i32_442 : BitVec 32 := 2#32
  let c2_i32_439 : BitVec 32 := 2#32
  let c2_i32_110 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v196 : BitVec 32 := Scalar.muli c2_i32_110 arg25
  let c1_i32_111 : BitVec 32 := 1#32
  let v197 : BitVec 32 := Scalar.addi v196 c1_i32_111
  let v762 : BitVec 32 := Scalar.muli c2_i32_439 v197
  let v765 : BitVec 32 := Scalar.muli c2_i32_442 v762
  let v834 : BitVec 32 := Scalar.muli c2_i32_482 v765
  let c2_i32_483 : BitVec 32 := 2#32
  let v835 : BitVec 32 := Scalar.addi v834 c2_i32_483
  let v836 : BitVec 32 := Scalar.minsi v835 arg1
  let c512_i32_484 : BitVec 32 := 512#32
  let v837 : BitVec 32 := Scalar.muli v836 c512_i32_484
  let v838 : BitVec 32 := v837
  let v839 : Index := Scalar.indexCast v838
  let c0_485 : Index := 0#32
  ![v839.toNat, 0]
def k0_off114 (i : grid0.Coords) (k0_t2 : Fin (k0_t2_loop i).trips) : Fin 3 → Nat :=
  let c2_i32_482 : BitVec 32 := 2#32
  let c2_i32_442 : BitVec 32 := 2#32
  let c2_i32_439 : BitVec 32 := 2#32
  let c2_i32_110 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v196 : BitVec 32 := Scalar.muli c2_i32_110 arg25
  let c1_i32_111 : BitVec 32 := 1#32
  let v197 : BitVec 32 := Scalar.addi v196 c1_i32_111
  let v762 : BitVec 32 := Scalar.muli c2_i32_439 v197
  let v765 : BitVec 32 := Scalar.muli c2_i32_442 v762
  let v834 : BitVec 32 := Scalar.muli c2_i32_482 v765
  let c2_i32_483 : BitVec 32 := 2#32
  let v835 : BitVec 32 := Scalar.addi v834 c2_i32_483
  let v836 : BitVec 32 := Scalar.minsi v835 arg1
  let v844 : BitVec 1 := Scalar.cmpi .eq v836 arg1
  let v845 : BitVec 32 := Scalar.extui v844
  let v846 : Index := Scalar.indexCast v845
  let c0_488 : Index := 0#32
  let c0_489 : Index := 0#32
  ![v846.toNat, 0, 0]
def k0_mult79 (i : grid0.Coords) (k0_t2 : Fin (k0_t2_loop i).trips) : BitVec 32 :=
  let c2_i32_482 : BitVec 32 := 2#32
  let c2_i32_442 : BitVec 32 := 2#32
  let c2_i32_439 : BitVec 32 := 2#32
  let c2_i32_110 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v196 : BitVec 32 := Scalar.muli c2_i32_110 arg25
  let c1_i32_111 : BitVec 32 := 1#32
  let v197 : BitVec 32 := Scalar.addi v196 c1_i32_111
  let v762 : BitVec 32 := Scalar.muli c2_i32_439 v197
  let v765 : BitVec 32 := Scalar.muli c2_i32_442 v762
  let v834 : BitVec 32 := Scalar.muli c2_i32_482 v765
  let c2_i32_483 : BitVec 32 := 2#32
  let v835 : BitVec 32 := Scalar.addi v834 c2_i32_483
  let v836 : BitVec 32 := Scalar.minsi v835 arg1
  let c512_i32_495 : BitVec 32 := 512#32
  let v857 : BitVec 32 := Scalar.muli v836 c512_i32_495
  v857
def k0_off115 (i : grid0.Coords) (k0_t2 : Fin (k0_t2_loop i).trips) : Fin 2 → Nat :=
  let c2_i32_482 : BitVec 32 := 2#32
  let c2_i32_442 : BitVec 32 := 2#32
  let c2_i32_439 : BitVec 32 := 2#32
  let c2_i32_110 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v196 : BitVec 32 := Scalar.muli c2_i32_110 arg25
  let c1_i32_111 : BitVec 32 := 1#32
  let v197 : BitVec 32 := Scalar.addi v196 c1_i32_111
  let v762 : BitVec 32 := Scalar.muli c2_i32_439 v197
  let v765 : BitVec 32 := Scalar.muli c2_i32_442 v762
  let v834 : BitVec 32 := Scalar.muli c2_i32_482 v765
  let c2_i32_483 : BitVec 32 := 2#32
  let v835 : BitVec 32 := Scalar.addi v834 c2_i32_483
  let v836 : BitVec 32 := Scalar.minsi v835 arg1
  let c512_i32_495 : BitVec 32 := 512#32
  let v857 : BitVec 32 := Scalar.muli v836 c512_i32_495
  let v858 : BitVec 32 := v857
  let v859 : Index := Scalar.indexCast v858
  let c0_496 : Index := 0#32
  ![v859.toNat, 0]
def k0_mult80 (i : grid0.Coords) (k0_t2 : Fin (k0_t2_loop i).trips) : BitVec 32 :=
  let c2_i32_502 : BitVec 32 := 2#32
  let c2_i32_442 : BitVec 32 := 2#32
  let c2_i32_439 : BitVec 32 := 2#32
  let c2_i32_110 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v196 : BitVec 32 := Scalar.muli c2_i32_110 arg25
  let c1_i32_111 : BitVec 32 := 1#32
  let v197 : BitVec 32 := Scalar.addi v196 c1_i32_111
  let v762 : BitVec 32 := Scalar.muli c2_i32_439 v197
  let v765 : BitVec 32 := Scalar.muli c2_i32_442 v762
  let v868 : BitVec 32 := Scalar.muli c2_i32_502 v765
  let c1_i32_503 : BitVec 32 := 1#32
  let v869 : BitVec 32 := Scalar.addi v868 c1_i32_503
  let c512_i32_504 : BitVec 32 := 512#32
  let v870 : BitVec 32 := Scalar.muli v869 c512_i32_504
  v870
def k0_mult81 (i : grid0.Coords) (k0_t2 : Fin (k0_t2_loop i).trips) : BitVec 32 :=
  let c2_i32_522 : BitVec 32 := 2#32
  let c2_i32_440 : BitVec 32 := 2#32
  let c2_i32_439 : BitVec 32 := 2#32
  let c2_i32_110 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v196 : BitVec 32 := Scalar.muli c2_i32_110 arg25
  let c1_i32_111 : BitVec 32 := 1#32
  let v197 : BitVec 32 := Scalar.addi v196 c1_i32_111
  let v762 : BitVec 32 := Scalar.muli c2_i32_439 v197
  let v763 : BitVec 32 := Scalar.muli c2_i32_440 v762
  let c1_i32_441 : BitVec 32 := 1#32
  let v764 : BitVec 32 := Scalar.addi v763 c1_i32_441
  let v904 : BitVec 32 := Scalar.muli c2_i32_522 v764
  let c1_i32_523 : BitVec 32 := 1#32
  let v905 : BitVec 32 := Scalar.addi v904 c1_i32_523
  let c512_i32_524 : BitVec 32 := 512#32
  let v906 : BitVec 32 := Scalar.muli v905 c512_i32_524
  v906
def k0_off116 (i : grid0.Coords) (k0_t2 : Fin (k0_t2_loop i).trips) : Fin 2 → Nat :=
  let c2_i32_522 : BitVec 32 := 2#32
  let c2_i32_440 : BitVec 32 := 2#32
  let c2_i32_439 : BitVec 32 := 2#32
  let c2_i32_110 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v196 : BitVec 32 := Scalar.muli c2_i32_110 arg25
  let c1_i32_111 : BitVec 32 := 1#32
  let v197 : BitVec 32 := Scalar.addi v196 c1_i32_111
  let v762 : BitVec 32 := Scalar.muli c2_i32_439 v197
  let v763 : BitVec 32 := Scalar.muli c2_i32_440 v762
  let c1_i32_441 : BitVec 32 := 1#32
  let v764 : BitVec 32 := Scalar.addi v763 c1_i32_441
  let v904 : BitVec 32 := Scalar.muli c2_i32_522 v764
  let c1_i32_523 : BitVec 32 := 1#32
  let v905 : BitVec 32 := Scalar.addi v904 c1_i32_523
  let c512_i32_524 : BitVec 32 := 512#32
  let v906 : BitVec 32 := Scalar.muli v905 c512_i32_524
  let v907 : BitVec 32 := v906
  let v908 : Index := Scalar.indexCast v907
  let c0_525 : Index := 0#32
  ![v908.toNat, 0]
def k0_off117 (i : grid0.Coords) (k0_t2 : Fin (k0_t2_loop i).trips) : Fin 3 → Nat :=
  let c2_i32_522 : BitVec 32 := 2#32
  let c2_i32_440 : BitVec 32 := 2#32
  let c2_i32_439 : BitVec 32 := 2#32
  let c2_i32_110 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v196 : BitVec 32 := Scalar.muli c2_i32_110 arg25
  let c1_i32_111 : BitVec 32 := 1#32
  let v197 : BitVec 32 := Scalar.addi v196 c1_i32_111
  let v762 : BitVec 32 := Scalar.muli c2_i32_439 v197
  let v763 : BitVec 32 := Scalar.muli c2_i32_440 v762
  let c1_i32_441 : BitVec 32 := 1#32
  let v764 : BitVec 32 := Scalar.addi v763 c1_i32_441
  let v904 : BitVec 32 := Scalar.muli c2_i32_522 v764
  let c1_i32_523 : BitVec 32 := 1#32
  let v905 : BitVec 32 := Scalar.addi v904 c1_i32_523
  let v913 : BitVec 1 := Scalar.cmpi .eq v905 arg1
  let v914 : BitVec 32 := Scalar.extui v913
  let v915 : Index := Scalar.indexCast v914
  let c0_528 : Index := 0#32
  let c0_529 : Index := 0#32
  ![v915.toNat, 0, 0]
def k0_mult82 (i : grid0.Coords) (k0_t2 : Fin (k0_t2_loop i).trips) : BitVec 32 :=
  let c2_i32_522 : BitVec 32 := 2#32
  let c2_i32_440 : BitVec 32 := 2#32
  let c2_i32_439 : BitVec 32 := 2#32
  let c2_i32_110 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v196 : BitVec 32 := Scalar.muli c2_i32_110 arg25
  let c1_i32_111 : BitVec 32 := 1#32
  let v197 : BitVec 32 := Scalar.addi v196 c1_i32_111
  let v762 : BitVec 32 := Scalar.muli c2_i32_439 v197
  let v763 : BitVec 32 := Scalar.muli c2_i32_440 v762
  let c1_i32_441 : BitVec 32 := 1#32
  let v764 : BitVec 32 := Scalar.addi v763 c1_i32_441
  let v904 : BitVec 32 := Scalar.muli c2_i32_522 v764
  let c1_i32_523 : BitVec 32 := 1#32
  let v905 : BitVec 32 := Scalar.addi v904 c1_i32_523
  let c512_i32_535 : BitVec 32 := 512#32
  let v926 : BitVec 32 := Scalar.muli v905 c512_i32_535
  v926
def k0_off118 (i : grid0.Coords) (k0_t2 : Fin (k0_t2_loop i).trips) : Fin 2 → Nat :=
  let c2_i32_522 : BitVec 32 := 2#32
  let c2_i32_440 : BitVec 32 := 2#32
  let c2_i32_439 : BitVec 32 := 2#32
  let c2_i32_110 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v196 : BitVec 32 := Scalar.muli c2_i32_110 arg25
  let c1_i32_111 : BitVec 32 := 1#32
  let v197 : BitVec 32 := Scalar.addi v196 c1_i32_111
  let v762 : BitVec 32 := Scalar.muli c2_i32_439 v197
  let v763 : BitVec 32 := Scalar.muli c2_i32_440 v762
  let c1_i32_441 : BitVec 32 := 1#32
  let v764 : BitVec 32 := Scalar.addi v763 c1_i32_441
  let v904 : BitVec 32 := Scalar.muli c2_i32_522 v764
  let c1_i32_523 : BitVec 32 := 1#32
  let v905 : BitVec 32 := Scalar.addi v904 c1_i32_523
  let c512_i32_535 : BitVec 32 := 512#32
  let v926 : BitVec 32 := Scalar.muli v905 c512_i32_535
  let v927 : BitVec 32 := v926
  let v928 : Index := Scalar.indexCast v927
  let c0_536 : Index := 0#32
  ![v928.toNat, 0]
def k0_mult83 (i : grid0.Coords) (k0_t2 : Fin (k0_t2_loop i).trips) : BitVec 32 :=
  let c2_i32_542 : BitVec 32 := 2#32
  let c2_i32_440 : BitVec 32 := 2#32
  let c2_i32_439 : BitVec 32 := 2#32
  let c2_i32_110 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v196 : BitVec 32 := Scalar.muli c2_i32_110 arg25
  let c1_i32_111 : BitVec 32 := 1#32
  let v197 : BitVec 32 := Scalar.addi v196 c1_i32_111
  let v762 : BitVec 32 := Scalar.muli c2_i32_439 v197
  let v763 : BitVec 32 := Scalar.muli c2_i32_440 v762
  let c1_i32_441 : BitVec 32 := 1#32
  let v764 : BitVec 32 := Scalar.addi v763 c1_i32_441
  let v937 : BitVec 32 := Scalar.muli c2_i32_542 v764
  let c512_i32_543 : BitVec 32 := 512#32
  let v938 : BitVec 32 := Scalar.muli v937 c512_i32_543
  v938
def k0_off119 (i : grid0.Coords) (k0_t2 : Fin (k0_t2_loop i).trips) : Fin 2 → Nat :=
  let c2_i32_542 : BitVec 32 := 2#32
  let c2_i32_440 : BitVec 32 := 2#32
  let c2_i32_439 : BitVec 32 := 2#32
  let c2_i32_110 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v196 : BitVec 32 := Scalar.muli c2_i32_110 arg25
  let c1_i32_111 : BitVec 32 := 1#32
  let v197 : BitVec 32 := Scalar.addi v196 c1_i32_111
  let v762 : BitVec 32 := Scalar.muli c2_i32_439 v197
  let v763 : BitVec 32 := Scalar.muli c2_i32_440 v762
  let c1_i32_441 : BitVec 32 := 1#32
  let v764 : BitVec 32 := Scalar.addi v763 c1_i32_441
  let v937 : BitVec 32 := Scalar.muli c2_i32_542 v764
  let c512_i32_543 : BitVec 32 := 512#32
  let v938 : BitVec 32 := Scalar.muli v937 c512_i32_543
  let v939 : BitVec 32 := v938
  let v949 : Index := Scalar.indexCast v939
  let c0_551 : Index := 0#32
  ![v949.toNat, 0]
def k0_off120 (i : grid0.Coords) (k0_t2 : Fin (k0_t2_loop i).trips) : Fin 2 → Nat :=
  let c2_i32_542 : BitVec 32 := 2#32
  let c2_i32_440 : BitVec 32 := 2#32
  let c2_i32_439 : BitVec 32 := 2#32
  let c2_i32_110 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v196 : BitVec 32 := Scalar.muli c2_i32_110 arg25
  let c1_i32_111 : BitVec 32 := 1#32
  let v197 : BitVec 32 := Scalar.addi v196 c1_i32_111
  let v762 : BitVec 32 := Scalar.muli c2_i32_439 v197
  let v763 : BitVec 32 := Scalar.muli c2_i32_440 v762
  let c1_i32_441 : BitVec 32 := 1#32
  let v764 : BitVec 32 := Scalar.addi v763 c1_i32_441
  let v937 : BitVec 32 := Scalar.muli c2_i32_542 v764
  let c512_i32_543 : BitVec 32 := 512#32
  let v938 : BitVec 32 := Scalar.muli v937 c512_i32_543
  let v939 : BitVec 32 := v938
  let v964 : Index := Scalar.indexCast v939
  let c0_558 : Index := 0#32
  ![v964.toNat, 0]
def k0_mult84 (i : grid0.Coords) (k0_t2 : Fin (k0_t2_loop i).trips) : BitVec 32 :=
  let c2_i32_561 : BitVec 32 := 2#32
  let c2_i32_440 : BitVec 32 := 2#32
  let c2_i32_439 : BitVec 32 := 2#32
  let c2_i32_110 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v196 : BitVec 32 := Scalar.muli c2_i32_110 arg25
  let c1_i32_111 : BitVec 32 := 1#32
  let v197 : BitVec 32 := Scalar.addi v196 c1_i32_111
  let v762 : BitVec 32 := Scalar.muli c2_i32_439 v197
  let v763 : BitVec 32 := Scalar.muli c2_i32_440 v762
  let c1_i32_441 : BitVec 32 := 1#32
  let v764 : BitVec 32 := Scalar.addi v763 c1_i32_441
  let v972 : BitVec 32 := Scalar.muli c2_i32_561 v764
  let c2_i32_562 : BitVec 32 := 2#32
  let v973 : BitVec 32 := Scalar.addi v972 c2_i32_562
  let v974 : BitVec 32 := Scalar.minsi v973 arg1
  let c512_i32_563 : BitVec 32 := 512#32
  let v975 : BitVec 32 := Scalar.muli v974 c512_i32_563
  v975
def k0_off121 (i : grid0.Coords) (k0_t2 : Fin (k0_t2_loop i).trips) : Fin 2 → Nat :=
  let c2_i32_561 : BitVec 32 := 2#32
  let c2_i32_440 : BitVec 32 := 2#32
  let c2_i32_439 : BitVec 32 := 2#32
  let c2_i32_110 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v196 : BitVec 32 := Scalar.muli c2_i32_110 arg25
  let c1_i32_111 : BitVec 32 := 1#32
  let v197 : BitVec 32 := Scalar.addi v196 c1_i32_111
  let v762 : BitVec 32 := Scalar.muli c2_i32_439 v197
  let v763 : BitVec 32 := Scalar.muli c2_i32_440 v762
  let c1_i32_441 : BitVec 32 := 1#32
  let v764 : BitVec 32 := Scalar.addi v763 c1_i32_441
  let v972 : BitVec 32 := Scalar.muli c2_i32_561 v764
  let c2_i32_562 : BitVec 32 := 2#32
  let v973 : BitVec 32 := Scalar.addi v972 c2_i32_562
  let v974 : BitVec 32 := Scalar.minsi v973 arg1
  let c512_i32_563 : BitVec 32 := 512#32
  let v975 : BitVec 32 := Scalar.muli v974 c512_i32_563
  let v976 : BitVec 32 := v975
  let v977 : Index := Scalar.indexCast v976
  let c0_564 : Index := 0#32
  ![v977.toNat, 0]
def k0_off122 (i : grid0.Coords) (k0_t2 : Fin (k0_t2_loop i).trips) : Fin 3 → Nat :=
  let c2_i32_561 : BitVec 32 := 2#32
  let c2_i32_440 : BitVec 32 := 2#32
  let c2_i32_439 : BitVec 32 := 2#32
  let c2_i32_110 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v196 : BitVec 32 := Scalar.muli c2_i32_110 arg25
  let c1_i32_111 : BitVec 32 := 1#32
  let v197 : BitVec 32 := Scalar.addi v196 c1_i32_111
  let v762 : BitVec 32 := Scalar.muli c2_i32_439 v197
  let v763 : BitVec 32 := Scalar.muli c2_i32_440 v762
  let c1_i32_441 : BitVec 32 := 1#32
  let v764 : BitVec 32 := Scalar.addi v763 c1_i32_441
  let v972 : BitVec 32 := Scalar.muli c2_i32_561 v764
  let c2_i32_562 : BitVec 32 := 2#32
  let v973 : BitVec 32 := Scalar.addi v972 c2_i32_562
  let v974 : BitVec 32 := Scalar.minsi v973 arg1
  let v982 : BitVec 1 := Scalar.cmpi .eq v974 arg1
  let v983 : BitVec 32 := Scalar.extui v982
  let v984 : Index := Scalar.indexCast v983
  let c0_567 : Index := 0#32
  let c0_568 : Index := 0#32
  ![v984.toNat, 0, 0]
def k0_mult85 (i : grid0.Coords) (k0_t2 : Fin (k0_t2_loop i).trips) : BitVec 32 :=
  let c2_i32_561 : BitVec 32 := 2#32
  let c2_i32_440 : BitVec 32 := 2#32
  let c2_i32_439 : BitVec 32 := 2#32
  let c2_i32_110 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v196 : BitVec 32 := Scalar.muli c2_i32_110 arg25
  let c1_i32_111 : BitVec 32 := 1#32
  let v197 : BitVec 32 := Scalar.addi v196 c1_i32_111
  let v762 : BitVec 32 := Scalar.muli c2_i32_439 v197
  let v763 : BitVec 32 := Scalar.muli c2_i32_440 v762
  let c1_i32_441 : BitVec 32 := 1#32
  let v764 : BitVec 32 := Scalar.addi v763 c1_i32_441
  let v972 : BitVec 32 := Scalar.muli c2_i32_561 v764
  let c2_i32_562 : BitVec 32 := 2#32
  let v973 : BitVec 32 := Scalar.addi v972 c2_i32_562
  let v974 : BitVec 32 := Scalar.minsi v973 arg1
  let c512_i32_574 : BitVec 32 := 512#32
  let v995 : BitVec 32 := Scalar.muli v974 c512_i32_574
  v995
def k0_off123 (i : grid0.Coords) (k0_t2 : Fin (k0_t2_loop i).trips) : Fin 2 → Nat :=
  let c2_i32_561 : BitVec 32 := 2#32
  let c2_i32_440 : BitVec 32 := 2#32
  let c2_i32_439 : BitVec 32 := 2#32
  let c2_i32_110 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v196 : BitVec 32 := Scalar.muli c2_i32_110 arg25
  let c1_i32_111 : BitVec 32 := 1#32
  let v197 : BitVec 32 := Scalar.addi v196 c1_i32_111
  let v762 : BitVec 32 := Scalar.muli c2_i32_439 v197
  let v763 : BitVec 32 := Scalar.muli c2_i32_440 v762
  let c1_i32_441 : BitVec 32 := 1#32
  let v764 : BitVec 32 := Scalar.addi v763 c1_i32_441
  let v972 : BitVec 32 := Scalar.muli c2_i32_561 v764
  let c2_i32_562 : BitVec 32 := 2#32
  let v973 : BitVec 32 := Scalar.addi v972 c2_i32_562
  let v974 : BitVec 32 := Scalar.minsi v973 arg1
  let c512_i32_574 : BitVec 32 := 512#32
  let v995 : BitVec 32 := Scalar.muli v974 c512_i32_574
  let v996 : BitVec 32 := v995
  let v997 : Index := Scalar.indexCast v996
  let c0_575 : Index := 0#32
  ![v997.toNat, 0]
def k0_mult86 (i : grid0.Coords) (k0_t2 : Fin (k0_t2_loop i).trips) : BitVec 32 :=
  let c2_i32_581 : BitVec 32 := 2#32
  let c2_i32_440 : BitVec 32 := 2#32
  let c2_i32_439 : BitVec 32 := 2#32
  let c2_i32_110 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v196 : BitVec 32 := Scalar.muli c2_i32_110 arg25
  let c1_i32_111 : BitVec 32 := 1#32
  let v197 : BitVec 32 := Scalar.addi v196 c1_i32_111
  let v762 : BitVec 32 := Scalar.muli c2_i32_439 v197
  let v763 : BitVec 32 := Scalar.muli c2_i32_440 v762
  let c1_i32_441 : BitVec 32 := 1#32
  let v764 : BitVec 32 := Scalar.addi v763 c1_i32_441
  let v1006 : BitVec 32 := Scalar.muli c2_i32_581 v764
  let c1_i32_582 : BitVec 32 := 1#32
  let v1007 : BitVec 32 := Scalar.addi v1006 c1_i32_582
  let c512_i32_583 : BitVec 32 := 512#32
  let v1008 : BitVec 32 := Scalar.muli v1007 c512_i32_583
  v1008
def k0_mult87 (i : grid0.Coords) (k0_t2 : Fin (k0_t2_loop i).trips) : BitVec 32 :=
  let c2_i32_604 : BitVec 32 := 2#32
  let c2_i32_603 : BitVec 32 := 2#32
  let c2_i32_437 : BitVec 32 := 2#32
  let c2_i32_110 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v196 : BitVec 32 := Scalar.muli c2_i32_110 arg25
  let c1_i32_111 : BitVec 32 := 1#32
  let v197 : BitVec 32 := Scalar.addi v196 c1_i32_111
  let v760 : BitVec 32 := Scalar.muli c2_i32_437 v197
  let c1_i32_438 : BitVec 32 := 1#32
  let v761 : BitVec 32 := Scalar.addi v760 c1_i32_438
  let v1044 : BitVec 32 := Scalar.muli c2_i32_603 v761
  let v1045 : BitVec 32 := Scalar.muli c2_i32_604 v1044
  let c1_i32_605 : BitVec 32 := 1#32
  let v1046 : BitVec 32 := Scalar.addi v1045 c1_i32_605
  let c512_i32_606 : BitVec 32 := 512#32
  let v1047 : BitVec 32 := Scalar.muli v1046 c512_i32_606
  v1047
def k0_off124 (i : grid0.Coords) (k0_t2 : Fin (k0_t2_loop i).trips) : Fin 2 → Nat :=
  let c2_i32_604 : BitVec 32 := 2#32
  let c2_i32_603 : BitVec 32 := 2#32
  let c2_i32_437 : BitVec 32 := 2#32
  let c2_i32_110 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v196 : BitVec 32 := Scalar.muli c2_i32_110 arg25
  let c1_i32_111 : BitVec 32 := 1#32
  let v197 : BitVec 32 := Scalar.addi v196 c1_i32_111
  let v760 : BitVec 32 := Scalar.muli c2_i32_437 v197
  let c1_i32_438 : BitVec 32 := 1#32
  let v761 : BitVec 32 := Scalar.addi v760 c1_i32_438
  let v1044 : BitVec 32 := Scalar.muli c2_i32_603 v761
  let v1045 : BitVec 32 := Scalar.muli c2_i32_604 v1044
  let c1_i32_605 : BitVec 32 := 1#32
  let v1046 : BitVec 32 := Scalar.addi v1045 c1_i32_605
  let c512_i32_606 : BitVec 32 := 512#32
  let v1047 : BitVec 32 := Scalar.muli v1046 c512_i32_606
  let v1048 : BitVec 32 := v1047
  let v1049 : Index := Scalar.indexCast v1048
  let c0_607 : Index := 0#32
  ![v1049.toNat, 0]
def k0_off125 (i : grid0.Coords) (k0_t2 : Fin (k0_t2_loop i).trips) : Fin 3 → Nat :=
  let c2_i32_604 : BitVec 32 := 2#32
  let c2_i32_603 : BitVec 32 := 2#32
  let c2_i32_437 : BitVec 32 := 2#32
  let c2_i32_110 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v196 : BitVec 32 := Scalar.muli c2_i32_110 arg25
  let c1_i32_111 : BitVec 32 := 1#32
  let v197 : BitVec 32 := Scalar.addi v196 c1_i32_111
  let v760 : BitVec 32 := Scalar.muli c2_i32_437 v197
  let c1_i32_438 : BitVec 32 := 1#32
  let v761 : BitVec 32 := Scalar.addi v760 c1_i32_438
  let v1044 : BitVec 32 := Scalar.muli c2_i32_603 v761
  let v1045 : BitVec 32 := Scalar.muli c2_i32_604 v1044
  let c1_i32_605 : BitVec 32 := 1#32
  let v1046 : BitVec 32 := Scalar.addi v1045 c1_i32_605
  let v1054 : BitVec 1 := Scalar.cmpi .eq v1046 arg1
  let v1055 : BitVec 32 := Scalar.extui v1054
  let v1056 : Index := Scalar.indexCast v1055
  let c0_610 : Index := 0#32
  let c0_611 : Index := 0#32
  ![v1056.toNat, 0, 0]
def k0_mult88 (i : grid0.Coords) (k0_t2 : Fin (k0_t2_loop i).trips) : BitVec 32 :=
  let c2_i32_604 : BitVec 32 := 2#32
  let c2_i32_603 : BitVec 32 := 2#32
  let c2_i32_437 : BitVec 32 := 2#32
  let c2_i32_110 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v196 : BitVec 32 := Scalar.muli c2_i32_110 arg25
  let c1_i32_111 : BitVec 32 := 1#32
  let v197 : BitVec 32 := Scalar.addi v196 c1_i32_111
  let v760 : BitVec 32 := Scalar.muli c2_i32_437 v197
  let c1_i32_438 : BitVec 32 := 1#32
  let v761 : BitVec 32 := Scalar.addi v760 c1_i32_438
  let v1044 : BitVec 32 := Scalar.muli c2_i32_603 v761
  let v1045 : BitVec 32 := Scalar.muli c2_i32_604 v1044
  let c1_i32_605 : BitVec 32 := 1#32
  let v1046 : BitVec 32 := Scalar.addi v1045 c1_i32_605
  let c512_i32_617 : BitVec 32 := 512#32
  let v1067 : BitVec 32 := Scalar.muli v1046 c512_i32_617
  v1067
def k0_off126 (i : grid0.Coords) (k0_t2 : Fin (k0_t2_loop i).trips) : Fin 2 → Nat :=
  let c2_i32_604 : BitVec 32 := 2#32
  let c2_i32_603 : BitVec 32 := 2#32
  let c2_i32_437 : BitVec 32 := 2#32
  let c2_i32_110 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v196 : BitVec 32 := Scalar.muli c2_i32_110 arg25
  let c1_i32_111 : BitVec 32 := 1#32
  let v197 : BitVec 32 := Scalar.addi v196 c1_i32_111
  let v760 : BitVec 32 := Scalar.muli c2_i32_437 v197
  let c1_i32_438 : BitVec 32 := 1#32
  let v761 : BitVec 32 := Scalar.addi v760 c1_i32_438
  let v1044 : BitVec 32 := Scalar.muli c2_i32_603 v761
  let v1045 : BitVec 32 := Scalar.muli c2_i32_604 v1044
  let c1_i32_605 : BitVec 32 := 1#32
  let v1046 : BitVec 32 := Scalar.addi v1045 c1_i32_605
  let c512_i32_617 : BitVec 32 := 512#32
  let v1067 : BitVec 32 := Scalar.muli v1046 c512_i32_617
  let v1068 : BitVec 32 := v1067
  let v1069 : Index := Scalar.indexCast v1068
  let c0_618 : Index := 0#32
  ![v1069.toNat, 0]
def k0_mult89 (i : grid0.Coords) (k0_t2 : Fin (k0_t2_loop i).trips) : BitVec 32 :=
  let c2_i32_624 : BitVec 32 := 2#32
  let c2_i32_603 : BitVec 32 := 2#32
  let c2_i32_437 : BitVec 32 := 2#32
  let c2_i32_110 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v196 : BitVec 32 := Scalar.muli c2_i32_110 arg25
  let c1_i32_111 : BitVec 32 := 1#32
  let v197 : BitVec 32 := Scalar.addi v196 c1_i32_111
  let v760 : BitVec 32 := Scalar.muli c2_i32_437 v197
  let c1_i32_438 : BitVec 32 := 1#32
  let v761 : BitVec 32 := Scalar.addi v760 c1_i32_438
  let v1044 : BitVec 32 := Scalar.muli c2_i32_603 v761
  let v1078 : BitVec 32 := Scalar.muli c2_i32_624 v1044
  let c512_i32_625 : BitVec 32 := 512#32
  let v1079 : BitVec 32 := Scalar.muli v1078 c512_i32_625
  v1079
def k0_off127 (i : grid0.Coords) (k0_t2 : Fin (k0_t2_loop i).trips) : Fin 2 → Nat :=
  let c2_i32_624 : BitVec 32 := 2#32
  let c2_i32_603 : BitVec 32 := 2#32
  let c2_i32_437 : BitVec 32 := 2#32
  let c2_i32_110 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v196 : BitVec 32 := Scalar.muli c2_i32_110 arg25
  let c1_i32_111 : BitVec 32 := 1#32
  let v197 : BitVec 32 := Scalar.addi v196 c1_i32_111
  let v760 : BitVec 32 := Scalar.muli c2_i32_437 v197
  let c1_i32_438 : BitVec 32 := 1#32
  let v761 : BitVec 32 := Scalar.addi v760 c1_i32_438
  let v1044 : BitVec 32 := Scalar.muli c2_i32_603 v761
  let v1078 : BitVec 32 := Scalar.muli c2_i32_624 v1044
  let c512_i32_625 : BitVec 32 := 512#32
  let v1079 : BitVec 32 := Scalar.muli v1078 c512_i32_625
  let v1080 : BitVec 32 := v1079
  let v1090 : Index := Scalar.indexCast v1080
  let c0_633 : Index := 0#32
  ![v1090.toNat, 0]
def k0_off128 (i : grid0.Coords) (k0_t2 : Fin (k0_t2_loop i).trips) : Fin 2 → Nat :=
  let c2_i32_624 : BitVec 32 := 2#32
  let c2_i32_603 : BitVec 32 := 2#32
  let c2_i32_437 : BitVec 32 := 2#32
  let c2_i32_110 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v196 : BitVec 32 := Scalar.muli c2_i32_110 arg25
  let c1_i32_111 : BitVec 32 := 1#32
  let v197 : BitVec 32 := Scalar.addi v196 c1_i32_111
  let v760 : BitVec 32 := Scalar.muli c2_i32_437 v197
  let c1_i32_438 : BitVec 32 := 1#32
  let v761 : BitVec 32 := Scalar.addi v760 c1_i32_438
  let v1044 : BitVec 32 := Scalar.muli c2_i32_603 v761
  let v1078 : BitVec 32 := Scalar.muli c2_i32_624 v1044
  let c512_i32_625 : BitVec 32 := 512#32
  let v1079 : BitVec 32 := Scalar.muli v1078 c512_i32_625
  let v1080 : BitVec 32 := v1079
  let v1105 : Index := Scalar.indexCast v1080
  let c0_640 : Index := 0#32
  ![v1105.toNat, 0]
def k0_mult90 (i : grid0.Coords) (k0_t2 : Fin (k0_t2_loop i).trips) : BitVec 32 :=
  let c2_i32_643 : BitVec 32 := 2#32
  let c2_i32_603 : BitVec 32 := 2#32
  let c2_i32_437 : BitVec 32 := 2#32
  let c2_i32_110 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v196 : BitVec 32 := Scalar.muli c2_i32_110 arg25
  let c1_i32_111 : BitVec 32 := 1#32
  let v197 : BitVec 32 := Scalar.addi v196 c1_i32_111
  let v760 : BitVec 32 := Scalar.muli c2_i32_437 v197
  let c1_i32_438 : BitVec 32 := 1#32
  let v761 : BitVec 32 := Scalar.addi v760 c1_i32_438
  let v1044 : BitVec 32 := Scalar.muli c2_i32_603 v761
  let v1113 : BitVec 32 := Scalar.muli c2_i32_643 v1044
  let c2_i32_644 : BitVec 32 := 2#32
  let v1114 : BitVec 32 := Scalar.addi v1113 c2_i32_644
  let v1115 : BitVec 32 := Scalar.minsi v1114 arg1
  let c512_i32_645 : BitVec 32 := 512#32
  let v1116 : BitVec 32 := Scalar.muli v1115 c512_i32_645
  v1116
def k0_off129 (i : grid0.Coords) (k0_t2 : Fin (k0_t2_loop i).trips) : Fin 2 → Nat :=
  let c2_i32_643 : BitVec 32 := 2#32
  let c2_i32_603 : BitVec 32 := 2#32
  let c2_i32_437 : BitVec 32 := 2#32
  let c2_i32_110 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v196 : BitVec 32 := Scalar.muli c2_i32_110 arg25
  let c1_i32_111 : BitVec 32 := 1#32
  let v197 : BitVec 32 := Scalar.addi v196 c1_i32_111
  let v760 : BitVec 32 := Scalar.muli c2_i32_437 v197
  let c1_i32_438 : BitVec 32 := 1#32
  let v761 : BitVec 32 := Scalar.addi v760 c1_i32_438
  let v1044 : BitVec 32 := Scalar.muli c2_i32_603 v761
  let v1113 : BitVec 32 := Scalar.muli c2_i32_643 v1044
  let c2_i32_644 : BitVec 32 := 2#32
  let v1114 : BitVec 32 := Scalar.addi v1113 c2_i32_644
  let v1115 : BitVec 32 := Scalar.minsi v1114 arg1
  let c512_i32_645 : BitVec 32 := 512#32
  let v1116 : BitVec 32 := Scalar.muli v1115 c512_i32_645
  let v1117 : BitVec 32 := v1116
  let v1118 : Index := Scalar.indexCast v1117
  let c0_646 : Index := 0#32
  ![v1118.toNat, 0]
def k0_off130 (i : grid0.Coords) (k0_t2 : Fin (k0_t2_loop i).trips) : Fin 3 → Nat :=
  let c2_i32_643 : BitVec 32 := 2#32
  let c2_i32_603 : BitVec 32 := 2#32
  let c2_i32_437 : BitVec 32 := 2#32
  let c2_i32_110 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v196 : BitVec 32 := Scalar.muli c2_i32_110 arg25
  let c1_i32_111 : BitVec 32 := 1#32
  let v197 : BitVec 32 := Scalar.addi v196 c1_i32_111
  let v760 : BitVec 32 := Scalar.muli c2_i32_437 v197
  let c1_i32_438 : BitVec 32 := 1#32
  let v761 : BitVec 32 := Scalar.addi v760 c1_i32_438
  let v1044 : BitVec 32 := Scalar.muli c2_i32_603 v761
  let v1113 : BitVec 32 := Scalar.muli c2_i32_643 v1044
  let c2_i32_644 : BitVec 32 := 2#32
  let v1114 : BitVec 32 := Scalar.addi v1113 c2_i32_644
  let v1115 : BitVec 32 := Scalar.minsi v1114 arg1
  let v1123 : BitVec 1 := Scalar.cmpi .eq v1115 arg1
  let v1124 : BitVec 32 := Scalar.extui v1123
  let v1125 : Index := Scalar.indexCast v1124
  let c0_649 : Index := 0#32
  let c0_650 : Index := 0#32
  ![v1125.toNat, 0, 0]
def k0_mult91 (i : grid0.Coords) (k0_t2 : Fin (k0_t2_loop i).trips) : BitVec 32 :=
  let c2_i32_643 : BitVec 32 := 2#32
  let c2_i32_603 : BitVec 32 := 2#32
  let c2_i32_437 : BitVec 32 := 2#32
  let c2_i32_110 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v196 : BitVec 32 := Scalar.muli c2_i32_110 arg25
  let c1_i32_111 : BitVec 32 := 1#32
  let v197 : BitVec 32 := Scalar.addi v196 c1_i32_111
  let v760 : BitVec 32 := Scalar.muli c2_i32_437 v197
  let c1_i32_438 : BitVec 32 := 1#32
  let v761 : BitVec 32 := Scalar.addi v760 c1_i32_438
  let v1044 : BitVec 32 := Scalar.muli c2_i32_603 v761
  let v1113 : BitVec 32 := Scalar.muli c2_i32_643 v1044
  let c2_i32_644 : BitVec 32 := 2#32
  let v1114 : BitVec 32 := Scalar.addi v1113 c2_i32_644
  let v1115 : BitVec 32 := Scalar.minsi v1114 arg1
  let c512_i32_656 : BitVec 32 := 512#32
  let v1136 : BitVec 32 := Scalar.muli v1115 c512_i32_656
  v1136
def k0_off131 (i : grid0.Coords) (k0_t2 : Fin (k0_t2_loop i).trips) : Fin 2 → Nat :=
  let c2_i32_643 : BitVec 32 := 2#32
  let c2_i32_603 : BitVec 32 := 2#32
  let c2_i32_437 : BitVec 32 := 2#32
  let c2_i32_110 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v196 : BitVec 32 := Scalar.muli c2_i32_110 arg25
  let c1_i32_111 : BitVec 32 := 1#32
  let v197 : BitVec 32 := Scalar.addi v196 c1_i32_111
  let v760 : BitVec 32 := Scalar.muli c2_i32_437 v197
  let c1_i32_438 : BitVec 32 := 1#32
  let v761 : BitVec 32 := Scalar.addi v760 c1_i32_438
  let v1044 : BitVec 32 := Scalar.muli c2_i32_603 v761
  let v1113 : BitVec 32 := Scalar.muli c2_i32_643 v1044
  let c2_i32_644 : BitVec 32 := 2#32
  let v1114 : BitVec 32 := Scalar.addi v1113 c2_i32_644
  let v1115 : BitVec 32 := Scalar.minsi v1114 arg1
  let c512_i32_656 : BitVec 32 := 512#32
  let v1136 : BitVec 32 := Scalar.muli v1115 c512_i32_656
  let v1137 : BitVec 32 := v1136
  let v1138 : Index := Scalar.indexCast v1137
  let c0_657 : Index := 0#32
  ![v1138.toNat, 0]
def k0_mult92 (i : grid0.Coords) (k0_t2 : Fin (k0_t2_loop i).trips) : BitVec 32 :=
  let c2_i32_663 : BitVec 32 := 2#32
  let c2_i32_603 : BitVec 32 := 2#32
  let c2_i32_437 : BitVec 32 := 2#32
  let c2_i32_110 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v196 : BitVec 32 := Scalar.muli c2_i32_110 arg25
  let c1_i32_111 : BitVec 32 := 1#32
  let v197 : BitVec 32 := Scalar.addi v196 c1_i32_111
  let v760 : BitVec 32 := Scalar.muli c2_i32_437 v197
  let c1_i32_438 : BitVec 32 := 1#32
  let v761 : BitVec 32 := Scalar.addi v760 c1_i32_438
  let v1044 : BitVec 32 := Scalar.muli c2_i32_603 v761
  let v1147 : BitVec 32 := Scalar.muli c2_i32_663 v1044
  let c1_i32_664 : BitVec 32 := 1#32
  let v1148 : BitVec 32 := Scalar.addi v1147 c1_i32_664
  let c512_i32_665 : BitVec 32 := 512#32
  let v1149 : BitVec 32 := Scalar.muli v1148 c512_i32_665
  v1149
def k0_mult93 (i : grid0.Coords) (k0_t2 : Fin (k0_t2_loop i).trips) : BitVec 32 :=
  let c2_i32_683 : BitVec 32 := 2#32
  let c2_i32_601 : BitVec 32 := 2#32
  let c2_i32_437 : BitVec 32 := 2#32
  let c2_i32_110 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v196 : BitVec 32 := Scalar.muli c2_i32_110 arg25
  let c1_i32_111 : BitVec 32 := 1#32
  let v197 : BitVec 32 := Scalar.addi v196 c1_i32_111
  let v760 : BitVec 32 := Scalar.muli c2_i32_437 v197
  let c1_i32_438 : BitVec 32 := 1#32
  let v761 : BitVec 32 := Scalar.addi v760 c1_i32_438
  let v1042 : BitVec 32 := Scalar.muli c2_i32_601 v761
  let c1_i32_602 : BitVec 32 := 1#32
  let v1043 : BitVec 32 := Scalar.addi v1042 c1_i32_602
  let v1183 : BitVec 32 := Scalar.muli c2_i32_683 v1043
  let c1_i32_684 : BitVec 32 := 1#32
  let v1184 : BitVec 32 := Scalar.addi v1183 c1_i32_684
  let c512_i32_685 : BitVec 32 := 512#32
  let v1185 : BitVec 32 := Scalar.muli v1184 c512_i32_685
  v1185
def k0_off132 (i : grid0.Coords) (k0_t2 : Fin (k0_t2_loop i).trips) : Fin 2 → Nat :=
  let c2_i32_683 : BitVec 32 := 2#32
  let c2_i32_601 : BitVec 32 := 2#32
  let c2_i32_437 : BitVec 32 := 2#32
  let c2_i32_110 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v196 : BitVec 32 := Scalar.muli c2_i32_110 arg25
  let c1_i32_111 : BitVec 32 := 1#32
  let v197 : BitVec 32 := Scalar.addi v196 c1_i32_111
  let v760 : BitVec 32 := Scalar.muli c2_i32_437 v197
  let c1_i32_438 : BitVec 32 := 1#32
  let v761 : BitVec 32 := Scalar.addi v760 c1_i32_438
  let v1042 : BitVec 32 := Scalar.muli c2_i32_601 v761
  let c1_i32_602 : BitVec 32 := 1#32
  let v1043 : BitVec 32 := Scalar.addi v1042 c1_i32_602
  let v1183 : BitVec 32 := Scalar.muli c2_i32_683 v1043
  let c1_i32_684 : BitVec 32 := 1#32
  let v1184 : BitVec 32 := Scalar.addi v1183 c1_i32_684
  let c512_i32_685 : BitVec 32 := 512#32
  let v1185 : BitVec 32 := Scalar.muli v1184 c512_i32_685
  let v1186 : BitVec 32 := v1185
  let v1187 : Index := Scalar.indexCast v1186
  let c0_686 : Index := 0#32
  ![v1187.toNat, 0]
def k0_off133 (i : grid0.Coords) (k0_t2 : Fin (k0_t2_loop i).trips) : Fin 3 → Nat :=
  let c2_i32_683 : BitVec 32 := 2#32
  let c2_i32_601 : BitVec 32 := 2#32
  let c2_i32_437 : BitVec 32 := 2#32
  let c2_i32_110 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v196 : BitVec 32 := Scalar.muli c2_i32_110 arg25
  let c1_i32_111 : BitVec 32 := 1#32
  let v197 : BitVec 32 := Scalar.addi v196 c1_i32_111
  let v760 : BitVec 32 := Scalar.muli c2_i32_437 v197
  let c1_i32_438 : BitVec 32 := 1#32
  let v761 : BitVec 32 := Scalar.addi v760 c1_i32_438
  let v1042 : BitVec 32 := Scalar.muli c2_i32_601 v761
  let c1_i32_602 : BitVec 32 := 1#32
  let v1043 : BitVec 32 := Scalar.addi v1042 c1_i32_602
  let v1183 : BitVec 32 := Scalar.muli c2_i32_683 v1043
  let c1_i32_684 : BitVec 32 := 1#32
  let v1184 : BitVec 32 := Scalar.addi v1183 c1_i32_684
  let v1192 : BitVec 1 := Scalar.cmpi .eq v1184 arg1
  let v1193 : BitVec 32 := Scalar.extui v1192
  let v1194 : Index := Scalar.indexCast v1193
  let c0_689 : Index := 0#32
  let c0_690 : Index := 0#32
  ![v1194.toNat, 0, 0]
def k0_mult94 (i : grid0.Coords) (k0_t2 : Fin (k0_t2_loop i).trips) : BitVec 32 :=
  let c2_i32_683 : BitVec 32 := 2#32
  let c2_i32_601 : BitVec 32 := 2#32
  let c2_i32_437 : BitVec 32 := 2#32
  let c2_i32_110 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v196 : BitVec 32 := Scalar.muli c2_i32_110 arg25
  let c1_i32_111 : BitVec 32 := 1#32
  let v197 : BitVec 32 := Scalar.addi v196 c1_i32_111
  let v760 : BitVec 32 := Scalar.muli c2_i32_437 v197
  let c1_i32_438 : BitVec 32 := 1#32
  let v761 : BitVec 32 := Scalar.addi v760 c1_i32_438
  let v1042 : BitVec 32 := Scalar.muli c2_i32_601 v761
  let c1_i32_602 : BitVec 32 := 1#32
  let v1043 : BitVec 32 := Scalar.addi v1042 c1_i32_602
  let v1183 : BitVec 32 := Scalar.muli c2_i32_683 v1043
  let c1_i32_684 : BitVec 32 := 1#32
  let v1184 : BitVec 32 := Scalar.addi v1183 c1_i32_684
  let c512_i32_696 : BitVec 32 := 512#32
  let v1205 : BitVec 32 := Scalar.muli v1184 c512_i32_696
  v1205
def k0_off134 (i : grid0.Coords) (k0_t2 : Fin (k0_t2_loop i).trips) : Fin 2 → Nat :=
  let c2_i32_683 : BitVec 32 := 2#32
  let c2_i32_601 : BitVec 32 := 2#32
  let c2_i32_437 : BitVec 32 := 2#32
  let c2_i32_110 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v196 : BitVec 32 := Scalar.muli c2_i32_110 arg25
  let c1_i32_111 : BitVec 32 := 1#32
  let v197 : BitVec 32 := Scalar.addi v196 c1_i32_111
  let v760 : BitVec 32 := Scalar.muli c2_i32_437 v197
  let c1_i32_438 : BitVec 32 := 1#32
  let v761 : BitVec 32 := Scalar.addi v760 c1_i32_438
  let v1042 : BitVec 32 := Scalar.muli c2_i32_601 v761
  let c1_i32_602 : BitVec 32 := 1#32
  let v1043 : BitVec 32 := Scalar.addi v1042 c1_i32_602
  let v1183 : BitVec 32 := Scalar.muli c2_i32_683 v1043
  let c1_i32_684 : BitVec 32 := 1#32
  let v1184 : BitVec 32 := Scalar.addi v1183 c1_i32_684
  let c512_i32_696 : BitVec 32 := 512#32
  let v1205 : BitVec 32 := Scalar.muli v1184 c512_i32_696
  let v1206 : BitVec 32 := v1205
  let v1207 : Index := Scalar.indexCast v1206
  let c0_697 : Index := 0#32
  ![v1207.toNat, 0]
def k0_mult95 (i : grid0.Coords) (k0_t2 : Fin (k0_t2_loop i).trips) : BitVec 32 :=
  let c2_i32_703 : BitVec 32 := 2#32
  let c2_i32_601 : BitVec 32 := 2#32
  let c2_i32_437 : BitVec 32 := 2#32
  let c2_i32_110 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v196 : BitVec 32 := Scalar.muli c2_i32_110 arg25
  let c1_i32_111 : BitVec 32 := 1#32
  let v197 : BitVec 32 := Scalar.addi v196 c1_i32_111
  let v760 : BitVec 32 := Scalar.muli c2_i32_437 v197
  let c1_i32_438 : BitVec 32 := 1#32
  let v761 : BitVec 32 := Scalar.addi v760 c1_i32_438
  let v1042 : BitVec 32 := Scalar.muli c2_i32_601 v761
  let c1_i32_602 : BitVec 32 := 1#32
  let v1043 : BitVec 32 := Scalar.addi v1042 c1_i32_602
  let v1216 : BitVec 32 := Scalar.muli c2_i32_703 v1043
  let c512_i32_704 : BitVec 32 := 512#32
  let v1217 : BitVec 32 := Scalar.muli v1216 c512_i32_704
  v1217
def k0_off135 (i : grid0.Coords) (k0_t2 : Fin (k0_t2_loop i).trips) : Fin 2 → Nat :=
  let c2_i32_703 : BitVec 32 := 2#32
  let c2_i32_601 : BitVec 32 := 2#32
  let c2_i32_437 : BitVec 32 := 2#32
  let c2_i32_110 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v196 : BitVec 32 := Scalar.muli c2_i32_110 arg25
  let c1_i32_111 : BitVec 32 := 1#32
  let v197 : BitVec 32 := Scalar.addi v196 c1_i32_111
  let v760 : BitVec 32 := Scalar.muli c2_i32_437 v197
  let c1_i32_438 : BitVec 32 := 1#32
  let v761 : BitVec 32 := Scalar.addi v760 c1_i32_438
  let v1042 : BitVec 32 := Scalar.muli c2_i32_601 v761
  let c1_i32_602 : BitVec 32 := 1#32
  let v1043 : BitVec 32 := Scalar.addi v1042 c1_i32_602
  let v1216 : BitVec 32 := Scalar.muli c2_i32_703 v1043
  let c512_i32_704 : BitVec 32 := 512#32
  let v1217 : BitVec 32 := Scalar.muli v1216 c512_i32_704
  let v1218 : BitVec 32 := v1217
  let v1228 : Index := Scalar.indexCast v1218
  let c0_712 : Index := 0#32
  ![v1228.toNat, 0]
def k0_off136 (i : grid0.Coords) (k0_t2 : Fin (k0_t2_loop i).trips) : Fin 2 → Nat :=
  let c2_i32_703 : BitVec 32 := 2#32
  let c2_i32_601 : BitVec 32 := 2#32
  let c2_i32_437 : BitVec 32 := 2#32
  let c2_i32_110 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v196 : BitVec 32 := Scalar.muli c2_i32_110 arg25
  let c1_i32_111 : BitVec 32 := 1#32
  let v197 : BitVec 32 := Scalar.addi v196 c1_i32_111
  let v760 : BitVec 32 := Scalar.muli c2_i32_437 v197
  let c1_i32_438 : BitVec 32 := 1#32
  let v761 : BitVec 32 := Scalar.addi v760 c1_i32_438
  let v1042 : BitVec 32 := Scalar.muli c2_i32_601 v761
  let c1_i32_602 : BitVec 32 := 1#32
  let v1043 : BitVec 32 := Scalar.addi v1042 c1_i32_602
  let v1216 : BitVec 32 := Scalar.muli c2_i32_703 v1043
  let c512_i32_704 : BitVec 32 := 512#32
  let v1217 : BitVec 32 := Scalar.muli v1216 c512_i32_704
  let v1218 : BitVec 32 := v1217
  let v1243 : Index := Scalar.indexCast v1218
  let c0_719 : Index := 0#32
  ![v1243.toNat, 0]
def k0_mult96 (i : grid0.Coords) (k0_t2 : Fin (k0_t2_loop i).trips) : BitVec 32 :=
  let c2_i32_722 : BitVec 32 := 2#32
  let c2_i32_601 : BitVec 32 := 2#32
  let c2_i32_437 : BitVec 32 := 2#32
  let c2_i32_110 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v196 : BitVec 32 := Scalar.muli c2_i32_110 arg25
  let c1_i32_111 : BitVec 32 := 1#32
  let v197 : BitVec 32 := Scalar.addi v196 c1_i32_111
  let v760 : BitVec 32 := Scalar.muli c2_i32_437 v197
  let c1_i32_438 : BitVec 32 := 1#32
  let v761 : BitVec 32 := Scalar.addi v760 c1_i32_438
  let v1042 : BitVec 32 := Scalar.muli c2_i32_601 v761
  let c1_i32_602 : BitVec 32 := 1#32
  let v1043 : BitVec 32 := Scalar.addi v1042 c1_i32_602
  let v1251 : BitVec 32 := Scalar.muli c2_i32_722 v1043
  let c2_i32_723 : BitVec 32 := 2#32
  let v1252 : BitVec 32 := Scalar.addi v1251 c2_i32_723
  let v1253 : BitVec 32 := Scalar.minsi v1252 arg1
  let c512_i32_724 : BitVec 32 := 512#32
  let v1254 : BitVec 32 := Scalar.muli v1253 c512_i32_724
  v1254
def k0_off137 (i : grid0.Coords) (k0_t2 : Fin (k0_t2_loop i).trips) : Fin 2 → Nat :=
  let c2_i32_722 : BitVec 32 := 2#32
  let c2_i32_601 : BitVec 32 := 2#32
  let c2_i32_437 : BitVec 32 := 2#32
  let c2_i32_110 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v196 : BitVec 32 := Scalar.muli c2_i32_110 arg25
  let c1_i32_111 : BitVec 32 := 1#32
  let v197 : BitVec 32 := Scalar.addi v196 c1_i32_111
  let v760 : BitVec 32 := Scalar.muli c2_i32_437 v197
  let c1_i32_438 : BitVec 32 := 1#32
  let v761 : BitVec 32 := Scalar.addi v760 c1_i32_438
  let v1042 : BitVec 32 := Scalar.muli c2_i32_601 v761
  let c1_i32_602 : BitVec 32 := 1#32
  let v1043 : BitVec 32 := Scalar.addi v1042 c1_i32_602
  let v1251 : BitVec 32 := Scalar.muli c2_i32_722 v1043
  let c2_i32_723 : BitVec 32 := 2#32
  let v1252 : BitVec 32 := Scalar.addi v1251 c2_i32_723
  let v1253 : BitVec 32 := Scalar.minsi v1252 arg1
  let c512_i32_724 : BitVec 32 := 512#32
  let v1254 : BitVec 32 := Scalar.muli v1253 c512_i32_724
  let v1255 : BitVec 32 := v1254
  let v1256 : Index := Scalar.indexCast v1255
  let c0_725 : Index := 0#32
  ![v1256.toNat, 0]
def k0_off138 (i : grid0.Coords) (k0_t2 : Fin (k0_t2_loop i).trips) : Fin 3 → Nat :=
  let c2_i32_722 : BitVec 32 := 2#32
  let c2_i32_601 : BitVec 32 := 2#32
  let c2_i32_437 : BitVec 32 := 2#32
  let c2_i32_110 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v196 : BitVec 32 := Scalar.muli c2_i32_110 arg25
  let c1_i32_111 : BitVec 32 := 1#32
  let v197 : BitVec 32 := Scalar.addi v196 c1_i32_111
  let v760 : BitVec 32 := Scalar.muli c2_i32_437 v197
  let c1_i32_438 : BitVec 32 := 1#32
  let v761 : BitVec 32 := Scalar.addi v760 c1_i32_438
  let v1042 : BitVec 32 := Scalar.muli c2_i32_601 v761
  let c1_i32_602 : BitVec 32 := 1#32
  let v1043 : BitVec 32 := Scalar.addi v1042 c1_i32_602
  let v1251 : BitVec 32 := Scalar.muli c2_i32_722 v1043
  let c2_i32_723 : BitVec 32 := 2#32
  let v1252 : BitVec 32 := Scalar.addi v1251 c2_i32_723
  let v1253 : BitVec 32 := Scalar.minsi v1252 arg1
  let v1261 : BitVec 1 := Scalar.cmpi .eq v1253 arg1
  let v1262 : BitVec 32 := Scalar.extui v1261
  let v1263 : Index := Scalar.indexCast v1262
  let c0_728 : Index := 0#32
  let c0_729 : Index := 0#32
  ![v1263.toNat, 0, 0]
def k0_mult97 (i : grid0.Coords) (k0_t2 : Fin (k0_t2_loop i).trips) : BitVec 32 :=
  let c2_i32_722 : BitVec 32 := 2#32
  let c2_i32_601 : BitVec 32 := 2#32
  let c2_i32_437 : BitVec 32 := 2#32
  let c2_i32_110 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v196 : BitVec 32 := Scalar.muli c2_i32_110 arg25
  let c1_i32_111 : BitVec 32 := 1#32
  let v197 : BitVec 32 := Scalar.addi v196 c1_i32_111
  let v760 : BitVec 32 := Scalar.muli c2_i32_437 v197
  let c1_i32_438 : BitVec 32 := 1#32
  let v761 : BitVec 32 := Scalar.addi v760 c1_i32_438
  let v1042 : BitVec 32 := Scalar.muli c2_i32_601 v761
  let c1_i32_602 : BitVec 32 := 1#32
  let v1043 : BitVec 32 := Scalar.addi v1042 c1_i32_602
  let v1251 : BitVec 32 := Scalar.muli c2_i32_722 v1043
  let c2_i32_723 : BitVec 32 := 2#32
  let v1252 : BitVec 32 := Scalar.addi v1251 c2_i32_723
  let v1253 : BitVec 32 := Scalar.minsi v1252 arg1
  let c512_i32_735 : BitVec 32 := 512#32
  let v1274 : BitVec 32 := Scalar.muli v1253 c512_i32_735
  v1274
def k0_off139 (i : grid0.Coords) (k0_t2 : Fin (k0_t2_loop i).trips) : Fin 2 → Nat :=
  let c2_i32_722 : BitVec 32 := 2#32
  let c2_i32_601 : BitVec 32 := 2#32
  let c2_i32_437 : BitVec 32 := 2#32
  let c2_i32_110 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v196 : BitVec 32 := Scalar.muli c2_i32_110 arg25
  let c1_i32_111 : BitVec 32 := 1#32
  let v197 : BitVec 32 := Scalar.addi v196 c1_i32_111
  let v760 : BitVec 32 := Scalar.muli c2_i32_437 v197
  let c1_i32_438 : BitVec 32 := 1#32
  let v761 : BitVec 32 := Scalar.addi v760 c1_i32_438
  let v1042 : BitVec 32 := Scalar.muli c2_i32_601 v761
  let c1_i32_602 : BitVec 32 := 1#32
  let v1043 : BitVec 32 := Scalar.addi v1042 c1_i32_602
  let v1251 : BitVec 32 := Scalar.muli c2_i32_722 v1043
  let c2_i32_723 : BitVec 32 := 2#32
  let v1252 : BitVec 32 := Scalar.addi v1251 c2_i32_723
  let v1253 : BitVec 32 := Scalar.minsi v1252 arg1
  let c512_i32_735 : BitVec 32 := 512#32
  let v1274 : BitVec 32 := Scalar.muli v1253 c512_i32_735
  let v1275 : BitVec 32 := v1274
  let v1276 : Index := Scalar.indexCast v1275
  let c0_736 : Index := 0#32
  ![v1276.toNat, 0]
def k0_mult98 (i : grid0.Coords) (k0_t2 : Fin (k0_t2_loop i).trips) : BitVec 32 :=
  let c2_i32_742 : BitVec 32 := 2#32
  let c2_i32_601 : BitVec 32 := 2#32
  let c2_i32_437 : BitVec 32 := 2#32
  let c2_i32_110 : BitVec 32 := 2#32
  let c0_i32_57 : BitVec 32 := 0#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v102 : BitVec 32 := Scalar.subi v101 c0_i32_57
  let c1_i32_58 : BitVec 32 := 1#32
  let v104 : BitVec 32 := Scalar.divsi v102 c1_i32_58
  let v105 : BitVec 32 := Scalar.muli v104 c1_i32_58
  let v106 : BitVec 32 := Scalar.addi c0_i32_57 v105
  let c1_i32_60 : BitVec 32 := 1#32
  let arg25 : BitVec 32 := Scf.iv v106 c1_i32_60 k0_t2
  let v196 : BitVec 32 := Scalar.muli c2_i32_110 arg25
  let c1_i32_111 : BitVec 32 := 1#32
  let v197 : BitVec 32 := Scalar.addi v196 c1_i32_111
  let v760 : BitVec 32 := Scalar.muli c2_i32_437 v197
  let c1_i32_438 : BitVec 32 := 1#32
  let v761 : BitVec 32 := Scalar.addi v760 c1_i32_438
  let v1042 : BitVec 32 := Scalar.muli c2_i32_601 v761
  let c1_i32_602 : BitVec 32 := 1#32
  let v1043 : BitVec 32 := Scalar.addi v1042 c1_i32_602
  let v1285 : BitVec 32 := Scalar.muli c2_i32_742 v1043
  let c1_i32_743 : BitVec 32 := 1#32
  let v1286 : BitVec 32 := Scalar.addi v1285 c1_i32_743
  let c512_i32_744 : BitVec 32 := 512#32
  let v1287 : BitVec 32 := Scalar.muli v1286 c512_i32_744
  v1287
@[reducible] def k0_t3_loop (i : grid0.Coords) : Scf.Loop 32 :=
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v125 : BitVec 32 := Scalar.subi v124 v107
  let c1_i32_69 : BitVec 32 := 1#32
  let v127 : BitVec 32 := Scalar.divsi v125 c1_i32_69
  let v128 : BitVec 32 := Scalar.muli v127 c1_i32_69
  let v129 : BitVec 32 := Scalar.addi v107 v128
  let c1_i32_70 : BitVec 32 := 1#32
  ⟨v107, v129, c1_i32_70⟩
def k0_mult99 (i : grid0.Coords) (k0_t3 : Fin (k0_t3_loop i).trips) : BitVec 32 :=
  let c2_i32_116 : BitVec 32 := 2#32
  let c2_i32_115 : BitVec 32 := 2#32
  let c2_i32_112 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c1_i32_70 : BitVec 32 := 1#32
  let arg25 : BitVec 32 := Scf.iv v107 c1_i32_70 k0_t3
  let v198 : BitVec 32 := Scalar.muli c2_i32_112 arg25
  let v201 : BitVec 32 := Scalar.muli c2_i32_115 v198
  let v202 : BitVec 32 := Scalar.muli c2_i32_116 v201
  let c1_i32_117 : BitVec 32 := 1#32
  let v203 : BitVec 32 := Scalar.addi v202 c1_i32_117
  let c512_i32 : BitVec 32 := 512#32
  let v204 : BitVec 32 := Scalar.muli v203 c512_i32
  v204
def k0_off140 (i : grid0.Coords) (k0_t3 : Fin (k0_t3_loop i).trips) : Fin 2 → Nat :=
  let c2_i32_116 : BitVec 32 := 2#32
  let c2_i32_115 : BitVec 32 := 2#32
  let c2_i32_112 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c1_i32_70 : BitVec 32 := 1#32
  let arg25 : BitVec 32 := Scf.iv v107 c1_i32_70 k0_t3
  let v198 : BitVec 32 := Scalar.muli c2_i32_112 arg25
  let v201 : BitVec 32 := Scalar.muli c2_i32_115 v198
  let v202 : BitVec 32 := Scalar.muli c2_i32_116 v201
  let c1_i32_117 : BitVec 32 := 1#32
  let v203 : BitVec 32 := Scalar.addi v202 c1_i32_117
  let c512_i32 : BitVec 32 := 512#32
  let v204 : BitVec 32 := Scalar.muli v203 c512_i32
  let v205 : BitVec 32 := v204
  let v206 : Index := Scalar.indexCast v205
  let c0_118 : Index := 0#32
  ![v206.toNat, 0]
def k0_off141 (i : grid0.Coords) (k0_t3 : Fin (k0_t3_loop i).trips) : Fin 3 → Nat :=
  let c2_i32_116 : BitVec 32 := 2#32
  let c2_i32_115 : BitVec 32 := 2#32
  let c2_i32_112 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c1_i32_70 : BitVec 32 := 1#32
  let arg25 : BitVec 32 := Scf.iv v107 c1_i32_70 k0_t3
  let v198 : BitVec 32 := Scalar.muli c2_i32_112 arg25
  let v201 : BitVec 32 := Scalar.muli c2_i32_115 v198
  let v202 : BitVec 32 := Scalar.muli c2_i32_116 v201
  let c1_i32_117 : BitVec 32 := 1#32
  let v203 : BitVec 32 := Scalar.addi v202 c1_i32_117
  let v211 : BitVec 1 := Scalar.cmpi .eq v203 arg1
  let v212 : BitVec 32 := Scalar.extui v211
  let v213 : Index := Scalar.indexCast v212
  let c0_121 : Index := 0#32
  let c0_122 : Index := 0#32
  ![v213.toNat, 0, 0]
def k0_mult100 (i : grid0.Coords) (k0_t3 : Fin (k0_t3_loop i).trips) : BitVec 32 :=
  let c2_i32_116 : BitVec 32 := 2#32
  let c2_i32_115 : BitVec 32 := 2#32
  let c2_i32_112 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c1_i32_70 : BitVec 32 := 1#32
  let arg25 : BitVec 32 := Scf.iv v107 c1_i32_70 k0_t3
  let v198 : BitVec 32 := Scalar.muli c2_i32_112 arg25
  let v201 : BitVec 32 := Scalar.muli c2_i32_115 v198
  let v202 : BitVec 32 := Scalar.muli c2_i32_116 v201
  let c1_i32_117 : BitVec 32 := 1#32
  let v203 : BitVec 32 := Scalar.addi v202 c1_i32_117
  let c512_i32_128 : BitVec 32 := 512#32
  let v224 : BitVec 32 := Scalar.muli v203 c512_i32_128
  v224
def k0_off142 (i : grid0.Coords) (k0_t3 : Fin (k0_t3_loop i).trips) : Fin 2 → Nat :=
  let c2_i32_116 : BitVec 32 := 2#32
  let c2_i32_115 : BitVec 32 := 2#32
  let c2_i32_112 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c1_i32_70 : BitVec 32 := 1#32
  let arg25 : BitVec 32 := Scf.iv v107 c1_i32_70 k0_t3
  let v198 : BitVec 32 := Scalar.muli c2_i32_112 arg25
  let v201 : BitVec 32 := Scalar.muli c2_i32_115 v198
  let v202 : BitVec 32 := Scalar.muli c2_i32_116 v201
  let c1_i32_117 : BitVec 32 := 1#32
  let v203 : BitVec 32 := Scalar.addi v202 c1_i32_117
  let c512_i32_128 : BitVec 32 := 512#32
  let v224 : BitVec 32 := Scalar.muli v203 c512_i32_128
  let v225 : BitVec 32 := v224
  let v226 : Index := Scalar.indexCast v225
  let c0_129 : Index := 0#32
  ![v226.toNat, 0]
def k0_mult101 (i : grid0.Coords) (k0_t3 : Fin (k0_t3_loop i).trips) : BitVec 32 :=
  let c2_i32_135 : BitVec 32 := 2#32
  let c2_i32_115 : BitVec 32 := 2#32
  let c2_i32_112 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c1_i32_70 : BitVec 32 := 1#32
  let arg25 : BitVec 32 := Scf.iv v107 c1_i32_70 k0_t3
  let v198 : BitVec 32 := Scalar.muli c2_i32_112 arg25
  let v201 : BitVec 32 := Scalar.muli c2_i32_115 v198
  let v235 : BitVec 32 := Scalar.muli c2_i32_135 v201
  let c512_i32_136 : BitVec 32 := 512#32
  let v236 : BitVec 32 := Scalar.muli v235 c512_i32_136
  v236
def k0_off143 (i : grid0.Coords) (k0_t3 : Fin (k0_t3_loop i).trips) : Fin 2 → Nat :=
  let c2_i32_135 : BitVec 32 := 2#32
  let c2_i32_115 : BitVec 32 := 2#32
  let c2_i32_112 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c1_i32_70 : BitVec 32 := 1#32
  let arg25 : BitVec 32 := Scf.iv v107 c1_i32_70 k0_t3
  let v198 : BitVec 32 := Scalar.muli c2_i32_112 arg25
  let v201 : BitVec 32 := Scalar.muli c2_i32_115 v198
  let v235 : BitVec 32 := Scalar.muli c2_i32_135 v201
  let c512_i32_136 : BitVec 32 := 512#32
  let v236 : BitVec 32 := Scalar.muli v235 c512_i32_136
  let v237 : BitVec 32 := v236
  let v247 : Index := Scalar.indexCast v237
  let c0_144 : Index := 0#32
  ![v247.toNat, 0]
def k0_off144 (i : grid0.Coords) (k0_t3 : Fin (k0_t3_loop i).trips) : Fin 2 → Nat :=
  let c2_i32_135 : BitVec 32 := 2#32
  let c2_i32_115 : BitVec 32 := 2#32
  let c2_i32_112 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c1_i32_70 : BitVec 32 := 1#32
  let arg25 : BitVec 32 := Scf.iv v107 c1_i32_70 k0_t3
  let v198 : BitVec 32 := Scalar.muli c2_i32_112 arg25
  let v201 : BitVec 32 := Scalar.muli c2_i32_115 v198
  let v235 : BitVec 32 := Scalar.muli c2_i32_135 v201
  let c512_i32_136 : BitVec 32 := 512#32
  let v236 : BitVec 32 := Scalar.muli v235 c512_i32_136
  let v237 : BitVec 32 := v236
  let v262 : Index := Scalar.indexCast v237
  let c0_151 : Index := 0#32
  ![v262.toNat, 0]
def k0_mult102 (i : grid0.Coords) (k0_t3 : Fin (k0_t3_loop i).trips) : BitVec 32 :=
  let c2_i32_154 : BitVec 32 := 2#32
  let c2_i32_115 : BitVec 32 := 2#32
  let c2_i32_112 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c1_i32_70 : BitVec 32 := 1#32
  let arg25 : BitVec 32 := Scf.iv v107 c1_i32_70 k0_t3
  let v198 : BitVec 32 := Scalar.muli c2_i32_112 arg25
  let v201 : BitVec 32 := Scalar.muli c2_i32_115 v198
  let v270 : BitVec 32 := Scalar.muli c2_i32_154 v201
  let c2_i32_155 : BitVec 32 := 2#32
  let v271 : BitVec 32 := Scalar.addi v270 c2_i32_155
  let v272 : BitVec 32 := Scalar.minsi v271 arg1
  let c512_i32_156 : BitVec 32 := 512#32
  let v273 : BitVec 32 := Scalar.muli v272 c512_i32_156
  v273
def k0_off145 (i : grid0.Coords) (k0_t3 : Fin (k0_t3_loop i).trips) : Fin 2 → Nat :=
  let c2_i32_154 : BitVec 32 := 2#32
  let c2_i32_115 : BitVec 32 := 2#32
  let c2_i32_112 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c1_i32_70 : BitVec 32 := 1#32
  let arg25 : BitVec 32 := Scf.iv v107 c1_i32_70 k0_t3
  let v198 : BitVec 32 := Scalar.muli c2_i32_112 arg25
  let v201 : BitVec 32 := Scalar.muli c2_i32_115 v198
  let v270 : BitVec 32 := Scalar.muli c2_i32_154 v201
  let c2_i32_155 : BitVec 32 := 2#32
  let v271 : BitVec 32 := Scalar.addi v270 c2_i32_155
  let v272 : BitVec 32 := Scalar.minsi v271 arg1
  let c512_i32_156 : BitVec 32 := 512#32
  let v273 : BitVec 32 := Scalar.muli v272 c512_i32_156
  let v274 : BitVec 32 := v273
  let v275 : Index := Scalar.indexCast v274
  let c0_157 : Index := 0#32
  ![v275.toNat, 0]
def k0_off146 (i : grid0.Coords) (k0_t3 : Fin (k0_t3_loop i).trips) : Fin 3 → Nat :=
  let c2_i32_154 : BitVec 32 := 2#32
  let c2_i32_115 : BitVec 32 := 2#32
  let c2_i32_112 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c1_i32_70 : BitVec 32 := 1#32
  let arg25 : BitVec 32 := Scf.iv v107 c1_i32_70 k0_t3
  let v198 : BitVec 32 := Scalar.muli c2_i32_112 arg25
  let v201 : BitVec 32 := Scalar.muli c2_i32_115 v198
  let v270 : BitVec 32 := Scalar.muli c2_i32_154 v201
  let c2_i32_155 : BitVec 32 := 2#32
  let v271 : BitVec 32 := Scalar.addi v270 c2_i32_155
  let v272 : BitVec 32 := Scalar.minsi v271 arg1
  let v280 : BitVec 1 := Scalar.cmpi .eq v272 arg1
  let v281 : BitVec 32 := Scalar.extui v280
  let v282 : Index := Scalar.indexCast v281
  let c0_160 : Index := 0#32
  let c0_161 : Index := 0#32
  ![v282.toNat, 0, 0]
def k0_mult103 (i : grid0.Coords) (k0_t3 : Fin (k0_t3_loop i).trips) : BitVec 32 :=
  let c2_i32_154 : BitVec 32 := 2#32
  let c2_i32_115 : BitVec 32 := 2#32
  let c2_i32_112 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c1_i32_70 : BitVec 32 := 1#32
  let arg25 : BitVec 32 := Scf.iv v107 c1_i32_70 k0_t3
  let v198 : BitVec 32 := Scalar.muli c2_i32_112 arg25
  let v201 : BitVec 32 := Scalar.muli c2_i32_115 v198
  let v270 : BitVec 32 := Scalar.muli c2_i32_154 v201
  let c2_i32_155 : BitVec 32 := 2#32
  let v271 : BitVec 32 := Scalar.addi v270 c2_i32_155
  let v272 : BitVec 32 := Scalar.minsi v271 arg1
  let c512_i32_167 : BitVec 32 := 512#32
  let v293 : BitVec 32 := Scalar.muli v272 c512_i32_167
  v293
def k0_off147 (i : grid0.Coords) (k0_t3 : Fin (k0_t3_loop i).trips) : Fin 2 → Nat :=
  let c2_i32_154 : BitVec 32 := 2#32
  let c2_i32_115 : BitVec 32 := 2#32
  let c2_i32_112 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c1_i32_70 : BitVec 32 := 1#32
  let arg25 : BitVec 32 := Scf.iv v107 c1_i32_70 k0_t3
  let v198 : BitVec 32 := Scalar.muli c2_i32_112 arg25
  let v201 : BitVec 32 := Scalar.muli c2_i32_115 v198
  let v270 : BitVec 32 := Scalar.muli c2_i32_154 v201
  let c2_i32_155 : BitVec 32 := 2#32
  let v271 : BitVec 32 := Scalar.addi v270 c2_i32_155
  let v272 : BitVec 32 := Scalar.minsi v271 arg1
  let c512_i32_167 : BitVec 32 := 512#32
  let v293 : BitVec 32 := Scalar.muli v272 c512_i32_167
  let v294 : BitVec 32 := v293
  let v295 : Index := Scalar.indexCast v294
  let c0_168 : Index := 0#32
  ![v295.toNat, 0]
def k0_mult104 (i : grid0.Coords) (k0_t3 : Fin (k0_t3_loop i).trips) : BitVec 32 :=
  let c2_i32_174 : BitVec 32 := 2#32
  let c2_i32_115 : BitVec 32 := 2#32
  let c2_i32_112 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c1_i32_70 : BitVec 32 := 1#32
  let arg25 : BitVec 32 := Scf.iv v107 c1_i32_70 k0_t3
  let v198 : BitVec 32 := Scalar.muli c2_i32_112 arg25
  let v201 : BitVec 32 := Scalar.muli c2_i32_115 v198
  let v304 : BitVec 32 := Scalar.muli c2_i32_174 v201
  let c1_i32_175 : BitVec 32 := 1#32
  let v305 : BitVec 32 := Scalar.addi v304 c1_i32_175
  let c512_i32_176 : BitVec 32 := 512#32
  let v306 : BitVec 32 := Scalar.muli v305 c512_i32_176
  v306
def k0_mult105 (i : grid0.Coords) (k0_t3 : Fin (k0_t3_loop i).trips) : BitVec 32 :=
  let c2_i32_194 : BitVec 32 := 2#32
  let c2_i32_113 : BitVec 32 := 2#32
  let c2_i32_112 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c1_i32_70 : BitVec 32 := 1#32
  let arg25 : BitVec 32 := Scf.iv v107 c1_i32_70 k0_t3
  let v198 : BitVec 32 := Scalar.muli c2_i32_112 arg25
  let v199 : BitVec 32 := Scalar.muli c2_i32_113 v198
  let c1_i32_114 : BitVec 32 := 1#32
  let v200 : BitVec 32 := Scalar.addi v199 c1_i32_114
  let v340 : BitVec 32 := Scalar.muli c2_i32_194 v200
  let c1_i32_195 : BitVec 32 := 1#32
  let v341 : BitVec 32 := Scalar.addi v340 c1_i32_195
  let c512_i32_196 : BitVec 32 := 512#32
  let v342 : BitVec 32 := Scalar.muli v341 c512_i32_196
  v342
def k0_off148 (i : grid0.Coords) (k0_t3 : Fin (k0_t3_loop i).trips) : Fin 2 → Nat :=
  let c2_i32_194 : BitVec 32 := 2#32
  let c2_i32_113 : BitVec 32 := 2#32
  let c2_i32_112 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c1_i32_70 : BitVec 32 := 1#32
  let arg25 : BitVec 32 := Scf.iv v107 c1_i32_70 k0_t3
  let v198 : BitVec 32 := Scalar.muli c2_i32_112 arg25
  let v199 : BitVec 32 := Scalar.muli c2_i32_113 v198
  let c1_i32_114 : BitVec 32 := 1#32
  let v200 : BitVec 32 := Scalar.addi v199 c1_i32_114
  let v340 : BitVec 32 := Scalar.muli c2_i32_194 v200
  let c1_i32_195 : BitVec 32 := 1#32
  let v341 : BitVec 32 := Scalar.addi v340 c1_i32_195
  let c512_i32_196 : BitVec 32 := 512#32
  let v342 : BitVec 32 := Scalar.muli v341 c512_i32_196
  let v343 : BitVec 32 := v342
  let v344 : Index := Scalar.indexCast v343
  let c0_197 : Index := 0#32
  ![v344.toNat, 0]
def k0_off149 (i : grid0.Coords) (k0_t3 : Fin (k0_t3_loop i).trips) : Fin 3 → Nat :=
  let c2_i32_194 : BitVec 32 := 2#32
  let c2_i32_113 : BitVec 32 := 2#32
  let c2_i32_112 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c1_i32_70 : BitVec 32 := 1#32
  let arg25 : BitVec 32 := Scf.iv v107 c1_i32_70 k0_t3
  let v198 : BitVec 32 := Scalar.muli c2_i32_112 arg25
  let v199 : BitVec 32 := Scalar.muli c2_i32_113 v198
  let c1_i32_114 : BitVec 32 := 1#32
  let v200 : BitVec 32 := Scalar.addi v199 c1_i32_114
  let v340 : BitVec 32 := Scalar.muli c2_i32_194 v200
  let c1_i32_195 : BitVec 32 := 1#32
  let v341 : BitVec 32 := Scalar.addi v340 c1_i32_195
  let v349 : BitVec 1 := Scalar.cmpi .eq v341 arg1
  let v350 : BitVec 32 := Scalar.extui v349
  let v351 : Index := Scalar.indexCast v350
  let c0_200 : Index := 0#32
  let c0_201 : Index := 0#32
  ![v351.toNat, 0, 0]
def k0_mult106 (i : grid0.Coords) (k0_t3 : Fin (k0_t3_loop i).trips) : BitVec 32 :=
  let c2_i32_194 : BitVec 32 := 2#32
  let c2_i32_113 : BitVec 32 := 2#32
  let c2_i32_112 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c1_i32_70 : BitVec 32 := 1#32
  let arg25 : BitVec 32 := Scf.iv v107 c1_i32_70 k0_t3
  let v198 : BitVec 32 := Scalar.muli c2_i32_112 arg25
  let v199 : BitVec 32 := Scalar.muli c2_i32_113 v198
  let c1_i32_114 : BitVec 32 := 1#32
  let v200 : BitVec 32 := Scalar.addi v199 c1_i32_114
  let v340 : BitVec 32 := Scalar.muli c2_i32_194 v200
  let c1_i32_195 : BitVec 32 := 1#32
  let v341 : BitVec 32 := Scalar.addi v340 c1_i32_195
  let c512_i32_207 : BitVec 32 := 512#32
  let v362 : BitVec 32 := Scalar.muli v341 c512_i32_207
  v362
def k0_off150 (i : grid0.Coords) (k0_t3 : Fin (k0_t3_loop i).trips) : Fin 2 → Nat :=
  let c2_i32_194 : BitVec 32 := 2#32
  let c2_i32_113 : BitVec 32 := 2#32
  let c2_i32_112 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c1_i32_70 : BitVec 32 := 1#32
  let arg25 : BitVec 32 := Scf.iv v107 c1_i32_70 k0_t3
  let v198 : BitVec 32 := Scalar.muli c2_i32_112 arg25
  let v199 : BitVec 32 := Scalar.muli c2_i32_113 v198
  let c1_i32_114 : BitVec 32 := 1#32
  let v200 : BitVec 32 := Scalar.addi v199 c1_i32_114
  let v340 : BitVec 32 := Scalar.muli c2_i32_194 v200
  let c1_i32_195 : BitVec 32 := 1#32
  let v341 : BitVec 32 := Scalar.addi v340 c1_i32_195
  let c512_i32_207 : BitVec 32 := 512#32
  let v362 : BitVec 32 := Scalar.muli v341 c512_i32_207
  let v363 : BitVec 32 := v362
  let v364 : Index := Scalar.indexCast v363
  let c0_208 : Index := 0#32
  ![v364.toNat, 0]
def k0_mult107 (i : grid0.Coords) (k0_t3 : Fin (k0_t3_loop i).trips) : BitVec 32 :=
  let c2_i32_214 : BitVec 32 := 2#32
  let c2_i32_113 : BitVec 32 := 2#32
  let c2_i32_112 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c1_i32_70 : BitVec 32 := 1#32
  let arg25 : BitVec 32 := Scf.iv v107 c1_i32_70 k0_t3
  let v198 : BitVec 32 := Scalar.muli c2_i32_112 arg25
  let v199 : BitVec 32 := Scalar.muli c2_i32_113 v198
  let c1_i32_114 : BitVec 32 := 1#32
  let v200 : BitVec 32 := Scalar.addi v199 c1_i32_114
  let v373 : BitVec 32 := Scalar.muli c2_i32_214 v200
  let c512_i32_215 : BitVec 32 := 512#32
  let v374 : BitVec 32 := Scalar.muli v373 c512_i32_215
  v374
def k0_off151 (i : grid0.Coords) (k0_t3 : Fin (k0_t3_loop i).trips) : Fin 2 → Nat :=
  let c2_i32_214 : BitVec 32 := 2#32
  let c2_i32_113 : BitVec 32 := 2#32
  let c2_i32_112 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c1_i32_70 : BitVec 32 := 1#32
  let arg25 : BitVec 32 := Scf.iv v107 c1_i32_70 k0_t3
  let v198 : BitVec 32 := Scalar.muli c2_i32_112 arg25
  let v199 : BitVec 32 := Scalar.muli c2_i32_113 v198
  let c1_i32_114 : BitVec 32 := 1#32
  let v200 : BitVec 32 := Scalar.addi v199 c1_i32_114
  let v373 : BitVec 32 := Scalar.muli c2_i32_214 v200
  let c512_i32_215 : BitVec 32 := 512#32
  let v374 : BitVec 32 := Scalar.muli v373 c512_i32_215
  let v375 : BitVec 32 := v374
  let v385 : Index := Scalar.indexCast v375
  let c0_223 : Index := 0#32
  ![v385.toNat, 0]
def k0_off152 (i : grid0.Coords) (k0_t3 : Fin (k0_t3_loop i).trips) : Fin 2 → Nat :=
  let c2_i32_214 : BitVec 32 := 2#32
  let c2_i32_113 : BitVec 32 := 2#32
  let c2_i32_112 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c1_i32_70 : BitVec 32 := 1#32
  let arg25 : BitVec 32 := Scf.iv v107 c1_i32_70 k0_t3
  let v198 : BitVec 32 := Scalar.muli c2_i32_112 arg25
  let v199 : BitVec 32 := Scalar.muli c2_i32_113 v198
  let c1_i32_114 : BitVec 32 := 1#32
  let v200 : BitVec 32 := Scalar.addi v199 c1_i32_114
  let v373 : BitVec 32 := Scalar.muli c2_i32_214 v200
  let c512_i32_215 : BitVec 32 := 512#32
  let v374 : BitVec 32 := Scalar.muli v373 c512_i32_215
  let v375 : BitVec 32 := v374
  let v400 : Index := Scalar.indexCast v375
  let c0_230 : Index := 0#32
  ![v400.toNat, 0]
def k0_mult108 (i : grid0.Coords) (k0_t3 : Fin (k0_t3_loop i).trips) : BitVec 32 :=
  let c2_i32_233 : BitVec 32 := 2#32
  let c2_i32_113 : BitVec 32 := 2#32
  let c2_i32_112 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c1_i32_70 : BitVec 32 := 1#32
  let arg25 : BitVec 32 := Scf.iv v107 c1_i32_70 k0_t3
  let v198 : BitVec 32 := Scalar.muli c2_i32_112 arg25
  let v199 : BitVec 32 := Scalar.muli c2_i32_113 v198
  let c1_i32_114 : BitVec 32 := 1#32
  let v200 : BitVec 32 := Scalar.addi v199 c1_i32_114
  let v408 : BitVec 32 := Scalar.muli c2_i32_233 v200
  let c2_i32_234 : BitVec 32 := 2#32
  let v409 : BitVec 32 := Scalar.addi v408 c2_i32_234
  let v410 : BitVec 32 := Scalar.minsi v409 arg1
  let c512_i32_235 : BitVec 32 := 512#32
  let v411 : BitVec 32 := Scalar.muli v410 c512_i32_235
  v411
def k0_off153 (i : grid0.Coords) (k0_t3 : Fin (k0_t3_loop i).trips) : Fin 2 → Nat :=
  let c2_i32_233 : BitVec 32 := 2#32
  let c2_i32_113 : BitVec 32 := 2#32
  let c2_i32_112 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c1_i32_70 : BitVec 32 := 1#32
  let arg25 : BitVec 32 := Scf.iv v107 c1_i32_70 k0_t3
  let v198 : BitVec 32 := Scalar.muli c2_i32_112 arg25
  let v199 : BitVec 32 := Scalar.muli c2_i32_113 v198
  let c1_i32_114 : BitVec 32 := 1#32
  let v200 : BitVec 32 := Scalar.addi v199 c1_i32_114
  let v408 : BitVec 32 := Scalar.muli c2_i32_233 v200
  let c2_i32_234 : BitVec 32 := 2#32
  let v409 : BitVec 32 := Scalar.addi v408 c2_i32_234
  let v410 : BitVec 32 := Scalar.minsi v409 arg1
  let c512_i32_235 : BitVec 32 := 512#32
  let v411 : BitVec 32 := Scalar.muli v410 c512_i32_235
  let v412 : BitVec 32 := v411
  let v413 : Index := Scalar.indexCast v412
  let c0_236 : Index := 0#32
  ![v413.toNat, 0]
def k0_off154 (i : grid0.Coords) (k0_t3 : Fin (k0_t3_loop i).trips) : Fin 3 → Nat :=
  let c2_i32_233 : BitVec 32 := 2#32
  let c2_i32_113 : BitVec 32 := 2#32
  let c2_i32_112 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c1_i32_70 : BitVec 32 := 1#32
  let arg25 : BitVec 32 := Scf.iv v107 c1_i32_70 k0_t3
  let v198 : BitVec 32 := Scalar.muli c2_i32_112 arg25
  let v199 : BitVec 32 := Scalar.muli c2_i32_113 v198
  let c1_i32_114 : BitVec 32 := 1#32
  let v200 : BitVec 32 := Scalar.addi v199 c1_i32_114
  let v408 : BitVec 32 := Scalar.muli c2_i32_233 v200
  let c2_i32_234 : BitVec 32 := 2#32
  let v409 : BitVec 32 := Scalar.addi v408 c2_i32_234
  let v410 : BitVec 32 := Scalar.minsi v409 arg1
  let v418 : BitVec 1 := Scalar.cmpi .eq v410 arg1
  let v419 : BitVec 32 := Scalar.extui v418
  let v420 : Index := Scalar.indexCast v419
  let c0_239 : Index := 0#32
  let c0_240 : Index := 0#32
  ![v420.toNat, 0, 0]
def k0_mult109 (i : grid0.Coords) (k0_t3 : Fin (k0_t3_loop i).trips) : BitVec 32 :=
  let c2_i32_233 : BitVec 32 := 2#32
  let c2_i32_113 : BitVec 32 := 2#32
  let c2_i32_112 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c1_i32_70 : BitVec 32 := 1#32
  let arg25 : BitVec 32 := Scf.iv v107 c1_i32_70 k0_t3
  let v198 : BitVec 32 := Scalar.muli c2_i32_112 arg25
  let v199 : BitVec 32 := Scalar.muli c2_i32_113 v198
  let c1_i32_114 : BitVec 32 := 1#32
  let v200 : BitVec 32 := Scalar.addi v199 c1_i32_114
  let v408 : BitVec 32 := Scalar.muli c2_i32_233 v200
  let c2_i32_234 : BitVec 32 := 2#32
  let v409 : BitVec 32 := Scalar.addi v408 c2_i32_234
  let v410 : BitVec 32 := Scalar.minsi v409 arg1
  let c512_i32_246 : BitVec 32 := 512#32
  let v431 : BitVec 32 := Scalar.muli v410 c512_i32_246
  v431
def k0_off155 (i : grid0.Coords) (k0_t3 : Fin (k0_t3_loop i).trips) : Fin 2 → Nat :=
  let c2_i32_233 : BitVec 32 := 2#32
  let c2_i32_113 : BitVec 32 := 2#32
  let c2_i32_112 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c1_i32_70 : BitVec 32 := 1#32
  let arg25 : BitVec 32 := Scf.iv v107 c1_i32_70 k0_t3
  let v198 : BitVec 32 := Scalar.muli c2_i32_112 arg25
  let v199 : BitVec 32 := Scalar.muli c2_i32_113 v198
  let c1_i32_114 : BitVec 32 := 1#32
  let v200 : BitVec 32 := Scalar.addi v199 c1_i32_114
  let v408 : BitVec 32 := Scalar.muli c2_i32_233 v200
  let c2_i32_234 : BitVec 32 := 2#32
  let v409 : BitVec 32 := Scalar.addi v408 c2_i32_234
  let v410 : BitVec 32 := Scalar.minsi v409 arg1
  let c512_i32_246 : BitVec 32 := 512#32
  let v431 : BitVec 32 := Scalar.muli v410 c512_i32_246
  let v432 : BitVec 32 := v431
  let v433 : Index := Scalar.indexCast v432
  let c0_247 : Index := 0#32
  ![v433.toNat, 0]
def k0_mult110 (i : grid0.Coords) (k0_t3 : Fin (k0_t3_loop i).trips) : BitVec 32 :=
  let c2_i32_253 : BitVec 32 := 2#32
  let c2_i32_113 : BitVec 32 := 2#32
  let c2_i32_112 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c1_i32_70 : BitVec 32 := 1#32
  let arg25 : BitVec 32 := Scf.iv v107 c1_i32_70 k0_t3
  let v198 : BitVec 32 := Scalar.muli c2_i32_112 arg25
  let v199 : BitVec 32 := Scalar.muli c2_i32_113 v198
  let c1_i32_114 : BitVec 32 := 1#32
  let v200 : BitVec 32 := Scalar.addi v199 c1_i32_114
  let v442 : BitVec 32 := Scalar.muli c2_i32_253 v200
  let c1_i32_254 : BitVec 32 := 1#32
  let v443 : BitVec 32 := Scalar.addi v442 c1_i32_254
  let c512_i32_255 : BitVec 32 := 512#32
  let v444 : BitVec 32 := Scalar.muli v443 c512_i32_255
  v444
def k0_mult111 (i : grid0.Coords) (k0_t3 : Fin (k0_t3_loop i).trips) : BitVec 32 :=
  let c2_i32_276 : BitVec 32 := 2#32
  let c2_i32_275 : BitVec 32 := 2#32
  let c2_i32_110 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c1_i32_70 : BitVec 32 := 1#32
  let arg25 : BitVec 32 := Scf.iv v107 c1_i32_70 k0_t3
  let v196 : BitVec 32 := Scalar.muli c2_i32_110 arg25
  let c1_i32_111 : BitVec 32 := 1#32
  let v197 : BitVec 32 := Scalar.addi v196 c1_i32_111
  let v480 : BitVec 32 := Scalar.muli c2_i32_275 v197
  let v481 : BitVec 32 := Scalar.muli c2_i32_276 v480
  let c1_i32_277 : BitVec 32 := 1#32
  let v482 : BitVec 32 := Scalar.addi v481 c1_i32_277
  let c512_i32_278 : BitVec 32 := 512#32
  let v483 : BitVec 32 := Scalar.muli v482 c512_i32_278
  v483
def k0_off156 (i : grid0.Coords) (k0_t3 : Fin (k0_t3_loop i).trips) : Fin 2 → Nat :=
  let c2_i32_276 : BitVec 32 := 2#32
  let c2_i32_275 : BitVec 32 := 2#32
  let c2_i32_110 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c1_i32_70 : BitVec 32 := 1#32
  let arg25 : BitVec 32 := Scf.iv v107 c1_i32_70 k0_t3
  let v196 : BitVec 32 := Scalar.muli c2_i32_110 arg25
  let c1_i32_111 : BitVec 32 := 1#32
  let v197 : BitVec 32 := Scalar.addi v196 c1_i32_111
  let v480 : BitVec 32 := Scalar.muli c2_i32_275 v197
  let v481 : BitVec 32 := Scalar.muli c2_i32_276 v480
  let c1_i32_277 : BitVec 32 := 1#32
  let v482 : BitVec 32 := Scalar.addi v481 c1_i32_277
  let c512_i32_278 : BitVec 32 := 512#32
  let v483 : BitVec 32 := Scalar.muli v482 c512_i32_278
  let v484 : BitVec 32 := v483
  let v485 : Index := Scalar.indexCast v484
  let c0_279 : Index := 0#32
  ![v485.toNat, 0]
def k0_off157 (i : grid0.Coords) (k0_t3 : Fin (k0_t3_loop i).trips) : Fin 3 → Nat :=
  let c2_i32_276 : BitVec 32 := 2#32
  let c2_i32_275 : BitVec 32 := 2#32
  let c2_i32_110 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c1_i32_70 : BitVec 32 := 1#32
  let arg25 : BitVec 32 := Scf.iv v107 c1_i32_70 k0_t3
  let v196 : BitVec 32 := Scalar.muli c2_i32_110 arg25
  let c1_i32_111 : BitVec 32 := 1#32
  let v197 : BitVec 32 := Scalar.addi v196 c1_i32_111
  let v480 : BitVec 32 := Scalar.muli c2_i32_275 v197
  let v481 : BitVec 32 := Scalar.muli c2_i32_276 v480
  let c1_i32_277 : BitVec 32 := 1#32
  let v482 : BitVec 32 := Scalar.addi v481 c1_i32_277
  let v490 : BitVec 1 := Scalar.cmpi .eq v482 arg1
  let v491 : BitVec 32 := Scalar.extui v490
  let v492 : Index := Scalar.indexCast v491
  let c0_282 : Index := 0#32
  let c0_283 : Index := 0#32
  ![v492.toNat, 0, 0]
def k0_mult112 (i : grid0.Coords) (k0_t3 : Fin (k0_t3_loop i).trips) : BitVec 32 :=
  let c2_i32_276 : BitVec 32 := 2#32
  let c2_i32_275 : BitVec 32 := 2#32
  let c2_i32_110 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c1_i32_70 : BitVec 32 := 1#32
  let arg25 : BitVec 32 := Scf.iv v107 c1_i32_70 k0_t3
  let v196 : BitVec 32 := Scalar.muli c2_i32_110 arg25
  let c1_i32_111 : BitVec 32 := 1#32
  let v197 : BitVec 32 := Scalar.addi v196 c1_i32_111
  let v480 : BitVec 32 := Scalar.muli c2_i32_275 v197
  let v481 : BitVec 32 := Scalar.muli c2_i32_276 v480
  let c1_i32_277 : BitVec 32 := 1#32
  let v482 : BitVec 32 := Scalar.addi v481 c1_i32_277
  let c512_i32_289 : BitVec 32 := 512#32
  let v503 : BitVec 32 := Scalar.muli v482 c512_i32_289
  v503
def k0_off158 (i : grid0.Coords) (k0_t3 : Fin (k0_t3_loop i).trips) : Fin 2 → Nat :=
  let c2_i32_276 : BitVec 32 := 2#32
  let c2_i32_275 : BitVec 32 := 2#32
  let c2_i32_110 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c1_i32_70 : BitVec 32 := 1#32
  let arg25 : BitVec 32 := Scf.iv v107 c1_i32_70 k0_t3
  let v196 : BitVec 32 := Scalar.muli c2_i32_110 arg25
  let c1_i32_111 : BitVec 32 := 1#32
  let v197 : BitVec 32 := Scalar.addi v196 c1_i32_111
  let v480 : BitVec 32 := Scalar.muli c2_i32_275 v197
  let v481 : BitVec 32 := Scalar.muli c2_i32_276 v480
  let c1_i32_277 : BitVec 32 := 1#32
  let v482 : BitVec 32 := Scalar.addi v481 c1_i32_277
  let c512_i32_289 : BitVec 32 := 512#32
  let v503 : BitVec 32 := Scalar.muli v482 c512_i32_289
  let v504 : BitVec 32 := v503
  let v505 : Index := Scalar.indexCast v504
  let c0_290 : Index := 0#32
  ![v505.toNat, 0]
def k0_mult113 (i : grid0.Coords) (k0_t3 : Fin (k0_t3_loop i).trips) : BitVec 32 :=
  let c2_i32_296 : BitVec 32 := 2#32
  let c2_i32_275 : BitVec 32 := 2#32
  let c2_i32_110 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c1_i32_70 : BitVec 32 := 1#32
  let arg25 : BitVec 32 := Scf.iv v107 c1_i32_70 k0_t3
  let v196 : BitVec 32 := Scalar.muli c2_i32_110 arg25
  let c1_i32_111 : BitVec 32 := 1#32
  let v197 : BitVec 32 := Scalar.addi v196 c1_i32_111
  let v480 : BitVec 32 := Scalar.muli c2_i32_275 v197
  let v514 : BitVec 32 := Scalar.muli c2_i32_296 v480
  let c512_i32_297 : BitVec 32 := 512#32
  let v515 : BitVec 32 := Scalar.muli v514 c512_i32_297
  v515
def k0_off159 (i : grid0.Coords) (k0_t3 : Fin (k0_t3_loop i).trips) : Fin 2 → Nat :=
  let c2_i32_296 : BitVec 32 := 2#32
  let c2_i32_275 : BitVec 32 := 2#32
  let c2_i32_110 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c1_i32_70 : BitVec 32 := 1#32
  let arg25 : BitVec 32 := Scf.iv v107 c1_i32_70 k0_t3
  let v196 : BitVec 32 := Scalar.muli c2_i32_110 arg25
  let c1_i32_111 : BitVec 32 := 1#32
  let v197 : BitVec 32 := Scalar.addi v196 c1_i32_111
  let v480 : BitVec 32 := Scalar.muli c2_i32_275 v197
  let v514 : BitVec 32 := Scalar.muli c2_i32_296 v480
  let c512_i32_297 : BitVec 32 := 512#32
  let v515 : BitVec 32 := Scalar.muli v514 c512_i32_297
  let v516 : BitVec 32 := v515
  let v526 : Index := Scalar.indexCast v516
  let c0_305 : Index := 0#32
  ![v526.toNat, 0]
def k0_off160 (i : grid0.Coords) (k0_t3 : Fin (k0_t3_loop i).trips) : Fin 2 → Nat :=
  let c2_i32_296 : BitVec 32 := 2#32
  let c2_i32_275 : BitVec 32 := 2#32
  let c2_i32_110 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c1_i32_70 : BitVec 32 := 1#32
  let arg25 : BitVec 32 := Scf.iv v107 c1_i32_70 k0_t3
  let v196 : BitVec 32 := Scalar.muli c2_i32_110 arg25
  let c1_i32_111 : BitVec 32 := 1#32
  let v197 : BitVec 32 := Scalar.addi v196 c1_i32_111
  let v480 : BitVec 32 := Scalar.muli c2_i32_275 v197
  let v514 : BitVec 32 := Scalar.muli c2_i32_296 v480
  let c512_i32_297 : BitVec 32 := 512#32
  let v515 : BitVec 32 := Scalar.muli v514 c512_i32_297
  let v516 : BitVec 32 := v515
  let v541 : Index := Scalar.indexCast v516
  let c0_312 : Index := 0#32
  ![v541.toNat, 0]
def k0_mult114 (i : grid0.Coords) (k0_t3 : Fin (k0_t3_loop i).trips) : BitVec 32 :=
  let c2_i32_315 : BitVec 32 := 2#32
  let c2_i32_275 : BitVec 32 := 2#32
  let c2_i32_110 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c1_i32_70 : BitVec 32 := 1#32
  let arg25 : BitVec 32 := Scf.iv v107 c1_i32_70 k0_t3
  let v196 : BitVec 32 := Scalar.muli c2_i32_110 arg25
  let c1_i32_111 : BitVec 32 := 1#32
  let v197 : BitVec 32 := Scalar.addi v196 c1_i32_111
  let v480 : BitVec 32 := Scalar.muli c2_i32_275 v197
  let v549 : BitVec 32 := Scalar.muli c2_i32_315 v480
  let c2_i32_316 : BitVec 32 := 2#32
  let v550 : BitVec 32 := Scalar.addi v549 c2_i32_316
  let v551 : BitVec 32 := Scalar.minsi v550 arg1
  let c512_i32_317 : BitVec 32 := 512#32
  let v552 : BitVec 32 := Scalar.muli v551 c512_i32_317
  v552
def k0_off161 (i : grid0.Coords) (k0_t3 : Fin (k0_t3_loop i).trips) : Fin 2 → Nat :=
  let c2_i32_315 : BitVec 32 := 2#32
  let c2_i32_275 : BitVec 32 := 2#32
  let c2_i32_110 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c1_i32_70 : BitVec 32 := 1#32
  let arg25 : BitVec 32 := Scf.iv v107 c1_i32_70 k0_t3
  let v196 : BitVec 32 := Scalar.muli c2_i32_110 arg25
  let c1_i32_111 : BitVec 32 := 1#32
  let v197 : BitVec 32 := Scalar.addi v196 c1_i32_111
  let v480 : BitVec 32 := Scalar.muli c2_i32_275 v197
  let v549 : BitVec 32 := Scalar.muli c2_i32_315 v480
  let c2_i32_316 : BitVec 32 := 2#32
  let v550 : BitVec 32 := Scalar.addi v549 c2_i32_316
  let v551 : BitVec 32 := Scalar.minsi v550 arg1
  let c512_i32_317 : BitVec 32 := 512#32
  let v552 : BitVec 32 := Scalar.muli v551 c512_i32_317
  let v553 : BitVec 32 := v552
  let v554 : Index := Scalar.indexCast v553
  let c0_318 : Index := 0#32
  ![v554.toNat, 0]
def k0_off162 (i : grid0.Coords) (k0_t3 : Fin (k0_t3_loop i).trips) : Fin 3 → Nat :=
  let c2_i32_315 : BitVec 32 := 2#32
  let c2_i32_275 : BitVec 32 := 2#32
  let c2_i32_110 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c1_i32_70 : BitVec 32 := 1#32
  let arg25 : BitVec 32 := Scf.iv v107 c1_i32_70 k0_t3
  let v196 : BitVec 32 := Scalar.muli c2_i32_110 arg25
  let c1_i32_111 : BitVec 32 := 1#32
  let v197 : BitVec 32 := Scalar.addi v196 c1_i32_111
  let v480 : BitVec 32 := Scalar.muli c2_i32_275 v197
  let v549 : BitVec 32 := Scalar.muli c2_i32_315 v480
  let c2_i32_316 : BitVec 32 := 2#32
  let v550 : BitVec 32 := Scalar.addi v549 c2_i32_316
  let v551 : BitVec 32 := Scalar.minsi v550 arg1
  let v559 : BitVec 1 := Scalar.cmpi .eq v551 arg1
  let v560 : BitVec 32 := Scalar.extui v559
  let v561 : Index := Scalar.indexCast v560
  let c0_321 : Index := 0#32
  let c0_322 : Index := 0#32
  ![v561.toNat, 0, 0]
def k0_mult115 (i : grid0.Coords) (k0_t3 : Fin (k0_t3_loop i).trips) : BitVec 32 :=
  let c2_i32_315 : BitVec 32 := 2#32
  let c2_i32_275 : BitVec 32 := 2#32
  let c2_i32_110 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c1_i32_70 : BitVec 32 := 1#32
  let arg25 : BitVec 32 := Scf.iv v107 c1_i32_70 k0_t3
  let v196 : BitVec 32 := Scalar.muli c2_i32_110 arg25
  let c1_i32_111 : BitVec 32 := 1#32
  let v197 : BitVec 32 := Scalar.addi v196 c1_i32_111
  let v480 : BitVec 32 := Scalar.muli c2_i32_275 v197
  let v549 : BitVec 32 := Scalar.muli c2_i32_315 v480
  let c2_i32_316 : BitVec 32 := 2#32
  let v550 : BitVec 32 := Scalar.addi v549 c2_i32_316
  let v551 : BitVec 32 := Scalar.minsi v550 arg1
  let c512_i32_328 : BitVec 32 := 512#32
  let v572 : BitVec 32 := Scalar.muli v551 c512_i32_328
  v572
def k0_off163 (i : grid0.Coords) (k0_t3 : Fin (k0_t3_loop i).trips) : Fin 2 → Nat :=
  let c2_i32_315 : BitVec 32 := 2#32
  let c2_i32_275 : BitVec 32 := 2#32
  let c2_i32_110 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c1_i32_70 : BitVec 32 := 1#32
  let arg25 : BitVec 32 := Scf.iv v107 c1_i32_70 k0_t3
  let v196 : BitVec 32 := Scalar.muli c2_i32_110 arg25
  let c1_i32_111 : BitVec 32 := 1#32
  let v197 : BitVec 32 := Scalar.addi v196 c1_i32_111
  let v480 : BitVec 32 := Scalar.muli c2_i32_275 v197
  let v549 : BitVec 32 := Scalar.muli c2_i32_315 v480
  let c2_i32_316 : BitVec 32 := 2#32
  let v550 : BitVec 32 := Scalar.addi v549 c2_i32_316
  let v551 : BitVec 32 := Scalar.minsi v550 arg1
  let c512_i32_328 : BitVec 32 := 512#32
  let v572 : BitVec 32 := Scalar.muli v551 c512_i32_328
  let v573 : BitVec 32 := v572
  let v574 : Index := Scalar.indexCast v573
  let c0_329 : Index := 0#32
  ![v574.toNat, 0]
def k0_mult116 (i : grid0.Coords) (k0_t3 : Fin (k0_t3_loop i).trips) : BitVec 32 :=
  let c2_i32_335 : BitVec 32 := 2#32
  let c2_i32_275 : BitVec 32 := 2#32
  let c2_i32_110 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c1_i32_70 : BitVec 32 := 1#32
  let arg25 : BitVec 32 := Scf.iv v107 c1_i32_70 k0_t3
  let v196 : BitVec 32 := Scalar.muli c2_i32_110 arg25
  let c1_i32_111 : BitVec 32 := 1#32
  let v197 : BitVec 32 := Scalar.addi v196 c1_i32_111
  let v480 : BitVec 32 := Scalar.muli c2_i32_275 v197
  let v583 : BitVec 32 := Scalar.muli c2_i32_335 v480
  let c1_i32_336 : BitVec 32 := 1#32
  let v584 : BitVec 32 := Scalar.addi v583 c1_i32_336
  let c512_i32_337 : BitVec 32 := 512#32
  let v585 : BitVec 32 := Scalar.muli v584 c512_i32_337
  v585
def k0_mult117 (i : grid0.Coords) (k0_t3 : Fin (k0_t3_loop i).trips) : BitVec 32 :=
  let c2_i32_355 : BitVec 32 := 2#32
  let c2_i32_273 : BitVec 32 := 2#32
  let c2_i32_110 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c1_i32_70 : BitVec 32 := 1#32
  let arg25 : BitVec 32 := Scf.iv v107 c1_i32_70 k0_t3
  let v196 : BitVec 32 := Scalar.muli c2_i32_110 arg25
  let c1_i32_111 : BitVec 32 := 1#32
  let v197 : BitVec 32 := Scalar.addi v196 c1_i32_111
  let v478 : BitVec 32 := Scalar.muli c2_i32_273 v197
  let c1_i32_274 : BitVec 32 := 1#32
  let v479 : BitVec 32 := Scalar.addi v478 c1_i32_274
  let v619 : BitVec 32 := Scalar.muli c2_i32_355 v479
  let c1_i32_356 : BitVec 32 := 1#32
  let v620 : BitVec 32 := Scalar.addi v619 c1_i32_356
  let c512_i32_357 : BitVec 32 := 512#32
  let v621 : BitVec 32 := Scalar.muli v620 c512_i32_357
  v621
def k0_off164 (i : grid0.Coords) (k0_t3 : Fin (k0_t3_loop i).trips) : Fin 2 → Nat :=
  let c2_i32_355 : BitVec 32 := 2#32
  let c2_i32_273 : BitVec 32 := 2#32
  let c2_i32_110 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c1_i32_70 : BitVec 32 := 1#32
  let arg25 : BitVec 32 := Scf.iv v107 c1_i32_70 k0_t3
  let v196 : BitVec 32 := Scalar.muli c2_i32_110 arg25
  let c1_i32_111 : BitVec 32 := 1#32
  let v197 : BitVec 32 := Scalar.addi v196 c1_i32_111
  let v478 : BitVec 32 := Scalar.muli c2_i32_273 v197
  let c1_i32_274 : BitVec 32 := 1#32
  let v479 : BitVec 32 := Scalar.addi v478 c1_i32_274
  let v619 : BitVec 32 := Scalar.muli c2_i32_355 v479
  let c1_i32_356 : BitVec 32 := 1#32
  let v620 : BitVec 32 := Scalar.addi v619 c1_i32_356
  let c512_i32_357 : BitVec 32 := 512#32
  let v621 : BitVec 32 := Scalar.muli v620 c512_i32_357
  let v622 : BitVec 32 := v621
  let v623 : Index := Scalar.indexCast v622
  let c0_358 : Index := 0#32
  ![v623.toNat, 0]
def k0_off165 (i : grid0.Coords) (k0_t3 : Fin (k0_t3_loop i).trips) : Fin 3 → Nat :=
  let c2_i32_355 : BitVec 32 := 2#32
  let c2_i32_273 : BitVec 32 := 2#32
  let c2_i32_110 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c1_i32_70 : BitVec 32 := 1#32
  let arg25 : BitVec 32 := Scf.iv v107 c1_i32_70 k0_t3
  let v196 : BitVec 32 := Scalar.muli c2_i32_110 arg25
  let c1_i32_111 : BitVec 32 := 1#32
  let v197 : BitVec 32 := Scalar.addi v196 c1_i32_111
  let v478 : BitVec 32 := Scalar.muli c2_i32_273 v197
  let c1_i32_274 : BitVec 32 := 1#32
  let v479 : BitVec 32 := Scalar.addi v478 c1_i32_274
  let v619 : BitVec 32 := Scalar.muli c2_i32_355 v479
  let c1_i32_356 : BitVec 32 := 1#32
  let v620 : BitVec 32 := Scalar.addi v619 c1_i32_356
  let v628 : BitVec 1 := Scalar.cmpi .eq v620 arg1
  let v629 : BitVec 32 := Scalar.extui v628
  let v630 : Index := Scalar.indexCast v629
  let c0_361 : Index := 0#32
  let c0_362 : Index := 0#32
  ![v630.toNat, 0, 0]
def k0_mult118 (i : grid0.Coords) (k0_t3 : Fin (k0_t3_loop i).trips) : BitVec 32 :=
  let c2_i32_355 : BitVec 32 := 2#32
  let c2_i32_273 : BitVec 32 := 2#32
  let c2_i32_110 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c1_i32_70 : BitVec 32 := 1#32
  let arg25 : BitVec 32 := Scf.iv v107 c1_i32_70 k0_t3
  let v196 : BitVec 32 := Scalar.muli c2_i32_110 arg25
  let c1_i32_111 : BitVec 32 := 1#32
  let v197 : BitVec 32 := Scalar.addi v196 c1_i32_111
  let v478 : BitVec 32 := Scalar.muli c2_i32_273 v197
  let c1_i32_274 : BitVec 32 := 1#32
  let v479 : BitVec 32 := Scalar.addi v478 c1_i32_274
  let v619 : BitVec 32 := Scalar.muli c2_i32_355 v479
  let c1_i32_356 : BitVec 32 := 1#32
  let v620 : BitVec 32 := Scalar.addi v619 c1_i32_356
  let c512_i32_368 : BitVec 32 := 512#32
  let v641 : BitVec 32 := Scalar.muli v620 c512_i32_368
  v641
def k0_off166 (i : grid0.Coords) (k0_t3 : Fin (k0_t3_loop i).trips) : Fin 2 → Nat :=
  let c2_i32_355 : BitVec 32 := 2#32
  let c2_i32_273 : BitVec 32 := 2#32
  let c2_i32_110 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c1_i32_70 : BitVec 32 := 1#32
  let arg25 : BitVec 32 := Scf.iv v107 c1_i32_70 k0_t3
  let v196 : BitVec 32 := Scalar.muli c2_i32_110 arg25
  let c1_i32_111 : BitVec 32 := 1#32
  let v197 : BitVec 32 := Scalar.addi v196 c1_i32_111
  let v478 : BitVec 32 := Scalar.muli c2_i32_273 v197
  let c1_i32_274 : BitVec 32 := 1#32
  let v479 : BitVec 32 := Scalar.addi v478 c1_i32_274
  let v619 : BitVec 32 := Scalar.muli c2_i32_355 v479
  let c1_i32_356 : BitVec 32 := 1#32
  let v620 : BitVec 32 := Scalar.addi v619 c1_i32_356
  let c512_i32_368 : BitVec 32 := 512#32
  let v641 : BitVec 32 := Scalar.muli v620 c512_i32_368
  let v642 : BitVec 32 := v641
  let v643 : Index := Scalar.indexCast v642
  let c0_369 : Index := 0#32
  ![v643.toNat, 0]
def k0_mult119 (i : grid0.Coords) (k0_t3 : Fin (k0_t3_loop i).trips) : BitVec 32 :=
  let c2_i32_375 : BitVec 32 := 2#32
  let c2_i32_273 : BitVec 32 := 2#32
  let c2_i32_110 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c1_i32_70 : BitVec 32 := 1#32
  let arg25 : BitVec 32 := Scf.iv v107 c1_i32_70 k0_t3
  let v196 : BitVec 32 := Scalar.muli c2_i32_110 arg25
  let c1_i32_111 : BitVec 32 := 1#32
  let v197 : BitVec 32 := Scalar.addi v196 c1_i32_111
  let v478 : BitVec 32 := Scalar.muli c2_i32_273 v197
  let c1_i32_274 : BitVec 32 := 1#32
  let v479 : BitVec 32 := Scalar.addi v478 c1_i32_274
  let v652 : BitVec 32 := Scalar.muli c2_i32_375 v479
  let c512_i32_376 : BitVec 32 := 512#32
  let v653 : BitVec 32 := Scalar.muli v652 c512_i32_376
  v653
def k0_off167 (i : grid0.Coords) (k0_t3 : Fin (k0_t3_loop i).trips) : Fin 2 → Nat :=
  let c2_i32_375 : BitVec 32 := 2#32
  let c2_i32_273 : BitVec 32 := 2#32
  let c2_i32_110 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c1_i32_70 : BitVec 32 := 1#32
  let arg25 : BitVec 32 := Scf.iv v107 c1_i32_70 k0_t3
  let v196 : BitVec 32 := Scalar.muli c2_i32_110 arg25
  let c1_i32_111 : BitVec 32 := 1#32
  let v197 : BitVec 32 := Scalar.addi v196 c1_i32_111
  let v478 : BitVec 32 := Scalar.muli c2_i32_273 v197
  let c1_i32_274 : BitVec 32 := 1#32
  let v479 : BitVec 32 := Scalar.addi v478 c1_i32_274
  let v652 : BitVec 32 := Scalar.muli c2_i32_375 v479
  let c512_i32_376 : BitVec 32 := 512#32
  let v653 : BitVec 32 := Scalar.muli v652 c512_i32_376
  let v654 : BitVec 32 := v653
  let v664 : Index := Scalar.indexCast v654
  let c0_384 : Index := 0#32
  ![v664.toNat, 0]
def k0_off168 (i : grid0.Coords) (k0_t3 : Fin (k0_t3_loop i).trips) : Fin 2 → Nat :=
  let c2_i32_375 : BitVec 32 := 2#32
  let c2_i32_273 : BitVec 32 := 2#32
  let c2_i32_110 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c1_i32_70 : BitVec 32 := 1#32
  let arg25 : BitVec 32 := Scf.iv v107 c1_i32_70 k0_t3
  let v196 : BitVec 32 := Scalar.muli c2_i32_110 arg25
  let c1_i32_111 : BitVec 32 := 1#32
  let v197 : BitVec 32 := Scalar.addi v196 c1_i32_111
  let v478 : BitVec 32 := Scalar.muli c2_i32_273 v197
  let c1_i32_274 : BitVec 32 := 1#32
  let v479 : BitVec 32 := Scalar.addi v478 c1_i32_274
  let v652 : BitVec 32 := Scalar.muli c2_i32_375 v479
  let c512_i32_376 : BitVec 32 := 512#32
  let v653 : BitVec 32 := Scalar.muli v652 c512_i32_376
  let v654 : BitVec 32 := v653
  let v679 : Index := Scalar.indexCast v654
  let c0_391 : Index := 0#32
  ![v679.toNat, 0]
def k0_mult120 (i : grid0.Coords) (k0_t3 : Fin (k0_t3_loop i).trips) : BitVec 32 :=
  let c2_i32_394 : BitVec 32 := 2#32
  let c2_i32_273 : BitVec 32 := 2#32
  let c2_i32_110 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c1_i32_70 : BitVec 32 := 1#32
  let arg25 : BitVec 32 := Scf.iv v107 c1_i32_70 k0_t3
  let v196 : BitVec 32 := Scalar.muli c2_i32_110 arg25
  let c1_i32_111 : BitVec 32 := 1#32
  let v197 : BitVec 32 := Scalar.addi v196 c1_i32_111
  let v478 : BitVec 32 := Scalar.muli c2_i32_273 v197
  let c1_i32_274 : BitVec 32 := 1#32
  let v479 : BitVec 32 := Scalar.addi v478 c1_i32_274
  let v687 : BitVec 32 := Scalar.muli c2_i32_394 v479
  let c2_i32_395 : BitVec 32 := 2#32
  let v688 : BitVec 32 := Scalar.addi v687 c2_i32_395
  let v689 : BitVec 32 := Scalar.minsi v688 arg1
  let c512_i32_396 : BitVec 32 := 512#32
  let v690 : BitVec 32 := Scalar.muli v689 c512_i32_396
  v690
def k0_off169 (i : grid0.Coords) (k0_t3 : Fin (k0_t3_loop i).trips) : Fin 2 → Nat :=
  let c2_i32_394 : BitVec 32 := 2#32
  let c2_i32_273 : BitVec 32 := 2#32
  let c2_i32_110 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c1_i32_70 : BitVec 32 := 1#32
  let arg25 : BitVec 32 := Scf.iv v107 c1_i32_70 k0_t3
  let v196 : BitVec 32 := Scalar.muli c2_i32_110 arg25
  let c1_i32_111 : BitVec 32 := 1#32
  let v197 : BitVec 32 := Scalar.addi v196 c1_i32_111
  let v478 : BitVec 32 := Scalar.muli c2_i32_273 v197
  let c1_i32_274 : BitVec 32 := 1#32
  let v479 : BitVec 32 := Scalar.addi v478 c1_i32_274
  let v687 : BitVec 32 := Scalar.muli c2_i32_394 v479
  let c2_i32_395 : BitVec 32 := 2#32
  let v688 : BitVec 32 := Scalar.addi v687 c2_i32_395
  let v689 : BitVec 32 := Scalar.minsi v688 arg1
  let c512_i32_396 : BitVec 32 := 512#32
  let v690 : BitVec 32 := Scalar.muli v689 c512_i32_396
  let v691 : BitVec 32 := v690
  let v692 : Index := Scalar.indexCast v691
  let c0_397 : Index := 0#32
  ![v692.toNat, 0]
def k0_off170 (i : grid0.Coords) (k0_t3 : Fin (k0_t3_loop i).trips) : Fin 3 → Nat :=
  let c2_i32_394 : BitVec 32 := 2#32
  let c2_i32_273 : BitVec 32 := 2#32
  let c2_i32_110 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c1_i32_70 : BitVec 32 := 1#32
  let arg25 : BitVec 32 := Scf.iv v107 c1_i32_70 k0_t3
  let v196 : BitVec 32 := Scalar.muli c2_i32_110 arg25
  let c1_i32_111 : BitVec 32 := 1#32
  let v197 : BitVec 32 := Scalar.addi v196 c1_i32_111
  let v478 : BitVec 32 := Scalar.muli c2_i32_273 v197
  let c1_i32_274 : BitVec 32 := 1#32
  let v479 : BitVec 32 := Scalar.addi v478 c1_i32_274
  let v687 : BitVec 32 := Scalar.muli c2_i32_394 v479
  let c2_i32_395 : BitVec 32 := 2#32
  let v688 : BitVec 32 := Scalar.addi v687 c2_i32_395
  let v689 : BitVec 32 := Scalar.minsi v688 arg1
  let v697 : BitVec 1 := Scalar.cmpi .eq v689 arg1
  let v698 : BitVec 32 := Scalar.extui v697
  let v699 : Index := Scalar.indexCast v698
  let c0_400 : Index := 0#32
  let c0_401 : Index := 0#32
  ![v699.toNat, 0, 0]
def k0_mult121 (i : grid0.Coords) (k0_t3 : Fin (k0_t3_loop i).trips) : BitVec 32 :=
  let c2_i32_394 : BitVec 32 := 2#32
  let c2_i32_273 : BitVec 32 := 2#32
  let c2_i32_110 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c1_i32_70 : BitVec 32 := 1#32
  let arg25 : BitVec 32 := Scf.iv v107 c1_i32_70 k0_t3
  let v196 : BitVec 32 := Scalar.muli c2_i32_110 arg25
  let c1_i32_111 : BitVec 32 := 1#32
  let v197 : BitVec 32 := Scalar.addi v196 c1_i32_111
  let v478 : BitVec 32 := Scalar.muli c2_i32_273 v197
  let c1_i32_274 : BitVec 32 := 1#32
  let v479 : BitVec 32 := Scalar.addi v478 c1_i32_274
  let v687 : BitVec 32 := Scalar.muli c2_i32_394 v479
  let c2_i32_395 : BitVec 32 := 2#32
  let v688 : BitVec 32 := Scalar.addi v687 c2_i32_395
  let v689 : BitVec 32 := Scalar.minsi v688 arg1
  let c512_i32_407 : BitVec 32 := 512#32
  let v710 : BitVec 32 := Scalar.muli v689 c512_i32_407
  v710
def k0_off171 (i : grid0.Coords) (k0_t3 : Fin (k0_t3_loop i).trips) : Fin 2 → Nat :=
  let c2_i32_394 : BitVec 32 := 2#32
  let c2_i32_273 : BitVec 32 := 2#32
  let c2_i32_110 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c1_i32_70 : BitVec 32 := 1#32
  let arg25 : BitVec 32 := Scf.iv v107 c1_i32_70 k0_t3
  let v196 : BitVec 32 := Scalar.muli c2_i32_110 arg25
  let c1_i32_111 : BitVec 32 := 1#32
  let v197 : BitVec 32 := Scalar.addi v196 c1_i32_111
  let v478 : BitVec 32 := Scalar.muli c2_i32_273 v197
  let c1_i32_274 : BitVec 32 := 1#32
  let v479 : BitVec 32 := Scalar.addi v478 c1_i32_274
  let v687 : BitVec 32 := Scalar.muli c2_i32_394 v479
  let c2_i32_395 : BitVec 32 := 2#32
  let v688 : BitVec 32 := Scalar.addi v687 c2_i32_395
  let v689 : BitVec 32 := Scalar.minsi v688 arg1
  let c512_i32_407 : BitVec 32 := 512#32
  let v710 : BitVec 32 := Scalar.muli v689 c512_i32_407
  let v711 : BitVec 32 := v710
  let v712 : Index := Scalar.indexCast v711
  let c0_408 : Index := 0#32
  ![v712.toNat, 0]
def k0_mult122 (i : grid0.Coords) (k0_t3 : Fin (k0_t3_loop i).trips) : BitVec 32 :=
  let c2_i32_414 : BitVec 32 := 2#32
  let c2_i32_273 : BitVec 32 := 2#32
  let c2_i32_110 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c1_i32_70 : BitVec 32 := 1#32
  let arg25 : BitVec 32 := Scf.iv v107 c1_i32_70 k0_t3
  let v196 : BitVec 32 := Scalar.muli c2_i32_110 arg25
  let c1_i32_111 : BitVec 32 := 1#32
  let v197 : BitVec 32 := Scalar.addi v196 c1_i32_111
  let v478 : BitVec 32 := Scalar.muli c2_i32_273 v197
  let c1_i32_274 : BitVec 32 := 1#32
  let v479 : BitVec 32 := Scalar.addi v478 c1_i32_274
  let v721 : BitVec 32 := Scalar.muli c2_i32_414 v479
  let c1_i32_415 : BitVec 32 := 1#32
  let v722 : BitVec 32 := Scalar.addi v721 c1_i32_415
  let c512_i32_416 : BitVec 32 := 512#32
  let v723 : BitVec 32 := Scalar.muli v722 c512_i32_416
  v723
@[reducible] def k0_t4_loop (i : grid0.Coords) : Scf.Loop 32 :=
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v125 : BitVec 32 := Scalar.subi v124 v107
  let c1_i32_69 : BitVec 32 := 1#32
  let v127 : BitVec 32 := Scalar.divsi v125 c1_i32_69
  let v128 : BitVec 32 := Scalar.muli v127 c1_i32_69
  let v129 : BitVec 32 := Scalar.addi v107 v128
  let v126 : BitVec 32 := Scalar.addi v107 v125
  let c1_i32_71 : BitVec 32 := 1#32
  ⟨v129, v126, c1_i32_71⟩
def k0_mult123 (i : grid0.Coords) (k0_t4 : Fin (k0_t4_loop i).trips) : BitVec 32 :=
  let c2_i32_116 : BitVec 32 := 2#32
  let c2_i32_115 : BitVec 32 := 2#32
  let c2_i32_112 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v125 : BitVec 32 := Scalar.subi v124 v107
  let c1_i32_69 : BitVec 32 := 1#32
  let v127 : BitVec 32 := Scalar.divsi v125 c1_i32_69
  let v128 : BitVec 32 := Scalar.muli v127 c1_i32_69
  let v129 : BitVec 32 := Scalar.addi v107 v128
  let c1_i32_71 : BitVec 32 := 1#32
  let arg25 : BitVec 32 := Scf.iv v129 c1_i32_71 k0_t4
  let v198 : BitVec 32 := Scalar.muli c2_i32_112 arg25
  let v201 : BitVec 32 := Scalar.muli c2_i32_115 v198
  let v202 : BitVec 32 := Scalar.muli c2_i32_116 v201
  let c1_i32_117 : BitVec 32 := 1#32
  let v203 : BitVec 32 := Scalar.addi v202 c1_i32_117
  let c512_i32 : BitVec 32 := 512#32
  let v204 : BitVec 32 := Scalar.muli v203 c512_i32
  v204
def k0_off172 (i : grid0.Coords) (k0_t4 : Fin (k0_t4_loop i).trips) : Fin 2 → Nat :=
  let c2_i32_116 : BitVec 32 := 2#32
  let c2_i32_115 : BitVec 32 := 2#32
  let c2_i32_112 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v125 : BitVec 32 := Scalar.subi v124 v107
  let c1_i32_69 : BitVec 32 := 1#32
  let v127 : BitVec 32 := Scalar.divsi v125 c1_i32_69
  let v128 : BitVec 32 := Scalar.muli v127 c1_i32_69
  let v129 : BitVec 32 := Scalar.addi v107 v128
  let c1_i32_71 : BitVec 32 := 1#32
  let arg25 : BitVec 32 := Scf.iv v129 c1_i32_71 k0_t4
  let v198 : BitVec 32 := Scalar.muli c2_i32_112 arg25
  let v201 : BitVec 32 := Scalar.muli c2_i32_115 v198
  let v202 : BitVec 32 := Scalar.muli c2_i32_116 v201
  let c1_i32_117 : BitVec 32 := 1#32
  let v203 : BitVec 32 := Scalar.addi v202 c1_i32_117
  let c512_i32 : BitVec 32 := 512#32
  let v204 : BitVec 32 := Scalar.muli v203 c512_i32
  let v205 : BitVec 32 := v204
  let v206 : Index := Scalar.indexCast v205
  let c0_118 : Index := 0#32
  ![v206.toNat, 0]
def k0_off173 (i : grid0.Coords) (k0_t4 : Fin (k0_t4_loop i).trips) : Fin 3 → Nat :=
  let c2_i32_116 : BitVec 32 := 2#32
  let c2_i32_115 : BitVec 32 := 2#32
  let c2_i32_112 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v125 : BitVec 32 := Scalar.subi v124 v107
  let c1_i32_69 : BitVec 32 := 1#32
  let v127 : BitVec 32 := Scalar.divsi v125 c1_i32_69
  let v128 : BitVec 32 := Scalar.muli v127 c1_i32_69
  let v129 : BitVec 32 := Scalar.addi v107 v128
  let c1_i32_71 : BitVec 32 := 1#32
  let arg25 : BitVec 32 := Scf.iv v129 c1_i32_71 k0_t4
  let v198 : BitVec 32 := Scalar.muli c2_i32_112 arg25
  let v201 : BitVec 32 := Scalar.muli c2_i32_115 v198
  let v202 : BitVec 32 := Scalar.muli c2_i32_116 v201
  let c1_i32_117 : BitVec 32 := 1#32
  let v203 : BitVec 32 := Scalar.addi v202 c1_i32_117
  let v211 : BitVec 1 := Scalar.cmpi .eq v203 arg1
  let v212 : BitVec 32 := Scalar.extui v211
  let v213 : Index := Scalar.indexCast v212
  let c0_121 : Index := 0#32
  let c0_122 : Index := 0#32
  ![v213.toNat, 0, 0]
def k0_mult124 (i : grid0.Coords) (k0_t4 : Fin (k0_t4_loop i).trips) : BitVec 32 :=
  let c2_i32_116 : BitVec 32 := 2#32
  let c2_i32_115 : BitVec 32 := 2#32
  let c2_i32_112 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v125 : BitVec 32 := Scalar.subi v124 v107
  let c1_i32_69 : BitVec 32 := 1#32
  let v127 : BitVec 32 := Scalar.divsi v125 c1_i32_69
  let v128 : BitVec 32 := Scalar.muli v127 c1_i32_69
  let v129 : BitVec 32 := Scalar.addi v107 v128
  let c1_i32_71 : BitVec 32 := 1#32
  let arg25 : BitVec 32 := Scf.iv v129 c1_i32_71 k0_t4
  let v198 : BitVec 32 := Scalar.muli c2_i32_112 arg25
  let v201 : BitVec 32 := Scalar.muli c2_i32_115 v198
  let v202 : BitVec 32 := Scalar.muli c2_i32_116 v201
  let c1_i32_117 : BitVec 32 := 1#32
  let v203 : BitVec 32 := Scalar.addi v202 c1_i32_117
  let c512_i32_128 : BitVec 32 := 512#32
  let v224 : BitVec 32 := Scalar.muli v203 c512_i32_128
  v224
def k0_off174 (i : grid0.Coords) (k0_t4 : Fin (k0_t4_loop i).trips) : Fin 2 → Nat :=
  let c2_i32_116 : BitVec 32 := 2#32
  let c2_i32_115 : BitVec 32 := 2#32
  let c2_i32_112 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v125 : BitVec 32 := Scalar.subi v124 v107
  let c1_i32_69 : BitVec 32 := 1#32
  let v127 : BitVec 32 := Scalar.divsi v125 c1_i32_69
  let v128 : BitVec 32 := Scalar.muli v127 c1_i32_69
  let v129 : BitVec 32 := Scalar.addi v107 v128
  let c1_i32_71 : BitVec 32 := 1#32
  let arg25 : BitVec 32 := Scf.iv v129 c1_i32_71 k0_t4
  let v198 : BitVec 32 := Scalar.muli c2_i32_112 arg25
  let v201 : BitVec 32 := Scalar.muli c2_i32_115 v198
  let v202 : BitVec 32 := Scalar.muli c2_i32_116 v201
  let c1_i32_117 : BitVec 32 := 1#32
  let v203 : BitVec 32 := Scalar.addi v202 c1_i32_117
  let c512_i32_128 : BitVec 32 := 512#32
  let v224 : BitVec 32 := Scalar.muli v203 c512_i32_128
  let v225 : BitVec 32 := v224
  let v226 : Index := Scalar.indexCast v225
  let c0_129 : Index := 0#32
  ![v226.toNat, 0]
def k0_mult125 (i : grid0.Coords) (k0_t4 : Fin (k0_t4_loop i).trips) : BitVec 32 :=
  let c2_i32_135 : BitVec 32 := 2#32
  let c2_i32_115 : BitVec 32 := 2#32
  let c2_i32_112 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v125 : BitVec 32 := Scalar.subi v124 v107
  let c1_i32_69 : BitVec 32 := 1#32
  let v127 : BitVec 32 := Scalar.divsi v125 c1_i32_69
  let v128 : BitVec 32 := Scalar.muli v127 c1_i32_69
  let v129 : BitVec 32 := Scalar.addi v107 v128
  let c1_i32_71 : BitVec 32 := 1#32
  let arg25 : BitVec 32 := Scf.iv v129 c1_i32_71 k0_t4
  let v198 : BitVec 32 := Scalar.muli c2_i32_112 arg25
  let v201 : BitVec 32 := Scalar.muli c2_i32_115 v198
  let v235 : BitVec 32 := Scalar.muli c2_i32_135 v201
  let c512_i32_136 : BitVec 32 := 512#32
  let v236 : BitVec 32 := Scalar.muli v235 c512_i32_136
  v236
def k0_off175 (i : grid0.Coords) (k0_t4 : Fin (k0_t4_loop i).trips) : Fin 2 → Nat :=
  let c2_i32_135 : BitVec 32 := 2#32
  let c2_i32_115 : BitVec 32 := 2#32
  let c2_i32_112 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v125 : BitVec 32 := Scalar.subi v124 v107
  let c1_i32_69 : BitVec 32 := 1#32
  let v127 : BitVec 32 := Scalar.divsi v125 c1_i32_69
  let v128 : BitVec 32 := Scalar.muli v127 c1_i32_69
  let v129 : BitVec 32 := Scalar.addi v107 v128
  let c1_i32_71 : BitVec 32 := 1#32
  let arg25 : BitVec 32 := Scf.iv v129 c1_i32_71 k0_t4
  let v198 : BitVec 32 := Scalar.muli c2_i32_112 arg25
  let v201 : BitVec 32 := Scalar.muli c2_i32_115 v198
  let v235 : BitVec 32 := Scalar.muli c2_i32_135 v201
  let c512_i32_136 : BitVec 32 := 512#32
  let v236 : BitVec 32 := Scalar.muli v235 c512_i32_136
  let v237 : BitVec 32 := v236
  let v247 : Index := Scalar.indexCast v237
  let c0_144 : Index := 0#32
  ![v247.toNat, 0]
def k0_off176 (i : grid0.Coords) (k0_t4 : Fin (k0_t4_loop i).trips) : Fin 2 → Nat :=
  let c2_i32_135 : BitVec 32 := 2#32
  let c2_i32_115 : BitVec 32 := 2#32
  let c2_i32_112 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v125 : BitVec 32 := Scalar.subi v124 v107
  let c1_i32_69 : BitVec 32 := 1#32
  let v127 : BitVec 32 := Scalar.divsi v125 c1_i32_69
  let v128 : BitVec 32 := Scalar.muli v127 c1_i32_69
  let v129 : BitVec 32 := Scalar.addi v107 v128
  let c1_i32_71 : BitVec 32 := 1#32
  let arg25 : BitVec 32 := Scf.iv v129 c1_i32_71 k0_t4
  let v198 : BitVec 32 := Scalar.muli c2_i32_112 arg25
  let v201 : BitVec 32 := Scalar.muli c2_i32_115 v198
  let v235 : BitVec 32 := Scalar.muli c2_i32_135 v201
  let c512_i32_136 : BitVec 32 := 512#32
  let v236 : BitVec 32 := Scalar.muli v235 c512_i32_136
  let v237 : BitVec 32 := v236
  let v262 : Index := Scalar.indexCast v237
  let c0_151 : Index := 0#32
  ![v262.toNat, 0]
def k0_mult126 (i : grid0.Coords) (k0_t4 : Fin (k0_t4_loop i).trips) : BitVec 32 :=
  let c2_i32_154 : BitVec 32 := 2#32
  let c2_i32_115 : BitVec 32 := 2#32
  let c2_i32_112 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v125 : BitVec 32 := Scalar.subi v124 v107
  let c1_i32_69 : BitVec 32 := 1#32
  let v127 : BitVec 32 := Scalar.divsi v125 c1_i32_69
  let v128 : BitVec 32 := Scalar.muli v127 c1_i32_69
  let v129 : BitVec 32 := Scalar.addi v107 v128
  let c1_i32_71 : BitVec 32 := 1#32
  let arg25 : BitVec 32 := Scf.iv v129 c1_i32_71 k0_t4
  let v198 : BitVec 32 := Scalar.muli c2_i32_112 arg25
  let v201 : BitVec 32 := Scalar.muli c2_i32_115 v198
  let v270 : BitVec 32 := Scalar.muli c2_i32_154 v201
  let c2_i32_155 : BitVec 32 := 2#32
  let v271 : BitVec 32 := Scalar.addi v270 c2_i32_155
  let v272 : BitVec 32 := Scalar.minsi v271 arg1
  let c512_i32_156 : BitVec 32 := 512#32
  let v273 : BitVec 32 := Scalar.muli v272 c512_i32_156
  v273
def k0_off177 (i : grid0.Coords) (k0_t4 : Fin (k0_t4_loop i).trips) : Fin 2 → Nat :=
  let c2_i32_154 : BitVec 32 := 2#32
  let c2_i32_115 : BitVec 32 := 2#32
  let c2_i32_112 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v125 : BitVec 32 := Scalar.subi v124 v107
  let c1_i32_69 : BitVec 32 := 1#32
  let v127 : BitVec 32 := Scalar.divsi v125 c1_i32_69
  let v128 : BitVec 32 := Scalar.muli v127 c1_i32_69
  let v129 : BitVec 32 := Scalar.addi v107 v128
  let c1_i32_71 : BitVec 32 := 1#32
  let arg25 : BitVec 32 := Scf.iv v129 c1_i32_71 k0_t4
  let v198 : BitVec 32 := Scalar.muli c2_i32_112 arg25
  let v201 : BitVec 32 := Scalar.muli c2_i32_115 v198
  let v270 : BitVec 32 := Scalar.muli c2_i32_154 v201
  let c2_i32_155 : BitVec 32 := 2#32
  let v271 : BitVec 32 := Scalar.addi v270 c2_i32_155
  let v272 : BitVec 32 := Scalar.minsi v271 arg1
  let c512_i32_156 : BitVec 32 := 512#32
  let v273 : BitVec 32 := Scalar.muli v272 c512_i32_156
  let v274 : BitVec 32 := v273
  let v275 : Index := Scalar.indexCast v274
  let c0_157 : Index := 0#32
  ![v275.toNat, 0]
def k0_off178 (i : grid0.Coords) (k0_t4 : Fin (k0_t4_loop i).trips) : Fin 3 → Nat :=
  let c2_i32_154 : BitVec 32 := 2#32
  let c2_i32_115 : BitVec 32 := 2#32
  let c2_i32_112 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v125 : BitVec 32 := Scalar.subi v124 v107
  let c1_i32_69 : BitVec 32 := 1#32
  let v127 : BitVec 32 := Scalar.divsi v125 c1_i32_69
  let v128 : BitVec 32 := Scalar.muli v127 c1_i32_69
  let v129 : BitVec 32 := Scalar.addi v107 v128
  let c1_i32_71 : BitVec 32 := 1#32
  let arg25 : BitVec 32 := Scf.iv v129 c1_i32_71 k0_t4
  let v198 : BitVec 32 := Scalar.muli c2_i32_112 arg25
  let v201 : BitVec 32 := Scalar.muli c2_i32_115 v198
  let v270 : BitVec 32 := Scalar.muli c2_i32_154 v201
  let c2_i32_155 : BitVec 32 := 2#32
  let v271 : BitVec 32 := Scalar.addi v270 c2_i32_155
  let v272 : BitVec 32 := Scalar.minsi v271 arg1
  let v280 : BitVec 1 := Scalar.cmpi .eq v272 arg1
  let v281 : BitVec 32 := Scalar.extui v280
  let v282 : Index := Scalar.indexCast v281
  let c0_160 : Index := 0#32
  let c0_161 : Index := 0#32
  ![v282.toNat, 0, 0]
def k0_mult127 (i : grid0.Coords) (k0_t4 : Fin (k0_t4_loop i).trips) : BitVec 32 :=
  let c2_i32_154 : BitVec 32 := 2#32
  let c2_i32_115 : BitVec 32 := 2#32
  let c2_i32_112 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v125 : BitVec 32 := Scalar.subi v124 v107
  let c1_i32_69 : BitVec 32 := 1#32
  let v127 : BitVec 32 := Scalar.divsi v125 c1_i32_69
  let v128 : BitVec 32 := Scalar.muli v127 c1_i32_69
  let v129 : BitVec 32 := Scalar.addi v107 v128
  let c1_i32_71 : BitVec 32 := 1#32
  let arg25 : BitVec 32 := Scf.iv v129 c1_i32_71 k0_t4
  let v198 : BitVec 32 := Scalar.muli c2_i32_112 arg25
  let v201 : BitVec 32 := Scalar.muli c2_i32_115 v198
  let v270 : BitVec 32 := Scalar.muli c2_i32_154 v201
  let c2_i32_155 : BitVec 32 := 2#32
  let v271 : BitVec 32 := Scalar.addi v270 c2_i32_155
  let v272 : BitVec 32 := Scalar.minsi v271 arg1
  let c512_i32_167 : BitVec 32 := 512#32
  let v293 : BitVec 32 := Scalar.muli v272 c512_i32_167
  v293
def k0_off179 (i : grid0.Coords) (k0_t4 : Fin (k0_t4_loop i).trips) : Fin 2 → Nat :=
  let c2_i32_154 : BitVec 32 := 2#32
  let c2_i32_115 : BitVec 32 := 2#32
  let c2_i32_112 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v125 : BitVec 32 := Scalar.subi v124 v107
  let c1_i32_69 : BitVec 32 := 1#32
  let v127 : BitVec 32 := Scalar.divsi v125 c1_i32_69
  let v128 : BitVec 32 := Scalar.muli v127 c1_i32_69
  let v129 : BitVec 32 := Scalar.addi v107 v128
  let c1_i32_71 : BitVec 32 := 1#32
  let arg25 : BitVec 32 := Scf.iv v129 c1_i32_71 k0_t4
  let v198 : BitVec 32 := Scalar.muli c2_i32_112 arg25
  let v201 : BitVec 32 := Scalar.muli c2_i32_115 v198
  let v270 : BitVec 32 := Scalar.muli c2_i32_154 v201
  let c2_i32_155 : BitVec 32 := 2#32
  let v271 : BitVec 32 := Scalar.addi v270 c2_i32_155
  let v272 : BitVec 32 := Scalar.minsi v271 arg1
  let c512_i32_167 : BitVec 32 := 512#32
  let v293 : BitVec 32 := Scalar.muli v272 c512_i32_167
  let v294 : BitVec 32 := v293
  let v295 : Index := Scalar.indexCast v294
  let c0_168 : Index := 0#32
  ![v295.toNat, 0]
def k0_mult128 (i : grid0.Coords) (k0_t4 : Fin (k0_t4_loop i).trips) : BitVec 32 :=
  let c2_i32_174 : BitVec 32 := 2#32
  let c2_i32_115 : BitVec 32 := 2#32
  let c2_i32_112 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v125 : BitVec 32 := Scalar.subi v124 v107
  let c1_i32_69 : BitVec 32 := 1#32
  let v127 : BitVec 32 := Scalar.divsi v125 c1_i32_69
  let v128 : BitVec 32 := Scalar.muli v127 c1_i32_69
  let v129 : BitVec 32 := Scalar.addi v107 v128
  let c1_i32_71 : BitVec 32 := 1#32
  let arg25 : BitVec 32 := Scf.iv v129 c1_i32_71 k0_t4
  let v198 : BitVec 32 := Scalar.muli c2_i32_112 arg25
  let v201 : BitVec 32 := Scalar.muli c2_i32_115 v198
  let v304 : BitVec 32 := Scalar.muli c2_i32_174 v201
  let c1_i32_175 : BitVec 32 := 1#32
  let v305 : BitVec 32 := Scalar.addi v304 c1_i32_175
  let c512_i32_176 : BitVec 32 := 512#32
  let v306 : BitVec 32 := Scalar.muli v305 c512_i32_176
  v306
def k0_mult129 (i : grid0.Coords) (k0_t4 : Fin (k0_t4_loop i).trips) : BitVec 32 :=
  let c2_i32_194 : BitVec 32 := 2#32
  let c2_i32_113 : BitVec 32 := 2#32
  let c2_i32_112 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v125 : BitVec 32 := Scalar.subi v124 v107
  let c1_i32_69 : BitVec 32 := 1#32
  let v127 : BitVec 32 := Scalar.divsi v125 c1_i32_69
  let v128 : BitVec 32 := Scalar.muli v127 c1_i32_69
  let v129 : BitVec 32 := Scalar.addi v107 v128
  let c1_i32_71 : BitVec 32 := 1#32
  let arg25 : BitVec 32 := Scf.iv v129 c1_i32_71 k0_t4
  let v198 : BitVec 32 := Scalar.muli c2_i32_112 arg25
  let v199 : BitVec 32 := Scalar.muli c2_i32_113 v198
  let c1_i32_114 : BitVec 32 := 1#32
  let v200 : BitVec 32 := Scalar.addi v199 c1_i32_114
  let v340 : BitVec 32 := Scalar.muli c2_i32_194 v200
  let c1_i32_195 : BitVec 32 := 1#32
  let v341 : BitVec 32 := Scalar.addi v340 c1_i32_195
  let c512_i32_196 : BitVec 32 := 512#32
  let v342 : BitVec 32 := Scalar.muli v341 c512_i32_196
  v342
def k0_off180 (i : grid0.Coords) (k0_t4 : Fin (k0_t4_loop i).trips) : Fin 2 → Nat :=
  let c2_i32_194 : BitVec 32 := 2#32
  let c2_i32_113 : BitVec 32 := 2#32
  let c2_i32_112 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v125 : BitVec 32 := Scalar.subi v124 v107
  let c1_i32_69 : BitVec 32 := 1#32
  let v127 : BitVec 32 := Scalar.divsi v125 c1_i32_69
  let v128 : BitVec 32 := Scalar.muli v127 c1_i32_69
  let v129 : BitVec 32 := Scalar.addi v107 v128
  let c1_i32_71 : BitVec 32 := 1#32
  let arg25 : BitVec 32 := Scf.iv v129 c1_i32_71 k0_t4
  let v198 : BitVec 32 := Scalar.muli c2_i32_112 arg25
  let v199 : BitVec 32 := Scalar.muli c2_i32_113 v198
  let c1_i32_114 : BitVec 32 := 1#32
  let v200 : BitVec 32 := Scalar.addi v199 c1_i32_114
  let v340 : BitVec 32 := Scalar.muli c2_i32_194 v200
  let c1_i32_195 : BitVec 32 := 1#32
  let v341 : BitVec 32 := Scalar.addi v340 c1_i32_195
  let c512_i32_196 : BitVec 32 := 512#32
  let v342 : BitVec 32 := Scalar.muli v341 c512_i32_196
  let v343 : BitVec 32 := v342
  let v344 : Index := Scalar.indexCast v343
  let c0_197 : Index := 0#32
  ![v344.toNat, 0]
def k0_off181 (i : grid0.Coords) (k0_t4 : Fin (k0_t4_loop i).trips) : Fin 3 → Nat :=
  let c2_i32_194 : BitVec 32 := 2#32
  let c2_i32_113 : BitVec 32 := 2#32
  let c2_i32_112 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v125 : BitVec 32 := Scalar.subi v124 v107
  let c1_i32_69 : BitVec 32 := 1#32
  let v127 : BitVec 32 := Scalar.divsi v125 c1_i32_69
  let v128 : BitVec 32 := Scalar.muli v127 c1_i32_69
  let v129 : BitVec 32 := Scalar.addi v107 v128
  let c1_i32_71 : BitVec 32 := 1#32
  let arg25 : BitVec 32 := Scf.iv v129 c1_i32_71 k0_t4
  let v198 : BitVec 32 := Scalar.muli c2_i32_112 arg25
  let v199 : BitVec 32 := Scalar.muli c2_i32_113 v198
  let c1_i32_114 : BitVec 32 := 1#32
  let v200 : BitVec 32 := Scalar.addi v199 c1_i32_114
  let v340 : BitVec 32 := Scalar.muli c2_i32_194 v200
  let c1_i32_195 : BitVec 32 := 1#32
  let v341 : BitVec 32 := Scalar.addi v340 c1_i32_195
  let v349 : BitVec 1 := Scalar.cmpi .eq v341 arg1
  let v350 : BitVec 32 := Scalar.extui v349
  let v351 : Index := Scalar.indexCast v350
  let c0_200 : Index := 0#32
  let c0_201 : Index := 0#32
  ![v351.toNat, 0, 0]
def k0_mult130 (i : grid0.Coords) (k0_t4 : Fin (k0_t4_loop i).trips) : BitVec 32 :=
  let c2_i32_194 : BitVec 32 := 2#32
  let c2_i32_113 : BitVec 32 := 2#32
  let c2_i32_112 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v125 : BitVec 32 := Scalar.subi v124 v107
  let c1_i32_69 : BitVec 32 := 1#32
  let v127 : BitVec 32 := Scalar.divsi v125 c1_i32_69
  let v128 : BitVec 32 := Scalar.muli v127 c1_i32_69
  let v129 : BitVec 32 := Scalar.addi v107 v128
  let c1_i32_71 : BitVec 32 := 1#32
  let arg25 : BitVec 32 := Scf.iv v129 c1_i32_71 k0_t4
  let v198 : BitVec 32 := Scalar.muli c2_i32_112 arg25
  let v199 : BitVec 32 := Scalar.muli c2_i32_113 v198
  let c1_i32_114 : BitVec 32 := 1#32
  let v200 : BitVec 32 := Scalar.addi v199 c1_i32_114
  let v340 : BitVec 32 := Scalar.muli c2_i32_194 v200
  let c1_i32_195 : BitVec 32 := 1#32
  let v341 : BitVec 32 := Scalar.addi v340 c1_i32_195
  let c512_i32_207 : BitVec 32 := 512#32
  let v362 : BitVec 32 := Scalar.muli v341 c512_i32_207
  v362
def k0_off182 (i : grid0.Coords) (k0_t4 : Fin (k0_t4_loop i).trips) : Fin 2 → Nat :=
  let c2_i32_194 : BitVec 32 := 2#32
  let c2_i32_113 : BitVec 32 := 2#32
  let c2_i32_112 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v125 : BitVec 32 := Scalar.subi v124 v107
  let c1_i32_69 : BitVec 32 := 1#32
  let v127 : BitVec 32 := Scalar.divsi v125 c1_i32_69
  let v128 : BitVec 32 := Scalar.muli v127 c1_i32_69
  let v129 : BitVec 32 := Scalar.addi v107 v128
  let c1_i32_71 : BitVec 32 := 1#32
  let arg25 : BitVec 32 := Scf.iv v129 c1_i32_71 k0_t4
  let v198 : BitVec 32 := Scalar.muli c2_i32_112 arg25
  let v199 : BitVec 32 := Scalar.muli c2_i32_113 v198
  let c1_i32_114 : BitVec 32 := 1#32
  let v200 : BitVec 32 := Scalar.addi v199 c1_i32_114
  let v340 : BitVec 32 := Scalar.muli c2_i32_194 v200
  let c1_i32_195 : BitVec 32 := 1#32
  let v341 : BitVec 32 := Scalar.addi v340 c1_i32_195
  let c512_i32_207 : BitVec 32 := 512#32
  let v362 : BitVec 32 := Scalar.muli v341 c512_i32_207
  let v363 : BitVec 32 := v362
  let v364 : Index := Scalar.indexCast v363
  let c0_208 : Index := 0#32
  ![v364.toNat, 0]
def k0_mult131 (i : grid0.Coords) (k0_t4 : Fin (k0_t4_loop i).trips) : BitVec 32 :=
  let c2_i32_214 : BitVec 32 := 2#32
  let c2_i32_113 : BitVec 32 := 2#32
  let c2_i32_112 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v125 : BitVec 32 := Scalar.subi v124 v107
  let c1_i32_69 : BitVec 32 := 1#32
  let v127 : BitVec 32 := Scalar.divsi v125 c1_i32_69
  let v128 : BitVec 32 := Scalar.muli v127 c1_i32_69
  let v129 : BitVec 32 := Scalar.addi v107 v128
  let c1_i32_71 : BitVec 32 := 1#32
  let arg25 : BitVec 32 := Scf.iv v129 c1_i32_71 k0_t4
  let v198 : BitVec 32 := Scalar.muli c2_i32_112 arg25
  let v199 : BitVec 32 := Scalar.muli c2_i32_113 v198
  let c1_i32_114 : BitVec 32 := 1#32
  let v200 : BitVec 32 := Scalar.addi v199 c1_i32_114
  let v373 : BitVec 32 := Scalar.muli c2_i32_214 v200
  let c512_i32_215 : BitVec 32 := 512#32
  let v374 : BitVec 32 := Scalar.muli v373 c512_i32_215
  v374
def k0_off183 (i : grid0.Coords) (k0_t4 : Fin (k0_t4_loop i).trips) : Fin 2 → Nat :=
  let c2_i32_214 : BitVec 32 := 2#32
  let c2_i32_113 : BitVec 32 := 2#32
  let c2_i32_112 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v125 : BitVec 32 := Scalar.subi v124 v107
  let c1_i32_69 : BitVec 32 := 1#32
  let v127 : BitVec 32 := Scalar.divsi v125 c1_i32_69
  let v128 : BitVec 32 := Scalar.muli v127 c1_i32_69
  let v129 : BitVec 32 := Scalar.addi v107 v128
  let c1_i32_71 : BitVec 32 := 1#32
  let arg25 : BitVec 32 := Scf.iv v129 c1_i32_71 k0_t4
  let v198 : BitVec 32 := Scalar.muli c2_i32_112 arg25
  let v199 : BitVec 32 := Scalar.muli c2_i32_113 v198
  let c1_i32_114 : BitVec 32 := 1#32
  let v200 : BitVec 32 := Scalar.addi v199 c1_i32_114
  let v373 : BitVec 32 := Scalar.muli c2_i32_214 v200
  let c512_i32_215 : BitVec 32 := 512#32
  let v374 : BitVec 32 := Scalar.muli v373 c512_i32_215
  let v375 : BitVec 32 := v374
  let v385 : Index := Scalar.indexCast v375
  let c0_223 : Index := 0#32
  ![v385.toNat, 0]
def k0_off184 (i : grid0.Coords) (k0_t4 : Fin (k0_t4_loop i).trips) : Fin 2 → Nat :=
  let c2_i32_214 : BitVec 32 := 2#32
  let c2_i32_113 : BitVec 32 := 2#32
  let c2_i32_112 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v125 : BitVec 32 := Scalar.subi v124 v107
  let c1_i32_69 : BitVec 32 := 1#32
  let v127 : BitVec 32 := Scalar.divsi v125 c1_i32_69
  let v128 : BitVec 32 := Scalar.muli v127 c1_i32_69
  let v129 : BitVec 32 := Scalar.addi v107 v128
  let c1_i32_71 : BitVec 32 := 1#32
  let arg25 : BitVec 32 := Scf.iv v129 c1_i32_71 k0_t4
  let v198 : BitVec 32 := Scalar.muli c2_i32_112 arg25
  let v199 : BitVec 32 := Scalar.muli c2_i32_113 v198
  let c1_i32_114 : BitVec 32 := 1#32
  let v200 : BitVec 32 := Scalar.addi v199 c1_i32_114
  let v373 : BitVec 32 := Scalar.muli c2_i32_214 v200
  let c512_i32_215 : BitVec 32 := 512#32
  let v374 : BitVec 32 := Scalar.muli v373 c512_i32_215
  let v375 : BitVec 32 := v374
  let v400 : Index := Scalar.indexCast v375
  let c0_230 : Index := 0#32
  ![v400.toNat, 0]
def k0_mult132 (i : grid0.Coords) (k0_t4 : Fin (k0_t4_loop i).trips) : BitVec 32 :=
  let c2_i32_233 : BitVec 32 := 2#32
  let c2_i32_113 : BitVec 32 := 2#32
  let c2_i32_112 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v125 : BitVec 32 := Scalar.subi v124 v107
  let c1_i32_69 : BitVec 32 := 1#32
  let v127 : BitVec 32 := Scalar.divsi v125 c1_i32_69
  let v128 : BitVec 32 := Scalar.muli v127 c1_i32_69
  let v129 : BitVec 32 := Scalar.addi v107 v128
  let c1_i32_71 : BitVec 32 := 1#32
  let arg25 : BitVec 32 := Scf.iv v129 c1_i32_71 k0_t4
  let v198 : BitVec 32 := Scalar.muli c2_i32_112 arg25
  let v199 : BitVec 32 := Scalar.muli c2_i32_113 v198
  let c1_i32_114 : BitVec 32 := 1#32
  let v200 : BitVec 32 := Scalar.addi v199 c1_i32_114
  let v408 : BitVec 32 := Scalar.muli c2_i32_233 v200
  let c2_i32_234 : BitVec 32 := 2#32
  let v409 : BitVec 32 := Scalar.addi v408 c2_i32_234
  let v410 : BitVec 32 := Scalar.minsi v409 arg1
  let c512_i32_235 : BitVec 32 := 512#32
  let v411 : BitVec 32 := Scalar.muli v410 c512_i32_235
  v411
def k0_off185 (i : grid0.Coords) (k0_t4 : Fin (k0_t4_loop i).trips) : Fin 2 → Nat :=
  let c2_i32_233 : BitVec 32 := 2#32
  let c2_i32_113 : BitVec 32 := 2#32
  let c2_i32_112 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v125 : BitVec 32 := Scalar.subi v124 v107
  let c1_i32_69 : BitVec 32 := 1#32
  let v127 : BitVec 32 := Scalar.divsi v125 c1_i32_69
  let v128 : BitVec 32 := Scalar.muli v127 c1_i32_69
  let v129 : BitVec 32 := Scalar.addi v107 v128
  let c1_i32_71 : BitVec 32 := 1#32
  let arg25 : BitVec 32 := Scf.iv v129 c1_i32_71 k0_t4
  let v198 : BitVec 32 := Scalar.muli c2_i32_112 arg25
  let v199 : BitVec 32 := Scalar.muli c2_i32_113 v198
  let c1_i32_114 : BitVec 32 := 1#32
  let v200 : BitVec 32 := Scalar.addi v199 c1_i32_114
  let v408 : BitVec 32 := Scalar.muli c2_i32_233 v200
  let c2_i32_234 : BitVec 32 := 2#32
  let v409 : BitVec 32 := Scalar.addi v408 c2_i32_234
  let v410 : BitVec 32 := Scalar.minsi v409 arg1
  let c512_i32_235 : BitVec 32 := 512#32
  let v411 : BitVec 32 := Scalar.muli v410 c512_i32_235
  let v412 : BitVec 32 := v411
  let v413 : Index := Scalar.indexCast v412
  let c0_236 : Index := 0#32
  ![v413.toNat, 0]
def k0_off186 (i : grid0.Coords) (k0_t4 : Fin (k0_t4_loop i).trips) : Fin 3 → Nat :=
  let c2_i32_233 : BitVec 32 := 2#32
  let c2_i32_113 : BitVec 32 := 2#32
  let c2_i32_112 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v125 : BitVec 32 := Scalar.subi v124 v107
  let c1_i32_69 : BitVec 32 := 1#32
  let v127 : BitVec 32 := Scalar.divsi v125 c1_i32_69
  let v128 : BitVec 32 := Scalar.muli v127 c1_i32_69
  let v129 : BitVec 32 := Scalar.addi v107 v128
  let c1_i32_71 : BitVec 32 := 1#32
  let arg25 : BitVec 32 := Scf.iv v129 c1_i32_71 k0_t4
  let v198 : BitVec 32 := Scalar.muli c2_i32_112 arg25
  let v199 : BitVec 32 := Scalar.muli c2_i32_113 v198
  let c1_i32_114 : BitVec 32 := 1#32
  let v200 : BitVec 32 := Scalar.addi v199 c1_i32_114
  let v408 : BitVec 32 := Scalar.muli c2_i32_233 v200
  let c2_i32_234 : BitVec 32 := 2#32
  let v409 : BitVec 32 := Scalar.addi v408 c2_i32_234
  let v410 : BitVec 32 := Scalar.minsi v409 arg1
  let v418 : BitVec 1 := Scalar.cmpi .eq v410 arg1
  let v419 : BitVec 32 := Scalar.extui v418
  let v420 : Index := Scalar.indexCast v419
  let c0_239 : Index := 0#32
  let c0_240 : Index := 0#32
  ![v420.toNat, 0, 0]
def k0_mult133 (i : grid0.Coords) (k0_t4 : Fin (k0_t4_loop i).trips) : BitVec 32 :=
  let c2_i32_233 : BitVec 32 := 2#32
  let c2_i32_113 : BitVec 32 := 2#32
  let c2_i32_112 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v125 : BitVec 32 := Scalar.subi v124 v107
  let c1_i32_69 : BitVec 32 := 1#32
  let v127 : BitVec 32 := Scalar.divsi v125 c1_i32_69
  let v128 : BitVec 32 := Scalar.muli v127 c1_i32_69
  let v129 : BitVec 32 := Scalar.addi v107 v128
  let c1_i32_71 : BitVec 32 := 1#32
  let arg25 : BitVec 32 := Scf.iv v129 c1_i32_71 k0_t4
  let v198 : BitVec 32 := Scalar.muli c2_i32_112 arg25
  let v199 : BitVec 32 := Scalar.muli c2_i32_113 v198
  let c1_i32_114 : BitVec 32 := 1#32
  let v200 : BitVec 32 := Scalar.addi v199 c1_i32_114
  let v408 : BitVec 32 := Scalar.muli c2_i32_233 v200
  let c2_i32_234 : BitVec 32 := 2#32
  let v409 : BitVec 32 := Scalar.addi v408 c2_i32_234
  let v410 : BitVec 32 := Scalar.minsi v409 arg1
  let c512_i32_246 : BitVec 32 := 512#32
  let v431 : BitVec 32 := Scalar.muli v410 c512_i32_246
  v431
def k0_off187 (i : grid0.Coords) (k0_t4 : Fin (k0_t4_loop i).trips) : Fin 2 → Nat :=
  let c2_i32_233 : BitVec 32 := 2#32
  let c2_i32_113 : BitVec 32 := 2#32
  let c2_i32_112 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v125 : BitVec 32 := Scalar.subi v124 v107
  let c1_i32_69 : BitVec 32 := 1#32
  let v127 : BitVec 32 := Scalar.divsi v125 c1_i32_69
  let v128 : BitVec 32 := Scalar.muli v127 c1_i32_69
  let v129 : BitVec 32 := Scalar.addi v107 v128
  let c1_i32_71 : BitVec 32 := 1#32
  let arg25 : BitVec 32 := Scf.iv v129 c1_i32_71 k0_t4
  let v198 : BitVec 32 := Scalar.muli c2_i32_112 arg25
  let v199 : BitVec 32 := Scalar.muli c2_i32_113 v198
  let c1_i32_114 : BitVec 32 := 1#32
  let v200 : BitVec 32 := Scalar.addi v199 c1_i32_114
  let v408 : BitVec 32 := Scalar.muli c2_i32_233 v200
  let c2_i32_234 : BitVec 32 := 2#32
  let v409 : BitVec 32 := Scalar.addi v408 c2_i32_234
  let v410 : BitVec 32 := Scalar.minsi v409 arg1
  let c512_i32_246 : BitVec 32 := 512#32
  let v431 : BitVec 32 := Scalar.muli v410 c512_i32_246
  let v432 : BitVec 32 := v431
  let v433 : Index := Scalar.indexCast v432
  let c0_247 : Index := 0#32
  ![v433.toNat, 0]
def k0_mult134 (i : grid0.Coords) (k0_t4 : Fin (k0_t4_loop i).trips) : BitVec 32 :=
  let c2_i32_253 : BitVec 32 := 2#32
  let c2_i32_113 : BitVec 32 := 2#32
  let c2_i32_112 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v125 : BitVec 32 := Scalar.subi v124 v107
  let c1_i32_69 : BitVec 32 := 1#32
  let v127 : BitVec 32 := Scalar.divsi v125 c1_i32_69
  let v128 : BitVec 32 := Scalar.muli v127 c1_i32_69
  let v129 : BitVec 32 := Scalar.addi v107 v128
  let c1_i32_71 : BitVec 32 := 1#32
  let arg25 : BitVec 32 := Scf.iv v129 c1_i32_71 k0_t4
  let v198 : BitVec 32 := Scalar.muli c2_i32_112 arg25
  let v199 : BitVec 32 := Scalar.muli c2_i32_113 v198
  let c1_i32_114 : BitVec 32 := 1#32
  let v200 : BitVec 32 := Scalar.addi v199 c1_i32_114
  let v442 : BitVec 32 := Scalar.muli c2_i32_253 v200
  let c1_i32_254 : BitVec 32 := 1#32
  let v443 : BitVec 32 := Scalar.addi v442 c1_i32_254
  let c512_i32_255 : BitVec 32 := 512#32
  let v444 : BitVec 32 := Scalar.muli v443 c512_i32_255
  v444
def k0_mult135 (i : grid0.Coords) (k0_t4 : Fin (k0_t4_loop i).trips) : BitVec 32 :=
  let c2_i32_276 : BitVec 32 := 2#32
  let c2_i32_275 : BitVec 32 := 2#32
  let c2_i32_110 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v125 : BitVec 32 := Scalar.subi v124 v107
  let c1_i32_69 : BitVec 32 := 1#32
  let v127 : BitVec 32 := Scalar.divsi v125 c1_i32_69
  let v128 : BitVec 32 := Scalar.muli v127 c1_i32_69
  let v129 : BitVec 32 := Scalar.addi v107 v128
  let c1_i32_71 : BitVec 32 := 1#32
  let arg25 : BitVec 32 := Scf.iv v129 c1_i32_71 k0_t4
  let v196 : BitVec 32 := Scalar.muli c2_i32_110 arg25
  let c1_i32_111 : BitVec 32 := 1#32
  let v197 : BitVec 32 := Scalar.addi v196 c1_i32_111
  let v480 : BitVec 32 := Scalar.muli c2_i32_275 v197
  let v481 : BitVec 32 := Scalar.muli c2_i32_276 v480
  let c1_i32_277 : BitVec 32 := 1#32
  let v482 : BitVec 32 := Scalar.addi v481 c1_i32_277
  let c512_i32_278 : BitVec 32 := 512#32
  let v483 : BitVec 32 := Scalar.muli v482 c512_i32_278
  v483
def k0_off188 (i : grid0.Coords) (k0_t4 : Fin (k0_t4_loop i).trips) : Fin 2 → Nat :=
  let c2_i32_276 : BitVec 32 := 2#32
  let c2_i32_275 : BitVec 32 := 2#32
  let c2_i32_110 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v125 : BitVec 32 := Scalar.subi v124 v107
  let c1_i32_69 : BitVec 32 := 1#32
  let v127 : BitVec 32 := Scalar.divsi v125 c1_i32_69
  let v128 : BitVec 32 := Scalar.muli v127 c1_i32_69
  let v129 : BitVec 32 := Scalar.addi v107 v128
  let c1_i32_71 : BitVec 32 := 1#32
  let arg25 : BitVec 32 := Scf.iv v129 c1_i32_71 k0_t4
  let v196 : BitVec 32 := Scalar.muli c2_i32_110 arg25
  let c1_i32_111 : BitVec 32 := 1#32
  let v197 : BitVec 32 := Scalar.addi v196 c1_i32_111
  let v480 : BitVec 32 := Scalar.muli c2_i32_275 v197
  let v481 : BitVec 32 := Scalar.muli c2_i32_276 v480
  let c1_i32_277 : BitVec 32 := 1#32
  let v482 : BitVec 32 := Scalar.addi v481 c1_i32_277
  let c512_i32_278 : BitVec 32 := 512#32
  let v483 : BitVec 32 := Scalar.muli v482 c512_i32_278
  let v484 : BitVec 32 := v483
  let v485 : Index := Scalar.indexCast v484
  let c0_279 : Index := 0#32
  ![v485.toNat, 0]
def k0_off189 (i : grid0.Coords) (k0_t4 : Fin (k0_t4_loop i).trips) : Fin 3 → Nat :=
  let c2_i32_276 : BitVec 32 := 2#32
  let c2_i32_275 : BitVec 32 := 2#32
  let c2_i32_110 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v125 : BitVec 32 := Scalar.subi v124 v107
  let c1_i32_69 : BitVec 32 := 1#32
  let v127 : BitVec 32 := Scalar.divsi v125 c1_i32_69
  let v128 : BitVec 32 := Scalar.muli v127 c1_i32_69
  let v129 : BitVec 32 := Scalar.addi v107 v128
  let c1_i32_71 : BitVec 32 := 1#32
  let arg25 : BitVec 32 := Scf.iv v129 c1_i32_71 k0_t4
  let v196 : BitVec 32 := Scalar.muli c2_i32_110 arg25
  let c1_i32_111 : BitVec 32 := 1#32
  let v197 : BitVec 32 := Scalar.addi v196 c1_i32_111
  let v480 : BitVec 32 := Scalar.muli c2_i32_275 v197
  let v481 : BitVec 32 := Scalar.muli c2_i32_276 v480
  let c1_i32_277 : BitVec 32 := 1#32
  let v482 : BitVec 32 := Scalar.addi v481 c1_i32_277
  let v490 : BitVec 1 := Scalar.cmpi .eq v482 arg1
  let v491 : BitVec 32 := Scalar.extui v490
  let v492 : Index := Scalar.indexCast v491
  let c0_282 : Index := 0#32
  let c0_283 : Index := 0#32
  ![v492.toNat, 0, 0]
def k0_mult136 (i : grid0.Coords) (k0_t4 : Fin (k0_t4_loop i).trips) : BitVec 32 :=
  let c2_i32_276 : BitVec 32 := 2#32
  let c2_i32_275 : BitVec 32 := 2#32
  let c2_i32_110 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v125 : BitVec 32 := Scalar.subi v124 v107
  let c1_i32_69 : BitVec 32 := 1#32
  let v127 : BitVec 32 := Scalar.divsi v125 c1_i32_69
  let v128 : BitVec 32 := Scalar.muli v127 c1_i32_69
  let v129 : BitVec 32 := Scalar.addi v107 v128
  let c1_i32_71 : BitVec 32 := 1#32
  let arg25 : BitVec 32 := Scf.iv v129 c1_i32_71 k0_t4
  let v196 : BitVec 32 := Scalar.muli c2_i32_110 arg25
  let c1_i32_111 : BitVec 32 := 1#32
  let v197 : BitVec 32 := Scalar.addi v196 c1_i32_111
  let v480 : BitVec 32 := Scalar.muli c2_i32_275 v197
  let v481 : BitVec 32 := Scalar.muli c2_i32_276 v480
  let c1_i32_277 : BitVec 32 := 1#32
  let v482 : BitVec 32 := Scalar.addi v481 c1_i32_277
  let c512_i32_289 : BitVec 32 := 512#32
  let v503 : BitVec 32 := Scalar.muli v482 c512_i32_289
  v503
def k0_off190 (i : grid0.Coords) (k0_t4 : Fin (k0_t4_loop i).trips) : Fin 2 → Nat :=
  let c2_i32_276 : BitVec 32 := 2#32
  let c2_i32_275 : BitVec 32 := 2#32
  let c2_i32_110 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v125 : BitVec 32 := Scalar.subi v124 v107
  let c1_i32_69 : BitVec 32 := 1#32
  let v127 : BitVec 32 := Scalar.divsi v125 c1_i32_69
  let v128 : BitVec 32 := Scalar.muli v127 c1_i32_69
  let v129 : BitVec 32 := Scalar.addi v107 v128
  let c1_i32_71 : BitVec 32 := 1#32
  let arg25 : BitVec 32 := Scf.iv v129 c1_i32_71 k0_t4
  let v196 : BitVec 32 := Scalar.muli c2_i32_110 arg25
  let c1_i32_111 : BitVec 32 := 1#32
  let v197 : BitVec 32 := Scalar.addi v196 c1_i32_111
  let v480 : BitVec 32 := Scalar.muli c2_i32_275 v197
  let v481 : BitVec 32 := Scalar.muli c2_i32_276 v480
  let c1_i32_277 : BitVec 32 := 1#32
  let v482 : BitVec 32 := Scalar.addi v481 c1_i32_277
  let c512_i32_289 : BitVec 32 := 512#32
  let v503 : BitVec 32 := Scalar.muli v482 c512_i32_289
  let v504 : BitVec 32 := v503
  let v505 : Index := Scalar.indexCast v504
  let c0_290 : Index := 0#32
  ![v505.toNat, 0]
def k0_mult137 (i : grid0.Coords) (k0_t4 : Fin (k0_t4_loop i).trips) : BitVec 32 :=
  let c2_i32_296 : BitVec 32 := 2#32
  let c2_i32_275 : BitVec 32 := 2#32
  let c2_i32_110 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v125 : BitVec 32 := Scalar.subi v124 v107
  let c1_i32_69 : BitVec 32 := 1#32
  let v127 : BitVec 32 := Scalar.divsi v125 c1_i32_69
  let v128 : BitVec 32 := Scalar.muli v127 c1_i32_69
  let v129 : BitVec 32 := Scalar.addi v107 v128
  let c1_i32_71 : BitVec 32 := 1#32
  let arg25 : BitVec 32 := Scf.iv v129 c1_i32_71 k0_t4
  let v196 : BitVec 32 := Scalar.muli c2_i32_110 arg25
  let c1_i32_111 : BitVec 32 := 1#32
  let v197 : BitVec 32 := Scalar.addi v196 c1_i32_111
  let v480 : BitVec 32 := Scalar.muli c2_i32_275 v197
  let v514 : BitVec 32 := Scalar.muli c2_i32_296 v480
  let c512_i32_297 : BitVec 32 := 512#32
  let v515 : BitVec 32 := Scalar.muli v514 c512_i32_297
  v515
def k0_off191 (i : grid0.Coords) (k0_t4 : Fin (k0_t4_loop i).trips) : Fin 2 → Nat :=
  let c2_i32_296 : BitVec 32 := 2#32
  let c2_i32_275 : BitVec 32 := 2#32
  let c2_i32_110 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v125 : BitVec 32 := Scalar.subi v124 v107
  let c1_i32_69 : BitVec 32 := 1#32
  let v127 : BitVec 32 := Scalar.divsi v125 c1_i32_69
  let v128 : BitVec 32 := Scalar.muli v127 c1_i32_69
  let v129 : BitVec 32 := Scalar.addi v107 v128
  let c1_i32_71 : BitVec 32 := 1#32
  let arg25 : BitVec 32 := Scf.iv v129 c1_i32_71 k0_t4
  let v196 : BitVec 32 := Scalar.muli c2_i32_110 arg25
  let c1_i32_111 : BitVec 32 := 1#32
  let v197 : BitVec 32 := Scalar.addi v196 c1_i32_111
  let v480 : BitVec 32 := Scalar.muli c2_i32_275 v197
  let v514 : BitVec 32 := Scalar.muli c2_i32_296 v480
  let c512_i32_297 : BitVec 32 := 512#32
  let v515 : BitVec 32 := Scalar.muli v514 c512_i32_297
  let v516 : BitVec 32 := v515
  let v526 : Index := Scalar.indexCast v516
  let c0_305 : Index := 0#32
  ![v526.toNat, 0]
def k0_off192 (i : grid0.Coords) (k0_t4 : Fin (k0_t4_loop i).trips) : Fin 2 → Nat :=
  let c2_i32_296 : BitVec 32 := 2#32
  let c2_i32_275 : BitVec 32 := 2#32
  let c2_i32_110 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v125 : BitVec 32 := Scalar.subi v124 v107
  let c1_i32_69 : BitVec 32 := 1#32
  let v127 : BitVec 32 := Scalar.divsi v125 c1_i32_69
  let v128 : BitVec 32 := Scalar.muli v127 c1_i32_69
  let v129 : BitVec 32 := Scalar.addi v107 v128
  let c1_i32_71 : BitVec 32 := 1#32
  let arg25 : BitVec 32 := Scf.iv v129 c1_i32_71 k0_t4
  let v196 : BitVec 32 := Scalar.muli c2_i32_110 arg25
  let c1_i32_111 : BitVec 32 := 1#32
  let v197 : BitVec 32 := Scalar.addi v196 c1_i32_111
  let v480 : BitVec 32 := Scalar.muli c2_i32_275 v197
  let v514 : BitVec 32 := Scalar.muli c2_i32_296 v480
  let c512_i32_297 : BitVec 32 := 512#32
  let v515 : BitVec 32 := Scalar.muli v514 c512_i32_297
  let v516 : BitVec 32 := v515
  let v541 : Index := Scalar.indexCast v516
  let c0_312 : Index := 0#32
  ![v541.toNat, 0]
def k0_mult138 (i : grid0.Coords) (k0_t4 : Fin (k0_t4_loop i).trips) : BitVec 32 :=
  let c2_i32_315 : BitVec 32 := 2#32
  let c2_i32_275 : BitVec 32 := 2#32
  let c2_i32_110 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v125 : BitVec 32 := Scalar.subi v124 v107
  let c1_i32_69 : BitVec 32 := 1#32
  let v127 : BitVec 32 := Scalar.divsi v125 c1_i32_69
  let v128 : BitVec 32 := Scalar.muli v127 c1_i32_69
  let v129 : BitVec 32 := Scalar.addi v107 v128
  let c1_i32_71 : BitVec 32 := 1#32
  let arg25 : BitVec 32 := Scf.iv v129 c1_i32_71 k0_t4
  let v196 : BitVec 32 := Scalar.muli c2_i32_110 arg25
  let c1_i32_111 : BitVec 32 := 1#32
  let v197 : BitVec 32 := Scalar.addi v196 c1_i32_111
  let v480 : BitVec 32 := Scalar.muli c2_i32_275 v197
  let v549 : BitVec 32 := Scalar.muli c2_i32_315 v480
  let c2_i32_316 : BitVec 32 := 2#32
  let v550 : BitVec 32 := Scalar.addi v549 c2_i32_316
  let v551 : BitVec 32 := Scalar.minsi v550 arg1
  let c512_i32_317 : BitVec 32 := 512#32
  let v552 : BitVec 32 := Scalar.muli v551 c512_i32_317
  v552
def k0_off193 (i : grid0.Coords) (k0_t4 : Fin (k0_t4_loop i).trips) : Fin 2 → Nat :=
  let c2_i32_315 : BitVec 32 := 2#32
  let c2_i32_275 : BitVec 32 := 2#32
  let c2_i32_110 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v125 : BitVec 32 := Scalar.subi v124 v107
  let c1_i32_69 : BitVec 32 := 1#32
  let v127 : BitVec 32 := Scalar.divsi v125 c1_i32_69
  let v128 : BitVec 32 := Scalar.muli v127 c1_i32_69
  let v129 : BitVec 32 := Scalar.addi v107 v128
  let c1_i32_71 : BitVec 32 := 1#32
  let arg25 : BitVec 32 := Scf.iv v129 c1_i32_71 k0_t4
  let v196 : BitVec 32 := Scalar.muli c2_i32_110 arg25
  let c1_i32_111 : BitVec 32 := 1#32
  let v197 : BitVec 32 := Scalar.addi v196 c1_i32_111
  let v480 : BitVec 32 := Scalar.muli c2_i32_275 v197
  let v549 : BitVec 32 := Scalar.muli c2_i32_315 v480
  let c2_i32_316 : BitVec 32 := 2#32
  let v550 : BitVec 32 := Scalar.addi v549 c2_i32_316
  let v551 : BitVec 32 := Scalar.minsi v550 arg1
  let c512_i32_317 : BitVec 32 := 512#32
  let v552 : BitVec 32 := Scalar.muli v551 c512_i32_317
  let v553 : BitVec 32 := v552
  let v554 : Index := Scalar.indexCast v553
  let c0_318 : Index := 0#32
  ![v554.toNat, 0]
def k0_off194 (i : grid0.Coords) (k0_t4 : Fin (k0_t4_loop i).trips) : Fin 3 → Nat :=
  let c2_i32_315 : BitVec 32 := 2#32
  let c2_i32_275 : BitVec 32 := 2#32
  let c2_i32_110 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v125 : BitVec 32 := Scalar.subi v124 v107
  let c1_i32_69 : BitVec 32 := 1#32
  let v127 : BitVec 32 := Scalar.divsi v125 c1_i32_69
  let v128 : BitVec 32 := Scalar.muli v127 c1_i32_69
  let v129 : BitVec 32 := Scalar.addi v107 v128
  let c1_i32_71 : BitVec 32 := 1#32
  let arg25 : BitVec 32 := Scf.iv v129 c1_i32_71 k0_t4
  let v196 : BitVec 32 := Scalar.muli c2_i32_110 arg25
  let c1_i32_111 : BitVec 32 := 1#32
  let v197 : BitVec 32 := Scalar.addi v196 c1_i32_111
  let v480 : BitVec 32 := Scalar.muli c2_i32_275 v197
  let v549 : BitVec 32 := Scalar.muli c2_i32_315 v480
  let c2_i32_316 : BitVec 32 := 2#32
  let v550 : BitVec 32 := Scalar.addi v549 c2_i32_316
  let v551 : BitVec 32 := Scalar.minsi v550 arg1
  let v559 : BitVec 1 := Scalar.cmpi .eq v551 arg1
  let v560 : BitVec 32 := Scalar.extui v559
  let v561 : Index := Scalar.indexCast v560
  let c0_321 : Index := 0#32
  let c0_322 : Index := 0#32
  ![v561.toNat, 0, 0]
def k0_mult139 (i : grid0.Coords) (k0_t4 : Fin (k0_t4_loop i).trips) : BitVec 32 :=
  let c2_i32_315 : BitVec 32 := 2#32
  let c2_i32_275 : BitVec 32 := 2#32
  let c2_i32_110 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v125 : BitVec 32 := Scalar.subi v124 v107
  let c1_i32_69 : BitVec 32 := 1#32
  let v127 : BitVec 32 := Scalar.divsi v125 c1_i32_69
  let v128 : BitVec 32 := Scalar.muli v127 c1_i32_69
  let v129 : BitVec 32 := Scalar.addi v107 v128
  let c1_i32_71 : BitVec 32 := 1#32
  let arg25 : BitVec 32 := Scf.iv v129 c1_i32_71 k0_t4
  let v196 : BitVec 32 := Scalar.muli c2_i32_110 arg25
  let c1_i32_111 : BitVec 32 := 1#32
  let v197 : BitVec 32 := Scalar.addi v196 c1_i32_111
  let v480 : BitVec 32 := Scalar.muli c2_i32_275 v197
  let v549 : BitVec 32 := Scalar.muli c2_i32_315 v480
  let c2_i32_316 : BitVec 32 := 2#32
  let v550 : BitVec 32 := Scalar.addi v549 c2_i32_316
  let v551 : BitVec 32 := Scalar.minsi v550 arg1
  let c512_i32_328 : BitVec 32 := 512#32
  let v572 : BitVec 32 := Scalar.muli v551 c512_i32_328
  v572
def k0_off195 (i : grid0.Coords) (k0_t4 : Fin (k0_t4_loop i).trips) : Fin 2 → Nat :=
  let c2_i32_315 : BitVec 32 := 2#32
  let c2_i32_275 : BitVec 32 := 2#32
  let c2_i32_110 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v125 : BitVec 32 := Scalar.subi v124 v107
  let c1_i32_69 : BitVec 32 := 1#32
  let v127 : BitVec 32 := Scalar.divsi v125 c1_i32_69
  let v128 : BitVec 32 := Scalar.muli v127 c1_i32_69
  let v129 : BitVec 32 := Scalar.addi v107 v128
  let c1_i32_71 : BitVec 32 := 1#32
  let arg25 : BitVec 32 := Scf.iv v129 c1_i32_71 k0_t4
  let v196 : BitVec 32 := Scalar.muli c2_i32_110 arg25
  let c1_i32_111 : BitVec 32 := 1#32
  let v197 : BitVec 32 := Scalar.addi v196 c1_i32_111
  let v480 : BitVec 32 := Scalar.muli c2_i32_275 v197
  let v549 : BitVec 32 := Scalar.muli c2_i32_315 v480
  let c2_i32_316 : BitVec 32 := 2#32
  let v550 : BitVec 32 := Scalar.addi v549 c2_i32_316
  let v551 : BitVec 32 := Scalar.minsi v550 arg1
  let c512_i32_328 : BitVec 32 := 512#32
  let v572 : BitVec 32 := Scalar.muli v551 c512_i32_328
  let v573 : BitVec 32 := v572
  let v574 : Index := Scalar.indexCast v573
  let c0_329 : Index := 0#32
  ![v574.toNat, 0]
def k0_mult140 (i : grid0.Coords) (k0_t4 : Fin (k0_t4_loop i).trips) : BitVec 32 :=
  let c2_i32_335 : BitVec 32 := 2#32
  let c2_i32_275 : BitVec 32 := 2#32
  let c2_i32_110 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v125 : BitVec 32 := Scalar.subi v124 v107
  let c1_i32_69 : BitVec 32 := 1#32
  let v127 : BitVec 32 := Scalar.divsi v125 c1_i32_69
  let v128 : BitVec 32 := Scalar.muli v127 c1_i32_69
  let v129 : BitVec 32 := Scalar.addi v107 v128
  let c1_i32_71 : BitVec 32 := 1#32
  let arg25 : BitVec 32 := Scf.iv v129 c1_i32_71 k0_t4
  let v196 : BitVec 32 := Scalar.muli c2_i32_110 arg25
  let c1_i32_111 : BitVec 32 := 1#32
  let v197 : BitVec 32 := Scalar.addi v196 c1_i32_111
  let v480 : BitVec 32 := Scalar.muli c2_i32_275 v197
  let v583 : BitVec 32 := Scalar.muli c2_i32_335 v480
  let c1_i32_336 : BitVec 32 := 1#32
  let v584 : BitVec 32 := Scalar.addi v583 c1_i32_336
  let c512_i32_337 : BitVec 32 := 512#32
  let v585 : BitVec 32 := Scalar.muli v584 c512_i32_337
  v585
def k0_mult141 (i : grid0.Coords) (k0_t4 : Fin (k0_t4_loop i).trips) : BitVec 32 :=
  let c2_i32_355 : BitVec 32 := 2#32
  let c2_i32_273 : BitVec 32 := 2#32
  let c2_i32_110 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v125 : BitVec 32 := Scalar.subi v124 v107
  let c1_i32_69 : BitVec 32 := 1#32
  let v127 : BitVec 32 := Scalar.divsi v125 c1_i32_69
  let v128 : BitVec 32 := Scalar.muli v127 c1_i32_69
  let v129 : BitVec 32 := Scalar.addi v107 v128
  let c1_i32_71 : BitVec 32 := 1#32
  let arg25 : BitVec 32 := Scf.iv v129 c1_i32_71 k0_t4
  let v196 : BitVec 32 := Scalar.muli c2_i32_110 arg25
  let c1_i32_111 : BitVec 32 := 1#32
  let v197 : BitVec 32 := Scalar.addi v196 c1_i32_111
  let v478 : BitVec 32 := Scalar.muli c2_i32_273 v197
  let c1_i32_274 : BitVec 32 := 1#32
  let v479 : BitVec 32 := Scalar.addi v478 c1_i32_274
  let v619 : BitVec 32 := Scalar.muli c2_i32_355 v479
  let c1_i32_356 : BitVec 32 := 1#32
  let v620 : BitVec 32 := Scalar.addi v619 c1_i32_356
  let c512_i32_357 : BitVec 32 := 512#32
  let v621 : BitVec 32 := Scalar.muli v620 c512_i32_357
  v621
def k0_off196 (i : grid0.Coords) (k0_t4 : Fin (k0_t4_loop i).trips) : Fin 2 → Nat :=
  let c2_i32_355 : BitVec 32 := 2#32
  let c2_i32_273 : BitVec 32 := 2#32
  let c2_i32_110 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v125 : BitVec 32 := Scalar.subi v124 v107
  let c1_i32_69 : BitVec 32 := 1#32
  let v127 : BitVec 32 := Scalar.divsi v125 c1_i32_69
  let v128 : BitVec 32 := Scalar.muli v127 c1_i32_69
  let v129 : BitVec 32 := Scalar.addi v107 v128
  let c1_i32_71 : BitVec 32 := 1#32
  let arg25 : BitVec 32 := Scf.iv v129 c1_i32_71 k0_t4
  let v196 : BitVec 32 := Scalar.muli c2_i32_110 arg25
  let c1_i32_111 : BitVec 32 := 1#32
  let v197 : BitVec 32 := Scalar.addi v196 c1_i32_111
  let v478 : BitVec 32 := Scalar.muli c2_i32_273 v197
  let c1_i32_274 : BitVec 32 := 1#32
  let v479 : BitVec 32 := Scalar.addi v478 c1_i32_274
  let v619 : BitVec 32 := Scalar.muli c2_i32_355 v479
  let c1_i32_356 : BitVec 32 := 1#32
  let v620 : BitVec 32 := Scalar.addi v619 c1_i32_356
  let c512_i32_357 : BitVec 32 := 512#32
  let v621 : BitVec 32 := Scalar.muli v620 c512_i32_357
  let v622 : BitVec 32 := v621
  let v623 : Index := Scalar.indexCast v622
  let c0_358 : Index := 0#32
  ![v623.toNat, 0]
def k0_off197 (i : grid0.Coords) (k0_t4 : Fin (k0_t4_loop i).trips) : Fin 3 → Nat :=
  let c2_i32_355 : BitVec 32 := 2#32
  let c2_i32_273 : BitVec 32 := 2#32
  let c2_i32_110 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v125 : BitVec 32 := Scalar.subi v124 v107
  let c1_i32_69 : BitVec 32 := 1#32
  let v127 : BitVec 32 := Scalar.divsi v125 c1_i32_69
  let v128 : BitVec 32 := Scalar.muli v127 c1_i32_69
  let v129 : BitVec 32 := Scalar.addi v107 v128
  let c1_i32_71 : BitVec 32 := 1#32
  let arg25 : BitVec 32 := Scf.iv v129 c1_i32_71 k0_t4
  let v196 : BitVec 32 := Scalar.muli c2_i32_110 arg25
  let c1_i32_111 : BitVec 32 := 1#32
  let v197 : BitVec 32 := Scalar.addi v196 c1_i32_111
  let v478 : BitVec 32 := Scalar.muli c2_i32_273 v197
  let c1_i32_274 : BitVec 32 := 1#32
  let v479 : BitVec 32 := Scalar.addi v478 c1_i32_274
  let v619 : BitVec 32 := Scalar.muli c2_i32_355 v479
  let c1_i32_356 : BitVec 32 := 1#32
  let v620 : BitVec 32 := Scalar.addi v619 c1_i32_356
  let v628 : BitVec 1 := Scalar.cmpi .eq v620 arg1
  let v629 : BitVec 32 := Scalar.extui v628
  let v630 : Index := Scalar.indexCast v629
  let c0_361 : Index := 0#32
  let c0_362 : Index := 0#32
  ![v630.toNat, 0, 0]
def k0_mult142 (i : grid0.Coords) (k0_t4 : Fin (k0_t4_loop i).trips) : BitVec 32 :=
  let c2_i32_355 : BitVec 32 := 2#32
  let c2_i32_273 : BitVec 32 := 2#32
  let c2_i32_110 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v125 : BitVec 32 := Scalar.subi v124 v107
  let c1_i32_69 : BitVec 32 := 1#32
  let v127 : BitVec 32 := Scalar.divsi v125 c1_i32_69
  let v128 : BitVec 32 := Scalar.muli v127 c1_i32_69
  let v129 : BitVec 32 := Scalar.addi v107 v128
  let c1_i32_71 : BitVec 32 := 1#32
  let arg25 : BitVec 32 := Scf.iv v129 c1_i32_71 k0_t4
  let v196 : BitVec 32 := Scalar.muli c2_i32_110 arg25
  let c1_i32_111 : BitVec 32 := 1#32
  let v197 : BitVec 32 := Scalar.addi v196 c1_i32_111
  let v478 : BitVec 32 := Scalar.muli c2_i32_273 v197
  let c1_i32_274 : BitVec 32 := 1#32
  let v479 : BitVec 32 := Scalar.addi v478 c1_i32_274
  let v619 : BitVec 32 := Scalar.muli c2_i32_355 v479
  let c1_i32_356 : BitVec 32 := 1#32
  let v620 : BitVec 32 := Scalar.addi v619 c1_i32_356
  let c512_i32_368 : BitVec 32 := 512#32
  let v641 : BitVec 32 := Scalar.muli v620 c512_i32_368
  v641
def k0_off198 (i : grid0.Coords) (k0_t4 : Fin (k0_t4_loop i).trips) : Fin 2 → Nat :=
  let c2_i32_355 : BitVec 32 := 2#32
  let c2_i32_273 : BitVec 32 := 2#32
  let c2_i32_110 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v125 : BitVec 32 := Scalar.subi v124 v107
  let c1_i32_69 : BitVec 32 := 1#32
  let v127 : BitVec 32 := Scalar.divsi v125 c1_i32_69
  let v128 : BitVec 32 := Scalar.muli v127 c1_i32_69
  let v129 : BitVec 32 := Scalar.addi v107 v128
  let c1_i32_71 : BitVec 32 := 1#32
  let arg25 : BitVec 32 := Scf.iv v129 c1_i32_71 k0_t4
  let v196 : BitVec 32 := Scalar.muli c2_i32_110 arg25
  let c1_i32_111 : BitVec 32 := 1#32
  let v197 : BitVec 32 := Scalar.addi v196 c1_i32_111
  let v478 : BitVec 32 := Scalar.muli c2_i32_273 v197
  let c1_i32_274 : BitVec 32 := 1#32
  let v479 : BitVec 32 := Scalar.addi v478 c1_i32_274
  let v619 : BitVec 32 := Scalar.muli c2_i32_355 v479
  let c1_i32_356 : BitVec 32 := 1#32
  let v620 : BitVec 32 := Scalar.addi v619 c1_i32_356
  let c512_i32_368 : BitVec 32 := 512#32
  let v641 : BitVec 32 := Scalar.muli v620 c512_i32_368
  let v642 : BitVec 32 := v641
  let v643 : Index := Scalar.indexCast v642
  let c0_369 : Index := 0#32
  ![v643.toNat, 0]
def k0_mult143 (i : grid0.Coords) (k0_t4 : Fin (k0_t4_loop i).trips) : BitVec 32 :=
  let c2_i32_375 : BitVec 32 := 2#32
  let c2_i32_273 : BitVec 32 := 2#32
  let c2_i32_110 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v125 : BitVec 32 := Scalar.subi v124 v107
  let c1_i32_69 : BitVec 32 := 1#32
  let v127 : BitVec 32 := Scalar.divsi v125 c1_i32_69
  let v128 : BitVec 32 := Scalar.muli v127 c1_i32_69
  let v129 : BitVec 32 := Scalar.addi v107 v128
  let c1_i32_71 : BitVec 32 := 1#32
  let arg25 : BitVec 32 := Scf.iv v129 c1_i32_71 k0_t4
  let v196 : BitVec 32 := Scalar.muli c2_i32_110 arg25
  let c1_i32_111 : BitVec 32 := 1#32
  let v197 : BitVec 32 := Scalar.addi v196 c1_i32_111
  let v478 : BitVec 32 := Scalar.muli c2_i32_273 v197
  let c1_i32_274 : BitVec 32 := 1#32
  let v479 : BitVec 32 := Scalar.addi v478 c1_i32_274
  let v652 : BitVec 32 := Scalar.muli c2_i32_375 v479
  let c512_i32_376 : BitVec 32 := 512#32
  let v653 : BitVec 32 := Scalar.muli v652 c512_i32_376
  v653
def k0_off199 (i : grid0.Coords) (k0_t4 : Fin (k0_t4_loop i).trips) : Fin 2 → Nat :=
  let c2_i32_375 : BitVec 32 := 2#32
  let c2_i32_273 : BitVec 32 := 2#32
  let c2_i32_110 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v125 : BitVec 32 := Scalar.subi v124 v107
  let c1_i32_69 : BitVec 32 := 1#32
  let v127 : BitVec 32 := Scalar.divsi v125 c1_i32_69
  let v128 : BitVec 32 := Scalar.muli v127 c1_i32_69
  let v129 : BitVec 32 := Scalar.addi v107 v128
  let c1_i32_71 : BitVec 32 := 1#32
  let arg25 : BitVec 32 := Scf.iv v129 c1_i32_71 k0_t4
  let v196 : BitVec 32 := Scalar.muli c2_i32_110 arg25
  let c1_i32_111 : BitVec 32 := 1#32
  let v197 : BitVec 32 := Scalar.addi v196 c1_i32_111
  let v478 : BitVec 32 := Scalar.muli c2_i32_273 v197
  let c1_i32_274 : BitVec 32 := 1#32
  let v479 : BitVec 32 := Scalar.addi v478 c1_i32_274
  let v652 : BitVec 32 := Scalar.muli c2_i32_375 v479
  let c512_i32_376 : BitVec 32 := 512#32
  let v653 : BitVec 32 := Scalar.muli v652 c512_i32_376
  let v654 : BitVec 32 := v653
  let v664 : Index := Scalar.indexCast v654
  let c0_384 : Index := 0#32
  ![v664.toNat, 0]
def k0_off200 (i : grid0.Coords) (k0_t4 : Fin (k0_t4_loop i).trips) : Fin 2 → Nat :=
  let c2_i32_375 : BitVec 32 := 2#32
  let c2_i32_273 : BitVec 32 := 2#32
  let c2_i32_110 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v125 : BitVec 32 := Scalar.subi v124 v107
  let c1_i32_69 : BitVec 32 := 1#32
  let v127 : BitVec 32 := Scalar.divsi v125 c1_i32_69
  let v128 : BitVec 32 := Scalar.muli v127 c1_i32_69
  let v129 : BitVec 32 := Scalar.addi v107 v128
  let c1_i32_71 : BitVec 32 := 1#32
  let arg25 : BitVec 32 := Scf.iv v129 c1_i32_71 k0_t4
  let v196 : BitVec 32 := Scalar.muli c2_i32_110 arg25
  let c1_i32_111 : BitVec 32 := 1#32
  let v197 : BitVec 32 := Scalar.addi v196 c1_i32_111
  let v478 : BitVec 32 := Scalar.muli c2_i32_273 v197
  let c1_i32_274 : BitVec 32 := 1#32
  let v479 : BitVec 32 := Scalar.addi v478 c1_i32_274
  let v652 : BitVec 32 := Scalar.muli c2_i32_375 v479
  let c512_i32_376 : BitVec 32 := 512#32
  let v653 : BitVec 32 := Scalar.muli v652 c512_i32_376
  let v654 : BitVec 32 := v653
  let v679 : Index := Scalar.indexCast v654
  let c0_391 : Index := 0#32
  ![v679.toNat, 0]
def k0_mult144 (i : grid0.Coords) (k0_t4 : Fin (k0_t4_loop i).trips) : BitVec 32 :=
  let c2_i32_394 : BitVec 32 := 2#32
  let c2_i32_273 : BitVec 32 := 2#32
  let c2_i32_110 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v125 : BitVec 32 := Scalar.subi v124 v107
  let c1_i32_69 : BitVec 32 := 1#32
  let v127 : BitVec 32 := Scalar.divsi v125 c1_i32_69
  let v128 : BitVec 32 := Scalar.muli v127 c1_i32_69
  let v129 : BitVec 32 := Scalar.addi v107 v128
  let c1_i32_71 : BitVec 32 := 1#32
  let arg25 : BitVec 32 := Scf.iv v129 c1_i32_71 k0_t4
  let v196 : BitVec 32 := Scalar.muli c2_i32_110 arg25
  let c1_i32_111 : BitVec 32 := 1#32
  let v197 : BitVec 32 := Scalar.addi v196 c1_i32_111
  let v478 : BitVec 32 := Scalar.muli c2_i32_273 v197
  let c1_i32_274 : BitVec 32 := 1#32
  let v479 : BitVec 32 := Scalar.addi v478 c1_i32_274
  let v687 : BitVec 32 := Scalar.muli c2_i32_394 v479
  let c2_i32_395 : BitVec 32 := 2#32
  let v688 : BitVec 32 := Scalar.addi v687 c2_i32_395
  let v689 : BitVec 32 := Scalar.minsi v688 arg1
  let c512_i32_396 : BitVec 32 := 512#32
  let v690 : BitVec 32 := Scalar.muli v689 c512_i32_396
  v690
def k0_off201 (i : grid0.Coords) (k0_t4 : Fin (k0_t4_loop i).trips) : Fin 2 → Nat :=
  let c2_i32_394 : BitVec 32 := 2#32
  let c2_i32_273 : BitVec 32 := 2#32
  let c2_i32_110 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v125 : BitVec 32 := Scalar.subi v124 v107
  let c1_i32_69 : BitVec 32 := 1#32
  let v127 : BitVec 32 := Scalar.divsi v125 c1_i32_69
  let v128 : BitVec 32 := Scalar.muli v127 c1_i32_69
  let v129 : BitVec 32 := Scalar.addi v107 v128
  let c1_i32_71 : BitVec 32 := 1#32
  let arg25 : BitVec 32 := Scf.iv v129 c1_i32_71 k0_t4
  let v196 : BitVec 32 := Scalar.muli c2_i32_110 arg25
  let c1_i32_111 : BitVec 32 := 1#32
  let v197 : BitVec 32 := Scalar.addi v196 c1_i32_111
  let v478 : BitVec 32 := Scalar.muli c2_i32_273 v197
  let c1_i32_274 : BitVec 32 := 1#32
  let v479 : BitVec 32 := Scalar.addi v478 c1_i32_274
  let v687 : BitVec 32 := Scalar.muli c2_i32_394 v479
  let c2_i32_395 : BitVec 32 := 2#32
  let v688 : BitVec 32 := Scalar.addi v687 c2_i32_395
  let v689 : BitVec 32 := Scalar.minsi v688 arg1
  let c512_i32_396 : BitVec 32 := 512#32
  let v690 : BitVec 32 := Scalar.muli v689 c512_i32_396
  let v691 : BitVec 32 := v690
  let v692 : Index := Scalar.indexCast v691
  let c0_397 : Index := 0#32
  ![v692.toNat, 0]
def k0_off202 (i : grid0.Coords) (k0_t4 : Fin (k0_t4_loop i).trips) : Fin 3 → Nat :=
  let c2_i32_394 : BitVec 32 := 2#32
  let c2_i32_273 : BitVec 32 := 2#32
  let c2_i32_110 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v125 : BitVec 32 := Scalar.subi v124 v107
  let c1_i32_69 : BitVec 32 := 1#32
  let v127 : BitVec 32 := Scalar.divsi v125 c1_i32_69
  let v128 : BitVec 32 := Scalar.muli v127 c1_i32_69
  let v129 : BitVec 32 := Scalar.addi v107 v128
  let c1_i32_71 : BitVec 32 := 1#32
  let arg25 : BitVec 32 := Scf.iv v129 c1_i32_71 k0_t4
  let v196 : BitVec 32 := Scalar.muli c2_i32_110 arg25
  let c1_i32_111 : BitVec 32 := 1#32
  let v197 : BitVec 32 := Scalar.addi v196 c1_i32_111
  let v478 : BitVec 32 := Scalar.muli c2_i32_273 v197
  let c1_i32_274 : BitVec 32 := 1#32
  let v479 : BitVec 32 := Scalar.addi v478 c1_i32_274
  let v687 : BitVec 32 := Scalar.muli c2_i32_394 v479
  let c2_i32_395 : BitVec 32 := 2#32
  let v688 : BitVec 32 := Scalar.addi v687 c2_i32_395
  let v689 : BitVec 32 := Scalar.minsi v688 arg1
  let v697 : BitVec 1 := Scalar.cmpi .eq v689 arg1
  let v698 : BitVec 32 := Scalar.extui v697
  let v699 : Index := Scalar.indexCast v698
  let c0_400 : Index := 0#32
  let c0_401 : Index := 0#32
  ![v699.toNat, 0, 0]
def k0_mult145 (i : grid0.Coords) (k0_t4 : Fin (k0_t4_loop i).trips) : BitVec 32 :=
  let c2_i32_394 : BitVec 32 := 2#32
  let c2_i32_273 : BitVec 32 := 2#32
  let c2_i32_110 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v125 : BitVec 32 := Scalar.subi v124 v107
  let c1_i32_69 : BitVec 32 := 1#32
  let v127 : BitVec 32 := Scalar.divsi v125 c1_i32_69
  let v128 : BitVec 32 := Scalar.muli v127 c1_i32_69
  let v129 : BitVec 32 := Scalar.addi v107 v128
  let c1_i32_71 : BitVec 32 := 1#32
  let arg25 : BitVec 32 := Scf.iv v129 c1_i32_71 k0_t4
  let v196 : BitVec 32 := Scalar.muli c2_i32_110 arg25
  let c1_i32_111 : BitVec 32 := 1#32
  let v197 : BitVec 32 := Scalar.addi v196 c1_i32_111
  let v478 : BitVec 32 := Scalar.muli c2_i32_273 v197
  let c1_i32_274 : BitVec 32 := 1#32
  let v479 : BitVec 32 := Scalar.addi v478 c1_i32_274
  let v687 : BitVec 32 := Scalar.muli c2_i32_394 v479
  let c2_i32_395 : BitVec 32 := 2#32
  let v688 : BitVec 32 := Scalar.addi v687 c2_i32_395
  let v689 : BitVec 32 := Scalar.minsi v688 arg1
  let c512_i32_407 : BitVec 32 := 512#32
  let v710 : BitVec 32 := Scalar.muli v689 c512_i32_407
  v710
def k0_off203 (i : grid0.Coords) (k0_t4 : Fin (k0_t4_loop i).trips) : Fin 2 → Nat :=
  let c2_i32_394 : BitVec 32 := 2#32
  let c2_i32_273 : BitVec 32 := 2#32
  let c2_i32_110 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v125 : BitVec 32 := Scalar.subi v124 v107
  let c1_i32_69 : BitVec 32 := 1#32
  let v127 : BitVec 32 := Scalar.divsi v125 c1_i32_69
  let v128 : BitVec 32 := Scalar.muli v127 c1_i32_69
  let v129 : BitVec 32 := Scalar.addi v107 v128
  let c1_i32_71 : BitVec 32 := 1#32
  let arg25 : BitVec 32 := Scf.iv v129 c1_i32_71 k0_t4
  let v196 : BitVec 32 := Scalar.muli c2_i32_110 arg25
  let c1_i32_111 : BitVec 32 := 1#32
  let v197 : BitVec 32 := Scalar.addi v196 c1_i32_111
  let v478 : BitVec 32 := Scalar.muli c2_i32_273 v197
  let c1_i32_274 : BitVec 32 := 1#32
  let v479 : BitVec 32 := Scalar.addi v478 c1_i32_274
  let v687 : BitVec 32 := Scalar.muli c2_i32_394 v479
  let c2_i32_395 : BitVec 32 := 2#32
  let v688 : BitVec 32 := Scalar.addi v687 c2_i32_395
  let v689 : BitVec 32 := Scalar.minsi v688 arg1
  let c512_i32_407 : BitVec 32 := 512#32
  let v710 : BitVec 32 := Scalar.muli v689 c512_i32_407
  let v711 : BitVec 32 := v710
  let v712 : Index := Scalar.indexCast v711
  let c0_408 : Index := 0#32
  ![v712.toNat, 0]
def k0_mult146 (i : grid0.Coords) (k0_t4 : Fin (k0_t4_loop i).trips) : BitVec 32 :=
  let c2_i32_414 : BitVec 32 := 2#32
  let c2_i32_273 : BitVec 32 := 2#32
  let c2_i32_110 : BitVec 32 := 2#32
  let c2_i32_61 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c8_i32 : BitVec 32 := 8#32
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let v85 : BitVec 32 := Scalar.divsi v84 c8_i32
  let c1_i32_55 : BitVec 32 := 1#32
  let v100 : BitVec 32 := Scalar.subi v85 c1_i32_55
  let v101 : BitVec 32 := Scalar.select v99 v100 v85
  let v107 : BitVec 32 := Scalar.muli c2_i32_61 v101
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v125 : BitVec 32 := Scalar.subi v124 v107
  let c1_i32_69 : BitVec 32 := 1#32
  let v127 : BitVec 32 := Scalar.divsi v125 c1_i32_69
  let v128 : BitVec 32 := Scalar.muli v127 c1_i32_69
  let v129 : BitVec 32 := Scalar.addi v107 v128
  let c1_i32_71 : BitVec 32 := 1#32
  let arg25 : BitVec 32 := Scf.iv v129 c1_i32_71 k0_t4
  let v196 : BitVec 32 := Scalar.muli c2_i32_110 arg25
  let c1_i32_111 : BitVec 32 := 1#32
  let v197 : BitVec 32 := Scalar.addi v196 c1_i32_111
  let v478 : BitVec 32 := Scalar.muli c2_i32_273 v197
  let c1_i32_274 : BitVec 32 := 1#32
  let v479 : BitVec 32 := Scalar.addi v478 c1_i32_274
  let v721 : BitVec 32 := Scalar.muli c2_i32_414 v479
  let c1_i32_415 : BitVec 32 := 1#32
  let v722 : BitVec 32 := Scalar.addi v721 c1_i32_415
  let c512_i32_416 : BitVec 32 := 512#32
  let v723 : BitVec 32 := Scalar.muli v722 c512_i32_416
  v723
@[reducible] def k0_t5_loop (i : grid0.Coords) : Scf.Loop 32 :=
  let c2_i32_72 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v130 : BitVec 32 := Scalar.muli c2_i32_72 v124
  let c0_i32_74 : BitVec 32 := 0#32
  let v132 : BitVec 1 := Scalar.cmpi .sgt v84 c0_i32_74
  let v133 : BitVec 32 := Scalar.extui v132
  let c0_i32_75 : BitVec 32 := 0#32
  let v134 : BitVec 1 := Scalar.cmpi .slt v84 c0_i32_75
  let v135 : BitVec 32 := Scalar.extui v134
  let v136 : BitVec 32 := Scalar.subi v133 v135
  let c2_i32_73 : BitVec 32 := 2#32
  let c0_i32_76 : BitVec 32 := 0#32
  let v137 : BitVec 1 := Scalar.cmpi .sgt c2_i32_73 c0_i32_76
  let v138 : BitVec 32 := Scalar.extui v137
  let c0_i32_77 : BitVec 32 := 0#32
  let v139 : BitVec 1 := Scalar.cmpi .slt c2_i32_73 c0_i32_77
  let v140 : BitVec 32 := Scalar.extui v139
  let v141 : BitVec 32 := Scalar.subi v138 v140
  let v142 : BitVec 1 := Scalar.cmpi .ne v136 v141
  let v143 : BitVec 32 := Scalar.remsi v84 c2_i32_73
  let c0_i32_78 : BitVec 32 := 0#32
  let v144 : BitVec 1 := Scalar.cmpi .ne v143 c0_i32_78
  let v145 : BitVec 1 := Scalar.andi v142 v144
  let v131 : BitVec 32 := Scalar.divsi v84 c2_i32_73
  let c1_i32_79 : BitVec 32 := 1#32
  let v146 : BitVec 32 := Scalar.subi v131 c1_i32_79
  let v147 : BitVec 32 := Scalar.select v145 v146 v131
  let v148 : BitVec 32 := Scalar.subi v147 v130
  let c1_i32_81 : BitVec 32 := 1#32
  let v150 : BitVec 32 := Scalar.divsi v148 c1_i32_81
  let v151 : BitVec 32 := Scalar.muli v150 c1_i32_81
  let v152 : BitVec 32 := Scalar.addi v130 v151
  let c1_i32_82 : BitVec 32 := 1#32
  ⟨v130, v152, c1_i32_82⟩
def k0_mult147 (i : grid0.Coords) (k0_t5 : Fin (k0_t5_loop i).trips) : BitVec 32 :=
  let c2_i32_113 : BitVec 32 := 2#32
  let c2_i32_112 : BitVec 32 := 2#32
  let c2_i32_72 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v130 : BitVec 32 := Scalar.muli c2_i32_72 v124
  let c1_i32_82 : BitVec 32 := 1#32
  let arg25 : BitVec 32 := Scf.iv v130 c1_i32_82 k0_t5
  let v198 : BitVec 32 := Scalar.muli c2_i32_112 arg25
  let v199 : BitVec 32 := Scalar.muli c2_i32_113 v198
  let c1_i32_114 : BitVec 32 := 1#32
  let v200 : BitVec 32 := Scalar.addi v199 c1_i32_114
  let c512_i32 : BitVec 32 := 512#32
  let v201 : BitVec 32 := Scalar.muli v200 c512_i32
  v201
def k0_off204 (i : grid0.Coords) (k0_t5 : Fin (k0_t5_loop i).trips) : Fin 2 → Nat :=
  let c2_i32_113 : BitVec 32 := 2#32
  let c2_i32_112 : BitVec 32 := 2#32
  let c2_i32_72 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v130 : BitVec 32 := Scalar.muli c2_i32_72 v124
  let c1_i32_82 : BitVec 32 := 1#32
  let arg25 : BitVec 32 := Scf.iv v130 c1_i32_82 k0_t5
  let v198 : BitVec 32 := Scalar.muli c2_i32_112 arg25
  let v199 : BitVec 32 := Scalar.muli c2_i32_113 v198
  let c1_i32_114 : BitVec 32 := 1#32
  let v200 : BitVec 32 := Scalar.addi v199 c1_i32_114
  let c512_i32 : BitVec 32 := 512#32
  let v201 : BitVec 32 := Scalar.muli v200 c512_i32
  let v202 : BitVec 32 := v201
  let v203 : Index := Scalar.indexCast v202
  let c0_115 : Index := 0#32
  ![v203.toNat, 0]
def k0_off205 (i : grid0.Coords) (k0_t5 : Fin (k0_t5_loop i).trips) : Fin 3 → Nat :=
  let c2_i32_113 : BitVec 32 := 2#32
  let c2_i32_112 : BitVec 32 := 2#32
  let c2_i32_72 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v130 : BitVec 32 := Scalar.muli c2_i32_72 v124
  let c1_i32_82 : BitVec 32 := 1#32
  let arg25 : BitVec 32 := Scf.iv v130 c1_i32_82 k0_t5
  let v198 : BitVec 32 := Scalar.muli c2_i32_112 arg25
  let v199 : BitVec 32 := Scalar.muli c2_i32_113 v198
  let c1_i32_114 : BitVec 32 := 1#32
  let v200 : BitVec 32 := Scalar.addi v199 c1_i32_114
  let v208 : BitVec 1 := Scalar.cmpi .eq v200 arg1
  let v209 : BitVec 32 := Scalar.extui v208
  let v210 : Index := Scalar.indexCast v209
  let c0_118 : Index := 0#32
  let c0_119 : Index := 0#32
  ![v210.toNat, 0, 0]
def k0_mult148 (i : grid0.Coords) (k0_t5 : Fin (k0_t5_loop i).trips) : BitVec 32 :=
  let c2_i32_113 : BitVec 32 := 2#32
  let c2_i32_112 : BitVec 32 := 2#32
  let c2_i32_72 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v130 : BitVec 32 := Scalar.muli c2_i32_72 v124
  let c1_i32_82 : BitVec 32 := 1#32
  let arg25 : BitVec 32 := Scf.iv v130 c1_i32_82 k0_t5
  let v198 : BitVec 32 := Scalar.muli c2_i32_112 arg25
  let v199 : BitVec 32 := Scalar.muli c2_i32_113 v198
  let c1_i32_114 : BitVec 32 := 1#32
  let v200 : BitVec 32 := Scalar.addi v199 c1_i32_114
  let c512_i32_125 : BitVec 32 := 512#32
  let v221 : BitVec 32 := Scalar.muli v200 c512_i32_125
  v221
def k0_off206 (i : grid0.Coords) (k0_t5 : Fin (k0_t5_loop i).trips) : Fin 2 → Nat :=
  let c2_i32_113 : BitVec 32 := 2#32
  let c2_i32_112 : BitVec 32 := 2#32
  let c2_i32_72 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v130 : BitVec 32 := Scalar.muli c2_i32_72 v124
  let c1_i32_82 : BitVec 32 := 1#32
  let arg25 : BitVec 32 := Scf.iv v130 c1_i32_82 k0_t5
  let v198 : BitVec 32 := Scalar.muli c2_i32_112 arg25
  let v199 : BitVec 32 := Scalar.muli c2_i32_113 v198
  let c1_i32_114 : BitVec 32 := 1#32
  let v200 : BitVec 32 := Scalar.addi v199 c1_i32_114
  let c512_i32_125 : BitVec 32 := 512#32
  let v221 : BitVec 32 := Scalar.muli v200 c512_i32_125
  let v222 : BitVec 32 := v221
  let v223 : Index := Scalar.indexCast v222
  let c0_126 : Index := 0#32
  ![v223.toNat, 0]
def k0_mult149 (i : grid0.Coords) (k0_t5 : Fin (k0_t5_loop i).trips) : BitVec 32 :=
  let c2_i32_132 : BitVec 32 := 2#32
  let c2_i32_112 : BitVec 32 := 2#32
  let c2_i32_72 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v130 : BitVec 32 := Scalar.muli c2_i32_72 v124
  let c1_i32_82 : BitVec 32 := 1#32
  let arg25 : BitVec 32 := Scf.iv v130 c1_i32_82 k0_t5
  let v198 : BitVec 32 := Scalar.muli c2_i32_112 arg25
  let v232 : BitVec 32 := Scalar.muli c2_i32_132 v198
  let c512_i32_133 : BitVec 32 := 512#32
  let v233 : BitVec 32 := Scalar.muli v232 c512_i32_133
  v233
def k0_off207 (i : grid0.Coords) (k0_t5 : Fin (k0_t5_loop i).trips) : Fin 2 → Nat :=
  let c2_i32_132 : BitVec 32 := 2#32
  let c2_i32_112 : BitVec 32 := 2#32
  let c2_i32_72 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v130 : BitVec 32 := Scalar.muli c2_i32_72 v124
  let c1_i32_82 : BitVec 32 := 1#32
  let arg25 : BitVec 32 := Scf.iv v130 c1_i32_82 k0_t5
  let v198 : BitVec 32 := Scalar.muli c2_i32_112 arg25
  let v232 : BitVec 32 := Scalar.muli c2_i32_132 v198
  let c512_i32_133 : BitVec 32 := 512#32
  let v233 : BitVec 32 := Scalar.muli v232 c512_i32_133
  let v234 : BitVec 32 := v233
  let v244 : Index := Scalar.indexCast v234
  let c0_141 : Index := 0#32
  ![v244.toNat, 0]
def k0_off208 (i : grid0.Coords) (k0_t5 : Fin (k0_t5_loop i).trips) : Fin 2 → Nat :=
  let c2_i32_132 : BitVec 32 := 2#32
  let c2_i32_112 : BitVec 32 := 2#32
  let c2_i32_72 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v130 : BitVec 32 := Scalar.muli c2_i32_72 v124
  let c1_i32_82 : BitVec 32 := 1#32
  let arg25 : BitVec 32 := Scf.iv v130 c1_i32_82 k0_t5
  let v198 : BitVec 32 := Scalar.muli c2_i32_112 arg25
  let v232 : BitVec 32 := Scalar.muli c2_i32_132 v198
  let c512_i32_133 : BitVec 32 := 512#32
  let v233 : BitVec 32 := Scalar.muli v232 c512_i32_133
  let v234 : BitVec 32 := v233
  let v259 : Index := Scalar.indexCast v234
  let c0_148 : Index := 0#32
  ![v259.toNat, 0]
def k0_mult150 (i : grid0.Coords) (k0_t5 : Fin (k0_t5_loop i).trips) : BitVec 32 :=
  let c2_i32_151 : BitVec 32 := 2#32
  let c2_i32_112 : BitVec 32 := 2#32
  let c2_i32_72 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v130 : BitVec 32 := Scalar.muli c2_i32_72 v124
  let c1_i32_82 : BitVec 32 := 1#32
  let arg25 : BitVec 32 := Scf.iv v130 c1_i32_82 k0_t5
  let v198 : BitVec 32 := Scalar.muli c2_i32_112 arg25
  let v267 : BitVec 32 := Scalar.muli c2_i32_151 v198
  let c2_i32_152 : BitVec 32 := 2#32
  let v268 : BitVec 32 := Scalar.addi v267 c2_i32_152
  let v269 : BitVec 32 := Scalar.minsi v268 arg1
  let c512_i32_153 : BitVec 32 := 512#32
  let v270 : BitVec 32 := Scalar.muli v269 c512_i32_153
  v270
def k0_off209 (i : grid0.Coords) (k0_t5 : Fin (k0_t5_loop i).trips) : Fin 2 → Nat :=
  let c2_i32_151 : BitVec 32 := 2#32
  let c2_i32_112 : BitVec 32 := 2#32
  let c2_i32_72 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v130 : BitVec 32 := Scalar.muli c2_i32_72 v124
  let c1_i32_82 : BitVec 32 := 1#32
  let arg25 : BitVec 32 := Scf.iv v130 c1_i32_82 k0_t5
  let v198 : BitVec 32 := Scalar.muli c2_i32_112 arg25
  let v267 : BitVec 32 := Scalar.muli c2_i32_151 v198
  let c2_i32_152 : BitVec 32 := 2#32
  let v268 : BitVec 32 := Scalar.addi v267 c2_i32_152
  let v269 : BitVec 32 := Scalar.minsi v268 arg1
  let c512_i32_153 : BitVec 32 := 512#32
  let v270 : BitVec 32 := Scalar.muli v269 c512_i32_153
  let v271 : BitVec 32 := v270
  let v272 : Index := Scalar.indexCast v271
  let c0_154 : Index := 0#32
  ![v272.toNat, 0]
def k0_off210 (i : grid0.Coords) (k0_t5 : Fin (k0_t5_loop i).trips) : Fin 3 → Nat :=
  let c2_i32_151 : BitVec 32 := 2#32
  let c2_i32_112 : BitVec 32 := 2#32
  let c2_i32_72 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v130 : BitVec 32 := Scalar.muli c2_i32_72 v124
  let c1_i32_82 : BitVec 32 := 1#32
  let arg25 : BitVec 32 := Scf.iv v130 c1_i32_82 k0_t5
  let v198 : BitVec 32 := Scalar.muli c2_i32_112 arg25
  let v267 : BitVec 32 := Scalar.muli c2_i32_151 v198
  let c2_i32_152 : BitVec 32 := 2#32
  let v268 : BitVec 32 := Scalar.addi v267 c2_i32_152
  let v269 : BitVec 32 := Scalar.minsi v268 arg1
  let v277 : BitVec 1 := Scalar.cmpi .eq v269 arg1
  let v278 : BitVec 32 := Scalar.extui v277
  let v279 : Index := Scalar.indexCast v278
  let c0_157 : Index := 0#32
  let c0_158 : Index := 0#32
  ![v279.toNat, 0, 0]
def k0_mult151 (i : grid0.Coords) (k0_t5 : Fin (k0_t5_loop i).trips) : BitVec 32 :=
  let c2_i32_151 : BitVec 32 := 2#32
  let c2_i32_112 : BitVec 32 := 2#32
  let c2_i32_72 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v130 : BitVec 32 := Scalar.muli c2_i32_72 v124
  let c1_i32_82 : BitVec 32 := 1#32
  let arg25 : BitVec 32 := Scf.iv v130 c1_i32_82 k0_t5
  let v198 : BitVec 32 := Scalar.muli c2_i32_112 arg25
  let v267 : BitVec 32 := Scalar.muli c2_i32_151 v198
  let c2_i32_152 : BitVec 32 := 2#32
  let v268 : BitVec 32 := Scalar.addi v267 c2_i32_152
  let v269 : BitVec 32 := Scalar.minsi v268 arg1
  let c512_i32_164 : BitVec 32 := 512#32
  let v290 : BitVec 32 := Scalar.muli v269 c512_i32_164
  v290
def k0_off211 (i : grid0.Coords) (k0_t5 : Fin (k0_t5_loop i).trips) : Fin 2 → Nat :=
  let c2_i32_151 : BitVec 32 := 2#32
  let c2_i32_112 : BitVec 32 := 2#32
  let c2_i32_72 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v130 : BitVec 32 := Scalar.muli c2_i32_72 v124
  let c1_i32_82 : BitVec 32 := 1#32
  let arg25 : BitVec 32 := Scf.iv v130 c1_i32_82 k0_t5
  let v198 : BitVec 32 := Scalar.muli c2_i32_112 arg25
  let v267 : BitVec 32 := Scalar.muli c2_i32_151 v198
  let c2_i32_152 : BitVec 32 := 2#32
  let v268 : BitVec 32 := Scalar.addi v267 c2_i32_152
  let v269 : BitVec 32 := Scalar.minsi v268 arg1
  let c512_i32_164 : BitVec 32 := 512#32
  let v290 : BitVec 32 := Scalar.muli v269 c512_i32_164
  let v291 : BitVec 32 := v290
  let v292 : Index := Scalar.indexCast v291
  let c0_165 : Index := 0#32
  ![v292.toNat, 0]
def k0_mult152 (i : grid0.Coords) (k0_t5 : Fin (k0_t5_loop i).trips) : BitVec 32 :=
  let c2_i32_171 : BitVec 32 := 2#32
  let c2_i32_112 : BitVec 32 := 2#32
  let c2_i32_72 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v130 : BitVec 32 := Scalar.muli c2_i32_72 v124
  let c1_i32_82 : BitVec 32 := 1#32
  let arg25 : BitVec 32 := Scf.iv v130 c1_i32_82 k0_t5
  let v198 : BitVec 32 := Scalar.muli c2_i32_112 arg25
  let v301 : BitVec 32 := Scalar.muli c2_i32_171 v198
  let c1_i32_172 : BitVec 32 := 1#32
  let v302 : BitVec 32 := Scalar.addi v301 c1_i32_172
  let c512_i32_173 : BitVec 32 := 512#32
  let v303 : BitVec 32 := Scalar.muli v302 c512_i32_173
  v303
def k0_mult153 (i : grid0.Coords) (k0_t5 : Fin (k0_t5_loop i).trips) : BitVec 32 :=
  let c2_i32_191 : BitVec 32 := 2#32
  let c2_i32_110 : BitVec 32 := 2#32
  let c2_i32_72 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v130 : BitVec 32 := Scalar.muli c2_i32_72 v124
  let c1_i32_82 : BitVec 32 := 1#32
  let arg25 : BitVec 32 := Scf.iv v130 c1_i32_82 k0_t5
  let v196 : BitVec 32 := Scalar.muli c2_i32_110 arg25
  let c1_i32_111 : BitVec 32 := 1#32
  let v197 : BitVec 32 := Scalar.addi v196 c1_i32_111
  let v337 : BitVec 32 := Scalar.muli c2_i32_191 v197
  let c1_i32_192 : BitVec 32 := 1#32
  let v338 : BitVec 32 := Scalar.addi v337 c1_i32_192
  let c512_i32_193 : BitVec 32 := 512#32
  let v339 : BitVec 32 := Scalar.muli v338 c512_i32_193
  v339
def k0_off212 (i : grid0.Coords) (k0_t5 : Fin (k0_t5_loop i).trips) : Fin 2 → Nat :=
  let c2_i32_191 : BitVec 32 := 2#32
  let c2_i32_110 : BitVec 32 := 2#32
  let c2_i32_72 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v130 : BitVec 32 := Scalar.muli c2_i32_72 v124
  let c1_i32_82 : BitVec 32 := 1#32
  let arg25 : BitVec 32 := Scf.iv v130 c1_i32_82 k0_t5
  let v196 : BitVec 32 := Scalar.muli c2_i32_110 arg25
  let c1_i32_111 : BitVec 32 := 1#32
  let v197 : BitVec 32 := Scalar.addi v196 c1_i32_111
  let v337 : BitVec 32 := Scalar.muli c2_i32_191 v197
  let c1_i32_192 : BitVec 32 := 1#32
  let v338 : BitVec 32 := Scalar.addi v337 c1_i32_192
  let c512_i32_193 : BitVec 32 := 512#32
  let v339 : BitVec 32 := Scalar.muli v338 c512_i32_193
  let v340 : BitVec 32 := v339
  let v341 : Index := Scalar.indexCast v340
  let c0_194 : Index := 0#32
  ![v341.toNat, 0]
def k0_off213 (i : grid0.Coords) (k0_t5 : Fin (k0_t5_loop i).trips) : Fin 3 → Nat :=
  let c2_i32_191 : BitVec 32 := 2#32
  let c2_i32_110 : BitVec 32 := 2#32
  let c2_i32_72 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v130 : BitVec 32 := Scalar.muli c2_i32_72 v124
  let c1_i32_82 : BitVec 32 := 1#32
  let arg25 : BitVec 32 := Scf.iv v130 c1_i32_82 k0_t5
  let v196 : BitVec 32 := Scalar.muli c2_i32_110 arg25
  let c1_i32_111 : BitVec 32 := 1#32
  let v197 : BitVec 32 := Scalar.addi v196 c1_i32_111
  let v337 : BitVec 32 := Scalar.muli c2_i32_191 v197
  let c1_i32_192 : BitVec 32 := 1#32
  let v338 : BitVec 32 := Scalar.addi v337 c1_i32_192
  let v346 : BitVec 1 := Scalar.cmpi .eq v338 arg1
  let v347 : BitVec 32 := Scalar.extui v346
  let v348 : Index := Scalar.indexCast v347
  let c0_197 : Index := 0#32
  let c0_198 : Index := 0#32
  ![v348.toNat, 0, 0]
def k0_mult154 (i : grid0.Coords) (k0_t5 : Fin (k0_t5_loop i).trips) : BitVec 32 :=
  let c2_i32_191 : BitVec 32 := 2#32
  let c2_i32_110 : BitVec 32 := 2#32
  let c2_i32_72 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v130 : BitVec 32 := Scalar.muli c2_i32_72 v124
  let c1_i32_82 : BitVec 32 := 1#32
  let arg25 : BitVec 32 := Scf.iv v130 c1_i32_82 k0_t5
  let v196 : BitVec 32 := Scalar.muli c2_i32_110 arg25
  let c1_i32_111 : BitVec 32 := 1#32
  let v197 : BitVec 32 := Scalar.addi v196 c1_i32_111
  let v337 : BitVec 32 := Scalar.muli c2_i32_191 v197
  let c1_i32_192 : BitVec 32 := 1#32
  let v338 : BitVec 32 := Scalar.addi v337 c1_i32_192
  let c512_i32_204 : BitVec 32 := 512#32
  let v359 : BitVec 32 := Scalar.muli v338 c512_i32_204
  v359
def k0_off214 (i : grid0.Coords) (k0_t5 : Fin (k0_t5_loop i).trips) : Fin 2 → Nat :=
  let c2_i32_191 : BitVec 32 := 2#32
  let c2_i32_110 : BitVec 32 := 2#32
  let c2_i32_72 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v130 : BitVec 32 := Scalar.muli c2_i32_72 v124
  let c1_i32_82 : BitVec 32 := 1#32
  let arg25 : BitVec 32 := Scf.iv v130 c1_i32_82 k0_t5
  let v196 : BitVec 32 := Scalar.muli c2_i32_110 arg25
  let c1_i32_111 : BitVec 32 := 1#32
  let v197 : BitVec 32 := Scalar.addi v196 c1_i32_111
  let v337 : BitVec 32 := Scalar.muli c2_i32_191 v197
  let c1_i32_192 : BitVec 32 := 1#32
  let v338 : BitVec 32 := Scalar.addi v337 c1_i32_192
  let c512_i32_204 : BitVec 32 := 512#32
  let v359 : BitVec 32 := Scalar.muli v338 c512_i32_204
  let v360 : BitVec 32 := v359
  let v361 : Index := Scalar.indexCast v360
  let c0_205 : Index := 0#32
  ![v361.toNat, 0]
def k0_mult155 (i : grid0.Coords) (k0_t5 : Fin (k0_t5_loop i).trips) : BitVec 32 :=
  let c2_i32_211 : BitVec 32 := 2#32
  let c2_i32_110 : BitVec 32 := 2#32
  let c2_i32_72 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v130 : BitVec 32 := Scalar.muli c2_i32_72 v124
  let c1_i32_82 : BitVec 32 := 1#32
  let arg25 : BitVec 32 := Scf.iv v130 c1_i32_82 k0_t5
  let v196 : BitVec 32 := Scalar.muli c2_i32_110 arg25
  let c1_i32_111 : BitVec 32 := 1#32
  let v197 : BitVec 32 := Scalar.addi v196 c1_i32_111
  let v370 : BitVec 32 := Scalar.muli c2_i32_211 v197
  let c512_i32_212 : BitVec 32 := 512#32
  let v371 : BitVec 32 := Scalar.muli v370 c512_i32_212
  v371
def k0_off215 (i : grid0.Coords) (k0_t5 : Fin (k0_t5_loop i).trips) : Fin 2 → Nat :=
  let c2_i32_211 : BitVec 32 := 2#32
  let c2_i32_110 : BitVec 32 := 2#32
  let c2_i32_72 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v130 : BitVec 32 := Scalar.muli c2_i32_72 v124
  let c1_i32_82 : BitVec 32 := 1#32
  let arg25 : BitVec 32 := Scf.iv v130 c1_i32_82 k0_t5
  let v196 : BitVec 32 := Scalar.muli c2_i32_110 arg25
  let c1_i32_111 : BitVec 32 := 1#32
  let v197 : BitVec 32 := Scalar.addi v196 c1_i32_111
  let v370 : BitVec 32 := Scalar.muli c2_i32_211 v197
  let c512_i32_212 : BitVec 32 := 512#32
  let v371 : BitVec 32 := Scalar.muli v370 c512_i32_212
  let v372 : BitVec 32 := v371
  let v382 : Index := Scalar.indexCast v372
  let c0_220 : Index := 0#32
  ![v382.toNat, 0]
def k0_off216 (i : grid0.Coords) (k0_t5 : Fin (k0_t5_loop i).trips) : Fin 2 → Nat :=
  let c2_i32_211 : BitVec 32 := 2#32
  let c2_i32_110 : BitVec 32 := 2#32
  let c2_i32_72 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v130 : BitVec 32 := Scalar.muli c2_i32_72 v124
  let c1_i32_82 : BitVec 32 := 1#32
  let arg25 : BitVec 32 := Scf.iv v130 c1_i32_82 k0_t5
  let v196 : BitVec 32 := Scalar.muli c2_i32_110 arg25
  let c1_i32_111 : BitVec 32 := 1#32
  let v197 : BitVec 32 := Scalar.addi v196 c1_i32_111
  let v370 : BitVec 32 := Scalar.muli c2_i32_211 v197
  let c512_i32_212 : BitVec 32 := 512#32
  let v371 : BitVec 32 := Scalar.muli v370 c512_i32_212
  let v372 : BitVec 32 := v371
  let v397 : Index := Scalar.indexCast v372
  let c0_227 : Index := 0#32
  ![v397.toNat, 0]
def k0_mult156 (i : grid0.Coords) (k0_t5 : Fin (k0_t5_loop i).trips) : BitVec 32 :=
  let c2_i32_230 : BitVec 32 := 2#32
  let c2_i32_110 : BitVec 32 := 2#32
  let c2_i32_72 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v130 : BitVec 32 := Scalar.muli c2_i32_72 v124
  let c1_i32_82 : BitVec 32 := 1#32
  let arg25 : BitVec 32 := Scf.iv v130 c1_i32_82 k0_t5
  let v196 : BitVec 32 := Scalar.muli c2_i32_110 arg25
  let c1_i32_111 : BitVec 32 := 1#32
  let v197 : BitVec 32 := Scalar.addi v196 c1_i32_111
  let v405 : BitVec 32 := Scalar.muli c2_i32_230 v197
  let c2_i32_231 : BitVec 32 := 2#32
  let v406 : BitVec 32 := Scalar.addi v405 c2_i32_231
  let v407 : BitVec 32 := Scalar.minsi v406 arg1
  let c512_i32_232 : BitVec 32 := 512#32
  let v408 : BitVec 32 := Scalar.muli v407 c512_i32_232
  v408
def k0_off217 (i : grid0.Coords) (k0_t5 : Fin (k0_t5_loop i).trips) : Fin 2 → Nat :=
  let c2_i32_230 : BitVec 32 := 2#32
  let c2_i32_110 : BitVec 32 := 2#32
  let c2_i32_72 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v130 : BitVec 32 := Scalar.muli c2_i32_72 v124
  let c1_i32_82 : BitVec 32 := 1#32
  let arg25 : BitVec 32 := Scf.iv v130 c1_i32_82 k0_t5
  let v196 : BitVec 32 := Scalar.muli c2_i32_110 arg25
  let c1_i32_111 : BitVec 32 := 1#32
  let v197 : BitVec 32 := Scalar.addi v196 c1_i32_111
  let v405 : BitVec 32 := Scalar.muli c2_i32_230 v197
  let c2_i32_231 : BitVec 32 := 2#32
  let v406 : BitVec 32 := Scalar.addi v405 c2_i32_231
  let v407 : BitVec 32 := Scalar.minsi v406 arg1
  let c512_i32_232 : BitVec 32 := 512#32
  let v408 : BitVec 32 := Scalar.muli v407 c512_i32_232
  let v409 : BitVec 32 := v408
  let v410 : Index := Scalar.indexCast v409
  let c0_233 : Index := 0#32
  ![v410.toNat, 0]
def k0_off218 (i : grid0.Coords) (k0_t5 : Fin (k0_t5_loop i).trips) : Fin 3 → Nat :=
  let c2_i32_230 : BitVec 32 := 2#32
  let c2_i32_110 : BitVec 32 := 2#32
  let c2_i32_72 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v130 : BitVec 32 := Scalar.muli c2_i32_72 v124
  let c1_i32_82 : BitVec 32 := 1#32
  let arg25 : BitVec 32 := Scf.iv v130 c1_i32_82 k0_t5
  let v196 : BitVec 32 := Scalar.muli c2_i32_110 arg25
  let c1_i32_111 : BitVec 32 := 1#32
  let v197 : BitVec 32 := Scalar.addi v196 c1_i32_111
  let v405 : BitVec 32 := Scalar.muli c2_i32_230 v197
  let c2_i32_231 : BitVec 32 := 2#32
  let v406 : BitVec 32 := Scalar.addi v405 c2_i32_231
  let v407 : BitVec 32 := Scalar.minsi v406 arg1
  let v415 : BitVec 1 := Scalar.cmpi .eq v407 arg1
  let v416 : BitVec 32 := Scalar.extui v415
  let v417 : Index := Scalar.indexCast v416
  let c0_236 : Index := 0#32
  let c0_237 : Index := 0#32
  ![v417.toNat, 0, 0]
def k0_mult157 (i : grid0.Coords) (k0_t5 : Fin (k0_t5_loop i).trips) : BitVec 32 :=
  let c2_i32_230 : BitVec 32 := 2#32
  let c2_i32_110 : BitVec 32 := 2#32
  let c2_i32_72 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v130 : BitVec 32 := Scalar.muli c2_i32_72 v124
  let c1_i32_82 : BitVec 32 := 1#32
  let arg25 : BitVec 32 := Scf.iv v130 c1_i32_82 k0_t5
  let v196 : BitVec 32 := Scalar.muli c2_i32_110 arg25
  let c1_i32_111 : BitVec 32 := 1#32
  let v197 : BitVec 32 := Scalar.addi v196 c1_i32_111
  let v405 : BitVec 32 := Scalar.muli c2_i32_230 v197
  let c2_i32_231 : BitVec 32 := 2#32
  let v406 : BitVec 32 := Scalar.addi v405 c2_i32_231
  let v407 : BitVec 32 := Scalar.minsi v406 arg1
  let c512_i32_243 : BitVec 32 := 512#32
  let v428 : BitVec 32 := Scalar.muli v407 c512_i32_243
  v428
def k0_off219 (i : grid0.Coords) (k0_t5 : Fin (k0_t5_loop i).trips) : Fin 2 → Nat :=
  let c2_i32_230 : BitVec 32 := 2#32
  let c2_i32_110 : BitVec 32 := 2#32
  let c2_i32_72 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v130 : BitVec 32 := Scalar.muli c2_i32_72 v124
  let c1_i32_82 : BitVec 32 := 1#32
  let arg25 : BitVec 32 := Scf.iv v130 c1_i32_82 k0_t5
  let v196 : BitVec 32 := Scalar.muli c2_i32_110 arg25
  let c1_i32_111 : BitVec 32 := 1#32
  let v197 : BitVec 32 := Scalar.addi v196 c1_i32_111
  let v405 : BitVec 32 := Scalar.muli c2_i32_230 v197
  let c2_i32_231 : BitVec 32 := 2#32
  let v406 : BitVec 32 := Scalar.addi v405 c2_i32_231
  let v407 : BitVec 32 := Scalar.minsi v406 arg1
  let c512_i32_243 : BitVec 32 := 512#32
  let v428 : BitVec 32 := Scalar.muli v407 c512_i32_243
  let v429 : BitVec 32 := v428
  let v430 : Index := Scalar.indexCast v429
  let c0_244 : Index := 0#32
  ![v430.toNat, 0]
def k0_mult158 (i : grid0.Coords) (k0_t5 : Fin (k0_t5_loop i).trips) : BitVec 32 :=
  let c2_i32_250 : BitVec 32 := 2#32
  let c2_i32_110 : BitVec 32 := 2#32
  let c2_i32_72 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v130 : BitVec 32 := Scalar.muli c2_i32_72 v124
  let c1_i32_82 : BitVec 32 := 1#32
  let arg25 : BitVec 32 := Scf.iv v130 c1_i32_82 k0_t5
  let v196 : BitVec 32 := Scalar.muli c2_i32_110 arg25
  let c1_i32_111 : BitVec 32 := 1#32
  let v197 : BitVec 32 := Scalar.addi v196 c1_i32_111
  let v439 : BitVec 32 := Scalar.muli c2_i32_250 v197
  let c1_i32_251 : BitVec 32 := 1#32
  let v440 : BitVec 32 := Scalar.addi v439 c1_i32_251
  let c512_i32_252 : BitVec 32 := 512#32
  let v441 : BitVec 32 := Scalar.muli v440 c512_i32_252
  v441
@[reducible] def k0_t6_loop (i : grid0.Coords) : Scf.Loop 32 :=
  let c2_i32_72 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v130 : BitVec 32 := Scalar.muli c2_i32_72 v124
  let c0_i32_74 : BitVec 32 := 0#32
  let v132 : BitVec 1 := Scalar.cmpi .sgt v84 c0_i32_74
  let v133 : BitVec 32 := Scalar.extui v132
  let c0_i32_75 : BitVec 32 := 0#32
  let v134 : BitVec 1 := Scalar.cmpi .slt v84 c0_i32_75
  let v135 : BitVec 32 := Scalar.extui v134
  let v136 : BitVec 32 := Scalar.subi v133 v135
  let c2_i32_73 : BitVec 32 := 2#32
  let c0_i32_76 : BitVec 32 := 0#32
  let v137 : BitVec 1 := Scalar.cmpi .sgt c2_i32_73 c0_i32_76
  let v138 : BitVec 32 := Scalar.extui v137
  let c0_i32_77 : BitVec 32 := 0#32
  let v139 : BitVec 1 := Scalar.cmpi .slt c2_i32_73 c0_i32_77
  let v140 : BitVec 32 := Scalar.extui v139
  let v141 : BitVec 32 := Scalar.subi v138 v140
  let v142 : BitVec 1 := Scalar.cmpi .ne v136 v141
  let v143 : BitVec 32 := Scalar.remsi v84 c2_i32_73
  let c0_i32_78 : BitVec 32 := 0#32
  let v144 : BitVec 1 := Scalar.cmpi .ne v143 c0_i32_78
  let v145 : BitVec 1 := Scalar.andi v142 v144
  let v131 : BitVec 32 := Scalar.divsi v84 c2_i32_73
  let c1_i32_79 : BitVec 32 := 1#32
  let v146 : BitVec 32 := Scalar.subi v131 c1_i32_79
  let v147 : BitVec 32 := Scalar.select v145 v146 v131
  let v148 : BitVec 32 := Scalar.subi v147 v130
  let c1_i32_81 : BitVec 32 := 1#32
  let v150 : BitVec 32 := Scalar.divsi v148 c1_i32_81
  let v151 : BitVec 32 := Scalar.muli v150 c1_i32_81
  let v152 : BitVec 32 := Scalar.addi v130 v151
  let v149 : BitVec 32 := Scalar.addi v130 v148
  let c1_i32_83 : BitVec 32 := 1#32
  ⟨v152, v149, c1_i32_83⟩
def k0_mult159 (i : grid0.Coords) (k0_t6 : Fin (k0_t6_loop i).trips) : BitVec 32 :=
  let c2_i32_113 : BitVec 32 := 2#32
  let c2_i32_112 : BitVec 32 := 2#32
  let c2_i32_72 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v130 : BitVec 32 := Scalar.muli c2_i32_72 v124
  let c0_i32_74 : BitVec 32 := 0#32
  let v132 : BitVec 1 := Scalar.cmpi .sgt v84 c0_i32_74
  let v133 : BitVec 32 := Scalar.extui v132
  let c0_i32_75 : BitVec 32 := 0#32
  let v134 : BitVec 1 := Scalar.cmpi .slt v84 c0_i32_75
  let v135 : BitVec 32 := Scalar.extui v134
  let v136 : BitVec 32 := Scalar.subi v133 v135
  let c2_i32_73 : BitVec 32 := 2#32
  let c0_i32_76 : BitVec 32 := 0#32
  let v137 : BitVec 1 := Scalar.cmpi .sgt c2_i32_73 c0_i32_76
  let v138 : BitVec 32 := Scalar.extui v137
  let c0_i32_77 : BitVec 32 := 0#32
  let v139 : BitVec 1 := Scalar.cmpi .slt c2_i32_73 c0_i32_77
  let v140 : BitVec 32 := Scalar.extui v139
  let v141 : BitVec 32 := Scalar.subi v138 v140
  let v142 : BitVec 1 := Scalar.cmpi .ne v136 v141
  let v143 : BitVec 32 := Scalar.remsi v84 c2_i32_73
  let c0_i32_78 : BitVec 32 := 0#32
  let v144 : BitVec 1 := Scalar.cmpi .ne v143 c0_i32_78
  let v145 : BitVec 1 := Scalar.andi v142 v144
  let v131 : BitVec 32 := Scalar.divsi v84 c2_i32_73
  let c1_i32_79 : BitVec 32 := 1#32
  let v146 : BitVec 32 := Scalar.subi v131 c1_i32_79
  let v147 : BitVec 32 := Scalar.select v145 v146 v131
  let v148 : BitVec 32 := Scalar.subi v147 v130
  let c1_i32_81 : BitVec 32 := 1#32
  let v150 : BitVec 32 := Scalar.divsi v148 c1_i32_81
  let v151 : BitVec 32 := Scalar.muli v150 c1_i32_81
  let v152 : BitVec 32 := Scalar.addi v130 v151
  let c1_i32_83 : BitVec 32 := 1#32
  let arg25 : BitVec 32 := Scf.iv v152 c1_i32_83 k0_t6
  let v198 : BitVec 32 := Scalar.muli c2_i32_112 arg25
  let v199 : BitVec 32 := Scalar.muli c2_i32_113 v198
  let c1_i32_114 : BitVec 32 := 1#32
  let v200 : BitVec 32 := Scalar.addi v199 c1_i32_114
  let c512_i32 : BitVec 32 := 512#32
  let v201 : BitVec 32 := Scalar.muli v200 c512_i32
  v201
def k0_off220 (i : grid0.Coords) (k0_t6 : Fin (k0_t6_loop i).trips) : Fin 2 → Nat :=
  let c2_i32_113 : BitVec 32 := 2#32
  let c2_i32_112 : BitVec 32 := 2#32
  let c2_i32_72 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v130 : BitVec 32 := Scalar.muli c2_i32_72 v124
  let c0_i32_74 : BitVec 32 := 0#32
  let v132 : BitVec 1 := Scalar.cmpi .sgt v84 c0_i32_74
  let v133 : BitVec 32 := Scalar.extui v132
  let c0_i32_75 : BitVec 32 := 0#32
  let v134 : BitVec 1 := Scalar.cmpi .slt v84 c0_i32_75
  let v135 : BitVec 32 := Scalar.extui v134
  let v136 : BitVec 32 := Scalar.subi v133 v135
  let c2_i32_73 : BitVec 32 := 2#32
  let c0_i32_76 : BitVec 32 := 0#32
  let v137 : BitVec 1 := Scalar.cmpi .sgt c2_i32_73 c0_i32_76
  let v138 : BitVec 32 := Scalar.extui v137
  let c0_i32_77 : BitVec 32 := 0#32
  let v139 : BitVec 1 := Scalar.cmpi .slt c2_i32_73 c0_i32_77
  let v140 : BitVec 32 := Scalar.extui v139
  let v141 : BitVec 32 := Scalar.subi v138 v140
  let v142 : BitVec 1 := Scalar.cmpi .ne v136 v141
  let v143 : BitVec 32 := Scalar.remsi v84 c2_i32_73
  let c0_i32_78 : BitVec 32 := 0#32
  let v144 : BitVec 1 := Scalar.cmpi .ne v143 c0_i32_78
  let v145 : BitVec 1 := Scalar.andi v142 v144
  let v131 : BitVec 32 := Scalar.divsi v84 c2_i32_73
  let c1_i32_79 : BitVec 32 := 1#32
  let v146 : BitVec 32 := Scalar.subi v131 c1_i32_79
  let v147 : BitVec 32 := Scalar.select v145 v146 v131
  let v148 : BitVec 32 := Scalar.subi v147 v130
  let c1_i32_81 : BitVec 32 := 1#32
  let v150 : BitVec 32 := Scalar.divsi v148 c1_i32_81
  let v151 : BitVec 32 := Scalar.muli v150 c1_i32_81
  let v152 : BitVec 32 := Scalar.addi v130 v151
  let c1_i32_83 : BitVec 32 := 1#32
  let arg25 : BitVec 32 := Scf.iv v152 c1_i32_83 k0_t6
  let v198 : BitVec 32 := Scalar.muli c2_i32_112 arg25
  let v199 : BitVec 32 := Scalar.muli c2_i32_113 v198
  let c1_i32_114 : BitVec 32 := 1#32
  let v200 : BitVec 32 := Scalar.addi v199 c1_i32_114
  let c512_i32 : BitVec 32 := 512#32
  let v201 : BitVec 32 := Scalar.muli v200 c512_i32
  let v202 : BitVec 32 := v201
  let v203 : Index := Scalar.indexCast v202
  let c0_115 : Index := 0#32
  ![v203.toNat, 0]
def k0_off221 (i : grid0.Coords) (k0_t6 : Fin (k0_t6_loop i).trips) : Fin 3 → Nat :=
  let c2_i32_113 : BitVec 32 := 2#32
  let c2_i32_112 : BitVec 32 := 2#32
  let c2_i32_72 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v130 : BitVec 32 := Scalar.muli c2_i32_72 v124
  let c0_i32_74 : BitVec 32 := 0#32
  let v132 : BitVec 1 := Scalar.cmpi .sgt v84 c0_i32_74
  let v133 : BitVec 32 := Scalar.extui v132
  let c0_i32_75 : BitVec 32 := 0#32
  let v134 : BitVec 1 := Scalar.cmpi .slt v84 c0_i32_75
  let v135 : BitVec 32 := Scalar.extui v134
  let v136 : BitVec 32 := Scalar.subi v133 v135
  let c2_i32_73 : BitVec 32 := 2#32
  let c0_i32_76 : BitVec 32 := 0#32
  let v137 : BitVec 1 := Scalar.cmpi .sgt c2_i32_73 c0_i32_76
  let v138 : BitVec 32 := Scalar.extui v137
  let c0_i32_77 : BitVec 32 := 0#32
  let v139 : BitVec 1 := Scalar.cmpi .slt c2_i32_73 c0_i32_77
  let v140 : BitVec 32 := Scalar.extui v139
  let v141 : BitVec 32 := Scalar.subi v138 v140
  let v142 : BitVec 1 := Scalar.cmpi .ne v136 v141
  let v143 : BitVec 32 := Scalar.remsi v84 c2_i32_73
  let c0_i32_78 : BitVec 32 := 0#32
  let v144 : BitVec 1 := Scalar.cmpi .ne v143 c0_i32_78
  let v145 : BitVec 1 := Scalar.andi v142 v144
  let v131 : BitVec 32 := Scalar.divsi v84 c2_i32_73
  let c1_i32_79 : BitVec 32 := 1#32
  let v146 : BitVec 32 := Scalar.subi v131 c1_i32_79
  let v147 : BitVec 32 := Scalar.select v145 v146 v131
  let v148 : BitVec 32 := Scalar.subi v147 v130
  let c1_i32_81 : BitVec 32 := 1#32
  let v150 : BitVec 32 := Scalar.divsi v148 c1_i32_81
  let v151 : BitVec 32 := Scalar.muli v150 c1_i32_81
  let v152 : BitVec 32 := Scalar.addi v130 v151
  let c1_i32_83 : BitVec 32 := 1#32
  let arg25 : BitVec 32 := Scf.iv v152 c1_i32_83 k0_t6
  let v198 : BitVec 32 := Scalar.muli c2_i32_112 arg25
  let v199 : BitVec 32 := Scalar.muli c2_i32_113 v198
  let c1_i32_114 : BitVec 32 := 1#32
  let v200 : BitVec 32 := Scalar.addi v199 c1_i32_114
  let v208 : BitVec 1 := Scalar.cmpi .eq v200 arg1
  let v209 : BitVec 32 := Scalar.extui v208
  let v210 : Index := Scalar.indexCast v209
  let c0_118 : Index := 0#32
  let c0_119 : Index := 0#32
  ![v210.toNat, 0, 0]
def k0_mult160 (i : grid0.Coords) (k0_t6 : Fin (k0_t6_loop i).trips) : BitVec 32 :=
  let c2_i32_113 : BitVec 32 := 2#32
  let c2_i32_112 : BitVec 32 := 2#32
  let c2_i32_72 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v130 : BitVec 32 := Scalar.muli c2_i32_72 v124
  let c0_i32_74 : BitVec 32 := 0#32
  let v132 : BitVec 1 := Scalar.cmpi .sgt v84 c0_i32_74
  let v133 : BitVec 32 := Scalar.extui v132
  let c0_i32_75 : BitVec 32 := 0#32
  let v134 : BitVec 1 := Scalar.cmpi .slt v84 c0_i32_75
  let v135 : BitVec 32 := Scalar.extui v134
  let v136 : BitVec 32 := Scalar.subi v133 v135
  let c2_i32_73 : BitVec 32 := 2#32
  let c0_i32_76 : BitVec 32 := 0#32
  let v137 : BitVec 1 := Scalar.cmpi .sgt c2_i32_73 c0_i32_76
  let v138 : BitVec 32 := Scalar.extui v137
  let c0_i32_77 : BitVec 32 := 0#32
  let v139 : BitVec 1 := Scalar.cmpi .slt c2_i32_73 c0_i32_77
  let v140 : BitVec 32 := Scalar.extui v139
  let v141 : BitVec 32 := Scalar.subi v138 v140
  let v142 : BitVec 1 := Scalar.cmpi .ne v136 v141
  let v143 : BitVec 32 := Scalar.remsi v84 c2_i32_73
  let c0_i32_78 : BitVec 32 := 0#32
  let v144 : BitVec 1 := Scalar.cmpi .ne v143 c0_i32_78
  let v145 : BitVec 1 := Scalar.andi v142 v144
  let v131 : BitVec 32 := Scalar.divsi v84 c2_i32_73
  let c1_i32_79 : BitVec 32 := 1#32
  let v146 : BitVec 32 := Scalar.subi v131 c1_i32_79
  let v147 : BitVec 32 := Scalar.select v145 v146 v131
  let v148 : BitVec 32 := Scalar.subi v147 v130
  let c1_i32_81 : BitVec 32 := 1#32
  let v150 : BitVec 32 := Scalar.divsi v148 c1_i32_81
  let v151 : BitVec 32 := Scalar.muli v150 c1_i32_81
  let v152 : BitVec 32 := Scalar.addi v130 v151
  let c1_i32_83 : BitVec 32 := 1#32
  let arg25 : BitVec 32 := Scf.iv v152 c1_i32_83 k0_t6
  let v198 : BitVec 32 := Scalar.muli c2_i32_112 arg25
  let v199 : BitVec 32 := Scalar.muli c2_i32_113 v198
  let c1_i32_114 : BitVec 32 := 1#32
  let v200 : BitVec 32 := Scalar.addi v199 c1_i32_114
  let c512_i32_125 : BitVec 32 := 512#32
  let v221 : BitVec 32 := Scalar.muli v200 c512_i32_125
  v221
def k0_off222 (i : grid0.Coords) (k0_t6 : Fin (k0_t6_loop i).trips) : Fin 2 → Nat :=
  let c2_i32_113 : BitVec 32 := 2#32
  let c2_i32_112 : BitVec 32 := 2#32
  let c2_i32_72 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v130 : BitVec 32 := Scalar.muli c2_i32_72 v124
  let c0_i32_74 : BitVec 32 := 0#32
  let v132 : BitVec 1 := Scalar.cmpi .sgt v84 c0_i32_74
  let v133 : BitVec 32 := Scalar.extui v132
  let c0_i32_75 : BitVec 32 := 0#32
  let v134 : BitVec 1 := Scalar.cmpi .slt v84 c0_i32_75
  let v135 : BitVec 32 := Scalar.extui v134
  let v136 : BitVec 32 := Scalar.subi v133 v135
  let c2_i32_73 : BitVec 32 := 2#32
  let c0_i32_76 : BitVec 32 := 0#32
  let v137 : BitVec 1 := Scalar.cmpi .sgt c2_i32_73 c0_i32_76
  let v138 : BitVec 32 := Scalar.extui v137
  let c0_i32_77 : BitVec 32 := 0#32
  let v139 : BitVec 1 := Scalar.cmpi .slt c2_i32_73 c0_i32_77
  let v140 : BitVec 32 := Scalar.extui v139
  let v141 : BitVec 32 := Scalar.subi v138 v140
  let v142 : BitVec 1 := Scalar.cmpi .ne v136 v141
  let v143 : BitVec 32 := Scalar.remsi v84 c2_i32_73
  let c0_i32_78 : BitVec 32 := 0#32
  let v144 : BitVec 1 := Scalar.cmpi .ne v143 c0_i32_78
  let v145 : BitVec 1 := Scalar.andi v142 v144
  let v131 : BitVec 32 := Scalar.divsi v84 c2_i32_73
  let c1_i32_79 : BitVec 32 := 1#32
  let v146 : BitVec 32 := Scalar.subi v131 c1_i32_79
  let v147 : BitVec 32 := Scalar.select v145 v146 v131
  let v148 : BitVec 32 := Scalar.subi v147 v130
  let c1_i32_81 : BitVec 32 := 1#32
  let v150 : BitVec 32 := Scalar.divsi v148 c1_i32_81
  let v151 : BitVec 32 := Scalar.muli v150 c1_i32_81
  let v152 : BitVec 32 := Scalar.addi v130 v151
  let c1_i32_83 : BitVec 32 := 1#32
  let arg25 : BitVec 32 := Scf.iv v152 c1_i32_83 k0_t6
  let v198 : BitVec 32 := Scalar.muli c2_i32_112 arg25
  let v199 : BitVec 32 := Scalar.muli c2_i32_113 v198
  let c1_i32_114 : BitVec 32 := 1#32
  let v200 : BitVec 32 := Scalar.addi v199 c1_i32_114
  let c512_i32_125 : BitVec 32 := 512#32
  let v221 : BitVec 32 := Scalar.muli v200 c512_i32_125
  let v222 : BitVec 32 := v221
  let v223 : Index := Scalar.indexCast v222
  let c0_126 : Index := 0#32
  ![v223.toNat, 0]
def k0_mult161 (i : grid0.Coords) (k0_t6 : Fin (k0_t6_loop i).trips) : BitVec 32 :=
  let c2_i32_132 : BitVec 32 := 2#32
  let c2_i32_112 : BitVec 32 := 2#32
  let c2_i32_72 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v130 : BitVec 32 := Scalar.muli c2_i32_72 v124
  let c0_i32_74 : BitVec 32 := 0#32
  let v132 : BitVec 1 := Scalar.cmpi .sgt v84 c0_i32_74
  let v133 : BitVec 32 := Scalar.extui v132
  let c0_i32_75 : BitVec 32 := 0#32
  let v134 : BitVec 1 := Scalar.cmpi .slt v84 c0_i32_75
  let v135 : BitVec 32 := Scalar.extui v134
  let v136 : BitVec 32 := Scalar.subi v133 v135
  let c2_i32_73 : BitVec 32 := 2#32
  let c0_i32_76 : BitVec 32 := 0#32
  let v137 : BitVec 1 := Scalar.cmpi .sgt c2_i32_73 c0_i32_76
  let v138 : BitVec 32 := Scalar.extui v137
  let c0_i32_77 : BitVec 32 := 0#32
  let v139 : BitVec 1 := Scalar.cmpi .slt c2_i32_73 c0_i32_77
  let v140 : BitVec 32 := Scalar.extui v139
  let v141 : BitVec 32 := Scalar.subi v138 v140
  let v142 : BitVec 1 := Scalar.cmpi .ne v136 v141
  let v143 : BitVec 32 := Scalar.remsi v84 c2_i32_73
  let c0_i32_78 : BitVec 32 := 0#32
  let v144 : BitVec 1 := Scalar.cmpi .ne v143 c0_i32_78
  let v145 : BitVec 1 := Scalar.andi v142 v144
  let v131 : BitVec 32 := Scalar.divsi v84 c2_i32_73
  let c1_i32_79 : BitVec 32 := 1#32
  let v146 : BitVec 32 := Scalar.subi v131 c1_i32_79
  let v147 : BitVec 32 := Scalar.select v145 v146 v131
  let v148 : BitVec 32 := Scalar.subi v147 v130
  let c1_i32_81 : BitVec 32 := 1#32
  let v150 : BitVec 32 := Scalar.divsi v148 c1_i32_81
  let v151 : BitVec 32 := Scalar.muli v150 c1_i32_81
  let v152 : BitVec 32 := Scalar.addi v130 v151
  let c1_i32_83 : BitVec 32 := 1#32
  let arg25 : BitVec 32 := Scf.iv v152 c1_i32_83 k0_t6
  let v198 : BitVec 32 := Scalar.muli c2_i32_112 arg25
  let v232 : BitVec 32 := Scalar.muli c2_i32_132 v198
  let c512_i32_133 : BitVec 32 := 512#32
  let v233 : BitVec 32 := Scalar.muli v232 c512_i32_133
  v233
def k0_off223 (i : grid0.Coords) (k0_t6 : Fin (k0_t6_loop i).trips) : Fin 2 → Nat :=
  let c2_i32_132 : BitVec 32 := 2#32
  let c2_i32_112 : BitVec 32 := 2#32
  let c2_i32_72 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v130 : BitVec 32 := Scalar.muli c2_i32_72 v124
  let c0_i32_74 : BitVec 32 := 0#32
  let v132 : BitVec 1 := Scalar.cmpi .sgt v84 c0_i32_74
  let v133 : BitVec 32 := Scalar.extui v132
  let c0_i32_75 : BitVec 32 := 0#32
  let v134 : BitVec 1 := Scalar.cmpi .slt v84 c0_i32_75
  let v135 : BitVec 32 := Scalar.extui v134
  let v136 : BitVec 32 := Scalar.subi v133 v135
  let c2_i32_73 : BitVec 32 := 2#32
  let c0_i32_76 : BitVec 32 := 0#32
  let v137 : BitVec 1 := Scalar.cmpi .sgt c2_i32_73 c0_i32_76
  let v138 : BitVec 32 := Scalar.extui v137
  let c0_i32_77 : BitVec 32 := 0#32
  let v139 : BitVec 1 := Scalar.cmpi .slt c2_i32_73 c0_i32_77
  let v140 : BitVec 32 := Scalar.extui v139
  let v141 : BitVec 32 := Scalar.subi v138 v140
  let v142 : BitVec 1 := Scalar.cmpi .ne v136 v141
  let v143 : BitVec 32 := Scalar.remsi v84 c2_i32_73
  let c0_i32_78 : BitVec 32 := 0#32
  let v144 : BitVec 1 := Scalar.cmpi .ne v143 c0_i32_78
  let v145 : BitVec 1 := Scalar.andi v142 v144
  let v131 : BitVec 32 := Scalar.divsi v84 c2_i32_73
  let c1_i32_79 : BitVec 32 := 1#32
  let v146 : BitVec 32 := Scalar.subi v131 c1_i32_79
  let v147 : BitVec 32 := Scalar.select v145 v146 v131
  let v148 : BitVec 32 := Scalar.subi v147 v130
  let c1_i32_81 : BitVec 32 := 1#32
  let v150 : BitVec 32 := Scalar.divsi v148 c1_i32_81
  let v151 : BitVec 32 := Scalar.muli v150 c1_i32_81
  let v152 : BitVec 32 := Scalar.addi v130 v151
  let c1_i32_83 : BitVec 32 := 1#32
  let arg25 : BitVec 32 := Scf.iv v152 c1_i32_83 k0_t6
  let v198 : BitVec 32 := Scalar.muli c2_i32_112 arg25
  let v232 : BitVec 32 := Scalar.muli c2_i32_132 v198
  let c512_i32_133 : BitVec 32 := 512#32
  let v233 : BitVec 32 := Scalar.muli v232 c512_i32_133
  let v234 : BitVec 32 := v233
  let v244 : Index := Scalar.indexCast v234
  let c0_141 : Index := 0#32
  ![v244.toNat, 0]
def k0_off224 (i : grid0.Coords) (k0_t6 : Fin (k0_t6_loop i).trips) : Fin 2 → Nat :=
  let c2_i32_132 : BitVec 32 := 2#32
  let c2_i32_112 : BitVec 32 := 2#32
  let c2_i32_72 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v130 : BitVec 32 := Scalar.muli c2_i32_72 v124
  let c0_i32_74 : BitVec 32 := 0#32
  let v132 : BitVec 1 := Scalar.cmpi .sgt v84 c0_i32_74
  let v133 : BitVec 32 := Scalar.extui v132
  let c0_i32_75 : BitVec 32 := 0#32
  let v134 : BitVec 1 := Scalar.cmpi .slt v84 c0_i32_75
  let v135 : BitVec 32 := Scalar.extui v134
  let v136 : BitVec 32 := Scalar.subi v133 v135
  let c2_i32_73 : BitVec 32 := 2#32
  let c0_i32_76 : BitVec 32 := 0#32
  let v137 : BitVec 1 := Scalar.cmpi .sgt c2_i32_73 c0_i32_76
  let v138 : BitVec 32 := Scalar.extui v137
  let c0_i32_77 : BitVec 32 := 0#32
  let v139 : BitVec 1 := Scalar.cmpi .slt c2_i32_73 c0_i32_77
  let v140 : BitVec 32 := Scalar.extui v139
  let v141 : BitVec 32 := Scalar.subi v138 v140
  let v142 : BitVec 1 := Scalar.cmpi .ne v136 v141
  let v143 : BitVec 32 := Scalar.remsi v84 c2_i32_73
  let c0_i32_78 : BitVec 32 := 0#32
  let v144 : BitVec 1 := Scalar.cmpi .ne v143 c0_i32_78
  let v145 : BitVec 1 := Scalar.andi v142 v144
  let v131 : BitVec 32 := Scalar.divsi v84 c2_i32_73
  let c1_i32_79 : BitVec 32 := 1#32
  let v146 : BitVec 32 := Scalar.subi v131 c1_i32_79
  let v147 : BitVec 32 := Scalar.select v145 v146 v131
  let v148 : BitVec 32 := Scalar.subi v147 v130
  let c1_i32_81 : BitVec 32 := 1#32
  let v150 : BitVec 32 := Scalar.divsi v148 c1_i32_81
  let v151 : BitVec 32 := Scalar.muli v150 c1_i32_81
  let v152 : BitVec 32 := Scalar.addi v130 v151
  let c1_i32_83 : BitVec 32 := 1#32
  let arg25 : BitVec 32 := Scf.iv v152 c1_i32_83 k0_t6
  let v198 : BitVec 32 := Scalar.muli c2_i32_112 arg25
  let v232 : BitVec 32 := Scalar.muli c2_i32_132 v198
  let c512_i32_133 : BitVec 32 := 512#32
  let v233 : BitVec 32 := Scalar.muli v232 c512_i32_133
  let v234 : BitVec 32 := v233
  let v259 : Index := Scalar.indexCast v234
  let c0_148 : Index := 0#32
  ![v259.toNat, 0]
def k0_mult162 (i : grid0.Coords) (k0_t6 : Fin (k0_t6_loop i).trips) : BitVec 32 :=
  let c2_i32_151 : BitVec 32 := 2#32
  let c2_i32_112 : BitVec 32 := 2#32
  let c2_i32_72 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v130 : BitVec 32 := Scalar.muli c2_i32_72 v124
  let c0_i32_74 : BitVec 32 := 0#32
  let v132 : BitVec 1 := Scalar.cmpi .sgt v84 c0_i32_74
  let v133 : BitVec 32 := Scalar.extui v132
  let c0_i32_75 : BitVec 32 := 0#32
  let v134 : BitVec 1 := Scalar.cmpi .slt v84 c0_i32_75
  let v135 : BitVec 32 := Scalar.extui v134
  let v136 : BitVec 32 := Scalar.subi v133 v135
  let c2_i32_73 : BitVec 32 := 2#32
  let c0_i32_76 : BitVec 32 := 0#32
  let v137 : BitVec 1 := Scalar.cmpi .sgt c2_i32_73 c0_i32_76
  let v138 : BitVec 32 := Scalar.extui v137
  let c0_i32_77 : BitVec 32 := 0#32
  let v139 : BitVec 1 := Scalar.cmpi .slt c2_i32_73 c0_i32_77
  let v140 : BitVec 32 := Scalar.extui v139
  let v141 : BitVec 32 := Scalar.subi v138 v140
  let v142 : BitVec 1 := Scalar.cmpi .ne v136 v141
  let v143 : BitVec 32 := Scalar.remsi v84 c2_i32_73
  let c0_i32_78 : BitVec 32 := 0#32
  let v144 : BitVec 1 := Scalar.cmpi .ne v143 c0_i32_78
  let v145 : BitVec 1 := Scalar.andi v142 v144
  let v131 : BitVec 32 := Scalar.divsi v84 c2_i32_73
  let c1_i32_79 : BitVec 32 := 1#32
  let v146 : BitVec 32 := Scalar.subi v131 c1_i32_79
  let v147 : BitVec 32 := Scalar.select v145 v146 v131
  let v148 : BitVec 32 := Scalar.subi v147 v130
  let c1_i32_81 : BitVec 32 := 1#32
  let v150 : BitVec 32 := Scalar.divsi v148 c1_i32_81
  let v151 : BitVec 32 := Scalar.muli v150 c1_i32_81
  let v152 : BitVec 32 := Scalar.addi v130 v151
  let c1_i32_83 : BitVec 32 := 1#32
  let arg25 : BitVec 32 := Scf.iv v152 c1_i32_83 k0_t6
  let v198 : BitVec 32 := Scalar.muli c2_i32_112 arg25
  let v267 : BitVec 32 := Scalar.muli c2_i32_151 v198
  let c2_i32_152 : BitVec 32 := 2#32
  let v268 : BitVec 32 := Scalar.addi v267 c2_i32_152
  let v269 : BitVec 32 := Scalar.minsi v268 arg1
  let c512_i32_153 : BitVec 32 := 512#32
  let v270 : BitVec 32 := Scalar.muli v269 c512_i32_153
  v270
def k0_off225 (i : grid0.Coords) (k0_t6 : Fin (k0_t6_loop i).trips) : Fin 2 → Nat :=
  let c2_i32_151 : BitVec 32 := 2#32
  let c2_i32_112 : BitVec 32 := 2#32
  let c2_i32_72 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v130 : BitVec 32 := Scalar.muli c2_i32_72 v124
  let c0_i32_74 : BitVec 32 := 0#32
  let v132 : BitVec 1 := Scalar.cmpi .sgt v84 c0_i32_74
  let v133 : BitVec 32 := Scalar.extui v132
  let c0_i32_75 : BitVec 32 := 0#32
  let v134 : BitVec 1 := Scalar.cmpi .slt v84 c0_i32_75
  let v135 : BitVec 32 := Scalar.extui v134
  let v136 : BitVec 32 := Scalar.subi v133 v135
  let c2_i32_73 : BitVec 32 := 2#32
  let c0_i32_76 : BitVec 32 := 0#32
  let v137 : BitVec 1 := Scalar.cmpi .sgt c2_i32_73 c0_i32_76
  let v138 : BitVec 32 := Scalar.extui v137
  let c0_i32_77 : BitVec 32 := 0#32
  let v139 : BitVec 1 := Scalar.cmpi .slt c2_i32_73 c0_i32_77
  let v140 : BitVec 32 := Scalar.extui v139
  let v141 : BitVec 32 := Scalar.subi v138 v140
  let v142 : BitVec 1 := Scalar.cmpi .ne v136 v141
  let v143 : BitVec 32 := Scalar.remsi v84 c2_i32_73
  let c0_i32_78 : BitVec 32 := 0#32
  let v144 : BitVec 1 := Scalar.cmpi .ne v143 c0_i32_78
  let v145 : BitVec 1 := Scalar.andi v142 v144
  let v131 : BitVec 32 := Scalar.divsi v84 c2_i32_73
  let c1_i32_79 : BitVec 32 := 1#32
  let v146 : BitVec 32 := Scalar.subi v131 c1_i32_79
  let v147 : BitVec 32 := Scalar.select v145 v146 v131
  let v148 : BitVec 32 := Scalar.subi v147 v130
  let c1_i32_81 : BitVec 32 := 1#32
  let v150 : BitVec 32 := Scalar.divsi v148 c1_i32_81
  let v151 : BitVec 32 := Scalar.muli v150 c1_i32_81
  let v152 : BitVec 32 := Scalar.addi v130 v151
  let c1_i32_83 : BitVec 32 := 1#32
  let arg25 : BitVec 32 := Scf.iv v152 c1_i32_83 k0_t6
  let v198 : BitVec 32 := Scalar.muli c2_i32_112 arg25
  let v267 : BitVec 32 := Scalar.muli c2_i32_151 v198
  let c2_i32_152 : BitVec 32 := 2#32
  let v268 : BitVec 32 := Scalar.addi v267 c2_i32_152
  let v269 : BitVec 32 := Scalar.minsi v268 arg1
  let c512_i32_153 : BitVec 32 := 512#32
  let v270 : BitVec 32 := Scalar.muli v269 c512_i32_153
  let v271 : BitVec 32 := v270
  let v272 : Index := Scalar.indexCast v271
  let c0_154 : Index := 0#32
  ![v272.toNat, 0]
def k0_off226 (i : grid0.Coords) (k0_t6 : Fin (k0_t6_loop i).trips) : Fin 3 → Nat :=
  let c2_i32_151 : BitVec 32 := 2#32
  let c2_i32_112 : BitVec 32 := 2#32
  let c2_i32_72 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v130 : BitVec 32 := Scalar.muli c2_i32_72 v124
  let c0_i32_74 : BitVec 32 := 0#32
  let v132 : BitVec 1 := Scalar.cmpi .sgt v84 c0_i32_74
  let v133 : BitVec 32 := Scalar.extui v132
  let c0_i32_75 : BitVec 32 := 0#32
  let v134 : BitVec 1 := Scalar.cmpi .slt v84 c0_i32_75
  let v135 : BitVec 32 := Scalar.extui v134
  let v136 : BitVec 32 := Scalar.subi v133 v135
  let c2_i32_73 : BitVec 32 := 2#32
  let c0_i32_76 : BitVec 32 := 0#32
  let v137 : BitVec 1 := Scalar.cmpi .sgt c2_i32_73 c0_i32_76
  let v138 : BitVec 32 := Scalar.extui v137
  let c0_i32_77 : BitVec 32 := 0#32
  let v139 : BitVec 1 := Scalar.cmpi .slt c2_i32_73 c0_i32_77
  let v140 : BitVec 32 := Scalar.extui v139
  let v141 : BitVec 32 := Scalar.subi v138 v140
  let v142 : BitVec 1 := Scalar.cmpi .ne v136 v141
  let v143 : BitVec 32 := Scalar.remsi v84 c2_i32_73
  let c0_i32_78 : BitVec 32 := 0#32
  let v144 : BitVec 1 := Scalar.cmpi .ne v143 c0_i32_78
  let v145 : BitVec 1 := Scalar.andi v142 v144
  let v131 : BitVec 32 := Scalar.divsi v84 c2_i32_73
  let c1_i32_79 : BitVec 32 := 1#32
  let v146 : BitVec 32 := Scalar.subi v131 c1_i32_79
  let v147 : BitVec 32 := Scalar.select v145 v146 v131
  let v148 : BitVec 32 := Scalar.subi v147 v130
  let c1_i32_81 : BitVec 32 := 1#32
  let v150 : BitVec 32 := Scalar.divsi v148 c1_i32_81
  let v151 : BitVec 32 := Scalar.muli v150 c1_i32_81
  let v152 : BitVec 32 := Scalar.addi v130 v151
  let c1_i32_83 : BitVec 32 := 1#32
  let arg25 : BitVec 32 := Scf.iv v152 c1_i32_83 k0_t6
  let v198 : BitVec 32 := Scalar.muli c2_i32_112 arg25
  let v267 : BitVec 32 := Scalar.muli c2_i32_151 v198
  let c2_i32_152 : BitVec 32 := 2#32
  let v268 : BitVec 32 := Scalar.addi v267 c2_i32_152
  let v269 : BitVec 32 := Scalar.minsi v268 arg1
  let v277 : BitVec 1 := Scalar.cmpi .eq v269 arg1
  let v278 : BitVec 32 := Scalar.extui v277
  let v279 : Index := Scalar.indexCast v278
  let c0_157 : Index := 0#32
  let c0_158 : Index := 0#32
  ![v279.toNat, 0, 0]
def k0_mult163 (i : grid0.Coords) (k0_t6 : Fin (k0_t6_loop i).trips) : BitVec 32 :=
  let c2_i32_151 : BitVec 32 := 2#32
  let c2_i32_112 : BitVec 32 := 2#32
  let c2_i32_72 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v130 : BitVec 32 := Scalar.muli c2_i32_72 v124
  let c0_i32_74 : BitVec 32 := 0#32
  let v132 : BitVec 1 := Scalar.cmpi .sgt v84 c0_i32_74
  let v133 : BitVec 32 := Scalar.extui v132
  let c0_i32_75 : BitVec 32 := 0#32
  let v134 : BitVec 1 := Scalar.cmpi .slt v84 c0_i32_75
  let v135 : BitVec 32 := Scalar.extui v134
  let v136 : BitVec 32 := Scalar.subi v133 v135
  let c2_i32_73 : BitVec 32 := 2#32
  let c0_i32_76 : BitVec 32 := 0#32
  let v137 : BitVec 1 := Scalar.cmpi .sgt c2_i32_73 c0_i32_76
  let v138 : BitVec 32 := Scalar.extui v137
  let c0_i32_77 : BitVec 32 := 0#32
  let v139 : BitVec 1 := Scalar.cmpi .slt c2_i32_73 c0_i32_77
  let v140 : BitVec 32 := Scalar.extui v139
  let v141 : BitVec 32 := Scalar.subi v138 v140
  let v142 : BitVec 1 := Scalar.cmpi .ne v136 v141
  let v143 : BitVec 32 := Scalar.remsi v84 c2_i32_73
  let c0_i32_78 : BitVec 32 := 0#32
  let v144 : BitVec 1 := Scalar.cmpi .ne v143 c0_i32_78
  let v145 : BitVec 1 := Scalar.andi v142 v144
  let v131 : BitVec 32 := Scalar.divsi v84 c2_i32_73
  let c1_i32_79 : BitVec 32 := 1#32
  let v146 : BitVec 32 := Scalar.subi v131 c1_i32_79
  let v147 : BitVec 32 := Scalar.select v145 v146 v131
  let v148 : BitVec 32 := Scalar.subi v147 v130
  let c1_i32_81 : BitVec 32 := 1#32
  let v150 : BitVec 32 := Scalar.divsi v148 c1_i32_81
  let v151 : BitVec 32 := Scalar.muli v150 c1_i32_81
  let v152 : BitVec 32 := Scalar.addi v130 v151
  let c1_i32_83 : BitVec 32 := 1#32
  let arg25 : BitVec 32 := Scf.iv v152 c1_i32_83 k0_t6
  let v198 : BitVec 32 := Scalar.muli c2_i32_112 arg25
  let v267 : BitVec 32 := Scalar.muli c2_i32_151 v198
  let c2_i32_152 : BitVec 32 := 2#32
  let v268 : BitVec 32 := Scalar.addi v267 c2_i32_152
  let v269 : BitVec 32 := Scalar.minsi v268 arg1
  let c512_i32_164 : BitVec 32 := 512#32
  let v290 : BitVec 32 := Scalar.muli v269 c512_i32_164
  v290
def k0_off227 (i : grid0.Coords) (k0_t6 : Fin (k0_t6_loop i).trips) : Fin 2 → Nat :=
  let c2_i32_151 : BitVec 32 := 2#32
  let c2_i32_112 : BitVec 32 := 2#32
  let c2_i32_72 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v130 : BitVec 32 := Scalar.muli c2_i32_72 v124
  let c0_i32_74 : BitVec 32 := 0#32
  let v132 : BitVec 1 := Scalar.cmpi .sgt v84 c0_i32_74
  let v133 : BitVec 32 := Scalar.extui v132
  let c0_i32_75 : BitVec 32 := 0#32
  let v134 : BitVec 1 := Scalar.cmpi .slt v84 c0_i32_75
  let v135 : BitVec 32 := Scalar.extui v134
  let v136 : BitVec 32 := Scalar.subi v133 v135
  let c2_i32_73 : BitVec 32 := 2#32
  let c0_i32_76 : BitVec 32 := 0#32
  let v137 : BitVec 1 := Scalar.cmpi .sgt c2_i32_73 c0_i32_76
  let v138 : BitVec 32 := Scalar.extui v137
  let c0_i32_77 : BitVec 32 := 0#32
  let v139 : BitVec 1 := Scalar.cmpi .slt c2_i32_73 c0_i32_77
  let v140 : BitVec 32 := Scalar.extui v139
  let v141 : BitVec 32 := Scalar.subi v138 v140
  let v142 : BitVec 1 := Scalar.cmpi .ne v136 v141
  let v143 : BitVec 32 := Scalar.remsi v84 c2_i32_73
  let c0_i32_78 : BitVec 32 := 0#32
  let v144 : BitVec 1 := Scalar.cmpi .ne v143 c0_i32_78
  let v145 : BitVec 1 := Scalar.andi v142 v144
  let v131 : BitVec 32 := Scalar.divsi v84 c2_i32_73
  let c1_i32_79 : BitVec 32 := 1#32
  let v146 : BitVec 32 := Scalar.subi v131 c1_i32_79
  let v147 : BitVec 32 := Scalar.select v145 v146 v131
  let v148 : BitVec 32 := Scalar.subi v147 v130
  let c1_i32_81 : BitVec 32 := 1#32
  let v150 : BitVec 32 := Scalar.divsi v148 c1_i32_81
  let v151 : BitVec 32 := Scalar.muli v150 c1_i32_81
  let v152 : BitVec 32 := Scalar.addi v130 v151
  let c1_i32_83 : BitVec 32 := 1#32
  let arg25 : BitVec 32 := Scf.iv v152 c1_i32_83 k0_t6
  let v198 : BitVec 32 := Scalar.muli c2_i32_112 arg25
  let v267 : BitVec 32 := Scalar.muli c2_i32_151 v198
  let c2_i32_152 : BitVec 32 := 2#32
  let v268 : BitVec 32 := Scalar.addi v267 c2_i32_152
  let v269 : BitVec 32 := Scalar.minsi v268 arg1
  let c512_i32_164 : BitVec 32 := 512#32
  let v290 : BitVec 32 := Scalar.muli v269 c512_i32_164
  let v291 : BitVec 32 := v290
  let v292 : Index := Scalar.indexCast v291
  let c0_165 : Index := 0#32
  ![v292.toNat, 0]
def k0_mult164 (i : grid0.Coords) (k0_t6 : Fin (k0_t6_loop i).trips) : BitVec 32 :=
  let c2_i32_171 : BitVec 32 := 2#32
  let c2_i32_112 : BitVec 32 := 2#32
  let c2_i32_72 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v130 : BitVec 32 := Scalar.muli c2_i32_72 v124
  let c0_i32_74 : BitVec 32 := 0#32
  let v132 : BitVec 1 := Scalar.cmpi .sgt v84 c0_i32_74
  let v133 : BitVec 32 := Scalar.extui v132
  let c0_i32_75 : BitVec 32 := 0#32
  let v134 : BitVec 1 := Scalar.cmpi .slt v84 c0_i32_75
  let v135 : BitVec 32 := Scalar.extui v134
  let v136 : BitVec 32 := Scalar.subi v133 v135
  let c2_i32_73 : BitVec 32 := 2#32
  let c0_i32_76 : BitVec 32 := 0#32
  let v137 : BitVec 1 := Scalar.cmpi .sgt c2_i32_73 c0_i32_76
  let v138 : BitVec 32 := Scalar.extui v137
  let c0_i32_77 : BitVec 32 := 0#32
  let v139 : BitVec 1 := Scalar.cmpi .slt c2_i32_73 c0_i32_77
  let v140 : BitVec 32 := Scalar.extui v139
  let v141 : BitVec 32 := Scalar.subi v138 v140
  let v142 : BitVec 1 := Scalar.cmpi .ne v136 v141
  let v143 : BitVec 32 := Scalar.remsi v84 c2_i32_73
  let c0_i32_78 : BitVec 32 := 0#32
  let v144 : BitVec 1 := Scalar.cmpi .ne v143 c0_i32_78
  let v145 : BitVec 1 := Scalar.andi v142 v144
  let v131 : BitVec 32 := Scalar.divsi v84 c2_i32_73
  let c1_i32_79 : BitVec 32 := 1#32
  let v146 : BitVec 32 := Scalar.subi v131 c1_i32_79
  let v147 : BitVec 32 := Scalar.select v145 v146 v131
  let v148 : BitVec 32 := Scalar.subi v147 v130
  let c1_i32_81 : BitVec 32 := 1#32
  let v150 : BitVec 32 := Scalar.divsi v148 c1_i32_81
  let v151 : BitVec 32 := Scalar.muli v150 c1_i32_81
  let v152 : BitVec 32 := Scalar.addi v130 v151
  let c1_i32_83 : BitVec 32 := 1#32
  let arg25 : BitVec 32 := Scf.iv v152 c1_i32_83 k0_t6
  let v198 : BitVec 32 := Scalar.muli c2_i32_112 arg25
  let v301 : BitVec 32 := Scalar.muli c2_i32_171 v198
  let c1_i32_172 : BitVec 32 := 1#32
  let v302 : BitVec 32 := Scalar.addi v301 c1_i32_172
  let c512_i32_173 : BitVec 32 := 512#32
  let v303 : BitVec 32 := Scalar.muli v302 c512_i32_173
  v303
def k0_mult165 (i : grid0.Coords) (k0_t6 : Fin (k0_t6_loop i).trips) : BitVec 32 :=
  let c2_i32_191 : BitVec 32 := 2#32
  let c2_i32_110 : BitVec 32 := 2#32
  let c2_i32_72 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v130 : BitVec 32 := Scalar.muli c2_i32_72 v124
  let c0_i32_74 : BitVec 32 := 0#32
  let v132 : BitVec 1 := Scalar.cmpi .sgt v84 c0_i32_74
  let v133 : BitVec 32 := Scalar.extui v132
  let c0_i32_75 : BitVec 32 := 0#32
  let v134 : BitVec 1 := Scalar.cmpi .slt v84 c0_i32_75
  let v135 : BitVec 32 := Scalar.extui v134
  let v136 : BitVec 32 := Scalar.subi v133 v135
  let c2_i32_73 : BitVec 32 := 2#32
  let c0_i32_76 : BitVec 32 := 0#32
  let v137 : BitVec 1 := Scalar.cmpi .sgt c2_i32_73 c0_i32_76
  let v138 : BitVec 32 := Scalar.extui v137
  let c0_i32_77 : BitVec 32 := 0#32
  let v139 : BitVec 1 := Scalar.cmpi .slt c2_i32_73 c0_i32_77
  let v140 : BitVec 32 := Scalar.extui v139
  let v141 : BitVec 32 := Scalar.subi v138 v140
  let v142 : BitVec 1 := Scalar.cmpi .ne v136 v141
  let v143 : BitVec 32 := Scalar.remsi v84 c2_i32_73
  let c0_i32_78 : BitVec 32 := 0#32
  let v144 : BitVec 1 := Scalar.cmpi .ne v143 c0_i32_78
  let v145 : BitVec 1 := Scalar.andi v142 v144
  let v131 : BitVec 32 := Scalar.divsi v84 c2_i32_73
  let c1_i32_79 : BitVec 32 := 1#32
  let v146 : BitVec 32 := Scalar.subi v131 c1_i32_79
  let v147 : BitVec 32 := Scalar.select v145 v146 v131
  let v148 : BitVec 32 := Scalar.subi v147 v130
  let c1_i32_81 : BitVec 32 := 1#32
  let v150 : BitVec 32 := Scalar.divsi v148 c1_i32_81
  let v151 : BitVec 32 := Scalar.muli v150 c1_i32_81
  let v152 : BitVec 32 := Scalar.addi v130 v151
  let c1_i32_83 : BitVec 32 := 1#32
  let arg25 : BitVec 32 := Scf.iv v152 c1_i32_83 k0_t6
  let v196 : BitVec 32 := Scalar.muli c2_i32_110 arg25
  let c1_i32_111 : BitVec 32 := 1#32
  let v197 : BitVec 32 := Scalar.addi v196 c1_i32_111
  let v337 : BitVec 32 := Scalar.muli c2_i32_191 v197
  let c1_i32_192 : BitVec 32 := 1#32
  let v338 : BitVec 32 := Scalar.addi v337 c1_i32_192
  let c512_i32_193 : BitVec 32 := 512#32
  let v339 : BitVec 32 := Scalar.muli v338 c512_i32_193
  v339
def k0_off228 (i : grid0.Coords) (k0_t6 : Fin (k0_t6_loop i).trips) : Fin 2 → Nat :=
  let c2_i32_191 : BitVec 32 := 2#32
  let c2_i32_110 : BitVec 32 := 2#32
  let c2_i32_72 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v130 : BitVec 32 := Scalar.muli c2_i32_72 v124
  let c0_i32_74 : BitVec 32 := 0#32
  let v132 : BitVec 1 := Scalar.cmpi .sgt v84 c0_i32_74
  let v133 : BitVec 32 := Scalar.extui v132
  let c0_i32_75 : BitVec 32 := 0#32
  let v134 : BitVec 1 := Scalar.cmpi .slt v84 c0_i32_75
  let v135 : BitVec 32 := Scalar.extui v134
  let v136 : BitVec 32 := Scalar.subi v133 v135
  let c2_i32_73 : BitVec 32 := 2#32
  let c0_i32_76 : BitVec 32 := 0#32
  let v137 : BitVec 1 := Scalar.cmpi .sgt c2_i32_73 c0_i32_76
  let v138 : BitVec 32 := Scalar.extui v137
  let c0_i32_77 : BitVec 32 := 0#32
  let v139 : BitVec 1 := Scalar.cmpi .slt c2_i32_73 c0_i32_77
  let v140 : BitVec 32 := Scalar.extui v139
  let v141 : BitVec 32 := Scalar.subi v138 v140
  let v142 : BitVec 1 := Scalar.cmpi .ne v136 v141
  let v143 : BitVec 32 := Scalar.remsi v84 c2_i32_73
  let c0_i32_78 : BitVec 32 := 0#32
  let v144 : BitVec 1 := Scalar.cmpi .ne v143 c0_i32_78
  let v145 : BitVec 1 := Scalar.andi v142 v144
  let v131 : BitVec 32 := Scalar.divsi v84 c2_i32_73
  let c1_i32_79 : BitVec 32 := 1#32
  let v146 : BitVec 32 := Scalar.subi v131 c1_i32_79
  let v147 : BitVec 32 := Scalar.select v145 v146 v131
  let v148 : BitVec 32 := Scalar.subi v147 v130
  let c1_i32_81 : BitVec 32 := 1#32
  let v150 : BitVec 32 := Scalar.divsi v148 c1_i32_81
  let v151 : BitVec 32 := Scalar.muli v150 c1_i32_81
  let v152 : BitVec 32 := Scalar.addi v130 v151
  let c1_i32_83 : BitVec 32 := 1#32
  let arg25 : BitVec 32 := Scf.iv v152 c1_i32_83 k0_t6
  let v196 : BitVec 32 := Scalar.muli c2_i32_110 arg25
  let c1_i32_111 : BitVec 32 := 1#32
  let v197 : BitVec 32 := Scalar.addi v196 c1_i32_111
  let v337 : BitVec 32 := Scalar.muli c2_i32_191 v197
  let c1_i32_192 : BitVec 32 := 1#32
  let v338 : BitVec 32 := Scalar.addi v337 c1_i32_192
  let c512_i32_193 : BitVec 32 := 512#32
  let v339 : BitVec 32 := Scalar.muli v338 c512_i32_193
  let v340 : BitVec 32 := v339
  let v341 : Index := Scalar.indexCast v340
  let c0_194 : Index := 0#32
  ![v341.toNat, 0]
def k0_off229 (i : grid0.Coords) (k0_t6 : Fin (k0_t6_loop i).trips) : Fin 3 → Nat :=
  let c2_i32_191 : BitVec 32 := 2#32
  let c2_i32_110 : BitVec 32 := 2#32
  let c2_i32_72 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v130 : BitVec 32 := Scalar.muli c2_i32_72 v124
  let c0_i32_74 : BitVec 32 := 0#32
  let v132 : BitVec 1 := Scalar.cmpi .sgt v84 c0_i32_74
  let v133 : BitVec 32 := Scalar.extui v132
  let c0_i32_75 : BitVec 32 := 0#32
  let v134 : BitVec 1 := Scalar.cmpi .slt v84 c0_i32_75
  let v135 : BitVec 32 := Scalar.extui v134
  let v136 : BitVec 32 := Scalar.subi v133 v135
  let c2_i32_73 : BitVec 32 := 2#32
  let c0_i32_76 : BitVec 32 := 0#32
  let v137 : BitVec 1 := Scalar.cmpi .sgt c2_i32_73 c0_i32_76
  let v138 : BitVec 32 := Scalar.extui v137
  let c0_i32_77 : BitVec 32 := 0#32
  let v139 : BitVec 1 := Scalar.cmpi .slt c2_i32_73 c0_i32_77
  let v140 : BitVec 32 := Scalar.extui v139
  let v141 : BitVec 32 := Scalar.subi v138 v140
  let v142 : BitVec 1 := Scalar.cmpi .ne v136 v141
  let v143 : BitVec 32 := Scalar.remsi v84 c2_i32_73
  let c0_i32_78 : BitVec 32 := 0#32
  let v144 : BitVec 1 := Scalar.cmpi .ne v143 c0_i32_78
  let v145 : BitVec 1 := Scalar.andi v142 v144
  let v131 : BitVec 32 := Scalar.divsi v84 c2_i32_73
  let c1_i32_79 : BitVec 32 := 1#32
  let v146 : BitVec 32 := Scalar.subi v131 c1_i32_79
  let v147 : BitVec 32 := Scalar.select v145 v146 v131
  let v148 : BitVec 32 := Scalar.subi v147 v130
  let c1_i32_81 : BitVec 32 := 1#32
  let v150 : BitVec 32 := Scalar.divsi v148 c1_i32_81
  let v151 : BitVec 32 := Scalar.muli v150 c1_i32_81
  let v152 : BitVec 32 := Scalar.addi v130 v151
  let c1_i32_83 : BitVec 32 := 1#32
  let arg25 : BitVec 32 := Scf.iv v152 c1_i32_83 k0_t6
  let v196 : BitVec 32 := Scalar.muli c2_i32_110 arg25
  let c1_i32_111 : BitVec 32 := 1#32
  let v197 : BitVec 32 := Scalar.addi v196 c1_i32_111
  let v337 : BitVec 32 := Scalar.muli c2_i32_191 v197
  let c1_i32_192 : BitVec 32 := 1#32
  let v338 : BitVec 32 := Scalar.addi v337 c1_i32_192
  let v346 : BitVec 1 := Scalar.cmpi .eq v338 arg1
  let v347 : BitVec 32 := Scalar.extui v346
  let v348 : Index := Scalar.indexCast v347
  let c0_197 : Index := 0#32
  let c0_198 : Index := 0#32
  ![v348.toNat, 0, 0]
def k0_mult166 (i : grid0.Coords) (k0_t6 : Fin (k0_t6_loop i).trips) : BitVec 32 :=
  let c2_i32_191 : BitVec 32 := 2#32
  let c2_i32_110 : BitVec 32 := 2#32
  let c2_i32_72 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v130 : BitVec 32 := Scalar.muli c2_i32_72 v124
  let c0_i32_74 : BitVec 32 := 0#32
  let v132 : BitVec 1 := Scalar.cmpi .sgt v84 c0_i32_74
  let v133 : BitVec 32 := Scalar.extui v132
  let c0_i32_75 : BitVec 32 := 0#32
  let v134 : BitVec 1 := Scalar.cmpi .slt v84 c0_i32_75
  let v135 : BitVec 32 := Scalar.extui v134
  let v136 : BitVec 32 := Scalar.subi v133 v135
  let c2_i32_73 : BitVec 32 := 2#32
  let c0_i32_76 : BitVec 32 := 0#32
  let v137 : BitVec 1 := Scalar.cmpi .sgt c2_i32_73 c0_i32_76
  let v138 : BitVec 32 := Scalar.extui v137
  let c0_i32_77 : BitVec 32 := 0#32
  let v139 : BitVec 1 := Scalar.cmpi .slt c2_i32_73 c0_i32_77
  let v140 : BitVec 32 := Scalar.extui v139
  let v141 : BitVec 32 := Scalar.subi v138 v140
  let v142 : BitVec 1 := Scalar.cmpi .ne v136 v141
  let v143 : BitVec 32 := Scalar.remsi v84 c2_i32_73
  let c0_i32_78 : BitVec 32 := 0#32
  let v144 : BitVec 1 := Scalar.cmpi .ne v143 c0_i32_78
  let v145 : BitVec 1 := Scalar.andi v142 v144
  let v131 : BitVec 32 := Scalar.divsi v84 c2_i32_73
  let c1_i32_79 : BitVec 32 := 1#32
  let v146 : BitVec 32 := Scalar.subi v131 c1_i32_79
  let v147 : BitVec 32 := Scalar.select v145 v146 v131
  let v148 : BitVec 32 := Scalar.subi v147 v130
  let c1_i32_81 : BitVec 32 := 1#32
  let v150 : BitVec 32 := Scalar.divsi v148 c1_i32_81
  let v151 : BitVec 32 := Scalar.muli v150 c1_i32_81
  let v152 : BitVec 32 := Scalar.addi v130 v151
  let c1_i32_83 : BitVec 32 := 1#32
  let arg25 : BitVec 32 := Scf.iv v152 c1_i32_83 k0_t6
  let v196 : BitVec 32 := Scalar.muli c2_i32_110 arg25
  let c1_i32_111 : BitVec 32 := 1#32
  let v197 : BitVec 32 := Scalar.addi v196 c1_i32_111
  let v337 : BitVec 32 := Scalar.muli c2_i32_191 v197
  let c1_i32_192 : BitVec 32 := 1#32
  let v338 : BitVec 32 := Scalar.addi v337 c1_i32_192
  let c512_i32_204 : BitVec 32 := 512#32
  let v359 : BitVec 32 := Scalar.muli v338 c512_i32_204
  v359
def k0_off230 (i : grid0.Coords) (k0_t6 : Fin (k0_t6_loop i).trips) : Fin 2 → Nat :=
  let c2_i32_191 : BitVec 32 := 2#32
  let c2_i32_110 : BitVec 32 := 2#32
  let c2_i32_72 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v130 : BitVec 32 := Scalar.muli c2_i32_72 v124
  let c0_i32_74 : BitVec 32 := 0#32
  let v132 : BitVec 1 := Scalar.cmpi .sgt v84 c0_i32_74
  let v133 : BitVec 32 := Scalar.extui v132
  let c0_i32_75 : BitVec 32 := 0#32
  let v134 : BitVec 1 := Scalar.cmpi .slt v84 c0_i32_75
  let v135 : BitVec 32 := Scalar.extui v134
  let v136 : BitVec 32 := Scalar.subi v133 v135
  let c2_i32_73 : BitVec 32 := 2#32
  let c0_i32_76 : BitVec 32 := 0#32
  let v137 : BitVec 1 := Scalar.cmpi .sgt c2_i32_73 c0_i32_76
  let v138 : BitVec 32 := Scalar.extui v137
  let c0_i32_77 : BitVec 32 := 0#32
  let v139 : BitVec 1 := Scalar.cmpi .slt c2_i32_73 c0_i32_77
  let v140 : BitVec 32 := Scalar.extui v139
  let v141 : BitVec 32 := Scalar.subi v138 v140
  let v142 : BitVec 1 := Scalar.cmpi .ne v136 v141
  let v143 : BitVec 32 := Scalar.remsi v84 c2_i32_73
  let c0_i32_78 : BitVec 32 := 0#32
  let v144 : BitVec 1 := Scalar.cmpi .ne v143 c0_i32_78
  let v145 : BitVec 1 := Scalar.andi v142 v144
  let v131 : BitVec 32 := Scalar.divsi v84 c2_i32_73
  let c1_i32_79 : BitVec 32 := 1#32
  let v146 : BitVec 32 := Scalar.subi v131 c1_i32_79
  let v147 : BitVec 32 := Scalar.select v145 v146 v131
  let v148 : BitVec 32 := Scalar.subi v147 v130
  let c1_i32_81 : BitVec 32 := 1#32
  let v150 : BitVec 32 := Scalar.divsi v148 c1_i32_81
  let v151 : BitVec 32 := Scalar.muli v150 c1_i32_81
  let v152 : BitVec 32 := Scalar.addi v130 v151
  let c1_i32_83 : BitVec 32 := 1#32
  let arg25 : BitVec 32 := Scf.iv v152 c1_i32_83 k0_t6
  let v196 : BitVec 32 := Scalar.muli c2_i32_110 arg25
  let c1_i32_111 : BitVec 32 := 1#32
  let v197 : BitVec 32 := Scalar.addi v196 c1_i32_111
  let v337 : BitVec 32 := Scalar.muli c2_i32_191 v197
  let c1_i32_192 : BitVec 32 := 1#32
  let v338 : BitVec 32 := Scalar.addi v337 c1_i32_192
  let c512_i32_204 : BitVec 32 := 512#32
  let v359 : BitVec 32 := Scalar.muli v338 c512_i32_204
  let v360 : BitVec 32 := v359
  let v361 : Index := Scalar.indexCast v360
  let c0_205 : Index := 0#32
  ![v361.toNat, 0]
def k0_mult167 (i : grid0.Coords) (k0_t6 : Fin (k0_t6_loop i).trips) : BitVec 32 :=
  let c2_i32_211 : BitVec 32 := 2#32
  let c2_i32_110 : BitVec 32 := 2#32
  let c2_i32_72 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v130 : BitVec 32 := Scalar.muli c2_i32_72 v124
  let c0_i32_74 : BitVec 32 := 0#32
  let v132 : BitVec 1 := Scalar.cmpi .sgt v84 c0_i32_74
  let v133 : BitVec 32 := Scalar.extui v132
  let c0_i32_75 : BitVec 32 := 0#32
  let v134 : BitVec 1 := Scalar.cmpi .slt v84 c0_i32_75
  let v135 : BitVec 32 := Scalar.extui v134
  let v136 : BitVec 32 := Scalar.subi v133 v135
  let c2_i32_73 : BitVec 32 := 2#32
  let c0_i32_76 : BitVec 32 := 0#32
  let v137 : BitVec 1 := Scalar.cmpi .sgt c2_i32_73 c0_i32_76
  let v138 : BitVec 32 := Scalar.extui v137
  let c0_i32_77 : BitVec 32 := 0#32
  let v139 : BitVec 1 := Scalar.cmpi .slt c2_i32_73 c0_i32_77
  let v140 : BitVec 32 := Scalar.extui v139
  let v141 : BitVec 32 := Scalar.subi v138 v140
  let v142 : BitVec 1 := Scalar.cmpi .ne v136 v141
  let v143 : BitVec 32 := Scalar.remsi v84 c2_i32_73
  let c0_i32_78 : BitVec 32 := 0#32
  let v144 : BitVec 1 := Scalar.cmpi .ne v143 c0_i32_78
  let v145 : BitVec 1 := Scalar.andi v142 v144
  let v131 : BitVec 32 := Scalar.divsi v84 c2_i32_73
  let c1_i32_79 : BitVec 32 := 1#32
  let v146 : BitVec 32 := Scalar.subi v131 c1_i32_79
  let v147 : BitVec 32 := Scalar.select v145 v146 v131
  let v148 : BitVec 32 := Scalar.subi v147 v130
  let c1_i32_81 : BitVec 32 := 1#32
  let v150 : BitVec 32 := Scalar.divsi v148 c1_i32_81
  let v151 : BitVec 32 := Scalar.muli v150 c1_i32_81
  let v152 : BitVec 32 := Scalar.addi v130 v151
  let c1_i32_83 : BitVec 32 := 1#32
  let arg25 : BitVec 32 := Scf.iv v152 c1_i32_83 k0_t6
  let v196 : BitVec 32 := Scalar.muli c2_i32_110 arg25
  let c1_i32_111 : BitVec 32 := 1#32
  let v197 : BitVec 32 := Scalar.addi v196 c1_i32_111
  let v370 : BitVec 32 := Scalar.muli c2_i32_211 v197
  let c512_i32_212 : BitVec 32 := 512#32
  let v371 : BitVec 32 := Scalar.muli v370 c512_i32_212
  v371
def k0_off231 (i : grid0.Coords) (k0_t6 : Fin (k0_t6_loop i).trips) : Fin 2 → Nat :=
  let c2_i32_211 : BitVec 32 := 2#32
  let c2_i32_110 : BitVec 32 := 2#32
  let c2_i32_72 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v130 : BitVec 32 := Scalar.muli c2_i32_72 v124
  let c0_i32_74 : BitVec 32 := 0#32
  let v132 : BitVec 1 := Scalar.cmpi .sgt v84 c0_i32_74
  let v133 : BitVec 32 := Scalar.extui v132
  let c0_i32_75 : BitVec 32 := 0#32
  let v134 : BitVec 1 := Scalar.cmpi .slt v84 c0_i32_75
  let v135 : BitVec 32 := Scalar.extui v134
  let v136 : BitVec 32 := Scalar.subi v133 v135
  let c2_i32_73 : BitVec 32 := 2#32
  let c0_i32_76 : BitVec 32 := 0#32
  let v137 : BitVec 1 := Scalar.cmpi .sgt c2_i32_73 c0_i32_76
  let v138 : BitVec 32 := Scalar.extui v137
  let c0_i32_77 : BitVec 32 := 0#32
  let v139 : BitVec 1 := Scalar.cmpi .slt c2_i32_73 c0_i32_77
  let v140 : BitVec 32 := Scalar.extui v139
  let v141 : BitVec 32 := Scalar.subi v138 v140
  let v142 : BitVec 1 := Scalar.cmpi .ne v136 v141
  let v143 : BitVec 32 := Scalar.remsi v84 c2_i32_73
  let c0_i32_78 : BitVec 32 := 0#32
  let v144 : BitVec 1 := Scalar.cmpi .ne v143 c0_i32_78
  let v145 : BitVec 1 := Scalar.andi v142 v144
  let v131 : BitVec 32 := Scalar.divsi v84 c2_i32_73
  let c1_i32_79 : BitVec 32 := 1#32
  let v146 : BitVec 32 := Scalar.subi v131 c1_i32_79
  let v147 : BitVec 32 := Scalar.select v145 v146 v131
  let v148 : BitVec 32 := Scalar.subi v147 v130
  let c1_i32_81 : BitVec 32 := 1#32
  let v150 : BitVec 32 := Scalar.divsi v148 c1_i32_81
  let v151 : BitVec 32 := Scalar.muli v150 c1_i32_81
  let v152 : BitVec 32 := Scalar.addi v130 v151
  let c1_i32_83 : BitVec 32 := 1#32
  let arg25 : BitVec 32 := Scf.iv v152 c1_i32_83 k0_t6
  let v196 : BitVec 32 := Scalar.muli c2_i32_110 arg25
  let c1_i32_111 : BitVec 32 := 1#32
  let v197 : BitVec 32 := Scalar.addi v196 c1_i32_111
  let v370 : BitVec 32 := Scalar.muli c2_i32_211 v197
  let c512_i32_212 : BitVec 32 := 512#32
  let v371 : BitVec 32 := Scalar.muli v370 c512_i32_212
  let v372 : BitVec 32 := v371
  let v382 : Index := Scalar.indexCast v372
  let c0_220 : Index := 0#32
  ![v382.toNat, 0]
def k0_off232 (i : grid0.Coords) (k0_t6 : Fin (k0_t6_loop i).trips) : Fin 2 → Nat :=
  let c2_i32_211 : BitVec 32 := 2#32
  let c2_i32_110 : BitVec 32 := 2#32
  let c2_i32_72 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v130 : BitVec 32 := Scalar.muli c2_i32_72 v124
  let c0_i32_74 : BitVec 32 := 0#32
  let v132 : BitVec 1 := Scalar.cmpi .sgt v84 c0_i32_74
  let v133 : BitVec 32 := Scalar.extui v132
  let c0_i32_75 : BitVec 32 := 0#32
  let v134 : BitVec 1 := Scalar.cmpi .slt v84 c0_i32_75
  let v135 : BitVec 32 := Scalar.extui v134
  let v136 : BitVec 32 := Scalar.subi v133 v135
  let c2_i32_73 : BitVec 32 := 2#32
  let c0_i32_76 : BitVec 32 := 0#32
  let v137 : BitVec 1 := Scalar.cmpi .sgt c2_i32_73 c0_i32_76
  let v138 : BitVec 32 := Scalar.extui v137
  let c0_i32_77 : BitVec 32 := 0#32
  let v139 : BitVec 1 := Scalar.cmpi .slt c2_i32_73 c0_i32_77
  let v140 : BitVec 32 := Scalar.extui v139
  let v141 : BitVec 32 := Scalar.subi v138 v140
  let v142 : BitVec 1 := Scalar.cmpi .ne v136 v141
  let v143 : BitVec 32 := Scalar.remsi v84 c2_i32_73
  let c0_i32_78 : BitVec 32 := 0#32
  let v144 : BitVec 1 := Scalar.cmpi .ne v143 c0_i32_78
  let v145 : BitVec 1 := Scalar.andi v142 v144
  let v131 : BitVec 32 := Scalar.divsi v84 c2_i32_73
  let c1_i32_79 : BitVec 32 := 1#32
  let v146 : BitVec 32 := Scalar.subi v131 c1_i32_79
  let v147 : BitVec 32 := Scalar.select v145 v146 v131
  let v148 : BitVec 32 := Scalar.subi v147 v130
  let c1_i32_81 : BitVec 32 := 1#32
  let v150 : BitVec 32 := Scalar.divsi v148 c1_i32_81
  let v151 : BitVec 32 := Scalar.muli v150 c1_i32_81
  let v152 : BitVec 32 := Scalar.addi v130 v151
  let c1_i32_83 : BitVec 32 := 1#32
  let arg25 : BitVec 32 := Scf.iv v152 c1_i32_83 k0_t6
  let v196 : BitVec 32 := Scalar.muli c2_i32_110 arg25
  let c1_i32_111 : BitVec 32 := 1#32
  let v197 : BitVec 32 := Scalar.addi v196 c1_i32_111
  let v370 : BitVec 32 := Scalar.muli c2_i32_211 v197
  let c512_i32_212 : BitVec 32 := 512#32
  let v371 : BitVec 32 := Scalar.muli v370 c512_i32_212
  let v372 : BitVec 32 := v371
  let v397 : Index := Scalar.indexCast v372
  let c0_227 : Index := 0#32
  ![v397.toNat, 0]
def k0_mult168 (i : grid0.Coords) (k0_t6 : Fin (k0_t6_loop i).trips) : BitVec 32 :=
  let c2_i32_230 : BitVec 32 := 2#32
  let c2_i32_110 : BitVec 32 := 2#32
  let c2_i32_72 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v130 : BitVec 32 := Scalar.muli c2_i32_72 v124
  let c0_i32_74 : BitVec 32 := 0#32
  let v132 : BitVec 1 := Scalar.cmpi .sgt v84 c0_i32_74
  let v133 : BitVec 32 := Scalar.extui v132
  let c0_i32_75 : BitVec 32 := 0#32
  let v134 : BitVec 1 := Scalar.cmpi .slt v84 c0_i32_75
  let v135 : BitVec 32 := Scalar.extui v134
  let v136 : BitVec 32 := Scalar.subi v133 v135
  let c2_i32_73 : BitVec 32 := 2#32
  let c0_i32_76 : BitVec 32 := 0#32
  let v137 : BitVec 1 := Scalar.cmpi .sgt c2_i32_73 c0_i32_76
  let v138 : BitVec 32 := Scalar.extui v137
  let c0_i32_77 : BitVec 32 := 0#32
  let v139 : BitVec 1 := Scalar.cmpi .slt c2_i32_73 c0_i32_77
  let v140 : BitVec 32 := Scalar.extui v139
  let v141 : BitVec 32 := Scalar.subi v138 v140
  let v142 : BitVec 1 := Scalar.cmpi .ne v136 v141
  let v143 : BitVec 32 := Scalar.remsi v84 c2_i32_73
  let c0_i32_78 : BitVec 32 := 0#32
  let v144 : BitVec 1 := Scalar.cmpi .ne v143 c0_i32_78
  let v145 : BitVec 1 := Scalar.andi v142 v144
  let v131 : BitVec 32 := Scalar.divsi v84 c2_i32_73
  let c1_i32_79 : BitVec 32 := 1#32
  let v146 : BitVec 32 := Scalar.subi v131 c1_i32_79
  let v147 : BitVec 32 := Scalar.select v145 v146 v131
  let v148 : BitVec 32 := Scalar.subi v147 v130
  let c1_i32_81 : BitVec 32 := 1#32
  let v150 : BitVec 32 := Scalar.divsi v148 c1_i32_81
  let v151 : BitVec 32 := Scalar.muli v150 c1_i32_81
  let v152 : BitVec 32 := Scalar.addi v130 v151
  let c1_i32_83 : BitVec 32 := 1#32
  let arg25 : BitVec 32 := Scf.iv v152 c1_i32_83 k0_t6
  let v196 : BitVec 32 := Scalar.muli c2_i32_110 arg25
  let c1_i32_111 : BitVec 32 := 1#32
  let v197 : BitVec 32 := Scalar.addi v196 c1_i32_111
  let v405 : BitVec 32 := Scalar.muli c2_i32_230 v197
  let c2_i32_231 : BitVec 32 := 2#32
  let v406 : BitVec 32 := Scalar.addi v405 c2_i32_231
  let v407 : BitVec 32 := Scalar.minsi v406 arg1
  let c512_i32_232 : BitVec 32 := 512#32
  let v408 : BitVec 32 := Scalar.muli v407 c512_i32_232
  v408
def k0_off233 (i : grid0.Coords) (k0_t6 : Fin (k0_t6_loop i).trips) : Fin 2 → Nat :=
  let c2_i32_230 : BitVec 32 := 2#32
  let c2_i32_110 : BitVec 32 := 2#32
  let c2_i32_72 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v130 : BitVec 32 := Scalar.muli c2_i32_72 v124
  let c0_i32_74 : BitVec 32 := 0#32
  let v132 : BitVec 1 := Scalar.cmpi .sgt v84 c0_i32_74
  let v133 : BitVec 32 := Scalar.extui v132
  let c0_i32_75 : BitVec 32 := 0#32
  let v134 : BitVec 1 := Scalar.cmpi .slt v84 c0_i32_75
  let v135 : BitVec 32 := Scalar.extui v134
  let v136 : BitVec 32 := Scalar.subi v133 v135
  let c2_i32_73 : BitVec 32 := 2#32
  let c0_i32_76 : BitVec 32 := 0#32
  let v137 : BitVec 1 := Scalar.cmpi .sgt c2_i32_73 c0_i32_76
  let v138 : BitVec 32 := Scalar.extui v137
  let c0_i32_77 : BitVec 32 := 0#32
  let v139 : BitVec 1 := Scalar.cmpi .slt c2_i32_73 c0_i32_77
  let v140 : BitVec 32 := Scalar.extui v139
  let v141 : BitVec 32 := Scalar.subi v138 v140
  let v142 : BitVec 1 := Scalar.cmpi .ne v136 v141
  let v143 : BitVec 32 := Scalar.remsi v84 c2_i32_73
  let c0_i32_78 : BitVec 32 := 0#32
  let v144 : BitVec 1 := Scalar.cmpi .ne v143 c0_i32_78
  let v145 : BitVec 1 := Scalar.andi v142 v144
  let v131 : BitVec 32 := Scalar.divsi v84 c2_i32_73
  let c1_i32_79 : BitVec 32 := 1#32
  let v146 : BitVec 32 := Scalar.subi v131 c1_i32_79
  let v147 : BitVec 32 := Scalar.select v145 v146 v131
  let v148 : BitVec 32 := Scalar.subi v147 v130
  let c1_i32_81 : BitVec 32 := 1#32
  let v150 : BitVec 32 := Scalar.divsi v148 c1_i32_81
  let v151 : BitVec 32 := Scalar.muli v150 c1_i32_81
  let v152 : BitVec 32 := Scalar.addi v130 v151
  let c1_i32_83 : BitVec 32 := 1#32
  let arg25 : BitVec 32 := Scf.iv v152 c1_i32_83 k0_t6
  let v196 : BitVec 32 := Scalar.muli c2_i32_110 arg25
  let c1_i32_111 : BitVec 32 := 1#32
  let v197 : BitVec 32 := Scalar.addi v196 c1_i32_111
  let v405 : BitVec 32 := Scalar.muli c2_i32_230 v197
  let c2_i32_231 : BitVec 32 := 2#32
  let v406 : BitVec 32 := Scalar.addi v405 c2_i32_231
  let v407 : BitVec 32 := Scalar.minsi v406 arg1
  let c512_i32_232 : BitVec 32 := 512#32
  let v408 : BitVec 32 := Scalar.muli v407 c512_i32_232
  let v409 : BitVec 32 := v408
  let v410 : Index := Scalar.indexCast v409
  let c0_233 : Index := 0#32
  ![v410.toNat, 0]
def k0_off234 (i : grid0.Coords) (k0_t6 : Fin (k0_t6_loop i).trips) : Fin 3 → Nat :=
  let c2_i32_230 : BitVec 32 := 2#32
  let c2_i32_110 : BitVec 32 := 2#32
  let c2_i32_72 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v130 : BitVec 32 := Scalar.muli c2_i32_72 v124
  let c0_i32_74 : BitVec 32 := 0#32
  let v132 : BitVec 1 := Scalar.cmpi .sgt v84 c0_i32_74
  let v133 : BitVec 32 := Scalar.extui v132
  let c0_i32_75 : BitVec 32 := 0#32
  let v134 : BitVec 1 := Scalar.cmpi .slt v84 c0_i32_75
  let v135 : BitVec 32 := Scalar.extui v134
  let v136 : BitVec 32 := Scalar.subi v133 v135
  let c2_i32_73 : BitVec 32 := 2#32
  let c0_i32_76 : BitVec 32 := 0#32
  let v137 : BitVec 1 := Scalar.cmpi .sgt c2_i32_73 c0_i32_76
  let v138 : BitVec 32 := Scalar.extui v137
  let c0_i32_77 : BitVec 32 := 0#32
  let v139 : BitVec 1 := Scalar.cmpi .slt c2_i32_73 c0_i32_77
  let v140 : BitVec 32 := Scalar.extui v139
  let v141 : BitVec 32 := Scalar.subi v138 v140
  let v142 : BitVec 1 := Scalar.cmpi .ne v136 v141
  let v143 : BitVec 32 := Scalar.remsi v84 c2_i32_73
  let c0_i32_78 : BitVec 32 := 0#32
  let v144 : BitVec 1 := Scalar.cmpi .ne v143 c0_i32_78
  let v145 : BitVec 1 := Scalar.andi v142 v144
  let v131 : BitVec 32 := Scalar.divsi v84 c2_i32_73
  let c1_i32_79 : BitVec 32 := 1#32
  let v146 : BitVec 32 := Scalar.subi v131 c1_i32_79
  let v147 : BitVec 32 := Scalar.select v145 v146 v131
  let v148 : BitVec 32 := Scalar.subi v147 v130
  let c1_i32_81 : BitVec 32 := 1#32
  let v150 : BitVec 32 := Scalar.divsi v148 c1_i32_81
  let v151 : BitVec 32 := Scalar.muli v150 c1_i32_81
  let v152 : BitVec 32 := Scalar.addi v130 v151
  let c1_i32_83 : BitVec 32 := 1#32
  let arg25 : BitVec 32 := Scf.iv v152 c1_i32_83 k0_t6
  let v196 : BitVec 32 := Scalar.muli c2_i32_110 arg25
  let c1_i32_111 : BitVec 32 := 1#32
  let v197 : BitVec 32 := Scalar.addi v196 c1_i32_111
  let v405 : BitVec 32 := Scalar.muli c2_i32_230 v197
  let c2_i32_231 : BitVec 32 := 2#32
  let v406 : BitVec 32 := Scalar.addi v405 c2_i32_231
  let v407 : BitVec 32 := Scalar.minsi v406 arg1
  let v415 : BitVec 1 := Scalar.cmpi .eq v407 arg1
  let v416 : BitVec 32 := Scalar.extui v415
  let v417 : Index := Scalar.indexCast v416
  let c0_236 : Index := 0#32
  let c0_237 : Index := 0#32
  ![v417.toNat, 0, 0]
def k0_mult169 (i : grid0.Coords) (k0_t6 : Fin (k0_t6_loop i).trips) : BitVec 32 :=
  let c2_i32_230 : BitVec 32 := 2#32
  let c2_i32_110 : BitVec 32 := 2#32
  let c2_i32_72 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v130 : BitVec 32 := Scalar.muli c2_i32_72 v124
  let c0_i32_74 : BitVec 32 := 0#32
  let v132 : BitVec 1 := Scalar.cmpi .sgt v84 c0_i32_74
  let v133 : BitVec 32 := Scalar.extui v132
  let c0_i32_75 : BitVec 32 := 0#32
  let v134 : BitVec 1 := Scalar.cmpi .slt v84 c0_i32_75
  let v135 : BitVec 32 := Scalar.extui v134
  let v136 : BitVec 32 := Scalar.subi v133 v135
  let c2_i32_73 : BitVec 32 := 2#32
  let c0_i32_76 : BitVec 32 := 0#32
  let v137 : BitVec 1 := Scalar.cmpi .sgt c2_i32_73 c0_i32_76
  let v138 : BitVec 32 := Scalar.extui v137
  let c0_i32_77 : BitVec 32 := 0#32
  let v139 : BitVec 1 := Scalar.cmpi .slt c2_i32_73 c0_i32_77
  let v140 : BitVec 32 := Scalar.extui v139
  let v141 : BitVec 32 := Scalar.subi v138 v140
  let v142 : BitVec 1 := Scalar.cmpi .ne v136 v141
  let v143 : BitVec 32 := Scalar.remsi v84 c2_i32_73
  let c0_i32_78 : BitVec 32 := 0#32
  let v144 : BitVec 1 := Scalar.cmpi .ne v143 c0_i32_78
  let v145 : BitVec 1 := Scalar.andi v142 v144
  let v131 : BitVec 32 := Scalar.divsi v84 c2_i32_73
  let c1_i32_79 : BitVec 32 := 1#32
  let v146 : BitVec 32 := Scalar.subi v131 c1_i32_79
  let v147 : BitVec 32 := Scalar.select v145 v146 v131
  let v148 : BitVec 32 := Scalar.subi v147 v130
  let c1_i32_81 : BitVec 32 := 1#32
  let v150 : BitVec 32 := Scalar.divsi v148 c1_i32_81
  let v151 : BitVec 32 := Scalar.muli v150 c1_i32_81
  let v152 : BitVec 32 := Scalar.addi v130 v151
  let c1_i32_83 : BitVec 32 := 1#32
  let arg25 : BitVec 32 := Scf.iv v152 c1_i32_83 k0_t6
  let v196 : BitVec 32 := Scalar.muli c2_i32_110 arg25
  let c1_i32_111 : BitVec 32 := 1#32
  let v197 : BitVec 32 := Scalar.addi v196 c1_i32_111
  let v405 : BitVec 32 := Scalar.muli c2_i32_230 v197
  let c2_i32_231 : BitVec 32 := 2#32
  let v406 : BitVec 32 := Scalar.addi v405 c2_i32_231
  let v407 : BitVec 32 := Scalar.minsi v406 arg1
  let c512_i32_243 : BitVec 32 := 512#32
  let v428 : BitVec 32 := Scalar.muli v407 c512_i32_243
  v428
def k0_off235 (i : grid0.Coords) (k0_t6 : Fin (k0_t6_loop i).trips) : Fin 2 → Nat :=
  let c2_i32_230 : BitVec 32 := 2#32
  let c2_i32_110 : BitVec 32 := 2#32
  let c2_i32_72 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v130 : BitVec 32 := Scalar.muli c2_i32_72 v124
  let c0_i32_74 : BitVec 32 := 0#32
  let v132 : BitVec 1 := Scalar.cmpi .sgt v84 c0_i32_74
  let v133 : BitVec 32 := Scalar.extui v132
  let c0_i32_75 : BitVec 32 := 0#32
  let v134 : BitVec 1 := Scalar.cmpi .slt v84 c0_i32_75
  let v135 : BitVec 32 := Scalar.extui v134
  let v136 : BitVec 32 := Scalar.subi v133 v135
  let c2_i32_73 : BitVec 32 := 2#32
  let c0_i32_76 : BitVec 32 := 0#32
  let v137 : BitVec 1 := Scalar.cmpi .sgt c2_i32_73 c0_i32_76
  let v138 : BitVec 32 := Scalar.extui v137
  let c0_i32_77 : BitVec 32 := 0#32
  let v139 : BitVec 1 := Scalar.cmpi .slt c2_i32_73 c0_i32_77
  let v140 : BitVec 32 := Scalar.extui v139
  let v141 : BitVec 32 := Scalar.subi v138 v140
  let v142 : BitVec 1 := Scalar.cmpi .ne v136 v141
  let v143 : BitVec 32 := Scalar.remsi v84 c2_i32_73
  let c0_i32_78 : BitVec 32 := 0#32
  let v144 : BitVec 1 := Scalar.cmpi .ne v143 c0_i32_78
  let v145 : BitVec 1 := Scalar.andi v142 v144
  let v131 : BitVec 32 := Scalar.divsi v84 c2_i32_73
  let c1_i32_79 : BitVec 32 := 1#32
  let v146 : BitVec 32 := Scalar.subi v131 c1_i32_79
  let v147 : BitVec 32 := Scalar.select v145 v146 v131
  let v148 : BitVec 32 := Scalar.subi v147 v130
  let c1_i32_81 : BitVec 32 := 1#32
  let v150 : BitVec 32 := Scalar.divsi v148 c1_i32_81
  let v151 : BitVec 32 := Scalar.muli v150 c1_i32_81
  let v152 : BitVec 32 := Scalar.addi v130 v151
  let c1_i32_83 : BitVec 32 := 1#32
  let arg25 : BitVec 32 := Scf.iv v152 c1_i32_83 k0_t6
  let v196 : BitVec 32 := Scalar.muli c2_i32_110 arg25
  let c1_i32_111 : BitVec 32 := 1#32
  let v197 : BitVec 32 := Scalar.addi v196 c1_i32_111
  let v405 : BitVec 32 := Scalar.muli c2_i32_230 v197
  let c2_i32_231 : BitVec 32 := 2#32
  let v406 : BitVec 32 := Scalar.addi v405 c2_i32_231
  let v407 : BitVec 32 := Scalar.minsi v406 arg1
  let c512_i32_243 : BitVec 32 := 512#32
  let v428 : BitVec 32 := Scalar.muli v407 c512_i32_243
  let v429 : BitVec 32 := v428
  let v430 : Index := Scalar.indexCast v429
  let c0_244 : Index := 0#32
  ![v430.toNat, 0]
def k0_mult170 (i : grid0.Coords) (k0_t6 : Fin (k0_t6_loop i).trips) : BitVec 32 :=
  let c2_i32_250 : BitVec 32 := 2#32
  let c2_i32_110 : BitVec 32 := 2#32
  let c2_i32_72 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c4_i32 : BitVec 32 := 4#32
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let v108 : BitVec 32 := Scalar.divsi v84 c4_i32
  let c1_i32_67 : BitVec 32 := 1#32
  let v123 : BitVec 32 := Scalar.subi v108 c1_i32_67
  let v124 : BitVec 32 := Scalar.select v122 v123 v108
  let v130 : BitVec 32 := Scalar.muli c2_i32_72 v124
  let c0_i32_74 : BitVec 32 := 0#32
  let v132 : BitVec 1 := Scalar.cmpi .sgt v84 c0_i32_74
  let v133 : BitVec 32 := Scalar.extui v132
  let c0_i32_75 : BitVec 32 := 0#32
  let v134 : BitVec 1 := Scalar.cmpi .slt v84 c0_i32_75
  let v135 : BitVec 32 := Scalar.extui v134
  let v136 : BitVec 32 := Scalar.subi v133 v135
  let c2_i32_73 : BitVec 32 := 2#32
  let c0_i32_76 : BitVec 32 := 0#32
  let v137 : BitVec 1 := Scalar.cmpi .sgt c2_i32_73 c0_i32_76
  let v138 : BitVec 32 := Scalar.extui v137
  let c0_i32_77 : BitVec 32 := 0#32
  let v139 : BitVec 1 := Scalar.cmpi .slt c2_i32_73 c0_i32_77
  let v140 : BitVec 32 := Scalar.extui v139
  let v141 : BitVec 32 := Scalar.subi v138 v140
  let v142 : BitVec 1 := Scalar.cmpi .ne v136 v141
  let v143 : BitVec 32 := Scalar.remsi v84 c2_i32_73
  let c0_i32_78 : BitVec 32 := 0#32
  let v144 : BitVec 1 := Scalar.cmpi .ne v143 c0_i32_78
  let v145 : BitVec 1 := Scalar.andi v142 v144
  let v131 : BitVec 32 := Scalar.divsi v84 c2_i32_73
  let c1_i32_79 : BitVec 32 := 1#32
  let v146 : BitVec 32 := Scalar.subi v131 c1_i32_79
  let v147 : BitVec 32 := Scalar.select v145 v146 v131
  let v148 : BitVec 32 := Scalar.subi v147 v130
  let c1_i32_81 : BitVec 32 := 1#32
  let v150 : BitVec 32 := Scalar.divsi v148 c1_i32_81
  let v151 : BitVec 32 := Scalar.muli v150 c1_i32_81
  let v152 : BitVec 32 := Scalar.addi v130 v151
  let c1_i32_83 : BitVec 32 := 1#32
  let arg25 : BitVec 32 := Scf.iv v152 c1_i32_83 k0_t6
  let v196 : BitVec 32 := Scalar.muli c2_i32_110 arg25
  let c1_i32_111 : BitVec 32 := 1#32
  let v197 : BitVec 32 := Scalar.addi v196 c1_i32_111
  let v439 : BitVec 32 := Scalar.muli c2_i32_250 v197
  let c1_i32_251 : BitVec 32 := 1#32
  let v440 : BitVec 32 := Scalar.addi v439 c1_i32_251
  let c512_i32_252 : BitVec 32 := 512#32
  let v441 : BitVec 32 := Scalar.muli v440 c512_i32_252
  v441
@[reducible] def k0_t7_loop (i : grid0.Coords) : Scf.Loop 32 :=
  let c2_i32_84 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_74 : BitVec 32 := 0#32
  let v132 : BitVec 1 := Scalar.cmpi .sgt v84 c0_i32_74
  let v133 : BitVec 32 := Scalar.extui v132
  let c0_i32_75 : BitVec 32 := 0#32
  let v134 : BitVec 1 := Scalar.cmpi .slt v84 c0_i32_75
  let v135 : BitVec 32 := Scalar.extui v134
  let v136 : BitVec 32 := Scalar.subi v133 v135
  let c2_i32_73 : BitVec 32 := 2#32
  let c0_i32_76 : BitVec 32 := 0#32
  let v137 : BitVec 1 := Scalar.cmpi .sgt c2_i32_73 c0_i32_76
  let v138 : BitVec 32 := Scalar.extui v137
  let c0_i32_77 : BitVec 32 := 0#32
  let v139 : BitVec 1 := Scalar.cmpi .slt c2_i32_73 c0_i32_77
  let v140 : BitVec 32 := Scalar.extui v139
  let v141 : BitVec 32 := Scalar.subi v138 v140
  let v142 : BitVec 1 := Scalar.cmpi .ne v136 v141
  let v143 : BitVec 32 := Scalar.remsi v84 c2_i32_73
  let c0_i32_78 : BitVec 32 := 0#32
  let v144 : BitVec 1 := Scalar.cmpi .ne v143 c0_i32_78
  let v145 : BitVec 1 := Scalar.andi v142 v144
  let v131 : BitVec 32 := Scalar.divsi v84 c2_i32_73
  let c1_i32_79 : BitVec 32 := 1#32
  let v146 : BitVec 32 := Scalar.subi v131 c1_i32_79
  let v147 : BitVec 32 := Scalar.select v145 v146 v131
  let v153 : BitVec 32 := Scalar.muli c2_i32_84 v147
  let c0_i32_86 : BitVec 32 := 0#32
  let v155 : BitVec 1 := Scalar.cmpi .sgt v84 c0_i32_86
  let v156 : BitVec 32 := Scalar.extui v155
  let c0_i32_87 : BitVec 32 := 0#32
  let v157 : BitVec 1 := Scalar.cmpi .slt v84 c0_i32_87
  let v158 : BitVec 32 := Scalar.extui v157
  let v159 : BitVec 32 := Scalar.subi v156 v158
  let c1_i32_85 : BitVec 32 := 1#32
  let c0_i32_88 : BitVec 32 := 0#32
  let v160 : BitVec 1 := Scalar.cmpi .sgt c1_i32_85 c0_i32_88
  let v161 : BitVec 32 := Scalar.extui v160
  let c0_i32_89 : BitVec 32 := 0#32
  let v162 : BitVec 1 := Scalar.cmpi .slt c1_i32_85 c0_i32_89
  let v163 : BitVec 32 := Scalar.extui v162
  let v164 : BitVec 32 := Scalar.subi v161 v163
  let v165 : BitVec 1 := Scalar.cmpi .ne v159 v164
  let v166 : BitVec 32 := Scalar.remsi v84 c1_i32_85
  let c0_i32_90 : BitVec 32 := 0#32
  let v167 : BitVec 1 := Scalar.cmpi .ne v166 c0_i32_90
  let v168 : BitVec 1 := Scalar.andi v165 v167
  let v154 : BitVec 32 := Scalar.divsi v84 c1_i32_85
  let c1_i32_91 : BitVec 32 := 1#32
  let v169 : BitVec 32 := Scalar.subi v154 c1_i32_91
  let v170 : BitVec 32 := Scalar.select v168 v169 v154
  let v171 : BitVec 32 := Scalar.subi v170 v153
  let c1_i32_93 : BitVec 32 := 1#32
  let v173 : BitVec 32 := Scalar.divsi v171 c1_i32_93
  let v174 : BitVec 32 := Scalar.muli v173 c1_i32_93
  let v175 : BitVec 32 := Scalar.addi v153 v174
  let c1_i32_94 : BitVec 32 := 1#32
  ⟨v153, v175, c1_i32_94⟩
def k0_mult171 (i : grid0.Coords) (k0_t7 : Fin (k0_t7_loop i).trips) : BitVec 32 :=
  let c2_i32_110 : BitVec 32 := 2#32
  let c2_i32_84 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_74 : BitVec 32 := 0#32
  let v132 : BitVec 1 := Scalar.cmpi .sgt v84 c0_i32_74
  let v133 : BitVec 32 := Scalar.extui v132
  let c0_i32_75 : BitVec 32 := 0#32
  let v134 : BitVec 1 := Scalar.cmpi .slt v84 c0_i32_75
  let v135 : BitVec 32 := Scalar.extui v134
  let v136 : BitVec 32 := Scalar.subi v133 v135
  let c2_i32_73 : BitVec 32 := 2#32
  let c0_i32_76 : BitVec 32 := 0#32
  let v137 : BitVec 1 := Scalar.cmpi .sgt c2_i32_73 c0_i32_76
  let v138 : BitVec 32 := Scalar.extui v137
  let c0_i32_77 : BitVec 32 := 0#32
  let v139 : BitVec 1 := Scalar.cmpi .slt c2_i32_73 c0_i32_77
  let v140 : BitVec 32 := Scalar.extui v139
  let v141 : BitVec 32 := Scalar.subi v138 v140
  let v142 : BitVec 1 := Scalar.cmpi .ne v136 v141
  let v143 : BitVec 32 := Scalar.remsi v84 c2_i32_73
  let c0_i32_78 : BitVec 32 := 0#32
  let v144 : BitVec 1 := Scalar.cmpi .ne v143 c0_i32_78
  let v145 : BitVec 1 := Scalar.andi v142 v144
  let v131 : BitVec 32 := Scalar.divsi v84 c2_i32_73
  let c1_i32_79 : BitVec 32 := 1#32
  let v146 : BitVec 32 := Scalar.subi v131 c1_i32_79
  let v147 : BitVec 32 := Scalar.select v145 v146 v131
  let v153 : BitVec 32 := Scalar.muli c2_i32_84 v147
  let c1_i32_94 : BitVec 32 := 1#32
  let arg25 : BitVec 32 := Scf.iv v153 c1_i32_94 k0_t7
  let v196 : BitVec 32 := Scalar.muli c2_i32_110 arg25
  let c1_i32_111 : BitVec 32 := 1#32
  let v197 : BitVec 32 := Scalar.addi v196 c1_i32_111
  let c512_i32 : BitVec 32 := 512#32
  let v198 : BitVec 32 := Scalar.muli v197 c512_i32
  v198
def k0_off236 (i : grid0.Coords) (k0_t7 : Fin (k0_t7_loop i).trips) : Fin 2 → Nat :=
  let c2_i32_110 : BitVec 32 := 2#32
  let c2_i32_84 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_74 : BitVec 32 := 0#32
  let v132 : BitVec 1 := Scalar.cmpi .sgt v84 c0_i32_74
  let v133 : BitVec 32 := Scalar.extui v132
  let c0_i32_75 : BitVec 32 := 0#32
  let v134 : BitVec 1 := Scalar.cmpi .slt v84 c0_i32_75
  let v135 : BitVec 32 := Scalar.extui v134
  let v136 : BitVec 32 := Scalar.subi v133 v135
  let c2_i32_73 : BitVec 32 := 2#32
  let c0_i32_76 : BitVec 32 := 0#32
  let v137 : BitVec 1 := Scalar.cmpi .sgt c2_i32_73 c0_i32_76
  let v138 : BitVec 32 := Scalar.extui v137
  let c0_i32_77 : BitVec 32 := 0#32
  let v139 : BitVec 1 := Scalar.cmpi .slt c2_i32_73 c0_i32_77
  let v140 : BitVec 32 := Scalar.extui v139
  let v141 : BitVec 32 := Scalar.subi v138 v140
  let v142 : BitVec 1 := Scalar.cmpi .ne v136 v141
  let v143 : BitVec 32 := Scalar.remsi v84 c2_i32_73
  let c0_i32_78 : BitVec 32 := 0#32
  let v144 : BitVec 1 := Scalar.cmpi .ne v143 c0_i32_78
  let v145 : BitVec 1 := Scalar.andi v142 v144
  let v131 : BitVec 32 := Scalar.divsi v84 c2_i32_73
  let c1_i32_79 : BitVec 32 := 1#32
  let v146 : BitVec 32 := Scalar.subi v131 c1_i32_79
  let v147 : BitVec 32 := Scalar.select v145 v146 v131
  let v153 : BitVec 32 := Scalar.muli c2_i32_84 v147
  let c1_i32_94 : BitVec 32 := 1#32
  let arg25 : BitVec 32 := Scf.iv v153 c1_i32_94 k0_t7
  let v196 : BitVec 32 := Scalar.muli c2_i32_110 arg25
  let c1_i32_111 : BitVec 32 := 1#32
  let v197 : BitVec 32 := Scalar.addi v196 c1_i32_111
  let c512_i32 : BitVec 32 := 512#32
  let v198 : BitVec 32 := Scalar.muli v197 c512_i32
  let v199 : BitVec 32 := v198
  let v200 : Index := Scalar.indexCast v199
  let c0_112 : Index := 0#32
  ![v200.toNat, 0]
def k0_off237 (i : grid0.Coords) (k0_t7 : Fin (k0_t7_loop i).trips) : Fin 3 → Nat :=
  let c2_i32_110 : BitVec 32 := 2#32
  let c2_i32_84 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_74 : BitVec 32 := 0#32
  let v132 : BitVec 1 := Scalar.cmpi .sgt v84 c0_i32_74
  let v133 : BitVec 32 := Scalar.extui v132
  let c0_i32_75 : BitVec 32 := 0#32
  let v134 : BitVec 1 := Scalar.cmpi .slt v84 c0_i32_75
  let v135 : BitVec 32 := Scalar.extui v134
  let v136 : BitVec 32 := Scalar.subi v133 v135
  let c2_i32_73 : BitVec 32 := 2#32
  let c0_i32_76 : BitVec 32 := 0#32
  let v137 : BitVec 1 := Scalar.cmpi .sgt c2_i32_73 c0_i32_76
  let v138 : BitVec 32 := Scalar.extui v137
  let c0_i32_77 : BitVec 32 := 0#32
  let v139 : BitVec 1 := Scalar.cmpi .slt c2_i32_73 c0_i32_77
  let v140 : BitVec 32 := Scalar.extui v139
  let v141 : BitVec 32 := Scalar.subi v138 v140
  let v142 : BitVec 1 := Scalar.cmpi .ne v136 v141
  let v143 : BitVec 32 := Scalar.remsi v84 c2_i32_73
  let c0_i32_78 : BitVec 32 := 0#32
  let v144 : BitVec 1 := Scalar.cmpi .ne v143 c0_i32_78
  let v145 : BitVec 1 := Scalar.andi v142 v144
  let v131 : BitVec 32 := Scalar.divsi v84 c2_i32_73
  let c1_i32_79 : BitVec 32 := 1#32
  let v146 : BitVec 32 := Scalar.subi v131 c1_i32_79
  let v147 : BitVec 32 := Scalar.select v145 v146 v131
  let v153 : BitVec 32 := Scalar.muli c2_i32_84 v147
  let c1_i32_94 : BitVec 32 := 1#32
  let arg25 : BitVec 32 := Scf.iv v153 c1_i32_94 k0_t7
  let v196 : BitVec 32 := Scalar.muli c2_i32_110 arg25
  let c1_i32_111 : BitVec 32 := 1#32
  let v197 : BitVec 32 := Scalar.addi v196 c1_i32_111
  let v205 : BitVec 1 := Scalar.cmpi .eq v197 arg1
  let v206 : BitVec 32 := Scalar.extui v205
  let v207 : Index := Scalar.indexCast v206
  let c0_115 : Index := 0#32
  let c0_116 : Index := 0#32
  ![v207.toNat, 0, 0]
def k0_mult172 (i : grid0.Coords) (k0_t7 : Fin (k0_t7_loop i).trips) : BitVec 32 :=
  let c2_i32_110 : BitVec 32 := 2#32
  let c2_i32_84 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_74 : BitVec 32 := 0#32
  let v132 : BitVec 1 := Scalar.cmpi .sgt v84 c0_i32_74
  let v133 : BitVec 32 := Scalar.extui v132
  let c0_i32_75 : BitVec 32 := 0#32
  let v134 : BitVec 1 := Scalar.cmpi .slt v84 c0_i32_75
  let v135 : BitVec 32 := Scalar.extui v134
  let v136 : BitVec 32 := Scalar.subi v133 v135
  let c2_i32_73 : BitVec 32 := 2#32
  let c0_i32_76 : BitVec 32 := 0#32
  let v137 : BitVec 1 := Scalar.cmpi .sgt c2_i32_73 c0_i32_76
  let v138 : BitVec 32 := Scalar.extui v137
  let c0_i32_77 : BitVec 32 := 0#32
  let v139 : BitVec 1 := Scalar.cmpi .slt c2_i32_73 c0_i32_77
  let v140 : BitVec 32 := Scalar.extui v139
  let v141 : BitVec 32 := Scalar.subi v138 v140
  let v142 : BitVec 1 := Scalar.cmpi .ne v136 v141
  let v143 : BitVec 32 := Scalar.remsi v84 c2_i32_73
  let c0_i32_78 : BitVec 32 := 0#32
  let v144 : BitVec 1 := Scalar.cmpi .ne v143 c0_i32_78
  let v145 : BitVec 1 := Scalar.andi v142 v144
  let v131 : BitVec 32 := Scalar.divsi v84 c2_i32_73
  let c1_i32_79 : BitVec 32 := 1#32
  let v146 : BitVec 32 := Scalar.subi v131 c1_i32_79
  let v147 : BitVec 32 := Scalar.select v145 v146 v131
  let v153 : BitVec 32 := Scalar.muli c2_i32_84 v147
  let c1_i32_94 : BitVec 32 := 1#32
  let arg25 : BitVec 32 := Scf.iv v153 c1_i32_94 k0_t7
  let v196 : BitVec 32 := Scalar.muli c2_i32_110 arg25
  let c1_i32_111 : BitVec 32 := 1#32
  let v197 : BitVec 32 := Scalar.addi v196 c1_i32_111
  let c512_i32_122 : BitVec 32 := 512#32
  let v218 : BitVec 32 := Scalar.muli v197 c512_i32_122
  v218
def k0_off238 (i : grid0.Coords) (k0_t7 : Fin (k0_t7_loop i).trips) : Fin 2 → Nat :=
  let c2_i32_110 : BitVec 32 := 2#32
  let c2_i32_84 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_74 : BitVec 32 := 0#32
  let v132 : BitVec 1 := Scalar.cmpi .sgt v84 c0_i32_74
  let v133 : BitVec 32 := Scalar.extui v132
  let c0_i32_75 : BitVec 32 := 0#32
  let v134 : BitVec 1 := Scalar.cmpi .slt v84 c0_i32_75
  let v135 : BitVec 32 := Scalar.extui v134
  let v136 : BitVec 32 := Scalar.subi v133 v135
  let c2_i32_73 : BitVec 32 := 2#32
  let c0_i32_76 : BitVec 32 := 0#32
  let v137 : BitVec 1 := Scalar.cmpi .sgt c2_i32_73 c0_i32_76
  let v138 : BitVec 32 := Scalar.extui v137
  let c0_i32_77 : BitVec 32 := 0#32
  let v139 : BitVec 1 := Scalar.cmpi .slt c2_i32_73 c0_i32_77
  let v140 : BitVec 32 := Scalar.extui v139
  let v141 : BitVec 32 := Scalar.subi v138 v140
  let v142 : BitVec 1 := Scalar.cmpi .ne v136 v141
  let v143 : BitVec 32 := Scalar.remsi v84 c2_i32_73
  let c0_i32_78 : BitVec 32 := 0#32
  let v144 : BitVec 1 := Scalar.cmpi .ne v143 c0_i32_78
  let v145 : BitVec 1 := Scalar.andi v142 v144
  let v131 : BitVec 32 := Scalar.divsi v84 c2_i32_73
  let c1_i32_79 : BitVec 32 := 1#32
  let v146 : BitVec 32 := Scalar.subi v131 c1_i32_79
  let v147 : BitVec 32 := Scalar.select v145 v146 v131
  let v153 : BitVec 32 := Scalar.muli c2_i32_84 v147
  let c1_i32_94 : BitVec 32 := 1#32
  let arg25 : BitVec 32 := Scf.iv v153 c1_i32_94 k0_t7
  let v196 : BitVec 32 := Scalar.muli c2_i32_110 arg25
  let c1_i32_111 : BitVec 32 := 1#32
  let v197 : BitVec 32 := Scalar.addi v196 c1_i32_111
  let c512_i32_122 : BitVec 32 := 512#32
  let v218 : BitVec 32 := Scalar.muli v197 c512_i32_122
  let v219 : BitVec 32 := v218
  let v220 : Index := Scalar.indexCast v219
  let c0_123 : Index := 0#32
  ![v220.toNat, 0]
def k0_mult173 (i : grid0.Coords) (k0_t7 : Fin (k0_t7_loop i).trips) : BitVec 32 :=
  let c2_i32_129 : BitVec 32 := 2#32
  let c2_i32_84 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_74 : BitVec 32 := 0#32
  let v132 : BitVec 1 := Scalar.cmpi .sgt v84 c0_i32_74
  let v133 : BitVec 32 := Scalar.extui v132
  let c0_i32_75 : BitVec 32 := 0#32
  let v134 : BitVec 1 := Scalar.cmpi .slt v84 c0_i32_75
  let v135 : BitVec 32 := Scalar.extui v134
  let v136 : BitVec 32 := Scalar.subi v133 v135
  let c2_i32_73 : BitVec 32 := 2#32
  let c0_i32_76 : BitVec 32 := 0#32
  let v137 : BitVec 1 := Scalar.cmpi .sgt c2_i32_73 c0_i32_76
  let v138 : BitVec 32 := Scalar.extui v137
  let c0_i32_77 : BitVec 32 := 0#32
  let v139 : BitVec 1 := Scalar.cmpi .slt c2_i32_73 c0_i32_77
  let v140 : BitVec 32 := Scalar.extui v139
  let v141 : BitVec 32 := Scalar.subi v138 v140
  let v142 : BitVec 1 := Scalar.cmpi .ne v136 v141
  let v143 : BitVec 32 := Scalar.remsi v84 c2_i32_73
  let c0_i32_78 : BitVec 32 := 0#32
  let v144 : BitVec 1 := Scalar.cmpi .ne v143 c0_i32_78
  let v145 : BitVec 1 := Scalar.andi v142 v144
  let v131 : BitVec 32 := Scalar.divsi v84 c2_i32_73
  let c1_i32_79 : BitVec 32 := 1#32
  let v146 : BitVec 32 := Scalar.subi v131 c1_i32_79
  let v147 : BitVec 32 := Scalar.select v145 v146 v131
  let v153 : BitVec 32 := Scalar.muli c2_i32_84 v147
  let c1_i32_94 : BitVec 32 := 1#32
  let arg25 : BitVec 32 := Scf.iv v153 c1_i32_94 k0_t7
  let v229 : BitVec 32 := Scalar.muli c2_i32_129 arg25
  let c512_i32_130 : BitVec 32 := 512#32
  let v230 : BitVec 32 := Scalar.muli v229 c512_i32_130
  v230
def k0_off239 (i : grid0.Coords) (k0_t7 : Fin (k0_t7_loop i).trips) : Fin 2 → Nat :=
  let c2_i32_129 : BitVec 32 := 2#32
  let c2_i32_84 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_74 : BitVec 32 := 0#32
  let v132 : BitVec 1 := Scalar.cmpi .sgt v84 c0_i32_74
  let v133 : BitVec 32 := Scalar.extui v132
  let c0_i32_75 : BitVec 32 := 0#32
  let v134 : BitVec 1 := Scalar.cmpi .slt v84 c0_i32_75
  let v135 : BitVec 32 := Scalar.extui v134
  let v136 : BitVec 32 := Scalar.subi v133 v135
  let c2_i32_73 : BitVec 32 := 2#32
  let c0_i32_76 : BitVec 32 := 0#32
  let v137 : BitVec 1 := Scalar.cmpi .sgt c2_i32_73 c0_i32_76
  let v138 : BitVec 32 := Scalar.extui v137
  let c0_i32_77 : BitVec 32 := 0#32
  let v139 : BitVec 1 := Scalar.cmpi .slt c2_i32_73 c0_i32_77
  let v140 : BitVec 32 := Scalar.extui v139
  let v141 : BitVec 32 := Scalar.subi v138 v140
  let v142 : BitVec 1 := Scalar.cmpi .ne v136 v141
  let v143 : BitVec 32 := Scalar.remsi v84 c2_i32_73
  let c0_i32_78 : BitVec 32 := 0#32
  let v144 : BitVec 1 := Scalar.cmpi .ne v143 c0_i32_78
  let v145 : BitVec 1 := Scalar.andi v142 v144
  let v131 : BitVec 32 := Scalar.divsi v84 c2_i32_73
  let c1_i32_79 : BitVec 32 := 1#32
  let v146 : BitVec 32 := Scalar.subi v131 c1_i32_79
  let v147 : BitVec 32 := Scalar.select v145 v146 v131
  let v153 : BitVec 32 := Scalar.muli c2_i32_84 v147
  let c1_i32_94 : BitVec 32 := 1#32
  let arg25 : BitVec 32 := Scf.iv v153 c1_i32_94 k0_t7
  let v229 : BitVec 32 := Scalar.muli c2_i32_129 arg25
  let c512_i32_130 : BitVec 32 := 512#32
  let v230 : BitVec 32 := Scalar.muli v229 c512_i32_130
  let v231 : BitVec 32 := v230
  let v241 : Index := Scalar.indexCast v231
  let c0_138 : Index := 0#32
  ![v241.toNat, 0]
def k0_off240 (i : grid0.Coords) (k0_t7 : Fin (k0_t7_loop i).trips) : Fin 2 → Nat :=
  let c2_i32_129 : BitVec 32 := 2#32
  let c2_i32_84 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_74 : BitVec 32 := 0#32
  let v132 : BitVec 1 := Scalar.cmpi .sgt v84 c0_i32_74
  let v133 : BitVec 32 := Scalar.extui v132
  let c0_i32_75 : BitVec 32 := 0#32
  let v134 : BitVec 1 := Scalar.cmpi .slt v84 c0_i32_75
  let v135 : BitVec 32 := Scalar.extui v134
  let v136 : BitVec 32 := Scalar.subi v133 v135
  let c2_i32_73 : BitVec 32 := 2#32
  let c0_i32_76 : BitVec 32 := 0#32
  let v137 : BitVec 1 := Scalar.cmpi .sgt c2_i32_73 c0_i32_76
  let v138 : BitVec 32 := Scalar.extui v137
  let c0_i32_77 : BitVec 32 := 0#32
  let v139 : BitVec 1 := Scalar.cmpi .slt c2_i32_73 c0_i32_77
  let v140 : BitVec 32 := Scalar.extui v139
  let v141 : BitVec 32 := Scalar.subi v138 v140
  let v142 : BitVec 1 := Scalar.cmpi .ne v136 v141
  let v143 : BitVec 32 := Scalar.remsi v84 c2_i32_73
  let c0_i32_78 : BitVec 32 := 0#32
  let v144 : BitVec 1 := Scalar.cmpi .ne v143 c0_i32_78
  let v145 : BitVec 1 := Scalar.andi v142 v144
  let v131 : BitVec 32 := Scalar.divsi v84 c2_i32_73
  let c1_i32_79 : BitVec 32 := 1#32
  let v146 : BitVec 32 := Scalar.subi v131 c1_i32_79
  let v147 : BitVec 32 := Scalar.select v145 v146 v131
  let v153 : BitVec 32 := Scalar.muli c2_i32_84 v147
  let c1_i32_94 : BitVec 32 := 1#32
  let arg25 : BitVec 32 := Scf.iv v153 c1_i32_94 k0_t7
  let v229 : BitVec 32 := Scalar.muli c2_i32_129 arg25
  let c512_i32_130 : BitVec 32 := 512#32
  let v230 : BitVec 32 := Scalar.muli v229 c512_i32_130
  let v231 : BitVec 32 := v230
  let v256 : Index := Scalar.indexCast v231
  let c0_145 : Index := 0#32
  ![v256.toNat, 0]
def k0_mult174 (i : grid0.Coords) (k0_t7 : Fin (k0_t7_loop i).trips) : BitVec 32 :=
  let c2_i32_148 : BitVec 32 := 2#32
  let c2_i32_84 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_74 : BitVec 32 := 0#32
  let v132 : BitVec 1 := Scalar.cmpi .sgt v84 c0_i32_74
  let v133 : BitVec 32 := Scalar.extui v132
  let c0_i32_75 : BitVec 32 := 0#32
  let v134 : BitVec 1 := Scalar.cmpi .slt v84 c0_i32_75
  let v135 : BitVec 32 := Scalar.extui v134
  let v136 : BitVec 32 := Scalar.subi v133 v135
  let c2_i32_73 : BitVec 32 := 2#32
  let c0_i32_76 : BitVec 32 := 0#32
  let v137 : BitVec 1 := Scalar.cmpi .sgt c2_i32_73 c0_i32_76
  let v138 : BitVec 32 := Scalar.extui v137
  let c0_i32_77 : BitVec 32 := 0#32
  let v139 : BitVec 1 := Scalar.cmpi .slt c2_i32_73 c0_i32_77
  let v140 : BitVec 32 := Scalar.extui v139
  let v141 : BitVec 32 := Scalar.subi v138 v140
  let v142 : BitVec 1 := Scalar.cmpi .ne v136 v141
  let v143 : BitVec 32 := Scalar.remsi v84 c2_i32_73
  let c0_i32_78 : BitVec 32 := 0#32
  let v144 : BitVec 1 := Scalar.cmpi .ne v143 c0_i32_78
  let v145 : BitVec 1 := Scalar.andi v142 v144
  let v131 : BitVec 32 := Scalar.divsi v84 c2_i32_73
  let c1_i32_79 : BitVec 32 := 1#32
  let v146 : BitVec 32 := Scalar.subi v131 c1_i32_79
  let v147 : BitVec 32 := Scalar.select v145 v146 v131
  let v153 : BitVec 32 := Scalar.muli c2_i32_84 v147
  let c1_i32_94 : BitVec 32 := 1#32
  let arg25 : BitVec 32 := Scf.iv v153 c1_i32_94 k0_t7
  let v264 : BitVec 32 := Scalar.muli c2_i32_148 arg25
  let c2_i32_149 : BitVec 32 := 2#32
  let v265 : BitVec 32 := Scalar.addi v264 c2_i32_149
  let v266 : BitVec 32 := Scalar.minsi v265 arg1
  let c512_i32_150 : BitVec 32 := 512#32
  let v267 : BitVec 32 := Scalar.muli v266 c512_i32_150
  v267
def k0_off241 (i : grid0.Coords) (k0_t7 : Fin (k0_t7_loop i).trips) : Fin 2 → Nat :=
  let c2_i32_148 : BitVec 32 := 2#32
  let c2_i32_84 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_74 : BitVec 32 := 0#32
  let v132 : BitVec 1 := Scalar.cmpi .sgt v84 c0_i32_74
  let v133 : BitVec 32 := Scalar.extui v132
  let c0_i32_75 : BitVec 32 := 0#32
  let v134 : BitVec 1 := Scalar.cmpi .slt v84 c0_i32_75
  let v135 : BitVec 32 := Scalar.extui v134
  let v136 : BitVec 32 := Scalar.subi v133 v135
  let c2_i32_73 : BitVec 32 := 2#32
  let c0_i32_76 : BitVec 32 := 0#32
  let v137 : BitVec 1 := Scalar.cmpi .sgt c2_i32_73 c0_i32_76
  let v138 : BitVec 32 := Scalar.extui v137
  let c0_i32_77 : BitVec 32 := 0#32
  let v139 : BitVec 1 := Scalar.cmpi .slt c2_i32_73 c0_i32_77
  let v140 : BitVec 32 := Scalar.extui v139
  let v141 : BitVec 32 := Scalar.subi v138 v140
  let v142 : BitVec 1 := Scalar.cmpi .ne v136 v141
  let v143 : BitVec 32 := Scalar.remsi v84 c2_i32_73
  let c0_i32_78 : BitVec 32 := 0#32
  let v144 : BitVec 1 := Scalar.cmpi .ne v143 c0_i32_78
  let v145 : BitVec 1 := Scalar.andi v142 v144
  let v131 : BitVec 32 := Scalar.divsi v84 c2_i32_73
  let c1_i32_79 : BitVec 32 := 1#32
  let v146 : BitVec 32 := Scalar.subi v131 c1_i32_79
  let v147 : BitVec 32 := Scalar.select v145 v146 v131
  let v153 : BitVec 32 := Scalar.muli c2_i32_84 v147
  let c1_i32_94 : BitVec 32 := 1#32
  let arg25 : BitVec 32 := Scf.iv v153 c1_i32_94 k0_t7
  let v264 : BitVec 32 := Scalar.muli c2_i32_148 arg25
  let c2_i32_149 : BitVec 32 := 2#32
  let v265 : BitVec 32 := Scalar.addi v264 c2_i32_149
  let v266 : BitVec 32 := Scalar.minsi v265 arg1
  let c512_i32_150 : BitVec 32 := 512#32
  let v267 : BitVec 32 := Scalar.muli v266 c512_i32_150
  let v268 : BitVec 32 := v267
  let v269 : Index := Scalar.indexCast v268
  let c0_151 : Index := 0#32
  ![v269.toNat, 0]
def k0_off242 (i : grid0.Coords) (k0_t7 : Fin (k0_t7_loop i).trips) : Fin 3 → Nat :=
  let c2_i32_148 : BitVec 32 := 2#32
  let c2_i32_84 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_74 : BitVec 32 := 0#32
  let v132 : BitVec 1 := Scalar.cmpi .sgt v84 c0_i32_74
  let v133 : BitVec 32 := Scalar.extui v132
  let c0_i32_75 : BitVec 32 := 0#32
  let v134 : BitVec 1 := Scalar.cmpi .slt v84 c0_i32_75
  let v135 : BitVec 32 := Scalar.extui v134
  let v136 : BitVec 32 := Scalar.subi v133 v135
  let c2_i32_73 : BitVec 32 := 2#32
  let c0_i32_76 : BitVec 32 := 0#32
  let v137 : BitVec 1 := Scalar.cmpi .sgt c2_i32_73 c0_i32_76
  let v138 : BitVec 32 := Scalar.extui v137
  let c0_i32_77 : BitVec 32 := 0#32
  let v139 : BitVec 1 := Scalar.cmpi .slt c2_i32_73 c0_i32_77
  let v140 : BitVec 32 := Scalar.extui v139
  let v141 : BitVec 32 := Scalar.subi v138 v140
  let v142 : BitVec 1 := Scalar.cmpi .ne v136 v141
  let v143 : BitVec 32 := Scalar.remsi v84 c2_i32_73
  let c0_i32_78 : BitVec 32 := 0#32
  let v144 : BitVec 1 := Scalar.cmpi .ne v143 c0_i32_78
  let v145 : BitVec 1 := Scalar.andi v142 v144
  let v131 : BitVec 32 := Scalar.divsi v84 c2_i32_73
  let c1_i32_79 : BitVec 32 := 1#32
  let v146 : BitVec 32 := Scalar.subi v131 c1_i32_79
  let v147 : BitVec 32 := Scalar.select v145 v146 v131
  let v153 : BitVec 32 := Scalar.muli c2_i32_84 v147
  let c1_i32_94 : BitVec 32 := 1#32
  let arg25 : BitVec 32 := Scf.iv v153 c1_i32_94 k0_t7
  let v264 : BitVec 32 := Scalar.muli c2_i32_148 arg25
  let c2_i32_149 : BitVec 32 := 2#32
  let v265 : BitVec 32 := Scalar.addi v264 c2_i32_149
  let v266 : BitVec 32 := Scalar.minsi v265 arg1
  let v274 : BitVec 1 := Scalar.cmpi .eq v266 arg1
  let v275 : BitVec 32 := Scalar.extui v274
  let v276 : Index := Scalar.indexCast v275
  let c0_154 : Index := 0#32
  let c0_155 : Index := 0#32
  ![v276.toNat, 0, 0]
def k0_mult175 (i : grid0.Coords) (k0_t7 : Fin (k0_t7_loop i).trips) : BitVec 32 :=
  let c2_i32_148 : BitVec 32 := 2#32
  let c2_i32_84 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_74 : BitVec 32 := 0#32
  let v132 : BitVec 1 := Scalar.cmpi .sgt v84 c0_i32_74
  let v133 : BitVec 32 := Scalar.extui v132
  let c0_i32_75 : BitVec 32 := 0#32
  let v134 : BitVec 1 := Scalar.cmpi .slt v84 c0_i32_75
  let v135 : BitVec 32 := Scalar.extui v134
  let v136 : BitVec 32 := Scalar.subi v133 v135
  let c2_i32_73 : BitVec 32 := 2#32
  let c0_i32_76 : BitVec 32 := 0#32
  let v137 : BitVec 1 := Scalar.cmpi .sgt c2_i32_73 c0_i32_76
  let v138 : BitVec 32 := Scalar.extui v137
  let c0_i32_77 : BitVec 32 := 0#32
  let v139 : BitVec 1 := Scalar.cmpi .slt c2_i32_73 c0_i32_77
  let v140 : BitVec 32 := Scalar.extui v139
  let v141 : BitVec 32 := Scalar.subi v138 v140
  let v142 : BitVec 1 := Scalar.cmpi .ne v136 v141
  let v143 : BitVec 32 := Scalar.remsi v84 c2_i32_73
  let c0_i32_78 : BitVec 32 := 0#32
  let v144 : BitVec 1 := Scalar.cmpi .ne v143 c0_i32_78
  let v145 : BitVec 1 := Scalar.andi v142 v144
  let v131 : BitVec 32 := Scalar.divsi v84 c2_i32_73
  let c1_i32_79 : BitVec 32 := 1#32
  let v146 : BitVec 32 := Scalar.subi v131 c1_i32_79
  let v147 : BitVec 32 := Scalar.select v145 v146 v131
  let v153 : BitVec 32 := Scalar.muli c2_i32_84 v147
  let c1_i32_94 : BitVec 32 := 1#32
  let arg25 : BitVec 32 := Scf.iv v153 c1_i32_94 k0_t7
  let v264 : BitVec 32 := Scalar.muli c2_i32_148 arg25
  let c2_i32_149 : BitVec 32 := 2#32
  let v265 : BitVec 32 := Scalar.addi v264 c2_i32_149
  let v266 : BitVec 32 := Scalar.minsi v265 arg1
  let c512_i32_161 : BitVec 32 := 512#32
  let v287 : BitVec 32 := Scalar.muli v266 c512_i32_161
  v287
def k0_off243 (i : grid0.Coords) (k0_t7 : Fin (k0_t7_loop i).trips) : Fin 2 → Nat :=
  let c2_i32_148 : BitVec 32 := 2#32
  let c2_i32_84 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_74 : BitVec 32 := 0#32
  let v132 : BitVec 1 := Scalar.cmpi .sgt v84 c0_i32_74
  let v133 : BitVec 32 := Scalar.extui v132
  let c0_i32_75 : BitVec 32 := 0#32
  let v134 : BitVec 1 := Scalar.cmpi .slt v84 c0_i32_75
  let v135 : BitVec 32 := Scalar.extui v134
  let v136 : BitVec 32 := Scalar.subi v133 v135
  let c2_i32_73 : BitVec 32 := 2#32
  let c0_i32_76 : BitVec 32 := 0#32
  let v137 : BitVec 1 := Scalar.cmpi .sgt c2_i32_73 c0_i32_76
  let v138 : BitVec 32 := Scalar.extui v137
  let c0_i32_77 : BitVec 32 := 0#32
  let v139 : BitVec 1 := Scalar.cmpi .slt c2_i32_73 c0_i32_77
  let v140 : BitVec 32 := Scalar.extui v139
  let v141 : BitVec 32 := Scalar.subi v138 v140
  let v142 : BitVec 1 := Scalar.cmpi .ne v136 v141
  let v143 : BitVec 32 := Scalar.remsi v84 c2_i32_73
  let c0_i32_78 : BitVec 32 := 0#32
  let v144 : BitVec 1 := Scalar.cmpi .ne v143 c0_i32_78
  let v145 : BitVec 1 := Scalar.andi v142 v144
  let v131 : BitVec 32 := Scalar.divsi v84 c2_i32_73
  let c1_i32_79 : BitVec 32 := 1#32
  let v146 : BitVec 32 := Scalar.subi v131 c1_i32_79
  let v147 : BitVec 32 := Scalar.select v145 v146 v131
  let v153 : BitVec 32 := Scalar.muli c2_i32_84 v147
  let c1_i32_94 : BitVec 32 := 1#32
  let arg25 : BitVec 32 := Scf.iv v153 c1_i32_94 k0_t7
  let v264 : BitVec 32 := Scalar.muli c2_i32_148 arg25
  let c2_i32_149 : BitVec 32 := 2#32
  let v265 : BitVec 32 := Scalar.addi v264 c2_i32_149
  let v266 : BitVec 32 := Scalar.minsi v265 arg1
  let c512_i32_161 : BitVec 32 := 512#32
  let v287 : BitVec 32 := Scalar.muli v266 c512_i32_161
  let v288 : BitVec 32 := v287
  let v289 : Index := Scalar.indexCast v288
  let c0_162 : Index := 0#32
  ![v289.toNat, 0]
def k0_mult176 (i : grid0.Coords) (k0_t7 : Fin (k0_t7_loop i).trips) : BitVec 32 :=
  let c2_i32_168 : BitVec 32 := 2#32
  let c2_i32_84 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_74 : BitVec 32 := 0#32
  let v132 : BitVec 1 := Scalar.cmpi .sgt v84 c0_i32_74
  let v133 : BitVec 32 := Scalar.extui v132
  let c0_i32_75 : BitVec 32 := 0#32
  let v134 : BitVec 1 := Scalar.cmpi .slt v84 c0_i32_75
  let v135 : BitVec 32 := Scalar.extui v134
  let v136 : BitVec 32 := Scalar.subi v133 v135
  let c2_i32_73 : BitVec 32 := 2#32
  let c0_i32_76 : BitVec 32 := 0#32
  let v137 : BitVec 1 := Scalar.cmpi .sgt c2_i32_73 c0_i32_76
  let v138 : BitVec 32 := Scalar.extui v137
  let c0_i32_77 : BitVec 32 := 0#32
  let v139 : BitVec 1 := Scalar.cmpi .slt c2_i32_73 c0_i32_77
  let v140 : BitVec 32 := Scalar.extui v139
  let v141 : BitVec 32 := Scalar.subi v138 v140
  let v142 : BitVec 1 := Scalar.cmpi .ne v136 v141
  let v143 : BitVec 32 := Scalar.remsi v84 c2_i32_73
  let c0_i32_78 : BitVec 32 := 0#32
  let v144 : BitVec 1 := Scalar.cmpi .ne v143 c0_i32_78
  let v145 : BitVec 1 := Scalar.andi v142 v144
  let v131 : BitVec 32 := Scalar.divsi v84 c2_i32_73
  let c1_i32_79 : BitVec 32 := 1#32
  let v146 : BitVec 32 := Scalar.subi v131 c1_i32_79
  let v147 : BitVec 32 := Scalar.select v145 v146 v131
  let v153 : BitVec 32 := Scalar.muli c2_i32_84 v147
  let c1_i32_94 : BitVec 32 := 1#32
  let arg25 : BitVec 32 := Scf.iv v153 c1_i32_94 k0_t7
  let v298 : BitVec 32 := Scalar.muli c2_i32_168 arg25
  let c1_i32_169 : BitVec 32 := 1#32
  let v299 : BitVec 32 := Scalar.addi v298 c1_i32_169
  let c512_i32_170 : BitVec 32 := 512#32
  let v300 : BitVec 32 := Scalar.muli v299 c512_i32_170
  v300
@[reducible] def k0_t8_loop (i : grid0.Coords) : Scf.Loop 32 :=
  let c2_i32_84 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_74 : BitVec 32 := 0#32
  let v132 : BitVec 1 := Scalar.cmpi .sgt v84 c0_i32_74
  let v133 : BitVec 32 := Scalar.extui v132
  let c0_i32_75 : BitVec 32 := 0#32
  let v134 : BitVec 1 := Scalar.cmpi .slt v84 c0_i32_75
  let v135 : BitVec 32 := Scalar.extui v134
  let v136 : BitVec 32 := Scalar.subi v133 v135
  let c2_i32_73 : BitVec 32 := 2#32
  let c0_i32_76 : BitVec 32 := 0#32
  let v137 : BitVec 1 := Scalar.cmpi .sgt c2_i32_73 c0_i32_76
  let v138 : BitVec 32 := Scalar.extui v137
  let c0_i32_77 : BitVec 32 := 0#32
  let v139 : BitVec 1 := Scalar.cmpi .slt c2_i32_73 c0_i32_77
  let v140 : BitVec 32 := Scalar.extui v139
  let v141 : BitVec 32 := Scalar.subi v138 v140
  let v142 : BitVec 1 := Scalar.cmpi .ne v136 v141
  let v143 : BitVec 32 := Scalar.remsi v84 c2_i32_73
  let c0_i32_78 : BitVec 32 := 0#32
  let v144 : BitVec 1 := Scalar.cmpi .ne v143 c0_i32_78
  let v145 : BitVec 1 := Scalar.andi v142 v144
  let v131 : BitVec 32 := Scalar.divsi v84 c2_i32_73
  let c1_i32_79 : BitVec 32 := 1#32
  let v146 : BitVec 32 := Scalar.subi v131 c1_i32_79
  let v147 : BitVec 32 := Scalar.select v145 v146 v131
  let v153 : BitVec 32 := Scalar.muli c2_i32_84 v147
  let c0_i32_86 : BitVec 32 := 0#32
  let v155 : BitVec 1 := Scalar.cmpi .sgt v84 c0_i32_86
  let v156 : BitVec 32 := Scalar.extui v155
  let c0_i32_87 : BitVec 32 := 0#32
  let v157 : BitVec 1 := Scalar.cmpi .slt v84 c0_i32_87
  let v158 : BitVec 32 := Scalar.extui v157
  let v159 : BitVec 32 := Scalar.subi v156 v158
  let c1_i32_85 : BitVec 32 := 1#32
  let c0_i32_88 : BitVec 32 := 0#32
  let v160 : BitVec 1 := Scalar.cmpi .sgt c1_i32_85 c0_i32_88
  let v161 : BitVec 32 := Scalar.extui v160
  let c0_i32_89 : BitVec 32 := 0#32
  let v162 : BitVec 1 := Scalar.cmpi .slt c1_i32_85 c0_i32_89
  let v163 : BitVec 32 := Scalar.extui v162
  let v164 : BitVec 32 := Scalar.subi v161 v163
  let v165 : BitVec 1 := Scalar.cmpi .ne v159 v164
  let v166 : BitVec 32 := Scalar.remsi v84 c1_i32_85
  let c0_i32_90 : BitVec 32 := 0#32
  let v167 : BitVec 1 := Scalar.cmpi .ne v166 c0_i32_90
  let v168 : BitVec 1 := Scalar.andi v165 v167
  let v154 : BitVec 32 := Scalar.divsi v84 c1_i32_85
  let c1_i32_91 : BitVec 32 := 1#32
  let v169 : BitVec 32 := Scalar.subi v154 c1_i32_91
  let v170 : BitVec 32 := Scalar.select v168 v169 v154
  let v171 : BitVec 32 := Scalar.subi v170 v153
  let c1_i32_93 : BitVec 32 := 1#32
  let v173 : BitVec 32 := Scalar.divsi v171 c1_i32_93
  let v174 : BitVec 32 := Scalar.muli v173 c1_i32_93
  let v175 : BitVec 32 := Scalar.addi v153 v174
  let v172 : BitVec 32 := Scalar.addi v153 v171
  let c1_i32_95 : BitVec 32 := 1#32
  ⟨v175, v172, c1_i32_95⟩
def k0_mult177 (i : grid0.Coords) (k0_t8 : Fin (k0_t8_loop i).trips) : BitVec 32 :=
  let c2_i32_110 : BitVec 32 := 2#32
  let c2_i32_84 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_74 : BitVec 32 := 0#32
  let v132 : BitVec 1 := Scalar.cmpi .sgt v84 c0_i32_74
  let v133 : BitVec 32 := Scalar.extui v132
  let c0_i32_75 : BitVec 32 := 0#32
  let v134 : BitVec 1 := Scalar.cmpi .slt v84 c0_i32_75
  let v135 : BitVec 32 := Scalar.extui v134
  let v136 : BitVec 32 := Scalar.subi v133 v135
  let c2_i32_73 : BitVec 32 := 2#32
  let c0_i32_76 : BitVec 32 := 0#32
  let v137 : BitVec 1 := Scalar.cmpi .sgt c2_i32_73 c0_i32_76
  let v138 : BitVec 32 := Scalar.extui v137
  let c0_i32_77 : BitVec 32 := 0#32
  let v139 : BitVec 1 := Scalar.cmpi .slt c2_i32_73 c0_i32_77
  let v140 : BitVec 32 := Scalar.extui v139
  let v141 : BitVec 32 := Scalar.subi v138 v140
  let v142 : BitVec 1 := Scalar.cmpi .ne v136 v141
  let v143 : BitVec 32 := Scalar.remsi v84 c2_i32_73
  let c0_i32_78 : BitVec 32 := 0#32
  let v144 : BitVec 1 := Scalar.cmpi .ne v143 c0_i32_78
  let v145 : BitVec 1 := Scalar.andi v142 v144
  let v131 : BitVec 32 := Scalar.divsi v84 c2_i32_73
  let c1_i32_79 : BitVec 32 := 1#32
  let v146 : BitVec 32 := Scalar.subi v131 c1_i32_79
  let v147 : BitVec 32 := Scalar.select v145 v146 v131
  let v153 : BitVec 32 := Scalar.muli c2_i32_84 v147
  let c0_i32_86 : BitVec 32 := 0#32
  let v155 : BitVec 1 := Scalar.cmpi .sgt v84 c0_i32_86
  let v156 : BitVec 32 := Scalar.extui v155
  let c0_i32_87 : BitVec 32 := 0#32
  let v157 : BitVec 1 := Scalar.cmpi .slt v84 c0_i32_87
  let v158 : BitVec 32 := Scalar.extui v157
  let v159 : BitVec 32 := Scalar.subi v156 v158
  let c1_i32_85 : BitVec 32 := 1#32
  let c0_i32_88 : BitVec 32 := 0#32
  let v160 : BitVec 1 := Scalar.cmpi .sgt c1_i32_85 c0_i32_88
  let v161 : BitVec 32 := Scalar.extui v160
  let c0_i32_89 : BitVec 32 := 0#32
  let v162 : BitVec 1 := Scalar.cmpi .slt c1_i32_85 c0_i32_89
  let v163 : BitVec 32 := Scalar.extui v162
  let v164 : BitVec 32 := Scalar.subi v161 v163
  let v165 : BitVec 1 := Scalar.cmpi .ne v159 v164
  let v166 : BitVec 32 := Scalar.remsi v84 c1_i32_85
  let c0_i32_90 : BitVec 32 := 0#32
  let v167 : BitVec 1 := Scalar.cmpi .ne v166 c0_i32_90
  let v168 : BitVec 1 := Scalar.andi v165 v167
  let v154 : BitVec 32 := Scalar.divsi v84 c1_i32_85
  let c1_i32_91 : BitVec 32 := 1#32
  let v169 : BitVec 32 := Scalar.subi v154 c1_i32_91
  let v170 : BitVec 32 := Scalar.select v168 v169 v154
  let v171 : BitVec 32 := Scalar.subi v170 v153
  let c1_i32_93 : BitVec 32 := 1#32
  let v173 : BitVec 32 := Scalar.divsi v171 c1_i32_93
  let v174 : BitVec 32 := Scalar.muli v173 c1_i32_93
  let v175 : BitVec 32 := Scalar.addi v153 v174
  let c1_i32_95 : BitVec 32 := 1#32
  let arg25 : BitVec 32 := Scf.iv v175 c1_i32_95 k0_t8
  let v196 : BitVec 32 := Scalar.muli c2_i32_110 arg25
  let c1_i32_111 : BitVec 32 := 1#32
  let v197 : BitVec 32 := Scalar.addi v196 c1_i32_111
  let c512_i32 : BitVec 32 := 512#32
  let v198 : BitVec 32 := Scalar.muli v197 c512_i32
  v198
def k0_off244 (i : grid0.Coords) (k0_t8 : Fin (k0_t8_loop i).trips) : Fin 2 → Nat :=
  let c2_i32_110 : BitVec 32 := 2#32
  let c2_i32_84 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_74 : BitVec 32 := 0#32
  let v132 : BitVec 1 := Scalar.cmpi .sgt v84 c0_i32_74
  let v133 : BitVec 32 := Scalar.extui v132
  let c0_i32_75 : BitVec 32 := 0#32
  let v134 : BitVec 1 := Scalar.cmpi .slt v84 c0_i32_75
  let v135 : BitVec 32 := Scalar.extui v134
  let v136 : BitVec 32 := Scalar.subi v133 v135
  let c2_i32_73 : BitVec 32 := 2#32
  let c0_i32_76 : BitVec 32 := 0#32
  let v137 : BitVec 1 := Scalar.cmpi .sgt c2_i32_73 c0_i32_76
  let v138 : BitVec 32 := Scalar.extui v137
  let c0_i32_77 : BitVec 32 := 0#32
  let v139 : BitVec 1 := Scalar.cmpi .slt c2_i32_73 c0_i32_77
  let v140 : BitVec 32 := Scalar.extui v139
  let v141 : BitVec 32 := Scalar.subi v138 v140
  let v142 : BitVec 1 := Scalar.cmpi .ne v136 v141
  let v143 : BitVec 32 := Scalar.remsi v84 c2_i32_73
  let c0_i32_78 : BitVec 32 := 0#32
  let v144 : BitVec 1 := Scalar.cmpi .ne v143 c0_i32_78
  let v145 : BitVec 1 := Scalar.andi v142 v144
  let v131 : BitVec 32 := Scalar.divsi v84 c2_i32_73
  let c1_i32_79 : BitVec 32 := 1#32
  let v146 : BitVec 32 := Scalar.subi v131 c1_i32_79
  let v147 : BitVec 32 := Scalar.select v145 v146 v131
  let v153 : BitVec 32 := Scalar.muli c2_i32_84 v147
  let c0_i32_86 : BitVec 32 := 0#32
  let v155 : BitVec 1 := Scalar.cmpi .sgt v84 c0_i32_86
  let v156 : BitVec 32 := Scalar.extui v155
  let c0_i32_87 : BitVec 32 := 0#32
  let v157 : BitVec 1 := Scalar.cmpi .slt v84 c0_i32_87
  let v158 : BitVec 32 := Scalar.extui v157
  let v159 : BitVec 32 := Scalar.subi v156 v158
  let c1_i32_85 : BitVec 32 := 1#32
  let c0_i32_88 : BitVec 32 := 0#32
  let v160 : BitVec 1 := Scalar.cmpi .sgt c1_i32_85 c0_i32_88
  let v161 : BitVec 32 := Scalar.extui v160
  let c0_i32_89 : BitVec 32 := 0#32
  let v162 : BitVec 1 := Scalar.cmpi .slt c1_i32_85 c0_i32_89
  let v163 : BitVec 32 := Scalar.extui v162
  let v164 : BitVec 32 := Scalar.subi v161 v163
  let v165 : BitVec 1 := Scalar.cmpi .ne v159 v164
  let v166 : BitVec 32 := Scalar.remsi v84 c1_i32_85
  let c0_i32_90 : BitVec 32 := 0#32
  let v167 : BitVec 1 := Scalar.cmpi .ne v166 c0_i32_90
  let v168 : BitVec 1 := Scalar.andi v165 v167
  let v154 : BitVec 32 := Scalar.divsi v84 c1_i32_85
  let c1_i32_91 : BitVec 32 := 1#32
  let v169 : BitVec 32 := Scalar.subi v154 c1_i32_91
  let v170 : BitVec 32 := Scalar.select v168 v169 v154
  let v171 : BitVec 32 := Scalar.subi v170 v153
  let c1_i32_93 : BitVec 32 := 1#32
  let v173 : BitVec 32 := Scalar.divsi v171 c1_i32_93
  let v174 : BitVec 32 := Scalar.muli v173 c1_i32_93
  let v175 : BitVec 32 := Scalar.addi v153 v174
  let c1_i32_95 : BitVec 32 := 1#32
  let arg25 : BitVec 32 := Scf.iv v175 c1_i32_95 k0_t8
  let v196 : BitVec 32 := Scalar.muli c2_i32_110 arg25
  let c1_i32_111 : BitVec 32 := 1#32
  let v197 : BitVec 32 := Scalar.addi v196 c1_i32_111
  let c512_i32 : BitVec 32 := 512#32
  let v198 : BitVec 32 := Scalar.muli v197 c512_i32
  let v199 : BitVec 32 := v198
  let v200 : Index := Scalar.indexCast v199
  let c0_112 : Index := 0#32
  ![v200.toNat, 0]
def k0_off245 (i : grid0.Coords) (k0_t8 : Fin (k0_t8_loop i).trips) : Fin 3 → Nat :=
  let c2_i32_110 : BitVec 32 := 2#32
  let c2_i32_84 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_74 : BitVec 32 := 0#32
  let v132 : BitVec 1 := Scalar.cmpi .sgt v84 c0_i32_74
  let v133 : BitVec 32 := Scalar.extui v132
  let c0_i32_75 : BitVec 32 := 0#32
  let v134 : BitVec 1 := Scalar.cmpi .slt v84 c0_i32_75
  let v135 : BitVec 32 := Scalar.extui v134
  let v136 : BitVec 32 := Scalar.subi v133 v135
  let c2_i32_73 : BitVec 32 := 2#32
  let c0_i32_76 : BitVec 32 := 0#32
  let v137 : BitVec 1 := Scalar.cmpi .sgt c2_i32_73 c0_i32_76
  let v138 : BitVec 32 := Scalar.extui v137
  let c0_i32_77 : BitVec 32 := 0#32
  let v139 : BitVec 1 := Scalar.cmpi .slt c2_i32_73 c0_i32_77
  let v140 : BitVec 32 := Scalar.extui v139
  let v141 : BitVec 32 := Scalar.subi v138 v140
  let v142 : BitVec 1 := Scalar.cmpi .ne v136 v141
  let v143 : BitVec 32 := Scalar.remsi v84 c2_i32_73
  let c0_i32_78 : BitVec 32 := 0#32
  let v144 : BitVec 1 := Scalar.cmpi .ne v143 c0_i32_78
  let v145 : BitVec 1 := Scalar.andi v142 v144
  let v131 : BitVec 32 := Scalar.divsi v84 c2_i32_73
  let c1_i32_79 : BitVec 32 := 1#32
  let v146 : BitVec 32 := Scalar.subi v131 c1_i32_79
  let v147 : BitVec 32 := Scalar.select v145 v146 v131
  let v153 : BitVec 32 := Scalar.muli c2_i32_84 v147
  let c0_i32_86 : BitVec 32 := 0#32
  let v155 : BitVec 1 := Scalar.cmpi .sgt v84 c0_i32_86
  let v156 : BitVec 32 := Scalar.extui v155
  let c0_i32_87 : BitVec 32 := 0#32
  let v157 : BitVec 1 := Scalar.cmpi .slt v84 c0_i32_87
  let v158 : BitVec 32 := Scalar.extui v157
  let v159 : BitVec 32 := Scalar.subi v156 v158
  let c1_i32_85 : BitVec 32 := 1#32
  let c0_i32_88 : BitVec 32 := 0#32
  let v160 : BitVec 1 := Scalar.cmpi .sgt c1_i32_85 c0_i32_88
  let v161 : BitVec 32 := Scalar.extui v160
  let c0_i32_89 : BitVec 32 := 0#32
  let v162 : BitVec 1 := Scalar.cmpi .slt c1_i32_85 c0_i32_89
  let v163 : BitVec 32 := Scalar.extui v162
  let v164 : BitVec 32 := Scalar.subi v161 v163
  let v165 : BitVec 1 := Scalar.cmpi .ne v159 v164
  let v166 : BitVec 32 := Scalar.remsi v84 c1_i32_85
  let c0_i32_90 : BitVec 32 := 0#32
  let v167 : BitVec 1 := Scalar.cmpi .ne v166 c0_i32_90
  let v168 : BitVec 1 := Scalar.andi v165 v167
  let v154 : BitVec 32 := Scalar.divsi v84 c1_i32_85
  let c1_i32_91 : BitVec 32 := 1#32
  let v169 : BitVec 32 := Scalar.subi v154 c1_i32_91
  let v170 : BitVec 32 := Scalar.select v168 v169 v154
  let v171 : BitVec 32 := Scalar.subi v170 v153
  let c1_i32_93 : BitVec 32 := 1#32
  let v173 : BitVec 32 := Scalar.divsi v171 c1_i32_93
  let v174 : BitVec 32 := Scalar.muli v173 c1_i32_93
  let v175 : BitVec 32 := Scalar.addi v153 v174
  let c1_i32_95 : BitVec 32 := 1#32
  let arg25 : BitVec 32 := Scf.iv v175 c1_i32_95 k0_t8
  let v196 : BitVec 32 := Scalar.muli c2_i32_110 arg25
  let c1_i32_111 : BitVec 32 := 1#32
  let v197 : BitVec 32 := Scalar.addi v196 c1_i32_111
  let v205 : BitVec 1 := Scalar.cmpi .eq v197 arg1
  let v206 : BitVec 32 := Scalar.extui v205
  let v207 : Index := Scalar.indexCast v206
  let c0_115 : Index := 0#32
  let c0_116 : Index := 0#32
  ![v207.toNat, 0, 0]
def k0_mult178 (i : grid0.Coords) (k0_t8 : Fin (k0_t8_loop i).trips) : BitVec 32 :=
  let c2_i32_110 : BitVec 32 := 2#32
  let c2_i32_84 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_74 : BitVec 32 := 0#32
  let v132 : BitVec 1 := Scalar.cmpi .sgt v84 c0_i32_74
  let v133 : BitVec 32 := Scalar.extui v132
  let c0_i32_75 : BitVec 32 := 0#32
  let v134 : BitVec 1 := Scalar.cmpi .slt v84 c0_i32_75
  let v135 : BitVec 32 := Scalar.extui v134
  let v136 : BitVec 32 := Scalar.subi v133 v135
  let c2_i32_73 : BitVec 32 := 2#32
  let c0_i32_76 : BitVec 32 := 0#32
  let v137 : BitVec 1 := Scalar.cmpi .sgt c2_i32_73 c0_i32_76
  let v138 : BitVec 32 := Scalar.extui v137
  let c0_i32_77 : BitVec 32 := 0#32
  let v139 : BitVec 1 := Scalar.cmpi .slt c2_i32_73 c0_i32_77
  let v140 : BitVec 32 := Scalar.extui v139
  let v141 : BitVec 32 := Scalar.subi v138 v140
  let v142 : BitVec 1 := Scalar.cmpi .ne v136 v141
  let v143 : BitVec 32 := Scalar.remsi v84 c2_i32_73
  let c0_i32_78 : BitVec 32 := 0#32
  let v144 : BitVec 1 := Scalar.cmpi .ne v143 c0_i32_78
  let v145 : BitVec 1 := Scalar.andi v142 v144
  let v131 : BitVec 32 := Scalar.divsi v84 c2_i32_73
  let c1_i32_79 : BitVec 32 := 1#32
  let v146 : BitVec 32 := Scalar.subi v131 c1_i32_79
  let v147 : BitVec 32 := Scalar.select v145 v146 v131
  let v153 : BitVec 32 := Scalar.muli c2_i32_84 v147
  let c0_i32_86 : BitVec 32 := 0#32
  let v155 : BitVec 1 := Scalar.cmpi .sgt v84 c0_i32_86
  let v156 : BitVec 32 := Scalar.extui v155
  let c0_i32_87 : BitVec 32 := 0#32
  let v157 : BitVec 1 := Scalar.cmpi .slt v84 c0_i32_87
  let v158 : BitVec 32 := Scalar.extui v157
  let v159 : BitVec 32 := Scalar.subi v156 v158
  let c1_i32_85 : BitVec 32 := 1#32
  let c0_i32_88 : BitVec 32 := 0#32
  let v160 : BitVec 1 := Scalar.cmpi .sgt c1_i32_85 c0_i32_88
  let v161 : BitVec 32 := Scalar.extui v160
  let c0_i32_89 : BitVec 32 := 0#32
  let v162 : BitVec 1 := Scalar.cmpi .slt c1_i32_85 c0_i32_89
  let v163 : BitVec 32 := Scalar.extui v162
  let v164 : BitVec 32 := Scalar.subi v161 v163
  let v165 : BitVec 1 := Scalar.cmpi .ne v159 v164
  let v166 : BitVec 32 := Scalar.remsi v84 c1_i32_85
  let c0_i32_90 : BitVec 32 := 0#32
  let v167 : BitVec 1 := Scalar.cmpi .ne v166 c0_i32_90
  let v168 : BitVec 1 := Scalar.andi v165 v167
  let v154 : BitVec 32 := Scalar.divsi v84 c1_i32_85
  let c1_i32_91 : BitVec 32 := 1#32
  let v169 : BitVec 32 := Scalar.subi v154 c1_i32_91
  let v170 : BitVec 32 := Scalar.select v168 v169 v154
  let v171 : BitVec 32 := Scalar.subi v170 v153
  let c1_i32_93 : BitVec 32 := 1#32
  let v173 : BitVec 32 := Scalar.divsi v171 c1_i32_93
  let v174 : BitVec 32 := Scalar.muli v173 c1_i32_93
  let v175 : BitVec 32 := Scalar.addi v153 v174
  let c1_i32_95 : BitVec 32 := 1#32
  let arg25 : BitVec 32 := Scf.iv v175 c1_i32_95 k0_t8
  let v196 : BitVec 32 := Scalar.muli c2_i32_110 arg25
  let c1_i32_111 : BitVec 32 := 1#32
  let v197 : BitVec 32 := Scalar.addi v196 c1_i32_111
  let c512_i32_122 : BitVec 32 := 512#32
  let v218 : BitVec 32 := Scalar.muli v197 c512_i32_122
  v218
def k0_off246 (i : grid0.Coords) (k0_t8 : Fin (k0_t8_loop i).trips) : Fin 2 → Nat :=
  let c2_i32_110 : BitVec 32 := 2#32
  let c2_i32_84 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_74 : BitVec 32 := 0#32
  let v132 : BitVec 1 := Scalar.cmpi .sgt v84 c0_i32_74
  let v133 : BitVec 32 := Scalar.extui v132
  let c0_i32_75 : BitVec 32 := 0#32
  let v134 : BitVec 1 := Scalar.cmpi .slt v84 c0_i32_75
  let v135 : BitVec 32 := Scalar.extui v134
  let v136 : BitVec 32 := Scalar.subi v133 v135
  let c2_i32_73 : BitVec 32 := 2#32
  let c0_i32_76 : BitVec 32 := 0#32
  let v137 : BitVec 1 := Scalar.cmpi .sgt c2_i32_73 c0_i32_76
  let v138 : BitVec 32 := Scalar.extui v137
  let c0_i32_77 : BitVec 32 := 0#32
  let v139 : BitVec 1 := Scalar.cmpi .slt c2_i32_73 c0_i32_77
  let v140 : BitVec 32 := Scalar.extui v139
  let v141 : BitVec 32 := Scalar.subi v138 v140
  let v142 : BitVec 1 := Scalar.cmpi .ne v136 v141
  let v143 : BitVec 32 := Scalar.remsi v84 c2_i32_73
  let c0_i32_78 : BitVec 32 := 0#32
  let v144 : BitVec 1 := Scalar.cmpi .ne v143 c0_i32_78
  let v145 : BitVec 1 := Scalar.andi v142 v144
  let v131 : BitVec 32 := Scalar.divsi v84 c2_i32_73
  let c1_i32_79 : BitVec 32 := 1#32
  let v146 : BitVec 32 := Scalar.subi v131 c1_i32_79
  let v147 : BitVec 32 := Scalar.select v145 v146 v131
  let v153 : BitVec 32 := Scalar.muli c2_i32_84 v147
  let c0_i32_86 : BitVec 32 := 0#32
  let v155 : BitVec 1 := Scalar.cmpi .sgt v84 c0_i32_86
  let v156 : BitVec 32 := Scalar.extui v155
  let c0_i32_87 : BitVec 32 := 0#32
  let v157 : BitVec 1 := Scalar.cmpi .slt v84 c0_i32_87
  let v158 : BitVec 32 := Scalar.extui v157
  let v159 : BitVec 32 := Scalar.subi v156 v158
  let c1_i32_85 : BitVec 32 := 1#32
  let c0_i32_88 : BitVec 32 := 0#32
  let v160 : BitVec 1 := Scalar.cmpi .sgt c1_i32_85 c0_i32_88
  let v161 : BitVec 32 := Scalar.extui v160
  let c0_i32_89 : BitVec 32 := 0#32
  let v162 : BitVec 1 := Scalar.cmpi .slt c1_i32_85 c0_i32_89
  let v163 : BitVec 32 := Scalar.extui v162
  let v164 : BitVec 32 := Scalar.subi v161 v163
  let v165 : BitVec 1 := Scalar.cmpi .ne v159 v164
  let v166 : BitVec 32 := Scalar.remsi v84 c1_i32_85
  let c0_i32_90 : BitVec 32 := 0#32
  let v167 : BitVec 1 := Scalar.cmpi .ne v166 c0_i32_90
  let v168 : BitVec 1 := Scalar.andi v165 v167
  let v154 : BitVec 32 := Scalar.divsi v84 c1_i32_85
  let c1_i32_91 : BitVec 32 := 1#32
  let v169 : BitVec 32 := Scalar.subi v154 c1_i32_91
  let v170 : BitVec 32 := Scalar.select v168 v169 v154
  let v171 : BitVec 32 := Scalar.subi v170 v153
  let c1_i32_93 : BitVec 32 := 1#32
  let v173 : BitVec 32 := Scalar.divsi v171 c1_i32_93
  let v174 : BitVec 32 := Scalar.muli v173 c1_i32_93
  let v175 : BitVec 32 := Scalar.addi v153 v174
  let c1_i32_95 : BitVec 32 := 1#32
  let arg25 : BitVec 32 := Scf.iv v175 c1_i32_95 k0_t8
  let v196 : BitVec 32 := Scalar.muli c2_i32_110 arg25
  let c1_i32_111 : BitVec 32 := 1#32
  let v197 : BitVec 32 := Scalar.addi v196 c1_i32_111
  let c512_i32_122 : BitVec 32 := 512#32
  let v218 : BitVec 32 := Scalar.muli v197 c512_i32_122
  let v219 : BitVec 32 := v218
  let v220 : Index := Scalar.indexCast v219
  let c0_123 : Index := 0#32
  ![v220.toNat, 0]
def k0_mult179 (i : grid0.Coords) (k0_t8 : Fin (k0_t8_loop i).trips) : BitVec 32 :=
  let c2_i32_129 : BitVec 32 := 2#32
  let c2_i32_84 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_74 : BitVec 32 := 0#32
  let v132 : BitVec 1 := Scalar.cmpi .sgt v84 c0_i32_74
  let v133 : BitVec 32 := Scalar.extui v132
  let c0_i32_75 : BitVec 32 := 0#32
  let v134 : BitVec 1 := Scalar.cmpi .slt v84 c0_i32_75
  let v135 : BitVec 32 := Scalar.extui v134
  let v136 : BitVec 32 := Scalar.subi v133 v135
  let c2_i32_73 : BitVec 32 := 2#32
  let c0_i32_76 : BitVec 32 := 0#32
  let v137 : BitVec 1 := Scalar.cmpi .sgt c2_i32_73 c0_i32_76
  let v138 : BitVec 32 := Scalar.extui v137
  let c0_i32_77 : BitVec 32 := 0#32
  let v139 : BitVec 1 := Scalar.cmpi .slt c2_i32_73 c0_i32_77
  let v140 : BitVec 32 := Scalar.extui v139
  let v141 : BitVec 32 := Scalar.subi v138 v140
  let v142 : BitVec 1 := Scalar.cmpi .ne v136 v141
  let v143 : BitVec 32 := Scalar.remsi v84 c2_i32_73
  let c0_i32_78 : BitVec 32 := 0#32
  let v144 : BitVec 1 := Scalar.cmpi .ne v143 c0_i32_78
  let v145 : BitVec 1 := Scalar.andi v142 v144
  let v131 : BitVec 32 := Scalar.divsi v84 c2_i32_73
  let c1_i32_79 : BitVec 32 := 1#32
  let v146 : BitVec 32 := Scalar.subi v131 c1_i32_79
  let v147 : BitVec 32 := Scalar.select v145 v146 v131
  let v153 : BitVec 32 := Scalar.muli c2_i32_84 v147
  let c0_i32_86 : BitVec 32 := 0#32
  let v155 : BitVec 1 := Scalar.cmpi .sgt v84 c0_i32_86
  let v156 : BitVec 32 := Scalar.extui v155
  let c0_i32_87 : BitVec 32 := 0#32
  let v157 : BitVec 1 := Scalar.cmpi .slt v84 c0_i32_87
  let v158 : BitVec 32 := Scalar.extui v157
  let v159 : BitVec 32 := Scalar.subi v156 v158
  let c1_i32_85 : BitVec 32 := 1#32
  let c0_i32_88 : BitVec 32 := 0#32
  let v160 : BitVec 1 := Scalar.cmpi .sgt c1_i32_85 c0_i32_88
  let v161 : BitVec 32 := Scalar.extui v160
  let c0_i32_89 : BitVec 32 := 0#32
  let v162 : BitVec 1 := Scalar.cmpi .slt c1_i32_85 c0_i32_89
  let v163 : BitVec 32 := Scalar.extui v162
  let v164 : BitVec 32 := Scalar.subi v161 v163
  let v165 : BitVec 1 := Scalar.cmpi .ne v159 v164
  let v166 : BitVec 32 := Scalar.remsi v84 c1_i32_85
  let c0_i32_90 : BitVec 32 := 0#32
  let v167 : BitVec 1 := Scalar.cmpi .ne v166 c0_i32_90
  let v168 : BitVec 1 := Scalar.andi v165 v167
  let v154 : BitVec 32 := Scalar.divsi v84 c1_i32_85
  let c1_i32_91 : BitVec 32 := 1#32
  let v169 : BitVec 32 := Scalar.subi v154 c1_i32_91
  let v170 : BitVec 32 := Scalar.select v168 v169 v154
  let v171 : BitVec 32 := Scalar.subi v170 v153
  let c1_i32_93 : BitVec 32 := 1#32
  let v173 : BitVec 32 := Scalar.divsi v171 c1_i32_93
  let v174 : BitVec 32 := Scalar.muli v173 c1_i32_93
  let v175 : BitVec 32 := Scalar.addi v153 v174
  let c1_i32_95 : BitVec 32 := 1#32
  let arg25 : BitVec 32 := Scf.iv v175 c1_i32_95 k0_t8
  let v229 : BitVec 32 := Scalar.muli c2_i32_129 arg25
  let c512_i32_130 : BitVec 32 := 512#32
  let v230 : BitVec 32 := Scalar.muli v229 c512_i32_130
  v230
def k0_off247 (i : grid0.Coords) (k0_t8 : Fin (k0_t8_loop i).trips) : Fin 2 → Nat :=
  let c2_i32_129 : BitVec 32 := 2#32
  let c2_i32_84 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_74 : BitVec 32 := 0#32
  let v132 : BitVec 1 := Scalar.cmpi .sgt v84 c0_i32_74
  let v133 : BitVec 32 := Scalar.extui v132
  let c0_i32_75 : BitVec 32 := 0#32
  let v134 : BitVec 1 := Scalar.cmpi .slt v84 c0_i32_75
  let v135 : BitVec 32 := Scalar.extui v134
  let v136 : BitVec 32 := Scalar.subi v133 v135
  let c2_i32_73 : BitVec 32 := 2#32
  let c0_i32_76 : BitVec 32 := 0#32
  let v137 : BitVec 1 := Scalar.cmpi .sgt c2_i32_73 c0_i32_76
  let v138 : BitVec 32 := Scalar.extui v137
  let c0_i32_77 : BitVec 32 := 0#32
  let v139 : BitVec 1 := Scalar.cmpi .slt c2_i32_73 c0_i32_77
  let v140 : BitVec 32 := Scalar.extui v139
  let v141 : BitVec 32 := Scalar.subi v138 v140
  let v142 : BitVec 1 := Scalar.cmpi .ne v136 v141
  let v143 : BitVec 32 := Scalar.remsi v84 c2_i32_73
  let c0_i32_78 : BitVec 32 := 0#32
  let v144 : BitVec 1 := Scalar.cmpi .ne v143 c0_i32_78
  let v145 : BitVec 1 := Scalar.andi v142 v144
  let v131 : BitVec 32 := Scalar.divsi v84 c2_i32_73
  let c1_i32_79 : BitVec 32 := 1#32
  let v146 : BitVec 32 := Scalar.subi v131 c1_i32_79
  let v147 : BitVec 32 := Scalar.select v145 v146 v131
  let v153 : BitVec 32 := Scalar.muli c2_i32_84 v147
  let c0_i32_86 : BitVec 32 := 0#32
  let v155 : BitVec 1 := Scalar.cmpi .sgt v84 c0_i32_86
  let v156 : BitVec 32 := Scalar.extui v155
  let c0_i32_87 : BitVec 32 := 0#32
  let v157 : BitVec 1 := Scalar.cmpi .slt v84 c0_i32_87
  let v158 : BitVec 32 := Scalar.extui v157
  let v159 : BitVec 32 := Scalar.subi v156 v158
  let c1_i32_85 : BitVec 32 := 1#32
  let c0_i32_88 : BitVec 32 := 0#32
  let v160 : BitVec 1 := Scalar.cmpi .sgt c1_i32_85 c0_i32_88
  let v161 : BitVec 32 := Scalar.extui v160
  let c0_i32_89 : BitVec 32 := 0#32
  let v162 : BitVec 1 := Scalar.cmpi .slt c1_i32_85 c0_i32_89
  let v163 : BitVec 32 := Scalar.extui v162
  let v164 : BitVec 32 := Scalar.subi v161 v163
  let v165 : BitVec 1 := Scalar.cmpi .ne v159 v164
  let v166 : BitVec 32 := Scalar.remsi v84 c1_i32_85
  let c0_i32_90 : BitVec 32 := 0#32
  let v167 : BitVec 1 := Scalar.cmpi .ne v166 c0_i32_90
  let v168 : BitVec 1 := Scalar.andi v165 v167
  let v154 : BitVec 32 := Scalar.divsi v84 c1_i32_85
  let c1_i32_91 : BitVec 32 := 1#32
  let v169 : BitVec 32 := Scalar.subi v154 c1_i32_91
  let v170 : BitVec 32 := Scalar.select v168 v169 v154
  let v171 : BitVec 32 := Scalar.subi v170 v153
  let c1_i32_93 : BitVec 32 := 1#32
  let v173 : BitVec 32 := Scalar.divsi v171 c1_i32_93
  let v174 : BitVec 32 := Scalar.muli v173 c1_i32_93
  let v175 : BitVec 32 := Scalar.addi v153 v174
  let c1_i32_95 : BitVec 32 := 1#32
  let arg25 : BitVec 32 := Scf.iv v175 c1_i32_95 k0_t8
  let v229 : BitVec 32 := Scalar.muli c2_i32_129 arg25
  let c512_i32_130 : BitVec 32 := 512#32
  let v230 : BitVec 32 := Scalar.muli v229 c512_i32_130
  let v231 : BitVec 32 := v230
  let v241 : Index := Scalar.indexCast v231
  let c0_138 : Index := 0#32
  ![v241.toNat, 0]
def k0_off248 (i : grid0.Coords) (k0_t8 : Fin (k0_t8_loop i).trips) : Fin 2 → Nat :=
  let c2_i32_129 : BitVec 32 := 2#32
  let c2_i32_84 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_74 : BitVec 32 := 0#32
  let v132 : BitVec 1 := Scalar.cmpi .sgt v84 c0_i32_74
  let v133 : BitVec 32 := Scalar.extui v132
  let c0_i32_75 : BitVec 32 := 0#32
  let v134 : BitVec 1 := Scalar.cmpi .slt v84 c0_i32_75
  let v135 : BitVec 32 := Scalar.extui v134
  let v136 : BitVec 32 := Scalar.subi v133 v135
  let c2_i32_73 : BitVec 32 := 2#32
  let c0_i32_76 : BitVec 32 := 0#32
  let v137 : BitVec 1 := Scalar.cmpi .sgt c2_i32_73 c0_i32_76
  let v138 : BitVec 32 := Scalar.extui v137
  let c0_i32_77 : BitVec 32 := 0#32
  let v139 : BitVec 1 := Scalar.cmpi .slt c2_i32_73 c0_i32_77
  let v140 : BitVec 32 := Scalar.extui v139
  let v141 : BitVec 32 := Scalar.subi v138 v140
  let v142 : BitVec 1 := Scalar.cmpi .ne v136 v141
  let v143 : BitVec 32 := Scalar.remsi v84 c2_i32_73
  let c0_i32_78 : BitVec 32 := 0#32
  let v144 : BitVec 1 := Scalar.cmpi .ne v143 c0_i32_78
  let v145 : BitVec 1 := Scalar.andi v142 v144
  let v131 : BitVec 32 := Scalar.divsi v84 c2_i32_73
  let c1_i32_79 : BitVec 32 := 1#32
  let v146 : BitVec 32 := Scalar.subi v131 c1_i32_79
  let v147 : BitVec 32 := Scalar.select v145 v146 v131
  let v153 : BitVec 32 := Scalar.muli c2_i32_84 v147
  let c0_i32_86 : BitVec 32 := 0#32
  let v155 : BitVec 1 := Scalar.cmpi .sgt v84 c0_i32_86
  let v156 : BitVec 32 := Scalar.extui v155
  let c0_i32_87 : BitVec 32 := 0#32
  let v157 : BitVec 1 := Scalar.cmpi .slt v84 c0_i32_87
  let v158 : BitVec 32 := Scalar.extui v157
  let v159 : BitVec 32 := Scalar.subi v156 v158
  let c1_i32_85 : BitVec 32 := 1#32
  let c0_i32_88 : BitVec 32 := 0#32
  let v160 : BitVec 1 := Scalar.cmpi .sgt c1_i32_85 c0_i32_88
  let v161 : BitVec 32 := Scalar.extui v160
  let c0_i32_89 : BitVec 32 := 0#32
  let v162 : BitVec 1 := Scalar.cmpi .slt c1_i32_85 c0_i32_89
  let v163 : BitVec 32 := Scalar.extui v162
  let v164 : BitVec 32 := Scalar.subi v161 v163
  let v165 : BitVec 1 := Scalar.cmpi .ne v159 v164
  let v166 : BitVec 32 := Scalar.remsi v84 c1_i32_85
  let c0_i32_90 : BitVec 32 := 0#32
  let v167 : BitVec 1 := Scalar.cmpi .ne v166 c0_i32_90
  let v168 : BitVec 1 := Scalar.andi v165 v167
  let v154 : BitVec 32 := Scalar.divsi v84 c1_i32_85
  let c1_i32_91 : BitVec 32 := 1#32
  let v169 : BitVec 32 := Scalar.subi v154 c1_i32_91
  let v170 : BitVec 32 := Scalar.select v168 v169 v154
  let v171 : BitVec 32 := Scalar.subi v170 v153
  let c1_i32_93 : BitVec 32 := 1#32
  let v173 : BitVec 32 := Scalar.divsi v171 c1_i32_93
  let v174 : BitVec 32 := Scalar.muli v173 c1_i32_93
  let v175 : BitVec 32 := Scalar.addi v153 v174
  let c1_i32_95 : BitVec 32 := 1#32
  let arg25 : BitVec 32 := Scf.iv v175 c1_i32_95 k0_t8
  let v229 : BitVec 32 := Scalar.muli c2_i32_129 arg25
  let c512_i32_130 : BitVec 32 := 512#32
  let v230 : BitVec 32 := Scalar.muli v229 c512_i32_130
  let v231 : BitVec 32 := v230
  let v256 : Index := Scalar.indexCast v231
  let c0_145 : Index := 0#32
  ![v256.toNat, 0]
def k0_mult180 (i : grid0.Coords) (k0_t8 : Fin (k0_t8_loop i).trips) : BitVec 32 :=
  let c2_i32_148 : BitVec 32 := 2#32
  let c2_i32_84 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_74 : BitVec 32 := 0#32
  let v132 : BitVec 1 := Scalar.cmpi .sgt v84 c0_i32_74
  let v133 : BitVec 32 := Scalar.extui v132
  let c0_i32_75 : BitVec 32 := 0#32
  let v134 : BitVec 1 := Scalar.cmpi .slt v84 c0_i32_75
  let v135 : BitVec 32 := Scalar.extui v134
  let v136 : BitVec 32 := Scalar.subi v133 v135
  let c2_i32_73 : BitVec 32 := 2#32
  let c0_i32_76 : BitVec 32 := 0#32
  let v137 : BitVec 1 := Scalar.cmpi .sgt c2_i32_73 c0_i32_76
  let v138 : BitVec 32 := Scalar.extui v137
  let c0_i32_77 : BitVec 32 := 0#32
  let v139 : BitVec 1 := Scalar.cmpi .slt c2_i32_73 c0_i32_77
  let v140 : BitVec 32 := Scalar.extui v139
  let v141 : BitVec 32 := Scalar.subi v138 v140
  let v142 : BitVec 1 := Scalar.cmpi .ne v136 v141
  let v143 : BitVec 32 := Scalar.remsi v84 c2_i32_73
  let c0_i32_78 : BitVec 32 := 0#32
  let v144 : BitVec 1 := Scalar.cmpi .ne v143 c0_i32_78
  let v145 : BitVec 1 := Scalar.andi v142 v144
  let v131 : BitVec 32 := Scalar.divsi v84 c2_i32_73
  let c1_i32_79 : BitVec 32 := 1#32
  let v146 : BitVec 32 := Scalar.subi v131 c1_i32_79
  let v147 : BitVec 32 := Scalar.select v145 v146 v131
  let v153 : BitVec 32 := Scalar.muli c2_i32_84 v147
  let c0_i32_86 : BitVec 32 := 0#32
  let v155 : BitVec 1 := Scalar.cmpi .sgt v84 c0_i32_86
  let v156 : BitVec 32 := Scalar.extui v155
  let c0_i32_87 : BitVec 32 := 0#32
  let v157 : BitVec 1 := Scalar.cmpi .slt v84 c0_i32_87
  let v158 : BitVec 32 := Scalar.extui v157
  let v159 : BitVec 32 := Scalar.subi v156 v158
  let c1_i32_85 : BitVec 32 := 1#32
  let c0_i32_88 : BitVec 32 := 0#32
  let v160 : BitVec 1 := Scalar.cmpi .sgt c1_i32_85 c0_i32_88
  let v161 : BitVec 32 := Scalar.extui v160
  let c0_i32_89 : BitVec 32 := 0#32
  let v162 : BitVec 1 := Scalar.cmpi .slt c1_i32_85 c0_i32_89
  let v163 : BitVec 32 := Scalar.extui v162
  let v164 : BitVec 32 := Scalar.subi v161 v163
  let v165 : BitVec 1 := Scalar.cmpi .ne v159 v164
  let v166 : BitVec 32 := Scalar.remsi v84 c1_i32_85
  let c0_i32_90 : BitVec 32 := 0#32
  let v167 : BitVec 1 := Scalar.cmpi .ne v166 c0_i32_90
  let v168 : BitVec 1 := Scalar.andi v165 v167
  let v154 : BitVec 32 := Scalar.divsi v84 c1_i32_85
  let c1_i32_91 : BitVec 32 := 1#32
  let v169 : BitVec 32 := Scalar.subi v154 c1_i32_91
  let v170 : BitVec 32 := Scalar.select v168 v169 v154
  let v171 : BitVec 32 := Scalar.subi v170 v153
  let c1_i32_93 : BitVec 32 := 1#32
  let v173 : BitVec 32 := Scalar.divsi v171 c1_i32_93
  let v174 : BitVec 32 := Scalar.muli v173 c1_i32_93
  let v175 : BitVec 32 := Scalar.addi v153 v174
  let c1_i32_95 : BitVec 32 := 1#32
  let arg25 : BitVec 32 := Scf.iv v175 c1_i32_95 k0_t8
  let v264 : BitVec 32 := Scalar.muli c2_i32_148 arg25
  let c2_i32_149 : BitVec 32 := 2#32
  let v265 : BitVec 32 := Scalar.addi v264 c2_i32_149
  let v266 : BitVec 32 := Scalar.minsi v265 arg1
  let c512_i32_150 : BitVec 32 := 512#32
  let v267 : BitVec 32 := Scalar.muli v266 c512_i32_150
  v267
def k0_off249 (i : grid0.Coords) (k0_t8 : Fin (k0_t8_loop i).trips) : Fin 2 → Nat :=
  let c2_i32_148 : BitVec 32 := 2#32
  let c2_i32_84 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_74 : BitVec 32 := 0#32
  let v132 : BitVec 1 := Scalar.cmpi .sgt v84 c0_i32_74
  let v133 : BitVec 32 := Scalar.extui v132
  let c0_i32_75 : BitVec 32 := 0#32
  let v134 : BitVec 1 := Scalar.cmpi .slt v84 c0_i32_75
  let v135 : BitVec 32 := Scalar.extui v134
  let v136 : BitVec 32 := Scalar.subi v133 v135
  let c2_i32_73 : BitVec 32 := 2#32
  let c0_i32_76 : BitVec 32 := 0#32
  let v137 : BitVec 1 := Scalar.cmpi .sgt c2_i32_73 c0_i32_76
  let v138 : BitVec 32 := Scalar.extui v137
  let c0_i32_77 : BitVec 32 := 0#32
  let v139 : BitVec 1 := Scalar.cmpi .slt c2_i32_73 c0_i32_77
  let v140 : BitVec 32 := Scalar.extui v139
  let v141 : BitVec 32 := Scalar.subi v138 v140
  let v142 : BitVec 1 := Scalar.cmpi .ne v136 v141
  let v143 : BitVec 32 := Scalar.remsi v84 c2_i32_73
  let c0_i32_78 : BitVec 32 := 0#32
  let v144 : BitVec 1 := Scalar.cmpi .ne v143 c0_i32_78
  let v145 : BitVec 1 := Scalar.andi v142 v144
  let v131 : BitVec 32 := Scalar.divsi v84 c2_i32_73
  let c1_i32_79 : BitVec 32 := 1#32
  let v146 : BitVec 32 := Scalar.subi v131 c1_i32_79
  let v147 : BitVec 32 := Scalar.select v145 v146 v131
  let v153 : BitVec 32 := Scalar.muli c2_i32_84 v147
  let c0_i32_86 : BitVec 32 := 0#32
  let v155 : BitVec 1 := Scalar.cmpi .sgt v84 c0_i32_86
  let v156 : BitVec 32 := Scalar.extui v155
  let c0_i32_87 : BitVec 32 := 0#32
  let v157 : BitVec 1 := Scalar.cmpi .slt v84 c0_i32_87
  let v158 : BitVec 32 := Scalar.extui v157
  let v159 : BitVec 32 := Scalar.subi v156 v158
  let c1_i32_85 : BitVec 32 := 1#32
  let c0_i32_88 : BitVec 32 := 0#32
  let v160 : BitVec 1 := Scalar.cmpi .sgt c1_i32_85 c0_i32_88
  let v161 : BitVec 32 := Scalar.extui v160
  let c0_i32_89 : BitVec 32 := 0#32
  let v162 : BitVec 1 := Scalar.cmpi .slt c1_i32_85 c0_i32_89
  let v163 : BitVec 32 := Scalar.extui v162
  let v164 : BitVec 32 := Scalar.subi v161 v163
  let v165 : BitVec 1 := Scalar.cmpi .ne v159 v164
  let v166 : BitVec 32 := Scalar.remsi v84 c1_i32_85
  let c0_i32_90 : BitVec 32 := 0#32
  let v167 : BitVec 1 := Scalar.cmpi .ne v166 c0_i32_90
  let v168 : BitVec 1 := Scalar.andi v165 v167
  let v154 : BitVec 32 := Scalar.divsi v84 c1_i32_85
  let c1_i32_91 : BitVec 32 := 1#32
  let v169 : BitVec 32 := Scalar.subi v154 c1_i32_91
  let v170 : BitVec 32 := Scalar.select v168 v169 v154
  let v171 : BitVec 32 := Scalar.subi v170 v153
  let c1_i32_93 : BitVec 32 := 1#32
  let v173 : BitVec 32 := Scalar.divsi v171 c1_i32_93
  let v174 : BitVec 32 := Scalar.muli v173 c1_i32_93
  let v175 : BitVec 32 := Scalar.addi v153 v174
  let c1_i32_95 : BitVec 32 := 1#32
  let arg25 : BitVec 32 := Scf.iv v175 c1_i32_95 k0_t8
  let v264 : BitVec 32 := Scalar.muli c2_i32_148 arg25
  let c2_i32_149 : BitVec 32 := 2#32
  let v265 : BitVec 32 := Scalar.addi v264 c2_i32_149
  let v266 : BitVec 32 := Scalar.minsi v265 arg1
  let c512_i32_150 : BitVec 32 := 512#32
  let v267 : BitVec 32 := Scalar.muli v266 c512_i32_150
  let v268 : BitVec 32 := v267
  let v269 : Index := Scalar.indexCast v268
  let c0_151 : Index := 0#32
  ![v269.toNat, 0]
def k0_off250 (i : grid0.Coords) (k0_t8 : Fin (k0_t8_loop i).trips) : Fin 3 → Nat :=
  let c2_i32_148 : BitVec 32 := 2#32
  let c2_i32_84 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_74 : BitVec 32 := 0#32
  let v132 : BitVec 1 := Scalar.cmpi .sgt v84 c0_i32_74
  let v133 : BitVec 32 := Scalar.extui v132
  let c0_i32_75 : BitVec 32 := 0#32
  let v134 : BitVec 1 := Scalar.cmpi .slt v84 c0_i32_75
  let v135 : BitVec 32 := Scalar.extui v134
  let v136 : BitVec 32 := Scalar.subi v133 v135
  let c2_i32_73 : BitVec 32 := 2#32
  let c0_i32_76 : BitVec 32 := 0#32
  let v137 : BitVec 1 := Scalar.cmpi .sgt c2_i32_73 c0_i32_76
  let v138 : BitVec 32 := Scalar.extui v137
  let c0_i32_77 : BitVec 32 := 0#32
  let v139 : BitVec 1 := Scalar.cmpi .slt c2_i32_73 c0_i32_77
  let v140 : BitVec 32 := Scalar.extui v139
  let v141 : BitVec 32 := Scalar.subi v138 v140
  let v142 : BitVec 1 := Scalar.cmpi .ne v136 v141
  let v143 : BitVec 32 := Scalar.remsi v84 c2_i32_73
  let c0_i32_78 : BitVec 32 := 0#32
  let v144 : BitVec 1 := Scalar.cmpi .ne v143 c0_i32_78
  let v145 : BitVec 1 := Scalar.andi v142 v144
  let v131 : BitVec 32 := Scalar.divsi v84 c2_i32_73
  let c1_i32_79 : BitVec 32 := 1#32
  let v146 : BitVec 32 := Scalar.subi v131 c1_i32_79
  let v147 : BitVec 32 := Scalar.select v145 v146 v131
  let v153 : BitVec 32 := Scalar.muli c2_i32_84 v147
  let c0_i32_86 : BitVec 32 := 0#32
  let v155 : BitVec 1 := Scalar.cmpi .sgt v84 c0_i32_86
  let v156 : BitVec 32 := Scalar.extui v155
  let c0_i32_87 : BitVec 32 := 0#32
  let v157 : BitVec 1 := Scalar.cmpi .slt v84 c0_i32_87
  let v158 : BitVec 32 := Scalar.extui v157
  let v159 : BitVec 32 := Scalar.subi v156 v158
  let c1_i32_85 : BitVec 32 := 1#32
  let c0_i32_88 : BitVec 32 := 0#32
  let v160 : BitVec 1 := Scalar.cmpi .sgt c1_i32_85 c0_i32_88
  let v161 : BitVec 32 := Scalar.extui v160
  let c0_i32_89 : BitVec 32 := 0#32
  let v162 : BitVec 1 := Scalar.cmpi .slt c1_i32_85 c0_i32_89
  let v163 : BitVec 32 := Scalar.extui v162
  let v164 : BitVec 32 := Scalar.subi v161 v163
  let v165 : BitVec 1 := Scalar.cmpi .ne v159 v164
  let v166 : BitVec 32 := Scalar.remsi v84 c1_i32_85
  let c0_i32_90 : BitVec 32 := 0#32
  let v167 : BitVec 1 := Scalar.cmpi .ne v166 c0_i32_90
  let v168 : BitVec 1 := Scalar.andi v165 v167
  let v154 : BitVec 32 := Scalar.divsi v84 c1_i32_85
  let c1_i32_91 : BitVec 32 := 1#32
  let v169 : BitVec 32 := Scalar.subi v154 c1_i32_91
  let v170 : BitVec 32 := Scalar.select v168 v169 v154
  let v171 : BitVec 32 := Scalar.subi v170 v153
  let c1_i32_93 : BitVec 32 := 1#32
  let v173 : BitVec 32 := Scalar.divsi v171 c1_i32_93
  let v174 : BitVec 32 := Scalar.muli v173 c1_i32_93
  let v175 : BitVec 32 := Scalar.addi v153 v174
  let c1_i32_95 : BitVec 32 := 1#32
  let arg25 : BitVec 32 := Scf.iv v175 c1_i32_95 k0_t8
  let v264 : BitVec 32 := Scalar.muli c2_i32_148 arg25
  let c2_i32_149 : BitVec 32 := 2#32
  let v265 : BitVec 32 := Scalar.addi v264 c2_i32_149
  let v266 : BitVec 32 := Scalar.minsi v265 arg1
  let v274 : BitVec 1 := Scalar.cmpi .eq v266 arg1
  let v275 : BitVec 32 := Scalar.extui v274
  let v276 : Index := Scalar.indexCast v275
  let c0_154 : Index := 0#32
  let c0_155 : Index := 0#32
  ![v276.toNat, 0, 0]
def k0_mult181 (i : grid0.Coords) (k0_t8 : Fin (k0_t8_loop i).trips) : BitVec 32 :=
  let c2_i32_148 : BitVec 32 := 2#32
  let c2_i32_84 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_74 : BitVec 32 := 0#32
  let v132 : BitVec 1 := Scalar.cmpi .sgt v84 c0_i32_74
  let v133 : BitVec 32 := Scalar.extui v132
  let c0_i32_75 : BitVec 32 := 0#32
  let v134 : BitVec 1 := Scalar.cmpi .slt v84 c0_i32_75
  let v135 : BitVec 32 := Scalar.extui v134
  let v136 : BitVec 32 := Scalar.subi v133 v135
  let c2_i32_73 : BitVec 32 := 2#32
  let c0_i32_76 : BitVec 32 := 0#32
  let v137 : BitVec 1 := Scalar.cmpi .sgt c2_i32_73 c0_i32_76
  let v138 : BitVec 32 := Scalar.extui v137
  let c0_i32_77 : BitVec 32 := 0#32
  let v139 : BitVec 1 := Scalar.cmpi .slt c2_i32_73 c0_i32_77
  let v140 : BitVec 32 := Scalar.extui v139
  let v141 : BitVec 32 := Scalar.subi v138 v140
  let v142 : BitVec 1 := Scalar.cmpi .ne v136 v141
  let v143 : BitVec 32 := Scalar.remsi v84 c2_i32_73
  let c0_i32_78 : BitVec 32 := 0#32
  let v144 : BitVec 1 := Scalar.cmpi .ne v143 c0_i32_78
  let v145 : BitVec 1 := Scalar.andi v142 v144
  let v131 : BitVec 32 := Scalar.divsi v84 c2_i32_73
  let c1_i32_79 : BitVec 32 := 1#32
  let v146 : BitVec 32 := Scalar.subi v131 c1_i32_79
  let v147 : BitVec 32 := Scalar.select v145 v146 v131
  let v153 : BitVec 32 := Scalar.muli c2_i32_84 v147
  let c0_i32_86 : BitVec 32 := 0#32
  let v155 : BitVec 1 := Scalar.cmpi .sgt v84 c0_i32_86
  let v156 : BitVec 32 := Scalar.extui v155
  let c0_i32_87 : BitVec 32 := 0#32
  let v157 : BitVec 1 := Scalar.cmpi .slt v84 c0_i32_87
  let v158 : BitVec 32 := Scalar.extui v157
  let v159 : BitVec 32 := Scalar.subi v156 v158
  let c1_i32_85 : BitVec 32 := 1#32
  let c0_i32_88 : BitVec 32 := 0#32
  let v160 : BitVec 1 := Scalar.cmpi .sgt c1_i32_85 c0_i32_88
  let v161 : BitVec 32 := Scalar.extui v160
  let c0_i32_89 : BitVec 32 := 0#32
  let v162 : BitVec 1 := Scalar.cmpi .slt c1_i32_85 c0_i32_89
  let v163 : BitVec 32 := Scalar.extui v162
  let v164 : BitVec 32 := Scalar.subi v161 v163
  let v165 : BitVec 1 := Scalar.cmpi .ne v159 v164
  let v166 : BitVec 32 := Scalar.remsi v84 c1_i32_85
  let c0_i32_90 : BitVec 32 := 0#32
  let v167 : BitVec 1 := Scalar.cmpi .ne v166 c0_i32_90
  let v168 : BitVec 1 := Scalar.andi v165 v167
  let v154 : BitVec 32 := Scalar.divsi v84 c1_i32_85
  let c1_i32_91 : BitVec 32 := 1#32
  let v169 : BitVec 32 := Scalar.subi v154 c1_i32_91
  let v170 : BitVec 32 := Scalar.select v168 v169 v154
  let v171 : BitVec 32 := Scalar.subi v170 v153
  let c1_i32_93 : BitVec 32 := 1#32
  let v173 : BitVec 32 := Scalar.divsi v171 c1_i32_93
  let v174 : BitVec 32 := Scalar.muli v173 c1_i32_93
  let v175 : BitVec 32 := Scalar.addi v153 v174
  let c1_i32_95 : BitVec 32 := 1#32
  let arg25 : BitVec 32 := Scf.iv v175 c1_i32_95 k0_t8
  let v264 : BitVec 32 := Scalar.muli c2_i32_148 arg25
  let c2_i32_149 : BitVec 32 := 2#32
  let v265 : BitVec 32 := Scalar.addi v264 c2_i32_149
  let v266 : BitVec 32 := Scalar.minsi v265 arg1
  let c512_i32_161 : BitVec 32 := 512#32
  let v287 : BitVec 32 := Scalar.muli v266 c512_i32_161
  v287
def k0_off251 (i : grid0.Coords) (k0_t8 : Fin (k0_t8_loop i).trips) : Fin 2 → Nat :=
  let c2_i32_148 : BitVec 32 := 2#32
  let c2_i32_84 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_74 : BitVec 32 := 0#32
  let v132 : BitVec 1 := Scalar.cmpi .sgt v84 c0_i32_74
  let v133 : BitVec 32 := Scalar.extui v132
  let c0_i32_75 : BitVec 32 := 0#32
  let v134 : BitVec 1 := Scalar.cmpi .slt v84 c0_i32_75
  let v135 : BitVec 32 := Scalar.extui v134
  let v136 : BitVec 32 := Scalar.subi v133 v135
  let c2_i32_73 : BitVec 32 := 2#32
  let c0_i32_76 : BitVec 32 := 0#32
  let v137 : BitVec 1 := Scalar.cmpi .sgt c2_i32_73 c0_i32_76
  let v138 : BitVec 32 := Scalar.extui v137
  let c0_i32_77 : BitVec 32 := 0#32
  let v139 : BitVec 1 := Scalar.cmpi .slt c2_i32_73 c0_i32_77
  let v140 : BitVec 32 := Scalar.extui v139
  let v141 : BitVec 32 := Scalar.subi v138 v140
  let v142 : BitVec 1 := Scalar.cmpi .ne v136 v141
  let v143 : BitVec 32 := Scalar.remsi v84 c2_i32_73
  let c0_i32_78 : BitVec 32 := 0#32
  let v144 : BitVec 1 := Scalar.cmpi .ne v143 c0_i32_78
  let v145 : BitVec 1 := Scalar.andi v142 v144
  let v131 : BitVec 32 := Scalar.divsi v84 c2_i32_73
  let c1_i32_79 : BitVec 32 := 1#32
  let v146 : BitVec 32 := Scalar.subi v131 c1_i32_79
  let v147 : BitVec 32 := Scalar.select v145 v146 v131
  let v153 : BitVec 32 := Scalar.muli c2_i32_84 v147
  let c0_i32_86 : BitVec 32 := 0#32
  let v155 : BitVec 1 := Scalar.cmpi .sgt v84 c0_i32_86
  let v156 : BitVec 32 := Scalar.extui v155
  let c0_i32_87 : BitVec 32 := 0#32
  let v157 : BitVec 1 := Scalar.cmpi .slt v84 c0_i32_87
  let v158 : BitVec 32 := Scalar.extui v157
  let v159 : BitVec 32 := Scalar.subi v156 v158
  let c1_i32_85 : BitVec 32 := 1#32
  let c0_i32_88 : BitVec 32 := 0#32
  let v160 : BitVec 1 := Scalar.cmpi .sgt c1_i32_85 c0_i32_88
  let v161 : BitVec 32 := Scalar.extui v160
  let c0_i32_89 : BitVec 32 := 0#32
  let v162 : BitVec 1 := Scalar.cmpi .slt c1_i32_85 c0_i32_89
  let v163 : BitVec 32 := Scalar.extui v162
  let v164 : BitVec 32 := Scalar.subi v161 v163
  let v165 : BitVec 1 := Scalar.cmpi .ne v159 v164
  let v166 : BitVec 32 := Scalar.remsi v84 c1_i32_85
  let c0_i32_90 : BitVec 32 := 0#32
  let v167 : BitVec 1 := Scalar.cmpi .ne v166 c0_i32_90
  let v168 : BitVec 1 := Scalar.andi v165 v167
  let v154 : BitVec 32 := Scalar.divsi v84 c1_i32_85
  let c1_i32_91 : BitVec 32 := 1#32
  let v169 : BitVec 32 := Scalar.subi v154 c1_i32_91
  let v170 : BitVec 32 := Scalar.select v168 v169 v154
  let v171 : BitVec 32 := Scalar.subi v170 v153
  let c1_i32_93 : BitVec 32 := 1#32
  let v173 : BitVec 32 := Scalar.divsi v171 c1_i32_93
  let v174 : BitVec 32 := Scalar.muli v173 c1_i32_93
  let v175 : BitVec 32 := Scalar.addi v153 v174
  let c1_i32_95 : BitVec 32 := 1#32
  let arg25 : BitVec 32 := Scf.iv v175 c1_i32_95 k0_t8
  let v264 : BitVec 32 := Scalar.muli c2_i32_148 arg25
  let c2_i32_149 : BitVec 32 := 2#32
  let v265 : BitVec 32 := Scalar.addi v264 c2_i32_149
  let v266 : BitVec 32 := Scalar.minsi v265 arg1
  let c512_i32_161 : BitVec 32 := 512#32
  let v287 : BitVec 32 := Scalar.muli v266 c512_i32_161
  let v288 : BitVec 32 := v287
  let v289 : Index := Scalar.indexCast v288
  let c0_162 : Index := 0#32
  ![v289.toNat, 0]
def k0_mult182 (i : grid0.Coords) (k0_t8 : Fin (k0_t8_loop i).trips) : BitVec 32 :=
  let c2_i32_168 : BitVec 32 := 2#32
  let c2_i32_84 : BitVec 32 := 2#32
  let arg1 : BitVec 32 := BitVec.ofNat 32 (i 1).val
  let c1_i32_42 : BitVec 32 := 1#32
  let v67 : BitVec 32 := Scalar.addi arg1 c1_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c2_i32_43 : BitVec 32 := 2#32
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let v68 : BitVec 32 := Scalar.divsi v67 c2_i32_43
  let c1_i32_49 : BitVec 32 := 1#32
  let v83 : BitVec 32 := Scalar.subi v68 c1_i32_49
  let v84 : BitVec 32 := Scalar.select v82 v83 v68
  let c0_i32_74 : BitVec 32 := 0#32
  let v132 : BitVec 1 := Scalar.cmpi .sgt v84 c0_i32_74
  let v133 : BitVec 32 := Scalar.extui v132
  let c0_i32_75 : BitVec 32 := 0#32
  let v134 : BitVec 1 := Scalar.cmpi .slt v84 c0_i32_75
  let v135 : BitVec 32 := Scalar.extui v134
  let v136 : BitVec 32 := Scalar.subi v133 v135
  let c2_i32_73 : BitVec 32 := 2#32
  let c0_i32_76 : BitVec 32 := 0#32
  let v137 : BitVec 1 := Scalar.cmpi .sgt c2_i32_73 c0_i32_76
  let v138 : BitVec 32 := Scalar.extui v137
  let c0_i32_77 : BitVec 32 := 0#32
  let v139 : BitVec 1 := Scalar.cmpi .slt c2_i32_73 c0_i32_77
  let v140 : BitVec 32 := Scalar.extui v139
  let v141 : BitVec 32 := Scalar.subi v138 v140
  let v142 : BitVec 1 := Scalar.cmpi .ne v136 v141
  let v143 : BitVec 32 := Scalar.remsi v84 c2_i32_73
  let c0_i32_78 : BitVec 32 := 0#32
  let v144 : BitVec 1 := Scalar.cmpi .ne v143 c0_i32_78
  let v145 : BitVec 1 := Scalar.andi v142 v144
  let v131 : BitVec 32 := Scalar.divsi v84 c2_i32_73
  let c1_i32_79 : BitVec 32 := 1#32
  let v146 : BitVec 32 := Scalar.subi v131 c1_i32_79
  let v147 : BitVec 32 := Scalar.select v145 v146 v131
  let v153 : BitVec 32 := Scalar.muli c2_i32_84 v147
  let c0_i32_86 : BitVec 32 := 0#32
  let v155 : BitVec 1 := Scalar.cmpi .sgt v84 c0_i32_86
  let v156 : BitVec 32 := Scalar.extui v155
  let c0_i32_87 : BitVec 32 := 0#32
  let v157 : BitVec 1 := Scalar.cmpi .slt v84 c0_i32_87
  let v158 : BitVec 32 := Scalar.extui v157
  let v159 : BitVec 32 := Scalar.subi v156 v158
  let c1_i32_85 : BitVec 32 := 1#32
  let c0_i32_88 : BitVec 32 := 0#32
  let v160 : BitVec 1 := Scalar.cmpi .sgt c1_i32_85 c0_i32_88
  let v161 : BitVec 32 := Scalar.extui v160
  let c0_i32_89 : BitVec 32 := 0#32
  let v162 : BitVec 1 := Scalar.cmpi .slt c1_i32_85 c0_i32_89
  let v163 : BitVec 32 := Scalar.extui v162
  let v164 : BitVec 32 := Scalar.subi v161 v163
  let v165 : BitVec 1 := Scalar.cmpi .ne v159 v164
  let v166 : BitVec 32 := Scalar.remsi v84 c1_i32_85
  let c0_i32_90 : BitVec 32 := 0#32
  let v167 : BitVec 1 := Scalar.cmpi .ne v166 c0_i32_90
  let v168 : BitVec 1 := Scalar.andi v165 v167
  let v154 : BitVec 32 := Scalar.divsi v84 c1_i32_85
  let c1_i32_91 : BitVec 32 := 1#32
  let v169 : BitVec 32 := Scalar.subi v154 c1_i32_91
  let v170 : BitVec 32 := Scalar.select v168 v169 v154
  let v171 : BitVec 32 := Scalar.subi v170 v153
  let c1_i32_93 : BitVec 32 := 1#32
  let v173 : BitVec 32 := Scalar.divsi v171 c1_i32_93
  let v174 : BitVec 32 := Scalar.muli v173 c1_i32_93
  let v175 : BitVec 32 := Scalar.addi v153 v174
  let c1_i32_95 : BitVec 32 := 1#32
  let arg25 : BitVec 32 := Scf.iv v175 c1_i32_95 k0_t8
  let v298 : BitVec 32 := Scalar.muli c2_i32_168 arg25
  let c1_i32_169 : BitVec 32 := 1#32
  let v299 : BitVec 32 := Scalar.addi v298 c1_i32_169
  let c512_i32_170 : BitVec 32 := 512#32
  let v300 : BitVec 32 := Scalar.muli v299 c512_i32_170
  v300
def k0_cond3 (i : grid0.Coords) : BitVec 1 :=
  let arg1 : BitVec 32 := BitVec.ofNat 32 (i 1).val
  let c2_i32_96 : BitVec 32 := 2#32
  let c0_i32_97 : BitVec 32 := 0#32
  let v176 : BitVec 1 := Scalar.cmpi .eq c2_i32_96 c0_i32_97
  let c1_i32_98 : BitVec 32 := 1#32
  let v177 : BitVec 32 := Scalar.select v176 c1_i32_98 c2_i32_96
  let v178 : BitVec 32 := Scalar.remsi arg1 v177
  let c0_i32_100 : BitVec 32 := 0#32
  let v180 : BitVec 1 := Scalar.cmpi .slt v178 c0_i32_100
  let c0_i32_101 : BitVec 32 := 0#32
  let v181 : BitVec 1 := Scalar.cmpi .slt v177 c0_i32_101
  let v182 : BitVec 1 := Scalar.xori v180 v181
  let c0_i32_99 : BitVec 32 := 0#32
  let v179 : BitVec 1 := Scalar.cmpi .ne v178 c0_i32_99
  let v183 : BitVec 1 := Scalar.andi v182 v179
  let v184 : BitVec 32 := Scalar.addi v178 v177
  let v185 : BitVec 32 := Scalar.select v183 v184 v178
  let c0_i32_102 : BitVec 32 := 0#32
  let v186 : BitVec 1 := Scalar.cmpi .eq v185 c0_i32_102
  let v187 : BitVec 32 := Scalar.extui v186
  let c0_i32_103 : BitVec 32 := 0#32
  let v188 : BitVec 1 := Scalar.cmpi .ne v187 c0_i32_103
  v188

def k0_mult183 (i : grid0.Coords) : BitVec 32 :=
  let arg1 : BitVec 32 := BitVec.ofNat 32 (i 1).val
  let c512_i32 : BitVec 32 := 512#32
  let v196 : BitVec 32 := Scalar.muli arg1 c512_i32
  v196
def k0_off252 (i : grid0.Coords) : Fin 2 → Nat :=
  let arg1 : BitVec 32 := BitVec.ofNat 32 (i 1).val
  let c512_i32 : BitVec 32 := 512#32
  let v196 : BitVec 32 := Scalar.muli arg1 c512_i32
  let v197 : BitVec 32 := v196
  let v207 : Index := Scalar.indexCast v197
  let c0_117 : Index := 0#32
  ![v207.toNat, 0]
def k0_off253 (i : grid0.Coords) : Fin 2 → Nat :=
  let arg1 : BitVec 32 := BitVec.ofNat 32 (i 1).val
  let c512_i32 : BitVec 32 := 512#32
  let v196 : BitVec 32 := Scalar.muli arg1 c512_i32
  let v197 : BitVec 32 := v196
  let v222 : Index := Scalar.indexCast v197
  let c0_124 : Index := 0#32
  ![v222.toNat, 0]
def k0_cond4 (i : grid0.Coords) : BitVec 1 :=
  let arg1 : BitVec 32 := BitVec.ofNat 32 (i 1).val
  let c31_i32 : BitVec 32 := 31#32
  let v193 : BitVec 1 := Scalar.cmpi .eq arg1 c31_i32
  let v194 : BitVec 32 := Scalar.extui v193
  let c0_i32_109 : BitVec 32 := 0#32
  let v195 : BitVec 1 := Scalar.cmpi .ne v194 c0_i32_109
  v195

def k0_off254 (i : grid0.Coords) : Fin 3 → Nat :=
  let arg0 : BitVec 32 := BitVec.ofNat 32 (i 0).val
  let c0_i32_111 : BitVec 32 := 0#32
  let c0_i32_112 : BitVec 32 := 0#32
  ![arg0.toNat, 0, 0]
def k0_off255 (i : grid0.Coords) : Fin 3 → Nat :=
  let arg0 : BitVec 32 := BitVec.ofNat 32 (i 0).val
  let c0_i32_114 : BitVec 32 := 0#32
  let c0_i32_115 : BitVec 32 := 0#32
  ![arg0.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "mask" => some ⊥
  | "scale" => some (((Real.sqrt 192)⁻¹ : ℝ) : EReal)
  | "scale_log2e" => some (((Real.sqrt 192)⁻¹ * (Real.log 2)⁻¹ : ℝ) : EReal)
  | _ => none
-- ==== ReferenceIdeal.lean ====
abbrev S4x16384x256 : Shape := ⟨3, ![4, 16384, 256]⟩
abbrev S4x16384x128 : Shape := ⟨3, ![4, 16384, 128]⟩
abbrev S16384x1024 : Shape := ⟨2, ![16384, 1024]⟩
abbrev S16384x2560 : Shape := ⟨2, ![16384, 2560]⟩
abbrev S16384x512 : Shape := ⟨2, ![16384, 512]⟩
abbrev S4x16384x16384 : Shape := ⟨3, ![4, 16384, 16384]⟩
abbrev S_ : Shape := ⟨0, ![]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S4x16384 : Shape := ⟨2, ![4, 16384]⟩
abbrev S4x16384x1 : Shape := ⟨3, ![4, 16384, 1]⟩
abbrev S4x128x16384 : Shape := ⟨3, ![4, 128, 16384]⟩
abbrev S16384x4x128 : Shape := ⟨3, ![16384, 4, 128]⟩

abbrev nBuf : Space → Nat
  | .hbm => 136
  | .vmem => 0
  | .smem => 0
  | _ => 0

abbrev hbmTy0_0 (i : Nat) : BufTy := match i % 128 with
  | 0 => ⟨S4x16384x256, .bf16⟩
  | 1 => ⟨S4x16384x256, .bf16⟩
  | 2 => ⟨S4x16384x128, .bf16⟩
  | 3 => ⟨S16384x1024, .f32⟩
  | 4 => ⟨S16384x2560, .f32⟩
  | 5 => ⟨S4x16384x256, .f32⟩
  | 6 => ⟨S4x16384x256, .f32⟩
  | 7 => ⟨S4x16384x128, .f32⟩
  | 8 => ⟨S16384x512, .f32⟩
  | 9 => ⟨S4x16384x16384, .f32⟩
  | 10 => ⟨S_, .f32⟩
  | 11 => ⟨S_, .f32⟩
  | 12 => ⟨S_, .f32⟩
  | 13 => ⟨S_, .f32⟩
  | 14 => ⟨S4x16384x16384, .f32⟩
  | 15 => ⟨S4x16384x16384, .f32⟩
  | 16 => ⟨S16384, .i32⟩
  | 17 => ⟨S_, .i32⟩
  | 18 => ⟨S_, .i32⟩
  | 19 => ⟨S16384, .i32⟩
  | 20 => ⟨S16384, .i32⟩
  | 21 => ⟨S16384, .i32⟩
  | 22 => ⟨S_, .i32⟩
  | 23 => ⟨S16384, .i32⟩
  | 24 => ⟨S16384, .i1⟩
  | 25 => ⟨S16384, .i32⟩
  | 26 => ⟨S16384, .i32⟩
  | 27 => ⟨S_, .i32⟩
  | 28 => ⟨S16384, .i32⟩
  | 29 => ⟨S16384, .i1⟩
  | 30 => ⟨S16384, .i1⟩
  | 31 => ⟨S_, .i32⟩
  | 32 => ⟨S16384, .i32⟩
  | 33 => ⟨S16384, .i32⟩
  | 34 => ⟨S16384, .i32⟩
  | 35 => ⟨S1x16384, .i32⟩
  | 36 => ⟨S16384x1, .i32⟩
  | 37 => ⟨S16384x16384, .i32⟩
  | 38 => ⟨S16384x16384, .i32⟩
  | 39 => ⟨S16384x16384, .i1⟩
  | 40 => ⟨S_, .f32⟩
  | 41 => ⟨S_, .f32⟩
  | 42 => ⟨S4x16384x16384, .i1⟩
  | 43 => ⟨S4x16384x16384, .f32⟩
  | 44 => ⟨S4x16384x16384, .f32⟩
  | 45 => ⟨S_, .f32⟩
  | 46 => ⟨S4x16384x16384, .f32⟩
  | 47 => ⟨S_, .f32⟩
  | 48 => ⟨S4x16384, .f32⟩
  | 49 => ⟨S4x16384x1, .f32⟩
  | 50 => ⟨S4x16384x16384, .f32⟩
  | 51 => ⟨S4x16384x16384, .i1⟩
  | 52 => ⟨S4x16384x16384, .f32⟩
  | 53 => ⟨S_, .f32⟩
  | 54 => ⟨S4x16384, .f32⟩
  | 55 => ⟨S_, .f32⟩
  | 56 => ⟨S4x16384, .f32⟩
  | 57 => ⟨S4x16384, .f32⟩
  | 58 => ⟨S_, .f32⟩
  | 59 => ⟨S4x16384, .f32⟩
  | 60 => ⟨S4x16384, .i1⟩
  | 61 => ⟨S_, .f32⟩
  | 62 => ⟨S4x16384, .f32⟩
  | 63 => ⟨S4x16384, .i1⟩
  | 64 => ⟨S_, .f32⟩
  | 65 => ⟨S4x16384, .f32⟩
  | 66 => ⟨S_, .f32⟩
  | 67 => ⟨S4x16384, .f32⟩
  | 68 => ⟨S_, .f32⟩
  | 69 => ⟨S4x16384, .f32⟩
  | 70 => ⟨S4x16384, .f32⟩
  | 71 => ⟨S4x16384, .f32⟩
  | 72 => ⟨S4x16384x1, .f32⟩
  | 73 => ⟨S4x16384x16384, .f32⟩
  | 74 => ⟨S4x16384x16384, .f32⟩
  | 75 => ⟨S4x16384x16384, .f32⟩
  | 76 => ⟨S_, .f32⟩
  | 77 => ⟨S4x16384, .f32⟩
  | 78 => ⟨S4x16384x1, .f32⟩
  | 79 => ⟨S4x16384x16384, .f32⟩
  | 80 => ⟨S4x16384x16384, .f32⟩
  | 81 => ⟨S4x16384x1, .f32⟩
  | 82 => ⟨S_, .f32⟩
  | 83 => ⟨S4x16384x1, .f32⟩
  | 84 => ⟨S4x16384x1, .f32⟩
  | 85 => ⟨S4x128x16384, .f32⟩
  | 86 => ⟨S16384x4x128, .f32⟩
  | 87 => ⟨S16384x512, .f32⟩
  | 88 => ⟨S16384x512, .f32⟩
  | 89 => ⟨S16384x512, .f32⟩
  | 90 => ⟨S_, .f32⟩
  | 91 => ⟨S16384x512, .f32⟩
  | 92 => ⟨S16384x512, .f32⟩
  | 93 => ⟨S_, .f32⟩
  | 94 => ⟨S16384x512, .f32⟩
  | 95 => ⟨S16384x512, .f32⟩
  | 96 => ⟨S_, .f32⟩
  | 97 => ⟨S16384x512, .f32⟩
  | 98 => ⟨S16384x512, .f32⟩
  | 99 => ⟨S16384x512, .f32⟩
  | 100 => ⟨S16384x512, .f32⟩
  | 101 => ⟨S16384x512, .f32⟩
  | 102 => ⟨S16384x512, .f32⟩
  | 103 => ⟨S16384x512, .f32⟩
  | 104 => ⟨S16384x512, .f32⟩
  | 105 => ⟨S16384x512, .f32⟩
  | 106 => ⟨S16384x512, .f32⟩
  | 107 => ⟨S16384x512, .f32⟩
  | 108 => ⟨S16384x512, .f32⟩
  | 109 => ⟨S16384x4x128, .f32⟩
  | 110 => ⟨S4x128x16384, .f32⟩
  | 111 => ⟨S4x16384x16384, .f32⟩
  | 112 => ⟨S4x128x16384, .f32⟩
  | 113 => ⟨S4x16384x128, .f32⟩
  | 114 => ⟨S4x16384x16384, .f32⟩
  | 115 => ⟨S4x16384x16384, .f32⟩
  | 116 => ⟨S4x16384x16384, .f32⟩
  | 117 => ⟨S_, .f32⟩
  | 118 => ⟨S4x16384, .f32⟩
  | 119 => ⟨S4x16384x1, .f32⟩
  | 120 => ⟨S4x16384x1, .f32⟩
  | 121 => ⟨S4x16384x16384, .f32⟩
  | 122 => ⟨S4x16384x16384, .f32⟩
  | 123 => ⟨S_, .f32⟩
  | 124 => ⟨S4x16384, .f32⟩
  | 125 => ⟨S4x16384x16384, .f32⟩
  | 126 => ⟨S4x16384x16384, .f32⟩
  | 127 => ⟨S4x16384x16384, .f32⟩
  | _ => ⟨S4x16384x256, .bf16⟩

abbrev hbmTy0_1 (i : Nat) : BufTy := match i % 128 with
  | 0 => ⟨S_, .f32⟩
  | 1 => ⟨S4x16384x16384, .f32⟩
  | 2 => ⟨S4x16384x16384, .f32⟩
  | 3 => ⟨S4x16384x16384, .f32⟩
  | 4 => ⟨S4x16384x16384, .f32⟩
  | 5 => ⟨S4x16384x256, .f32⟩
  | 6 => ⟨S4x16384x256, .f32⟩
  | 7 => ⟨S16384x512, .bf16⟩
  | _ => ⟨S4x16384x256, .bf16⟩

abbrev hbmTy (i : Nat) : BufTy := match i / 128 with
  | 0 => hbmTy0_0 i
  | 1 => hbmTy0_1 i
  | _ => ⟨S4x16384x256, .bf16⟩

abbrev bufTy : (tb : Table) → Fin (tcTables nBuf tb) → BufTy
  | .hbm, ⟨i, _⟩ => hbmTy i
  | _, _ => ⟨S4x16384x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_c : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_0 : Ref sig .tc := ⟨.hbm, 31, rfl⟩
abbrev main_call0_v12 : Ref sig .tc := ⟨.hbm, 32, rfl⟩
abbrev main_call0_v13 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_cst_1 : Ref sig .tc := ⟨.hbm, 40, rfl⟩
abbrev main_call1_v0 : Ref sig .tc := ⟨.hbm, 41, rfl⟩
abbrev main_v16_1 : Ref sig .tc := ⟨.hbm, 42, rfl⟩
abbrev main_call1_v2 : Ref sig .tc := ⟨.hbm, 43, rfl⟩
abbrev main_v16_0 : Ref sig .tc := ⟨.hbm, 44, rfl⟩
abbrev main_call1_cst : Ref sig .tc := ⟨.hbm, 45, rfl⟩
abbrev main_v16_2 : Ref sig .tc := ⟨.hbm, 46, rfl⟩
abbrev main_cst_2 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_cst_3 : Ref sig .tc := ⟨.hbm, 53, rfl⟩
abbrev main_v22 : Ref sig .tc := ⟨.hbm, 54, rfl⟩
abbrev main_cst_4 : Ref sig .tc := ⟨.hbm, 55, rfl⟩
abbrev main_v23 : Ref sig .tc := ⟨.hbm, 56, rfl⟩
abbrev main_v24 : Ref sig .tc := ⟨.hbm, 57, rfl⟩
abbrev main_cst_5 : Ref sig .tc := ⟨.hbm, 58, rfl⟩
abbrev main_v25 : Ref sig .tc := ⟨.hbm, 59, rfl⟩
abbrev main_v26 : Ref sig .tc := ⟨.hbm, 60, rfl⟩
abbrev main_cst_6 : Ref sig .tc := ⟨.hbm, 61, rfl⟩
abbrev main_v27 : Ref sig .tc := ⟨.hbm, 62, rfl⟩
abbrev main_v28 : Ref sig .tc := ⟨.hbm, 63, rfl⟩
abbrev main_cst_7 : Ref sig .tc := ⟨.hbm, 64, rfl⟩
abbrev main_v29 : Ref sig .tc := ⟨.hbm, 65, rfl⟩
abbrev main_cst_8 : Ref sig .tc := ⟨.hbm, 66, rfl⟩
abbrev main_v30 : Ref sig .tc := ⟨.hbm, 67, rfl⟩
abbrev main_cst_9 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_cst_10 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_cst_11 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_call2_v0 : Ref sig .tc := ⟨.hbm, 88, rfl⟩
abbrev main_call2_v1 : Ref sig .tc := ⟨.hbm, 89, rfl⟩
abbrev main_call2_cst : Ref sig .tc := ⟨.hbm, 90, rfl⟩
abbrev main_call2_v2 : Ref sig .tc := ⟨.hbm, 91, rfl⟩
abbrev main_call2_v3 : Ref sig .tc := ⟨.hbm, 92, rfl⟩
abbrev main_call2_cst_0 : Ref sig .tc := ⟨.hbm, 93, rfl⟩
abbrev main_call2_v4 : Ref sig .tc := ⟨.hbm, 94, rfl⟩
abbrev main_v48_2 : Ref sig .tc := ⟨.hbm, 95, rfl⟩
abbrev main_call2_cst_1 : Ref sig .tc := ⟨.hbm, 96, rfl⟩
abbrev main_call2_v6 : Ref sig .tc := ⟨.hbm, 97, rfl⟩
abbrev main_call2_v7 : Ref sig .tc := ⟨.hbm, 98, rfl⟩
abbrev main_v48_1 : Ref sig .tc := ⟨.hbm, 99, rfl⟩
abbrev main_v48_0 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_call3_v0 : Ref sig .tc := ⟨.hbm, 105, rfl⟩
abbrev main_call3_v1 : Ref sig .tc := ⟨.hbm, 106, rfl⟩
abbrev main_call3_v2 : Ref sig .tc := ⟨.hbm, 107, rfl⟩
abbrev main_v53 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_cst_12 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_v66 : Ref sig .tc := ⟨.hbm, 122, rfl⟩
abbrev main_cst_13 : Ref sig .tc := ⟨.hbm, 123, rfl⟩
abbrev main_v67 : Ref sig .tc := ⟨.hbm, 124, rfl⟩
abbrev main_v68 : Ref sig .tc := ⟨.hbm, 125, rfl⟩
abbrev main_v69 : Ref sig .tc := ⟨.hbm, 126, rfl⟩
abbrev main_v70 : Ref sig .tc := ⟨.hbm, 127, rfl⟩
abbrev main_call4_cst : Ref sig .tc := ⟨.hbm, 128, rfl⟩
abbrev main_call4_v0 : Ref sig .tc := ⟨.hbm, 129, rfl⟩
abbrev main_v71 : Ref sig .tc := ⟨.hbm, 130, rfl⟩
abbrev main_v72 : Ref sig .tc := ⟨.hbm, 131, rfl⟩
abbrev main_v73 : Ref sig .tc := ⟨.hbm, 132, rfl⟩
abbrev main_v74 : Ref sig .tc := ⟨.hbm, 133, rfl⟩
abbrev main_v75 : Ref sig .tc := ⟨.hbm, 134, rfl⟩
abbrev main_v76 : Ref sig .tc := ⟨.hbm, 135, rfl⟩

abbrev nD : Nat := 1
abbrev τ : Topo := Topo.v7x

variable {F : FTy → Type} [FloatOps F]
-- ==== InProj.lean ====
abbrev S16384x1280 : Shape := ⟨2, ![16384, 1280]⟩
abbrev S16384x640 : Shape := ⟨2, ![16384, 640]⟩
abbrev S16384x128 : Shape := ⟨2, ![16384, 128]⟩
abbrev S16384x512 : Shape := ⟨2, ![16384, 512]⟩
abbrev S16384x1024 : Shape := ⟨2, ![16384, 1024]⟩
abbrev S1024x2560 : Shape := ⟨2, ![1024, 2560]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S512x1280 : Shape := ⟨2, ![512, 1280]⟩
abbrev S512x640 : Shape := ⟨2, ![512, 640]⟩
abbrev S512x128 : Shape := ⟨2, ![512, 128]⟩
abbrev S512x512 : Shape := ⟨2, ![512, 512]⟩
abbrev S512x1024 : Shape := ⟨2, ![512, 1024]⟩
abbrev S512x2560 : Shape := ⟨2, ![512, 2560]⟩
abbrev S1024x512 : Shape := ⟨2, ![1024, 512]⟩
abbrev S512 : Shape := ⟨1, ![512]⟩
abbrev S512x1 : Shape := ⟨2, ![512, 1]⟩
abbrev S1024 : Shape := ⟨1, ![1024]⟩

abbrev nBuf : Space → Nat
  | .hbm => 27
  | .vmem => 20
  | .smem => 0
  | _ => 0

abbrev bufTy : (tb : Table) → Fin (tcTables nBuf tb) → BufTy
  | .hbm, ⟨0, _⟩ => ⟨S16384x1280, .bf16⟩
  | .hbm, ⟨1, _⟩ => ⟨S16384x640, .bf16⟩
  | .hbm, ⟨2, _⟩ => ⟨S16384x128, .bf16⟩
  | .hbm, ⟨3, _⟩ => ⟨S16384x512, .bf16⟩
  | .hbm, ⟨4, _⟩ => ⟨S16384x1024, .f32⟩
  | .hbm, ⟨5, _⟩ => ⟨S16384x1024, .f32⟩
  | .hbm, ⟨6, _⟩ => ⟨S1024x2560, .bf16⟩
  | .hbm, ⟨7, _⟩ => ⟨S1x1024, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .bf16⟩
  | .hbm, ⟨24, _⟩ => ⟨S16384x1024, .f32⟩
  | .hbm, ⟨25, _⟩ => ⟨S1024x2560, .f32⟩
  | .hbm, ⟨26, _⟩ => ⟨S1x1024, .f32⟩
  | .local _ .vmem, ⟨0, _⟩ => ⟨S512x1280, .bf16⟩
  | .local _ .vmem, ⟨1, _⟩ => ⟨S512x1280, .bf16⟩
  | .local _ .vmem, ⟨2, _⟩ => ⟨S512x640, .bf16⟩
  | .local _ .vmem, ⟨3, _⟩ => ⟨S512x640, .bf16⟩
  | .local _ .vmem, ⟨4, _⟩ => ⟨S512x128, .bf16⟩
  | .local _ .vmem, ⟨5, _⟩ => ⟨S512x128, .bf16⟩
  | .local _ .vmem, ⟨6, _⟩ => ⟨S512x512, .bf16⟩
  | .local _ .vmem, ⟨7, _⟩ => ⟨S512x512, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S1024x2560, .bf16⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | .local _ .vmem, ⟨18, _⟩ => ⟨S1024x2560, .f32⟩
  | .local _ .vmem, ⟨19, _⟩ => ⟨S1x1024, .f32⟩
  | _, _ => ⟨S16384x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13_0 : Ref sig .tc := ⟨.hbm, 24, rfl⟩
abbrev main_v13_1 : Ref sig .tc := ⟨.hbm, 25, rfl⟩
abbrev main_v13_2 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem11_0 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x2560 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1024x2560 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== InProjRefIdeal.lean ====
abbrev S16384x1280 : Shape := ⟨2, ![16384, 1280]⟩
abbrev S16384x640 : Shape := ⟨2, ![16384, 640]⟩
abbrev S16384x128 : Shape := ⟨2, ![16384, 128]⟩
abbrev S16384x512 : Shape := ⟨2, ![16384, 512]⟩
abbrev S16384x1024 : Shape := ⟨2, ![16384, 1024]⟩
abbrev S1024x2560 : Shape := ⟨2, ![1024, 2560]⟩
abbrev S1x1024 : Shape := ⟨2, ![1, 1024]⟩
abbrev S16384x2560 : Shape := ⟨2, ![16384, 2560]⟩
abbrev S_ : Shape := ⟨0, ![]⟩
abbrev S16384 : Shape := ⟨1, ![16384]⟩
abbrev S16384x1 : Shape := ⟨2, ![16384, 1]⟩
abbrev S2560x1024 : Shape := ⟨2, ![2560, 1024]⟩
abbrev S1024 : Shape := ⟨1, ![1024]⟩

abbrev nBuf : Space → Nat
  | .hbm => 61
  | .vmem => 0
  | .smem => 0
  | _ => 0

abbrev bufTy : (tb : Table) → Fin (tcTables nBuf tb) → BufTy
  | .hbm, ⟨0, _⟩ => ⟨S16384x1280, .bf16⟩
  | .hbm, ⟨1, _⟩ => ⟨S16384x640, .bf16⟩
  | .hbm, ⟨2, _⟩ => ⟨S16384x128, .bf16⟩
  | .hbm, ⟨3, _⟩ => ⟨S16384x512, .bf16⟩
  | .hbm, ⟨4, _⟩ => ⟨S16384x1024, .f32⟩
  | .hbm, ⟨5, _⟩ => ⟨S16384x1024, .f32⟩
  | .hbm, ⟨6, _⟩ => ⟨S1024x2560, .bf16⟩
  | .hbm, ⟨7, _⟩ => ⟨S1x1024, .f32⟩
  | .hbm, ⟨8, _⟩ => ⟨S16384x1280, .f32⟩
  | .hbm, ⟨9, _⟩ => ⟨S16384x640, .f32⟩
  | .hbm, ⟨10, _⟩ => ⟨S16384x128, .f32⟩
  | .hbm, ⟨11, _⟩ => ⟨S16384x512, .f32⟩
  | .hbm, ⟨12, _⟩ => ⟨S16384x2560, .f32⟩
  | .hbm, ⟨13, _⟩ => ⟨S1024x2560, .f32⟩
  | .hbm, ⟨14, _⟩ => ⟨S16384x1024, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x2560, .f32⟩
  | .hbm, ⟨34, _⟩ => ⟨S2560x1024, .f32⟩
  | .hbm, ⟨35, _⟩ => ⟨S1024x2560, .f32⟩
  | .hbm, ⟨36, _⟩ => ⟨S16384x1024, .f32⟩
  | .hbm, ⟨37, _⟩ => ⟨S16384x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S_, .f32⟩
  | .hbm, ⟨45, _⟩ => ⟨S16384, .f32⟩
  | .hbm, ⟨46, _⟩ => ⟨S16384x1, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1, .f32⟩
  | .hbm, ⟨51, _⟩ => ⟨S_, .f32⟩
  | .hbm, ⟨52, _⟩ => ⟨S16384x1, .f32⟩
  | .hbm, ⟨53, _⟩ => ⟨S16384x1, .f32⟩
  | .hbm, ⟨54, _⟩ => ⟨S_, .f32⟩
  | .hbm, ⟨55, _⟩ => ⟨S16384, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S16384x1024, .f32⟩
  | .hbm, ⟨60, _⟩ => ⟨S16384x1024, .f32⟩
  | _, _ => ⟨S16384x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩

abbrev nD : Nat := 1
abbrev τ : Topo := Topo.v7x

variable {F : FTy → Type} [FloatOps F]
-- ==== OutProj.lean ====
abbrev S16384x1024 : Shape := ⟨2, ![16384, 1024]⟩
abbrev S16384x512 : Shape := ⟨2, ![16384, 512]⟩
abbrev S1024x1024 : Shape := ⟨2, ![1024, 1024]⟩
abbrev S1x1024 : Shape := ⟨2, ![1, 1024]⟩
abbrev S1024x512 : Shape := ⟨2, ![1024, 512]⟩
abbrev S512x1024 : Shape := ⟨2, ![512, 1024]⟩
abbrev S512 : Shape := ⟨1, ![512]⟩
abbrev S512x1 : Shape := ⟨2, ![512, 1]⟩
abbrev S1024 : Shape := ⟨1, ![1024]⟩
abbrev S512x512 : Shape := ⟨2, ![512, 512]⟩

abbrev nBuf : Space → Nat
  | .hbm => 12
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S1024x1024, .bf16⟩
  | .hbm, ⟨4, _⟩ => ⟨S1x1024, .f32⟩
  | .hbm, ⟨5, _⟩ => ⟨S16384x1024, .bf16⟩
  | .hbm, ⟨6, _⟩ => ⟨S16384x1024, .f32⟩
  | .hbm, ⟨7, _⟩ => ⟨S1024x1024, .f32⟩
  | .hbm, ⟨8, _⟩ => ⟨S16384x1024, .f32⟩
  | .hbm, ⟨9, _⟩ => ⟨S16384x1024, .f32⟩
  | .hbm, ⟨10, _⟩ => ⟨S1024x1024, .f32⟩
  | .hbm, ⟨11, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x1024, .bf16⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== OutProjRefIdeal.lean ====
abbrev S16384x1024 : Shape := ⟨2, ![16384, 1024]⟩
abbrev S16384x512 : Shape := ⟨2, ![16384, 512]⟩
abbrev S1024x1024 : Shape := ⟨2, ![1024, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1024 : Shape := ⟨1, ![1024]⟩

abbrev nBuf : Space → Nat
  | .hbm => 54
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S1024x1024, .bf16⟩
  | .hbm, ⟨4, _⟩ => ⟨S1x1024, .f32⟩
  | .hbm, ⟨5, _⟩ => ⟨S16384x1024, .bf16⟩
  | .hbm, ⟨6, _⟩ => ⟨S16384x1024, .f32⟩
  | .hbm, ⟨7, _⟩ => ⟨S1024x1024, .f32⟩
  | .hbm, ⟨8, _⟩ => ⟨S16384x1024, .f32⟩
  | .hbm, ⟨9, _⟩ => ⟨S16384x1024, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384, .f32⟩
  | .hbm, ⟨37, _⟩ => ⟨S16384x1, .f32⟩
  | .hbm, ⟨38, _⟩ => ⟨S16384x1024, .f32⟩
  | .hbm, ⟨39, _⟩ => ⟨S16384x1024, .f32⟩
  | .hbm, ⟨40, _⟩ => ⟨S16384x1, .f32⟩
  | .hbm, ⟨41, _⟩ => ⟨S_, .f32⟩
  | .hbm, ⟨42, _⟩ => ⟨S16384x1, .f32⟩
  | .hbm, ⟨43, _⟩ => ⟨S16384x1, .f32⟩
  | .hbm, ⟨44, _⟩ => ⟨S_, .f32⟩
  | .hbm, ⟨45, _⟩ => ⟨S16384, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S1024x1024, .f32⟩
  | .hbm, ⟨52, _⟩ => ⟨S1024x1024, .f32⟩
  | .hbm, ⟨53, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== InFwd.lean ====
abbrev S16384x1024 : Shape := ⟨2, ![16384, 1024]⟩
abbrev S1x1024 : Shape := ⟨2, ![1, 1024]⟩
abbrev S1024x2560 : Shape := ⟨2, ![1024, 2560]⟩
abbrev S16384x2560 : Shape := ⟨2, ![16384, 2560]⟩
abbrev S1024x1024 : Shape := ⟨2, ![1024, 1024]⟩
abbrev S512x1024 : Shape := ⟨2, ![512, 1024]⟩
abbrev S512 : Shape := ⟨1, ![512]⟩
abbrev S512x1 : Shape := ⟨2, ![512, 1]⟩
abbrev S512x2560 : Shape := ⟨2, ![512, 2560]⟩

abbrev nBuf : Space → Nat
  | .hbm => 5
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x2560, .bf16⟩
  | .hbm, ⟨3, _⟩ => ⟨S16384x2560, .f32⟩
  | .hbm, ⟨4, _⟩ => ⟨S16384x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2560, .bf16⟩
  | .local _ .vmem, ⟨4, _⟩ => ⟨S1024x2560, .f32⟩
  | .local _ .vmem, ⟨5, _⟩ => ⟨S1024x2560, .f32⟩
  | .local _ .vmem, ⟨6, _⟩ => ⟨S1024x1024, .bf16⟩
  | .local _ .vmem, ⟨7, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x2560 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== InFwdRefIdeal.lean ====
abbrev S16384x1024 : Shape := ⟨2, ![16384, 1024]⟩
abbrev S1x1024 : Shape := ⟨2, ![1, 1024]⟩
abbrev S1024x2560 : Shape := ⟨2, ![1024, 2560]⟩
abbrev S_ : Shape := ⟨0, ![]⟩
abbrev S16384 : Shape := ⟨1, ![16384]⟩
abbrev S16384x1 : Shape := ⟨2, ![16384, 1]⟩
abbrev S16384x2560 : Shape := ⟨2, ![16384, 2560]⟩

abbrev nBuf : Space → Nat
  | .hbm => 21
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x2560, .bf16⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S1024x2560, .f32⟩
  | .hbm, ⟨19, _⟩ => ⟨S16384x2560, .f32⟩
  | .hbm, ⟨20, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== OutFwd.lean ====
abbrev S16384x512 : Shape := ⟨2, ![16384, 512]⟩
abbrev S1024x1024 : Shape := ⟨2, ![1024, 1024]⟩
abbrev S16384x1024 : Shape := ⟨2, ![16384, 1024]⟩
abbrev S1x1024 : Shape := ⟨2, ![1, 1024]⟩
abbrev S1x128 : Shape := ⟨2, ![1, 128]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 9
  | .vmem => 15
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S1024x1024, .bf16⟩
  | .hbm, ⟨3, _⟩ => ⟨S16384x1024, .f32⟩
  | .hbm, ⟨4, _⟩ => ⟨S1x1024, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S1x128, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S1x128, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== OutFwdRefIdeal.lean ====
abbrev S16384x512 : Shape := ⟨2, ![16384, 512]⟩
abbrev S1024x1024 : Shape := ⟨2, ![1024, 1024]⟩
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1x128 : Shape := ⟨2, ![1, 128]⟩

abbrev nBuf : Space → Nat
  | .hbm => 50
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S1024x1024, .bf16⟩
  | .hbm, ⟨3, _⟩ => ⟨S16384x1024, .f32⟩
  | .hbm, ⟨4, _⟩ => ⟨S1x1024, .f32⟩
  | .hbm, ⟨5, _⟩ => ⟨S16384x1024, .f32⟩
  | .hbm, ⟨6, _⟩ => ⟨S16384x1024, .bf16⟩
  | .hbm, ⟨7, _⟩ => ⟨S16384x1024, .f32⟩
  | .hbm, ⟨8, _⟩ => ⟨S1024x1024, .f32⟩
  | .hbm, ⟨9, _⟩ => ⟨S16384x1024, .f32⟩
  | .hbm, ⟨10, _⟩ => ⟨S16384x1024, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S16384, .f32⟩
  | .hbm, ⟨33, _⟩ => ⟨S_, .f32⟩
  | .hbm, ⟨34, _⟩ => ⟨S16384, .f32⟩
  | .hbm, ⟨35, _⟩ => ⟨S16384, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S16384, .f32⟩
  | .hbm, ⟨44, _⟩ => ⟨S_, .f32⟩
  | .hbm, ⟨45, _⟩ => ⟨S16384, .f32⟩
  | .hbm, ⟨46, _⟩ => ⟨S16384, .f32⟩
  | .hbm, ⟨47, _⟩ => ⟨S16384x1024, .f32⟩
  | .hbm, ⟨48, _⟩ => ⟨S16384x1024, .f32⟩
  | .hbm, ⟨49, _⟩ => ⟨S1x128, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_cst_7 : Ref sig .tc := ⟨.hbm, 40, rfl⟩
abbrev main_cst_8 : Ref sig .tc := ⟨.hbm, 41, rfl⟩
abbrev main_v26 : Ref sig .tc := ⟨.hbm, 42, rfl⟩
abbrev main_v27 : Ref sig .tc := ⟨.hbm, 43, rfl⟩
abbrev main_cst_9 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩

abbrev nD : Nat := 1
abbrev τ : Topo := Topo.v7x

variable {F : FTy → Type} [FloatOps F]
-- ==== AdamIn.lean ====
abbrev S2048x624 : Shape := ⟨2, ![2048, 624]⟩
abbrev S256x624 : Shape := ⟨2, ![256, 624]⟩

abbrev nBuf : Space → Nat
  | .hbm => 7
  | .vmem => 14
  | .smem => 0
  | _ => 0

abbrev bufTy : (tb : Table) → Fin (tcTables nBuf tb) → BufTy
  | .hbm, ⟨0, _⟩ => ⟨S2048x624, .f32⟩
  | .hbm, ⟨1, _⟩ => ⟨S2048x624, .f32⟩
  | .hbm, ⟨2, _⟩ => ⟨S2048x624, .f32⟩
  | .hbm, ⟨3, _⟩ => ⟨S2048x624, .f32⟩
  | .hbm, ⟨4, _⟩ => ⟨S2048x624, .f32⟩
  | .hbm, ⟨5, _⟩ => ⟨S2048x624, .f32⟩
  | .hbm, ⟨6, _⟩ => ⟨S2048x624, .f32⟩
  | .local _ .vmem, ⟨0, _⟩ => ⟨S256x624, .f32⟩
  | .local _ .vmem, ⟨1, _⟩ => ⟨S256x624, .f32⟩
  | .local _ .vmem, ⟨2, _⟩ => ⟨S256x624, .f32⟩
  | .local _ .vmem, ⟨3, _⟩ => ⟨S256x624, .f32⟩
  | .local _ .vmem, ⟨4, _⟩ => ⟨S256x624, .f32⟩
  | .local _ .vmem, ⟨5, _⟩ => ⟨S256x624, .f32⟩
  | .local _ .vmem, ⟨6, _⟩ => ⟨S256x624, .f32⟩
  | .local _ .vmem, ⟨7, _⟩ => ⟨S256x624, .f32⟩
  | .local _ .vmem, ⟨8, _⟩ => ⟨S256x624, .f32⟩
  | .local _ .vmem, ⟨9, _⟩ => ⟨S256x624, .f32⟩
  | .local _ .vmem, ⟨10, _⟩ => ⟨S256x624, .f32⟩
  | .local _ .vmem, ⟨11, _⟩ => ⟨S256x624, .f32⟩
  | .local _ .vmem, ⟨12, _⟩ => ⟨S256x624, .f32⟩
  | .local _ .vmem, ⟨13, _⟩ => ⟨S256x624, .f32⟩
  | _, _ => ⟨S2048x624, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x624 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x624 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x624 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x624 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x624 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x624 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x624 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInRefIdeal.lean ====
abbrev S2048x624 : Shape := ⟨2, ![2048, 624]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x624, .f32⟩
  | .hbm, ⟨1, _⟩ => ⟨S2048x624, .f32⟩
  | .hbm, ⟨2, _⟩ => ⟨S2048x624, .f32⟩
  | .hbm, ⟨3, _⟩ => ⟨S2048x624, .f32⟩
  | .hbm, ⟨4, _⟩ => ⟨S_, .f32⟩
  | .hbm, ⟨5, _⟩ => ⟨S2048x624, .f32⟩
  | .hbm, ⟨6, _⟩ => ⟨S2048x624, .f32⟩
  | .hbm, ⟨7, _⟩ => ⟨S_, .f32⟩
  | .hbm, ⟨8, _⟩ => ⟨S2048x624, .f32⟩
  | .hbm, ⟨9, _⟩ => ⟨S2048x624, .f32⟩
  | .hbm, ⟨10, _⟩ => ⟨S2048x624, .f32⟩
  | .hbm, ⟨11, _⟩ => ⟨S_, .f32⟩
  | .hbm, ⟨12, _⟩ => ⟨S2048x624, .f32⟩
  | .hbm, ⟨13, _⟩ => ⟨S2048x624, .f32⟩
  | .hbm, ⟨14, _⟩ => ⟨S2048x624, .f32⟩
  | .hbm, ⟨15, _⟩ => ⟨S_, .f32⟩
  | .hbm, ⟨16, _⟩ => ⟨S2048x624, .f32⟩
  | .hbm, ⟨17, _⟩ => ⟨S2048x624, .f32⟩
  | .hbm, ⟨18, _⟩ => ⟨S2048x624, .f32⟩
  | .hbm, ⟨19, _⟩ => ⟨S_, .f32⟩
  | .hbm, ⟨20, _⟩ => ⟨S2048x624, .f32⟩
  | .hbm, ⟨21, _⟩ => ⟨S2048x624, .f32⟩
  | .hbm, ⟨22, _⟩ => ⟨S_, .f32⟩
  | .hbm, ⟨23, _⟩ => ⟨S2048x624, .f32⟩
  | .hbm, ⟨24, _⟩ => ⟨S2048x624, .f32⟩
  | .hbm, ⟨25, _⟩ => ⟨S2048x624, .f32⟩
  | .hbm, ⟨26, _⟩ => ⟨S_, .f32⟩
  | .hbm, ⟨27, _⟩ => ⟨S2048x624, .f32⟩
  | .hbm, ⟨28, _⟩ => ⟨S2048x624, .f32⟩
  | .hbm, ⟨29, _⟩ => ⟨S2048x624, .f32⟩
  | .hbm, ⟨30, _⟩ => ⟨S_, .f32⟩
  | .hbm, ⟨31, _⟩ => ⟨S2048x624, .f32⟩
  | .hbm, ⟨32, _⟩ => ⟨S2048x624, .f32⟩
  | .hbm, ⟨33, _⟩ => ⟨S2048x624, .f32⟩
  | .hbm, ⟨34, _⟩ => ⟨S_, .f32⟩
  | .hbm, ⟨35, _⟩ => ⟨S2048x624, .f32⟩
  | .hbm, ⟨36, _⟩ => ⟨S2048x624, .f32⟩
  | _, _ => ⟨S2048x624, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamUq.lean ====
abbrev S768x192 : Shape := ⟨2, ![768, 192]⟩
abbrev S256x192 : Shape := ⟨2, ![256, 192]⟩

abbrev nBuf : Space → Nat
  | .hbm => 7
  | .vmem => 14
  | .smem => 0
  | _ => 0

abbrev bufTy : (tb : Table) → Fin (tcTables nBuf tb) → BufTy
  | .hbm, ⟨0, _⟩ => ⟨S768x192, .f32⟩
  | .hbm, ⟨1, _⟩ => ⟨S768x192, .f32⟩
  | .hbm, ⟨2, _⟩ => ⟨S768x192, .f32⟩
  | .hbm, ⟨3, _⟩ => ⟨S768x192, .f32⟩
  | .hbm, ⟨4, _⟩ => ⟨S768x192, .f32⟩
  | .hbm, ⟨5, _⟩ => ⟨S768x192, .f32⟩
  | .hbm, ⟨6, _⟩ => ⟨S768x192, .f32⟩
  | .local _ .vmem, ⟨0, _⟩ => ⟨S256x192, .f32⟩
  | .local _ .vmem, ⟨1, _⟩ => ⟨S256x192, .f32⟩
  | .local _ .vmem, ⟨2, _⟩ => ⟨S256x192, .f32⟩
  | .local _ .vmem, ⟨3, _⟩ => ⟨S256x192, .f32⟩
  | .local _ .vmem, ⟨4, _⟩ => ⟨S256x192, .f32⟩
  | .local _ .vmem, ⟨5, _⟩ => ⟨S256x192, .f32⟩
  | .local _ .vmem, ⟨6, _⟩ => ⟨S256x192, .f32⟩
  | .local _ .vmem, ⟨7, _⟩ => ⟨S256x192, .f32⟩
  | .local _ .vmem, ⟨8, _⟩ => ⟨S256x192, .f32⟩
  | .local _ .vmem, ⟨9, _⟩ => ⟨S256x192, .f32⟩
  | .local _ .vmem, ⟨10, _⟩ => ⟨S256x192, .f32⟩
  | .local _ .vmem, ⟨11, _⟩ => ⟨S256x192, .f32⟩
  | .local _ .vmem, ⟨12, _⟩ => ⟨S256x192, .f32⟩
  | .local _ .vmem, ⟨13, _⟩ => ⟨S256x192, .f32⟩
  | _, _ => ⟨S768x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamUqRefIdeal.lean ====
abbrev S768x192 : Shape := ⟨2, ![768, 192]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S768x192, .f32⟩
  | .hbm, ⟨1, _⟩ => ⟨S768x192, .f32⟩
  | .hbm, ⟨2, _⟩ => ⟨S768x192, .f32⟩
  | .hbm, ⟨3, _⟩ => ⟨S768x192, .f32⟩
  | .hbm, ⟨4, _⟩ => ⟨S_, .f32⟩
  | .hbm, ⟨5, _⟩ => ⟨S768x192, .f32⟩
  | .hbm, ⟨6, _⟩ => ⟨S768x192, .f32⟩
  | .hbm, ⟨7, _⟩ => ⟨S_, .f32⟩
  | .hbm, ⟨8, _⟩ => ⟨S768x192, .f32⟩
  | .hbm, ⟨9, _⟩ => ⟨S768x192, .f32⟩
  | .hbm, ⟨10, _⟩ => ⟨S768x192, .f32⟩
  | .hbm, ⟨11, _⟩ => ⟨S_, .f32⟩
  | .hbm, ⟨12, _⟩ => ⟨S768x192, .f32⟩
  | .hbm, ⟨13, _⟩ => ⟨S768x192, .f32⟩
  | .hbm, ⟨14, _⟩ => ⟨S768x192, .f32⟩
  | .hbm, ⟨15, _⟩ => ⟨S_, .f32⟩
  | .hbm, ⟨16, _⟩ => ⟨S768x192, .f32⟩
  | .hbm, ⟨17, _⟩ => ⟨S768x192, .f32⟩
  | .hbm, ⟨18, _⟩ => ⟨S768x192, .f32⟩
  | .hbm, ⟨19, _⟩ => ⟨S_, .f32⟩
  | .hbm, ⟨20, _⟩ => ⟨S768x192, .f32⟩
  | .hbm, ⟨21, _⟩ => ⟨S768x192, .f32⟩
  | .hbm, ⟨22, _⟩ => ⟨S_, .f32⟩
  | .hbm, ⟨23, _⟩ => ⟨S768x192, .f32⟩
  | .hbm, ⟨24, _⟩ => ⟨S768x192, .f32⟩
  | .hbm, ⟨25, _⟩ => ⟨S768x192, .f32⟩
  | .hbm, ⟨26, _⟩ => ⟨S_, .f32⟩
  | .hbm, ⟨27, _⟩ => ⟨S768x192, .f32⟩
  | .hbm, ⟨28, _⟩ => ⟨S768x192, .f32⟩
  | .hbm, ⟨29, _⟩ => ⟨S768x192, .f32⟩
  | .hbm, ⟨30, _⟩ => ⟨S_, .f32⟩
  | .hbm, ⟨31, _⟩ => ⟨S768x192, .f32⟩
  | .hbm, ⟨32, _⟩ => ⟨S768x192, .f32⟩
  | .hbm, ⟨33, _⟩ => ⟨S768x192, .f32⟩
  | .hbm, ⟨34, _⟩ => ⟨S_, .f32⟩
  | .hbm, ⟨35, _⟩ => ⟨S768x192, .f32⟩
  | .hbm, ⟨36, _⟩ => ⟨S768x192, .f32⟩
  | _, _ => ⟨S768x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamUkv.lean ====
abbrev S512x256 : Shape := ⟨2, ![512, 256]⟩
abbrev S256x256 : Shape := ⟨2, ![256, 256]⟩

abbrev nBuf : Space → Nat
  | .hbm => 7
  | .vmem => 14
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S512x256, .f32⟩
  | .hbm, ⟨5, _⟩ => ⟨S512x256, .f32⟩
  | .hbm, ⟨6, _⟩ => ⟨S512x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamUkvRefIdeal.lean ====
abbrev S512x256 : Shape := ⟨2, ![512, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S_, .f32⟩
  | .hbm, ⟨5, _⟩ => ⟨S512x256, .f32⟩
  | .hbm, ⟨6, _⟩ => ⟨S512x256, .f32⟩
  | .hbm, ⟨7, _⟩ => ⟨S_, .f32⟩
  | .hbm, ⟨8, _⟩ => ⟨S512x256, .f32⟩
  | .hbm, ⟨9, _⟩ => ⟨S512x256, .f32⟩
  | .hbm, ⟨10, _⟩ => ⟨S512x256, .f32⟩
  | .hbm, ⟨11, _⟩ => ⟨S_, .f32⟩
  | .hbm, ⟨12, _⟩ => ⟨S512x256, .f32⟩
  | .hbm, ⟨13, _⟩ => ⟨S512x256, .f32⟩
  | .hbm, ⟨14, _⟩ => ⟨S512x256, .f32⟩
  | .hbm, ⟨15, _⟩ => ⟨S_, .f32⟩
  | .hbm, ⟨16, _⟩ => ⟨S512x256, .f32⟩
  | .hbm, ⟨17, _⟩ => ⟨S512x256, .f32⟩
  | .hbm, ⟨18, _⟩ => ⟨S512x256, .f32⟩
  | .hbm, ⟨19, _⟩ => ⟨S_, .f32⟩
  | .hbm, ⟨20, _⟩ => ⟨S512x256, .f32⟩
  | .hbm, ⟨21, _⟩ => ⟨S512x256, .f32⟩
  | .hbm, ⟨22, _⟩ => ⟨S_, .f32⟩
  | .hbm, ⟨23, _⟩ => ⟨S512x256, .f32⟩
  | .hbm, ⟨24, _⟩ => ⟨S512x256, .f32⟩
  | .hbm, ⟨25, _⟩ => ⟨S512x256, .f32⟩
  | .hbm, ⟨26, _⟩ => ⟨S_, .f32⟩
  | .hbm, ⟨27, _⟩ => ⟨S512x256, .f32⟩
  | .hbm, ⟨28, _⟩ => ⟨S512x256, .f32⟩
  | .hbm, ⟨29, _⟩ => ⟨S512x256, .f32⟩
  | .hbm, ⟨30, _⟩ => ⟨S_, .f32⟩
  | .hbm, ⟨31, _⟩ => ⟨S512x256, .f32⟩
  | .hbm, ⟨32, _⟩ => ⟨S512x256, .f32⟩
  | .hbm, ⟨33, _⟩ => ⟨S512x256, .f32⟩
  | .hbm, ⟨34, _⟩ => ⟨S_, .f32⟩
  | .hbm, ⟨35, _⟩ => ⟨S512x256, .f32⟩
  | .hbm, ⟨36, _⟩ => ⟨S512x256, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOut.lean ====
abbrev S512x1024 : Shape := ⟨2, ![512, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamOutRefIdeal.lean ====
abbrev S512x1024 : Shape := ⟨2, ![512, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S_, .f32⟩
  | .hbm, ⟨5, _⟩ => ⟨S512x1024, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S_, .f32⟩
  | .hbm, ⟨12, _⟩ => ⟨S512x1024, .f32⟩
  | .hbm, ⟨13, _⟩ => ⟨S512x1024, .f32⟩
  | .hbm, ⟨14, _⟩ => ⟨S512x1024, .f32⟩
  | .hbm, ⟨15, _⟩ => ⟨S_, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S_, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S512x1024, .f32⟩
  | .hbm, ⟨26, _⟩ => ⟨S_, .f32⟩
  | .hbm, ⟨27, _⟩ => ⟨S512x1024, .f32⟩
  | .hbm, ⟨28, _⟩ => ⟨S512x1024, .f32⟩
  | .hbm, ⟨29, _⟩ => ⟨S512x1024, .f32⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S512x1024, .f32⟩
  | .hbm, ⟨34, _⟩ => ⟨S_, .f32⟩
  | .hbm, ⟨35, _⟩ => ⟨S512x1024, .f32⟩
  | .hbm, ⟨36, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Access.lean ====
/- Loads and stores of buffers held at named values. -/
module

public import proofs.«01_k».proof.KernelIdeal
public import Idealize.ShloMosaic.Lib.VecWindow
public import Idealize.ShloMosaic.Lib.Pipeline.FrameBody
public import Idealize.ShloMosaic.Lib.Pipeline.FrameValue
public import Idealize.ShloMosaic.Lib.Tactic

@[expose] public section

set_option maxRecDepth 16384

noncomputable section

namespace Cert.KernelIdeal.Hand

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable [Facts] {F : FTy → Type} [FloatOps F] [Named F]

/-- The algebra of the proof: the pipeline's beside the transfers' counters. -/
local notation "𝕄" => MT nD τ sig Unit (Elt F) ℕ (Pipeline.UD sig nD τ) ℕ

/-- A buffer held by its own elements, whole share, at the value `x`. -/
abbrev at_ {cs : Space} {s : Shape} {e : EltTy} (c : Dev nD) (m : Memref sig .tc cs s e) (x : s.Idx → Elt F e) : sProp 𝕄 :=
  (m.view.loc (c : Thread nD τ) ↦[m.view.set]{fullShare} m.view.rep x)

variable (c : Dev nD) {cs : CoreSpace} {s : Shape} {e : EltTy} {α : Type}

/-- A load of elements that read `X`, whatever part of the buffer is held. -/
theorem load_part {Q : α → sProp 𝕄} {m : Memref sig .tc cs s e} {r : LoadRect s} {hl : m.view.LoadsAt r}
    {k : (r.shape.Idx → Elt F e) → Prog (TpuEff nD τ sig (Elt F) Λ₀ .tc) α} {S : Finset (Idx (m.view.loc (c : Thread nD τ)))}
    {f : Buf (Elt F) (m.view.loc (c : Thread nD τ))} (X : r.shape.Idx → Elt F e) (hS : m.view.setOn r.set ⊆ S) (hX : m.view.readAt (Elt F) r f = X) :
    (m.view.loc (c : Thread nD τ) ↦[S]{fullShare} f : sProp 𝕄)
      ⊢ iprop(((m.view.loc (c : Thread nD τ) ↦[S]{fullShare} f) -∗ wp frame (wpE (defs₀ (F := F)) Variants.none (c : Thread nD τ) none) Set.univ (k X) Q)
        -∗ wp frame (wpE (defs₀ (F := F)) Variants.none (c : Thread nD τ) none) Set.univ (.op (.load m r hl) k) Q) := by
  subst hX
  exact wp_load Variants.none (c : Thread nD τ) none Set.univ (Q := Q) (hl := hl) (k := k) hS

/-- A load of the whole of a buffer held at `x`. -/
theorem load_full {Q : α → sProp 𝕄} {m : Memref sig .tc cs s e} {x : s.Idx → Elt F e} {off : Fin s.rank → ℕ} {inb : ∀ a, off a + s.size a ≤ s.size a}
    {hl : m.view.LoadsAt (Rect.unit off s.size inb).toLoadRect}
    {k : (s.Idx → Elt F e) → Prog (TpuEff nD τ sig (Elt F) Λ₀ .tc) α} :
    at_ c m x
      ⊢ iprop((at_ c m x -∗ wp frame (wpE (defs₀ (F := F)) Variants.none (c : Thread nD τ) none) Set.univ (k x) Q)
        -∗ wp frame (wpE (defs₀ (F := F)) Variants.none (c : Thread nD τ) none) Set.univ (.op (.load m (Rect.unit off s.size inb).toLoadRect hl) k) Q) :=
  load_part c (m := m) (hl := hl) (k := k) x (View.setOn_subset_set _ _) (View.readAt_rep_full m.view x inb)

/-- A load of a window of a buffer held at `x`. -/
theorem load_unit {Q : α → sProp 𝕄} {m : Memref sig .tc cs s e} {x : s.Idx → Elt F e} {off off' size : Fin s.rank → ℕ} {inb : ∀ a, off a + size a ≤ s.size a}
    {hl : m.view.LoadsAt (Rect.unit off size inb).toLoadRect}
    {k : ((Rect.unit off size inb).shape.Idx → Elt F e) → Prog (TpuEff nD τ sig (Elt F) Λ₀ .tc) α}
    (h : off = off') (inb' : ∀ a, off' a + size a ≤ s.size a) :
    at_ c m x
      ⊢ iprop((at_ c m x -∗ wp frame (wpE (defs₀ (F := F)) Variants.none (c : Thread nD τ) none) Set.univ (k (VecWindow.window x off' size inb')) Q)
        -∗ wp frame (wpE (defs₀ (F := F)) Variants.none (c : Thread nD τ) none) Set.univ (.op (.load m (Rect.unit off size inb).toLoadRect hl) k) Q) :=
  load_part c (m := m) (hl := hl) (k := k) _ (View.setOn_subset_set _ _) (View.readAt_rep_unit m.view x inb h inb')

/-- A store over the whole of a buffer. -/
theorem store_full {Q : α → sProp 𝕄} {m : Memref sig .tc cs s e} {x w : s.Idx → Elt F e} {off : Fin s.rank → ℕ} {inb : ∀ a, off a + s.size a ≤ s.size a}
    {hx : (m.access (Rect.unit off s.size inb)).Stores Finset.univ} {hm : Finset.univ = Finset.univ ∨ ∀ a, (Rect.unit off s.size inb).stride a = 1}
    {k : PUnit → Prog (TpuEff nD τ sig (Elt F) Λ₀ .tc) α} :
    at_ c m x
      ⊢ iprop((at_ c m w -∗ wp frame (wpE (defs₀ (F := F)) Variants.none (c : Thread nD τ) none) Set.univ (k ⟨⟩) Q)
        -∗ wp frame (wpE (defs₀ (F := F)) Variants.none (c : Thread nD τ) none) Set.univ (.op (.store m (Rect.unit off s.size inb) w Finset.univ hx hm) k) Q) := by
  iintro H HK
  iapply (wp_store_writes₀ Variants.none (c : Thread nD τ) none Set.univ (m := m) (r := Rect.unit off s.size inb) (w := w) (hx := hx) (hm := hm) (k := k) (Q := Q)
    (View.set_slice_subset _ _)) $$ H
  iintro H
  iapply HK
  iapply (pointsTo_rep_of_read (c : Thread nD τ) m _ fullShare w (View.read_writes_full m.view _ inb w [])) $$ H

/-- A store of a window of a buffer held at `x`. -/
theorem store_unit {Q : α → sProp 𝕄} {m : Memref sig .tc cs s e} {x : s.Idx → Elt F e} {off off' size : Fin s.rank → ℕ} {inb : ∀ a, off a + size a ≤ s.size a}
    {w : (Rect.unit off size inb).shape.Idx → Elt F e}
    {hx : (m.access (Rect.unit off size inb)).Stores Finset.univ} {hm : Finset.univ = Finset.univ ∨ ∀ a, (Rect.unit off size inb).stride a = 1}
    {k : PUnit → Prog (TpuEff nD τ sig (Elt F) Λ₀ .tc) α} (h : off = off') :
    at_ c m x
      ⊢ iprop((at_ c m (VecWindow.put x off' size w) -∗ wp frame (wpE (defs₀ (F := F)) Variants.none (c : Thread nD τ) none) Set.univ (k ⟨⟩) Q)
        -∗ wp frame (wpE (defs₀ (F := F)) Variants.none (c : Thread nD τ) none) Set.univ (.op (.store m (Rect.unit off size inb) w Finset.univ hx hm) k) Q) := by
  iintro H HK
  iapply (wp_store_writes₀ Variants.none (c : Thread nD τ) none Set.univ (m := m) (r := Rect.unit off size inb) (w := w) (hx := hx) (hm := hm) (k := k) (Q := Q)
    (View.set_slice_subset _ _)) $$ H
  iintro H
  iapply HK
  iapply (pointsTo_rep_of_read (c : Thread nD τ) m _ fullShare _ (View.read_writes_rep_unit m.view x inb w h)) $$ H

end Cert.KernelIdeal.Hand

end
-- ==== Proof.Steps.lean ====
/- What one block of scores and one block of gradients do: the values, the programs, and their runs. -/
module

public import proofs.«01_k».proof.Proof.Access

@[expose] public section

set_option maxRecDepth 16384

noncomputable section

namespace Cert.KernelIdeal.Hand

open Cert.KernelIdeal Facts₀ Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable [Facts] {F : FTy → Type} [FloatOps F] [Named F]

local notation "𝕄" => MT nD τ sig Unit (Elt F) ℕ (Pipeline.UD sig nD τ) ℕ

/-! ## Values -/

/-- A row value repeated over the four lane groups of a score block. -/
def tile4 (v : FVec F S512x128 .f32) : FVec F S512x512 .f32 :=
  concatenate S512x512 1 [⟨S512x128, v⟩, ⟨S512x128, v⟩, ⟨S512x128, v⟩, ⟨S512x128, v⟩] concatenates_S512x128_S512x128_S512x128_S512x128_S512x512_d1

/-- The scores of a block, in base 2, less the row log-sum. -/
def sVal (q k : FVec F S512x256 .bf16) (b : FVec F S1x512x512 .f32) (l : FVec F S1x512x128 .f32) : FVec F S512x512 .f32 :=
  shapeCast S512x512
    (subf (addf (mulf (matmul dot_S512x256_S512x256_S512x512_1_1_0_0_n_n none q k (constant S512x512 .f32 0x00000000#32))
        (broadcast S512x512 (Named.named κ "scale_log2e" 0x3DD53B95#32)))
      (shapeCast S512x512 b shapeCasts_S1x512x512_S512x512))
    (tile4 (shapeCast S512x128 l shapeCasts_S1x512x128_S512x128))) shapeCasts_S512x512_S512x512

/-- The cotangent of the block's probabilities less the row's mean of it. -/
def dpVal (dob v : FVec F S512x128 .bf16) (δ : FVec F S512x128 .f32) : FVec F S512x512 .f32 :=
  shapeCast S512x512
    (subf (matmul dot_S512x128_S512x128_S512x512_1_1_0_0_n_n none dob v (constant S512x512 .f32 0x00000000#32)) (tile4 δ)) shapeCasts_S512x512_S512x512

/-- The block's probabilities, as the matrix unit takes them. -/
def pVal (s : FVec F S512x512 .f32) : FVec F S512x512 .bf16 := truncf .bf16 (exp2 s) bitsLt_bf16_f32

/-- The cotangent of the block's scores, as the matrix unit takes it. -/
def dsVal (s d : FVec F S512x512 .f32) : FVec F S512x512 .bf16 :=
  truncf .bf16 (mulf (mulf (exp2 s) d) (broadcast S512x512 (Named.named κ "scale" 0x3D93CD3A#32))) bitsLt_bf16_f32

def dqVal (x : FVec F S512x256 .f32) (ds : FVec F S512x512 .bf16) (k : FVec F S512x256 .bf16) : FVec F S512x256 .f32 :=
  shapeCast S512x256 (addf x (matmul dot_S512x512_S512x256_S512x256_1_0_0_1_n_n none ds k (constant S512x256 .f32 0x00000000#32))) shapeCasts_S512x256_S512x256

def dkVal (x : FVec F S512x256 .f32) (ds : FVec F S512x512 .bf16) (q : FVec F S512x256 .bf16) : FVec F S512x256 .f32 :=
  shapeCast S512x256 (addf x (matmul dot_S512x512_S512x256_S512x256_0_0_1_1_n_n none ds q (constant S512x256 .f32 0x00000000#32))) shapeCasts_S512x256_S512x256

def dvVal (x : FVec F S512x128 .f32) (p : FVec F S512x512 .bf16) (dob : FVec F S512x128 .bf16) : FVec F S512x128 .f32 :=
  shapeCast S512x128 (addf x (matmul dot_S512x512_S512x128_S512x128_0_0_1_1_n_n none p dob (constant S512x128 .f32 0x00000000#32))) shapeCasts_S512x128_S512x128

/-! ## Programs -/

/-- The buffers a block's work touches. -/
structure Mems where
  a4 : Memref sig .tc .vmem S1x512x128 .f32
  a13 : Memref sig .tc .vmem S16384x256 .bf16
  a14 : Memref sig .tc .vmem S16384x128 .bf16
  a15 : Memref sig .tc .vmem S16384x256 .f32
  a16 : Memref sig .tc .vmem S16384x128 .f32
  a17 : Memref sig .tc .vmem S512x256 .f32
  a18 : Memref sig .tc .vmem S512x128 .f32
  a19 : Memref sig .tc .vmem S512x512 .f32
  a20 : Memref sig .tc .vmem S512x512 .f32
  a21 : Memref sig .tc .vmem S512x512 .f32
  a22 : Memref sig .tc .vmem S512x512 .f32
  a23 : Memref sig .tc .vmem S2x512x512 .f32

/-- The program of one block of scores. -/
def scoresP (M : Mems) (sR dR : Memref sig .tc .vmem S512x512 .f32) (q : FVec F S512x256 .bf16) (dob : FVec F S512x128 .bf16)
    (o13 : Fin 2 → ℕ) (h13 : ∀ a, o13 a + S512x256.size a ≤ S16384x256.size a) (o23 : Fin 3 → ℕ) (h23 : ∀ a, o23 a + S1x512x512.size a ≤ S2x512x512.size a)
    (o14 : Fin 2 → ℕ) (h14 : ∀ a, o14 a + S512x128.size a ≤ S16384x128.size a) : Prog (TpuEff nD τ sig (Elt F) Λ₀ .tc) PUnit :=
  .op (.load M.a13 (Rect.unit (s := S16384x256) o13 S512x256.size h13).toLoadRect (View.loadsAt_vmem h_S512x256)) fun (k : FVec F S512x256 .bf16) =>
  .op (.load M.a23 (Rect.unit (s := S2x512x512) o23 S1x512x512.size h23).toLoadRect (View.loadsAt_vmem h_S1x512x512)) fun (b : FVec F S1x512x512 .f32) =>
  .op (.load M.a4 (Rect.unit (s := S1x512x128) ![0, 0, 0] S1x512x128.size inb_S1x512x128_S1x512x128_0_0_0).toLoadRect (View.loadsAt_vmem h_S1x512x128)) fun (l : FVec F S1x512x128 .f32) =>
  .op (.load sR (Rect.unit (s := S512x512) ![0, 0] S512x512.size inb_S512x512_S512x512_0_0).toLoadRect (View.loadsAt_vmem h_S512x512)) fun _ =>
  .op (.store sR (Rect.unit (s := S512x512) ![0, 0] S512x512.size inb_S512x512_S512x512_0_0) (sVal q k b l) Finset.univ (View.stores_vmem_bits_univ h_S512x512 rfl) (.inl rfl)) fun _ =>
  .op (.load M.a14 (Rect.unit (s := S16384x128) o14 S512x128.size h14).toLoadRect (View.loadsAt_vmem h_S512x128)) fun (v : FVec F S512x128 .bf16) =>
  .op (.load M.a18 (Rect.unit (s := S512x128) ![0, 0] S512x128.size inb_S512x128_S512x128_0_0).toLoadRect (View.loadsAt_vmem h_S512x128)) fun (δ : FVec F S512x128 .f32) =>
  .op (.load dR (Rect.unit (s := S512x512) ![0, 0] S512x512.size inb_S512x512_S512x512_0_0).toLoadRect (View.loadsAt_vmem h_S512x512)) fun _ =>
  .op (.store dR (Rect.unit (s := S512x512) ![0, 0] S512x512.size inb_S512x512_S512x512_0_0) (dpVal dob v δ) Finset.univ (View.stores_vmem_bits_univ h_S512x512 rfl) (.inl rfl)) fun _ =>
  .ret ⟨⟩

/-- The program of one block of gradients. -/
def gradsP (M : Mems) (sR dR : Memref sig .tc .vmem S512x512 .f32) (q : FVec F S512x256 .bf16) (dob : FVec F S512x128 .bf16)
    (o13 : Fin 2 → ℕ) (h13 : ∀ a, o13 a + S512x256.size a ≤ S16384x256.size a)
    (o16 : Fin 2 → ℕ) (h16 : ∀ a, o16 a + S512x128.size a ≤ S16384x128.size a) : Prog (TpuEff nD τ sig (Elt F) Λ₀ .tc) PUnit :=
  .op (.load sR (Rect.unit (s := S512x512) ![0, 0] S512x512.size inb_S512x512_S512x512_0_0).toLoadRect (View.loadsAt_vmem h_S512x512)) fun (s : FVec F S512x512 .f32) =>
  .op (.load dR (Rect.unit (s := S512x512) ![0, 0] S512x512.size inb_S512x512_S512x512_0_0).toLoadRect (View.loadsAt_vmem h_S512x512)) fun (d : FVec F S512x512 .f32) =>
  .op (.load M.a17 (Rect.unit (s := S512x256) ![0, 0] S512x256.size inb_S512x256_S512x256_0_0).toLoadRect (View.loadsAt_vmem h_S512x256)) fun (x : FVec F S512x256 .f32) =>
  .op (.load M.a13 (Rect.unit (s := S16384x256) o13 S512x256.size h13).toLoadRect (View.loadsAt_vmem h_S512x256)) fun (k : FVec F S512x256 .bf16) =>
  .op (.load M.a17 (Rect.unit (s := S512x256) ![0, 0] S512x256.size inb_S512x256_S512x256_0_0).toLoadRect (View.loadsAt_vmem h_S512x256)) fun _ =>
  .op (.store M.a17 (Rect.unit (s := S512x256) ![0, 0] S512x256.size inb_S512x256_S512x256_0_0) (dqVal x (dsVal s d) k) Finset.univ (View.stores_vmem_bits_univ h_S512x256 rfl) (.inl rfl)) fun _ =>
  .op (.load M.a15 (Rect.unit (s := S16384x256) o13 S512x256.size h13).toLoadRect (View.loadsAt_vmem h_S512x256)) fun (y : FVec F S512x256 .f32) =>
  .op (.load M.a15 (Rect.unit (s := S16384x256) o13 S512x256.size h13).toLoadRect (View.loadsAt_vmem h_S512x256)) fun _ =>
  .op (.store M.a15 (Rect.unit (s := S16384x256) o13 S512x256.size h13) (dkVal y (dsVal s d) q) Finset.univ (View.stores_vmem_bits_univ h_S512x256 rfl) (.inl rfl)) fun _ =>
  .op (.load M.a16 (Rect.unit (s := S16384x128) o16 S512x128.size h16).toLoadRect (View.loadsAt_vmem h_S512x128)) fun (z : FVec F S512x128 .f32) =>
  .op (.load M.a16 (Rect.unit (s := S16384x128) o16 S512x128.size h16).toLoadRect (View.loadsAt_vmem h_S512x128)) fun _ =>
  .op (.store M.a16 (Rect.unit (s := S16384x128) o16 S512x128.size h16) (dvVal z (pVal s) dob) Finset.univ (View.stores_vmem_bits_univ h_S512x128 rfl) (.inl rfl)) fun _ =>
  .ret ⟨⟩

/-! ## What is held -/

/-- What stays fixed through a grid point's blocks. -/
structure Cx (F : FTy → Type) where
  i : ℕ
  q : FVec F S512x256 .bf16
  dob : FVec F S512x128 .bf16
  lse : FVec F S1x512x128 .f32
  delta : FVec F S512x128 .f32
  bias : FVec F S2x512x512 .f32
  K : ℕ → FVec F S512x256 .bf16
  V : ℕ → FVec F S512x128 .bf16

/-- What a grid point's blocks change. -/
structure St (F : FTy → Type) where
  sa : FVec F S512x512 .f32
  da : FVec F S512x512 .f32
  sb : FVec F S512x512 .f32
  db : FVec F S512x512 .f32
  dq : FVec F S512x256 .f32
  dk : FVec F S16384x256 .f32
  dv : FVec F S16384x128 .f32

theorem inb_bias (b : Bool) : ∀ a, (![b.toNat, 0, 0] : Fin 3 → ℕ) a + S1x512x512.size a ≤ S2x512x512.size a := by
  cases b <;> decide

theorem inb_blk256 {j : ℕ} (h : j < 32) : ∀ a, (![512 * j, 0] : Fin 2 → ℕ) a + S512x256.size a ≤ S16384x256.size a := by
  intro a; fin_cases a
  · show 512 * j + 512 ≤ 16384; omega
  · show 0 + 256 ≤ 256; omega

theorem inb_blk128 {j : ℕ} (h : j < 32) : ∀ a, (![512 * j, 0] : Fin 2 → ℕ) a + S512x128.size a ≤ S16384x128.size a := by
  intro a; fin_cases a
  · show 512 * j + 512 ≤ 16384; omega
  · show 0 + 128 ≤ 128; omega

/-- The block of the mask added to block `j`'s scores. -/
def Cx.b (X : Cx F) (j : ℕ) : FVec F S1x512x512 .f32 :=
  VecWindow.window X.bias ![(decide (j = X.i)).toNat, 0, 0] S1x512x512.size (inb_bias _)

def Cx.s (X : Cx F) (j : ℕ) : FVec F S512x512 .f32 := sVal X.q (X.K j) (X.b j) X.lse
def Cx.d (X : Cx F) (j : ℕ) : FVec F S512x512 .f32 := dpVal X.dob (X.V j) X.delta

/-- The accumulated rows of a block, and the accumulator with the block's rows replaced. -/
def rows256 (x : FVec F S16384x256 .f32) (j : ℕ) : FVec F S512x256 .f32 :=
  if h : j < 32 then VecWindow.window x ![512 * j, 0] S512x256.size (inb_blk256 h) else constant S512x256 .f32 0x00000000#32
def rows128 (x : FVec F S16384x128 .f32) (j : ℕ) : FVec F S512x128 .f32 :=
  if h : j < 32 then VecWindow.window x ![512 * j, 0] S512x128.size (inb_blk128 h) else constant S512x128 .f32 0x00000000#32
def put256 (x : FVec F S16384x256 .f32) (j : ℕ) (w : FVec F S512x256 .f32) : FVec F S16384x256 .f32 := VecWindow.put x ![512 * j, 0] S512x256.size w
def put128 (x : FVec F S16384x128 .f32) (j : ℕ) (w : FVec F S512x128 .f32) : FVec F S16384x128 .f32 := VecWindow.put x ![512 * j, 0] S512x128.size w

/-- The gradients of block `j` added in, from scores `s` and cotangents `d`. -/
def St.grads (X : Cx F) (σ : St F) (s d : FVec F S512x512 .f32) (j : ℕ) : St F :=
  { σ with
    dq := dqVal σ.dq (dsVal s d) (X.K j)
    dk := put256 σ.dk j (dkVal (rows256 σ.dk j) (dsVal s d) X.q)
    dv := put128 σ.dv j (dvVal (rows128 σ.dv j) (pVal s) X.dob) }

variable (c : Dev nD) (M : Mems)
  (S13 : Finset (Idx (M.a13.view.loc (c : Thread nD τ)))) (f13 : Buf (Elt F) (M.a13.view.loc (c : Thread nD τ)))
  (S14 : Finset (Idx (M.a14.view.loc (c : Thread nD τ)))) (f14 : Buf (Elt F) (M.a14.view.loc (c : Thread nD τ)))

/-- The held parts of the keys and values hold the first `n` blocks. -/
def Has (X : Cx F) (n : ℕ) : Prop :=
  ∀ j, j < n → ∃ h : j < 32,
    (M.a13.view.setOn (Rect.unit (s := S16384x256) ![512 * j, 0] S512x256.size (inb_blk256 h)).toLoadRect.set ⊆ S13
      ∧ M.a13.view.readAt (Elt F) (Rect.unit (s := S16384x256) ![512 * j, 0] S512x256.size (inb_blk256 h)).toLoadRect f13 = X.K j)
    ∧ (M.a14.view.setOn (Rect.unit (s := S16384x128) ![512 * j, 0] S512x128.size (inb_blk128 h)).toLoadRect.set ⊆ S14
      ∧ M.a14.view.readAt (Elt F) (Rect.unit (s := S16384x128) ![512 * j, 0] S512x128.size (inb_blk128 h)).toLoadRect f14 = X.V j)

/-- What the blocks' work holds. -/
def Own (X : Cx F) (σ : St F) : sProp 𝕄 := iprop(
  at_ c M.a4 X.lse ∗ (M.a13.view.loc (c : Thread nD τ) ↦[S13]{fullShare} f13) ∗ (M.a14.view.loc (c : Thread nD τ) ↦[S14]{fullShare} f14)
  ∗ at_ c M.a15 σ.dk ∗ at_ c M.a16 σ.dv ∗ at_ c M.a17 σ.dq ∗ at_ c M.a18 X.delta
  ∗ at_ c M.a19 σ.sa ∗ at_ c M.a20 σ.da ∗ at_ c M.a21 σ.sb ∗ at_ c M.a22 σ.db ∗ at_ c M.a23 X.bias)

variable {S13 f13 S14 f14}

/-- A block's scores into any pair of buffers. -/
theorem wp_scoresP {X : Cx F} {n j : ℕ} (hX : Has c M S13 f13 S14 f14 X n) (hj : j < n)
    {sR dR : Memref sig .tc .vmem S512x512 .f32} {x y : FVec F S512x512 .f32} {Q : PUnit → sProp 𝕄}
    {o13 : Fin 2 → ℕ} {h13 : ∀ a, o13 a + S512x256.size a ≤ S16384x256.size a} {o23 : Fin 3 → ℕ} {h23 : ∀ a, o23 a + S1x512x512.size a ≤ S2x512x512.size a}
    {o14 : Fin 2 → ℕ} {h14 : ∀ a, o14 a + S512x128.size a ≤ S16384x128.size a}
    (e13 : o13 = ![512 * j, 0]) (e23 : o23 = ![(decide (j = X.i)).toNat, 0, 0]) (e14 : o14 = ![512 * j, 0]) :
    at_ c M.a4 X.lse ⊢ iprop((M.a13.view.loc (c : Thread nD τ) ↦[S13]{fullShare} f13) -∗ (M.a14.view.loc (c : Thread nD τ) ↦[S14]{fullShare} f14)
      -∗ at_ c M.a18 X.delta -∗ at_ c M.a23 X.bias -∗ at_ c sR x -∗ at_ c dR y
      -∗ (at_ c M.a4 X.lse -∗ (M.a13.view.loc (c : Thread nD τ) ↦[S13]{fullShare} f13) -∗ (M.a14.view.loc (c : Thread nD τ) ↦[S14]{fullShare} f14)
        -∗ at_ c M.a18 X.delta -∗ at_ c M.a23 X.bias -∗ at_ c sR (X.s j) -∗ at_ c dR (X.d j) -∗ Q ⟨⟩)
      -∗ wp frame (wpE (defs₀ (F := F)) Variants.none (c : Thread nD τ) none) Set.univ
          (scoresP M sR dR X.q X.dob o13 h13 o23 h23 o14 h14) Q) := by
  subst e13 e23 e14
  obtain ⟨hlt, ⟨s13, r13⟩, ⟨s14, r14⟩⟩ := hX j hj
  iintro H4 H13 H14 H18 H23 HS HD HK
  unfold scoresP Cx.s Cx.d Cx.b
  iapply (load_part c (X.K j) s13 r13) $$ H13; iintro H13
  iapply (load_unit c rfl (inb_bias _)) $$ H23; iintro H23
  iapply (load_full c) $$ H4; iintro H4
  iapply (load_full c) $$ HS; iintro HS
  iapply (store_full c) $$ HS; iintro HS
  iapply (load_part c (X.V j) s14 r14) $$ H14; iintro H14
  iapply (load_full c) $$ H18; iintro H18
  iapply (load_full c) $$ HD; iintro HD
  iapply (store_full c) $$ HD; iintro HD
  rw [wp_ret]; imodintro
  iapply HK $$ H4 H13 H14 H18 H23 HS HD

/-- A block's gradients from any pair of buffers. -/
theorem wp_gradsP {X : Cx F} {n j : ℕ} (hX : Has c M S13 f13 S14 f14 X n) (hj : j < n) (σ : St F)
    {sR dR : Memref sig .tc .vmem S512x512 .f32} {x y : FVec F S512x512 .f32} {Q : PUnit → sProp 𝕄}
    {o13 : Fin 2 → ℕ} {h13 : ∀ a, o13 a + S512x256.size a ≤ S16384x256.size a}
    {o16 : Fin 2 → ℕ} {h16 : ∀ a, o16 a + S512x128.size a ≤ S16384x128.size a}
    (e13 : o13 = ![512 * j, 0]) (e16 : o16 = ![512 * j, 0]) :
    (M.a13.view.loc (c : Thread nD τ) ↦[S13]{fullShare} f13 : sProp 𝕄) ⊢ iprop(
      at_ c M.a15 σ.dk -∗ at_ c M.a16 σ.dv -∗ at_ c M.a17 σ.dq -∗ at_ c sR x -∗ at_ c dR y
      -∗ ((M.a13.view.loc (c : Thread nD τ) ↦[S13]{fullShare} f13)
        -∗ at_ c M.a15 (σ.grads X x y j).dk -∗ at_ c M.a16 (σ.grads X x y j).dv -∗ at_ c M.a17 (σ.grads X x y j).dq
        -∗ at_ c sR x -∗ at_ c dR y -∗ Q ⟨⟩)
      -∗ wp frame (wpE (defs₀ (F := F)) Variants.none (c : Thread nD τ) none) Set.univ
          (gradsP M sR dR X.q X.dob o13 h13 o16 h16) Q) := by
  subst e13 e16
  obtain ⟨hlt, ⟨s13, r13⟩, -⟩ := hX j hj
  iintro H13 H15 H16 H17 HS HD HK
  unfold gradsP
  simp only [St.grads]
  unfold put256 put128 rows256 rows128
  simp only [dif_pos hlt]
  iapply (load_full c) $$ HS; iintro HS
  iapply (load_full c) $$ HD; iintro HD
  iapply (load_full c) $$ H17; iintro H17
  iapply (load_part c (X.K j) s13 r13) $$ H13; iintro H13
  iapply (load_full c) $$ H17; iintro H17
  iapply (store_full c) $$ H17; iintro H17
  iapply (load_unit c rfl (inb_blk256 hlt)) $$ H15; iintro H15
  iapply (load_unit c rfl (inb_blk256 hlt)) $$ H15; iintro H15
  iapply (store_unit c rfl) $$ H15; iintro H15
  iapply (load_unit c rfl (inb_blk128 hlt)) $$ H16; iintro H16
  iapply (load_unit c rfl (inb_blk128 hlt)) $$ H16; iintro H16
  iapply (store_unit c rfl) $$ H16; iintro H16
  rw [wp_ret]; imodintro
  iapply HK $$ H13 H15 H16 H17 HS HD

end Cert.KernelIdeal.Hand

end
-- ==== Proof.Dma.lean ====
/- The transfers a grid point starts and awaits. -/
module

public import proofs.«01_k».proof.Proof.Steps

@[expose] public section

set_option maxRecDepth 16384

noncomputable section

namespace Cert.KernelIdeal.Hand

open Cert.KernelIdeal Facts₀ Facts
open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem

variable [Facts] {F : FTy → Type} [FloatOps F] [Named F]

local notation "𝕄" => MT nD τ sig Unit (Elt F) ℕ (Pipeline.UD sig nD τ) ℕ

variable (c : Dev nD) {s : Shape} {e : EltTy}

/-- A transfer the core starts, what it will bring stated by the values read. -/
theorem wp_start {sp sp' : Space} {src : Memref sig .tc sp s e} {dst : Memref sig .tc sp' s e} {sm : DmaSem sig} {hsrc : src.view.WordExact} {hdst : dst.view.WordExact}
    {hsem : DmaTarget.Typed (nD := nD) (τ := τ) (p := .tc) sp (.dma sm) (.here dst)} {Q : PUnit → sProp 𝕄}
    {k : PUnit → Prog (TpuEff nD τ sig (Elt F) Λ₀ .tc) PUnit} {q : PosShare TreeShare} {fs : Buf (Elt F) (src.view.loc (c : Thread nD τ))}
    {fd : Buf (Elt F) (dst.view.loc (c : Thread nD τ))} (hs : 0 < s.numel) {G : sProp 𝕄}
    (hG : (dst.view.loc (c : Thread nD τ) ↦[dst.view.set]{fullShare} dst.view.rep (src.view.read (Elt F) fs) : sProp 𝕄) = G) :
    (src.view.loc (c : Thread nD τ) ↦[src.view.set]{q} fs : sProp 𝕄)
      ⊢ iprop((dst.view.loc (c : Thread nD τ) ↦[dst.view.set]{fullShare} fd) -∗ semVal ((c : Thread nD τ), .dma sm) 0
        -∗ (Flight countersEmb (c : Thread nD τ) (.dma sm) () dst.view.dmaCredit iprop(G ∗ (src.view.loc (c : Thread nD τ) ↦[src.view.set]{q} fs))
            -∗ wp frame (wpE (defs₀ (F := F)) Variants.none (c : Thread nD τ) none) Set.univ (k ⟨⟩) Q)
        -∗ wp frame (wpE (defs₀ (F := F)) Variants.none (c : Thread nD τ) none) Set.univ (.op (.enqueueDma src (.here dst) (.dma sm) hsrc hdst hsem) k) Q) := by
  subst hG
  iintro Hs Hd Hv HK
  iapply (wp_dmaLocal countersEmb Variants.none (c : Thread nD τ) none (src := src) (dst := dst) (via := ReadAs.same) (hsrc := hsrc) (hdst := hdst) (k := k) (Q := Q) () dst.view.dmaCredit rfl (View.dmaCredit_pos _ hs) (Finset.Subset.refl _)) $$ [Hs Hd Hv]
  · isplitl [Hs]; · iexact Hs
    isplitl [Hd]; · iexact Hd
    iexact Hv
  iintro HF
  iapply HK
  have e : (dst.view.loc (c : Thread nD τ) ↦[dst.view.set]{fullShare} dst.view.write (Elt F) fd (ReadAs.same.apply (src.view.read (Elt F) fs)) Finset.univ : sProp 𝕄)
      = (dst.view.loc (c : Thread nD τ) ↦[dst.view.set]{fullShare} dst.view.rep (src.view.read (Elt F) fs)) := by
    rw [pointsTo_rep (c : Thread nD τ) dst]
    congr 2
    exact View.read_write_univ _ _
  rw [e]
  iexact HF

/-- The wait for a transfer the core started. -/
theorem wp_await {sp sp' : Space} {src : Memref sig .tc sp s e} {dst : Memref sig .tc sp' s e} {sm : DmaSem sig} {hsrc : src.view.WordExact} {hdst : dst.view.WordExact}
    {Q : PUnit → sProp 𝕄} {k : PUnit → Prog (TpuEff nD τ sig (Elt F) Λ₀ .tc) PUnit} {N : ℕ} (hN : dst.view.dmaCredit = N) {D : sProp 𝕄} {W : Waits sig Unit} :
    Flight countersEmb (c : Thread nD τ) (.dma sm) () N D
      ⊢ iprop(owes (c : Thread nD τ) 0 W
        -∗ (D -∗ semVal ((c : Thread nD τ), .dma sm) 0 -∗ owes (c : Thread nD τ) 0 (insert (SemLoc.dma sm, ()) W)
            -∗ wp frame (wpE (defs₀ (F := F)) Variants.none (c : Thread nD τ) none) Set.univ (k ⟨⟩) Q)
        -∗ wp frame (wpE (defs₀ (F := F)) Variants.none (c : Thread nD τ) none) Set.univ (.op (.waitDma2 sm src dst hsrc hdst) k) Q) := by
  iintro HF HO HK
  iapply (wp_waitLocal countersEmb Variants.none (c : Thread nD τ) none (srcw := src) (dstw := dst) (hsrc := hsrc) (hdst := hdst) (k := k) (Q := Q) () hN) $$ [HF HO]
  · isplitl [HF]; · iexact HF
    iexact HO
  iintro ⟨HD, Hv, HO⟩
  iapply HK $$ HD Hv HO

/-- A slice's elements, held at the whole's value. -/
theorem slice_rep {cs : Space} (m : Memref sig .tc cs s e) (r : Rect s) (hr : ∀ a, r.stride a = 1) (q : PosShare TreeShare) (x : s.Idx → Elt F e) (w : r.shape.Idx → Elt F e)
    (h : ∀ y, w y = x (r.emb y)) :
    (m.view.loc (c : Thread nD τ) ↦[(m.slice r hr).view.set]{q} (m.slice r hr).view.rep w : sProp 𝕄) = (m.view.loc (c : Thread nD τ) ↦[(m.slice r hr).view.set]{q} m.view.rep x) := by
  refine pointsTo_congr fun i hi => ?_
  obtain ⟨y, -, rfl⟩ := Finset.mem_map.mp hi
  rw [View.rep_emb]
  show _ = m.view.rep x (m.view.emb (r.emb y))
  rw [View.rep_emb, h]

/-- The rows before `n` and the rows from `n` on are all the rows. -/
theorem rows_compl {cs : Space} {R C n : ℕ} (m : Memref sig .tc cs ⟨2, ![R, C]⟩ e) {o₁ o₂ z₁ z₂ : Fin 2 → ℕ} (h₁ : ∀ a, o₁ a + z₁ a ≤ (⟨2, ![R, C]⟩ : Shape).size a) (h₂ : ∀ a, o₂ a + z₂ a ≤ (⟨2, ![R, C]⟩ : Shape).size a)
    (eo₁ : o₁ = ![0, 0]) (ez₁ : z₁ = ![n, C]) (eo₂ : o₂ = ![n, 0]) (ez₂ : z₂ = ![R - n, C]) (hn : n ≤ R) :
    m.view.set \ (m.slice (Rect.unit (s := ⟨2, ![R, C]⟩) o₁ z₁ h₁) (fun _ => rfl)).view.set = (m.slice (Rect.unit (s := ⟨2, ![R, C]⟩) o₂ z₂ h₂) (fun _ => rfl)).view.set := by
  subst eo₁ ez₁ eo₂ ez₂
  have hd : Disjoint (m.view.slice (Rect.unit (s := ⟨2, ![R, C]⟩) ![0, 0] ![n, C] h₁)).set (m.view.slice (Rect.unit (s := ⟨2, ![R, C]⟩) ![n, 0] ![R - n, C] h₂)).set :=
    View.disjoint_slice_of_sep m.view _ _ 0 rfl rfl (Or.inl (by show 0 + n ≤ n; omega))
  refine Finset.Subset.antisymm (fun i hi => ?_) (fun i hi => Finset.mem_sdiff.mpr ⟨View.set_slice_subset _ _ hi, fun hi' => Finset.disjoint_left.mp hd hi' hi⟩)
  obtain ⟨hi, hn'⟩ := Finset.mem_sdiff.mp hi
  obtain ⟨y, -, rfl⟩ := Finset.mem_map.mp hi
  have b0 : (y 0).val < R := (y 0).isLt
  have b1 : (y 1).val < C := (y 1).isLt
  by_cases hy : (y 0).val < n
  · refine absurd ?_ hn'
    refine Finset.mem_map.mpr ⟨(fun a => ⟨(y a).val, by fin_cases a; exacts [hy, b1]⟩ : (Rect.unit (s := ⟨2, ![R, C]⟩) ![0, 0] ![n, C] h₁).shape.Idx), Finset.mem_univ _, ?_⟩
    show m.view.emb ((Rect.unit (s := ⟨2, ![R, C]⟩) ![0, 0] ![n, C] h₁).emb _) = _
    congr 1
    funext a
    apply Fin.ext
    rw [Rect.emb_apply]
    fin_cases a
    · show 0 + 1 * (y 0).val = (y 0).val; omega
    · show 0 + 1 * (y 1).val = (y 1).val; omega
  · refine Finset.mem_map.mpr ⟨(fun a => ⟨![(y 0).val - n, (y 1).val] a, by fin_cases a; exacts [(by show (y 0).val - n < R - n; omega), b1]⟩ : (Rect.unit (s := ⟨2, ![R, C]⟩) ![n, 0] ![R - n, C] h₂).shape.Idx), Finset.mem_univ _, ?_⟩
    show m.view.emb ((Rect.unit (s := ⟨2, ![R, C]⟩) ![n, 0] ![R - n, C] h₂).emb _) = _
    congr 1
    funext a
    apply Fin.ext
    rw [Rect.emb_apply]
    fin_cases a
    · show n + 1 * ((y 0).val - n) = (y 0).val; omega
    · show 0 + 1 * (y 1).val = (y 1).val; omega

end Cert.KernelIdeal.Hand

end
-- ==== Proof.Slab.lean ====
/- A head's slab of a stacked array: what it reads, what writing it leaves, and the shares its transfers take. -/
module

public import proofs.«01_k».proof.Proof.Dma
public import Idealize.ShloMosaic.Lib.ValueLayout
public import Idealize.ShloMosaic.Lib.SparseCore.Scatter

@[expose] public section

set_option maxRecDepth 16384

noncomputable section

namespace Cert.KernelIdeal.Hand

open Cert.KernelIdeal Facts₀ Facts
open Idealize.ShloMosaic Idealize.ShloMosaic.TcCoe Idealize.ShloMosaic.Tactic Idealize.ShloMosaic.Transfers Idealize.ShloMosaic.ValueIdx
open Idealize.SL Idealize.SL.RA Idealize.SL.BI
open scoped Idealize.SL.BI
open Idealize.SL.BI.BIBase Idealize.SL.BI.Laws Idealize.SL.ProofMode Idealize.SL.Sem

variable [Facts] {F : FTy → Type} [FloatOps F] [Named F]

local notation "𝕄" => MT nD τ sig Unit (Elt F) ℕ (Pipeline.UD sig nD τ) ℕ

variable (c : Dev nD) {s : Shape} {e : EltTy}

/-- The element of a head's slab an index of the slab names. -/
theorem slab_emb {H R C n : ℕ} {off z : Fin 3 → ℕ} {h o : ℕ} (eo : off = ![h, o, 0]) (ez : z = ![1, n, C])
    (inb : ∀ a, off a + z a ≤ (⟨3, ![H, R, C]⟩ : Shape).size a) (hq : (Rect.unit (s := ⟨3, ![H, R, C]⟩) off z inb).shape.Squeezes ⟨2, ![n, C]⟩)
    (y : (⟨2, ![n, C]⟩ : Shape).Idx) (hh : h < H) (hr : ∀ a : ℕ, a < n → o + a < R) :
    (Rect.unit (s := ⟨3, ![H, R, C]⟩) off z inb).emb (Shape.reshapeEquiv hq.numel_eq y) = ix3 ⟨h, hh⟩ ⟨o + (y 0).val, hr _ (y 0).isLt⟩ (y 1) := by
  subst eo ez
  have hy : y = ix2 (y 0) (y 1) := by funext a; fin_cases a <;> rfl
  have e : Shape.reshapeEquiv hq.numel_eq y = ix3 (⟨0, Nat.one_pos⟩ : Fin 1) (y 0) (y 1) := by
    conv_lhs => rw [hy]
    exact reshapeEquiv_ix2_1ab hq.numel_eq (y 0) (y 1)
  rw [e]
  funext a
  apply Fin.ext
  fin_cases a
  · show h + 1 * 0 = h; omega
  · show o + 1 * (y 0).val = o + (y 0).val; omega
  · show 0 + 1 * (y 1).val = (y 1).val; omega

/-- What a head's slab reads. -/
theorem read_slab {sp : Space} {H R C n : ℕ} (m : Memref sig .tc sp ⟨3, ![H, R, C]⟩ e) {off z : Fin 3 → ℕ} {h o : ℕ} (eo : off = ![h, o, 0]) (ez : z = ![1, n, C])
    (inb : ∀ a, off a + z a ≤ (⟨3, ![H, R, C]⟩ : Shape).size a) (hq : (Rect.unit (s := ⟨3, ![H, R, C]⟩) off z inb).shape.Squeezes ⟨2, ![n, C]⟩)
    (x : (⟨3, ![H, R, C]⟩ : Shape).Idx → Elt F e) (y : (⟨2, ![n, C]⟩ : Shape).Idx) (hh : h < H) (hr : ∀ a : ℕ, a < n → o + a < R) :
    ((m.slice (Rect.unit (s := ⟨3, ![H, R, C]⟩) off z inb) (fun _ => rfl)).squeeze ⟨2, ![n, C]⟩ hq).view.read (Elt F) (m.view.rep x) y
      = x (ix3 ⟨h, hh⟩ ⟨o + (y 0).val, hr _ (y 0).isLt⟩ (y 1)) := by
  show m.view.read (Elt F) (m.view.rep x) ((Rect.unit (s := ⟨3, ![H, R, C]⟩) off z inb).emb (Shape.reshapeEquiv hq.numel_eq y)) = _
  rw [View.read_rep, slab_emb eo ez inb hq y hh hr]
  rfl

/-- A whole head's slab at `w`, stated at an array that agrees with it there. -/
theorem slab_rep {sp : Space} {H R C : ℕ} (m : Memref sig .tc sp ⟨3, ![H, R, C]⟩ e) {off z : Fin 3 → ℕ} {h : ℕ} (eo : off = ![h, 0, 0]) (ez : z = ![1, R, C])
    (inb : ∀ a, off a + z a ≤ (⟨3, ![H, R, C]⟩ : Shape).size a) (hq : (Rect.unit (s := ⟨3, ![H, R, C]⟩) off z inb).shape.Squeezes ⟨2, ![R, C]⟩)
    (x : (⟨3, ![H, R, C]⟩ : Shape).Idx → Elt F e) (w : (⟨2, ![R, C]⟩ : Shape).Idx → Elt F e) (hh : h < H)
    (hw : ∀ y, x (ix3 ⟨h, hh⟩ (y 0) (y 1)) = w y) :
    (m.view.loc (c : Thread nD τ) ↦[((m.slice (Rect.unit (s := ⟨3, ![H, R, C]⟩) off z inb) (fun _ => rfl)).squeeze ⟨2, ![R, C]⟩ hq).view.set]{fullShare}
        ((m.slice (Rect.unit (s := ⟨3, ![H, R, C]⟩) off z inb) (fun _ => rfl)).squeeze ⟨2, ![R, C]⟩ hq).view.rep w : sProp 𝕄)
      = (m.view.loc (c : Thread nD τ) ↦[((m.slice (Rect.unit (s := ⟨3, ![H, R, C]⟩) off z inb) (fun _ => rfl)).squeeze ⟨2, ![R, C]⟩ hq).view.set]{fullShare} m.view.rep x) := by
  refine pointsTo_congr fun i hi => ?_
  obtain ⟨y, -, rfl⟩ := Finset.mem_map.mp hi
  rw [View.rep_emb]
  show _ = m.view.rep x (m.view.emb ((Rect.unit (s := ⟨3, ![H, R, C]⟩) off z inb).emb (Shape.reshapeEquiv hq.numel_eq y)))
  rw [View.rep_emb, slab_emb eo ez inb hq y hh (fun a ha => by omega), ← hw]
  refine congrArg (cast _) (congrArg x (funext fun a => ?_))
  fin_cases a
  · rfl
  · exact Fin.ext (by show (y 0).val = 0 + (y 0).val; omega)
  · rfl

/-- A head's rows carried to the same rows of a buffer for the head. -/
theorem slab_land {sp sp' : Space} {H R C n : ℕ} (m : Memref sig .tc sp ⟨3, ![H, R, C]⟩ e) (d : Memref sig .tc sp' ⟨2, ![R, C]⟩ e) {off z : Fin 3 → ℕ} {od zd : Fin 2 → ℕ} {h o : ℕ}
    (eo : off = ![h, o, 0]) (ez : z = ![1, n, C]) (ed : od = ![o, 0]) (ezd : zd = ![n, C])
    (inb : ∀ a, off a + z a ≤ (⟨3, ![H, R, C]⟩ : Shape).size a) (inbd : ∀ a, od a + zd a ≤ (⟨2, ![R, C]⟩ : Shape).size a)
    (hq : (Rect.unit (s := ⟨3, ![H, R, C]⟩) off z inb).shape.Squeezes (Rect.unit (s := ⟨2, ![R, C]⟩) od zd inbd).shape)
    (x : (⟨3, ![H, R, C]⟩ : Shape).Idx → Elt F e) (hh : h < H) (hr : ∀ a : ℕ, a < n → o + a < R) :
    (d.view.loc (c : Thread nD τ) ↦[(d.slice (Rect.unit (s := ⟨2, ![R, C]⟩) od zd inbd) (fun _ => rfl)).view.set]{fullShare}
        (d.slice (Rect.unit (s := ⟨2, ![R, C]⟩) od zd inbd) (fun _ => rfl)).view.rep
          (((m.slice (Rect.unit (s := ⟨3, ![H, R, C]⟩) off z inb) (fun _ => rfl)).squeeze (Rect.unit (s := ⟨2, ![R, C]⟩) od zd inbd).shape hq).view.read (Elt F) (m.view.rep x)) : sProp 𝕄)
      = (d.view.loc (c : Thread nD τ) ↦[(d.slice (Rect.unit (s := ⟨2, ![R, C]⟩) od zd inbd) (fun _ => rfl)).view.set]{fullShare}
          d.view.rep (fun y => x (ix3 ⟨h, hh⟩ (y 0) (y 1)))) := by
  subst ed ezd
  refine slice_rep c d _ _ fullShare (fun y => x (ix3 ⟨h, hh⟩ (y 0) (y 1))) _ fun y => (read_slab m eo ez inb hq x y hh hr).trans ?_
  refine congrArg x (funext fun a => ?_)
  fin_cases a
  · rfl
  · exact Fin.ext (by show o + (y 0).val = o + 1 * (y 0).val; omega)
  · exact Fin.ext (by show (y 1).val = 0 + 1 * (y 1).val; omega)

/-- A head's buffer carried to its slab of the stacked array. -/
theorem slab_leave {sp sp' : Space} {H R C : ℕ} (m : Memref sig .tc sp ⟨3, ![H, R, C]⟩ e) (d : Memref sig .tc sp' ⟨2, ![R, C]⟩ e) {off z : Fin 3 → ℕ} {h : ℕ} (eo : off = ![h, 0, 0]) (ez : z = ![1, R, C])
    (inb : ∀ a, off a + z a ≤ (⟨3, ![H, R, C]⟩ : Shape).size a) (hq : (Rect.unit (s := ⟨3, ![H, R, C]⟩) off z inb).shape.Squeezes ⟨2, ![R, C]⟩)
    (x : (⟨3, ![H, R, C]⟩ : Shape).Idx → Elt F e) (w : (⟨2, ![R, C]⟩ : Shape).Idx → Elt F e) (hh : h < H)
    (hw : ∀ y, x (ix3 ⟨h, hh⟩ (y 0) (y 1)) = w y) :
    (m.view.loc (c : Thread nD τ) ↦[((m.slice (Rect.unit (s := ⟨3, ![H, R, C]⟩) off z inb) (fun _ => rfl)).squeeze ⟨2, ![R, C]⟩ hq).view.set]{fullShare}
        ((m.slice (Rect.unit (s := ⟨3, ![H, R, C]⟩) off z inb) (fun _ => rfl)).squeeze ⟨2, ![R, C]⟩ hq).view.rep (d.view.read (Elt F) (d.view.rep w)) : sProp 𝕄)
      = (m.view.loc (c : Thread nD τ) ↦[((m.slice (Rect.unit (s := ⟨3, ![H, R, C]⟩) off z inb) (fun _ => rfl)).squeeze ⟨2, ![R, C]⟩ hq).view.set]{fullShare} m.view.rep x) := by
  rw [View.read_rep]
  exact slab_rep c m eo ez inb hq x w hh hw

/-- Outside a head's slab only the other heads' elements. -/
theorem slab_rest {sp : Space} {H R C : ℕ} (m : Memref sig .tc sp ⟨3, ![H, R, C]⟩ e) {off z : Fin 3 → ℕ} {h : ℕ} (eo : off = ![h, 0, 0]) (ez : z = ![1, R, C])
    (inb : ∀ a, off a + z a ≤ (⟨3, ![H, R, C]⟩ : Shape).size a) (hq : (Rect.unit (s := ⟨3, ![H, R, C]⟩) off z inb).shape.Squeezes ⟨2, ![R, C]⟩)
    (x x' : (⟨3, ![H, R, C]⟩ : Shape).Idx → Elt F e) (hh : h < H)
    (hx : ∀ y, (y 0).val ≠ h → x' y = x y) :
    (m.view.loc (c : Thread nD τ) ↦[m.view.set \ ((m.slice (Rect.unit (s := ⟨3, ![H, R, C]⟩) off z inb) (fun _ => rfl)).squeeze ⟨2, ![R, C]⟩ hq).view.set]{fullShare} m.view.rep x : sProp 𝕄)
      = (m.view.loc (c : Thread nD τ) ↦[m.view.set \ ((m.slice (Rect.unit (s := ⟨3, ![H, R, C]⟩) off z inb) (fun _ => rfl)).squeeze ⟨2, ![R, C]⟩ hq).view.set]{fullShare} m.view.rep x') := by
  refine pointsTo_congr fun i hi => ?_
  obtain ⟨hi, hn⟩ := Finset.mem_sdiff.mp hi
  obtain ⟨y, -, rfl⟩ := Finset.mem_map.mp hi
  rw [View.rep_emb, View.rep_emb, hx]
  intro hy
  refine hn (Finset.mem_map.mpr ⟨ix2 (y 1) (y 2), Finset.mem_univ _, ?_⟩)
  show m.view.emb ((Rect.unit (s := ⟨3, ![H, R, C]⟩) off z inb).emb (Shape.reshapeEquiv hq.numel_eq (ix2 (y 1) (y 2)))) = _
  rw [slab_emb eo ez inb hq _ hh (fun a ha => by omega)]
  congr 1
  funext a
  fin_cases a
  · exact Fin.ext hy.symm
  · exact Fin.ext (by show 0 + (y 1).val = (y 1).val; omega)
  · rfl

/-- A head's slab lies in the array. -/
theorem slab_sub {sp : Space} {s' : Shape} (m : Memref sig .tc sp s e) (r : Rect s) (hr : ∀ a, r.stride a = 1) (hq : r.shape.Squeezes s') :
    ((m.slice r hr).squeeze s' hq).view.set ⊆ m.view.set := by
  rw [Memref.set_view_squeeze]
  exact View.set_slice_subset _ _

/-- A buffer in two halves, a part cut from each. -/
theorem carve {ℓ : Loc nD τ sig} {S A B : Finset (Idx ℓ)} (hA : A ⊆ S) (hB : B ⊆ S) (f : Buf (Elt F) ℓ) :
    (ℓ ↦[S]{fullShare} f : sProp 𝕄) ⊢ iprop(((ℓ ↦[A]{fullShare.left} f) ∗ (ℓ ↦[S \ A]{fullShare.left} f)) ∗ ((ℓ ↦[B]{fullShare.right} f) ∗ (ℓ ↦[S \ B]{fullShare.right} f))) :=
  (pointsTo_share (PosShare.mem_left_op_right fullShare)).1.trans (BI.sep_mono (pointsTo_split_subset hA).1 (pointsTo_split_subset hB).1)

/-- The first half rejoined and handed to the transfer that holds part of the second, which will give the whole back. -/
theorem rejoin {ℓ : Loc nD τ sig} {S A B : Finset (Idx ℓ)} (hA : A ⊆ S) (hB : B ⊆ S) (f : Buf (Elt F) ℓ) {sm : SemLoc sig} {N : ℕ} {G : sProp 𝕄} :
    iprop((((ℓ ↦[A]{fullShare.left} f) ∗ (ℓ ↦[S \ A]{fullShare.left} f)) ∗ (ℓ ↦[S \ B]{fullShare.right} f))
        ∗ Flight countersEmb (c : Thread nD τ) sm () N iprop(G ∗ (ℓ ↦[B]{fullShare.right} f)))
      ⊢ Flight countersEmb (c : Thread nD τ) sm () N iprop(G ∗ (ℓ ↦[S]{fullShare} f)) := by
  refine (Flight_frame countersEmb (c : Thread nD τ)).trans (Flight_mono countersEmb (c : Thread nD τ) ?_)
  iintro ⟨⟨⟨H1, H2⟩, H3⟩, ⟨HG, H4⟩⟩
  isplitl [HG]; · iexact HG
  iapply (pointsTo_share (PosShare.mem_left_op_right fullShare)).2
  isplitl [H1 H2]
  · iapply (pointsTo_split_subset hA).2
    isplitl [H1]; · iexact H1
    iexact H2
  · iapply (pointsTo_split_subset hB).2
    isplitl [H4]; · iexact H4
    iexact H3

end Cert.KernelIdeal.Hand

end
-- ==== Proof.Root.lean ====
/- The grid point's program in named pieces. -/
module

public import proofs.«01_k».proof.Proof.Steps

@[expose] public section

set_option maxRecDepth 16384

noncomputable section

namespace Cert.KernelIdeal.Hand

open Cert.KernelIdeal Facts₀ Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable [Facts] {F : FTy → Type} [FloatOps F] [Named F]

local notation "𝕄" => MT nD τ sig Unit (Elt F) ℕ (Pipeline.UD sig nD τ) ℕ

/-- The mask of the diagonal block: nothing where the column's group is not past the row's, the mask's value where it is. -/
def biasDiag : FVec F S512x512 .f32 :=
  let v220 : IVec S512x512 32 := iota .tc S512x512 32 [0] iota_S512x512_d0_w32
  let c64_i32 : BitVec 32 := 64#32
  let v221 : IVec S512x512 32 := broadcast S512x512 c64_i32
  let v222 : IVec S512x512 32 := divsi v220 v221
  let c0_i32_133 : BitVec 32 := 0#32
  let v223 : IVec S512x512 32 := broadcast S512x512 c0_i32_133
  let v224 : IVec S512x512 1 := cmpi .sgt v220 v223
  let v225 : IVec S512x512 32 := extui 32 v224 natLt_1_32
  let c0_i32_134 : BitVec 32 := 0#32
  let v226 : IVec S512x512 32 := broadcast S512x512 c0_i32_134
  let v227 : IVec S512x512 1 := cmpi .slt v220 v226
  let v228 : IVec S512x512 32 := extui 32 v227 natLt_1_32
  let v229 : IVec S512x512 32 := subi v225 v228
  let c0_i32_135 : BitVec 32 := 0#32
  let v230 : BitVec 1 := Scalar.cmpi .sgt c64_i32 c0_i32_135
  let v231 : BitVec 32 := Scalar.extui v230
  let c0_i32_136 : BitVec 32 := 0#32
  let v232 : BitVec 1 := Scalar.cmpi .slt c64_i32 c0_i32_136
  let v233 : BitVec 32 := Scalar.extui v232
  let v234 : BitVec 32 := Scalar.subi v231 v233
  let v235 : IVec S512x512 32 := broadcast S512x512 v234
  let v236 : IVec S512x512 1 := cmpi .ne v229 v235
  let v237 : IVec S512x512 32 := broadcast S512x512 c64_i32
  let v238 : IVec S512x512 32 := remsi v220 v237
  let c0_i32_137 : BitVec 32 := 0#32
  let v239 : IVec S512x512 32 := broadcast S512x512 c0_i32_137
  let v240 : IVec S512x512 1 := cmpi .ne v238 v239
  let v241 : IVec S512x512 1 := andi v236 v240
  let c1_i32_138 : BitVec 32 := 1#32
  let v242 : IVec S512x512 32 := broadcast S512x512 c1_i32_138
  let v243 : IVec S512x512 32 := subi v222 v242
  let v244 : IVec S512x512 32 := select v241 v243 v222
  let v245 : IVec S512x512 32 := iota .tc S512x512 32 [1] iota_S512x512_d1_w32
  let c64_i32_139 : BitVec 32 := 64#32
  let v246 : IVec S512x512 32 := broadcast S512x512 c64_i32_139
  let v247 : IVec S512x512 32 := divsi v245 v246
  let c0_i32_140 : BitVec 32 := 0#32
  let v248 : IVec S512x512 32 := broadcast S512x512 c0_i32_140
  let v249 : IVec S512x512 1 := cmpi .sgt v245 v248
  let v250 : IVec S512x512 32 := extui 32 v249 natLt_1_32
  let c0_i32_141 : BitVec 32 := 0#32
  let v251 : IVec S512x512 32 := broadcast S512x512 c0_i32_141
  let v252 : IVec S512x512 1 := cmpi .slt v245 v251
  let v253 : IVec S512x512 32 := extui 32 v252 natLt_1_32
  let v254 : IVec S512x512 32 := subi v250 v253
  let c0_i32_142 : BitVec 32 := 0#32
  let v255 : BitVec 1 := Scalar.cmpi .sgt c64_i32_139 c0_i32_142
  let v256 : BitVec 32 := Scalar.extui v255
  let c0_i32_143 : BitVec 32 := 0#32
  let v257 : BitVec 1 := Scalar.cmpi .slt c64_i32_139 c0_i32_143
  let v258 : BitVec 32 := Scalar.extui v257
  let v259 : BitVec 32 := Scalar.subi v256 v258
  let v260 : IVec S512x512 32 := broadcast S512x512 v259
  let v261 : IVec S512x512 1 := cmpi .ne v254 v260
  let v262 : IVec S512x512 32 := broadcast S512x512 c64_i32_139
  let v263 : IVec S512x512 32 := remsi v245 v262
  let c0_i32_144 : BitVec 32 := 0#32
  let v264 : IVec S512x512 32 := broadcast S512x512 c0_i32_144
  let v265 : IVec S512x512 1 := cmpi .ne v263 v264
  let v266 : IVec S512x512 1 := andi v261 v265
  let c1_i32_145 : BitVec 32 := 1#32
  let v267 : IVec S512x512 32 := broadcast S512x512 c1_i32_145
  let v268 : IVec S512x512 32 := subi v247 v267
  let v269 : IVec S512x512 32 := select v266 v268 v247
  let c0_i32_150 : BitVec 32 := 0#32
  let v274 : IVec S512x512 32 := broadcast S512x512 c0_i32_150
  let v275 : IVec S512x512 32 := addi v269 v274
  let v276 : IVec S512x512 1 := cmpi .sle v275 v244
  let cst_151 : F .f32 := Scalar.ofBits .f32 0x00000000#32
  let cst_152 : F .f32 := Named.named κ "mask" 0xF149F2CA#32
  let v277 : FVec F S512x512 .f32 := broadcast S512x512 cst_151
  let v278 : FVec F S512x512 .f32 := broadcast S512x512 cst_152
  let v279 : FVec F S512x512 .f32 := select v276 v277 v278
  v279

/-- The cotangent of the attention's output before the gate. -/
def doVal (g y : FVec F S512x128 .f32) : FVec F S512x128 .f32 := mulf y (mulf g (logistic g))
/-- The same as the matrix unit takes it. -/
def dobVal (g y : FVec F S512x128 .f32) : FVec F S512x128 .bf16 := truncf .bf16 (doVal g y) bitsLt_bf16_f32
/-- The gradient of the gate. -/
def dgateVal (g y o : FVec F S512x128 .f32) : FVec F S512x128 .bf16 :=
  truncf .bf16 (mulf (mulf y (shapeCast S512x128 o shapeCasts_S512x128_S512x128))
    (mulf (logistic g) (addf (broadcast S512x128 (Scalar.ofBits .f32 0x3F800000#32))
      (mulf g (subf (broadcast S512x128 (Scalar.ofBits .f32 0x3F800000#32)) (logistic g)))))) bitsLt_bf16_f32
/-- The queries of a grid point. -/
def qVal (q : FVec F S1x512x256 .bf16) : FVec F S512x256 .bf16 := shapeCast S512x256 q shapeCasts_S1x512x256_S512x256
/-- The rows' sums of cotangent times output, over the lanes. -/
def deltaVal (g y o : FVec F S512x128 .f32) : FVec F S512x128 .f32 :=
  broadcastTo S512x128 (shapeCast S512x1 (shapeCast S512x1 (multiReduction .add [1] S512 (mulf (doVal g y) (shapeCast S512x128 o shapeCasts_S512x128_S512x128)) 0x00000000#32 reduces_S512x128_S512 (.inl rfl) rfl)
    shapeCasts_S512_S512x1) shapeCasts_S512x1_S512x1) broadcasts_S512x1_S512x128
/-- The two blocks of the mask. -/
def bias0 : FVec F S1x512x512 .f32 := shapeCast S1x512x512 (broadcast S512x512 (Scalar.ofBits .f32 0x00000000#32) : FVec F S512x512 .f32) shapeCasts_S512x512_S1x512x512
def bias1 : FVec F S1x512x512 .f32 := shapeCast S1x512x512 (biasDiag : FVec F S512x512 .f32) shapeCasts_S512x512_S1x512x512
/-- Accumulators with nothing in them. -/
def zero256 : FVec F S16384x256 .f32 := (shapeCast S16384x256 (broadcast S16384x256 (Scalar.ofBits .f32 0x00000000#32) : FVec F S16384x256 .f32) shapeCasts_S16384x256_S16384x256)
def zero128 : FVec F S16384x128 .f32 := (shapeCast S16384x128 (broadcast S16384x128 (Scalar.ofBits .f32 0x00000000#32) : FVec F S16384x128 .f32) shapeCasts_S16384x128_S16384x128)
def zeroQ : FVec F S512x256 .f32 := (shapeCast S512x256 (broadcast S512x256 (Scalar.ofBits .f32 0x00000000#32) : FVec F S512x256 .f32) shapeCasts_S512x256_S512x256)
def deltaSt (δ : FVec F S512x128 .f32) : FVec F S512x128 .f32 := shapeCast S512x128 δ shapeCasts_S512x128_S512x128
def dqOut (x : FVec F S512x256 .f32) : FVec F S1x512x256 .f32 := shapeCast S1x512x256 x shapeCasts_S512x256_S1x512x256

/-- What the third part hands on: words of its index arithmetic. -/
def ret_part118 (arg1 : BitVec 32) : Σ' (v84 : BitVec 32) (v101 : BitVec 32) (c0_i32_57 : BitVec 32) (c1_i32_58 : BitVec 32), BitVec 32 :=
  let c1_i32_42 : BitVec 32 := 1#32
  let v67 : BitVec 32 := Scalar.addi arg1 c1_i32_42
  let c2_i32_43 : BitVec 32 := 2#32
  let v68 : BitVec 32 := Scalar.divsi v67 c2_i32_43
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c0_i32_46 : BitVec 32 := 0#32
  let v74 : BitVec 1 := Scalar.cmpi .sgt c2_i32_43 c0_i32_46
  let v75 : BitVec 32 := Scalar.extui v74
  let c0_i32_47 : BitVec 32 := 0#32
  let v76 : BitVec 1 := Scalar.cmpi .slt c2_i32_43 c0_i32_47
  let v77 : BitVec 32 := Scalar.extui v76
  let v78 : BitVec 32 := Scalar.subi v75 v77
  let v79 : BitVec 1 := Scalar.cmpi .ne v73 v78
  let v80 : BitVec 32 := Scalar.remsi v67 c2_i32_43
  let c0_i32_48 : BitVec 32 := 0#32
  let v81 : BitVec 1 := Scalar.cmpi .ne v80 c0_i32_48
  let v82 : BitVec 1 := Scalar.andi v79 v81
  let c1_i32_49 : BitVec 32 := 1#32
  let v83 : BitVec 32 := Scalar.subi v68 c1_i32_49
  let v84 : BitVec 32 := Scalar.select v82 v83 v68
  let c8_i32 : BitVec 32 := 8#32
  let v85 : BitVec 32 := Scalar.divsi v84 c8_i32
  let c0_i32_50 : BitVec 32 := 0#32
  let v86 : BitVec 1 := Scalar.cmpi .sgt v84 c0_i32_50
  let v87 : BitVec 32 := Scalar.extui v86
  let c0_i32_51 : BitVec 32 := 0#32
  let v88 : BitVec 1 := Scalar.cmpi .slt v84 c0_i32_51
  let v89 : BitVec 32 := Scalar.extui v88
  let v90 : BitVec 32 := Scalar.subi v87 v89
  let c0_i32_52 : BitVec 32 := 0#32
  let v91 : BitVec 1 := Scalar.cmpi .sgt c8_i32 c0_i32_52
  let v92 : BitVec 32 := Scalar.extui v91
  let c0_i32_53 : BitVec 32 := 0#32
  let v93 : BitVec 1 := Scalar.cmpi .slt c8_i32 c0_i32_53
  let v94 : BitVec 32 := Scalar.extui v93
  let v95 : BitVec 32 := Scalar.subi v92 v94
  let v96 : BitVec 1 := Scalar.cmpi .ne v90 v95
  let v97 : BitVec 32 := Scalar.remsi v84 c8_i32
  let c0_i32_54 : BitVec 32 := 0#32
  let v98 : BitVec 1 := Scalar.cmpi .ne v97 c0_i32_54
  let v99 : BitVec 1 := Scalar.andi v96 v98
  let c1_i32_55 : BitVec 32 := 1#32
  let v100 : BitVec 32 := Scalar.subi v85 c1_i32_55
  let v101 : BitVec 32 := Scalar.select v99 v100 v85
  let c0_i32_57 : BitVec 32 := 0#32
  let v102 : BitVec 32 := Scalar.subi v101 c0_i32_57
  let c1_i32_58 : BitVec 32 := 1#32
  let v104 : BitVec 32 := Scalar.divsi v102 c1_i32_58
  ⟨v84, v101, c0_i32_57, c1_i32_58, v104⟩

/-- The first grid point of a head: the keys' and values' transfers started, the mask and the accumulators set, the first blocks awaited. -/
def startP (i : grid0.Coords) (hc : k0_cond1 i = 1#1) (a7 : Memref sig .tc .hbm S4x16384x256 .bf16) (h7 : a7.IsWhole) (a8 : Memref sig .tc .hbm S4x16384x128 .bf16) (h8 : a8.IsWhole) (a13 : Memref sig .tc .vmem S16384x256 .bf16) (h13 : a13.IsWhole) (a14 : Memref sig .tc .vmem S16384x128 .bf16) (h14 : a14.IsWhole)
    (a15 : Memref sig .tc .vmem S16384x256 .f32) (a16 : Memref sig .tc .vmem S16384x128 .f32) (a23 : Memref sig .tc .vmem S2x512x512 .f32) (a24 : DmaSems sig S4) : Prog (TpuEff nD τ sig (Elt F) Λ₀ .tc) PUnit :=
  .op (.enqueueDma ((a7.slice (Rect.unit (s := S4x16384x256) (k0_off2 i) S1x512x256.size (k0_off2_inb i hc)) (fun _ => rfl)).squeeze S512x256 squeezes_S1x512x256_S512x256) (.here (a13.slice (Rect.unit (s := S16384x256) ![0, 0] S512x256.size inb_S16384x256_S512x256_0_0) (fun _ => rfl))) (.dma ((a24.slice (Rect.unit (s := S4) ![0] S1.size inb_S4_S1_0)).squeeze S_ squeezes_S1_S_).sem) ((h7.wordExact_slice rfl _ (k0_off2_wordsbf16 i hc)).reshape _ _) (h13.wordExact_slice rfl _ wordsbf16_S16384x256_S512x256_0_0) ⟨Or.inl rfl, trivial⟩) fun _ =>
  .op (.enqueueDma ((a8.slice (Rect.unit (s := S4x16384x128) (k0_off4 i) S1x512x128.size (k0_off4_inb i hc)) (fun _ => rfl)).squeeze S512x128 squeezes_S1x512x128_S512x128) (.here (a14.slice (Rect.unit (s := S16384x128) ![0, 0] S512x128.size inb_S16384x128_S512x128_0_0) (fun _ => rfl))) (.dma ((a24.slice (Rect.unit (s := S4) ![1] S1.size inb_S4_S1_1)).squeeze S_ squeezes_S1_S_).sem) ((h8.wordExact_slice rfl _ (k0_off4_wordsbf16 i hc)).reshape _ _) (h14.wordExact_slice rfl _ wordsbf16_S16384x128_S512x128_0_0) ⟨Or.inl rfl, trivial⟩) fun _ =>
  .op (.enqueueDma ((a7.slice (Rect.unit (s := S4x16384x256) (k0_off5 i) S1x15872x256.size (k0_off5_inb i hc)) (fun _ => rfl)).squeeze S15872x256 squeezes_S1x15872x256_S15872x256) (.here (a13.slice (Rect.unit (s := S16384x256) ![512, 0] S15872x256.size inb_S16384x256_S15872x256_512_0) (fun _ => rfl))) (.dma ((a24.slice (Rect.unit (s := S4) ![2] S1.size inb_S4_S1_2)).squeeze S_ squeezes_S1_S_).sem) ((h7.wordExact_slice rfl _ (k0_off5_wordsbf16 i hc)).reshape _ _) (h13.wordExact_slice rfl _ wordsbf16_S16384x256_S15872x256_512_0) ⟨Or.inl rfl, trivial⟩) fun _ =>
  .op (.enqueueDma ((a8.slice (Rect.unit (s := S4x16384x128) (k0_off6 i) S1x15872x128.size (k0_off6_inb i hc)) (fun _ => rfl)).squeeze S15872x128 squeezes_S1x15872x128_S15872x128) (.here (a14.slice (Rect.unit (s := S16384x128) ![512, 0] S15872x128.size inb_S16384x128_S15872x128_512_0) (fun _ => rfl))) (.dma ((a24.slice (Rect.unit (s := S4) ![3] S1.size inb_S4_S1_3)).squeeze S_ squeezes_S1_S_).sem) ((h8.wordExact_slice rfl _ (k0_off6_wordsbf16 i hc)).reshape _ _) (h14.wordExact_slice rfl _ wordsbf16_S16384x128_S15872x128_512_0) ⟨Or.inl rfl, trivial⟩) fun _ =>
  .op (.load a23 (Rect.unit (s := S2x512x512) ![0, 0, 0] S1x512x512.size inb_S2x512x512_S1x512x512_0_0_0).toLoadRect (View.loadsAt_vmem h_S1x512x512)) fun _ =>
  .op (.store a23 (Rect.unit (s := S2x512x512) ![0, 0, 0] S1x512x512.size inb_S2x512x512_S1x512x512_0_0_0) bias0 Finset.univ (View.stores_vmem_bits_univ h_S1x512x512 rfl) (.inl rfl)) fun _ =>
  .op (.load a23 (Rect.unit (s := S2x512x512) ![1, 0, 0] S1x512x512.size inb_S2x512x512_S1x512x512_1_0_0).toLoadRect (View.loadsAt_vmem h_S1x512x512)) fun _ =>
  .op (.store a23 (Rect.unit (s := S2x512x512) ![1, 0, 0] S1x512x512.size inb_S2x512x512_S1x512x512_1_0_0) bias1 Finset.univ (View.stores_vmem_bits_univ h_S1x512x512 rfl) (.inl rfl)) fun _ =>
  .op (.load a15 (Rect.unit (s := S16384x256) ![0, 0] S16384x256.size inb_S16384x256_S16384x256_0_0).toLoadRect (View.loadsAt_vmem h_S16384x256)) fun _ =>
  .op (.store a15 (Rect.unit (s := S16384x256) ![0, 0] S16384x256.size inb_S16384x256_S16384x256_0_0) zero256 Finset.univ (View.stores_vmem_bits_univ h_S16384x256 rfl) (.inl rfl)) fun _ =>
  .op (.load a16 (Rect.unit (s := S16384x128) ![0, 0] S16384x128.size inb_S16384x128_S16384x128_0_0).toLoadRect (View.loadsAt_vmem h_S16384x128)) fun _ =>
  .op (.store a16 (Rect.unit (s := S16384x128) ![0, 0] S16384x128.size inb_S16384x128_S16384x128_0_0) zero128 Finset.univ (View.stores_vmem_bits_univ h_S16384x128 rfl) (.inl rfl)) fun _ =>
  .op (.waitDma2 ((a24.slice (Rect.unit (s := S4) ![0] S1.size inb_S4_S1_0)).squeeze S_ squeezes_S1_S_).sem ((a7.slice (Rect.unit (s := S4x16384x256) (k0_off2 i) S1x512x256.size (k0_off2_inb i hc)) (fun _ => rfl)).squeeze S512x256 squeezes_S1x512x256_S512x256) (a13.slice (Rect.unit (s := S16384x256) ![0, 0] S512x256.size inb_S16384x256_S512x256_0_0) (fun _ => rfl)) ((h7.wordExact_slice rfl _ (k0_off2_wordsbf16 i hc)).reshape _ _) (h13.wordExact_slice rfl _ wordsbf16_S16384x256_S512x256_0_0)) fun _ =>
  .op (.waitDma2 ((a24.slice (Rect.unit (s := S4) ![1] S1.size inb_S4_S1_1)).squeeze S_ squeezes_S1_S_).sem ((a8.slice (Rect.unit (s := S4x16384x128) (k0_off4 i) S1x512x128.size (k0_off4_inb i hc)) (fun _ => rfl)).squeeze S512x128 squeezes_S1x512x128_S512x128) (a14.slice (Rect.unit (s := S16384x128) ![0, 0] S512x128.size inb_S16384x128_S512x128_0_0) (fun _ => rfl)) ((h8.wordExact_slice rfl _ (k0_off4_wordsbf16 i hc)).reshape _ _) (h14.wordExact_slice rfl _ wordsbf16_S16384x128_S512x128_0_0)) fun _ =>
  .ret ⟨⟩

/-- The second grid point of a head: the rest of the keys and values awaited. -/
def finishP (i : grid0.Coords) (hc : k0_cond2 i = 1#1) (a7 : Memref sig .tc .hbm S4x16384x256 .bf16) (h7 : a7.IsWhole) (a8 : Memref sig .tc .hbm S4x16384x128 .bf16) (h8 : a8.IsWhole) (a13 : Memref sig .tc .vmem S16384x256 .bf16) (h13 : a13.IsWhole) (a14 : Memref sig .tc .vmem S16384x128 .bf16) (h14 : a14.IsWhole)
    (a24 : DmaSems sig S4) : Prog (TpuEff nD τ sig (Elt F) Λ₀ .tc) PUnit :=
  .op (.waitDma2 ((a24.slice (Rect.unit (s := S4) ![2] S1.size inb_S4_S1_2)).squeeze S_ squeezes_S1_S_).sem ((a7.slice (Rect.unit (s := S4x16384x256) (k0_off8 i) S1x15872x256.size (k0_off8_inb i hc)) (fun _ => rfl)).squeeze S15872x256 squeezes_S1x15872x256_S15872x256) (a13.slice (Rect.unit (s := S16384x256) ![512, 0] S15872x256.size inb_S16384x256_S15872x256_512_0) (fun _ => rfl)) ((h7.wordExact_slice rfl _ (k0_off8_wordsbf16 i hc)).reshape _ _) (h13.wordExact_slice rfl _ wordsbf16_S16384x256_S15872x256_512_0)) fun _ =>
  .op (.waitDma2 ((a24.slice (Rect.unit (s := S4) ![3] S1.size inb_S4_S1_3)).squeeze S_ squeezes_S1_S_).sem ((a8.slice (Rect.unit (s := S4x16384x128) (k0_off10 i) S1x15872x128.size (k0_off10_inb i hc)) (fun _ => rfl)).squeeze S15872x128 squeezes_S1x15872x128_S15872x128) (a14.slice (Rect.unit (s := S16384x128) ![512, 0] S15872x128.size inb_S16384x128_S15872x128_512_0) (fun _ => rfl)) ((h8.wordExact_slice rfl _ (k0_off10_wordsbf16 i hc)).reshape _ _) (h14.wordExact_slice rfl _ wordsbf16_S16384x128_S15872x128_512_0)) fun _ =>
  .ret ⟨⟩

/-- The gate's part of a grid point: its gradient stored; the row cotangents, the queries and the rows' means handed on. -/
def gateP (i : grid0.Coords) (a2 : Memref sig .tc .vmem S1x512x256 .bf16) (a3 a5 a6 : Memref sig .tc .vmem S512x128 .f32) (a10 : Memref sig .tc .vmem S512x128 .bf16) (h10 : a10.IsWhole) :
    Prog (TpuEff nD τ sig (Elt F) Λ₀ .tc) (Σ' (arg1 : BitVec 32) (v26 : FVec F S512x128 .bf16) (v28 : FVec F S512x256 .bf16), FVec F S512x128 .f32) :=
  .op (.load a6 (Rect.unit (s := S512x128) ![0, 0] S512x128.size inb_S512x128_S512x128_0_0).toLoadRect (View.loadsAt_vmem h_S512x128)) fun (g : FVec F S512x128 .f32) =>
  .op (.load a5 (Rect.unit (s := S512x128) ![0, 0] S512x128.size inb_S512x128_S512x128_0_0).toLoadRect (View.loadsAt_vmem h_S512x128)) fun (y : FVec F S512x128 .f32) =>
  .op (.load a3 (Rect.unit (s := S512x128) ![0, 0] S512x128.size inb_S512x128_S512x128_0_0).toLoadRect (View.loadsAt_vmem h_S512x128)) fun (o : FVec F S512x128 .f32) =>
  .op (.load a10 (Rect.unit (s := S512x128) ![0, 0] S512x128.size inb_S512x128_S512x128_0_0).toLoadRect (View.loadsAt_vmem h_S512x128)) fun _ =>
  .op (.store a10 (Rect.unit (s := S512x128) ![0, 0] S512x128.size inb_S512x128_S512x128_0_0) (dgateVal g y o) Finset.univ (View.stores_vmem h_S512x128 (h10.storeExact_slice rfl _ packedbf16_S512x128_S512x128_0_0) (fun _ => rfl)) (.inl rfl)) fun _ =>
  .op (.load a2 (Rect.unit (s := S1x512x256) ![0, 0, 0] S1x512x256.size inb_S1x512x256_S1x512x256_0_0_0).toLoadRect (View.loadsAt_vmem h_S1x512x256)) fun (q : FVec F S1x512x256 .bf16) =>
  .ret ⟨BitVec.ofNat 32 (i 1).val, dobVal g y, qVal q, deltaVal g y o⟩
/-- The point's program from the second wait on. -/
def midP (i : grid0.Coords) (a2 : Memref sig .tc .vmem S1x512x256 .bf16) (a3 a5 a6 : Memref sig .tc .vmem S512x128 .f32) (a7 : Memref sig .tc .hbm S4x16384x256 .bf16) (h7 : a7.IsWhole) (a8 : Memref sig .tc .hbm S4x16384x128 .bf16) (h8 : a8.IsWhole) (a10 : Memref sig .tc .vmem S512x128 .bf16) (h10 : a10.IsWhole) (a13 : Memref sig .tc .vmem S16384x256 .bf16) (h13 : a13.IsWhole) (a14 : Memref sig .tc .vmem S16384x128 .bf16) (h14 : a14.IsWhole) (a24 : DmaSems sig S4) :
    Prog (TpuEff nD τ sig (Elt F) Λ₀ .tc) (Σ' (arg1 : BitVec 32) (v26 : FVec F S512x128 .bf16) (v28 : FVec F S512x256 .bf16), FVec F S512x128 .f32) :=
  if hc : k0_cond2 i = 1#1 then finishP i hc a7 h7 a8 h8 a13 h13 a14 h14 a24 >>= fun _ => gateP i a2 a3 a5 a6 a10 h10 else gateP i a2 a3 a5 a6 a10 h10

/-- The rows' sums stored, the queries' accumulator emptied, the first block's scores. -/
def headP (i : grid0.Coords) (M : Mems) (dob : FVec F S512x128 .bf16) (q : FVec F S512x256 .bf16) (δ : FVec F S512x128 .f32) : Prog (TpuEff nD τ sig (Elt F) Λ₀ .tc) PUnit :=
  .op (.load M.a18 (Rect.unit (s := S512x128) ![0, 0] S512x128.size inb_S512x128_S512x128_0_0).toLoadRect (View.loadsAt_vmem h_S512x128)) fun _ =>
  .op (.store M.a18 (Rect.unit (s := S512x128) ![0, 0] S512x128.size inb_S512x128_S512x128_0_0) (deltaSt δ) Finset.univ (View.stores_vmem_bits_univ h_S512x128 rfl) (.inl rfl)) fun _ =>
  .op (.load M.a17 (Rect.unit (s := S512x256) ![0, 0] S512x256.size inb_S512x256_S512x256_0_0).toLoadRect (View.loadsAt_vmem h_S512x256)) fun _ =>
  .op (.store M.a17 (Rect.unit (s := S512x256) ![0, 0] S512x256.size inb_S512x256_S512x256_0_0) zeroQ Finset.univ (View.stores_vmem_bits_univ h_S512x256 rfl) (.inl rfl)) fun _ =>
  scoresP M M.a19 M.a20 q dob ![0, 0] inb_S16384x256_S512x256_0_0 (k0_off11 i) (k0_off11_inb i) ![0, 0] inb_S16384x128_S512x128_0_0

/-- The last grid point of a head: the accumulated gradients of the keys and values copied out. -/
def endP (i : grid0.Coords) (hc : k0_cond4 i = 1#1) (a11 : Memref sig .tc .hbm S4x16384x256 .f32) (a12 : Memref sig .tc .hbm S4x16384x128 .f32)
    (a15 : Memref sig .tc .vmem S16384x256 .f32) (h15 : a15.IsWhole) (a16 : Memref sig .tc .vmem S16384x128 .f32) (h16 : a16.IsWhole) (a24 : DmaSems sig S4) : Prog (TpuEff nD τ sig (Elt F) Λ₀ .tc) PUnit :=
  .op (.enqueueDma a15 (.here ((a11.slice (Rect.unit (s := S4x16384x256) (k0_off254 i) S1x16384x256.size (k0_off254_inb i hc)) (fun _ => rfl)).squeeze S16384x256 squeezes_S1x16384x256_S16384x256)) (.dma ((a24.slice (Rect.unit (s := S4) ![0] S1.size inb_S4_S1_0)).squeeze S_ squeezes_S1_S_).sem) h15.wordExact ((View.wordExact_bits rfl).reshape _ _) ⟨Or.inl rfl, trivial⟩) fun _ =>
  .op (.enqueueDma a16 (.here ((a12.slice (Rect.unit (s := S4x16384x128) (k0_off255 i) S1x16384x128.size (k0_off255_inb i hc)) (fun _ => rfl)).squeeze S16384x128 squeezes_S1x16384x128_S16384x128)) (.dma ((a24.slice (Rect.unit (s := S4) ![1] S1.size inb_S4_S1_1)).squeeze S_ squeezes_S1_S_).sem) h16.wordExact ((View.wordExact_bits rfl).reshape _ _) ⟨Or.inl rfl, trivial⟩) fun _ =>
  .op (.waitDma2 ((a24.slice (Rect.unit (s := S4) ![0] S1.size inb_S4_S1_0)).squeeze S_ squeezes_S1_S_).sem a15 ((a11.slice (Rect.unit (s := S4x16384x256) (k0_off254 i) S1x16384x256.size (k0_off254_inb i hc)) (fun _ => rfl)).squeeze S16384x256 squeezes_S1x16384x256_S16384x256) h15.wordExact ((View.wordExact_bits rfl).reshape _ _)) fun _ =>
  .op (.waitDma2 ((a24.slice (Rect.unit (s := S4) ![1] S1.size inb_S4_S1_1)).squeeze S_ squeezes_S1_S_).sem a16 ((a12.slice (Rect.unit (s := S4x16384x128) (k0_off255 i) S1x16384x128.size (k0_off255_inb i hc)) (fun _ => rfl)).squeeze S16384x128 squeezes_S1x16384x128_S16384x128) h16.wordExact ((View.wordExact_bits rfl).reshape _ _)) fun _ =>
  .ret ⟨⟩

/-- The end of a grid point: the queries' gradient stored, a head's last work. -/
def lastP (i : grid0.Coords) (M : Mems) (a9 : Memref sig .tc .vmem S1x512x256 .f32)
    (a11 : Memref sig .tc .hbm S4x16384x256 .f32) (a12 : Memref sig .tc .hbm S4x16384x128 .f32) (h15 : M.a15.IsWhole) (h16 : M.a16.IsWhole) (a24 : DmaSems sig S4) : Prog (TpuEff nD τ sig (Elt F) Λ₀ .tc) PUnit :=
  .op (.load M.a17 (Rect.unit (s := S512x256) ![0, 0] S512x256.size inb_S512x256_S512x256_0_0).toLoadRect (View.loadsAt_vmem h_S512x256)) fun (x : FVec F S512x256 .f32) =>
  .op (.load a9 (Rect.unit (s := S1x512x256) ![0, 0, 0] S1x512x256.size inb_S1x512x256_S1x512x256_0_0_0).toLoadRect (View.loadsAt_vmem h_S1x512x256)) fun _ =>
  .op (.store a9 (Rect.unit (s := S1x512x256) ![0, 0, 0] S1x512x256.size inb_S1x512x256_S1x512x256_0_0_0) (dqOut x) Finset.univ (View.stores_vmem_bits_univ h_S1x512x256 rfl) (.inl rfl)) fun _ =>
  if hc : k0_cond4 i = 1#1 then endP i hc a11 a12 M.a15 h15 M.a16 h16 a24 >>= fun _ => pure ⟨⟩ else pure ⟨⟩

/-- A grid point after its loops: the odd block's gradients, the queries' gradient stored, a head's last work. -/
def tailP (i : grid0.Coords) (M : Mems) (dob : FVec F S512x128 .bf16) (q : FVec F S512x256 .bf16) (a9 : Memref sig .tc .vmem S1x512x256 .f32)
    (a11 : Memref sig .tc .hbm S4x16384x256 .f32) (a12 : Memref sig .tc .hbm S4x16384x128 .f32) (h15 : M.a15.IsWhole) (h16 : M.a16.IsWhole) (a24 : DmaSems sig S4) : Prog (TpuEff nD τ sig (Elt F) Λ₀ .tc) PUnit :=
  if hc : k0_cond3 i = 1#1 then gradsP M M.a19 M.a20 q dob (k0_off252 i) (k0_off252_inb i hc) (k0_off253 i) (k0_off253_inb i hc) >>= fun _ => lastP i M a9 a11 a12 h15 h16 a24
  else lastP i M a9 a11 a12 h15 h16 a24

theorem part116_eq (i : grid0.Coords) (arg2 : Memref sig .tc .vmem S1x512x256 .bf16) (harg2 : arg2.IsWhole) (arg3 : Memref sig .tc .vmem S512x128 .f32) (harg3 : arg3.IsWhole) (arg4 : Memref sig .tc .vmem S1x512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .hbm S4x16384x256 .bf16) (harg7 : arg7.IsWhole) (arg8 : Memref sig .tc .hbm S4x16384x128 .bf16) (harg8 : arg8.IsWhole) (arg9 : Memref sig .tc .vmem S1x512x256 .f32) (harg9 : arg9.IsWhole) (arg10 : Memref sig .tc .vmem S512x128 .bf16) (harg10 : arg10.IsWhole) (arg11 : Memref sig .tc .hbm S4x16384x256 .f32) (harg11 : arg11.IsWhole) (arg12 : Memref sig .tc .hbm S4x16384x128 .f32) (harg12 : arg12.IsWhole) (arg13 : Memref sig .tc .vmem S16384x256 .bf16) (harg13 : arg13.IsWhole) (arg14 : Memref sig .tc .vmem S16384x128 .bf16) (harg14 : arg14.IsWhole) (arg15 : Memref sig .tc .vmem S16384x256 .f32) (harg15 : arg15.IsWhole) (arg16 : Memref sig .tc .vmem S16384x128 .f32) (harg16 : arg16.IsWhole) (arg17 : Memref sig .tc .vmem S512x256 .f32) (harg17 : arg17.IsWhole) (arg18 : Memref sig .tc .vmem S512x128 .f32) (harg18 : arg18.IsWhole) (arg19 : Memref sig .tc .vmem S512x512 .f32) (harg19 : arg19.IsWhole) (arg20 : Memref sig .tc .vmem S512x512 .f32) (harg20 : arg20.IsWhole) (arg21 : Memref sig .tc .vmem S512x512 .f32) (harg21 : arg21.IsWhole) (arg22 : Memref sig .tc .vmem S512x512 .f32) (harg22 : arg22.IsWhole) (arg23 : Memref sig .tc .vmem S2x512x512 .f32) (harg23 : arg23.IsWhole) (arg24 : DmaSems sig S4) :
    k0_part116 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 =
      (if hc : k0_cond1 i = 1#1 then startP i hc arg7 harg7 arg8 harg8 arg13 harg13 arg14 harg14 arg15 arg16 arg23 arg24 >>= fun _ => midP i arg2 arg3 arg5 arg6 arg7 harg7 arg8 harg8 arg10 harg10 arg13 harg13 arg14 harg14 arg24
        else midP i arg2 arg3 arg5 arg6 arg7 harg7 arg8 harg8 arg10 harg10 arg13 harg13 arg14 harg14 arg24) := by
  sl_kernel_rfl

theorem root_eq (i : grid0.Coords) (arg2 : Memref sig .tc .vmem S1x512x256 .bf16) (harg2 : arg2.IsWhole) (arg3 : Memref sig .tc .vmem S512x128 .f32) (harg3 : arg3.IsWhole) (arg4 : Memref sig .tc .vmem S1x512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .hbm S4x16384x256 .bf16) (harg7 : arg7.IsWhole) (arg8 : Memref sig .tc .hbm S4x16384x128 .bf16) (harg8 : arg8.IsWhole) (arg9 : Memref sig .tc .vmem S1x512x256 .f32) (harg9 : arg9.IsWhole) (arg10 : Memref sig .tc .vmem S512x128 .bf16) (harg10 : arg10.IsWhole) (arg11 : Memref sig .tc .hbm S4x16384x256 .f32) (harg11 : arg11.IsWhole) (arg12 : Memref sig .tc .hbm S4x16384x128 .f32) (harg12 : arg12.IsWhole) (arg13 : Memref sig .tc .vmem S16384x256 .bf16) (harg13 : arg13.IsWhole) (arg14 : Memref sig .tc .vmem S16384x128 .bf16) (harg14 : arg14.IsWhole) (arg15 : Memref sig .tc .vmem S16384x256 .f32) (harg15 : arg15.IsWhole) (arg16 : Memref sig .tc .vmem S16384x128 .f32) (harg16 : arg16.IsWhole) (arg17 : Memref sig .tc .vmem S512x256 .f32) (harg17 : arg17.IsWhole) (arg18 : Memref sig .tc .vmem S512x128 .f32) (harg18 : arg18.IsWhole) (arg19 : Memref sig .tc .vmem S512x512 .f32) (harg19 : arg19.IsWhole) (arg20 : Memref sig .tc .vmem S512x512 .f32) (harg20 : arg20.IsWhole) (arg21 : Memref sig .tc .vmem S512x512 .f32) (harg21 : arg21.IsWhole) (arg22 : Memref sig .tc .vmem S512x512 .f32) (harg22 : arg22.IsWhole) (arg23 : Memref sig .tc .vmem S2x512x512 .f32) (harg23 : arg23.IsWhole) (arg24 : DmaSems sig S4) :
    cc0_attn_bwd_0 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 =
      (k0_part116 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 >>= fun r =>
      headP i ⟨arg4, arg13, arg14, arg15, arg16, arg17, arg18, arg19, arg20, arg21, arg22, arg23⟩ r.2.1 r.2.2.1 r.2.2.2 >>= fun _ =>
      k0_part119 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 r.1 r.2.1 r.2.2.1 (ret_part118 r.1).1 (ret_part118 r.1).2.1 (ret_part118 r.1).2.2.1 (ret_part118 r.1).2.2.2.1 (ret_part118 r.1).2.2.2.2 >>= fun s =>
      k0_part120 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 r.1 r.2.1 r.2.2.1 (ret_part118 r.1).1 s.1 s.2.1 s.2.2.1 s.2.2.2.1 s.2.2.2.2.1 s.2.2.2.2.2 >>= fun _ =>
      tailP i ⟨arg4, arg13, arg14, arg15, arg16, arg17, arg18, arg19, arg20, arg21, arg22, arg23⟩ r.2.1 r.2.2.1 arg9 arg11 arg12 harg15 harg16 arg24) := by
  sl_kernel_rfl

end Cert.KernelIdeal.Hand

end
-- ==== Proof.Ends.lean ====
/- The transfers of a head's first and second grid points: what they leave held. -/
module

public import proofs.«01_k».proof.Proof.Slab
public import proofs.«01_k».proof.Proof.Root

@[expose] public section

set_option maxRecDepth 16384

noncomputable section

namespace Cert.KernelIdeal.Hand

open Cert.KernelIdeal Facts₀ Facts
open Idealize.ShloMosaic Idealize.ShloMosaic.TcCoe Idealize.ShloMosaic.Tactic Idealize.ShloMosaic.Transfers Idealize.ShloMosaic.ValueIdx
open Idealize.SL Idealize.SL.RA Idealize.SL.BI
open scoped Idealize.SL.BI
open Idealize.SL.BI.BIBase Idealize.SL.BI.Laws Idealize.SL.ProofMode Idealize.SL.Sem

variable [Facts] {F : FTy → Type} [FloatOps F] [Named F]

local notation "𝕄" => MT nD τ sig Unit (Elt F) ℕ (Pipeline.UD sig nD τ) ℕ

theorem off2_eq : ∀ i : grid0.Coords, k0_off2 i = ![(i 0).val, 0, 0] := by decide +kernel
theorem off4_eq : ∀ i : grid0.Coords, k0_off4 i = ![(i 0).val, 0, 0] := by decide +kernel
theorem off5_eq : ∀ i : grid0.Coords, k0_off5 i = ![(i 0).val, 512, 0] := by decide +kernel
theorem off6_eq : ∀ i : grid0.Coords, k0_off6 i = ![(i 0).val, 512, 0] := by decide +kernel
theorem off254_eq : ∀ i : grid0.Coords, k0_off254 i = ![(i 0).val, 0, 0] := by decide +kernel
theorem off255_eq : ∀ i : grid0.Coords, k0_off255 i = ![(i 0).val, 0, 0] := by decide +kernel
theorem cond1_iff : ∀ i : grid0.Coords, k0_cond1 i = 1#1 ↔ (i 1).val = 0 := by decide +kernel
theorem cond2_iff : ∀ i : grid0.Coords, k0_cond2 i = 1#1 ↔ (i 1).val = 1 := by decide +kernel
theorem cond4_iff : ∀ i : grid0.Coords, k0_cond4 i = 1#1 ↔ (i 1).val = 31 := by decide +kernel
theorem head_lt (i : grid0.Coords) : (i 0).val < 4 := (i 0).isLt

/-- A head's keys and a head's values. -/
def headK (k7 : FVec F S4x16384x256 .bf16) (h : Fin 4) : FVec F S16384x256 .bf16 := fun y => k7 (ix3 h (y 0) (y 1))
def headV (v8 : FVec F S4x16384x128 .bf16) (h : Fin 4) : FVec F S16384x128 .bf16 := fun y => v8 (ix3 h (y 0) (y 1))

/-- The mask buffer once both its blocks are stored. -/
def biasAll : FVec F S2x512x512 .f32 :=
  VecWindow.put (VecWindow.put (constant S2x512x512 .f32 0x00000000#32 : FVec F S2x512x512 .f32) ![0, 0, 0] S1x512x512.size bias0) ![1, 0, 0] S1x512x512.size bias1

theorem bias_put (x : FVec F S2x512x512 .f32) :
    VecWindow.put (VecWindow.put x ![0, 0, 0] S1x512x512.size bias0) ![1, 0, 0] S1x512x512.size bias1 = biasAll := by
  unfold biasAll
  funext y
  unfold VecWindow.put
  have b0 : (y 0).val < 2 := (y 0).isLt
  have b1 : (y 1).val < 512 := (y 1).isLt
  have b2 : (y 2).val < 512 := (y 2).isLt
  by_cases h : ∀ a, (![1, 0, 0] : Fin 3 → ℕ) a ≤ (y a).val ∧ (y a).val < (![1, 0, 0] : Fin 3 → ℕ) a + S1x512x512.size a
  · rw [dif_pos h, dif_pos h]
  · rw [dif_neg h, dif_neg h]
    have h' : ∀ a, (![0, 0, 0] : Fin 3 → ℕ) a ≤ (y a).val ∧ (y a).val < (![0, 0, 0] : Fin 3 → ℕ) a + S1x512x512.size a := by
      have e0 : (y 0).val = 0 := by
        by_contra hne
        refine h fun a => ?_
        fin_cases a
        · exact ⟨(by show 1 ≤ (y 0).val; omega), (by show (y 0).val < 1 + 1; omega)⟩
        · exact ⟨(by show 0 ≤ (y 1).val; omega), (by show (y 1).val < 0 + 512; omega)⟩
        · exact ⟨(by show 0 ≤ (y 2).val; omega), (by show (y 2).val < 0 + 512; omega)⟩
      intro a
      fin_cases a
      · exact ⟨(by show 0 ≤ (y 0).val; omega), (by show (y 0).val < 0 + 1; omega)⟩
      · exact ⟨(by show 0 ≤ (y 1).val; omega), (by show (y 1).val < 0 + 512; omega)⟩
      · exact ⟨(by show 0 ≤ (y 2).val; omega), (by show (y 2).val < 0 + 512; omega)⟩
    rw [dif_pos h', dif_pos h']

/-- The rows of the keys' and values' buffers the first transfers bring, and the rest. -/
abbrev lo13 (a13 : Memref sig .tc .vmem S16384x256 .bf16) : Memref sig .tc .vmem S512x256 .bf16 :=
  a13.slice (Rect.unit (s := S16384x256) ![0, 0] S512x256.size inb_S16384x256_S512x256_0_0) (fun _ => rfl)
abbrev hi13 (a13 : Memref sig .tc .vmem S16384x256 .bf16) : Memref sig .tc .vmem S15872x256 .bf16 :=
  a13.slice (Rect.unit (s := S16384x256) ![512, 0] S15872x256.size inb_S16384x256_S15872x256_512_0) (fun _ => rfl)
abbrev lo14 (a14 : Memref sig .tc .vmem S16384x128 .bf16) : Memref sig .tc .vmem S512x128 .bf16 :=
  a14.slice (Rect.unit (s := S16384x128) ![0, 0] S512x128.size inb_S16384x128_S512x128_0_0) (fun _ => rfl)
abbrev hi14 (a14 : Memref sig .tc .vmem S16384x128 .bf16) : Memref sig .tc .vmem S15872x128 .bf16 :=
  a14.slice (Rect.unit (s := S16384x128) ![512, 0] S15872x128.size inb_S16384x128_S15872x128_512_0) (fun _ => rfl)
/-- The four transfers' semaphores. -/
abbrev cell0 (a24 : DmaSems sig S4) : DmaSem sig := ((a24.slice (Rect.unit (s := S4) ![0] S1.size inb_S4_S1_0)).squeeze S_ squeezes_S1_S_).sem
abbrev cell1 (a24 : DmaSems sig S4) : DmaSem sig := ((a24.slice (Rect.unit (s := S4) ![1] S1.size inb_S4_S1_1)).squeeze S_ squeezes_S1_S_).sem
abbrev cell2 (a24 : DmaSems sig S4) : DmaSem sig := ((a24.slice (Rect.unit (s := S4) ![2] S1.size inb_S4_S1_2)).squeeze S_ squeezes_S1_S_).sem
abbrev cell3 (a24 : DmaSems sig S4) : DmaSem sig := ((a24.slice (Rect.unit (s := S4) ![3] S1.size inb_S4_S1_3)).squeeze S_ squeezes_S1_S_).sem

variable (c : Dev nD)

/-- What is in flight between a head's first and second grid points: the keys' and the values' later rows. -/
def Flying (a7 : Memref sig .tc .hbm S4x16384x256 .bf16) (a8 : Memref sig .tc .hbm S4x16384x128 .bf16) (a13 : Memref sig .tc .vmem S16384x256 .bf16) (a14 : Memref sig .tc .vmem S16384x128 .bf16)
    (a24 : DmaSems sig S4) (k7 : FVec F S4x16384x256 .bf16) (v8 : FVec F S4x16384x128 .bf16) (h : Fin 4) : sProp 𝕄 := iprop(
  semVal ((c : Thread nD τ), .dma (cell0 a24)) 0 ∗ semVal ((c : Thread nD τ), .dma (cell1 a24)) 0
  ∗ Flight countersEmb (c : Thread nD τ) (.dma (cell2 a24)) () (hi13 a13).view.dmaCredit
      iprop((a13.view.loc (c : Thread nD τ) ↦[a13.view.set \ (lo13 a13).view.set]{fullShare} a13.view.rep (headK k7 h)) ∗ at_ c a7 k7)
  ∗ Flight countersEmb (c : Thread nD τ) (.dma (cell3 a24)) () (hi14 a14).view.dmaCredit
      iprop((a14.view.loc (c : Thread nD τ) ↦[a14.view.set \ (lo14 a14).view.set]{fullShare} a14.view.rep (headV v8 h)) ∗ at_ c a8 v8))

/-- What is held of them at every other grid point: the arrays, and the semaphores at nothing. -/
def Landed (a7 : Memref sig .tc .hbm S4x16384x256 .bf16) (a8 : Memref sig .tc .hbm S4x16384x128 .bf16)
    (a24 : DmaSems sig S4) (k7 : FVec F S4x16384x256 .bf16) (v8 : FVec F S4x16384x128 .bf16) : sProp 𝕄 := iprop(
  semVal ((c : Thread nD τ), .dma (cell0 a24)) 0 ∗ semVal ((c : Thread nD τ), .dma (cell1 a24)) 0
  ∗ semVal ((c : Thread nD τ), .dma (cell2 a24)) 0 ∗ semVal ((c : Thread nD τ), .dma (cell3 a24)) 0
  ∗ at_ c a7 k7 ∗ at_ c a8 v8)

/-- The waits a grid point has made add to those before it. -/
abbrev more (W : Waits sig Unit) (a b : DmaSem sig) : Waits sig Unit := insert (SemLoc.dma b, ()) (insert (SemLoc.dma a, ()) W)

set_option maxHeartbeats 1000000 in
theorem wp_startP (i : grid0.Coords) (hc : k0_cond1 i = 1#1) (a7 : Memref sig .tc .hbm S4x16384x256 .bf16) (h7 : a7.IsWhole) (a8 : Memref sig .tc .hbm S4x16384x128 .bf16) (h8 : a8.IsWhole) (a13 : Memref sig .tc .vmem S16384x256 .bf16) (h13 : a13.IsWhole) (a14 : Memref sig .tc .vmem S16384x128 .bf16) (h14 : a14.IsWhole)
    (a15 : Memref sig .tc .vmem S16384x256 .f32) (a16 : Memref sig .tc .vmem S16384x128 .f32) (a23 : Memref sig .tc .vmem S2x512x512 .f32) (a24 : DmaSems sig S4)
    (k7 : FVec F S4x16384x256 .bf16) (v8 : FVec F S4x16384x128 .bf16) (h : Fin 4) (hh : (i 0).val = h.val)
    {x13 : FVec F S16384x256 .bf16} {x14 : FVec F S16384x128 .bf16} {x15 : FVec F S16384x256 .f32} {x16 : FVec F S16384x128 .f32} {x23 : FVec F S2x512x512 .f32}
    {W : Waits sig Unit} {Q : PUnit → sProp 𝕄} :
    Landed c a7 a8 a24 k7 v8 ⊢ iprop(at_ c a13 x13 -∗ at_ c a14 x14 -∗ at_ c a15 x15 -∗ at_ c a16 x16 -∗ at_ c a23 x23 -∗ owes (c : Thread nD τ) 0 W
      -∗ (Flying c a7 a8 a13 a14 a24 k7 v8 h
          -∗ (a13.view.loc (c : Thread nD τ) ↦[(lo13 a13).view.set]{fullShare} a13.view.rep (headK k7 h))
          -∗ (a14.view.loc (c : Thread nD τ) ↦[(lo14 a14).view.set]{fullShare} a14.view.rep (headV v8 h))
          -∗ at_ c a15 zero256 -∗ at_ c a16 zero128 -∗ at_ c a23 biasAll -∗ owes (c : Thread nD τ) 0 (more W (cell0 a24) (cell1 a24)) -∗ Q ⟨⟩)
      -∗ wp frame (wpE (defs₀ (F := F)) Variants.none (c : Thread nD τ) none) Set.univ (startP i hc a7 h7 a8 h8 a13 h13 a14 h14 a15 a16 a23 a24) Q) := by
  have hlt : (i 0).val < 4 := head_lt i
  have hfin : (⟨(i 0).val, hlt⟩ : Fin 4) = h := Fin.ext hh
  unfold Landed startP
  iintro ⟨Hs0, Hs1, Hs2, Hs3, H7, H8⟩ H13 H14 H15 H16 H23 HO HK
  ihave H7 := (carve (slab_sub a7 (Rect.unit (s := S4x16384x256) (k0_off2 i) S1x512x256.size (k0_off2_inb i hc)) (fun _ => rfl) squeezes_S1x512x256_S512x256)
    (slab_sub a7 (Rect.unit (s := S4x16384x256) (k0_off5 i) S1x15872x256.size (k0_off5_inb i hc)) (fun _ => rfl) squeezes_S1x15872x256_S15872x256) _) $$ H7
  ihave H8 := (carve (slab_sub a8 (Rect.unit (s := S4x16384x128) (k0_off4 i) S1x512x128.size (k0_off4_inb i hc)) (fun _ => rfl) squeezes_S1x512x128_S512x128)
    (slab_sub a8 (Rect.unit (s := S4x16384x128) (k0_off6 i) S1x15872x128.size (k0_off6_inb i hc)) (fun _ => rfl) squeezes_S1x15872x128_S15872x128) _) $$ H8
  icases H7 with ⟨⟨H7a, H7b⟩, ⟨H7c, H7d⟩⟩
  icases H8 with ⟨⟨H8a, H8b⟩, ⟨H8c, H8d⟩⟩
  have r13 := rows_compl (R := 16384) (C := 256) (n := 512) a13 inb_S16384x256_S512x256_0_0 inb_S16384x256_S15872x256_512_0 rfl rfl rfl rfl (by omega)
  have r14 := rows_compl (R := 16384) (C := 128) (n := 512) a14 inb_S16384x128_S512x128_0_0 inb_S16384x128_S15872x128_512_0 rfl rfl rfl rfl (by omega)
  ihave H13 := (pointsTo_split_subset (View.set_slice_subset a13.view (Rect.unit (s := S16384x256) ![0, 0] S512x256.size inb_S16384x256_S512x256_0_0))).1 $$ H13
  icases H13 with ⟨H13a, H13b⟩
  ihave H14 := (pointsTo_split_subset (View.set_slice_subset a14.view (Rect.unit (s := S16384x128) ![0, 0] S512x128.size inb_S16384x128_S512x128_0_0))).1 $$ H14
  icases H14 with ⟨H14a, H14b⟩
  subst hfin
  iapply (wp_start c (src := (((a7.slice (Rect.unit (s := S4x16384x256) (k0_off2 i) S1x512x256.size (k0_off2_inb i hc)) (fun _ => rfl)).squeeze S512x256 squeezes_S1x512x256_S512x256))) (dst := lo13 a13) (G := (a13.view.loc (c : Thread nD τ) ↦[(lo13 a13).view.set]{fullShare} a13.view.rep (headK k7 ⟨(i 0).val, hlt⟩))) (fs := a7.view.rep k7) (by decide) (slab_land c a7 a13 (off2_eq i) rfl rfl rfl (k0_off2_inb i hc) inb_S16384x256_S512x256_0_0 squeezes_S1x512x256_S512x256 k7 hlt (fun a ha => by omega))) $$ H7a H13a Hs0
  iintro HF0
  iapply (wp_start c (src := (((a8.slice (Rect.unit (s := S4x16384x128) (k0_off4 i) S1x512x128.size (k0_off4_inb i hc)) (fun _ => rfl)).squeeze S512x128 squeezes_S1x512x128_S512x128))) (dst := lo14 a14) (G := (a14.view.loc (c : Thread nD τ) ↦[(lo14 a14).view.set]{fullShare} a14.view.rep (headV v8 ⟨(i 0).val, hlt⟩))) (fs := a8.view.rep v8) (by decide) (slab_land c a8 a14 (off4_eq i) rfl rfl rfl (k0_off4_inb i hc) inb_S16384x128_S512x128_0_0 squeezes_S1x512x128_S512x128 v8 hlt (fun a ha => by omega))) $$ H8a H14a Hs1
  iintro HF1
  rw [r13, r14]
  iapply (wp_start c (src := (((a7.slice (Rect.unit (s := S4x16384x256) (k0_off5 i) S1x15872x256.size (k0_off5_inb i hc)) (fun _ => rfl)).squeeze S15872x256 squeezes_S1x15872x256_S15872x256))) (dst := hi13 a13) (G := (a13.view.loc (c : Thread nD τ) ↦[(hi13 a13).view.set]{fullShare} a13.view.rep (headK k7 ⟨(i 0).val, hlt⟩))) (fs := a7.view.rep k7) (by decide) (slab_land c a7 a13 (off5_eq i) rfl rfl rfl (k0_off5_inb i hc) inb_S16384x256_S15872x256_512_0 squeezes_S1x15872x256_S15872x256 k7 hlt (fun a ha => by omega))) $$ H7c H13b Hs2
  iintro HF2
  iapply (wp_start c (src := (((a8.slice (Rect.unit (s := S4x16384x128) (k0_off6 i) S1x15872x128.size (k0_off6_inb i hc)) (fun _ => rfl)).squeeze S15872x128 squeezes_S1x15872x128_S15872x128))) (dst := hi14 a14) (G := (a14.view.loc (c : Thread nD τ) ↦[(hi14 a14).view.set]{fullShare} a14.view.rep (headV v8 ⟨(i 0).val, hlt⟩))) (fs := a8.view.rep v8) (by decide) (slab_land c a8 a14 (off6_eq i) rfl rfl rfl (k0_off6_inb i hc) inb_S16384x128_S15872x128_512_0 squeezes_S1x15872x128_S15872x128 v8 hlt (fun a ha => by omega))) $$ H8c H14b Hs3
  iintro HF3
  iapply (load_unit c rfl (inb_bias false)) $$ H23; iintro H23
  iapply (store_unit c rfl) $$ H23; iintro H23
  iapply (load_unit c rfl (inb_bias true)) $$ H23; iintro H23
  iapply (store_unit c rfl) $$ H23; iintro H23
  rw [bias_put]
  iapply (load_full c) $$ H15; iintro H15
  iapply (store_full c) $$ H15; iintro H15
  iapply (load_full c) $$ H16; iintro H16
  iapply (store_full c) $$ H16; iintro H16
  iapply (wp_await c rfl) $$ HF0 HO
  iintro ⟨H13, H7a⟩ Hs0 HO
  iapply (wp_await c rfl) $$ HF1 HO
  iintro ⟨H14, H8a⟩ Hs1 HO
  rw [wp_ret]; imodintro
  iapply HK $$ [Hs0 Hs1 HF2 HF3 H7a H7b H7d H8a H8b H8d] H13 H14 H15 H16 H23 HO
  unfold Flying
  rw [r13, r14]
  isplitl [Hs0]; · iexact Hs0
  isplitl [Hs1]; · iexact Hs1
  isplitl [HF2 H7a H7b H7d]
  · iapply (rejoin c (slab_sub a7 (Rect.unit (s := S4x16384x256) (k0_off2 i) S1x512x256.size (k0_off2_inb i hc)) (fun _ => rfl) squeezes_S1x512x256_S512x256)
      (slab_sub a7 (Rect.unit (s := S4x16384x256) (k0_off5 i) S1x15872x256.size (k0_off5_inb i hc)) (fun _ => rfl) squeezes_S1x15872x256_S15872x256) _)
    isplitl [H7a H7b H7d]
    · isplitl [H7a H7b]
      · isplitl [H7a]; · iexact H7a
        iexact H7b
      · iexact H7d
    · iexact HF2
  · iapply (rejoin c (slab_sub a8 (Rect.unit (s := S4x16384x128) (k0_off4 i) S1x512x128.size (k0_off4_inb i hc)) (fun _ => rfl) squeezes_S1x512x128_S512x128)
      (slab_sub a8 (Rect.unit (s := S4x16384x128) (k0_off6 i) S1x15872x128.size (k0_off6_inb i hc)) (fun _ => rfl) squeezes_S1x15872x128_S15872x128) _)
    isplitl [H8a H8b H8d]
    · isplitl [H8a H8b]
      · isplitl [H8a]; · iexact H8a
        iexact H8b
      · iexact H8d
    · iexact HF3

theorem wp_finishP (i : grid0.Coords) (hc : k0_cond2 i = 1#1) (a7 : Memref sig .tc .hbm S4x16384x256 .bf16) (h7 : a7.IsWhole) (a8 : Memref sig .tc .hbm S4x16384x128 .bf16) (h8 : a8.IsWhole) (a13 : Memref sig .tc .vmem S16384x256 .bf16) (h13 : a13.IsWhole) (a14 : Memref sig .tc .vmem S16384x128 .bf16) (h14 : a14.IsWhole)
    (a24 : DmaSems sig S4)
    (k7 : FVec F S4x16384x256 .bf16) (v8 : FVec F S4x16384x128 .bf16) (h : Fin 4) {W : Waits sig Unit} {Q : PUnit → sProp 𝕄} :
    Flying c a7 a8 a13 a14 a24 k7 v8 h ⊢ iprop(
      (a13.view.loc (c : Thread nD τ) ↦[(lo13 a13).view.set]{fullShare} a13.view.rep (headK k7 h))
      -∗ (a14.view.loc (c : Thread nD τ) ↦[(lo14 a14).view.set]{fullShare} a14.view.rep (headV v8 h)) -∗ owes (c : Thread nD τ) 0 W
      -∗ (Landed c a7 a8 a24 k7 v8 -∗ at_ c a13 (headK k7 h) -∗ at_ c a14 (headV v8 h) -∗ owes (c : Thread nD τ) 0 (more W (cell2 a24) (cell3 a24)) -∗ Q ⟨⟩)
      -∗ wp frame (wpE (defs₀ (F := F)) Variants.none (c : Thread nD τ) none) Set.univ (finishP i hc a7 h7 a8 h8 a13 h13 a14 h14 a24) Q) := by
  unfold Flying Landed finishP
  iintro ⟨Hs0, Hs1, HF2, HF3⟩ H13 H14 HO HK
  iapply (wp_await c rfl) $$ HF2 HO
  iintro ⟨H13b, H7⟩ Hs2 HO
  iapply (wp_await c rfl) $$ HF3 HO
  iintro ⟨H14b, H8⟩ Hs3 HO
  rw [wp_ret]; imodintro
  iapply HK $$ [Hs0 Hs1 Hs2 Hs3 H7 H8] [H13 H13b] [H14 H14b] HO
  · isplitl [Hs0]; · iexact Hs0
    isplitl [Hs1]; · iexact Hs1
    isplitl [Hs2]; · iexact Hs2
    isplitl [Hs3]; · iexact Hs3
    isplitl [H7]; · iexact H7
    iexact H8
  · iapply (pointsTo_split_subset (View.set_slice_subset a13.view (Rect.unit (s := S16384x256) ![0, 0] S512x256.size inb_S16384x256_S512x256_0_0))).2
    isplitl [H13]; · iexact H13
    iexact H13b
  · iapply (pointsTo_split_subset (View.set_slice_subset a14.view (Rect.unit (s := S16384x128) ![0, 0] S512x128.size inb_S16384x128_S512x128_0_0))).2
    isplitl [H14]; · iexact H14
    iexact H14b

theorem wp_gateP (i : grid0.Coords) (a2 : Memref sig .tc .vmem S1x512x256 .bf16) (a3 a5 a6 : Memref sig .tc .vmem S512x128 .f32) (a10 : Memref sig .tc .vmem S512x128 .bf16) (h10 : a10.IsWhole)
    {q : FVec F S1x512x256 .bf16} {o y g : FVec F S512x128 .f32} {x10 : FVec F S512x128 .bf16} {Q : _ → sProp 𝕄} :
    at_ c a2 q ⊢ iprop(at_ c a3 o -∗ at_ c a5 y -∗ at_ c a6 g -∗ at_ c a10 x10
      -∗ (at_ c a2 q -∗ at_ c a3 o -∗ at_ c a5 y -∗ at_ c a6 g -∗ at_ c a10 (dgateVal g y o) -∗ Q ⟨BitVec.ofNat 32 (i 1).val, dobVal g y, qVal q, deltaVal g y o⟩)
      -∗ wp frame (wpE (defs₀ (F := F)) Variants.none (c : Thread nD τ) none) Set.univ (gateP i a2 a3 a5 a6 a10 h10) Q) := by
  iintro H2 H3 H5 H6 H10 HK
  unfold gateP
  iapply (load_full c) $$ H6; iintro H6
  iapply (load_full c) $$ H5; iintro H5
  iapply (load_full c) $$ H3; iintro H3
  iapply (load_full c) $$ H10; iintro H10
  iapply (store_full c) $$ H10; iintro H10
  iapply (load_full c) $$ H2; iintro H2
  rw [wp_ret]; imodintro
  iapply HK $$ H2 H3 H5 H6 H10

/-- A head's accumulated gradient put into the stacked results. -/
def slabPut {C : ℕ} (x : (⟨3, ![4, 16384, C]⟩ : Shape).Idx → Elt F .f32) (h : Fin 4) (w : (⟨2, ![16384, C]⟩ : Shape).Idx → Elt F .f32) : (⟨3, ![4, 16384, C]⟩ : Shape).Idx → Elt F .f32 :=
  fun y => if (y 0).val = h.val then w (ix2 (y 1) (y 2)) else x y

set_option maxHeartbeats 1000000 in
theorem wp_lastP (i : grid0.Coords) (M : Mems) (a9 : Memref sig .tc .vmem S1x512x256 .f32)
    (a11 : Memref sig .tc .hbm S4x16384x256 .f32) (a12 : Memref sig .tc .hbm S4x16384x128 .f32) (h15 : M.a15.IsWhole) (h16 : M.a16.IsWhole) (a24 : DmaSems sig S4)
    (h : Fin 4) (hh : (i 0).val = h.val) {dq : FVec F S512x256 .f32} {x9 : FVec F S1x512x256 .f32} {dk : FVec F S16384x256 .f32} {dv : FVec F S16384x128 .f32}
    {y11 : FVec F S4x16384x256 .f32} {y12 : FVec F S4x16384x128 .f32} {W : Waits sig Unit} {Q : PUnit → sProp 𝕄} :
    at_ c M.a17 dq ⊢ iprop(at_ c a9 x9 -∗ at_ c M.a15 dk -∗ at_ c M.a16 dv -∗ at_ c a11 y11 -∗ at_ c a12 y12
      -∗ (if (i 1).val = 31 then iprop(semVal ((c : Thread nD τ), .dma (cell0 a24)) 0 ∗ semVal ((c : Thread nD τ), .dma (cell1 a24)) 0) else emp)
      -∗ owes (c : Thread nD τ) 0 W
      -∗ (∀ W', at_ c M.a17 dq -∗ at_ c a9 (dqOut dq) -∗ at_ c M.a15 dk -∗ at_ c M.a16 dv
          -∗ at_ c a11 (if (i 1).val = 31 then slabPut y11 h dk else y11) -∗ at_ c a12 (if (i 1).val = 31 then slabPut y12 h dv else y12)
          -∗ (if (i 1).val = 31 then iprop(semVal ((c : Thread nD τ), .dma (cell0 a24)) 0 ∗ semVal ((c : Thread nD τ), .dma (cell1 a24)) 0) else emp)
          -∗ owes (c : Thread nD τ) 0 W' -∗ Q ⟨⟩)
      -∗ wp frame (wpE (defs₀ (F := F)) Variants.none (c : Thread nD τ) none) Set.univ (lastP i M a9 a11 a12 h15 h16 a24) Q) := by
  have hlt : (i 0).val < 4 := head_lt i
  iintro H17 H9 H15 H16 H11 H12 Hs HO HK
  unfold lastP
  iapply (load_full c) $$ H17; iintro H17
  iapply (load_full c) $$ H9; iintro H9
  iapply (store_full c) $$ H9; iintro H9
  by_cases h4 : k0_cond4 i = 1#1
  · have e4 := (cond4_iff i).mp h4
    rw [dif_pos h4]
    simp only [if_pos e4]
    icases Hs with ⟨Hs0, Hs1⟩
    rw [show (pure PUnit.unit : Prog (TpuEff nD τ sig (Elt F) Λ₀ .tc) PUnit) = .ret ⟨⟩ from rfl]
    simp only [wp_bind, wp_ret]
    unfold endP
    ihave H11 := (pointsTo_split_subset (slab_sub a11 (Rect.unit (s := S4x16384x256) (k0_off254 i) S1x16384x256.size (k0_off254_inb i h4)) (fun _ => rfl) squeezes_S1x16384x256_S16384x256)).1 $$ H11
    icases H11 with ⟨H11a, H11b⟩
    ihave H12 := (pointsTo_split_subset (slab_sub a12 (Rect.unit (s := S4x16384x128) (k0_off255 i) S1x16384x128.size (k0_off255_inb i h4)) (fun _ => rfl) squeezes_S1x16384x128_S16384x128)).1 $$ H12
    icases H12 with ⟨H12a, H12b⟩
    iapply (wp_start c (src := M.a15) (dst := (((a11.slice (Rect.unit (s := S4x16384x256) (k0_off254 i) S1x16384x256.size (k0_off254_inb i h4)) (fun _ => rfl)).squeeze S16384x256 squeezes_S1x16384x256_S16384x256))) (fs := M.a15.view.rep dk) (by decide) (slab_leave c a11 M.a15 (off254_eq i) rfl (k0_off254_inb i h4) squeezes_S1x16384x256_S16384x256 (slabPut y11 h dk) dk hlt (fun y => by
        unfold slabPut
        rw [if_pos (show (i 0).val = h.val from hh)]
        exact congrArg dk (by funext a; fin_cases a <;> rfl)))) $$ H15 H11a Hs0
    iintro HF0
    iapply (wp_start c (src := M.a16) (dst := (((a12.slice (Rect.unit (s := S4x16384x128) (k0_off255 i) S1x16384x128.size (k0_off255_inb i h4)) (fun _ => rfl)).squeeze S16384x128 squeezes_S1x16384x128_S16384x128))) (fs := M.a16.view.rep dv) (by decide) (slab_leave c a12 M.a16 (off255_eq i) rfl (k0_off255_inb i h4) squeezes_S1x16384x128_S16384x128 (slabPut y12 h dv) dv hlt (fun y => by
        unfold slabPut
        rw [if_pos (show (i 0).val = h.val from hh)]
        exact congrArg dv (by funext a; fin_cases a <;> rfl)))) $$ H16 H12a Hs1
    iintro HF1
    iapply (wp_await c rfl) $$ HF0 HO
    iintro ⟨H11, H15⟩ Hs0 HO
    iapply (wp_await c rfl) $$ HF1 HO
    iintro ⟨H12, H16⟩ Hs1 HO
    ihave H11b := (BIBase.Entails.of_eq (slab_rest c a11 (off254_eq i) rfl (k0_off254_inb i h4) squeezes_S1x16384x256_S16384x256 y11 (slabPut y11 h dk) hlt (fun y hy => by
        unfold slabPut
        rw [if_neg (fun e => hy (e.trans hh.symm))]))) $$ H11b
    ihave H12b := (BIBase.Entails.of_eq (slab_rest c a12 (off255_eq i) rfl (k0_off255_inb i h4) squeezes_S1x16384x128_S16384x128 y12 (slabPut y12 h dv) hlt (fun y hy => by
        unfold slabPut
        rw [if_neg (fun e => hy (e.trans hh.symm))]))) $$ H12b
    rw [wp_ret]; imodintro
    imodintro
    iapply HK $$ H17 H9 H15 H16 [H11 H11b] [H12 H12b] [Hs0 Hs1] HO
    · iapply (pointsTo_split_subset (slab_sub a11 (Rect.unit (s := S4x16384x256) (k0_off254 i) S1x16384x256.size (k0_off254_inb i h4)) (fun _ => rfl) squeezes_S1x16384x256_S16384x256)).2
      isplitl [H11]; · iexact H11
      iexact H11b
    · iapply (pointsTo_split_subset (slab_sub a12 (Rect.unit (s := S4x16384x128) (k0_off255 i) S1x16384x128.size (k0_off255_inb i h4)) (fun _ => rfl) squeezes_S1x16384x128_S16384x128)).2
      isplitl [H12]; · iexact H12
      iexact H12b
    · isplitl [Hs0]; · iexact Hs0
      iexact Hs1
  · have e4 : ¬ (i 1).val = 31 := fun e => h4 ((cond4_iff i).mpr e)
    rw [dif_neg h4]
    simp only [if_neg e4]
    rw [show (pure PUnit.unit : Prog (TpuEff nD τ sig (Elt F) Λ₀ .tc) PUnit) = .ret ⟨⟩ from rfl, wp_ret]; imodintro
    iapply HK $$ H17 H9 H15 H16 H11 H12 Hs HO

end Cert.KernelIdeal.Hand

end
-- ==== Proof.Pairs.lean ====
/- Two blocks at a time: the program of a pair, its run, and a run of pairs. -/
module

public import proofs.«01_k».proof.Proof.Steps

@[expose] public section

set_option maxRecDepth 16384

noncomputable section

namespace Cert.KernelIdeal.Hand

open Cert.KernelIdeal Facts₀ Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable [Facts] {F : FTy → Type} [FloatOps F] [Named F]

local notation "𝕄" => MT nD τ sig Unit (Elt F) ℕ (Pipeline.UD sig nD τ) ℕ

/-- The program of a pair of blocks: the odd block's scores, the even block's gradients, the next even block's scores, the odd block's gradients. -/
def pairP (M : Mems) (q : FVec F S512x256 .bf16) (dob : FVec F S512x128 .bf16)
    {o1 : Fin 2 → ℕ} (h1 : ∀ a, o1 a + S512x256.size a ≤ S16384x256.size a) {b1 : Fin 3 → ℕ} (g1 : ∀ a, b1 a + S1x512x512.size a ≤ S2x512x512.size a)
    {o1' : Fin 2 → ℕ} (h1' : ∀ a, o1' a + S512x128.size a ≤ S16384x128.size a)
    {o2 : Fin 2 → ℕ} (h2 : ∀ a, o2 a + S512x256.size a ≤ S16384x256.size a) {o2' : Fin 2 → ℕ} (h2' : ∀ a, o2' a + S512x128.size a ≤ S16384x128.size a)
    {o3 : Fin 2 → ℕ} (h3 : ∀ a, o3 a + S512x256.size a ≤ S16384x256.size a) {b3 : Fin 3 → ℕ} (g3 : ∀ a, b3 a + S1x512x512.size a ≤ S2x512x512.size a)
    {o3' : Fin 2 → ℕ} (h3' : ∀ a, o3' a + S512x128.size a ≤ S16384x128.size a) : Prog (TpuEff nD τ sig (Elt F) Λ₀ .tc) PUnit := do
  scoresP M M.a21 M.a22 q dob o1 h1 b1 g1 o1' h1'
  gradsP M M.a19 M.a20 q dob o2 h2 o2' h2'
  scoresP M M.a19 M.a20 q dob o3 h3 b3 g3 o3' h3'
  gradsP M M.a21 M.a22 q dob o1 h1 o1' h1'

/-- What a pair of blocks makes of the state. -/
def St.pair (X : Cx F) (σ : St F) (p : ℕ) : St F :=
  let σ₁ : St F := { σ with sb := X.s (2 * p + 1), db := X.d (2 * p + 1) }
  let σ₂ : St F := σ₁.grads X σ.sa σ.da (2 * p)
  let σ₃ : St F := { σ₂ with sa := X.s (min (2 * p + 2) X.i), da := X.d (min (2 * p + 2) X.i) }
  σ₃.grads X (X.s (2 * p + 1)) (X.d (2 * p + 1)) (2 * p + 1)

/-- The state after `n` pairs. -/
def St.pairs (X : Cx F) (σ : St F) : ℕ → St F
  | 0 => σ
  | n + 1 => (St.pairs X σ n).pair X n

variable (c : Dev nD) (M : Mems)
  {S13 : Finset (Idx (M.a13.view.loc (c : Thread nD τ)))} {f13 : Buf (Elt F) (M.a13.view.loc (c : Thread nD τ))}
  {S14 : Finset (Idx (M.a14.view.loc (c : Thread nD τ)))} {f14 : Buf (Elt F) (M.a14.view.loc (c : Thread nD τ))}

theorem wp_pairP {X : Cx F} (hX : Has c M S13 f13 S14 f14 X (X.i + 1)) (σ : St F) (p : ℕ) (hp : 2 * p + 1 ≤ X.i)
    {o1 : Fin 2 → ℕ} {h1 : ∀ a, o1 a + S512x256.size a ≤ S16384x256.size a} {b1 : Fin 3 → ℕ} {g1 : ∀ a, b1 a + S1x512x512.size a ≤ S2x512x512.size a}
    {o1' : Fin 2 → ℕ} {h1' : ∀ a, o1' a + S512x128.size a ≤ S16384x128.size a}
    {o2 : Fin 2 → ℕ} {h2 : ∀ a, o2 a + S512x256.size a ≤ S16384x256.size a} {o2' : Fin 2 → ℕ} {h2' : ∀ a, o2' a + S512x128.size a ≤ S16384x128.size a}
    {o3 : Fin 2 → ℕ} {h3 : ∀ a, o3 a + S512x256.size a ≤ S16384x256.size a} {b3 : Fin 3 → ℕ} {g3 : ∀ a, b3 a + S1x512x512.size a ≤ S2x512x512.size a}
    {o3' : Fin 2 → ℕ} {h3' : ∀ a, o3' a + S512x128.size a ≤ S16384x128.size a}
    (e1 : o1 = ![512 * (2 * p + 1), 0]) (eb1 : b1 = ![(decide (2 * p + 1 = X.i)).toNat, 0, 0]) (e1' : o1' = ![512 * (2 * p + 1), 0])
    (e2 : o2 = ![512 * (2 * p), 0]) (e2' : o2' = ![512 * (2 * p), 0])
    (e3 : o3 = ![512 * min (2 * p + 2) X.i, 0]) (eb3 : b3 = ![(decide (min (2 * p + 2) X.i = X.i)).toNat, 0, 0]) (e3' : o3' = ![512 * min (2 * p + 2) X.i, 0]) :
    Own c M S13 f13 S14 f14 X σ
      ⊢ wp frame (wpE (defs₀ (F := F)) Variants.none (c : Thread nD τ) none) Set.univ (pairP M X.q X.dob h1 g1 h1' h2 h2' h3 g3 h3')
          (fun _ => Own c M S13 f13 S14 f14 X (σ.pair X p)) := by
  unfold pairP Own
  simp only [wp_bind]
  iintro ⟨H4, H13, H14, H15, H16, H17, H18, H19, H20, H21, H22, H23⟩
  iapply (wp_scoresP c M hX (j := 2 * p + 1) (by omega) e1 eb1 e1') $$ H4 H13 H14 H18 H23 H21 H22
  iintro H4 H13 H14 H18 H23 H21 H22
  iapply (wp_gradsP c M hX (j := 2 * p) (by omega) σ e2 e2') $$ H13 H15 H16 H17 H19 H20
  iintro H13 H15 H16 H17 H19 H20
  iapply (wp_scoresP c M hX (j := min (2 * p + 2) X.i) (by omega) e3 eb3 e3') $$ H4 H13 H14 H18 H23 H19 H20
  iintro H4 H13 H14 H18 H23 H19 H20
  iapply (wp_gradsP c M hX (j := 2 * p + 1) (by omega) (σ.grads X σ.sa σ.da (2 * p)) e1 e1') $$ H13 H15 H16 H17 H21 H22
  iintro H13 H15 H16 H17 H21 H22
  isplitl [H4]; · iexact H4
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  iexact H23

/-- One more pair. -/
theorem wp_then {X : Cx F} {σ σ' : St F} {p : Prog (TpuEff nD τ sig (Elt F) Λ₀ .tc) PUnit} {k : PUnit → Prog (TpuEff nD τ sig (Elt F) Λ₀ .tc) PUnit} {Q : PUnit → sProp 𝕄}
    (h₁ : Own c M S13 f13 S14 f14 X σ ⊢ wp frame (wpE (defs₀ (F := F)) Variants.none (c : Thread nD τ) none) Set.univ p (fun _ => Own c M S13 f13 S14 f14 X σ'))
    (h₂ : Own c M S13 f13 S14 f14 X σ' ⊢ wp frame (wpE (defs₀ (F := F)) Variants.none (c : Thread nD τ) none) Set.univ (k ⟨⟩) Q) :
    Own c M S13 f13 S14 f14 X σ ⊢ wp frame (wpE (defs₀ (F := F)) Variants.none (c : Thread nD τ) none) Set.univ (p >>= k) Q := by
  rw [wp_bind]
  exact h₁.trans (wp_mono _ _ _ fun _ => h₂)

end Cert.KernelIdeal.Hand

end
-- ==== Proof.TripProgs.lean ====
/- The programs of the trips of the loops over pairs of blocks. -/
module

public import proofs.«01_k».proof.Proof.Pairs

@[expose] public section

set_option maxRecDepth 16384

noncomputable section

namespace Cert.KernelIdeal.Hand

open Cert.KernelIdeal Facts₀ Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable [Facts] {F : FTy → Type} [FloatOps F] [Named F]

variable (M : Mems)

/-- The program of a trip of loop 1. -/
def tripP1 (i : grid0.Coords) (t : Fin (k0_t1_loop i).trips) (q : FVec F S512x256 .bf16) (dob : FVec F S512x128 .bf16) : Prog (TpuEff nD τ sig (Elt F) Λ₀ .tc) PUnit := do
  pairP M q dob (k0_off12_inb i t) (k0_off13_inb i t) (k0_off14_inb i t) (k0_off15_inb i t) (k0_off16_inb i t) (k0_off17_inb i t) (k0_off18_inb i t) (k0_off19_inb i t)
  pairP M q dob (k0_off20_inb i t) (k0_off21_inb i t) (k0_off22_inb i t) (k0_off23_inb i t) (k0_off24_inb i t) (k0_off25_inb i t) (k0_off26_inb i t) (k0_off27_inb i t)
  pairP M q dob (k0_off28_inb i t) (k0_off29_inb i t) (k0_off30_inb i t) (k0_off31_inb i t) (k0_off32_inb i t) (k0_off33_inb i t) (k0_off34_inb i t) (k0_off35_inb i t)
  pairP M q dob (k0_off36_inb i t) (k0_off37_inb i t) (k0_off38_inb i t) (k0_off39_inb i t) (k0_off40_inb i t) (k0_off41_inb i t) (k0_off42_inb i t) (k0_off43_inb i t)
  pairP M q dob (k0_off44_inb i t) (k0_off45_inb i t) (k0_off46_inb i t) (k0_off47_inb i t) (k0_off48_inb i t) (k0_off49_inb i t) (k0_off50_inb i t) (k0_off51_inb i t)
  pairP M q dob (k0_off52_inb i t) (k0_off53_inb i t) (k0_off54_inb i t) (k0_off55_inb i t) (k0_off56_inb i t) (k0_off57_inb i t) (k0_off58_inb i t) (k0_off59_inb i t)
  pairP M q dob (k0_off60_inb i t) (k0_off61_inb i t) (k0_off62_inb i t) (k0_off63_inb i t) (k0_off64_inb i t) (k0_off65_inb i t) (k0_off66_inb i t) (k0_off67_inb i t)
  pairP M q dob (k0_off68_inb i t) (k0_off69_inb i t) (k0_off70_inb i t) (k0_off71_inb i t) (k0_off72_inb i t) (k0_off73_inb i t) (k0_off74_inb i t) (k0_off75_inb i t)

/-- The program of a trip of loop 2. -/
def tripP2 (i : grid0.Coords) (t : Fin (k0_t2_loop i).trips) (q : FVec F S512x256 .bf16) (dob : FVec F S512x128 .bf16) : Prog (TpuEff nD τ sig (Elt F) Λ₀ .tc) PUnit := do
  pairP M q dob (k0_off76_inb i t) (k0_off77_inb i t) (k0_off78_inb i t) (k0_off79_inb i t) (k0_off80_inb i t) (k0_off81_inb i t) (k0_off82_inb i t) (k0_off83_inb i t)
  pairP M q dob (k0_off84_inb i t) (k0_off85_inb i t) (k0_off86_inb i t) (k0_off87_inb i t) (k0_off88_inb i t) (k0_off89_inb i t) (k0_off90_inb i t) (k0_off91_inb i t)
  pairP M q dob (k0_off92_inb i t) (k0_off93_inb i t) (k0_off94_inb i t) (k0_off95_inb i t) (k0_off96_inb i t) (k0_off97_inb i t) (k0_off98_inb i t) (k0_off99_inb i t)
  pairP M q dob (k0_off100_inb i t) (k0_off101_inb i t) (k0_off102_inb i t) (k0_off103_inb i t) (k0_off104_inb i t) (k0_off105_inb i t) (k0_off106_inb i t) (k0_off107_inb i t)
  pairP M q dob (k0_off108_inb i t) (k0_off109_inb i t) (k0_off110_inb i t) (k0_off111_inb i t) (k0_off112_inb i t) (k0_off113_inb i t) (k0_off114_inb i t) (k0_off115_inb i t)
  pairP M q dob (k0_off116_inb i t) (k0_off117_inb i t) (k0_off118_inb i t) (k0_off119_inb i t) (k0_off120_inb i t) (k0_off121_inb i t) (k0_off122_inb i t) (k0_off123_inb i t)
  pairP M q dob (k0_off124_inb i t) (k0_off125_inb i t) (k0_off126_inb i t) (k0_off127_inb i t) (k0_off128_inb i t) (k0_off129_inb i t) (k0_off130_inb i t) (k0_off131_inb i t)
  pairP M q dob (k0_off132_inb i t) (k0_off133_inb i t) (k0_off134_inb i t) (k0_off135_inb i t) (k0_off136_inb i t) (k0_off137_inb i t) (k0_off138_inb i t) (k0_off139_inb i t)

/-- The program of a trip of loop 3. -/
def tripP3 (i : grid0.Coords) (t : Fin (k0_t3_loop i).trips) (q : FVec F S512x256 .bf16) (dob : FVec F S512x128 .bf16) : Prog (TpuEff nD τ sig (Elt F) Λ₀ .tc) PUnit := do
  pairP M q dob (k0_off140_inb i t) (k0_off141_inb i t) (k0_off142_inb i t) (k0_off143_inb i t) (k0_off144_inb i t) (k0_off145_inb i t) (k0_off146_inb i t) (k0_off147_inb i t)
  pairP M q dob (k0_off148_inb i t) (k0_off149_inb i t) (k0_off150_inb i t) (k0_off151_inb i t) (k0_off152_inb i t) (k0_off153_inb i t) (k0_off154_inb i t) (k0_off155_inb i t)
  pairP M q dob (k0_off156_inb i t) (k0_off157_inb i t) (k0_off158_inb i t) (k0_off159_inb i t) (k0_off160_inb i t) (k0_off161_inb i t) (k0_off162_inb i t) (k0_off163_inb i t)
  pairP M q dob (k0_off164_inb i t) (k0_off165_inb i t) (k0_off166_inb i t) (k0_off167_inb i t) (k0_off168_inb i t) (k0_off169_inb i t) (k0_off170_inb i t) (k0_off171_inb i t)

/-- The program of a trip of loop 4. -/
def tripP4 (i : grid0.Coords) (t : Fin (k0_t4_loop i).trips) (q : FVec F S512x256 .bf16) (dob : FVec F S512x128 .bf16) : Prog (TpuEff nD τ sig (Elt F) Λ₀ .tc) PUnit := do
  pairP M q dob (k0_off172_inb i t) (k0_off173_inb i t) (k0_off174_inb i t) (k0_off175_inb i t) (k0_off176_inb i t) (k0_off177_inb i t) (k0_off178_inb i t) (k0_off179_inb i t)
  pairP M q dob (k0_off180_inb i t) (k0_off181_inb i t) (k0_off182_inb i t) (k0_off183_inb i t) (k0_off184_inb i t) (k0_off185_inb i t) (k0_off186_inb i t) (k0_off187_inb i t)
  pairP M q dob (k0_off188_inb i t) (k0_off189_inb i t) (k0_off190_inb i t) (k0_off191_inb i t) (k0_off192_inb i t) (k0_off193_inb i t) (k0_off194_inb i t) (k0_off195_inb i t)
  pairP M q dob (k0_off196_inb i t) (k0_off197_inb i t) (k0_off198_inb i t) (k0_off199_inb i t) (k0_off200_inb i t) (k0_off201_inb i t) (k0_off202_inb i t) (k0_off203_inb i t)

/-- The program of a trip of loop 5. -/
def tripP5 (i : grid0.Coords) (t : Fin (k0_t5_loop i).trips) (q : FVec F S512x256 .bf16) (dob : FVec F S512x128 .bf16) : Prog (TpuEff nD τ sig (Elt F) Λ₀ .tc) PUnit := do
  pairP M q dob (k0_off204_inb i t) (k0_off205_inb i t) (k0_off206_inb i t) (k0_off207_inb i t) (k0_off208_inb i t) (k0_off209_inb i t) (k0_off210_inb i t) (k0_off211_inb i t)
  pairP M q dob (k0_off212_inb i t) (k0_off213_inb i t) (k0_off214_inb i t) (k0_off215_inb i t) (k0_off216_inb i t) (k0_off217_inb i t) (k0_off218_inb i t) (k0_off219_inb i t)

/-- The program of a trip of loop 6. -/
def tripP6 (i : grid0.Coords) (t : Fin (k0_t6_loop i).trips) (q : FVec F S512x256 .bf16) (dob : FVec F S512x128 .bf16) : Prog (TpuEff nD τ sig (Elt F) Λ₀ .tc) PUnit := do
  pairP M q dob (k0_off220_inb i t) (k0_off221_inb i t) (k0_off222_inb i t) (k0_off223_inb i t) (k0_off224_inb i t) (k0_off225_inb i t) (k0_off226_inb i t) (k0_off227_inb i t)
  pairP M q dob (k0_off228_inb i t) (k0_off229_inb i t) (k0_off230_inb i t) (k0_off231_inb i t) (k0_off232_inb i t) (k0_off233_inb i t) (k0_off234_inb i t) (k0_off235_inb i t)

/-- The program of a trip of loop 7. -/
def tripP7 (i : grid0.Coords) (t : Fin (k0_t7_loop i).trips) (q : FVec F S512x256 .bf16) (dob : FVec F S512x128 .bf16) : Prog (TpuEff nD τ sig (Elt F) Λ₀ .tc) PUnit := do
  pairP M q dob (k0_off236_inb i t) (k0_off237_inb i t) (k0_off238_inb i t) (k0_off239_inb i t) (k0_off240_inb i t) (k0_off241_inb i t) (k0_off242_inb i t) (k0_off243_inb i t)

/-- The program of a trip of loop 8. -/
def tripP8 (i : grid0.Coords) (t : Fin (k0_t8_loop i).trips) (q : FVec F S512x256 .bf16) (dob : FVec F S512x128 .bf16) : Prog (TpuEff nD τ sig (Elt F) Λ₀ .tc) PUnit := do
  pairP M q dob (k0_off244_inb i t) (k0_off245_inb i t) (k0_off246_inb i t) (k0_off247_inb i t) (k0_off248_inb i t) (k0_off249_inb i t) (k0_off250_inb i t) (k0_off251_inb i t)

end Cert.KernelIdeal.Hand

end
-- ==== Proof.Off0.lean ====
/- The rows each access of a loop's trip goes to: the loops themselves. -/
module

public import proofs.«01_k».proof.KernelIdeal

@[expose] public section

set_option maxRecDepth 16384

namespace Cert.KernelIdeal.Hand

open Cert.KernelIdeal
open Idealize.ShloMosaic

/-- The first pair of blocks of a trip of loop 1. -/
def pair1 (i : grid0.Coords) (t : Fin (k0_t1_loop i).trips) : ℕ := 8 * t.val

/-- The first pair of blocks of a trip of loop 3. -/
def pair3 (i : grid0.Coords) (t : Fin (k0_t3_loop i).trips) : ℕ := 8 * (((i 1).val + 1) / 2 / 8) + 4 * t.val

/-- The first pair of blocks of a trip of loop 5. -/
def pair5 (i : grid0.Coords) (t : Fin (k0_t5_loop i).trips) : ℕ := 4 * (((i 1).val + 1) / 2 / 4) + 2 * t.val

/-- The first pair of blocks of a trip of loop 7. -/
def pair7 (i : grid0.Coords) (t : Fin (k0_t7_loop i).trips) : ℕ := 2 * (((i 1).val + 1) / 2 / 2) + t.val

theorem trips1_eq : ∀ i : grid0.Coords, (k0_t1_loop i).trips = (((i 1).val + 1) / 2) / 8 := by decide +kernel
theorem trips3_eq : ∀ i : grid0.Coords, (k0_t3_loop i).trips = (((i 1).val + 1) / 2) / 4 - 2 * ((((i 1).val + 1) / 2) / 8) := by decide +kernel
theorem trips5_eq : ∀ i : grid0.Coords, (k0_t5_loop i).trips = (((i 1).val + 1) / 2) / 2 - 2 * ((((i 1).val + 1) / 2) / 4) := by decide +kernel
theorem trips7_eq : ∀ i : grid0.Coords, (k0_t7_loop i).trips = ((i 1).val + 1) / 2 - 2 * ((((i 1).val + 1) / 2) / 2) := by decide +kernel
theorem trips2_eq : ∀ i : grid0.Coords, (k0_t2_loop i).trips = 0 := by decide +kernel
theorem trips4_eq : ∀ i : grid0.Coords, (k0_t4_loop i).trips = 0 := by decide +kernel
theorem trips6_eq : ∀ i : grid0.Coords, (k0_t6_loop i).trips = 0 := by decide +kernel
theorem trips8_eq : ∀ i : grid0.Coords, (k0_t8_loop i).trips = 0 := by decide +kernel
theorem off11_eq : ∀ i : grid0.Coords, k0_off11 i = ![(decide (0 = (i 1).val)).toNat, 0, 0] := by decide +kernel
theorem off252_eq : ∀ i : grid0.Coords, k0_off252 i = ![512 * (i 1).val, 0] := by decide +kernel
theorem off253_eq : ∀ i : grid0.Coords, k0_off253 i = ![512 * (i 1).val, 0] := by decide +kernel

end Cert.KernelIdeal.Hand
-- ==== Proof.Off1.lean ====
/- The rows each access of a loop's trip goes to: the loop of eight pairs, its first half. -/
module

public import proofs.«01_k».proof.Proof.Off0

@[expose] public section

set_option maxRecDepth 16384

namespace Cert.KernelIdeal.Hand

open Cert.KernelIdeal
open Idealize.ShloMosaic

theorem off12_eq : ∀ (i : grid0.Coords) (t : Fin (k0_t1_loop i).trips), k0_off12 i t = ![512 * (2 * (pair1 i t + 0) + 1), 0] := by decide +kernel
theorem off13_eq : ∀ (i : grid0.Coords) (t : Fin (k0_t1_loop i).trips), k0_off13 i t = ![(decide (2 * (pair1 i t + 0) + 1 = (i 1).val)).toNat, 0, 0] := by decide +kernel
theorem off14_eq : ∀ (i : grid0.Coords) (t : Fin (k0_t1_loop i).trips), k0_off14 i t = ![512 * (2 * (pair1 i t + 0) + 1), 0] := by decide +kernel
theorem off15_eq : ∀ (i : grid0.Coords) (t : Fin (k0_t1_loop i).trips), k0_off15 i t = ![512 * (2 * (pair1 i t + 0)), 0] := by decide +kernel
theorem off16_eq : ∀ (i : grid0.Coords) (t : Fin (k0_t1_loop i).trips), k0_off16 i t = ![512 * (2 * (pair1 i t + 0)), 0] := by decide +kernel
theorem off17_eq : ∀ (i : grid0.Coords) (t : Fin (k0_t1_loop i).trips), k0_off17 i t = ![512 * (min (2 * (pair1 i t + 0) + 2) (i 1).val), 0] := by decide +kernel
theorem off18_eq : ∀ (i : grid0.Coords) (t : Fin (k0_t1_loop i).trips), k0_off18 i t = ![(decide (min (2 * (pair1 i t + 0) + 2) (i 1).val = (i 1).val)).toNat, 0, 0] := by decide +kernel
theorem off19_eq : ∀ (i : grid0.Coords) (t : Fin (k0_t1_loop i).trips), k0_off19 i t = ![512 * (min (2 * (pair1 i t + 0) + 2) (i 1).val), 0] := by decide +kernel
theorem off20_eq : ∀ (i : grid0.Coords) (t : Fin (k0_t1_loop i).trips), k0_off20 i t = ![512 * (2 * (pair1 i t + 1) + 1), 0] := by decide +kernel
theorem off21_eq : ∀ (i : grid0.Coords) (t : Fin (k0_t1_loop i).trips), k0_off21 i t = ![(decide (2 * (pair1 i t + 1) + 1 = (i 1).val)).toNat, 0, 0] := by decide +kernel
theorem off22_eq : ∀ (i : grid0.Coords) (t : Fin (k0_t1_loop i).trips), k0_off22 i t = ![512 * (2 * (pair1 i t + 1) + 1), 0] := by decide +kernel
theorem off23_eq : ∀ (i : grid0.Coords) (t : Fin (k0_t1_loop i).trips), k0_off23 i t = ![512 * (2 * (pair1 i t + 1)), 0] := by decide +kernel
theorem off24_eq : ∀ (i : grid0.Coords) (t : Fin (k0_t1_loop i).trips), k0_off24 i t = ![512 * (2 * (pair1 i t + 1)), 0] := by decide +kernel
theorem off25_eq : ∀ (i : grid0.Coords) (t : Fin (k0_t1_loop i).trips), k0_off25 i t = ![512 * (min (2 * (pair1 i t + 1) + 2) (i 1).val), 0] := by decide +kernel
theorem off26_eq : ∀ (i : grid0.Coords) (t : Fin (k0_t1_loop i).trips), k0_off26 i t = ![(decide (min (2 * (pair1 i t + 1) + 2) (i 1).val = (i 1).val)).toNat, 0, 0] := by decide +kernel
theorem off27_eq : ∀ (i : grid0.Coords) (t : Fin (k0_t1_loop i).trips), k0_off27 i t = ![512 * (min (2 * (pair1 i t + 1) + 2) (i 1).val), 0] := by decide +kernel
theorem off28_eq : ∀ (i : grid0.Coords) (t : Fin (k0_t1_loop i).trips), k0_off28 i t = ![512 * (2 * (pair1 i t + 2) + 1), 0] := by decide +kernel
theorem off29_eq : ∀ (i : grid0.Coords) (t : Fin (k0_t1_loop i).trips), k0_off29 i t = ![(decide (2 * (pair1 i t + 2) + 1 = (i 1).val)).toNat, 0, 0] := by decide +kernel
theorem off30_eq : ∀ (i : grid0.Coords) (t : Fin (k0_t1_loop i).trips), k0_off30 i t = ![512 * (2 * (pair1 i t + 2) + 1), 0] := by decide +kernel
theorem off31_eq : ∀ (i : grid0.Coords) (t : Fin (k0_t1_loop i).trips), k0_off31 i t = ![512 * (2 * (pair1 i t + 2)), 0] := by decide +kernel
theorem off32_eq : ∀ (i : grid0.Coords) (t : Fin (k0_t1_loop i).trips), k0_off32 i t = ![512 * (2 * (pair1 i t + 2)), 0] := by decide +kernel
theorem off33_eq : ∀ (i : grid0.Coords) (t : Fin (k0_t1_loop i).trips), k0_off33 i t = ![512 * (min (2 * (pair1 i t + 2) + 2) (i 1).val), 0] := by decide +kernel
theorem off34_eq : ∀ (i : grid0.Coords) (t : Fin (k0_t1_loop i).trips), k0_off34 i t = ![(decide (min (2 * (pair1 i t + 2) + 2) (i 1).val = (i 1).val)).toNat, 0, 0] := by decide +kernel
theorem off35_eq : ∀ (i : grid0.Coords) (t : Fin (k0_t1_loop i).trips), k0_off35 i t = ![512 * (min (2 * (pair1 i t + 2) + 2) (i 1).val), 0] := by decide +kernel
theorem off36_eq : ∀ (i : grid0.Coords) (t : Fin (k0_t1_loop i).trips), k0_off36 i t = ![512 * (2 * (pair1 i t + 3) + 1), 0] := by decide +kernel
theorem off37_eq : ∀ (i : grid0.Coords) (t : Fin (k0_t1_loop i).trips), k0_off37 i t = ![(decide (2 * (pair1 i t + 3) + 1 = (i 1).val)).toNat, 0, 0] := by decide +kernel
theorem off38_eq : ∀ (i : grid0.Coords) (t : Fin (k0_t1_loop i).trips), k0_off38 i t = ![512 * (2 * (pair1 i t + 3) + 1), 0] := by decide +kernel
theorem off39_eq : ∀ (i : grid0.Coords) (t : Fin (k0_t1_loop i).trips), k0_off39 i t = ![512 * (2 * (pair1 i t + 3)), 0] := by decide +kernel
theorem off40_eq : ∀ (i : grid0.Coords) (t : Fin (k0_t1_loop i).trips), k0_off40 i t = ![512 * (2 * (pair1 i t + 3)), 0] := by decide +kernel
theorem off41_eq : ∀ (i : grid0.Coords) (t : Fin (k0_t1_loop i).trips), k0_off41 i t = ![512 * (min (2 * (pair1 i t + 3) + 2) (i 1).val), 0] := by decide +kernel
theorem off42_eq : ∀ (i : grid0.Coords) (t : Fin (k0_t1_loop i).trips), k0_off42 i t = ![(decide (min (2 * (pair1 i t + 3) + 2) (i 1).val = (i 1).val)).toNat, 0, 0] := by decide +kernel
theorem off43_eq : ∀ (i : grid0.Coords) (t : Fin (k0_t1_loop i).trips), k0_off43 i t = ![512 * (min (2 * (pair1 i t + 3) + 2) (i 1).val), 0] := by decide +kernel

end Cert.KernelIdeal.Hand
-- ==== Proof.Off2.lean ====
/- The rows each access of a loop's trip goes to: the loop of eight pairs, its second half. -/
module

public import proofs.«01_k».proof.Proof.Off0

@[expose] public section

set_option maxRecDepth 16384

namespace Cert.KernelIdeal.Hand

open Cert.KernelIdeal
open Idealize.ShloMosaic

theorem off44_eq : ∀ (i : grid0.Coords) (t : Fin (k0_t1_loop i).trips), k0_off44 i t = ![512 * (2 * (pair1 i t + 4) + 1), 0] := by decide +kernel
theorem off45_eq : ∀ (i : grid0.Coords) (t : Fin (k0_t1_loop i).trips), k0_off45 i t = ![(decide (2 * (pair1 i t + 4) + 1 = (i 1).val)).toNat, 0, 0] := by decide +kernel
theorem off46_eq : ∀ (i : grid0.Coords) (t : Fin (k0_t1_loop i).trips), k0_off46 i t = ![512 * (2 * (pair1 i t + 4) + 1), 0] := by decide +kernel
theorem off47_eq : ∀ (i : grid0.Coords) (t : Fin (k0_t1_loop i).trips), k0_off47 i t = ![512 * (2 * (pair1 i t + 4)), 0] := by decide +kernel
theorem off48_eq : ∀ (i : grid0.Coords) (t : Fin (k0_t1_loop i).trips), k0_off48 i t = ![512 * (2 * (pair1 i t + 4)), 0] := by decide +kernel
theorem off49_eq : ∀ (i : grid0.Coords) (t : Fin (k0_t1_loop i).trips), k0_off49 i t = ![512 * (min (2 * (pair1 i t + 4) + 2) (i 1).val), 0] := by decide +kernel
theorem off50_eq : ∀ (i : grid0.Coords) (t : Fin (k0_t1_loop i).trips), k0_off50 i t = ![(decide (min (2 * (pair1 i t + 4) + 2) (i 1).val = (i 1).val)).toNat, 0, 0] := by decide +kernel
theorem off51_eq : ∀ (i : grid0.Coords) (t : Fin (k0_t1_loop i).trips), k0_off51 i t = ![512 * (min (2 * (pair1 i t + 4) + 2) (i 1).val), 0] := by decide +kernel
theorem off52_eq : ∀ (i : grid0.Coords) (t : Fin (k0_t1_loop i).trips), k0_off52 i t = ![512 * (2 * (pair1 i t + 5) + 1), 0] := by decide +kernel
theorem off53_eq : ∀ (i : grid0.Coords) (t : Fin (k0_t1_loop i).trips), k0_off53 i t = ![(decide (2 * (pair1 i t + 5) + 1 = (i 1).val)).toNat, 0, 0] := by decide +kernel
theorem off54_eq : ∀ (i : grid0.Coords) (t : Fin (k0_t1_loop i).trips), k0_off54 i t = ![512 * (2 * (pair1 i t + 5) + 1), 0] := by decide +kernel
theorem off55_eq : ∀ (i : grid0.Coords) (t : Fin (k0_t1_loop i).trips), k0_off55 i t = ![512 * (2 * (pair1 i t + 5)), 0] := by decide +kernel
theorem off56_eq : ∀ (i : grid0.Coords) (t : Fin (k0_t1_loop i).trips), k0_off56 i t = ![512 * (2 * (pair1 i t + 5)), 0] := by decide +kernel
theorem off57_eq : ∀ (i : grid0.Coords) (t : Fin (k0_t1_loop i).trips), k0_off57 i t = ![512 * (min (2 * (pair1 i t + 5) + 2) (i 1).val), 0] := by decide +kernel
theorem off58_eq : ∀ (i : grid0.Coords) (t : Fin (k0_t1_loop i).trips), k0_off58 i t = ![(decide (min (2 * (pair1 i t + 5) + 2) (i 1).val = (i 1).val)).toNat, 0, 0] := by decide +kernel
theorem off59_eq : ∀ (i : grid0.Coords) (t : Fin (k0_t1_loop i).trips), k0_off59 i t = ![512 * (min (2 * (pair1 i t + 5) + 2) (i 1).val), 0] := by decide +kernel
theorem off60_eq : ∀ (i : grid0.Coords) (t : Fin (k0_t1_loop i).trips), k0_off60 i t = ![512 * (2 * (pair1 i t + 6) + 1), 0] := by decide +kernel
theorem off61_eq : ∀ (i : grid0.Coords) (t : Fin (k0_t1_loop i).trips), k0_off61 i t = ![(decide (2 * (pair1 i t + 6) + 1 = (i 1).val)).toNat, 0, 0] := by decide +kernel
theorem off62_eq : ∀ (i : grid0.Coords) (t : Fin (k0_t1_loop i).trips), k0_off62 i t = ![512 * (2 * (pair1 i t + 6) + 1), 0] := by decide +kernel
theorem off63_eq : ∀ (i : grid0.Coords) (t : Fin (k0_t1_loop i).trips), k0_off63 i t = ![512 * (2 * (pair1 i t + 6)), 0] := by decide +kernel
theorem off64_eq : ∀ (i : grid0.Coords) (t : Fin (k0_t1_loop i).trips), k0_off64 i t = ![512 * (2 * (pair1 i t + 6)), 0] := by decide +kernel
theorem off65_eq : ∀ (i : grid0.Coords) (t : Fin (k0_t1_loop i).trips), k0_off65 i t = ![512 * (min (2 * (pair1 i t + 6) + 2) (i 1).val), 0] := by decide +kernel
theorem off66_eq : ∀ (i : grid0.Coords) (t : Fin (k0_t1_loop i).trips), k0_off66 i t = ![(decide (min (2 * (pair1 i t + 6) + 2) (i 1).val = (i 1).val)).toNat, 0, 0] := by decide +kernel
theorem off67_eq : ∀ (i : grid0.Coords) (t : Fin (k0_t1_loop i).trips), k0_off67 i t = ![512 * (min (2 * (pair1 i t + 6) + 2) (i 1).val), 0] := by decide +kernel
theorem off68_eq : ∀ (i : grid0.Coords) (t : Fin (k0_t1_loop i).trips), k0_off68 i t = ![512 * (2 * (pair1 i t + 7) + 1), 0] := by decide +kernel
theorem off69_eq : ∀ (i : grid0.Coords) (t : Fin (k0_t1_loop i).trips), k0_off69 i t = ![(decide (2 * (pair1 i t + 7) + 1 = (i 1).val)).toNat, 0, 0] := by decide +kernel
theorem off70_eq : ∀ (i : grid0.Coords) (t : Fin (k0_t1_loop i).trips), k0_off70 i t = ![512 * (2 * (pair1 i t + 7) + 1), 0] := by decide +kernel
theorem off71_eq : ∀ (i : grid0.Coords) (t : Fin (k0_t1_loop i).trips), k0_off71 i t = ![512 * (2 * (pair1 i t + 7)), 0] := by decide +kernel
theorem off72_eq : ∀ (i : grid0.Coords) (t : Fin (k0_t1_loop i).trips), k0_off72 i t = ![512 * (2 * (pair1 i t + 7)), 0] := by decide +kernel
theorem off73_eq : ∀ (i : grid0.Coords) (t : Fin (k0_t1_loop i).trips), k0_off73 i t = ![512 * (min (2 * (pair1 i t + 7) + 2) (i 1).val), 0] := by decide +kernel
theorem off74_eq : ∀ (i : grid0.Coords) (t : Fin (k0_t1_loop i).trips), k0_off74 i t = ![(decide (min (2 * (pair1 i t + 7) + 2) (i 1).val = (i 1).val)).toNat, 0, 0] := by decide +kernel
theorem off75_eq : ∀ (i : grid0.Coords) (t : Fin (k0_t1_loop i).trips), k0_off75 i t = ![512 * (min (2 * (pair1 i t + 7) + 2) (i 1).val), 0] := by decide +kernel

end Cert.KernelIdeal.Hand
-- ==== Proof.Off3.lean ====
/- The rows each access of a loop's trip goes to: the loops of four, two and one pairs. -/
module

public import proofs.«01_k».proof.Proof.Off0

@[expose] public section

set_option maxRecDepth 16384

namespace Cert.KernelIdeal.Hand

open Cert.KernelIdeal
open Idealize.ShloMosaic

theorem off140_eq : ∀ (i : grid0.Coords) (t : Fin (k0_t3_loop i).trips), k0_off140 i t = ![512 * (2 * (pair3 i t + 0) + 1), 0] := by decide +kernel
theorem off141_eq : ∀ (i : grid0.Coords) (t : Fin (k0_t3_loop i).trips), k0_off141 i t = ![(decide (2 * (pair3 i t + 0) + 1 = (i 1).val)).toNat, 0, 0] := by decide +kernel
theorem off142_eq : ∀ (i : grid0.Coords) (t : Fin (k0_t3_loop i).trips), k0_off142 i t = ![512 * (2 * (pair3 i t + 0) + 1), 0] := by decide +kernel
theorem off143_eq : ∀ (i : grid0.Coords) (t : Fin (k0_t3_loop i).trips), k0_off143 i t = ![512 * (2 * (pair3 i t + 0)), 0] := by decide +kernel
theorem off144_eq : ∀ (i : grid0.Coords) (t : Fin (k0_t3_loop i).trips), k0_off144 i t = ![512 * (2 * (pair3 i t + 0)), 0] := by decide +kernel
theorem off145_eq : ∀ (i : grid0.Coords) (t : Fin (k0_t3_loop i).trips), k0_off145 i t = ![512 * (min (2 * (pair3 i t + 0) + 2) (i 1).val), 0] := by decide +kernel
theorem off146_eq : ∀ (i : grid0.Coords) (t : Fin (k0_t3_loop i).trips), k0_off146 i t = ![(decide (min (2 * (pair3 i t + 0) + 2) (i 1).val = (i 1).val)).toNat, 0, 0] := by decide +kernel
theorem off147_eq : ∀ (i : grid0.Coords) (t : Fin (k0_t3_loop i).trips), k0_off147 i t = ![512 * (min (2 * (pair3 i t + 0) + 2) (i 1).val), 0] := by decide +kernel
theorem off148_eq : ∀ (i : grid0.Coords) (t : Fin (k0_t3_loop i).trips), k0_off148 i t = ![512 * (2 * (pair3 i t + 1) + 1), 0] := by decide +kernel
theorem off149_eq : ∀ (i : grid0.Coords) (t : Fin (k0_t3_loop i).trips), k0_off149 i t = ![(decide (2 * (pair3 i t + 1) + 1 = (i 1).val)).toNat, 0, 0] := by decide +kernel
theorem off150_eq : ∀ (i : grid0.Coords) (t : Fin (k0_t3_loop i).trips), k0_off150 i t = ![512 * (2 * (pair3 i t + 1) + 1), 0] := by decide +kernel
theorem off151_eq : ∀ (i : grid0.Coords) (t : Fin (k0_t3_loop i).trips), k0_off151 i t = ![512 * (2 * (pair3 i t + 1)), 0] := by decide +kernel
theorem off152_eq : ∀ (i : grid0.Coords) (t : Fin (k0_t3_loop i).trips), k0_off152 i t = ![512 * (2 * (pair3 i t + 1)), 0] := by decide +kernel
theorem off153_eq : ∀ (i : grid0.Coords) (t : Fin (k0_t3_loop i).trips), k0_off153 i t = ![512 * (min (2 * (pair3 i t + 1) + 2) (i 1).val), 0] := by decide +kernel
theorem off154_eq : ∀ (i : grid0.Coords) (t : Fin (k0_t3_loop i).trips), k0_off154 i t = ![(decide (min (2 * (pair3 i t + 1) + 2) (i 1).val = (i 1).val)).toNat, 0, 0] := by decide +kernel
theorem off155_eq : ∀ (i : grid0.Coords) (t : Fin (k0_t3_loop i).trips), k0_off155 i t = ![512 * (min (2 * (pair3 i t + 1) + 2) (i 1).val), 0] := by decide +kernel
theorem off156_eq : ∀ (i : grid0.Coords) (t : Fin (k0_t3_loop i).trips), k0_off156 i t = ![512 * (2 * (pair3 i t + 2) + 1), 0] := by decide +kernel
theorem off157_eq : ∀ (i : grid0.Coords) (t : Fin (k0_t3_loop i).trips), k0_off157 i t = ![(decide (2 * (pair3 i t + 2) + 1 = (i 1).val)).toNat, 0, 0] := by decide +kernel
theorem off158_eq : ∀ (i : grid0.Coords) (t : Fin (k0_t3_loop i).trips), k0_off158 i t = ![512 * (2 * (pair3 i t + 2) + 1), 0] := by decide +kernel
theorem off159_eq : ∀ (i : grid0.Coords) (t : Fin (k0_t3_loop i).trips), k0_off159 i t = ![512 * (2 * (pair3 i t + 2)), 0] := by decide +kernel
theorem off160_eq : ∀ (i : grid0.Coords) (t : Fin (k0_t3_loop i).trips), k0_off160 i t = ![512 * (2 * (pair3 i t + 2)), 0] := by decide +kernel
theorem off161_eq : ∀ (i : grid0.Coords) (t : Fin (k0_t3_loop i).trips), k0_off161 i t = ![512 * (min (2 * (pair3 i t + 2) + 2) (i 1).val), 0] := by decide +kernel
theorem off162_eq : ∀ (i : grid0.Coords) (t : Fin (k0_t3_loop i).trips), k0_off162 i t = ![(decide (min (2 * (pair3 i t + 2) + 2) (i 1).val = (i 1).val)).toNat, 0, 0] := by decide +kernel
theorem off163_eq : ∀ (i : grid0.Coords) (t : Fin (k0_t3_loop i).trips), k0_off163 i t = ![512 * (min (2 * (pair3 i t + 2) + 2) (i 1).val), 0] := by decide +kernel
theorem off164_eq : ∀ (i : grid0.Coords) (t : Fin (k0_t3_loop i).trips), k0_off164 i t = ![512 * (2 * (pair3 i t + 3) + 1), 0] := by decide +kernel
theorem off165_eq : ∀ (i : grid0.Coords) (t : Fin (k0_t3_loop i).trips), k0_off165 i t = ![(decide (2 * (pair3 i t + 3) + 1 = (i 1).val)).toNat, 0, 0] := by decide +kernel
theorem off166_eq : ∀ (i : grid0.Coords) (t : Fin (k0_t3_loop i).trips), k0_off166 i t = ![512 * (2 * (pair3 i t + 3) + 1), 0] := by decide +kernel
theorem off167_eq : ∀ (i : grid0.Coords) (t : Fin (k0_t3_loop i).trips), k0_off167 i t = ![512 * (2 * (pair3 i t + 3)), 0] := by decide +kernel
theorem off168_eq : ∀ (i : grid0.Coords) (t : Fin (k0_t3_loop i).trips), k0_off168 i t = ![512 * (2 * (pair3 i t + 3)), 0] := by decide +kernel
theorem off169_eq : ∀ (i : grid0.Coords) (t : Fin (k0_t3_loop i).trips), k0_off169 i t = ![512 * (min (2 * (pair3 i t + 3) + 2) (i 1).val), 0] := by decide +kernel
theorem off170_eq : ∀ (i : grid0.Coords) (t : Fin (k0_t3_loop i).trips), k0_off170 i t = ![(decide (min (2 * (pair3 i t + 3) + 2) (i 1).val = (i 1).val)).toNat, 0, 0] := by decide +kernel
theorem off171_eq : ∀ (i : grid0.Coords) (t : Fin (k0_t3_loop i).trips), k0_off171 i t = ![512 * (min (2 * (pair3 i t + 3) + 2) (i 1).val), 0] := by decide +kernel
theorem off204_eq : ∀ (i : grid0.Coords) (t : Fin (k0_t5_loop i).trips), k0_off204 i t = ![512 * (2 * (pair5 i t + 0) + 1), 0] := by decide +kernel
theorem off205_eq : ∀ (i : grid0.Coords) (t : Fin (k0_t5_loop i).trips), k0_off205 i t = ![(decide (2 * (pair5 i t + 0) + 1 = (i 1).val)).toNat, 0, 0] := by decide +kernel
theorem off206_eq : ∀ (i : grid0.Coords) (t : Fin (k0_t5_loop i).trips), k0_off206 i t = ![512 * (2 * (pair5 i t + 0) + 1), 0] := by decide +kernel
theorem off207_eq : ∀ (i : grid0.Coords) (t : Fin (k0_t5_loop i).trips), k0_off207 i t = ![512 * (2 * (pair5 i t + 0)), 0] := by decide +kernel
theorem off208_eq : ∀ (i : grid0.Coords) (t : Fin (k0_t5_loop i).trips), k0_off208 i t = ![512 * (2 * (pair5 i t + 0)), 0] := by decide +kernel
theorem off209_eq : ∀ (i : grid0.Coords) (t : Fin (k0_t5_loop i).trips), k0_off209 i t = ![512 * (min (2 * (pair5 i t + 0) + 2) (i 1).val), 0] := by decide +kernel
theorem off210_eq : ∀ (i : grid0.Coords) (t : Fin (k0_t5_loop i).trips), k0_off210 i t = ![(decide (min (2 * (pair5 i t + 0) + 2) (i 1).val = (i 1).val)).toNat, 0, 0] := by decide +kernel
theorem off211_eq : ∀ (i : grid0.Coords) (t : Fin (k0_t5_loop i).trips), k0_off211 i t = ![512 * (min (2 * (pair5 i t + 0) + 2) (i 1).val), 0] := by decide +kernel
theorem off212_eq : ∀ (i : grid0.Coords) (t : Fin (k0_t5_loop i).trips), k0_off212 i t = ![512 * (2 * (pair5 i t + 1) + 1), 0] := by decide +kernel
theorem off213_eq : ∀ (i : grid0.Coords) (t : Fin (k0_t5_loop i).trips), k0_off213 i t = ![(decide (2 * (pair5 i t + 1) + 1 = (i 1).val)).toNat, 0, 0] := by decide +kernel
theorem off214_eq : ∀ (i : grid0.Coords) (t : Fin (k0_t5_loop i).trips), k0_off214 i t = ![512 * (2 * (pair5 i t + 1) + 1), 0] := by decide +kernel
theorem off215_eq : ∀ (i : grid0.Coords) (t : Fin (k0_t5_loop i).trips), k0_off215 i t = ![512 * (2 * (pair5 i t + 1)), 0] := by decide +kernel
theorem off216_eq : ∀ (i : grid0.Coords) (t : Fin (k0_t5_loop i).trips), k0_off216 i t = ![512 * (2 * (pair5 i t + 1)), 0] := by decide +kernel
theorem off217_eq : ∀ (i : grid0.Coords) (t : Fin (k0_t5_loop i).trips), k0_off217 i t = ![512 * (min (2 * (pair5 i t + 1) + 2) (i 1).val), 0] := by decide +kernel
theorem off218_eq : ∀ (i : grid0.Coords) (t : Fin (k0_t5_loop i).trips), k0_off218 i t = ![(decide (min (2 * (pair5 i t + 1) + 2) (i 1).val = (i 1).val)).toNat, 0, 0] := by decide +kernel
theorem off219_eq : ∀ (i : grid0.Coords) (t : Fin (k0_t5_loop i).trips), k0_off219 i t = ![512 * (min (2 * (pair5 i t + 1) + 2) (i 1).val), 0] := by decide +kernel
theorem off236_eq : ∀ (i : grid0.Coords) (t : Fin (k0_t7_loop i).trips), k0_off236 i t = ![512 * (2 * (pair7 i t + 0) + 1), 0] := by decide +kernel
theorem off237_eq : ∀ (i : grid0.Coords) (t : Fin (k0_t7_loop i).trips), k0_off237 i t = ![(decide (2 * (pair7 i t + 0) + 1 = (i 1).val)).toNat, 0, 0] := by decide +kernel
theorem off238_eq : ∀ (i : grid0.Coords) (t : Fin (k0_t7_loop i).trips), k0_off238 i t = ![512 * (2 * (pair7 i t + 0) + 1), 0] := by decide +kernel
theorem off239_eq : ∀ (i : grid0.Coords) (t : Fin (k0_t7_loop i).trips), k0_off239 i t = ![512 * (2 * (pair7 i t + 0)), 0] := by decide +kernel
theorem off240_eq : ∀ (i : grid0.Coords) (t : Fin (k0_t7_loop i).trips), k0_off240 i t = ![512 * (2 * (pair7 i t + 0)), 0] := by decide +kernel
theorem off241_eq : ∀ (i : grid0.Coords) (t : Fin (k0_t7_loop i).trips), k0_off241 i t = ![512 * (min (2 * (pair7 i t + 0) + 2) (i 1).val), 0] := by decide +kernel
theorem off242_eq : ∀ (i : grid0.Coords) (t : Fin (k0_t7_loop i).trips), k0_off242 i t = ![(decide (min (2 * (pair7 i t + 0) + 2) (i 1).val = (i 1).val)).toNat, 0, 0] := by decide +kernel
theorem off243_eq : ∀ (i : grid0.Coords) (t : Fin (k0_t7_loop i).trips), k0_off243 i t = ![512 * (min (2 * (pair7 i t + 0) + 2) (i 1).val), 0] := by decide +kernel

end Cert.KernelIdeal.Hand
-- ==== Proof.Trips.lean ====
/- The trips of the loops over pairs of blocks: eight, four, two pairs and one. -/
module

public import proofs.«01_k».proof.Proof.TripProgs
public import proofs.«01_k».proof.Proof.Off1
public import proofs.«01_k».proof.Proof.Off2
public import proofs.«01_k».proof.Proof.Off3

@[expose] public section

set_option maxRecDepth 16384

noncomputable section

namespace Cert.KernelIdeal.Hand

open Cert.KernelIdeal Facts₀ Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable [Facts] {F : FTy → Type} [FloatOps F] [Named F]

local notation "𝕄" => MT nD τ sig Unit (Elt F) ℕ (Pipeline.UD sig nD τ) ℕ

variable (c : Dev nD) (M : Mems)
  {S13 : Finset (Idx (M.a13.view.loc (c : Thread nD τ)))} {f13 : Buf (Elt F) (M.a13.view.loc (c : Thread nD τ))}
  {S14 : Finset (Idx (M.a14.view.loc (c : Thread nD τ)))} {f14 : Buf (Elt F) (M.a14.view.loc (c : Thread nD τ))}

theorem pair1_le (i : grid0.Coords) (t : Fin (k0_t1_loop i).trips) : 2 * (pair1 i t + 7) + 1 ≤ (i 1).val := by
  have h := t.isLt
  have e := trips1_eq i
  unfold pair1
  omega

/-- A trip of eight pairs. -/
theorem wp_trip1 {X : Cx F} (i : grid0.Coords) (t : Fin (k0_t1_loop i).trips) (hi : X.i = (i 1).val) (hX : Has c M S13 f13 S14 f14 X (X.i + 1)) (σ : St F) :
    Own c M S13 f13 S14 f14 X (σ.pairs X (pair1 i t))
      ⊢ wp frame (wpE (defs₀ (F := F)) Variants.none (c : Thread nD τ) none) Set.univ (tripP1 M i t X.q X.dob)
          (fun _ => Own c M S13 f13 S14 f14 X (σ.pairs X (pair1 i t + 8))) := by
  have hle := pair1_le i t
  rw [← hi] at hle
  unfold tripP1
  refine wp_then c M (wp_pairP c M hX (σ.pairs X (pair1 i t + 0)) (pair1 i t + 0) (by omega) (off12_eq i t) (by rw [hi]; exact off13_eq i t) (off14_eq i t) (off15_eq i t) (off16_eq i t) (by rw [hi]; exact off17_eq i t) (by rw [hi]; exact off18_eq i t) (by rw [hi]; exact off19_eq i t)) ?_
  refine wp_then c M (wp_pairP c M hX (σ.pairs X (pair1 i t + 1)) (pair1 i t + 1) (by omega) (off20_eq i t) (by rw [hi]; exact off21_eq i t) (off22_eq i t) (off23_eq i t) (off24_eq i t) (by rw [hi]; exact off25_eq i t) (by rw [hi]; exact off26_eq i t) (by rw [hi]; exact off27_eq i t)) ?_
  refine wp_then c M (wp_pairP c M hX (σ.pairs X (pair1 i t + 2)) (pair1 i t + 2) (by omega) (off28_eq i t) (by rw [hi]; exact off29_eq i t) (off30_eq i t) (off31_eq i t) (off32_eq i t) (by rw [hi]; exact off33_eq i t) (by rw [hi]; exact off34_eq i t) (by rw [hi]; exact off35_eq i t)) ?_
  refine wp_then c M (wp_pairP c M hX (σ.pairs X (pair1 i t + 3)) (pair1 i t + 3) (by omega) (off36_eq i t) (by rw [hi]; exact off37_eq i t) (off38_eq i t) (off39_eq i t) (off40_eq i t) (by rw [hi]; exact off41_eq i t) (by rw [hi]; exact off42_eq i t) (by rw [hi]; exact off43_eq i t)) ?_
  refine wp_then c M (wp_pairP c M hX (σ.pairs X (pair1 i t + 4)) (pair1 i t + 4) (by omega) (off44_eq i t) (by rw [hi]; exact off45_eq i t) (off46_eq i t) (off47_eq i t) (off48_eq i t) (by rw [hi]; exact off49_eq i t) (by rw [hi]; exact off50_eq i t) (by rw [hi]; exact off51_eq i t)) ?_
  refine wp_then c M (wp_pairP c M hX (σ.pairs X (pair1 i t + 5)) (pair1 i t + 5) (by omega) (off52_eq i t) (by rw [hi]; exact off53_eq i t) (off54_eq i t) (off55_eq i t) (off56_eq i t) (by rw [hi]; exact off57_eq i t) (by rw [hi]; exact off58_eq i t) (by rw [hi]; exact off59_eq i t)) ?_
  refine wp_then c M (wp_pairP c M hX (σ.pairs X (pair1 i t + 6)) (pair1 i t + 6) (by omega) (off60_eq i t) (by rw [hi]; exact off61_eq i t) (off62_eq i t) (off63_eq i t) (off64_eq i t) (by rw [hi]; exact off65_eq i t) (by rw [hi]; exact off66_eq i t) (by rw [hi]; exact off67_eq i t)) ?_
  exact (wp_pairP c M hX (σ.pairs X (pair1 i t + 7)) (pair1 i t + 7) (by omega) (off68_eq i t) (by rw [hi]; exact off69_eq i t) (off70_eq i t) (off71_eq i t) (off72_eq i t) (by rw [hi]; exact off73_eq i t) (by rw [hi]; exact off74_eq i t) (by rw [hi]; exact off75_eq i t))

theorem pair3_le (i : grid0.Coords) (t : Fin (k0_t3_loop i).trips) : 2 * (pair3 i t + 3) + 1 ≤ (i 1).val := by
  have h := t.isLt
  have e := trips3_eq i
  unfold pair3
  omega

/-- A trip of four pairs. -/
theorem wp_trip3 {X : Cx F} (i : grid0.Coords) (t : Fin (k0_t3_loop i).trips) (hi : X.i = (i 1).val) (hX : Has c M S13 f13 S14 f14 X (X.i + 1)) (σ : St F) :
    Own c M S13 f13 S14 f14 X (σ.pairs X (pair3 i t))
      ⊢ wp frame (wpE (defs₀ (F := F)) Variants.none (c : Thread nD τ) none) Set.univ (tripP3 M i t X.q X.dob)
          (fun _ => Own c M S13 f13 S14 f14 X (σ.pairs X (pair3 i t + 4))) := by
  have hle := pair3_le i t
  rw [← hi] at hle
  unfold tripP3
  refine wp_then c M (wp_pairP c M hX (σ.pairs X (pair3 i t + 0)) (pair3 i t + 0) (by omega) (off140_eq i t) (by rw [hi]; exact off141_eq i t) (off142_eq i t) (off143_eq i t) (off144_eq i t) (by rw [hi]; exact off145_eq i t) (by rw [hi]; exact off146_eq i t) (by rw [hi]; exact off147_eq i t)) ?_
  refine wp_then c M (wp_pairP c M hX (σ.pairs X (pair3 i t + 1)) (pair3 i t + 1) (by omega) (off148_eq i t) (by rw [hi]; exact off149_eq i t) (off150_eq i t) (off151_eq i t) (off152_eq i t) (by rw [hi]; exact off153_eq i t) (by rw [hi]; exact off154_eq i t) (by rw [hi]; exact off155_eq i t)) ?_
  refine wp_then c M (wp_pairP c M hX (σ.pairs X (pair3 i t + 2)) (pair3 i t + 2) (by omega) (off156_eq i t) (by rw [hi]; exact off157_eq i t) (off158_eq i t) (off159_eq i t) (off160_eq i t) (by rw [hi]; exact off161_eq i t) (by rw [hi]; exact off162_eq i t) (by rw [hi]; exact off163_eq i t)) ?_
  exact (wp_pairP c M hX (σ.pairs X (pair3 i t + 3)) (pair3 i t + 3) (by omega) (off164_eq i t) (by rw [hi]; exact off165_eq i t) (off166_eq i t) (off167_eq i t) (off168_eq i t) (by rw [hi]; exact off169_eq i t) (by rw [hi]; exact off170_eq i t) (by rw [hi]; exact off171_eq i t))

theorem pair5_le (i : grid0.Coords) (t : Fin (k0_t5_loop i).trips) : 2 * (pair5 i t + 1) + 1 ≤ (i 1).val := by
  have h := t.isLt
  have e := trips5_eq i
  unfold pair5
  omega

/-- A trip of two pairs. -/
theorem wp_trip5 {X : Cx F} (i : grid0.Coords) (t : Fin (k0_t5_loop i).trips) (hi : X.i = (i 1).val) (hX : Has c M S13 f13 S14 f14 X (X.i + 1)) (σ : St F) :
    Own c M S13 f13 S14 f14 X (σ.pairs X (pair5 i t))
      ⊢ wp frame (wpE (defs₀ (F := F)) Variants.none (c : Thread nD τ) none) Set.univ (tripP5 M i t X.q X.dob)
          (fun _ => Own c M S13 f13 S14 f14 X (σ.pairs X (pair5 i t + 2))) := by
  have hle := pair5_le i t
  rw [← hi] at hle
  unfold tripP5
  refine wp_then c M (wp_pairP c M hX (σ.pairs X (pair5 i t + 0)) (pair5 i t + 0) (by omega) (off204_eq i t) (by rw [hi]; exact off205_eq i t) (off206_eq i t) (off207_eq i t) (off208_eq i t) (by rw [hi]; exact off209_eq i t) (by rw [hi]; exact off210_eq i t) (by rw [hi]; exact off211_eq i t)) ?_
  exact (wp_pairP c M hX (σ.pairs X (pair5 i t + 1)) (pair5 i t + 1) (by omega) (off212_eq i t) (by rw [hi]; exact off213_eq i t) (off214_eq i t) (off215_eq i t) (off216_eq i t) (by rw [hi]; exact off217_eq i t) (by rw [hi]; exact off218_eq i t) (by rw [hi]; exact off219_eq i t))

theorem pair7_le (i : grid0.Coords) (t : Fin (k0_t7_loop i).trips) : 2 * (pair7 i t + 0) + 1 ≤ (i 1).val := by
  have h := t.isLt
  have e := trips7_eq i
  unfold pair7
  omega

/-- A trip of one pair. -/
theorem wp_trip7 {X : Cx F} (i : grid0.Coords) (t : Fin (k0_t7_loop i).trips) (hi : X.i = (i 1).val) (hX : Has c M S13 f13 S14 f14 X (X.i + 1)) (σ : St F) :
    Own c M S13 f13 S14 f14 X (σ.pairs X (pair7 i t))
      ⊢ wp frame (wpE (defs₀ (F := F)) Variants.none (c : Thread nD τ) none) Set.univ (tripP7 M i t X.q X.dob)
          (fun _ => Own c M S13 f13 S14 f14 X (σ.pairs X (pair7 i t + 1))) := by
  have hle := pair7_le i t
  rw [← hi] at hle
  unfold tripP7
  exact (wp_pairP c M hX (σ.pairs X (pair7 i t + 0)) (pair7 i t + 0) (by omega) (off236_eq i t) (by rw [hi]; exact off237_eq i t) (off238_eq i t) (off239_eq i t) (off240_eq i t) (by rw [hi]; exact off241_eq i t) (by rw [hi]; exact off242_eq i t) (by rw [hi]; exact off243_eq i t))

end Cert.KernelIdeal.Hand

end
-- ==== Proof.Parts.lean ====
/- The two parts of the body that hold its loops, as the trips of pairs. -/
module

public import proofs.«01_k».proof.Proof.TripProgs

@[expose] public section

set_option maxRecDepth 16384

noncomputable section

namespace Cert.KernelIdeal.Hand

open Cert.KernelIdeal Facts₀ Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable [Facts] {F : FTy → Type} [FloatOps F] [Named F]

/-- What the part hands on: words of its index arithmetic. -/
def ret_part119 (arg1 : BitVec 32) (v84 : BitVec 32) (v101 : BitVec 32) (c0_i32_57 : BitVec 32) (c1_i32_58 : BitVec 32) (v104 : BitVec 32) : Σ' (v130 : BitVec 32) (c2_i32_73 : BitVec 32) (v131 : BitVec 32) (v136 : BitVec 32) (v138 : BitVec 32), BitVec 32 :=
  let v105 : BitVec 32 := Scalar.muli v104 c1_i32_58
  let v106 : BitVec 32 := Scalar.addi c0_i32_57 v105
  let c1_i32_59 : BitVec 32 := 1#32
  let c1_i32_60 : BitVec 32 := 1#32
  let c2_i32_61 : BitVec 32 := 2#32
  let v107 : BitVec 32 := Scalar.muli c2_i32_61 v101
  let c4_i32 : BitVec 32 := 4#32
  let v108 : BitVec 32 := Scalar.divsi v84 c4_i32
  let c0_i32_62 : BitVec 32 := 0#32
  let v109 : BitVec 1 := Scalar.cmpi .sgt v84 c0_i32_62
  let v110 : BitVec 32 := Scalar.extui v109
  let c0_i32_63 : BitVec 32 := 0#32
  let v111 : BitVec 1 := Scalar.cmpi .slt v84 c0_i32_63
  let v112 : BitVec 32 := Scalar.extui v111
  let v113 : BitVec 32 := Scalar.subi v110 v112
  let c0_i32_64 : BitVec 32 := 0#32
  let v114 : BitVec 1 := Scalar.cmpi .sgt c4_i32 c0_i32_64
  let v115 : BitVec 32 := Scalar.extui v114
  let c0_i32_65 : BitVec 32 := 0#32
  let v116 : BitVec 1 := Scalar.cmpi .slt c4_i32 c0_i32_65
  let v117 : BitVec 32 := Scalar.extui v116
  let v118 : BitVec 32 := Scalar.subi v115 v117
  let v119 : BitVec 1 := Scalar.cmpi .ne v113 v118
  let v120 : BitVec 32 := Scalar.remsi v84 c4_i32
  let c0_i32_66 : BitVec 32 := 0#32
  let v121 : BitVec 1 := Scalar.cmpi .ne v120 c0_i32_66
  let v122 : BitVec 1 := Scalar.andi v119 v121
  let c1_i32_67 : BitVec 32 := 1#32
  let v123 : BitVec 32 := Scalar.subi v108 c1_i32_67
  let v124 : BitVec 32 := Scalar.select v122 v123 v108
  let c0_i32_68 : BitVec 32 := 0#32
  let v125 : BitVec 32 := Scalar.subi v124 v107
  let v126 : BitVec 32 := Scalar.addi v107 v125
  let c1_i32_69 : BitVec 32 := 1#32
  let v127 : BitVec 32 := Scalar.divsi v125 c1_i32_69
  let v128 : BitVec 32 := Scalar.muli v127 c1_i32_69
  let v129 : BitVec 32 := Scalar.addi v107 v128
  let c1_i32_70 : BitVec 32 := 1#32
  let c1_i32_71 : BitVec 32 := 1#32
  let c2_i32_72 : BitVec 32 := 2#32
  let v130 : BitVec 32 := Scalar.muli c2_i32_72 v124
  let c2_i32_73 : BitVec 32 := 2#32
  let v131 : BitVec 32 := Scalar.divsi v84 c2_i32_73
  let c0_i32_74 : BitVec 32 := 0#32
  let v132 : BitVec 1 := Scalar.cmpi .sgt v84 c0_i32_74
  let v133 : BitVec 32 := Scalar.extui v132
  let c0_i32_75 : BitVec 32 := 0#32
  let v134 : BitVec 1 := Scalar.cmpi .slt v84 c0_i32_75
  let v135 : BitVec 32 := Scalar.extui v134
  let v136 : BitVec 32 := Scalar.subi v133 v135
  let c0_i32_76 : BitVec 32 := 0#32
  let v137 : BitVec 1 := Scalar.cmpi .sgt c2_i32_73 c0_i32_76
  let v138 : BitVec 32 := Scalar.extui v137
  let c0_i32_77 : BitVec 32 := 0#32
  let v139 : BitVec 1 := Scalar.cmpi .slt c2_i32_73 c0_i32_77
  let v140 : BitVec 32 := Scalar.extui v139
  ⟨v130, c2_i32_73, v131, v136, v138, v140⟩

theorem part119_eq (i : grid0.Coords) (arg2 : Memref sig .tc .vmem S1x512x256 .bf16) (harg2 : arg2.IsWhole) (arg3 : Memref sig .tc .vmem S512x128 .f32) (harg3 : arg3.IsWhole) (arg4 : Memref sig .tc .vmem S1x512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .hbm S4x16384x256 .bf16) (harg7 : arg7.IsWhole) (arg8 : Memref sig .tc .hbm S4x16384x128 .bf16) (harg8 : arg8.IsWhole) (arg9 : Memref sig .tc .vmem S1x512x256 .f32) (harg9 : arg9.IsWhole) (arg10 : Memref sig .tc .vmem S512x128 .bf16) (harg10 : arg10.IsWhole) (arg11 : Memref sig .tc .hbm S4x16384x256 .f32) (harg11 : arg11.IsWhole) (arg12 : Memref sig .tc .hbm S4x16384x128 .f32) (harg12 : arg12.IsWhole) (arg13 : Memref sig .tc .vmem S16384x256 .bf16) (harg13 : arg13.IsWhole) (arg14 : Memref sig .tc .vmem S16384x128 .bf16) (harg14 : arg14.IsWhole) (arg15 : Memref sig .tc .vmem S16384x256 .f32) (harg15 : arg15.IsWhole) (arg16 : Memref sig .tc .vmem S16384x128 .f32) (harg16 : arg16.IsWhole) (arg17 : Memref sig .tc .vmem S512x256 .f32) (harg17 : arg17.IsWhole) (arg18 : Memref sig .tc .vmem S512x128 .f32) (harg18 : arg18.IsWhole) (arg19 : Memref sig .tc .vmem S512x512 .f32) (harg19 : arg19.IsWhole) (arg20 : Memref sig .tc .vmem S512x512 .f32) (harg20 : arg20.IsWhole) (arg21 : Memref sig .tc .vmem S512x512 .f32) (harg21 : arg21.IsWhole) (arg22 : Memref sig .tc .vmem S512x512 .f32) (harg22 : arg22.IsWhole) (arg23 : Memref sig .tc .vmem S2x512x512 .f32) (harg23 : arg23.IsWhole) (arg24 : DmaSems sig S4) (arg1 : BitVec 32) (v26 : FVec F S512x128 .bf16) (v28 : FVec F S512x256 .bf16) (v84 : BitVec 32) (v101 : BitVec 32) (c0_i32_57 : BitVec 32) (c1_i32_58 : BitVec 32) (v104 : BitVec 32) :
    k0_part119 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg1 v26 v28 v84 v101 c0_i32_57 c1_i32_58 v104 = (do
      Scf.Loop.for (k0_t1_loop i) (k0_t1_ok i) ⟨⟩ fun t _ => tripP1 ⟨arg4, arg13, arg14, arg15, arg16, arg17, arg18, arg19, arg20, arg21, arg22, arg23⟩ i t v28 v26
      Scf.Loop.for (k0_t2_loop i) (k0_t2_ok i) ⟨⟩ fun t _ => tripP2 ⟨arg4, arg13, arg14, arg15, arg16, arg17, arg18, arg19, arg20, arg21, arg22, arg23⟩ i t v28 v26
      Scf.Loop.for (k0_t3_loop i) (k0_t3_ok i) ⟨⟩ fun t _ => tripP3 ⟨arg4, arg13, arg14, arg15, arg16, arg17, arg18, arg19, arg20, arg21, arg22, arg23⟩ i t v28 v26
      Scf.Loop.for (k0_t4_loop i) (k0_t4_ok i) ⟨⟩ fun t _ => tripP4 ⟨arg4, arg13, arg14, arg15, arg16, arg17, arg18, arg19, arg20, arg21, arg22, arg23⟩ i t v28 v26
      pure (ret_part119 arg1 v84 v101 c0_i32_57 c1_i32_58 v104)) := by
  sl_kernel_rfl

/-- What the part hands on: words of its index arithmetic. -/
def ret_part120 (arg1 : BitVec 32) (v84 : BitVec 32) (v130 : BitVec 32) (c2_i32_73 : BitVec 32) (v131 : BitVec 32) (v136 : BitVec 32) (v138 : BitVec 32) (v140 : BitVec 32) : Σ' (c2_i32_96 : BitVec 32), BitVec 1 :=
  let v141 : BitVec 32 := Scalar.subi v138 v140
  let v142 : BitVec 1 := Scalar.cmpi .ne v136 v141
  let v143 : BitVec 32 := Scalar.remsi v84 c2_i32_73
  let c0_i32_78 : BitVec 32 := 0#32
  let v144 : BitVec 1 := Scalar.cmpi .ne v143 c0_i32_78
  let v145 : BitVec 1 := Scalar.andi v142 v144
  let c1_i32_79 : BitVec 32 := 1#32
  let v146 : BitVec 32 := Scalar.subi v131 c1_i32_79
  let v147 : BitVec 32 := Scalar.select v145 v146 v131
  let c0_i32_80 : BitVec 32 := 0#32
  let v148 : BitVec 32 := Scalar.subi v147 v130
  let v149 : BitVec 32 := Scalar.addi v130 v148
  let c1_i32_81 : BitVec 32 := 1#32
  let v150 : BitVec 32 := Scalar.divsi v148 c1_i32_81
  let v151 : BitVec 32 := Scalar.muli v150 c1_i32_81
  let v152 : BitVec 32 := Scalar.addi v130 v151
  let c1_i32_82 : BitVec 32 := 1#32
  let c1_i32_83 : BitVec 32 := 1#32
  let c2_i32_84 : BitVec 32 := 2#32
  let v153 : BitVec 32 := Scalar.muli c2_i32_84 v147
  let c1_i32_85 : BitVec 32 := 1#32
  let v154 : BitVec 32 := Scalar.divsi v84 c1_i32_85
  let c0_i32_86 : BitVec 32 := 0#32
  let v155 : BitVec 1 := Scalar.cmpi .sgt v84 c0_i32_86
  let v156 : BitVec 32 := Scalar.extui v155
  let c0_i32_87 : BitVec 32 := 0#32
  let v157 : BitVec 1 := Scalar.cmpi .slt v84 c0_i32_87
  let v158 : BitVec 32 := Scalar.extui v157
  let v159 : BitVec 32 := Scalar.subi v156 v158
  let c0_i32_88 : BitVec 32 := 0#32
  let v160 : BitVec 1 := Scalar.cmpi .sgt c1_i32_85 c0_i32_88
  let v161 : BitVec 32 := Scalar.extui v160
  let c0_i32_89 : BitVec 32 := 0#32
  let v162 : BitVec 1 := Scalar.cmpi .slt c1_i32_85 c0_i32_89
  let v163 : BitVec 32 := Scalar.extui v162
  let v164 : BitVec 32 := Scalar.subi v161 v163
  let v165 : BitVec 1 := Scalar.cmpi .ne v159 v164
  let v166 : BitVec 32 := Scalar.remsi v84 c1_i32_85
  let c0_i32_90 : BitVec 32 := 0#32
  let v167 : BitVec 1 := Scalar.cmpi .ne v166 c0_i32_90
  let v168 : BitVec 1 := Scalar.andi v165 v167
  let c1_i32_91 : BitVec 32 := 1#32
  let v169 : BitVec 32 := Scalar.subi v154 c1_i32_91
  let v170 : BitVec 32 := Scalar.select v168 v169 v154
  let c0_i32_92 : BitVec 32 := 0#32
  let v171 : BitVec 32 := Scalar.subi v170 v153
  let v172 : BitVec 32 := Scalar.addi v153 v171
  let c1_i32_93 : BitVec 32 := 1#32
  let v173 : BitVec 32 := Scalar.divsi v171 c1_i32_93
  let v174 : BitVec 32 := Scalar.muli v173 c1_i32_93
  let v175 : BitVec 32 := Scalar.addi v153 v174
  let c1_i32_94 : BitVec 32 := 1#32
  let c1_i32_95 : BitVec 32 := 1#32
  let c2_i32_96 : BitVec 32 := 2#32
  let c0_i32_97 : BitVec 32 := 0#32
  let v176 : BitVec 1 := Scalar.cmpi .eq c2_i32_96 c0_i32_97
  ⟨c2_i32_96, v176⟩

theorem part120_eq (i : grid0.Coords) (arg2 : Memref sig .tc .vmem S1x512x256 .bf16) (harg2 : arg2.IsWhole) (arg3 : Memref sig .tc .vmem S512x128 .f32) (harg3 : arg3.IsWhole) (arg4 : Memref sig .tc .vmem S1x512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .hbm S4x16384x256 .bf16) (harg7 : arg7.IsWhole) (arg8 : Memref sig .tc .hbm S4x16384x128 .bf16) (harg8 : arg8.IsWhole) (arg9 : Memref sig .tc .vmem S1x512x256 .f32) (harg9 : arg9.IsWhole) (arg10 : Memref sig .tc .vmem S512x128 .bf16) (harg10 : arg10.IsWhole) (arg11 : Memref sig .tc .hbm S4x16384x256 .f32) (harg11 : arg11.IsWhole) (arg12 : Memref sig .tc .hbm S4x16384x128 .f32) (harg12 : arg12.IsWhole) (arg13 : Memref sig .tc .vmem S16384x256 .bf16) (harg13 : arg13.IsWhole) (arg14 : Memref sig .tc .vmem S16384x128 .bf16) (harg14 : arg14.IsWhole) (arg15 : Memref sig .tc .vmem S16384x256 .f32) (harg15 : arg15.IsWhole) (arg16 : Memref sig .tc .vmem S16384x128 .f32) (harg16 : arg16.IsWhole) (arg17 : Memref sig .tc .vmem S512x256 .f32) (harg17 : arg17.IsWhole) (arg18 : Memref sig .tc .vmem S512x128 .f32) (harg18 : arg18.IsWhole) (arg19 : Memref sig .tc .vmem S512x512 .f32) (harg19 : arg19.IsWhole) (arg20 : Memref sig .tc .vmem S512x512 .f32) (harg20 : arg20.IsWhole) (arg21 : Memref sig .tc .vmem S512x512 .f32) (harg21 : arg21.IsWhole) (arg22 : Memref sig .tc .vmem S512x512 .f32) (harg22 : arg22.IsWhole) (arg23 : Memref sig .tc .vmem S2x512x512 .f32) (harg23 : arg23.IsWhole) (arg24 : DmaSems sig S4) (arg1 : BitVec 32) (v26 : FVec F S512x128 .bf16) (v28 : FVec F S512x256 .bf16) (v84 : BitVec 32) (v130 : BitVec 32) (c2_i32_73 : BitVec 32) (v131 : BitVec 32) (v136 : BitVec 32) (v138 : BitVec 32) (v140 : BitVec 32) :
    k0_part120 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg1 v26 v28 v84 v130 c2_i32_73 v131 v136 v138 v140 = (do
      Scf.Loop.for (k0_t5_loop i) (k0_t5_ok i) ⟨⟩ fun t _ => tripP5 ⟨arg4, arg13, arg14, arg15, arg16, arg17, arg18, arg19, arg20, arg21, arg22, arg23⟩ i t v28 v26
      Scf.Loop.for (k0_t6_loop i) (k0_t6_ok i) ⟨⟩ fun t _ => tripP6 ⟨arg4, arg13, arg14, arg15, arg16, arg17, arg18, arg19, arg20, arg21, arg22, arg23⟩ i t v28 v26
      Scf.Loop.for (k0_t7_loop i) (k0_t7_ok i) ⟨⟩ fun t _ => tripP7 ⟨arg4, arg13, arg14, arg15, arg16, arg17, arg18, arg19, arg20, arg21, arg22, arg23⟩ i t v28 v26
      Scf.Loop.for (k0_t8_loop i) (k0_t8_ok i) ⟨⟩ fun t _ => tripP8 ⟨arg4, arg13, arg14, arg15, arg16, arg17, arg18, arg19, arg20, arg21, arg22, arg23⟩ i t v28 v26
      pure (ret_part120 arg1 v84 v130 c2_i32_73 v131 v136 v138 v140)) := by
  sl_kernel_rfl

end Cert.KernelIdeal.Hand

end
-- ==== Proof.Loops.lean ====
/- The loops over pairs of blocks: all the pairs of a grid point. -/
module

public import proofs.«01_k».proof.Proof.Trips
public import proofs.«01_k».proof.Proof.Parts

@[expose] public section

set_option maxRecDepth 16384

noncomputable section

namespace Cert.KernelIdeal.Hand

open Cert.KernelIdeal Facts₀ Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable [Facts] {F : FTy → Type} [FloatOps F] [Named F]

local notation "𝕄" => MT nD τ sig Unit (Elt F) ℕ (Pipeline.UD sig nD τ) ℕ

variable (c : Dev nD) (M : Mems)
  {S13 : Finset (Idx (M.a13.view.loc (c : Thread nD τ)))} {f13 : Buf (Elt F) (M.a13.view.loc (c : Thread nD τ))}
  {S14 : Finset (Idx (M.a14.view.loc (c : Thread nD τ)))} {f14 : Buf (Elt F) (M.a14.view.loc (c : Thread nD τ))}

/-- A loop over pairs of blocks, `size` of them a trip. -/
theorem wp_loop {X : Cx F} (σ : St F) (base size : ℕ) (L : Scf.Loop 32) (ok : L.OK) {β : Type}
    {body : Fin L.trips → PUnit → Prog (TpuEff nD τ sig (Elt F) Λ₀ .tc) PUnit} {k : PUnit → Prog (TpuEff nD τ sig (Elt F) Λ₀ .tc) β} {Q : β → sProp 𝕄}
    (htrip : ∀ t : Fin L.trips, Own c M S13 f13 S14 f14 X (σ.pairs X (base + size * t.val))
      ⊢ wp frame (wpE (defs₀ (F := F)) Variants.none (c : Thread nD τ) none) Set.univ (body t ⟨⟩)
          (fun _ => Own c M S13 f13 S14 f14 X (σ.pairs X (base + size * t.val + size))))
    (h : Own c M S13 f13 S14 f14 X (σ.pairs X (base + size * L.trips))
      ⊢ wp frame (wpE (defs₀ (F := F)) Variants.none (c : Thread nD τ) none) Set.univ (k ⟨⟩) Q) :
    Own c M S13 f13 S14 f14 X (σ.pairs X base)
      ⊢ wp frame (wpE (defs₀ (F := F)) Variants.none (c : Thread nD τ) none) Set.univ (Scf.Loop.for L ok ⟨⟩ body >>= k) Q := by
  rw [wp_bind]
  iintro H
  iapply (Scf.wp_for frame (wpE (defs₀ (F := F)) Variants.none (c : Thread nD τ) none) Set.univ L.lb L.ub L.st ok ⟨⟩ body
    (fun n _ => Own c M S13 f13 S14 f14 X (σ.pairs X (base + size * n))) (fun t _ => by
      show _ ⊢ wp _ _ _ _ (fun _ => Own c M S13 f13 S14 f14 X (σ.pairs X (base + size * (t.val + 1))))
      rw [Nat.mul_succ, ← Nat.add_assoc]
      exact htrip t))
  isplitl [H]
  · iexact H
  · iintro %acc H
    iapply h
    iexact H

/-- The part's loops take the state from pair `0` to pair `4 * (((i 1).val + 1) / 2 / 4)`. -/
theorem wp_part119 {X : Cx F} (σ : St F) (i : grid0.Coords) (arg2 : Memref sig .tc .vmem S1x512x256 .bf16) (harg2 : arg2.IsWhole) (arg3 : Memref sig .tc .vmem S512x128 .f32) (harg3 : arg3.IsWhole) (arg4 : Memref sig .tc .vmem S1x512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .hbm S4x16384x256 .bf16) (harg7 : arg7.IsWhole) (arg8 : Memref sig .tc .hbm S4x16384x128 .bf16) (harg8 : arg8.IsWhole) (arg9 : Memref sig .tc .vmem S1x512x256 .f32) (harg9 : arg9.IsWhole) (arg10 : Memref sig .tc .vmem S512x128 .bf16) (harg10 : arg10.IsWhole) (arg11 : Memref sig .tc .hbm S4x16384x256 .f32) (harg11 : arg11.IsWhole) (arg12 : Memref sig .tc .hbm S4x16384x128 .f32) (harg12 : arg12.IsWhole) (arg13 : Memref sig .tc .vmem S16384x256 .bf16) (harg13 : arg13.IsWhole) (arg14 : Memref sig .tc .vmem S16384x128 .bf16) (harg14 : arg14.IsWhole) (arg15 : Memref sig .tc .vmem S16384x256 .f32) (harg15 : arg15.IsWhole) (arg16 : Memref sig .tc .vmem S16384x128 .f32) (harg16 : arg16.IsWhole) (arg17 : Memref sig .tc .vmem S512x256 .f32) (harg17 : arg17.IsWhole) (arg18 : Memref sig .tc .vmem S512x128 .f32) (harg18 : arg18.IsWhole) (arg19 : Memref sig .tc .vmem S512x512 .f32) (harg19 : arg19.IsWhole) (arg20 : Memref sig .tc .vmem S512x512 .f32) (harg20 : arg20.IsWhole) (arg21 : Memref sig .tc .vmem S512x512 .f32) (harg21 : arg21.IsWhole) (arg22 : Memref sig .tc .vmem S512x512 .f32) (harg22 : arg22.IsWhole) (arg23 : Memref sig .tc .vmem S2x512x512 .f32) (harg23 : arg23.IsWhole) (arg24 : DmaSems sig S4) (arg1 : BitVec 32)   (v84 : BitVec 32) (v101 : BitVec 32) (c0_i32_57 : BitVec 32) (c1_i32_58 : BitVec 32) (v104 : BitVec 32)
    {S13 : Finset (Idx (arg13.view.loc (c : Thread nD τ)))} {f13 : Buf (Elt F) (arg13.view.loc (c : Thread nD τ))}
    {S14 : Finset (Idx (arg14.view.loc (c : Thread nD τ)))} {f14 : Buf (Elt F) (arg14.view.loc (c : Thread nD τ))}
    (hi : X.i = (i 1).val) (hX : Has c ⟨arg4, arg13, arg14, arg15, arg16, arg17, arg18, arg19, arg20, arg21, arg22, arg23⟩ S13 f13 S14 f14 X (X.i + 1)) :
    Own c ⟨arg4, arg13, arg14, arg15, arg16, arg17, arg18, arg19, arg20, arg21, arg22, arg23⟩ S13 f13 S14 f14 X (σ.pairs X (0))
      ⊢ wp frame (wpE (defs₀ (F := F)) Variants.none (c : Thread nD τ) none) Set.univ
          (k0_part119 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg1 X.dob X.q v84 v101 c0_i32_57 c1_i32_58 v104)
          (fun _ => Own c ⟨arg4, arg13, arg14, arg15, arg16, arg17, arg18, arg19, arg20, arg21, arg22, arg23⟩ S13 f13 S14 f14 X (σ.pairs X (4 * (((i 1).val + 1) / 2 / 4)))) := by
  rw [part119_eq]
  refine wp_loop c ⟨arg4, arg13, arg14, arg15, arg16, arg17, arg18, arg19, arg20, arg21, arg22, arg23⟩ σ (0) 8 (k0_t1_loop i) _ (fun t => by
    have h := wp_trip1 c ⟨arg4, arg13, arg14, arg15, arg16, arg17, arg18, arg19, arg20, arg21, arg22, arg23⟩ i t hi hX σ
    rw [show pair1 i t = 0 + 8 * t.val from by unfold pair1; omega] at h
    exact h) ?_
  rw [show 0 + 8 * (k0_t1_loop i).trips = 8 * (((i 1).val + 1) / 2 / 8) from by have e := trips1_eq i; omega]
  refine wp_loop c ⟨arg4, arg13, arg14, arg15, arg16, arg17, arg18, arg19, arg20, arg21, arg22, arg23⟩ σ (8 * (((i 1).val + 1) / 2 / 8)) 0 (k0_t2_loop i) _ (fun t => absurd t.isLt (by have e := trips2_eq i; omega)) ?_
  rw [show 8 * (((i 1).val + 1) / 2 / 8) + 0 * (k0_t2_loop i).trips = 8 * (((i 1).val + 1) / 2 / 8) from by have e := trips2_eq i; omega]
  refine wp_loop c ⟨arg4, arg13, arg14, arg15, arg16, arg17, arg18, arg19, arg20, arg21, arg22, arg23⟩ σ (8 * (((i 1).val + 1) / 2 / 8)) 4 (k0_t3_loop i) _ (fun t => by
    have h := wp_trip3 c ⟨arg4, arg13, arg14, arg15, arg16, arg17, arg18, arg19, arg20, arg21, arg22, arg23⟩ i t hi hX σ
    rw [show pair3 i t = 8 * (((i 1).val + 1) / 2 / 8) + 4 * t.val from by unfold pair3; omega] at h
    exact h) ?_
  rw [show 8 * (((i 1).val + 1) / 2 / 8) + 4 * (k0_t3_loop i).trips = 4 * (((i 1).val + 1) / 2 / 4) from by have e := trips3_eq i; omega]
  refine wp_loop c ⟨arg4, arg13, arg14, arg15, arg16, arg17, arg18, arg19, arg20, arg21, arg22, arg23⟩ σ (4 * (((i 1).val + 1) / 2 / 4)) 0 (k0_t4_loop i) _ (fun t => absurd t.isLt (by have e := trips4_eq i; omega)) ?_
  rw [show 4 * (((i 1).val + 1) / 2 / 4) + 0 * (k0_t4_loop i).trips = 4 * (((i 1).val + 1) / 2 / 4) from by have e := trips4_eq i; omega]
  rw [show (pure (ret_part119 arg1 v84 v101 c0_i32_57 c1_i32_58 v104) : Prog (TpuEff nD τ sig (Elt F) Λ₀ .tc) _) = .ret _ from rfl, wp_ret]
  iintro H
  imodintro
  iexact H

/-- The part's loops take the state from pair `4 * (((i 1).val + 1) / 2 / 4)` to pair `((i 1).val + 1) / 2`. -/
theorem wp_part120 {X : Cx F} (σ : St F) (i : grid0.Coords) (arg2 : Memref sig .tc .vmem S1x512x256 .bf16) (harg2 : arg2.IsWhole) (arg3 : Memref sig .tc .vmem S512x128 .f32) (harg3 : arg3.IsWhole) (arg4 : Memref sig .tc .vmem S1x512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .hbm S4x16384x256 .bf16) (harg7 : arg7.IsWhole) (arg8 : Memref sig .tc .hbm S4x16384x128 .bf16) (harg8 : arg8.IsWhole) (arg9 : Memref sig .tc .vmem S1x512x256 .f32) (harg9 : arg9.IsWhole) (arg10 : Memref sig .tc .vmem S512x128 .bf16) (harg10 : arg10.IsWhole) (arg11 : Memref sig .tc .hbm S4x16384x256 .f32) (harg11 : arg11.IsWhole) (arg12 : Memref sig .tc .hbm S4x16384x128 .f32) (harg12 : arg12.IsWhole) (arg13 : Memref sig .tc .vmem S16384x256 .bf16) (harg13 : arg13.IsWhole) (arg14 : Memref sig .tc .vmem S16384x128 .bf16) (harg14 : arg14.IsWhole) (arg15 : Memref sig .tc .vmem S16384x256 .f32) (harg15 : arg15.IsWhole) (arg16 : Memref sig .tc .vmem S16384x128 .f32) (harg16 : arg16.IsWhole) (arg17 : Memref sig .tc .vmem S512x256 .f32) (harg17 : arg17.IsWhole) (arg18 : Memref sig .tc .vmem S512x128 .f32) (harg18 : arg18.IsWhole) (arg19 : Memref sig .tc .vmem S512x512 .f32) (harg19 : arg19.IsWhole) (arg20 : Memref sig .tc .vmem S512x512 .f32) (harg20 : arg20.IsWhole) (arg21 : Memref sig .tc .vmem S512x512 .f32) (harg21 : arg21.IsWhole) (arg22 : Memref sig .tc .vmem S512x512 .f32) (harg22 : arg22.IsWhole) (arg23 : Memref sig .tc .vmem S2x512x512 .f32) (harg23 : arg23.IsWhole) (arg24 : DmaSems sig S4) (arg1 : BitVec 32)   (v84 : BitVec 32) (v130 : BitVec 32) (c2_i32_73 : BitVec 32) (v131 : BitVec 32) (v136 : BitVec 32) (v138 : BitVec 32) (v140 : BitVec 32)
    {S13 : Finset (Idx (arg13.view.loc (c : Thread nD τ)))} {f13 : Buf (Elt F) (arg13.view.loc (c : Thread nD τ))}
    {S14 : Finset (Idx (arg14.view.loc (c : Thread nD τ)))} {f14 : Buf (Elt F) (arg14.view.loc (c : Thread nD τ))}
    (hi : X.i = (i 1).val) (hX : Has c ⟨arg4, arg13, arg14, arg15, arg16, arg17, arg18, arg19, arg20, arg21, arg22, arg23⟩ S13 f13 S14 f14 X (X.i + 1)) :
    Own c ⟨arg4, arg13, arg14, arg15, arg16, arg17, arg18, arg19, arg20, arg21, arg22, arg23⟩ S13 f13 S14 f14 X (σ.pairs X (4 * (((i 1).val + 1) / 2 / 4)))
      ⊢ wp frame (wpE (defs₀ (F := F)) Variants.none (c : Thread nD τ) none) Set.univ
          (k0_part120 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg1 X.dob X.q v84 v130 c2_i32_73 v131 v136 v138 v140)
          (fun _ => Own c ⟨arg4, arg13, arg14, arg15, arg16, arg17, arg18, arg19, arg20, arg21, arg22, arg23⟩ S13 f13 S14 f14 X (σ.pairs X (((i 1).val + 1) / 2))) := by
  rw [part120_eq]
  refine wp_loop c ⟨arg4, arg13, arg14, arg15, arg16, arg17, arg18, arg19, arg20, arg21, arg22, arg23⟩ σ (4 * (((i 1).val + 1) / 2 / 4)) 2 (k0_t5_loop i) _ (fun t => by
    have h := wp_trip5 c ⟨arg4, arg13, arg14, arg15, arg16, arg17, arg18, arg19, arg20, arg21, arg22, arg23⟩ i t hi hX σ
    rw [show pair5 i t = 4 * (((i 1).val + 1) / 2 / 4) + 2 * t.val from by unfold pair5; omega] at h
    exact h) ?_
  rw [show 4 * (((i 1).val + 1) / 2 / 4) + 2 * (k0_t5_loop i).trips = 2 * (((i 1).val + 1) / 2 / 2) from by have e := trips5_eq i; omega]
  refine wp_loop c ⟨arg4, arg13, arg14, arg15, arg16, arg17, arg18, arg19, arg20, arg21, arg22, arg23⟩ σ (2 * (((i 1).val + 1) / 2 / 2)) 0 (k0_t6_loop i) _ (fun t => absurd t.isLt (by have e := trips6_eq i; omega)) ?_
  rw [show 2 * (((i 1).val + 1) / 2 / 2) + 0 * (k0_t6_loop i).trips = 2 * (((i 1).val + 1) / 2 / 2) from by have e := trips6_eq i; omega]
  refine wp_loop c ⟨arg4, arg13, arg14, arg15, arg16, arg17, arg18, arg19, arg20, arg21, arg22, arg23⟩ σ (2 * (((i 1).val + 1) / 2 / 2)) 1 (k0_t7_loop i) _ (fun t => by
    have h := wp_trip7 c ⟨arg4, arg13, arg14, arg15, arg16, arg17, arg18, arg19, arg20, arg21, arg22, arg23⟩ i t hi hX σ
    rw [show pair7 i t = 2 * (((i 1).val + 1) / 2 / 2) + 1 * t.val from by unfold pair7; omega] at h
    exact h) ?_
  rw [show 2 * (((i 1).val + 1) / 2 / 2) + 1 * (k0_t7_loop i).trips = ((i 1).val + 1) / 2 from by have e := trips7_eq i; omega]
  refine wp_loop c ⟨arg4, arg13, arg14, arg15, arg16, arg17, arg18, arg19, arg20, arg21, arg22, arg23⟩ σ (((i 1).val + 1) / 2) 0 (k0_t8_loop i) _ (fun t => absurd t.isLt (by have e := trips8_eq i; omega)) ?_
  rw [show ((i 1).val + 1) / 2 + 0 * (k0_t8_loop i).trips = ((i 1).val + 1) / 2 from by have e := trips8_eq i; omega]
  rw [show (pure (ret_part120 arg1 v84 v130 c2_i32_73 v131 v136 v138 v140) : Prog (TpuEff nD τ sig (Elt F) Λ₀ .tc) _) = .ret _ from rfl, wp_ret]
  iintro H
  imodintro
  iexact H

end Cert.KernelIdeal.Hand

end
-- ==== Proof.Blocks.lean ====
/- A grid point's blocks: from the first block's scores to the end of its loops. -/
module

public import proofs.«01_k».proof.Proof.Loops
public import proofs.«01_k».proof.Proof.Root

@[expose] public section

set_option maxRecDepth 16384

noncomputable section

namespace Cert.KernelIdeal.Hand

open Cert.KernelIdeal Facts₀ Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable [Facts] {F : FTy → Type} [FloatOps F] [Named F]

local notation "𝕄" => MT nD τ sig Unit (Elt F) ℕ (Pipeline.UD sig nD τ) ℕ

/-- The state a grid point's blocks start from: the first block's scores, no gradient of the queries yet. -/
def St.start (X : Cx F) (sb db : FVec F S512x512 .f32) (dk : FVec F S16384x256 .f32) (dv : FVec F S16384x128 .f32) : St F :=
  ⟨X.s 0, X.d 0, sb, db, zeroQ, dk, dv⟩

/-- The state after a grid point's blocks: its pairs, then the last block where the pairs leave one. -/
def St.done (X : Cx F) (σ : St F) : St F :=
  if X.i % 2 = 0 then (σ.pairs X ((X.i + 1) / 2)).grads X (σ.pairs X ((X.i + 1) / 2)).sa (σ.pairs X ((X.i + 1) / 2)).da X.i
  else σ.pairs X ((X.i + 1) / 2)

theorem cond3_iff : ∀ i : grid0.Coords, k0_cond3 i = 1#1 ↔ (i 1).val % 2 = 0 := by decide +kernel

variable (c : Dev nD)

/-- A run with its result, ahead of what is done with the result. -/
theorem wp_cps {α : Type} {H R : sProp 𝕄} {p : Prog (TpuEff nD τ sig (Elt F) Λ₀ .tc) α} {Q : α → sProp 𝕄}
    (h : H ⊢ wp frame (wpE (defs₀ (F := F)) Variants.none (c : Thread nD τ) none) Set.univ p (fun _ => R)) : H ⊢ iprop((∀ s, R -∗ Q s) -∗ wp frame (wpE (defs₀ (F := F)) Variants.none (c : Thread nD τ) none) Set.univ p Q) :=
  h.trans (wp_wand frame (wpE (defs₀ (F := F)) Variants.none (c : Thread nD τ) none) Set.univ)

/-- The program of a grid point from its first block on. -/
def restP (i : grid0.Coords) (arg2 : Memref sig .tc .vmem S1x512x256 .bf16) (harg2 : arg2.IsWhole) (arg3 : Memref sig .tc .vmem S512x128 .f32) (harg3 : arg3.IsWhole) (arg4 : Memref sig .tc .vmem S1x512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .hbm S4x16384x256 .bf16) (harg7 : arg7.IsWhole) (arg8 : Memref sig .tc .hbm S4x16384x128 .bf16) (harg8 : arg8.IsWhole) (arg9 : Memref sig .tc .vmem S1x512x256 .f32) (harg9 : arg9.IsWhole) (arg10 : Memref sig .tc .vmem S512x128 .bf16) (harg10 : arg10.IsWhole) (arg11 : Memref sig .tc .hbm S4x16384x256 .f32) (harg11 : arg11.IsWhole) (arg12 : Memref sig .tc .hbm S4x16384x128 .f32) (harg12 : arg12.IsWhole) (arg13 : Memref sig .tc .vmem S16384x256 .bf16) (harg13 : arg13.IsWhole) (arg14 : Memref sig .tc .vmem S16384x128 .bf16) (harg14 : arg14.IsWhole) (arg15 : Memref sig .tc .vmem S16384x256 .f32) (harg15 : arg15.IsWhole) (arg16 : Memref sig .tc .vmem S16384x128 .f32) (harg16 : arg16.IsWhole) (arg17 : Memref sig .tc .vmem S512x256 .f32) (harg17 : arg17.IsWhole) (arg18 : Memref sig .tc .vmem S512x128 .f32) (harg18 : arg18.IsWhole) (arg19 : Memref sig .tc .vmem S512x512 .f32) (harg19 : arg19.IsWhole) (arg20 : Memref sig .tc .vmem S512x512 .f32) (harg20 : arg20.IsWhole) (arg21 : Memref sig .tc .vmem S512x512 .f32) (harg21 : arg21.IsWhole) (arg22 : Memref sig .tc .vmem S512x512 .f32) (harg22 : arg22.IsWhole) (arg23 : Memref sig .tc .vmem S2x512x512 .f32) (harg23 : arg23.IsWhole) (arg24 : DmaSems sig S4) (r1 : BitVec 32) (dob : FVec F S512x128 .bf16) (q : FVec F S512x256 .bf16) (δ : FVec F S512x128 .f32) : Prog (TpuEff nD τ sig (Elt F) Λ₀ .tc) PUnit :=
  headP i ⟨arg4, arg13, arg14, arg15, arg16, arg17, arg18, arg19, arg20, arg21, arg22, arg23⟩ dob q δ >>= fun _ =>
  k0_part119 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 r1 dob q (ret_part118 r1).1 (ret_part118 r1).2.1 (ret_part118 r1).2.2.1 (ret_part118 r1).2.2.2.1 (ret_part118 r1).2.2.2.2 >>= fun s =>
  k0_part120 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 r1 dob q (ret_part118 r1).1 s.1 s.2.1 s.2.2.1 s.2.2.2.1 s.2.2.2.2.1 s.2.2.2.2.2 >>= fun _ =>
  tailP i ⟨arg4, arg13, arg14, arg15, arg16, arg17, arg18, arg19, arg20, arg21, arg22, arg23⟩ dob q arg9 arg11 arg12 harg15 harg16 arg24

theorem wp_restP {X : Cx F} (i : grid0.Coords) (arg2 : Memref sig .tc .vmem S1x512x256 .bf16) (harg2 : arg2.IsWhole) (arg3 : Memref sig .tc .vmem S512x128 .f32) (harg3 : arg3.IsWhole) (arg4 : Memref sig .tc .vmem S1x512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .hbm S4x16384x256 .bf16) (harg7 : arg7.IsWhole) (arg8 : Memref sig .tc .hbm S4x16384x128 .bf16) (harg8 : arg8.IsWhole) (arg9 : Memref sig .tc .vmem S1x512x256 .f32) (harg9 : arg9.IsWhole) (arg10 : Memref sig .tc .vmem S512x128 .bf16) (harg10 : arg10.IsWhole) (arg11 : Memref sig .tc .hbm S4x16384x256 .f32) (harg11 : arg11.IsWhole) (arg12 : Memref sig .tc .hbm S4x16384x128 .f32) (harg12 : arg12.IsWhole) (arg13 : Memref sig .tc .vmem S16384x256 .bf16) (harg13 : arg13.IsWhole) (arg14 : Memref sig .tc .vmem S16384x128 .bf16) (harg14 : arg14.IsWhole) (arg15 : Memref sig .tc .vmem S16384x256 .f32) (harg15 : arg15.IsWhole) (arg16 : Memref sig .tc .vmem S16384x128 .f32) (harg16 : arg16.IsWhole) (arg17 : Memref sig .tc .vmem S512x256 .f32) (harg17 : arg17.IsWhole) (arg18 : Memref sig .tc .vmem S512x128 .f32) (harg18 : arg18.IsWhole) (arg19 : Memref sig .tc .vmem S512x512 .f32) (harg19 : arg19.IsWhole) (arg20 : Memref sig .tc .vmem S512x512 .f32) (harg20 : arg20.IsWhole) (arg21 : Memref sig .tc .vmem S512x512 .f32) (harg21 : arg21.IsWhole) (arg22 : Memref sig .tc .vmem S512x512 .f32) (harg22 : arg22.IsWhole) (arg23 : Memref sig .tc .vmem S2x512x512 .f32) (harg23 : arg23.IsWhole) (arg24 : DmaSems sig S4)
    {S13 : Finset (Idx (arg13.view.loc (c : Thread nD τ)))} {f13 : Buf (Elt F) (arg13.view.loc (c : Thread nD τ))}
    {S14 : Finset (Idx (arg14.view.loc (c : Thread nD τ)))} {f14 : Buf (Elt F) (arg14.view.loc (c : Thread nD τ))}
    (hi : X.i = (i 1).val) (hX : Has c ⟨arg4, arg13, arg14, arg15, arg16, arg17, arg18, arg19, arg20, arg21, arg22, arg23⟩ S13 f13 S14 f14 X (X.i + 1)) (r1 : BitVec 32) (δ : FVec F S512x128 .f32) (hδ : X.delta = deltaSt δ)
    {x17 : FVec F S512x256 .f32} {x18 : FVec F S512x128 .f32} {x19 x20 x21 x22 : FVec F S512x512 .f32}
    {dk : FVec F S16384x256 .f32} {dv : FVec F S16384x128 .f32} {Q : PUnit → sProp 𝕄} :
    at_ c arg4 X.lse ⊢ iprop((arg13.view.loc (c : Thread nD τ) ↦[S13]{fullShare} f13) -∗ (arg14.view.loc (c : Thread nD τ) ↦[S14]{fullShare} f14)
      -∗ at_ c arg15 dk -∗ at_ c arg16 dv -∗ at_ c arg17 x17 -∗ at_ c arg18 x18
      -∗ at_ c arg19 x19 -∗ at_ c arg20 x20 -∗ at_ c arg21 x21 -∗ at_ c arg22 x22 -∗ at_ c arg23 X.bias
      -∗ (Own c ⟨arg4, arg13, arg14, arg15, arg16, arg17, arg18, arg19, arg20, arg21, arg22, arg23⟩ S13 f13 S14 f14 X ((St.start X x21 x22 dk dv).done X)
          -∗ wp frame (wpE (defs₀ (F := F)) Variants.none (c : Thread nD τ) none) Set.univ (lastP i ⟨arg4, arg13, arg14, arg15, arg16, arg17, arg18, arg19, arg20, arg21, arg22, arg23⟩ arg9 arg11 arg12 harg15 harg16 arg24) Q)
      -∗ wp frame (wpE (defs₀ (F := F)) Variants.none (c : Thread nD τ) none) Set.univ (restP i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 r1 X.dob X.q δ) Q) := by
  unfold restP
  simp only [wp_bind]
  iintro H4 H13 H14 H15 H16 H17 H18 H19 H20 H21 H22 H23 HK
  unfold headP
  iapply (load_full c) $$ H18; iintro H18
  iapply (store_full c) $$ H18; iintro H18
  iapply (load_full c) $$ H17; iintro H17
  iapply (store_full c) $$ H17; iintro H17
  rw [← hδ]
  iapply (wp_scoresP c ⟨arg4, arg13, arg14, arg15, arg16, arg17, arg18, arg19, arg20, arg21, arg22, arg23⟩ hX (j := 0) (by omega) (by rfl) (by rw [hi]; exact off11_eq i) (by rfl)) $$ H4 H13 H14 H18 H23 H19 H20
  iintro H4 H13 H14 H18 H23 H19 H20
  iapply (wp_cps c (wp_part119 c (St.start X x21 x22 dk dv) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 r1 _ _ _ _ _ hi hX)) $$ [H4 H13 H14 H15 H16 H17 H18 H19 H20 H21 H22 H23]
  · unfold Own
    isplitl [H4]; · iexact H4
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    iexact H23
  iintro %s HO
  iapply (wp_cps c (wp_part120 c (St.start X x21 x22 dk dv) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 r1 _ _ _ _ _ _ _ hi hX)) $$ HO
  iintro %s' HO
  rw [← hi]
  unfold tailP St.done
  by_cases h3 : k0_cond3 i = 1#1
  · have he : X.i % 2 = 0 := by rw [hi]; exact (cond3_iff i).mp h3
    rw [dif_pos h3, if_pos he]
    simp only [wp_bind]
    unfold Own
    icases HO with ⟨H4, H13, H14, H15, H16, H17, H18, H19, H20, H21, H22, H23⟩
    iapply (wp_gradsP c ⟨arg4, arg13, arg14, arg15, arg16, arg17, arg18, arg19, arg20, arg21, arg22, arg23⟩ hX (j := X.i) (by omega) ((St.start X x21 x22 dk dv).pairs X ((X.i + 1) / 2)) (by rw [hi]; exact off252_eq i) (by rw [hi]; exact off253_eq i)) $$ H13 H15 H16 H17 H19 H20
    iintro H13 H15 H16 H17 H19 H20
    iapply HK
    isplitl [H4]; · iexact H4
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    iexact H23
  · have he : ¬ X.i % 2 = 0 := by rw [hi]; exact fun h => h3 ((cond3_iff i).mpr h)
    rw [dif_neg h3, if_neg he]
    iapply HK $$ HO

end Cert.KernelIdeal.Hand

end
-- ==== Proof.Point.lean ====
/- One grid point of the call, whole: what it takes and what it leaves. -/
module

public import proofs.«01_k».proof.Proof.Ends
public import proofs.«01_k».proof.Proof.Blocks

@[expose] public section

set_option maxRecDepth 16384

noncomputable section

namespace Cert.KernelIdeal.Hand

open Cert.KernelIdeal Facts₀ Facts
open Idealize.ShloMosaic Idealize.ShloMosaic.TcCoe Idealize.ShloMosaic.Tactic Idealize.ShloMosaic.Transfers Idealize.ShloMosaic.ValueIdx
open Idealize.SL Idealize.SL.RA Idealize.SL.BI
open scoped Idealize.SL.BI
open Idealize.SL.BI.BIBase Idealize.SL.BI.Laws Idealize.SL.ProofMode Idealize.SL.Sem

variable [Facts] {F : FTy → Type} [FloatOps F] [Named F]

local notation "𝕄" => MT nD τ sig Unit (Elt F) ℕ (Pipeline.UD sig nD τ) ℕ

/-! ## The values -/

/-- The keys' and values' rows of a block. -/
def rowsK (x : FVec F S16384x256 .bf16) (j : ℕ) : FVec F S512x256 .bf16 :=
  if h : j < 32 then VecWindow.window x ![512 * j, 0] S512x256.size (inb_blk256 h) else constant S512x256 .bf16 0x0000#16
def rowsV (x : FVec F S16384x128 .bf16) (j : ℕ) : FVec F S512x128 .bf16 :=
  if h : j < 32 then VecWindow.window x ![512 * j, 0] S512x128.size (inb_blk128 h) else constant S512x128 .bf16 0x0000#16

/-- What a grid point's blocks are computed from: its index among the head's, the loaded blocks, the head's keys and values. -/
abbrev ptX (n : ℕ) (q : FVec F S1x512x256 .bf16) (o : FVec F S512x128 .f32) (lse : FVec F S1x512x128 .f32) (y g : FVec F S512x128 .f32)
    (K : FVec F S16384x256 .bf16) (V : FVec F S16384x128 .bf16) : Cx F :=
  ⟨n, qVal q, dobVal g y, lse, deltaSt (deltaVal g y o), biasAll, rowsK K, rowsV V⟩

/-- The state a grid point ends with, from the accumulators it starts with. -/
def ptDone (X : Cx F) (dk : FVec F S16384x256 .f32) (dv : FVec F S16384x128 .f32) : St F :=
  (St.start X (constant S512x512 .f32 0x00000000#32) (constant S512x512 .f32 0x00000000#32) dk dv).done X

/-- Two states that agree but for the odd blocks' buffers. -/
def Alike (σ σ' : St F) : Prop := σ.sa = σ'.sa ∧ σ.da = σ'.da ∧ σ.dq = σ'.dq ∧ σ.dk = σ'.dk ∧ σ.dv = σ'.dv

theorem Alike.pair {X : Cx F} {σ σ' : St F} (h : Alike σ σ') (p : ℕ) : Alike (σ.pair X p) (σ'.pair X p) := by
  obtain ⟨h1, h2, h3, h4, h5⟩ := h
  cases σ; cases σ'
  simp only at h1 h2 h3 h4 h5
  subst h1 h2 h3 h4 h5
  exact ⟨rfl, rfl, rfl, rfl, rfl⟩

theorem Alike.pairs {X : Cx F} {σ σ' : St F} (h : Alike σ σ') (n : ℕ) : Alike (σ.pairs X n) (σ'.pairs X n) := by
  induction n with
  | zero => exact h
  | succ n ih => exact ih.pair n

theorem Alike.done {X : Cx F} {σ σ' : St F} (h : Alike σ σ') : Alike (σ.done X) (σ'.done X) := by
  unfold St.done
  have hp := h.pairs (X := X) ((X.i + 1) / 2)
  by_cases e : X.i % 2 = 0
  · rw [if_pos e, if_pos e]
    generalize σ.pairs X ((X.i + 1) / 2) = τ₁ at hp ⊢
    generalize σ'.pairs X ((X.i + 1) / 2) = τ₂ at hp ⊢
    obtain ⟨h1, h2, h3, h4, h5⟩ := hp
    cases τ₁; cases τ₂
    simp only at h1 h2 h3 h4 h5
    subst h1 h2 h3 h4 h5
    exact ⟨rfl, rfl, rfl, rfl, rfl⟩
  · rw [if_neg e, if_neg e]
    exact hp

theorem ptDone_alike (X : Cx F) (a b : FVec F S512x512 .f32) (dk : FVec F S16384x256 .f32) (dv : FVec F S16384x128 .f32) :
    Alike ((St.start X a b dk dv).done X) (ptDone X dk dv) :=
  Alike.done ⟨rfl, rfl, rfl, rfl, rfl⟩

variable (c : Dev nD)

/-- Buffers held whole at a head's keys and values hold every block of them. -/
theorem has_whole {X : Cx F} (M : Mems) (K : FVec F S16384x256 .bf16) (V : FVec F S16384x128 .bf16) (hK : X.K = rowsK K) (hV : X.V = rowsV V) (n : ℕ) (hn : n ≤ 32) :
    Has c M M.a13.view.set (M.a13.view.rep K) M.a14.view.set (M.a14.view.rep V) X n := fun j hj => by
  have h : j < 32 := by omega
  refine ⟨h, ⟨View.setOn_subset_set _ _, ?_⟩, ⟨View.setOn_subset_set _ _, ?_⟩⟩
  · rw [hK]
    refine (View.readAt_rep_unit (Val := Elt F) M.a13.view K (inb_blk256 h) rfl (inb_blk256 h)).trans ?_
    unfold rowsK
    rw [dif_pos h]
  · rw [hV]
    refine (View.readAt_rep_unit (Val := Elt F) M.a14.view V (inb_blk128 h) rfl (inb_blk128 h)).trans ?_
    unfold rowsV
    rw [dif_pos h]

theorem first_sub13 (a13 : Memref sig .tc .vmem S16384x256 .bf16) (o : Fin 2 → ℕ) (ho : o = ![0, 0]) (inb : ∀ a, o a + S512x256.size a ≤ S16384x256.size a) :
    a13.view.setOn (Rect.unit (s := S16384x256) o S512x256.size inb).toLoadRect.set ⊆ (lo13 a13).view.set := by
  subst ho
  exact (View.set_slice a13.view (Rect.unit (s := S16384x256) ![0, 0] S512x256.size inb)).ge

theorem first_sub14 (a14 : Memref sig .tc .vmem S16384x128 .bf16) (o : Fin 2 → ℕ) (ho : o = ![0, 0]) (inb : ∀ a, o a + S512x128.size a ≤ S16384x128.size a) :
    a14.view.setOn (Rect.unit (s := S16384x128) o S512x128.size inb).toLoadRect.set ⊆ (lo14 a14).view.set := by
  subst ho
  exact (View.set_slice a14.view (Rect.unit (s := S16384x128) ![0, 0] S512x128.size inb)).ge

/-- The first rows alone hold the first block. -/
theorem has_first {X : Cx F} (M : Mems) (K : FVec F S16384x256 .bf16) (V : FVec F S16384x128 .bf16) (hK : X.K = rowsK K) (hV : X.V = rowsV V) :
    Has c M (lo13 M.a13).view.set (M.a13.view.rep K) (lo14 M.a14).view.set (M.a14.view.rep V) X 1 := fun j hj => by
  have h : j < 32 := by omega
  obtain rfl : j = 0 := by omega
  refine ⟨h, ⟨?_, ?_⟩, ⟨?_, ?_⟩⟩
  · exact first_sub13 M.a13 _ rfl _
  · rw [hK]
    refine (View.readAt_rep_unit (Val := Elt F) M.a13.view K (inb_blk256 h) rfl (inb_blk256 h)).trans ?_
    unfold rowsK
    rw [dif_pos h]
  · exact first_sub14 M.a14 _ rfl _
  · rw [hV]
    refine (View.readAt_rep_unit (Val := Elt F) M.a14.view V (inb_blk128 h) rfl (inb_blk128 h)).trans ?_
    unfold rowsV
    rw [dif_pos h]

/-! ## The run -/

/-- The buffers no grid point reads before it writes them. -/
def Spare (arg7 : Memref sig .tc .hbm S4x16384x256 .bf16) (arg8 : Memref sig .tc .hbm S4x16384x128 .bf16) (arg11 : Memref sig .tc .hbm S4x16384x256 .f32) (arg12 : Memref sig .tc .hbm S4x16384x128 .f32) (arg13 : Memref sig .tc .vmem S16384x256 .bf16) (arg14 : Memref sig .tc .vmem S16384x128 .bf16) (arg15 : Memref sig .tc .vmem S16384x256 .f32) (arg16 : Memref sig .tc .vmem S16384x128 .f32) (arg17 : Memref sig .tc .vmem S512x256 .f32) (arg18 : Memref sig .tc .vmem S512x128 .f32) (arg19 : Memref sig .tc .vmem S512x512 .f32) (arg20 : Memref sig .tc .vmem S512x512 .f32) (arg21 : Memref sig .tc .vmem S512x512 .f32) (arg22 : Memref sig .tc .vmem S512x512 .f32) (arg23 : Memref sig .tc .vmem S2x512x512 .f32) (arg24 : DmaSems sig S4) : sProp 𝕄 := iprop((∃ x : FVec F S512x256 .f32, at_ c arg17 x) ∗ (∃ x : FVec F S512x128 .f32, at_ c arg18 x) ∗ (∃ x : FVec F S512x512 .f32, at_ c arg19 x) ∗ (∃ x : FVec F S512x512 .f32, at_ c arg20 x) ∗ (∃ x : FVec F S512x512 .f32, at_ c arg21 x) ∗ (∃ x : FVec F S512x512 .f32, at_ c arg22 x))

set_option maxHeartbeats 1000000 in
/-- A grid point from its first block on. -/
theorem wp_after {X : Cx F} (i : grid0.Coords) (arg2 : Memref sig .tc .vmem S1x512x256 .bf16) (harg2 : arg2.IsWhole) (arg3 : Memref sig .tc .vmem S512x128 .f32) (harg3 : arg3.IsWhole) (arg4 : Memref sig .tc .vmem S1x512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .hbm S4x16384x256 .bf16) (harg7 : arg7.IsWhole) (arg8 : Memref sig .tc .hbm S4x16384x128 .bf16) (harg8 : arg8.IsWhole) (arg9 : Memref sig .tc .vmem S1x512x256 .f32) (harg9 : arg9.IsWhole) (arg10 : Memref sig .tc .vmem S512x128 .bf16) (harg10 : arg10.IsWhole) (arg11 : Memref sig .tc .hbm S4x16384x256 .f32) (harg11 : arg11.IsWhole) (arg12 : Memref sig .tc .hbm S4x16384x128 .f32) (harg12 : arg12.IsWhole) (arg13 : Memref sig .tc .vmem S16384x256 .bf16) (harg13 : arg13.IsWhole) (arg14 : Memref sig .tc .vmem S16384x128 .bf16) (harg14 : arg14.IsWhole) (arg15 : Memref sig .tc .vmem S16384x256 .f32) (harg15 : arg15.IsWhole) (arg16 : Memref sig .tc .vmem S16384x128 .f32) (harg16 : arg16.IsWhole) (arg17 : Memref sig .tc .vmem S512x256 .f32) (harg17 : arg17.IsWhole) (arg18 : Memref sig .tc .vmem S512x128 .f32) (harg18 : arg18.IsWhole) (arg19 : Memref sig .tc .vmem S512x512 .f32) (harg19 : arg19.IsWhole) (arg20 : Memref sig .tc .vmem S512x512 .f32) (harg20 : arg20.IsWhole) (arg21 : Memref sig .tc .vmem S512x512 .f32) (harg21 : arg21.IsWhole) (arg22 : Memref sig .tc .vmem S512x512 .f32) (harg22 : arg22.IsWhole) (arg23 : Memref sig .tc .vmem S2x512x512 .f32) (harg23 : arg23.IsWhole) (arg24 : DmaSems sig S4)
    {S13 : Finset (Idx (arg13.view.loc (c : Thread nD τ)))} {f13 : Buf (Elt F) (arg13.view.loc (c : Thread nD τ))}
    {S14 : Finset (Idx (arg14.view.loc (c : Thread nD τ)))} {f14 : Buf (Elt F) (arg14.view.loc (c : Thread nD τ))}
    (hi : X.i = (i 1).val) (hX : Has c ⟨arg4, arg13, arg14, arg15, arg16, arg17, arg18, arg19, arg20, arg21, arg22, arg23⟩ S13 f13 S14 f14 X (X.i + 1)) (r1 : BitVec 32) (δ : FVec F S512x128 .f32) (hδ : X.delta = deltaSt δ) (h : Fin 4) (hh : (i 0).val = h.val)
    {x9 : FVec F S1x512x256 .f32} {dk : FVec F S16384x256 .f32} {dv : FVec F S16384x128 .f32}
    {y11 : FVec F S4x16384x256 .f32} {y12 : FVec F S4x16384x128 .f32} {W : Waits sig Unit} {Q : PUnit → sProp 𝕄} :
    at_ c arg4 X.lse ⊢ iprop((arg13.view.loc (c : Thread nD τ) ↦[S13]{fullShare} f13) -∗ (arg14.view.loc (c : Thread nD τ) ↦[S14]{fullShare} f14)
      -∗ at_ c arg15 dk -∗ at_ c arg16 dv -∗ Spare c arg7 arg8 arg11 arg12 arg13 arg14 arg15 arg16 arg17 arg18 arg19 arg20 arg21 arg22 arg23 arg24 -∗ at_ c arg23 X.bias -∗ at_ c arg9 x9 -∗ at_ c arg11 y11 -∗ at_ c arg12 y12
      -∗ (if (i 1).val = 31 then iprop(semVal ((c : Thread nD τ), .dma (cell0 arg24)) 0 ∗ semVal ((c : Thread nD τ), .dma (cell1 arg24)) 0) else emp) -∗ owes (c : Thread nD τ) 0 W
      -∗ (∀ W', at_ c arg4 X.lse -∗ (arg13.view.loc (c : Thread nD τ) ↦[S13]{fullShare} f13) -∗ (arg14.view.loc (c : Thread nD τ) ↦[S14]{fullShare} f14)
          -∗ at_ c arg15 (ptDone X dk dv).dk -∗ at_ c arg16 (ptDone X dk dv).dv -∗ Spare c arg7 arg8 arg11 arg12 arg13 arg14 arg15 arg16 arg17 arg18 arg19 arg20 arg21 arg22 arg23 arg24 -∗ at_ c arg23 X.bias -∗ at_ c arg9 (dqOut (ptDone X dk dv).dq)
          -∗ at_ c arg11 (if (i 1).val = 31 then slabPut y11 h (ptDone X dk dv).dk else y11) -∗ at_ c arg12 (if (i 1).val = 31 then slabPut y12 h (ptDone X dk dv).dv else y12)
          -∗ (if (i 1).val = 31 then iprop(semVal ((c : Thread nD τ), .dma (cell0 arg24)) 0 ∗ semVal ((c : Thread nD τ), .dma (cell1 arg24)) 0) else emp) -∗ owes (c : Thread nD τ) 0 W' -∗ Q ⟨⟩)
      -∗ wp frame (wpE (defs₀ (F := F)) Variants.none (c : Thread nD τ) none) Set.univ (restP i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 r1 X.dob X.q δ) Q) := by
  iintro H4 H13 H14 H15 H16 HS H23 H9 H11 H12 Hs HO HK
  unfold Spare
  icases HS with ⟨⟨%x17, H17⟩, ⟨%x18, H18⟩, ⟨%x19, H19⟩, ⟨%x20, H20⟩, ⟨%x21, H21⟩, ⟨%x22, H22⟩⟩
  iapply (wp_restP c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 hi hX r1 δ hδ) $$ H4 H13 H14 H15 H16 H17 H18 H19 H20 H21 H22 H23
  obtain ⟨-, -, e3, e4, e5⟩ := ptDone_alike X x21 x22 dk dv
  unfold Own
  rw [e3, e4, e5]
  iintro ⟨H4, H13, H14, H15, H16, H17, H18, H19, H20, H21, H22, H23⟩
  iapply (wp_lastP c i ⟨arg4, arg13, arg14, arg15, arg16, arg17, arg18, arg19, arg20, arg21, arg22, arg23⟩ arg9 arg11 arg12 harg15 harg16 arg24 h hh) $$ H17 H9 H15 H16 H11 H12 Hs HO
  iintro %W' H17 H9 H15 H16 H11 H12 Hs HO
  iapply HK $$ %W' H4 H13 H14 H15 H16 [H17 H18 H19 H20 H21 H22] H23 H9 H11 H12 Hs HO
  isplitl [H17]; · iexists _; iexact H17
  isplitl [H18]; · iexists _; iexact H18
  isplitl [H19]; · iexists _; iexact H19
  isplitl [H20]; · iexists _; iexact H20
  isplitl [H21]; · iexists _; iexact H21
  iexists _; iexact H22

/-- What is held between grid points, before a head's point `n`: nothing known at its first, the rest of the keys and values in flight at its second. -/
def Scr (arg7 : Memref sig .tc .hbm S4x16384x256 .bf16) (arg8 : Memref sig .tc .hbm S4x16384x128 .bf16) (arg11 : Memref sig .tc .hbm S4x16384x256 .f32) (arg12 : Memref sig .tc .hbm S4x16384x128 .f32) (arg13 : Memref sig .tc .vmem S16384x256 .bf16) (arg14 : Memref sig .tc .vmem S16384x128 .bf16) (arg15 : Memref sig .tc .vmem S16384x256 .f32) (arg16 : Memref sig .tc .vmem S16384x128 .f32) (arg17 : Memref sig .tc .vmem S512x256 .f32) (arg18 : Memref sig .tc .vmem S512x128 .f32) (arg19 : Memref sig .tc .vmem S512x512 .f32) (arg20 : Memref sig .tc .vmem S512x512 .f32) (arg21 : Memref sig .tc .vmem S512x512 .f32) (arg22 : Memref sig .tc .vmem S512x512 .f32) (arg23 : Memref sig .tc .vmem S2x512x512 .f32) (arg24 : DmaSems sig S4) (k7 : FVec F S4x16384x256 .bf16) (v8 : FVec F S4x16384x128 .bf16) (n : ℕ) (h : Fin 4) (dk : FVec F S16384x256 .f32) (dv : FVec F S16384x128 .f32) : sProp 𝕄 :=
  if n = 0 then iprop(Landed c arg7 arg8 arg24 k7 v8 ∗ (∃ x, at_ c arg13 x) ∗ (∃ x, at_ c arg14 x) ∗ (∃ x, at_ c arg15 x) ∗ (∃ x, at_ c arg16 x) ∗ (∃ x, at_ c arg23 x))
  else if n = 1 then iprop(Flying c arg7 arg8 arg13 arg14 arg24 k7 v8 h
    ∗ (arg13.view.loc (c : Thread nD τ) ↦[(lo13 arg13).view.set]{fullShare} arg13.view.rep (headK k7 h))
    ∗ (arg14.view.loc (c : Thread nD τ) ↦[(lo14 arg14).view.set]{fullShare} arg14.view.rep (headV v8 h))
    ∗ at_ c arg15 dk ∗ at_ c arg16 dv ∗ at_ c arg23 biasAll)
  else iprop(Landed c arg7 arg8 arg24 k7 v8 ∗ at_ c arg13 (headK k7 h) ∗ at_ c arg14 (headV v8 h) ∗ at_ c arg15 dk ∗ at_ c arg16 dv ∗ at_ c arg23 biasAll)

/-- The accumulators a grid point starts from: nothing at a head's first. -/
def from256 (n : ℕ) (dk : FVec F S16384x256 .f32) : FVec F S16384x256 .f32 := if n = 0 then zero256 else dk
def from128 (n : ℕ) (dv : FVec F S16384x128 .f32) : FVec F S16384x128 .f32 := if n = 0 then zero128 else dv

theorem Scr_zero (arg7 : Memref sig .tc .hbm S4x16384x256 .bf16) (arg8 : Memref sig .tc .hbm S4x16384x128 .bf16) (arg11 : Memref sig .tc .hbm S4x16384x256 .f32) (arg12 : Memref sig .tc .hbm S4x16384x128 .f32) (arg13 : Memref sig .tc .vmem S16384x256 .bf16) (arg14 : Memref sig .tc .vmem S16384x128 .bf16) (arg15 : Memref sig .tc .vmem S16384x256 .f32) (arg16 : Memref sig .tc .vmem S16384x128 .f32) (arg17 : Memref sig .tc .vmem S512x256 .f32) (arg18 : Memref sig .tc .vmem S512x128 .f32) (arg19 : Memref sig .tc .vmem S512x512 .f32) (arg20 : Memref sig .tc .vmem S512x512 .f32) (arg21 : Memref sig .tc .vmem S512x512 .f32) (arg22 : Memref sig .tc .vmem S512x512 .f32) (arg23 : Memref sig .tc .vmem S2x512x512 .f32) (arg24 : DmaSems sig S4) (k7 : FVec F S4x16384x256 .bf16) (v8 : FVec F S4x16384x128 .bf16) (h : Fin 4) (dk : FVec F S16384x256 .f32) (dv : FVec F S16384x128 .f32) :
    Scr c arg7 arg8 arg11 arg12 arg13 arg14 arg15 arg16 arg17 arg18 arg19 arg20 arg21 arg22 arg23 arg24 k7 v8 0 h dk dv = iprop(Landed c arg7 arg8 arg24 k7 v8 ∗ (∃ x, at_ c arg13 x) ∗ (∃ x, at_ c arg14 x) ∗ (∃ x, at_ c arg15 x) ∗ (∃ x, at_ c arg16 x) ∗ (∃ x, at_ c arg23 x)) := by
  unfold Scr; rw [if_pos rfl]

theorem Scr_one (arg7 : Memref sig .tc .hbm S4x16384x256 .bf16) (arg8 : Memref sig .tc .hbm S4x16384x128 .bf16) (arg11 : Memref sig .tc .hbm S4x16384x256 .f32) (arg12 : Memref sig .tc .hbm S4x16384x128 .f32) (arg13 : Memref sig .tc .vmem S16384x256 .bf16) (arg14 : Memref sig .tc .vmem S16384x128 .bf16) (arg15 : Memref sig .tc .vmem S16384x256 .f32) (arg16 : Memref sig .tc .vmem S16384x128 .f32) (arg17 : Memref sig .tc .vmem S512x256 .f32) (arg18 : Memref sig .tc .vmem S512x128 .f32) (arg19 : Memref sig .tc .vmem S512x512 .f32) (arg20 : Memref sig .tc .vmem S512x512 .f32) (arg21 : Memref sig .tc .vmem S512x512 .f32) (arg22 : Memref sig .tc .vmem S512x512 .f32) (arg23 : Memref sig .tc .vmem S2x512x512 .f32) (arg24 : DmaSems sig S4) (k7 : FVec F S4x16384x256 .bf16) (v8 : FVec F S4x16384x128 .bf16) (h : Fin 4) (dk : FVec F S16384x256 .f32) (dv : FVec F S16384x128 .f32) :
    Scr c arg7 arg8 arg11 arg12 arg13 arg14 arg15 arg16 arg17 arg18 arg19 arg20 arg21 arg22 arg23 arg24 k7 v8 1 h dk dv = iprop(Flying c arg7 arg8 arg13 arg14 arg24 k7 v8 h
      ∗ (arg13.view.loc (c : Thread nD τ) ↦[(lo13 arg13).view.set]{fullShare} arg13.view.rep (headK k7 h))
      ∗ (arg14.view.loc (c : Thread nD τ) ↦[(lo14 arg14).view.set]{fullShare} arg14.view.rep (headV v8 h))
      ∗ at_ c arg15 dk ∗ at_ c arg16 dv ∗ at_ c arg23 biasAll) := by
  unfold Scr; rw [if_neg (by omega), if_pos rfl]

theorem Scr_more (arg7 : Memref sig .tc .hbm S4x16384x256 .bf16) (arg8 : Memref sig .tc .hbm S4x16384x128 .bf16) (arg11 : Memref sig .tc .hbm S4x16384x256 .f32) (arg12 : Memref sig .tc .hbm S4x16384x128 .f32) (arg13 : Memref sig .tc .vmem S16384x256 .bf16) (arg14 : Memref sig .tc .vmem S16384x128 .bf16) (arg15 : Memref sig .tc .vmem S16384x256 .f32) (arg16 : Memref sig .tc .vmem S16384x128 .f32) (arg17 : Memref sig .tc .vmem S512x256 .f32) (arg18 : Memref sig .tc .vmem S512x128 .f32) (arg19 : Memref sig .tc .vmem S512x512 .f32) (arg20 : Memref sig .tc .vmem S512x512 .f32) (arg21 : Memref sig .tc .vmem S512x512 .f32) (arg22 : Memref sig .tc .vmem S512x512 .f32) (arg23 : Memref sig .tc .vmem S2x512x512 .f32) (arg24 : DmaSems sig S4) (k7 : FVec F S4x16384x256 .bf16) (v8 : FVec F S4x16384x128 .bf16) (n : ℕ) (hn : 2 ≤ n) (h : Fin 4) (dk : FVec F S16384x256 .f32) (dv : FVec F S16384x128 .f32) :
    Scr c arg7 arg8 arg11 arg12 arg13 arg14 arg15 arg16 arg17 arg18 arg19 arg20 arg21 arg22 arg23 arg24 k7 v8 n h dk dv = iprop(Landed c arg7 arg8 arg24 k7 v8 ∗ at_ c arg13 (headK k7 h) ∗ at_ c arg14 (headV v8 h) ∗ at_ c arg15 dk ∗ at_ c arg16 dv ∗ at_ c arg23 biasAll) := by
  unfold Scr; rw [if_neg (by omega), if_neg (by omega)]

theorem body_first (i : grid0.Coords) (arg2 : Memref sig .tc .vmem S1x512x256 .bf16) (harg2 : arg2.IsWhole) (arg3 : Memref sig .tc .vmem S512x128 .f32) (harg3 : arg3.IsWhole) (arg4 : Memref sig .tc .vmem S1x512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .hbm S4x16384x256 .bf16) (harg7 : arg7.IsWhole) (arg8 : Memref sig .tc .hbm S4x16384x128 .bf16) (harg8 : arg8.IsWhole) (arg9 : Memref sig .tc .vmem S1x512x256 .f32) (harg9 : arg9.IsWhole) (arg10 : Memref sig .tc .vmem S512x128 .bf16) (harg10 : arg10.IsWhole) (arg11 : Memref sig .tc .hbm S4x16384x256 .f32) (harg11 : arg11.IsWhole) (arg12 : Memref sig .tc .hbm S4x16384x128 .f32) (harg12 : arg12.IsWhole) (arg13 : Memref sig .tc .vmem S16384x256 .bf16) (harg13 : arg13.IsWhole) (arg14 : Memref sig .tc .vmem S16384x128 .bf16) (harg14 : arg14.IsWhole) (arg15 : Memref sig .tc .vmem S16384x256 .f32) (harg15 : arg15.IsWhole) (arg16 : Memref sig .tc .vmem S16384x128 .f32) (harg16 : arg16.IsWhole) (arg17 : Memref sig .tc .vmem S512x256 .f32) (harg17 : arg17.IsWhole) (arg18 : Memref sig .tc .vmem S512x128 .f32) (harg18 : arg18.IsWhole) (arg19 : Memref sig .tc .vmem S512x512 .f32) (harg19 : arg19.IsWhole) (arg20 : Memref sig .tc .vmem S512x512 .f32) (harg20 : arg20.IsWhole) (arg21 : Memref sig .tc .vmem S512x512 .f32) (harg21 : arg21.IsWhole) (arg22 : Memref sig .tc .vmem S512x512 .f32) (harg22 : arg22.IsWhole) (arg23 : Memref sig .tc .vmem S2x512x512 .f32) (harg23 : arg23.IsWhole) (arg24 : DmaSems sig S4) (h1 : k0_cond1 i = 1#1) (h2 : ¬ k0_cond2 i = 1#1) :
    cc0_attn_bwd_0 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 = ((startP i h1 arg7 harg7 arg8 harg8 arg13 harg13 arg14 harg14 arg15 arg16 arg23 arg24 >>= fun _ => gateP i arg2 arg3 arg5 arg6 arg10 harg10)
      >>= fun r => restP i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 r.1 r.2.1 r.2.2.1 r.2.2.2) := by
  rw [root_eq, part116_eq, dif_pos h1]; unfold midP; rw [dif_neg h2]; rfl

theorem body_second (i : grid0.Coords) (arg2 : Memref sig .tc .vmem S1x512x256 .bf16) (harg2 : arg2.IsWhole) (arg3 : Memref sig .tc .vmem S512x128 .f32) (harg3 : arg3.IsWhole) (arg4 : Memref sig .tc .vmem S1x512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .hbm S4x16384x256 .bf16) (harg7 : arg7.IsWhole) (arg8 : Memref sig .tc .hbm S4x16384x128 .bf16) (harg8 : arg8.IsWhole) (arg9 : Memref sig .tc .vmem S1x512x256 .f32) (harg9 : arg9.IsWhole) (arg10 : Memref sig .tc .vmem S512x128 .bf16) (harg10 : arg10.IsWhole) (arg11 : Memref sig .tc .hbm S4x16384x256 .f32) (harg11 : arg11.IsWhole) (arg12 : Memref sig .tc .hbm S4x16384x128 .f32) (harg12 : arg12.IsWhole) (arg13 : Memref sig .tc .vmem S16384x256 .bf16) (harg13 : arg13.IsWhole) (arg14 : Memref sig .tc .vmem S16384x128 .bf16) (harg14 : arg14.IsWhole) (arg15 : Memref sig .tc .vmem S16384x256 .f32) (harg15 : arg15.IsWhole) (arg16 : Memref sig .tc .vmem S16384x128 .f32) (harg16 : arg16.IsWhole) (arg17 : Memref sig .tc .vmem S512x256 .f32) (harg17 : arg17.IsWhole) (arg18 : Memref sig .tc .vmem S512x128 .f32) (harg18 : arg18.IsWhole) (arg19 : Memref sig .tc .vmem S512x512 .f32) (harg19 : arg19.IsWhole) (arg20 : Memref sig .tc .vmem S512x512 .f32) (harg20 : arg20.IsWhole) (arg21 : Memref sig .tc .vmem S512x512 .f32) (harg21 : arg21.IsWhole) (arg22 : Memref sig .tc .vmem S512x512 .f32) (harg22 : arg22.IsWhole) (arg23 : Memref sig .tc .vmem S2x512x512 .f32) (harg23 : arg23.IsWhole) (arg24 : DmaSems sig S4) (h1 : ¬ k0_cond1 i = 1#1) (h2 : k0_cond2 i = 1#1) :
    cc0_attn_bwd_0 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 = ((finishP i h2 arg7 harg7 arg8 harg8 arg13 harg13 arg14 harg14 arg24 >>= fun _ => gateP i arg2 arg3 arg5 arg6 arg10 harg10)
      >>= fun r => restP i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 r.1 r.2.1 r.2.2.1 r.2.2.2) := by
  rw [root_eq, part116_eq, dif_neg h1]; unfold midP; rw [dif_pos h2]; rfl

theorem body_later (i : grid0.Coords) (arg2 : Memref sig .tc .vmem S1x512x256 .bf16) (harg2 : arg2.IsWhole) (arg3 : Memref sig .tc .vmem S512x128 .f32) (harg3 : arg3.IsWhole) (arg4 : Memref sig .tc .vmem S1x512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .hbm S4x16384x256 .bf16) (harg7 : arg7.IsWhole) (arg8 : Memref sig .tc .hbm S4x16384x128 .bf16) (harg8 : arg8.IsWhole) (arg9 : Memref sig .tc .vmem S1x512x256 .f32) (harg9 : arg9.IsWhole) (arg10 : Memref sig .tc .vmem S512x128 .bf16) (harg10 : arg10.IsWhole) (arg11 : Memref sig .tc .hbm S4x16384x256 .f32) (harg11 : arg11.IsWhole) (arg12 : Memref sig .tc .hbm S4x16384x128 .f32) (harg12 : arg12.IsWhole) (arg13 : Memref sig .tc .vmem S16384x256 .bf16) (harg13 : arg13.IsWhole) (arg14 : Memref sig .tc .vmem S16384x128 .bf16) (harg14 : arg14.IsWhole) (arg15 : Memref sig .tc .vmem S16384x256 .f32) (harg15 : arg15.IsWhole) (arg16 : Memref sig .tc .vmem S16384x128 .f32) (harg16 : arg16.IsWhole) (arg17 : Memref sig .tc .vmem S512x256 .f32) (harg17 : arg17.IsWhole) (arg18 : Memref sig .tc .vmem S512x128 .f32) (harg18 : arg18.IsWhole) (arg19 : Memref sig .tc .vmem S512x512 .f32) (harg19 : arg19.IsWhole) (arg20 : Memref sig .tc .vmem S512x512 .f32) (harg20 : arg20.IsWhole) (arg21 : Memref sig .tc .vmem S512x512 .f32) (harg21 : arg21.IsWhole) (arg22 : Memref sig .tc .vmem S512x512 .f32) (harg22 : arg22.IsWhole) (arg23 : Memref sig .tc .vmem S2x512x512 .f32) (harg23 : arg23.IsWhole) (arg24 : DmaSems sig S4) (h1 : ¬ k0_cond1 i = 1#1) (h2 : ¬ k0_cond2 i = 1#1) :
    cc0_attn_bwd_0 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 = (gateP i arg2 arg3 arg5 arg6 arg10 harg10
      >>= fun r => restP i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 r.1 r.2.1 r.2.2.1 r.2.2.2) := by
  rw [root_eq, part116_eq, dif_neg h1]; unfold midP; rw [dif_neg h2]; rfl

set_option maxHeartbeats 2000000 in
/-- One grid point. -/
theorem wp_point (i : grid0.Coords) (arg2 : Memref sig .tc .vmem S1x512x256 .bf16) (harg2 : arg2.IsWhole) (arg3 : Memref sig .tc .vmem S512x128 .f32) (harg3 : arg3.IsWhole) (arg4 : Memref sig .tc .vmem S1x512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .hbm S4x16384x256 .bf16) (harg7 : arg7.IsWhole) (arg8 : Memref sig .tc .hbm S4x16384x128 .bf16) (harg8 : arg8.IsWhole) (arg9 : Memref sig .tc .vmem S1x512x256 .f32) (harg9 : arg9.IsWhole) (arg10 : Memref sig .tc .vmem S512x128 .bf16) (harg10 : arg10.IsWhole) (arg11 : Memref sig .tc .hbm S4x16384x256 .f32) (harg11 : arg11.IsWhole) (arg12 : Memref sig .tc .hbm S4x16384x128 .f32) (harg12 : arg12.IsWhole) (arg13 : Memref sig .tc .vmem S16384x256 .bf16) (harg13 : arg13.IsWhole) (arg14 : Memref sig .tc .vmem S16384x128 .bf16) (harg14 : arg14.IsWhole) (arg15 : Memref sig .tc .vmem S16384x256 .f32) (harg15 : arg15.IsWhole) (arg16 : Memref sig .tc .vmem S16384x128 .f32) (harg16 : arg16.IsWhole) (arg17 : Memref sig .tc .vmem S512x256 .f32) (harg17 : arg17.IsWhole) (arg18 : Memref sig .tc .vmem S512x128 .f32) (harg18 : arg18.IsWhole) (arg19 : Memref sig .tc .vmem S512x512 .f32) (harg19 : arg19.IsWhole) (arg20 : Memref sig .tc .vmem S512x512 .f32) (harg20 : arg20.IsWhole) (arg21 : Memref sig .tc .vmem S512x512 .f32) (harg21 : arg21.IsWhole) (arg22 : Memref sig .tc .vmem S512x512 .f32) (harg22 : arg22.IsWhole) (arg23 : Memref sig .tc .vmem S2x512x512 .f32) (harg23 : arg23.IsWhole) (arg24 : DmaSems sig S4) (h : Fin 4) (hh : (i 0).val = h.val) (k7 : FVec F S4x16384x256 .bf16) (v8 : FVec F S4x16384x128 .bf16)
    {q : FVec F S1x512x256 .bf16} {o : FVec F S512x128 .f32} {lse : FVec F S1x512x128 .f32} {y g : FVec F S512x128 .f32} {x10 : FVec F S512x128 .bf16}
    {x9 : FVec F S1x512x256 .f32} {dk : FVec F S16384x256 .f32} {dv : FVec F S16384x128 .f32}
    {y11 : FVec F S4x16384x256 .f32} {y12 : FVec F S4x16384x128 .f32} {W : Waits sig Unit} {Q : PUnit → sProp 𝕄} {R : St F}
    (hR : ptDone (ptX (i 1).val q o lse y g (headK k7 h) (headV v8 h)) (from256 (i 1).val dk) (from128 (i 1).val dv) = R) :
    at_ c arg2 q ⊢ iprop(at_ c arg3 o -∗ at_ c arg4 lse -∗ at_ c arg5 y -∗ at_ c arg6 g -∗ at_ c arg9 x9 -∗ at_ c arg10 x10
      -∗ Scr c arg7 arg8 arg11 arg12 arg13 arg14 arg15 arg16 arg17 arg18 arg19 arg20 arg21 arg22 arg23 arg24 k7 v8 (i 1).val h dk dv -∗ Spare c arg7 arg8 arg11 arg12 arg13 arg14 arg15 arg16 arg17 arg18 arg19 arg20 arg21 arg22 arg23 arg24 -∗ at_ c arg11 y11 -∗ at_ c arg12 y12 -∗ owes (c : Thread nD τ) 0 W
      -∗ (∀ W', at_ c arg2 q -∗ at_ c arg3 o -∗ at_ c arg4 lse -∗ at_ c arg5 y -∗ at_ c arg6 g -∗ at_ c arg9 (dqOut R.dq) -∗ at_ c arg10 (dgateVal g y o)
          -∗ Scr c arg7 arg8 arg11 arg12 arg13 arg14 arg15 arg16 arg17 arg18 arg19 arg20 arg21 arg22 arg23 arg24 k7 v8 (if (i 1).val = 31 then 0 else (i 1).val + 1) h R.dk R.dv -∗ Spare c arg7 arg8 arg11 arg12 arg13 arg14 arg15 arg16 arg17 arg18 arg19 arg20 arg21 arg22 arg23 arg24
          -∗ at_ c arg11 (if (i 1).val = 31 then slabPut y11 h R.dk else y11) -∗ at_ c arg12 (if (i 1).val = 31 then slabPut y12 h R.dv else y12)
          -∗ owes (c : Thread nD τ) 0 W' -∗ Q ⟨⟩)
      -∗ wp frame (wpE (defs₀ (F := F)) Variants.none (c : Thread nD τ) none) Set.univ (cc0_attn_bwd_0 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24) Q) := by
  subst hR
  have hn : (i 1).val < 32 := (i 1).isLt
  have e1 := cond1_iff i
  have e2 := cond2_iff i
  by_cases h0 : (i 1).val = 0
  · have hc1 := e1.mpr h0
    have n31 : ¬ (i 1).val = 31 := by omega
    rw [body_first i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 hc1 (fun e => by have := e2.mp e; omega), if_neg n31, h0, Scr_zero, Scr_one]
    unfold from256 from128
    rw [if_pos rfl, if_pos rfl]
    simp only [wp_bind, if_neg (show ¬ (0 : ℕ) = 31 by omega)]
    iintro H2 H3 H4 H5 H6 H9 H10 ⟨HL, ⟨%x13, H13⟩, ⟨%x14, H14⟩, ⟨%x15, H15⟩, ⟨%x16, H16⟩, ⟨%x23, H23⟩⟩ HS H11 H12 HO HK
    iapply (wp_startP c i hc1 arg7 harg7 arg8 harg8 arg13 harg13 arg14 harg14 arg15 arg16 arg23 arg24 k7 v8 h hh) $$ HL H13 H14 H15 H16 H23 HO
    iintro HF H13 H14 H15 H16 H23 HO
    iapply (wp_gateP c i arg2 arg3 arg5 arg6 arg10 harg10) $$ H2 H3 H5 H6 H10
    iintro H2 H3 H5 H6 H10
    iapply (wp_after c (X := ptX 0 q o lse y g (headK k7 h) (headV v8 h)) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 h0.symm
      (has_first c ⟨arg4, arg13, arg14, arg15, arg16, arg17, arg18, arg19, arg20, arg21, arg22, arg23⟩ (headK k7 h) (headV v8 h) rfl rfl) (BitVec.ofNat 32 (i 1).val) (deltaVal g y o) rfl h hh) $$ H4 H13 H14 H15 H16 HS H23 H9 H11 H12 [] HO
    · rw [if_neg n31]; iempintro
    rw [if_neg n31, if_neg n31, if_neg n31]
    iintro %W' H4 H13 H14 H15 H16 HS H23 H9 H11 H12 Hs HO
    iapply HK $$ %W' H2 H3 H4 H5 H6 H9 H10 [HF H13 H14 H15 H16 H23] HS H11 H12 HO
    isplitl [HF]; · iexact HF
    isplitl [H13]; · iexact H13
    isplitl [H14]; · iexact H14
    isplitl [H15]; · iexact H15
    isplitl [H16]; · iexact H16
    iexact H23
  by_cases h1 : (i 1).val = 1
  · have hc2 := e2.mpr h1
    have n31 : ¬ (i 1).val = 31 := by omega
    rw [body_second i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 (fun e => h0 (e1.mp e)) hc2, if_neg n31, h1, Scr_one, Scr_more (n := 1 + 1) (hn := by omega)]
    unfold from256 from128
    rw [if_neg (by omega), if_neg (by omega)]
    simp only [wp_bind, if_neg (show ¬ (1 : ℕ) = 31 by omega)]
    iintro H2 H3 H4 H5 H6 H9 H10 ⟨HF, H13, H14, H15, H16, H23⟩ HS H11 H12 HO HK
    iapply (wp_finishP c i hc2 arg7 harg7 arg8 harg8 arg13 harg13 arg14 harg14 arg24 k7 v8 h) $$ HF H13 H14 HO
    iintro HF H13 H14 HO
    iapply (wp_gateP c i arg2 arg3 arg5 arg6 arg10 harg10) $$ H2 H3 H5 H6 H10
    iintro H2 H3 H5 H6 H10
    iapply (wp_after c (X := ptX 1 q o lse y g (headK k7 h) (headV v8 h)) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 h1.symm
      (has_whole c ⟨arg4, arg13, arg14, arg15, arg16, arg17, arg18, arg19, arg20, arg21, arg22, arg23⟩ (headK k7 h) (headV v8 h) rfl rfl _ (by show 1 + 1 ≤ 32; omega)) (BitVec.ofNat 32 (i 1).val) (deltaVal g y o) rfl h hh) $$ H4 H13 H14 H15 H16 HS H23 H9 H11 H12 [] HO
    · rw [if_neg n31]; iempintro
    rw [if_neg n31, if_neg n31, if_neg n31]
    iintro %W' H4 H13 H14 H15 H16 HS H23 H9 H11 H12 Hs HO
    iapply HK $$ %W' H2 H3 H4 H5 H6 H9 H10 [HF H13 H14 H15 H16 H23] HS H11 H12 HO
    isplitl [HF]; · iexact HF
    isplitl [H13]; · iexact H13
    isplitl [H14]; · iexact H14
    isplitl [H15]; · iexact H15
    isplitl [H16]; · iexact H16
    iexact H23
  · rw [body_later i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 (fun e => h0 (e1.mp e)) (fun e => h1 (e2.mp e)), Scr_more (n := (i 1).val) (hn := by omega)]
    unfold from256 from128
    rw [if_neg h0, if_neg h0]
    simp only [wp_bind]
    iintro H2 H3 H4 H5 H6 H9 H10 ⟨HL, H13, H14, H15, H16, H23⟩ HS H11 H12 HO HK
    iapply (wp_gateP c i arg2 arg3 arg5 arg6 arg10 harg10) $$ H2 H3 H5 H6 H10
    iintro H2 H3 H5 H6 H10
    unfold Landed
    icases HL with ⟨Hs0, Hs1, Hs2, Hs3, H7, H8⟩
    by_cases h31 : (i 1).val = 31
    · simp only [if_pos h31]
      rw [Scr_zero]
      iapply (wp_after c (X := ptX (i 1).val q o lse y g (headK k7 h) (headV v8 h)) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 rfl
        (has_whole c ⟨arg4, arg13, arg14, arg15, arg16, arg17, arg18, arg19, arg20, arg21, arg22, arg23⟩ (headK k7 h) (headV v8 h) rfl rfl _ (by show (i 1).val + 1 ≤ 32; omega)) (BitVec.ofNat 32 (i 1).val) (deltaVal g y o) rfl h hh) $$ H4 H13 H14 H15 H16 HS H23 H9 H11 H12 [Hs0 Hs1] HO
      · rw [if_pos h31]
        isplitl [Hs0]; · iexact Hs0
        iexact Hs1
      rw [if_pos h31, if_pos h31, if_pos h31]
      iintro %W' H4 H13 H14 H15 H16 HS H23 H9 H11 H12 ⟨Hs0, Hs1⟩ HO
      iapply HK $$ %W' H2 H3 H4 H5 H6 H9 H10 [Hs0 Hs1 Hs2 Hs3 H7 H8 H13 H14 H15 H16 H23] HS H11 H12 HO
      unfold Landed
      isplitl [Hs0 Hs1 Hs2 Hs3 H7 H8]
      · isplitl [Hs0]; · iexact Hs0
        isplitl [Hs1]; · iexact Hs1
        isplitl [Hs2]; · iexact Hs2
        isplitl [Hs3]; · iexact Hs3
        isplitl [H7]; · iexact H7
        iexact H8
      isplitl [H13]; · iexists _; iexact H13
      isplitl [H14]; · iexists _; iexact H14
      isplitl [H15]; · iexists _; iexact H15
      isplitl [H16]; · iexists _; iexact H16
      iexists _; iexact H23
    · simp only [if_neg h31]
      rw [Scr_more (n := (i 1).val + 1) (hn := by omega)]
      iapply (wp_after c (X := ptX (i 1).val q o lse y g (headK k7 h) (headV v8 h)) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 rfl
        (has_whole c ⟨arg4, arg13, arg14, arg15, arg16, arg17, arg18, arg19, arg20, arg21, arg22, arg23⟩ (headK k7 h) (headV v8 h) rfl rfl _ (by show (i 1).val + 1 ≤ 32; omega)) (BitVec.ofNat 32 (i 1).val) (deltaVal g y o) rfl h hh) $$ H4 H13 H14 H15 H16 HS H23 H9 H11 H12 [] HO
      · rw [if_neg h31]; iempintro
      rw [if_neg h31, if_neg h31, if_neg h31]
      iintro %W' H4 H13 H14 H15 H16 HS H23 H9 H11 H12 Hs HO
      iapply HK $$ %W' H2 H3 H4 H5 H6 H9 H10 [Hs0 Hs1 Hs2 Hs3 H7 H8 H13 H14 H15 H16 H23] HS H11 H12 HO
      unfold Landed
      isplitl [Hs0 Hs1 Hs2 Hs3 H7 H8]
      · isplitl [Hs0]; · iexact Hs0
        isplitl [Hs1]; · iexact Hs1
        isplitl [Hs2]; · iexact Hs2
        isplitl [Hs3]; · iexact Hs3
        isplitl [H7]; · iexact H7
        iexact H8
      isplitl [H13]; · iexact H13
      isplitl [H14]; · iexact H14
      isplitl [H15]; · iexact H15
      isplitl [H16]; · iexact H16
      iexact H23

end Cert.KernelIdeal.Hand

end
-- ==== Proof.Grid.lean ====
/- The call over its grid: what each point leaves, the data of the run, what the invariant is made of. -/
module

public import proofs.«01_k».proof.Proof.Point
public import proofs.«01_k».proof.Proof.Gen.KernelIdeal.Frame
public import Idealize.ShloMosaic.Lib.Pipeline.TableIdle
public import Idealize.ShloMosaic.Lib.Pipeline.FrameValue

@[expose] public section

set_option maxRecDepth 16384

noncomputable section

namespace Cert.KernelIdeal.Hand

open Cert.KernelIdeal Facts₀ Facts
open Idealize.ShloMosaic Idealize.ShloMosaic.TcCoe Idealize.ShloMosaic.Tactic Idealize.ShloMosaic.Transfers Idealize.ShloMosaic.ValueIdx
open Idealize.SL Idealize.SL.RA Idealize.SL.BI
open scoped Idealize.SL.BI
open Idealize.SL.BI.BIBase Idealize.SL.BI.Laws Idealize.SL.ProofMode Idealize.SL.Sem

variable [Facts] {F : FTy → Type} [FloatOps F] [Named F]

local notation "𝕄" => MT nD τ sig Unit (Elt F) ℕ (Pipeline.UD sig nD τ) ℕ

open Idealize.ShloMosaic.Pipeline (Dat Cfg Window BodyObligation)
open Cert.KernelIdeal.Gen

variable (m : (ℓ : Loc nD τ sig) → Buf (Elt F) ℓ) (ρ : Dev nD → PrngReg)

/-! ## The points -/

/-- The transfers' semaphores. -/
abbrev sems0 : DmaSems sig S4 := cc0_scratch11

theorem coords_val : ∀ t : Fin 128, (grid0.coords t 0).val = t.val / 32 ∧ (grid0.coords t 1).val = t.val % 32 := by decide

/-- The head a point works on. -/
def headOf (t : ℕ) : Fin 4 := ⟨t / 32 % 4, Nat.mod_lt _ (by omega)⟩

/-- The arrays the call finds. -/
def keys (c : Dev nD) : FVec F S4x16384x256 .bf16 := Gen.V m c main_arg1
def vals (c : Dev nD) : FVec F S4x16384x128 .bf16 := Gen.V m c main_arg2

/-- A point's blocks. -/
def blkQ (c : Dev nD) (t : Fin cfg0.N) : FVec F S1x512x256 .bf16 := Gen.iblk m c 0 t
def blkO (c : Dev nD) (t : Fin cfg0.N) : FVec F S512x128 .f32 := Gen.iblk m c 1 t
def blkL (c : Dev nD) (t : Fin cfg0.N) : FVec F S1x512x128 .f32 := Gen.iblk m c 2 t
def blkY (c : Dev nD) (t : Fin cfg0.N) : FVec F S512x128 .f32 := Gen.iblk m c 3 t
def blkG (c : Dev nD) (t : Fin cfg0.N) : FVec F S512x128 .f32 := Gen.iblk m c 4 t

/-- What a point's blocks of scores are computed from. -/
def ctxAt (c : Dev nD) (t : Fin cfg0.N) : Cx F :=
  ptX (t.val % 32) (blkQ m c t) (blkO m c t) (blkL m c t) (blkY m c t) (blkG m c t)
    (headK (keys m c) (headOf t.val)) (headV (vals m c) (headOf t.val))

/-- The state a point ends with. -/
def resAt (c : Dev nD) (t : Fin cfg0.N) (dk : FVec F S16384x256 .f32) (dv : FVec F S16384x128 .f32) : St F :=
  ptDone (ctxAt m c t) (from256 (t.val % 32) dk) (from128 (t.val % 32) dv)

/-- The two accumulators and the two results the points write themselves. -/
structure Accs (F : FTy → Type) where
  dk : FVec F S16384x256 .f32
  dv : FVec F S16384x128 .f32
  y11 : FVec F S4x16384x256 .f32
  y12 : FVec F S4x16384x128 .f32

/-- One point's step. -/
def accStep (c : Dev nD) (t : Fin cfg0.N) (a : Accs F) : Accs F where
  dk := (resAt m c t a.dk a.dv).dk
  dv := (resAt m c t a.dk a.dv).dv
  y11 := if t.val % 32 = 31 then slabPut a.y11 (headOf t.val) (resAt m c t a.dk a.dv).dk else a.y11
  y12 := if t.val % 32 = 31 then slabPut a.y12 (headOf t.val) (resAt m c t a.dk a.dv).dv else a.y12

/-- After the first `n` points. -/
def accs (c : Dev nD) : ℕ → Accs F
  | 0 => ⟨zero256, zero128, Gen.V m c main_v34_2, Gen.V m c main_v34_3⟩
  | n + 1 => if h : n < cfg0.N then accStep m c ⟨n, h⟩ (accs c n) else accs c n

theorem accs_succ (c : Dev nD) (t : Fin cfg0.N) : accs m c (t.val + 1) = accStep m c t (accs m c t.val) := by
  rw [accs, dif_pos t.isLt]

/-- The state after point `t`. -/
def doneAt (c : Dev nD) (t : Fin cfg0.N) : St F := resAt m c t (accs m c t.val).dk (accs m c t.val).dv

/-! ## The run's data -/

/-- What is held between points. -/
def inv (c : Dev nD) (n : ℕ) : sProp 𝕄 := iprop(
  Scr c (Memref.whole main_arg1) (Memref.whole main_arg2) (Memref.whole main_v34_2) (Memref.whole main_v34_3) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) (Memref.whole cc0_scratch9) (Memref.whole cc0_scratch10) sems0 (keys m c) (vals m c) (n % 32) (headOf n) (accs m c n).dk (accs m c n).dv
  ∗ Spare c (Memref.whole main_arg1) (Memref.whole main_arg2) (Memref.whole main_v34_2) (Memref.whole main_v34_3) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) (Memref.whole cc0_scratch9) (Memref.whole cc0_scratch10) sems0
  ∗ at_ c (Memref.whole main_v34_2) (accs m c n).y11 ∗ at_ c (Memref.whole main_v34_3) (accs m c n).y12 ∗ (∃ r, prngReg c r))

/-- The proof data of the call. -/
def dats (_ : Fin 1) (c : Dev nD) : Dat τ (Elt F) Unit ℕ (Pipeline.UD sig nD τ) ℕ cfg0 c where
  A w := Gen.V m c (Pipeline.arrRef spec0 w)
  after w t := match w with
    | ⟨0, _⟩ => Gen.iblk m c 0 t
    | ⟨1, _⟩ => Gen.iblk m c 1 t
    | ⟨2, _⟩ => Gen.iblk m c 2 t
    | ⟨3, _⟩ => Gen.iblk m c 3 t
    | ⟨4, _⟩ => Gen.iblk m c 4 t
    | ⟨5, _⟩ => (dqOut (doneAt m c t).dq : FVec F S1x512x256 .f32)
    | ⟨6, _⟩ => (dgateVal (blkG m c t) (blkY m c t) (blkO m c t) : FVec F S512x128 .bf16)
  Φ t := inv m c t.val
  q _ := fullShare
  owed _ := 0

theorem A_eq (c : Dev nD) (w : Fin cfg0.W) : (dats m 0 c).A w = Gen.V m c (Pipeline.arrRef spec0 w) := by
  dsimp only [dats]
theorem Phi_eq (c : Dev nD) (t : Fin (cfg0.N + 1)) : (dats m 0 c).Φ t = inv m c t.val := by dsimp only [dats]
theorem after0_0 (c : Dev nD) (t : Fin cfg0.N) : (dats m 0 c).after 0 t = Gen.iblk m c 0 t := rfl
theorem after0_1 (c : Dev nD) (t : Fin cfg0.N) : (dats m 0 c).after 1 t = Gen.iblk m c 1 t := rfl
theorem after0_2 (c : Dev nD) (t : Fin cfg0.N) : (dats m 0 c).after 2 t = Gen.iblk m c 2 t := rfl
theorem after0_3 (c : Dev nD) (t : Fin cfg0.N) : (dats m 0 c).after 3 t = Gen.iblk m c 3 t := rfl
theorem after0_4 (c : Dev nD) (t : Fin cfg0.N) : (dats m 0 c).after 4 t = Gen.iblk m c 4 t := rfl
theorem after0_5 (c : Dev nD) (t : Fin cfg0.N) : (dats m 0 c).after 5 t = (dqOut (doneAt m c t).dq : FVec F S1x512x256 .f32) := rfl
theorem after0_6 (c : Dev nD) (t : Fin cfg0.N) : (dats m 0 c).after 6 t = (dgateVal (blkG m c t) (blkY m c t) (blkO m c t) : FVec F S512x128 .bf16) := rfl

/-- A whole buffer's contents. -/
theorem at_whole (c : Dev nD) (b : Ref sig .tc) (x : b.ty.shape.Idx → Elt F b.ty.elt) :
    (at_ c (Memref.whole b) x : sProp 𝕄) = (((c : Thread nD τ).loc b) ↦{fullShare} x) :=
  (owns_eq_rep (c : Thread nD τ) (Memref.whole b) fullShare x).symm.trans (owns_whole (c : Thread nD τ) b fullShare x)

theorem before0_0 (c : Dev nD) (t : Fin cfg0.N) (d) : (dats m 0 c).before 0 t d = Gen.iblk m c 0 t :=
  ((dats m 0 c).before_in_eq_fetched 0 rfl (fun _ => rfl) (fun _ _ _ => rfl) (fun t => by rw [after0_0]; unfold Dat.blockOf Gen.iblk; rw [A_eq]; try rfl) t d).trans
    (by unfold Dat.fetched Dat.blockOf Gen.iblk; rw [A_eq]; try rfl)
theorem before0_1 (c : Dev nD) (t : Fin cfg0.N) (d) : (dats m 0 c).before 1 t d = Gen.iblk m c 1 t :=
  ((dats m 0 c).before_in_eq_fetched 1 rfl (fun _ => rfl) (fun _ _ _ => rfl) (fun t => by rw [after0_1]; unfold Dat.blockOf Gen.iblk; rw [A_eq]; try rfl) t d).trans
    (by unfold Dat.fetched Dat.blockOf Gen.iblk; rw [A_eq]; try rfl)
theorem before0_2 (c : Dev nD) (t : Fin cfg0.N) (d) : (dats m 0 c).before 2 t d = Gen.iblk m c 2 t :=
  ((dats m 0 c).before_in_eq_fetched 2 rfl (fun _ => rfl) (fun _ _ _ => rfl) (fun t => by rw [after0_2]; unfold Dat.blockOf Gen.iblk; rw [A_eq]; try rfl) t d).trans
    (by unfold Dat.fetched Dat.blockOf Gen.iblk; rw [A_eq]; try rfl)
theorem before0_3 (c : Dev nD) (t : Fin cfg0.N) (d) : (dats m 0 c).before 3 t d = Gen.iblk m c 3 t :=
  ((dats m 0 c).before_in_eq_fetched 3 rfl (fun _ => rfl) (fun _ _ _ => rfl) (fun t => by rw [after0_3]; unfold Dat.blockOf Gen.iblk; rw [A_eq]; try rfl) t d).trans
    (by unfold Dat.fetched Dat.blockOf Gen.iblk; rw [A_eq]; try rfl)
theorem before0_4 (c : Dev nD) (t : Fin cfg0.N) (d) : (dats m 0 c).before 4 t d = Gen.iblk m c 4 t :=
  ((dats m 0 c).before_in_eq_fetched 4 rfl (fun _ => rfl) (fun _ _ _ => rfl) (fun t => by rw [after0_4]; unfold Dat.blockOf Gen.iblk; rw [A_eq]; try rfl) t d).trans
    (by unfold Dat.fetched Dat.blockOf Gen.iblk; rw [A_eq]; try rfl)
theorem in0_0 (c : Dev nD) (t : Fin cfg0.N) : (owns (c : Thread nD τ) (st0_0 t) fullShare (Gen.iblk m c 0 t) : sProp 𝕄) ⊢ at_ c (st0_0 t) (blkQ m c t) :=
  rep_of_owns (c : Thread nD τ) (st0_0 t) fullShare _
theorem out0_0 (c : Dev nD) (t : Fin cfg0.N) : (at_ c (st0_0 t) (blkQ m c t) : sProp 𝕄) ⊢ owns (c : Thread nD τ) (st0_0 t) fullShare ((dats m 0 c).after 0 t) :=
  owns_of_rep (c : Thread nD τ) (st0_0 t) fullShare _
theorem in0_1 (c : Dev nD) (t : Fin cfg0.N) : (owns (c : Thread nD τ) (st0_1 t) fullShare (Gen.iblk m c 1 t) : sProp 𝕄) ⊢ at_ c (st0_1 t) (blkO m c t) :=
  rep_of_owns (c : Thread nD τ) (st0_1 t) fullShare _
theorem out0_1 (c : Dev nD) (t : Fin cfg0.N) : (at_ c (st0_1 t) (blkO m c t) : sProp 𝕄) ⊢ owns (c : Thread nD τ) (st0_1 t) fullShare ((dats m 0 c).after 1 t) :=
  owns_of_rep (c : Thread nD τ) (st0_1 t) fullShare _
theorem in0_2 (c : Dev nD) (t : Fin cfg0.N) : (owns (c : Thread nD τ) (st0_2 t) fullShare (Gen.iblk m c 2 t) : sProp 𝕄) ⊢ at_ c (st0_2 t) (blkL m c t) :=
  rep_of_owns (c : Thread nD τ) (st0_2 t) fullShare _
theorem out0_2 (c : Dev nD) (t : Fin cfg0.N) : (at_ c (st0_2 t) (blkL m c t) : sProp 𝕄) ⊢ owns (c : Thread nD τ) (st0_2 t) fullShare ((dats m 0 c).after 2 t) :=
  owns_of_rep (c : Thread nD τ) (st0_2 t) fullShare _
theorem in0_3 (c : Dev nD) (t : Fin cfg0.N) : (owns (c : Thread nD τ) (st0_3 t) fullShare (Gen.iblk m c 3 t) : sProp 𝕄) ⊢ at_ c (st0_3 t) (blkY m c t) :=
  rep_of_owns (c : Thread nD τ) (st0_3 t) fullShare _
theorem out0_3 (c : Dev nD) (t : Fin cfg0.N) : (at_ c (st0_3 t) (blkY m c t) : sProp 𝕄) ⊢ owns (c : Thread nD τ) (st0_3 t) fullShare ((dats m 0 c).after 3 t) :=
  owns_of_rep (c : Thread nD τ) (st0_3 t) fullShare _
theorem in0_4 (c : Dev nD) (t : Fin cfg0.N) : (owns (c : Thread nD τ) (st0_4 t) fullShare (Gen.iblk m c 4 t) : sProp 𝕄) ⊢ at_ c (st0_4 t) (blkG m c t) :=
  rep_of_owns (c : Thread nD τ) (st0_4 t) fullShare _
theorem out0_4 (c : Dev nD) (t : Fin cfg0.N) : (at_ c (st0_4 t) (blkG m c t) : sProp 𝕄) ⊢ owns (c : Thread nD τ) (st0_4 t) fullShare ((dats m 0 c).after 4 t) :=
  owns_of_rep (c : Thread nD τ) (st0_4 t) fullShare _
theorem out0_5 (c : Dev nD) (t : Fin cfg0.N) : (at_ c (st0_5 t) (dqOut (doneAt m c t).dq) : sProp 𝕄) ⊢ owns (c : Thread nD τ) (st0_5 t) fullShare ((dats m 0 c).after 5 t) :=
  owns_of_rep (c : Thread nD τ) (st0_5 t) fullShare _
theorem out0_6 (c : Dev nD) (t : Fin cfg0.N) : (at_ c (st0_6 t) (dgateVal (blkG m c t) (blkY m c t) (blkO m c t)) : sProp 𝕄) ⊢ owns (c : Thread nD τ) (st0_6 t) fullShare ((dats m 0 c).after 6 t) :=
  owns_of_rep (c : Thread nD τ) (st0_6 t) fullShare _

theorem some0_5 (c : Dev nD) (t : Fin cfg0.N) :
    (iprop(∃ d, owns (c : Thread nD τ) (st0_5 t) fullShare ((dats m 0 c).before 5 t d)) : sProp 𝕄) ⊢ iprop(∃ x : FVec F S1x512x256 .f32, at_ c (st0_5 t) x) :=
  Laws.exists_elim fun d => (rep_of_owns (c : Thread nD τ) (st0_5 t) fullShare ((dats m 0 c).before 5 t d)).trans (Laws.exists_intro (Φ := fun x : FVec F S1x512x256 .f32 => at_ c (st0_5 t) x) _)
theorem some0_6 (c : Dev nD) (t : Fin cfg0.N) :
    (iprop(∃ d, owns (c : Thread nD τ) (st0_6 t) fullShare ((dats m 0 c).before 6 t d)) : sProp 𝕄) ⊢ iprop(∃ x : FVec F S512x128 .bf16, at_ c (st0_6 t) x) :=
  Laws.exists_elim fun d => (rep_of_owns (c : Thread nD τ) (st0_6 t) fullShare ((dats m 0 c).before 6 t d)).trans (Laws.exists_intro (Φ := fun x : FVec F S512x128 .bf16 => at_ c (st0_6 t) x) _)
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

end Cert.KernelIdeal.Hand

end
-- ==== Proof.Body.lean ====
/- The body of the call at a grid point, as the pipeline asks for it. -/
module

public import proofs.«01_k».proof.Proof.Grid

@[expose] public section

set_option maxRecDepth 16384

noncomputable section

namespace Cert.KernelIdeal.Hand

open Cert.KernelIdeal Facts₀ Facts
open Idealize.ShloMosaic Idealize.ShloMosaic.TcCoe Idealize.ShloMosaic.Tactic Idealize.ShloMosaic.Transfers Idealize.ShloMosaic.ValueIdx
open Idealize.SL Idealize.SL.RA Idealize.SL.BI
open scoped Idealize.SL.BI
open Idealize.SL.BI.BIBase Idealize.SL.BI.Laws Idealize.SL.ProofMode Idealize.SL.Sem

variable [Facts] {F : FTy → Type} [FloatOps F] [Named F]

local notation "𝕄" => MT nD τ sig Unit (Elt F) ℕ (Pipeline.UD sig nD τ) ℕ

open Idealize.ShloMosaic.Pipeline (Dat Cfg Window BodyObligation)
open Cert.KernelIdeal.Gen

variable (m : (ℓ : Loc nD τ sig) → Buf (Elt F) ℓ) (ρ : Dev nD → PrngReg)

/-- The invariant's next form. -/
theorem scr_next (c : Dev nD) (k7 : FVec F S4x16384x256 .bf16) (v8 : FVec F S4x16384x128 .bf16) (t : ℕ) (dk : FVec F S16384x256 .f32) (dv : FVec F S16384x128 .f32) :
    (Scr c (Memref.whole main_arg1) (Memref.whole main_arg2) (Memref.whole main_v34_2) (Memref.whole main_v34_3) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) (Memref.whole cc0_scratch9) (Memref.whole cc0_scratch10) sems0 k7 v8 (if t % 32 = 31 then 0 else t % 32 + 1) (headOf t) dk dv : sProp 𝕄)
      = Scr c (Memref.whole main_arg1) (Memref.whole main_arg2) (Memref.whole main_v34_2) (Memref.whole main_v34_3) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) (Memref.whole cc0_scratch9) (Memref.whole cc0_scratch10) sems0 k7 v8 ((t + 1) % 32) (headOf (t + 1)) dk dv := by
  by_cases h : t % 32 = 31
  · rw [if_pos h, show (t + 1) % 32 = 0 by omega, Scr_zero, Scr_zero]
  · rw [if_neg h, show (t + 1) % 32 = t % 32 + 1 by omega,
      show headOf (t + 1) = headOf t from Fin.ext (by show (t + 1) / 32 % 4 = t / 32 % 4; omega)]

/-- A point's run, at the point's own values. -/
theorem point_at (c : Dev nD) (t : Fin cfg0.N) {x9 : FVec F S1x512x256 .f32} {x10 : FVec F S512x128 .bf16} {W : Waits sig Unit} {Q : PUnit → sProp 𝕄} :
    at_ c (st0_0 t) (blkQ m c t) ⊢ iprop(at_ c (st0_1 t) (blkO m c t) -∗ at_ c (st0_2 t) (blkL m c t) -∗ at_ c (st0_3 t) (blkY m c t) -∗ at_ c (st0_4 t) (blkG m c t)
      -∗ at_ c (st0_5 t) x9 -∗ at_ c (st0_6 t) x10
      -∗ Scr c (Memref.whole main_arg1) (Memref.whole main_arg2) (Memref.whole main_v34_2) (Memref.whole main_v34_3) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) (Memref.whole cc0_scratch9) (Memref.whole cc0_scratch10) sems0 (keys m c) (vals m c) (t.val % 32) (headOf t.val) (accs m c t.val).dk (accs m c t.val).dv -∗ Spare c (Memref.whole main_arg1) (Memref.whole main_arg2) (Memref.whole main_v34_2) (Memref.whole main_v34_3) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) (Memref.whole cc0_scratch9) (Memref.whole cc0_scratch10) sems0
      -∗ at_ c (Memref.whole main_v34_2) (accs m c t.val).y11 -∗ at_ c (Memref.whole main_v34_3) (accs m c t.val).y12 -∗ owes (c : Thread nD τ) 0 W
      -∗ (∀ W', at_ c (st0_0 t) (blkQ m c t) -∗ at_ c (st0_1 t) (blkO m c t) -∗ at_ c (st0_2 t) (blkL m c t) -∗ at_ c (st0_3 t) (blkY m c t) -∗ at_ c (st0_4 t) (blkG m c t)
          -∗ at_ c (st0_5 t) (dqOut (doneAt m c t).dq) -∗ at_ c (st0_6 t) (dgateVal (blkG m c t) (blkY m c t) (blkO m c t))
          -∗ Scr c (Memref.whole main_arg1) (Memref.whole main_arg2) (Memref.whole main_v34_2) (Memref.whole main_v34_3) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) (Memref.whole cc0_scratch9) (Memref.whole cc0_scratch10) sems0 (keys m c) (vals m c) ((t.val + 1) % 32) (headOf (t.val + 1)) (accs m c (t.val + 1)).dk (accs m c (t.val + 1)).dv -∗ Spare c (Memref.whole main_arg1) (Memref.whole main_arg2) (Memref.whole main_v34_2) (Memref.whole main_v34_3) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) (Memref.whole cc0_scratch9) (Memref.whole cc0_scratch10) sems0
          -∗ at_ c (Memref.whole main_v34_2) (accs m c (t.val + 1)).y11 -∗ at_ c (Memref.whole main_v34_3) (accs m c (t.val + 1)).y12
          -∗ owes (c : Thread nD τ) 0 W' -∗ Q ⟨⟩)
      -∗ wp frame (wpE (defs₀ (F := F)) Variants.none (c : Thread nD τ) none) Set.univ (bodyAt0 t) Q) := by
  have h0 : (grid0.coords t 0).val = t.val / 32 := (coords_val t).1
  have h1 : (grid0.coords t 1).val = t.val % 32 := (coords_val t).2
  have hh : (grid0.coords t 0).val = (headOf t.val).val := by
    rw [h0]; show _ = t.val / 32 % 4
    have : t.val < 128 := t.isLt
    omega
  have key := wp_point c (grid0.coords t) (win0_0.stage (cfg0.slots t 0)) (Gen.hstage0_0 ((cfg0.slots t 0).cast Gen.nbuf0_0)) (win0_1.stage (cfg0.slots t 1)) (Gen.hstage0_1 ((cfg0.slots t 1).cast Gen.nbuf0_1)) (win0_2.stage (cfg0.slots t 2)) (Gen.hstage0_2 ((cfg0.slots t 2).cast Gen.nbuf0_2)) (win0_3.stage (cfg0.slots t 3)) (Gen.hstage0_3 ((cfg0.slots t 3).cast Gen.nbuf0_3)) (win0_4.stage (cfg0.slots t 4)) (Gen.hstage0_4 ((cfg0.slots t 4).cast Gen.nbuf0_4)) (Memref.whole main_arg1) (Memref.isWhole_whole _) (Memref.whole main_arg2) (Memref.isWhole_whole _) (win0_5.stage (cfg0.slots t 5)) (Gen.hstage0_5 ((cfg0.slots t 5).cast Gen.nbuf0_5)) (win0_6.stage (cfg0.slots t 6)) (Gen.hstage0_6 ((cfg0.slots t 6).cast Gen.nbuf0_6)) (Memref.whole main_v34_2) (Memref.isWhole_whole _) (Memref.whole main_v34_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) sems0 (headOf t.val) hh (keys m c) (vals m c)
    (q := blkQ m c t) (o := blkO m c t) (lse := blkL m c t) (y := blkY m c t) (g := blkG m c t) (x9 := x9) (x10 := x10)
    (dk := (accs m c t.val).dk) (dv := (accs m c t.val).dv) (y11 := (accs m c t.val).y11) (y12 := (accs m c t.val).y12) (W := W) (Q := Q)
    (R := doneAt m c t) (by rw [h1]; rfl)
  rw [h1, scr_next] at key
  rw [accs_succ]
  exact key

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4]
  rw [Phi_eq, Phi_eq, Fin.val_castSucc, Fin.val_succ]
  unfold Dat.owesAt Pipeline.owesWithin inv
  rw [show (dats m 0 c).owed t.castSucc = 0 from rfl, show (dats m 0 c).owed t.succ = 0 from rfl]
  iintro ⟨⟨HS, HP, H11, H12, Hg⟩, ⟨%W, -, HW⟩, ⟨%d0, H0⟩, ⟨%d1, H1⟩, ⟨%d2, H2⟩, ⟨%d3, H3⟩, ⟨%d4, H4⟩, H5, H6⟩
  ihave H0 := (in0_0 m c t) $$ H0
  ihave H1 := (in0_1 m c t) $$ H1
  ihave H2 := (in0_2 m c t) $$ H2
  ihave H3 := (in0_3 m c t) $$ H3
  ihave H4 := (in0_4 m c t) $$ H4
  ihave H5 := (some0_5 m c t) $$ H5
  icases H5 with ⟨%x5, H5⟩
  ihave H6 := (some0_6 m c t) $$ H6
  icases H6 with ⟨%x6, H6⟩
  iapply (point_at m c t (Q := _)) $$ H0 H1 H2 H3 H4 H5 H6 HS HP H11 H12 HW
  iintro %W' H0 H1 H2 H3 H4 H5 H6 HS HP H11 H12 HW
  isplitl [HS HP H11 H12 Hg]
  · isplitl [HS]; · iexact HS
    isplitl [HP]; · iexact HP
    isplitl [H11]; · iexact H11
    isplitl [H12]; · iexact H12
    iexact Hg
  isplitl [HW]
  · iexists W'; isplitr; · ipureintro; exact fun _ _ => Or.inl trivial
    iexact HW
  isplitl [H0]; · iapply (out0_0 m c t) $$ H0
  isplitl [H1]; · iapply (out0_1 m c t) $$ H1
  isplitl [H2]; · iapply (out0_2 m c t) $$ H2
  isplitl [H3]; · iapply (out0_3 m c t) $$ H3
  isplitl [H4]; · iapply (out0_4 m c t) $$ H4
  isplitl [H5]; · iapply (out0_5 m c t) $$ H5
  iapply (out0_6 m c t) $$ H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

end Cert.KernelIdeal.Hand

end
-- ==== Proof.Run.lean ====
/- The call's run: it ends, nothing faults, and what its results hold. -/
module

public import proofs.«01_k».proof.Proof.Body

@[expose] public section

set_option maxRecDepth 16384

noncomputable section

namespace Cert.KernelIdeal.Hand

open Cert.KernelIdeal Facts₀ Facts
open Idealize.ShloMosaic Idealize.ShloMosaic.TcCoe Idealize.ShloMosaic.Tactic Idealize.ShloMosaic.Transfers Idealize.ShloMosaic.ValueIdx
open Idealize.SL Idealize.SL.RA Idealize.SL.BI
open scoped Idealize.SL.BI
open Idealize.SL.BI.BIBase Idealize.SL.BI.Laws Idealize.SL.ProofMode Idealize.SL.Sem

variable [Facts] {F : FTy → Type} [FloatOps F] [Named F]

local notation "𝕄" => MT nD τ sig Unit (Elt F) ℕ (Pipeline.UD sig nD τ) ℕ

open Idealize.ShloMosaic.Pipeline (Dat Cfg Window BodyObligation)
open Cert.KernelIdeal.Gen

variable (m : (ℓ : Loc nD τ sig) → Buf (Elt F) ℓ) (ρ : Dev nD → PrngReg)

/-! ## The launch -/

theorem cell_at (k : ℕ) (h : ∀ a, (![k] : Fin 1 → ℕ) a + S1.size a ≤ S4.size a) :
    (((sems0.slice (Rect.unit (s := S4) ![k] S1.size h)).squeeze S_ Gen.squeezes_S1_S_).sem).val = 14 + k := by
  have e : (((sems0.slice (Rect.unit (s := S4) ![k] S1.size h)).squeeze S_ Gen.squeezes_S1_S_).sem).val
      = 14 + (S4.rowMajor ((Rect.unit (s := S4) ![k] S1.size h).emb (Shape.reshapeEquiv Gen.squeezes_S1_S_.numel_eq fun i => i.elim0))).val := rfl
  rw [e]
  generalize (Shape.reshapeEquiv Gen.squeezes_S1_S_.numel_eq fun i : Fin 0 => i.elim0) = x
  rw [Shape.rowMajor_val_one]
  have hx : (x 0).val < 1 := (x 0).isLt
  have e2 : ((Rect.unit (s := S4) ![k] S1.size h).emb x 0).val = k + 1 * (x 0).val := rfl
  omega
theorem cell_0 : (cell0 sems0 : DmaSem sig) = 14 := Fin.ext (cell_at 0 _)
theorem cell_1 : (cell1 sems0 : DmaSem sig) = 15 := Fin.ext (cell_at 1 _)
theorem cell_2 : (cell2 sems0 : DmaSem sig) = 16 := Fin.ext (cell_at 2 _)
theorem cell_3 : (cell3 sems0 : DmaSem sig) = 17 := Fin.ext (cell_at 3 _)
abbrev osem0 : Fin 4 → SemLoc sig := fun j => (![SemLoc.dma 14, SemLoc.dma 15, SemLoc.dma 16, SemLoc.dma 17] : Fin 4 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma (cell0 sems0)) 0 ∗ semVal ((c : Thread nD τ), SemLoc.dma (cell1 sems0)) 0
          ∗ semVal ((c : Thread nD τ), SemLoc.dma (cell2 sems0)) 0 ∗ semVal ((c : Thread nD τ), SemLoc.dma (cell3 sems0)) 0) := by
  rw [cell_0, cell_1,
    cell_2, cell_3,
    Pipeline.ownSems0_eq_of_list c osem0 [0, 1, 2, 3] (by decide) (by decide)]
  rfl
/-- The arrays the body reads itself. -/
def H0 : Finset (Ref sig .tc) := {main_arg1, main_arg2}
/-- The results the body writes itself. -/
def R0 : Finset (Ref sig .tc) := {main_v34_2, main_v34_3}
theorem H0_sub : H0 ⊆ Pipeline.restRefs sig spec0 := by decide
theorem R0_sub : R0 ⊆ Pipeline.restRefs sig spec0 \ H0 := by decide

theorem hbmPts0_eq (c : Dev nD) :
    (bigSep H0 (fun b => ((c : Thread nD τ).loc b) ↦{fullShare} Gen.V m c b) : sProp 𝕄)
      = iprop(at_ c (Memref.whole main_arg1) (keys m c) ∗ at_ c (Memref.whole main_arg2) (vals m c)) := by
  have e1 : (at_ c (Memref.whole main_arg1) (keys m c) : sProp 𝕄) = (((c : Thread nD τ).loc main_arg1) ↦{fullShare} Gen.V m c main_arg1) := at_whole c main_arg1 (keys m c)
  have e2 : (at_ c (Memref.whole main_arg2) (vals m c) : sProp 𝕄) = (((c : Thread nD τ).loc main_arg2) ↦{fullShare} Gen.V m c main_arg2) := at_whole c main_arg2 (vals m c)
  rw [BI.bigSep_eq_bigSepL_of_eq [main_arg1, main_arg2] (by decide) (by decide), e1, e2]; rfl

/-- The written results, at named contents. -/
theorem routed0_eq (c : Dev nD) (W : (b : Ref sig .tc) → Buf (Elt F) ((c : Thread nD τ).loc b)) (x : FVec F S4x16384x256 .f32) (y : FVec F S4x16384x128 .f32)
    (hx : W main_v34_2 = x) (hy : W main_v34_3 = y) :
    (Pipeline.routed R0 c W : sProp 𝕄) = iprop(at_ c (Memref.whole main_v34_2) x ∗ at_ c (Memref.whole main_v34_3) y) := by
  subst hx hy
  have e1 : (at_ c (Memref.whole main_v34_2) (W main_v34_2 : FVec F S4x16384x256 .f32) : sProp 𝕄) = (((c : Thread nD τ).loc main_v34_2) ↦{fullShare} W main_v34_2) := at_whole c main_v34_2 _
  have e2 : (at_ c (Memref.whole main_v34_3) (W main_v34_3 : FVec F S4x16384x128 .f32) : sProp 𝕄) = (((c : Thread nD τ).loc main_v34_3) ↦{fullShare} W main_v34_3) := at_whole c main_v34_3 _
  unfold Pipeline.routed
  rw [BI.bigSep_eq_bigSepL_of_eq [main_v34_2, main_v34_3] (by decide) (by decide), e1, e2]; rfl

/-- What the arrays hold after the call, as far as its body writes them itself. -/
def G (c : Dev nD) : (b : Ref sig .tc) → Buf (Elt F) ((c : Thread nD τ).loc b) :=
  Function.update (Function.update (Gen.V m c) main_v34_2 (accs m c 128).y11) main_v34_3 (accs m c 128).y12
theorem G_dk (c : Dev nD) : G m c main_v34_2 = (accs m c 128).y11 := by
  unfold G; rw [Function.update_of_ne (by decide), Function.update_self]
theorem G_dv (c : Dev nD) : G m c main_v34_3 = (accs m c 128).y12 := by
  unfold G; rw [Function.update_self]

theorem any_in (c : Dev nD) (b : Ref sig .tc) : (iprop(∃ f : Buf (Elt F) ((c : Thread nD τ).loc b), ((c : Thread nD τ).loc b) ↦{fullShare} f) : sProp 𝕄)
    ⊢ iprop(∃ x : b.ty.shape.Idx → Elt F b.ty.elt, at_ c (Memref.whole b) x) :=
  Laws.exists_elim fun f => (Entails.of_eq (at_whole c b f).symm).trans (Laws.exists_intro (Φ := fun x : b.ty.shape.Idx → Elt F b.ty.elt => at_ c (Memref.whole b) x) f)
theorem any_out (c : Dev nD) (b : Ref sig .tc) : (iprop(∃ x : b.ty.shape.Idx → Elt F b.ty.elt, at_ c (Memref.whole b) x) : sProp 𝕄)
    ⊢ iprop(∃ f : Buf (Elt F) ((c : Thread nD τ).loc b), ((c : Thread nD τ).loc b) ↦{fullShare} f) :=
  Laws.exists_elim fun f => (Entails.of_eq (at_whole c b f)).trans (Laws.exists_intro (Φ := fun f : Buf (Elt F) ((c : Thread nD τ).loc b) => (((c : Thread nD τ).loc b) ↦{fullShare} f)) f)
theorem scr_in0 (c : Dev nD) : (iprop(∃ f : Buf (Elt F) ((c : Thread nD τ).loc cc0_scratch0), ((c : Thread nD τ).loc cc0_scratch0) ↦{fullShare} f) : sProp 𝕄)
    ⊢ iprop(∃ x : FVec F S16384x256 .bf16, at_ c (Memref.whole cc0_scratch0) x) := any_in c cc0_scratch0
theorem scr_out0 (c : Dev nD) : (iprop(∃ x : FVec F S16384x256 .bf16, at_ c (Memref.whole cc0_scratch0) x) : sProp 𝕄)
    ⊢ iprop(∃ f : Buf (Elt F) ((c : Thread nD τ).loc cc0_scratch0), ((c : Thread nD τ).loc cc0_scratch0) ↦{fullShare} f) := any_out c cc0_scratch0
theorem scr_in1 (c : Dev nD) : (iprop(∃ f : Buf (Elt F) ((c : Thread nD τ).loc cc0_scratch1), ((c : Thread nD τ).loc cc0_scratch1) ↦{fullShare} f) : sProp 𝕄)
    ⊢ iprop(∃ x : FVec F S16384x128 .bf16, at_ c (Memref.whole cc0_scratch1) x) := any_in c cc0_scratch1
theorem scr_out1 (c : Dev nD) : (iprop(∃ x : FVec F S16384x128 .bf16, at_ c (Memref.whole cc0_scratch1) x) : sProp 𝕄)
    ⊢ iprop(∃ f : Buf (Elt F) ((c : Thread nD τ).loc cc0_scratch1), ((c : Thread nD τ).loc cc0_scratch1) ↦{fullShare} f) := any_out c cc0_scratch1
theorem scr_in2 (c : Dev nD) : (iprop(∃ f : Buf (Elt F) ((c : Thread nD τ).loc cc0_scratch2), ((c : Thread nD τ).loc cc0_scratch2) ↦{fullShare} f) : sProp 𝕄)
    ⊢ iprop(∃ x : FVec F S16384x256 .f32, at_ c (Memref.whole cc0_scratch2) x) := any_in c cc0_scratch2
theorem scr_out2 (c : Dev nD) : (iprop(∃ x : FVec F S16384x256 .f32, at_ c (Memref.whole cc0_scratch2) x) : sProp 𝕄)
    ⊢ iprop(∃ f : Buf (Elt F) ((c : Thread nD τ).loc cc0_scratch2), ((c : Thread nD τ).loc cc0_scratch2) ↦{fullShare} f) := any_out c cc0_scratch2
theorem scr_in3 (c : Dev nD) : (iprop(∃ f : Buf (Elt F) ((c : Thread nD τ).loc cc0_scratch3), ((c : Thread nD τ).loc cc0_scratch3) ↦{fullShare} f) : sProp 𝕄)
    ⊢ iprop(∃ x : FVec F S16384x128 .f32, at_ c (Memref.whole cc0_scratch3) x) := any_in c cc0_scratch3
theorem scr_out3 (c : Dev nD) : (iprop(∃ x : FVec F S16384x128 .f32, at_ c (Memref.whole cc0_scratch3) x) : sProp 𝕄)
    ⊢ iprop(∃ f : Buf (Elt F) ((c : Thread nD τ).loc cc0_scratch3), ((c : Thread nD τ).loc cc0_scratch3) ↦{fullShare} f) := any_out c cc0_scratch3
theorem scr_in4 (c : Dev nD) : (iprop(∃ f : Buf (Elt F) ((c : Thread nD τ).loc cc0_scratch4), ((c : Thread nD τ).loc cc0_scratch4) ↦{fullShare} f) : sProp 𝕄)
    ⊢ iprop(∃ x : FVec F S512x256 .f32, at_ c (Memref.whole cc0_scratch4) x) := any_in c cc0_scratch4
theorem scr_out4 (c : Dev nD) : (iprop(∃ x : FVec F S512x256 .f32, at_ c (Memref.whole cc0_scratch4) x) : sProp 𝕄)
    ⊢ iprop(∃ f : Buf (Elt F) ((c : Thread nD τ).loc cc0_scratch4), ((c : Thread nD τ).loc cc0_scratch4) ↦{fullShare} f) := any_out c cc0_scratch4
theorem scr_in5 (c : Dev nD) : (iprop(∃ f : Buf (Elt F) ((c : Thread nD τ).loc cc0_scratch5), ((c : Thread nD τ).loc cc0_scratch5) ↦{fullShare} f) : sProp 𝕄)
    ⊢ iprop(∃ x : FVec F S512x128 .f32, at_ c (Memref.whole cc0_scratch5) x) := any_in c cc0_scratch5
theorem scr_out5 (c : Dev nD) : (iprop(∃ x : FVec F S512x128 .f32, at_ c (Memref.whole cc0_scratch5) x) : sProp 𝕄)
    ⊢ iprop(∃ f : Buf (Elt F) ((c : Thread nD τ).loc cc0_scratch5), ((c : Thread nD τ).loc cc0_scratch5) ↦{fullShare} f) := any_out c cc0_scratch5
theorem scr_in6 (c : Dev nD) : (iprop(∃ f : Buf (Elt F) ((c : Thread nD τ).loc cc0_scratch6), ((c : Thread nD τ).loc cc0_scratch6) ↦{fullShare} f) : sProp 𝕄)
    ⊢ iprop(∃ x : FVec F S512x512 .f32, at_ c (Memref.whole cc0_scratch6) x) := any_in c cc0_scratch6
theorem scr_out6 (c : Dev nD) : (iprop(∃ x : FVec F S512x512 .f32, at_ c (Memref.whole cc0_scratch6) x) : sProp 𝕄)
    ⊢ iprop(∃ f : Buf (Elt F) ((c : Thread nD τ).loc cc0_scratch6), ((c : Thread nD τ).loc cc0_scratch6) ↦{fullShare} f) := any_out c cc0_scratch6
theorem scr_in7 (c : Dev nD) : (iprop(∃ f : Buf (Elt F) ((c : Thread nD τ).loc cc0_scratch7), ((c : Thread nD τ).loc cc0_scratch7) ↦{fullShare} f) : sProp 𝕄)
    ⊢ iprop(∃ x : FVec F S512x512 .f32, at_ c (Memref.whole cc0_scratch7) x) := any_in c cc0_scratch7
theorem scr_out7 (c : Dev nD) : (iprop(∃ x : FVec F S512x512 .f32, at_ c (Memref.whole cc0_scratch7) x) : sProp 𝕄)
    ⊢ iprop(∃ f : Buf (Elt F) ((c : Thread nD τ).loc cc0_scratch7), ((c : Thread nD τ).loc cc0_scratch7) ↦{fullShare} f) := any_out c cc0_scratch7
theorem scr_in8 (c : Dev nD) : (iprop(∃ f : Buf (Elt F) ((c : Thread nD τ).loc cc0_scratch8), ((c : Thread nD τ).loc cc0_scratch8) ↦{fullShare} f) : sProp 𝕄)
    ⊢ iprop(∃ x : FVec F S512x512 .f32, at_ c (Memref.whole cc0_scratch8) x) := any_in c cc0_scratch8
theorem scr_out8 (c : Dev nD) : (iprop(∃ x : FVec F S512x512 .f32, at_ c (Memref.whole cc0_scratch8) x) : sProp 𝕄)
    ⊢ iprop(∃ f : Buf (Elt F) ((c : Thread nD τ).loc cc0_scratch8), ((c : Thread nD τ).loc cc0_scratch8) ↦{fullShare} f) := any_out c cc0_scratch8
theorem scr_in9 (c : Dev nD) : (iprop(∃ f : Buf (Elt F) ((c : Thread nD τ).loc cc0_scratch9), ((c : Thread nD τ).loc cc0_scratch9) ↦{fullShare} f) : sProp 𝕄)
    ⊢ iprop(∃ x : FVec F S512x512 .f32, at_ c (Memref.whole cc0_scratch9) x) := any_in c cc0_scratch9
theorem scr_out9 (c : Dev nD) : (iprop(∃ x : FVec F S512x512 .f32, at_ c (Memref.whole cc0_scratch9) x) : sProp 𝕄)
    ⊢ iprop(∃ f : Buf (Elt F) ((c : Thread nD τ).loc cc0_scratch9), ((c : Thread nD τ).loc cc0_scratch9) ↦{fullShare} f) := any_out c cc0_scratch9
theorem scr_in10 (c : Dev nD) : (iprop(∃ f : Buf (Elt F) ((c : Thread nD τ).loc cc0_scratch10), ((c : Thread nD τ).loc cc0_scratch10) ↦{fullShare} f) : sProp 𝕄)
    ⊢ iprop(∃ x : FVec F S2x512x512 .f32, at_ c (Memref.whole cc0_scratch10) x) := any_in c cc0_scratch10
theorem scr_out10 (c : Dev nD) : (iprop(∃ x : FVec F S2x512x512 .f32, at_ c (Memref.whole cc0_scratch10) x) : sProp 𝕄)
    ⊢ iprop(∃ f : Buf (Elt F) ((c : Thread nD τ).loc cc0_scratch10), ((c : Thread nD τ).loc cc0_scratch10) ↦{fullShare} f) := any_out c cc0_scratch10

theorem hin (c : Dev nD) : Pipeline.ΦDRG osem0 spec0 H0 R0 (Gen.V m) (Gen.V m) c ⊢ inv m c 0 := by
  rw [Pipeline.ΦDRG_eq, scopedRest0_eq, ownSems00_eq, hbmPts0_eq, routed0_eq c (Gen.V m c) (accs m c 0).y11 (accs m c 0).y12 rfl rfl]
  unfold inv
  rw [show 0 % 32 = 0 from rfl, Scr_zero]
  unfold Landed Spare
  iintro ⟨⟨S0, S1, S2, S3, S4, S5, S6, S7, S8, S9, S10⟩, Hg, ⟨C0, C1, C2, C3⟩, ⟨A1, A2⟩, ⟨Y1, Y2⟩⟩
  ihave S0 := (scr_in0 c) $$ S0
  ihave S1 := (scr_in1 c) $$ S1
  ihave S2 := (scr_in2 c) $$ S2
  ihave S3 := (scr_in3 c) $$ S3
  ihave S4 := (scr_in4 c) $$ S4
  ihave S5 := (scr_in5 c) $$ S5
  ihave S6 := (scr_in6 c) $$ S6
  ihave S7 := (scr_in7 c) $$ S7
  ihave S8 := (scr_in8 c) $$ S8
  ihave S9 := (scr_in9 c) $$ S9
  ihave S10 := (scr_in10 c) $$ S10
  isplitl [C0 C1 C2 C3 A1 A2 S0 S1 S2 S3 S10]
  · isplitl [C0 C1 C2 C3 A1 A2]
    · isplitl [C0]; · iexact C0
      isplitl [C1]; · iexact C1
      isplitl [C2]; · iexact C2
      isplitl [C3]; · iexact C3
      isplitl [A1]; · iexact A1
      iexact A2
    isplitl [S0]; · iexact S0
    isplitl [S1]; · iexact S1
    isplitl [S2]; · iexact S2
    isplitl [S3]; · iexact S3
    iexact S10
  isplitl [S4 S5 S6 S7 S8 S9]
  · isplitl [S4]; · iexact S4
    isplitl [S5]; · iexact S5
    isplitl [S6]; · iexact S6
    isplitl [S7]; · iexact S7
    isplitl [S8]; · iexact S8
    iexact S9
  isplitl [Y1]; · iexact Y1
  isplitl [Y2]; · iexact Y2
  iexact Hg

theorem hout (c : Dev nD) : inv m c 128 ⊢ Pipeline.ΦDRG osem0 spec0 H0 R0 (Gen.V m) (G m) c := by
  rw [Pipeline.ΦDRG_eq, scopedRest0_eq, ownSems00_eq, hbmPts0_eq, routed0_eq c (G m c) (accs m c 128).y11 (accs m c 128).y12 (G_dk m c) (G_dv m c)]
  unfold inv
  rw [show 128 % 32 = 0 from rfl, Scr_zero]
  unfold Landed Spare
  iintro ⟨⟨⟨C0, C1, C2, C3, A1, A2⟩, S0, S1, S2, S3, S10⟩, ⟨S4, S5, S6, S7, S8, S9⟩, Y1, Y2, Hg⟩
  ihave S0 := (scr_out0 c) $$ S0
  ihave S1 := (scr_out1 c) $$ S1
  ihave S2 := (scr_out2 c) $$ S2
  ihave S3 := (scr_out3 c) $$ S3
  ihave S4 := (scr_out4 c) $$ S4
  ihave S5 := (scr_out5 c) $$ S5
  ihave S6 := (scr_out6 c) $$ S6
  ihave S7 := (scr_out7 c) $$ S7
  ihave S8 := (scr_out8 c) $$ S8
  ihave S9 := (scr_out9 c) $$ S9
  ihave S10 := (scr_out10 c) $$ S10
  isplitl [S0 S1 S2 S3 S4 S5 S6 S7 S8 S9 S10]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    iexact S10
  isplitl [Hg]; · iexact Hg
  isplitl [C0 C1 C2 C3]
  · isplitl [C0]; · iexact C0
    isplitl [C1]; · iexact C1
    isplitl [C2]; · iexact C2
    iexact C3
  isplitl [A1 A2]
  · isplitl [A1]; · iexact A1
    iexact A2
  isplitl [Y1]; · iexact Y1
  iexact Y2

/-! ## The run -/

theorem arg1_rest : main_arg1 ∈ Pipeline.restRefs sig spec0 \ R0 := by decide
theorem arg2_rest : main_arg2 ∈ Pipeline.restRefs sig spec0 \ R0 := by decide

set_option maxHeartbeats 800000 in
theorem hmain (𝒱₀ : Variants) : Pipeline.HMain (Ix := Unit) (Name := ℕ) (U := Pipeline.UD sig nD τ) (Lvl := ℕ) cfgs 0 defs₀ 𝒱₀ m (main (F := F)) (Gen.V m) :=
  Pipeline.hmain_prefixes cfgs 0 defs₀ 𝒱₀ m main [hostOps0, hostOps0_1, hostOps0_2, hostOps0_3, hostOps0_4] (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

theorem Phi_first (c : Dev nD) : (dats m 0 c).Φ 0 = inv m c 0 := by rw [Phi_eq, Fin.val_zero]
theorem Phi_last (c : Dev nD) : (dats m 0 c).Φ (Fin.last cfg0.N) = inv m c 128 := by rw [Phi_eq, Fin.val_last]; exact congrArg (inv m c) N_0

set_option backward.isDefEq.respectTransparency.types false in
theorem run_main : θ_run defs (onTc (τ := τ) (main (F := F))) (s₀ m ρ)
    (fun r => Pipeline.FramePostRG cfgs (dats m) 0 R0 (Gen.V m) (G m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := Gen.V m) (hmain := hmain m Variants.none) (hA := A_eq m) (G := G m)
    (hin := fun c => (hin m c).trans (Entails.of_eq (Phi_first m c).symm)) (hout := fun c => (Entails.of_eq (Phi_last m c)).trans (hout m c))

/-- The frame: the call ends, nothing faults, the argument arrays are unchanged, every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1.1 c).1 0).trans (((dats m 0 c).arrAt_in 0 rfl _).trans ((A_eq m c 0).trans (Gen.V_main_arg0 m c))),
      ((h.1.1 c).2 main_arg1 arg1_rest).trans (Gen.V_main_arg1 m c),
      ((h.1.1 c).2 main_arg2 arg2_rest).trans (Gen.V_main_arg2 m c),
      ((h.1.1 c).1 3).trans (((dats m 0 c).arrAt_in 3 rfl _).trans ((A_eq m c 3).trans (Gen.V_main_arg3 m c))),
      ((h.1.1 c).1 4).trans (((dats m 0 c).arrAt_in 4 rfl _).trans ((A_eq m c 4).trans (Gen.V_main_arg4 m c)))⟩, h.2⟩) (run_main m ρ)

end Cert.KernelIdeal.Hand

end
-- ==== Proof.Ref.lean ====
/- The reference's frame, from its run. -/
module

public import proofs.«01_k».proof.Defs
public import proofs.«01_k».proof.Proof.Gen.ReferenceIdeal
public import proofs.«01_k».proof.Proof.Gen.ReferenceIdeal.Run
public import Idealize.ShloMosaic.Lib.Quiescent

@[expose] public section
noncomputable section
open Idealize.ShloMosaic Idealize.ShloMosaic.TcCoe Idealize.SL.Sem

namespace Cert.Proof

theorem frame_reference : Cert.quiescent_ReferenceIdeal := fun m ρ _ =>
  (θ_run Cert.ReferenceIdeal.defs _ _).mono (fun r h => ⟨fun c => (h c).2.2.2.2,
      Idealize.ShloMosaic.sem_eq_zero_of_no_sems (by decide) r.2⟩)
    (Cert.ReferenceIdeal.Value.run (F := Ideal) m ρ)

theorem frame_reference_finite [Cert.Pre_finite.Facts] : Cert.quiescent_ReferenceIdeal_pre_finite := fun m ρ _ => frame_reference m ρ trivial

end Cert.Proof

end
-- ==== Proof.Claims.lean ====
/- The frames and the named constants' statements. -/
module

public import proofs.«01_k».proof.Defs
public import proofs.«01_k».proof.Proof.Run
public import proofs.«01_k».proof.Proof.Gen.Kernel
public import proofs.«01_k».proof.Proof.Gen.KernelIdeal
public import Idealize.ShloMosaic.Lib.Tactic

@[expose] public section
noncomputable section
open Idealize.ShloMosaic Idealize.ShloMosaic.TcCoe Idealize.SL.Sem

namespace Cert.Proof

/-- A named constant over bit patterns is the literal it names. -/
abbrev literalNamed : Named Bits where
  named _ _ _ bits := bits

theorem frame_kernelIdeal : Cert.quiescent_KernelIdeal := fun m ρ _ => Cert.KernelIdeal.Hand.frame (F := Ideal) m ρ

theorem frame_kernelIdeal_finite [Cert.Pre_finite.Facts] : Cert.quiescent_KernelIdeal_pre_finite := fun m ρ _ => Cert.KernelIdeal.Hand.frame (F := Ideal) m ρ

attribute [local instance] literalNamed in
set_option maxHeartbeats 4000000 in
theorem frame_kernel : Cert.quiescent_Kernel := fun m ρ _ => by
  have h := Cert.KernelIdeal.Hand.frame (F := Bits) m ρ
  exact Eq.mp (by sl_kernel_rfl) h

/-- The three names' values are those of the certificate's table. -/
theorem preserves : Cert.preserves_Kernel_KernelIdeal :=
  ⟨IdealRules.named_const.statement Cert.KernelIdeal.κ "mask" .f32 0xF149F2CA#32 ⊥ rfl,
    IdealRules.named_const.statement Cert.KernelIdeal.κ "scale_log2e" .f32 0x3DD53B95#32 (((Real.sqrt 192)⁻¹ * (Real.log 2)⁻¹ : ℝ) : EReal) rfl,
    IdealRules.named_const.statement Cert.KernelIdeal.κ "scale" .f32 0x3D93CD3A#32 (((Real.sqrt 192)⁻¹ : ℝ) : EReal) rfl⟩

end Cert.Proof

end
-- ==== Proof.VHost.lean ====
/- What the host computes before the call: the attention's output and its rows' log-sums. -/
module

public import proofs.«01_k».proof.Proof.Gen.KernelIdeal.Frame
public import Idealize.ShloMosaic.Lib.Pointwise

@[expose] public section
set_option maxRecDepth 16384
noncomputable section

namespace Cert.KernelIdeal.Hand

open Cert.KernelIdeal Facts₀ Facts
open Idealize.ShloMosaic Idealize.ShloMosaic.TcCoe

open Cert.KernelIdeal.Gen (hostOps0 hostOps0_1 hostOps0_2 hostOps0_3 hostOps0_4)

variable [Facts] {F : FTy → Type} [FloatOps F] [Named F]

/-- The index over 64, rounded down. -/
def hBlk : IVec S16384 32 :=
  let i : IVec S16384 32 := iotaInDim S16384 32 0
  let n : IVec S_ 32 := constantI S_ 32 64#32
  let nn : IVec S16384 32 := broadcastInDim S16384 ![] bcast_S_S16384 n
  let q : IVec S16384 32 := Host.divsi i nn
  select (andi (cmpi .ne (signi i) (broadcastInDim S16384 ![] bcast_S_S16384 (signi n)))
      (cmpi .ne (Host.remsi i nn) (broadcastInDim S16384 ![] bcast_S_S16384 (constantI S_ 32 0#32))))
    (subi q (broadcastInDim S16384 ![] bcast_S_S16384 (constantI S_ 32 1#32))) q

/-- Where a query may look. -/
def hMask : IVec S4x16384x16384 1 :=
  broadcastInDim S4x16384x16384 ![1, 2] bcast_S16384x16384_S4x16384x16384_1_2
    (cmpi .sle (broadcastInDim S16384x16384 ![0, 1] bcast_S1x16384_S16384x16384_0_1 (broadcastInDim S1x16384 ![1] bcast_S16384_S1x16384_1 hBlk))
      (broadcastInDim S16384x16384 ![0, 1] bcast_S16384x1_S16384x16384_0_1 (broadcastInDim S16384x1 ![0] bcast_S16384_S16384x1_0 hBlk)))

/-- The scaled and masked scores. -/
def hS (q k : FVec F S4x16384x256 .bf16) : FVec F S4x16384x16384 .f32 :=
  select hMask
    (mulf (Host.dotGeneral dot_S4x16384x256_S4x16384x256_S4x16384x16384_2_2_1_1_0_0 none (extf .f32 q bitsLt_bf16_f32) (extf .f32 k bitsLt_bf16_f32))
      (broadcastInDim S4x16384x16384 ![] bcast_S_S4x16384x16384 (Host.divf (constant S_ .f32 0x3F800000#32) (Host.sqrt (constant S_ .f32 0x43400000#32)))))
    (broadcastInDim S4x16384x16384 ![] bcast_S_S4x16384x16384 (constant S_ .f32 0xFF800000#32))

/-- A row's largest score. -/
def hMax (s : FVec F S4x16384x16384 .f32) : FVec F S4x16384 .f32 :=
  Host.reduce FloatOps.maximumf s (constant S_ .f32 0xFF800000#32) reducesTo_S4x16384x16384_S4x16384_d2 h_S_

def hExp (s : FVec F S4x16384x16384 .f32) (x : FVec F S4x16384 .f32) : FVec F S4x16384x16384 .f32 :=
  Host.exp (subf s (broadcastInDim S4x16384x16384 ![0, 1, 2] bcast_S4x16384x1_S4x16384x16384_0_1_2 (broadcastInDim S4x16384x1 ![0, 1] bcast_S4x16384_S4x16384x1_0_1 x)))

def hSum (e : FVec F S4x16384x16384 .f32) : FVec F S4x16384 .f32 :=
  Host.reduceAdd e (constant S_ .f32 0x00000000#32) reducesTo_S4x16384x16384_S4x16384_d2 h_S_

def hO (v : FVec F S4x16384x128 .bf16) (e : FVec F S4x16384x16384 .f32) (l : FVec F S4x16384 .f32) : FVec F S16384x512 .f32 :=
  shapeCast _ (transpose S16384x4x128 [2, 0, 1]
    (Host.dotGeneral dot_S4x16384x128_S4x16384x16384_S4x128x16384_1_2_2_1_0_0 none (extf .f32 v bitsLt_bf16_f32)
      (Host.divf e (broadcastInDim S4x16384x16384 ![0, 1, 2] bcast_S4x16384x1_S4x16384x16384_0_1_2 (broadcastInDim S4x16384x1 ![0, 1] bcast_S4x16384_S4x16384x1_0_1 l))))
    transposes_S4x128x16384_S16384x4x128_2_0_1) shapeCasts_S16384x4x128_S16384x512

def hLse (x l : FVec F S4x16384 .f32) : FVec F S4x16384x128 .f32 :=
  broadcastInDim S4x16384x128 ![0, 1, 2] bcast_S4x16384x1_S4x16384x128_0_1_2
    (Host.divf (addf (broadcastInDim S4x16384x1 ![0, 1] bcast_S4x16384_S4x16384x1_0_1 x) (Host.log (broadcastInDim S4x16384x1 ![0, 1] bcast_S4x16384_S4x16384x1_0_1 l)))
      (broadcastInDim S4x16384x1 ![] bcast_S_S4x16384x1 (Host.log (constant S_ .f32 0x40000000#32))))

variable (m : (ℓ : Loc nD τ sig) → Buf (Elt F) ℓ) (c : Dev nD)

abbrev hs : FVec F S4x16384x16384 .f32 := hS (m ((c : Thread nD τ).loc main_arg0)) (m ((c : Thread nD τ).loc main_arg1))
abbrev hx : FVec F S4x16384 .f32 := hMax (hs m c)
abbrev he : FVec F S4x16384x16384 .f32 := hExp (hs m c) (hx m c)
abbrev hl : FVec F S4x16384 .f32 := hSum (he m c)

set_option maxHeartbeats 8000000 in
theorem V_o : Gen.V m c main_v27 = hO (m ((c : Thread nD τ).loc main_arg2)) (he m c) (hl m c) := by
  unfold Gen.V
  simp only [hostOps0, hostOps0_1, hostOps0_2, hostOps0_3, hostOps0_4, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp
  rfl

set_option maxHeartbeats 8000000 in
theorem V_lse : Gen.V m c main_v33 = hLse (hx m c) (hl m c) := by
  unfold Gen.V
  simp only [hostOps0, hostOps0_1, hostOps0_2, hostOps0_3, hostOps0_4, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp
  rfl

end Cert.KernelIdeal.Hand

end
-- ==== Proof.Math.lean ====
/- One head of attention and its gradients, over the real numbers. -/
module

public import Idealize.ShloMosaic.Lib.Pointwise

@[expose] public section

noncomputable section

namespace Cert.Math

/-- A head's queries, keys, values, the cotangent of its gated output, and its gate. -/
structure Head where
  Q : ℕ → ℕ → ℝ
  K : ℕ → ℕ → ℝ
  V : ℕ → ℕ → ℝ
  Y : ℕ → ℕ → ℝ
  G : ℕ → ℕ → ℝ

/-- The scale of the scores. -/
def cs : ℝ := (Real.sqrt 192)⁻¹

namespace Head

variable (H : Head)

def sc (i j : ℕ) : ℝ := (∑ d ∈ Finset.range 256, H.Q i d * H.K j d) * cs
/-- The exponentials of a row's scores, nothing where a row may not look. -/
def E (i j : ℕ) : ℝ := if j / 64 ≤ i / 64 then Real.exp (H.sc i j) else 0
def L (i : ℕ) : ℝ := ∑ j ∈ Finset.range 16384, H.E i j
def P (i j : ℕ) : ℝ := H.E i j / H.L i
def O (i d : ℕ) : ℝ := ∑ j ∈ Finset.range 16384, H.P i j * H.V j d
def sg (i d : ℕ) : ℝ := (1 + Real.exp (-H.G i d))⁻¹
def dO (i d : ℕ) : ℝ := H.Y i d * (H.G i d * H.sg i d)
def dp (i j : ℕ) : ℝ := ∑ d ∈ Finset.range 128, H.dO i d * H.V j d
def de (i : ℕ) : ℝ := ∑ d ∈ Finset.range 128, H.dO i d * H.O i d
def ds (i j : ℕ) : ℝ := H.P i j * (H.dp i j - H.de i) * cs
def dQ (i d : ℕ) : ℝ := ∑ j ∈ Finset.range 16384, H.ds i j * H.K j d
def dK (j d : ℕ) : ℝ := ∑ i ∈ Finset.range 16384, H.ds i j * H.Q i d
def dV (j d : ℕ) : ℝ := ∑ i ∈ Finset.range 16384, H.P i j * H.dO i d
def dG (i d : ℕ) : ℝ := H.Y i d * H.O i d * (H.sg i d * (1 + H.G i d * (1 - H.sg i d)))

theorem E_nonneg (i j : ℕ) : 0 ≤ H.E i j := by
  unfold E; split
  · exact (Real.exp_pos _).le
  · exact le_rfl

theorem L_pos {i : ℕ} (hi : i < 16384) : 0 < H.L i := by
  unfold L
  refine Finset.sum_pos' (fun j _ => H.E_nonneg i j) ⟨i, Finset.mem_range.mpr hi, ?_⟩
  unfold E; rw [if_pos le_rfl]; exact Real.exp_pos _

theorem P_of_not {i j : ℕ} (h : ¬ j / 64 ≤ i / 64) : H.P i j = 0 := by
  unfold P E; rw [if_neg h, zero_div]

theorem ds_of_not {i j : ℕ} (h : ¬ j / 64 ≤ i / 64) : H.ds i j = 0 := by
  unfold ds; rw [H.P_of_not h, zero_mul, zero_mul]

/-- The base-2 exponential of a score less the row's base-2 log-sum is the probability. -/
theorem exp2_eq {i j : ℕ} (hi : i < 16384) (h : j / 64 ≤ i / 64) :
    Real.rpow 2 ((∑ d ∈ Finset.range 256, H.Q i d * H.K j d) * (cs * (Real.log 2)⁻¹) - Real.log (H.L i) / Real.log 2) = H.P i j := by
  have h2 : Real.log 2 ≠ 0 := (Real.log_pos (by norm_num)).ne'
  have e : Real.log 2 * ((∑ d ∈ Finset.range 256, H.Q i d * H.K j d) * (cs * (Real.log 2)⁻¹) - Real.log (H.L i) / Real.log 2)
      = H.sc i j - Real.log (H.L i) := by
    unfold sc; field_simp
  rw [Real.rpow_eq_pow, Real.rpow_def_of_pos (by norm_num), e, Real.exp_sub, Real.exp_log (H.L_pos hi)]
  unfold P E; rw [if_pos h]

/-- The row's sum of cotangent times output is the mean of the probabilities' cotangents. -/
theorem de_eq (i : ℕ) : H.de i = ∑ j ∈ Finset.range 16384, H.P i j * H.dp i j := by
  unfold de dp O
  simp only [Finset.mul_sum]
  rw [Finset.sum_comm]
  refine Finset.sum_congr rfl fun j _ => Finset.sum_congr rfl fun d _ => ?_
  ring

/-- A row's exponentials and their sum, all scaled by the same factor. -/
theorem P_scaled {i j : ℕ} {x : ℝ} (hx : x ≠ 0) : H.E i j * x * (1 / (H.L i * x)) = H.P i j := by
  unfold P; field_simp

theorem sum_scaled (i : ℕ) (x : ℝ) : ∑ j ∈ Finset.range 16384, H.E i j * x = H.L i * x := by
  unfold L; rw [Finset.sum_mul]

/-- The gradient of a softmax's row, from its exponentials and their sum. -/
theorem ds_scaled {i j : ℕ} (hi : i < 16384) {x : ℝ} (hx : x ≠ 0) :
    (H.dp i j * (1 / (H.L i * x))
        + -(∑ k ∈ Finset.range 16384, H.dp i k * (1 / (H.L i * x * (H.L i * x))) * (H.E i k * x))) * (H.E i j * x) * cs
      = H.ds i j := by
  have hL := (H.L_pos hi).ne'
  have e : ∑ k ∈ Finset.range 16384, H.dp i k * (1 / (H.L i * x * (H.L i * x))) * (H.E i k * x) = H.de i * (1 / (H.L i * x)) := by
    rw [H.de_eq, Finset.sum_mul]
    refine Finset.sum_congr rfl fun k _ => ?_
    unfold P; field_simp
  rw [e]
  unfold ds P
  field_simp
  try ring

theorem dG_eq (i d : ℕ) :
    H.G i d * (H.O i d * H.Y i d) * (H.sg i d * (1 - H.sg i d)) + H.O i d * H.Y i d * H.sg i d = H.dG i d := by
  unfold dG; ring

/-- A query block's gradient: the blocks up to its own are all there is. -/
theorem dQ_blocks {n r : ℕ} (hn : n < 32) (hr : r < 512) (d : ℕ) :
    ∑ j ∈ Finset.range (512 * (n + 1)), H.ds (512 * n + r) j * H.K j d = H.dQ (512 * n + r) d := by
  unfold dQ
  refine Finset.sum_subset (Finset.range_mono (by omega)) fun j _ hj => ?_
  rw [Finset.mem_range, not_lt] at hj
  rw [H.ds_of_not (by omega), zero_mul]

end Head

/-- One more block of a sum. -/
theorem sum_block (f : ℕ → ℝ) (k : ℕ) :
    ∑ j ∈ Finset.range (512 * (k + 1)), f j = (∑ j ∈ Finset.range (512 * k), f j) + ∑ c : Fin 512, f (512 * k + c.val) := by
  rw [Nat.mul_add, Nat.mul_one, Finset.sum_range_add, ← Finset.sum_range (fun c => f (512 * k + c))]

/-- A sum of real numbers, in the extended reals. -/
theorem coe_sum {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

theorem coe_sum_fin {n : ℕ} (f : ℕ → ℝ) : ∑ k : Fin n, ((f k.val : ℝ) : EReal) = ((∑ k ∈ Finset.range n, f k : ℝ) : EReal) := by
  rw [coe_sum, Finset.sum_range]

end Cert.Math

end
-- ==== Proof.Consts.lean ====
/- The numbers the two programs' constants stand for. -/
module

public import Idealize.ShloMosaic.Lib.Pointwise

@[expose] public section
noncomputable section
open Idealize.ShloMosaic

namespace Cert.Math

theorem ofBits_neg_inf : Ideal.ofBits .f32 0xFF800000#32 = ⊥ := by
  simp [Ideal.ofBits, Ideal.ieee]
theorem ofBits_pos_inf : Ideal.ofBits .f32 0x7F800000#32 = ⊤ := by
  simp [Ideal.ofBits, Ideal.ieee]
theorem ofBits_one : Ideal.ofBits .f32 0x3F800000#32 = ((1 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_192 : Ideal.ofBits .f32 0x43400000#32 = ((192 : ℝ) : EReal) := by
  simp [Ideal.ofBits, Ideal.ieee, -EReal.coe_mul]; norm_num

end Cert.Math

end
-- ==== Proof.MathE.lean ====
/- Sums, maxima and exponentials of real numbers, in the extended reals. -/
module

public import proofs.«01_k».proof.Proof.Math
public import proofs.«01_k».proof.Proof.Consts

@[expose] public section
noncomputable section

namespace Cert.Math
open Idealize.ShloMosaic

theorem coe_sum_mul {n : ℕ} (f g : ℕ → ℝ) :
    ∑ k : Fin n, ((f k.val : ℝ) : EReal) * ((g k.val : ℝ) : EReal) = ((∑ k ∈ Finset.range n, f k * g k : ℝ) : EReal) := by
  rw [← coe_sum_fin (fun k => f k * g k)]
  exact Finset.sum_congr rfl fun k _ => (EReal.coe_mul _ _).symm

theorem sqrt192_ne : Real.sqrt 192 ≠ 0 := (Real.sqrt_pos.mpr (by norm_num)).ne'
theorem log2_ne : Real.log 2 ≠ 0 := (Real.log_pos (by norm_num)).ne'

theorem inv_sqrt : Ideal.div 1 (Ideal.sqrt (Ideal.ofBits FTy.f32 0x43400000#32)) = ((cs : ℝ) : EReal) := by
  rw [ofBits_192, Ideal.sqrt_coe, if_neg (by norm_num), Ideal.div_coe sqrt192_ne, one_mul]
  unfold cs
  rw [one_div]

theorem log_two : Ideal.log (Ideal.ofBits FTy.f32 0x40000000#32) = ((Real.log 2 : ℝ) : EReal) := by
  rw [ofBits_two, Ideal.log_coe, if_neg (by norm_num)]

theorem exp_masked (p : Prop) [Decidable p] (s M : ℝ) :
    Ideal.exp ((if p then ((s : ℝ) : EReal) else ⊥) - (M : EReal)) = (((if p then Real.exp s else 0) * Real.exp (-M) : ℝ) : EReal) := by
  split
  · rw [← EReal.coe_sub, Ideal.exp_coe, ← Real.exp_add, sub_eq_add_neg]
  · rw [EReal.bot_sub, Ideal.exp_bot, zero_mul, EReal.coe_zero]

theorem exp2_masked (p : Prop) [Decidable p] (s l : ℝ) :
    Ideal.exp2 ((s : EReal) + (if p then 0 else ⊥) - (l : EReal)) = ((if p then Real.rpow 2 (s - l) else 0 : ℝ) : EReal) := by
  split
  · rw [add_zero, ← EReal.coe_sub, Ideal.exp2_coe]
  · rw [EReal.add_bot, EReal.bot_sub, Ideal.exp2_bot, EReal.coe_zero]

/-- The largest of real numbers and of nothing, where one is a number. -/
theorem fold_max_real {n : ℕ} (f : Fin n → EReal) (h : ∀ k, f k ≠ ⊤) (i : Fin n) (hi : f i ≠ ⊥) :
    ∃ M : ℝ, Finset.fold max (Ideal.ofBits FTy.f32 0xFF800000#32) f Finset.univ = (M : EReal) := by
  rw [ofBits_neg_inf]
  have h1 : Finset.fold max ⊥ f Finset.univ ≠ ⊤ :=
    (Finset.fold_max_lt ⊤ |>.mpr ⟨bot_lt_top, fun k _ => lt_top_iff_ne_top.mpr (h k)⟩).ne
  have h2 : Finset.fold max ⊥ f Finset.univ ≠ ⊥ := by
    have : f i ≤ Finset.fold max ⊥ f Finset.univ := Finset.le_fold_max _ |>.mpr (Or.inr ⟨i, Finset.mem_univ i, le_rfl⟩)
    intro e
    rw [e] at this
    exact hi (le_bot_iff.mp this)
  exact ⟨_, (EReal.coe_toReal h1 h2).symm⟩

theorem logistic_head (H : Head) (i d : ℕ) : Ideal.logistic ((H.G i d : ℝ) : EReal) = ((H.sg i d : ℝ) : EReal) := Ideal.logistic_coe _

/-- A row's base-2 log-sum, whatever number its exponentials were scaled by. -/
theorem lse_eq (H : Head) {i : ℕ} (hi : i < 16384) (M : ℝ) :
    Ideal.div ((M : EReal) + Ideal.log (((H.L i * Real.exp (-M) : ℝ)) : EReal)) ((Real.log 2 : ℝ) : EReal) = ((Real.log (H.L i) / Real.log 2 : ℝ) : EReal) := by
  have hL := H.L_pos hi
  rw [Ideal.log_coe, if_neg (not_le.mpr (mul_pos hL (Real.exp_pos _))), Ideal.div_coe log2_ne, ← EReal.coe_add, ← EReal.coe_mul,
    Real.log_mul hL.ne' (Real.exp_pos _).ne', Real.log_exp]
  congr 1
  ring

theorem div_real (x : ℝ) {y : ℝ} (h : y ≠ 0) : Ideal.div (x : EReal) (y : EReal) = ((x * (1 / y) : ℝ) : EReal) := by
  rw [Ideal.div_coe h, EReal.coe_mul]

theorem prob_eq (H : Head) {i j : ℕ} (hi : i < 16384) (M : ℝ) :
    Ideal.div (((H.E i j * Real.exp (-M) : ℝ)) : EReal) (((H.L i * Real.exp (-M) : ℝ)) : EReal) = ((H.P i j : ℝ) : EReal) := by
  rw [div_real _ (mul_pos (H.L_pos hi) (Real.exp_pos _)).ne', H.P_scaled (Real.exp_pos _).ne']

end Cert.Math

end
-- ==== Proof.Words.lean ====
/- The index arithmetic of the mask, on words. -/
module

public import Idealize.ShloMosaic.Lib.Pointwise

@[expose] public section
noncomputable section

namespace Cert.Math
open Idealize.ShloMosaic

theorem blk_host_split : ∀ a b : Fin 128,
    Scalar.select
      (IntOp.andi
        (IntOp.cmpi CmpIPredicate.ne
          (if BitVec.ofNat 32 (128 * a.val + b.val) = 0 then (0 : BitVec 32) else if (BitVec.ofNat 32 (128 * a.val + b.val)).msb = true then -1 else 1)
          (if (64#32 : BitVec 32) = 0 then (0 : BitVec 32) else if (64#32 : BitVec 32).msb = true then -1 else 1))
        (IntOp.cmpi CmpIPredicate.ne (IntOp.remsi ArithUnit.host (BitVec.ofNat 32 (128 * a.val + b.val)) 64#32) 0#32))
      (IntOp.subi (IntOp.divsi ArithUnit.host (BitVec.ofNat 32 (128 * a.val + b.val)) 64#32) 1#32)
      (IntOp.divsi ArithUnit.host (BitVec.ofNat 32 (128 * a.val + b.val)) 64#32) =
    BitVec.ofNat 32 ((128 * a.val + b.val) / 64) := by decide +kernel

theorem blk_host (i : Fin 16384) :
    Scalar.select
      (IntOp.andi
        (IntOp.cmpi CmpIPredicate.ne
          (if BitVec.ofNat 32 i.val = 0 then (0 : BitVec 32) else if (BitVec.ofNat 32 i.val).msb = true then -1 else 1)
          (if (64#32 : BitVec 32) = 0 then (0 : BitVec 32) else if (64#32 : BitVec 32).msb = true then -1 else 1))
        (IntOp.cmpi CmpIPredicate.ne (IntOp.remsi ArithUnit.host (BitVec.ofNat 32 i.val) 64#32) 0#32))
      (IntOp.subi (IntOp.divsi ArithUnit.host (BitVec.ofNat 32 i.val) 64#32) 1#32)
      (IntOp.divsi ArithUnit.host (BitVec.ofNat 32 i.val) 64#32) =
    BitVec.ofNat 32 (i.val / 64) := by
  have h := blk_host_split ⟨i.val / 128, by omega⟩ ⟨i.val % 128, by omega⟩
  have e : 128 * (i.val / 128) + i.val % 128 = i.val := by omega
  simp only [e] at h
  exact h

theorem blk_core : ∀ r : Fin 512,
    Scalar.select
      (IntOp.andi
        (IntOp.cmpi CmpIPredicate.ne
          (IntOp.subi (BitVec.setWidth 32 (IntOp.cmpi CmpIPredicate.sgt (BitVec.ofNat 32 r.val) 0#32))
            (BitVec.setWidth 32 (IntOp.cmpi CmpIPredicate.slt (BitVec.ofNat 32 r.val) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 r.val) 64#32) 0#32))
      (IntOp.subi (IntOp.divsi ArithUnit.vector (BitVec.ofNat 32 r.val) 64#32) 1#32)
      (IntOp.divsi ArithUnit.vector (BitVec.ofNat 32 r.val) 64#32) =
    BitVec.ofNat 32 (r.val / 64) := by decide +kernel

theorem sle_small {a b : ℕ} (ha : a < 256) (hb : b < 256) :
    IntOp.cmpi CmpIPredicate.sle (BitVec.ofNat 32 a) (BitVec.ofNat 32 b) = BitVec.ofBool (decide (a ≤ b)) := by
  have ea : (BitVec.ofNat 32 a).toInt = a := by
    rw [BitVec.toInt_eq_toNat_of_lt (by rw [BitVec.toNat_ofNat]; omega), BitVec.toNat_ofNat]; norm_cast; omega
  have eb : (BitVec.ofNat 32 b).toInt = b := by
    rw [BitVec.toInt_eq_toNat_of_lt (by rw [BitVec.toNat_ofNat]; omega), BitVec.toNat_ofNat]; norm_cast; omega
  show BitVec.ofBool (BitVec.sle (BitVec.ofNat 32 a) (BitVec.ofNat 32 b)) = _
  rw [BitVec.sle_eq_decide, ea, eb]
  simp

theorem sle_core {a b : ℕ} (ha : a < 256) (hb : b < 256) :
    IntOp.cmpi CmpIPredicate.sle (IntOp.addi (BitVec.ofNat 32 a) 0#32) (BitVec.ofNat 32 b) = BitVec.ofBool (decide (a ≤ b)) := by
  have e : IntOp.addi (BitVec.ofNat 32 a) 0#32 = BitVec.ofNat 32 a := BitVec.add_zero _
  rw [e, sle_small ha hb]

theorem select_ofBool {α : Type} (p : Prop) [Decidable p] (x y : α) : Scalar.select (BitVec.ofBool (decide p)) x y = if p then x else y := by
  by_cases h : p <;> simp [Scalar.select, h]

end Cert.Math
end
-- ==== Proof.VHostAt.lean ====
/- The masked scores, their exponentials and sums, read at an index: before the call. -/
module

public import proofs.«01_k».proof.Proof.VHost
public import proofs.«01_k».proof.Proof.MathE
public import proofs.«01_k».proof.Proof.Words

@[expose] public section
set_option maxRecDepth 16384
noncomputable section

namespace Cert.KernelIdeal.Hand

open Cert.KernelIdeal Facts₀ Facts
open Idealize.ShloMosaic Idealize.ShloMosaic.TcCoe
open Cert.Math

variable [Facts]

theorem hBlk_at (i : Fin 16384) : hBlk (ix1 i) = BitVec.ofNat 32 (i.val / 64) := by
  unfold hBlk
  pointwise
  exact blk_host i

theorem hMask_at (h : Fin 4) (i j : Fin 16384) : hMask (ix3 h i j) = BitVec.ofBool (decide (j.val / 64 ≤ i.val / 64)) := by
  unfold hMask
  pointwise
  rw [hBlk_at, hBlk_at]
  exact sle_small (by omega) (by omega)

variable {q k : FVec Ideal S4x16384x256 .bf16} {H : Fin 4 → Head}

theorem hS_at (hq : ∀ h i d, q (ix3 h i d) = (((H h).Q i.val d.val : ℝ) : EReal)) (hk : ∀ h i d, k (ix3 h i d) = (((H h).K i.val d.val : ℝ) : EReal))
    (h : Fin 4) (i j : Fin 16384) : hS q k (ix3 h i j) = if j.val / 64 ≤ i.val / 64 then (((H h).sc i.val j.val : ℝ) : EReal) else ⊥ := by
  unfold hS
  pointwise
  rw [hMask_at]
  simp only [hq, hk]
  rw [select_ofBool, ofBits_neg_inf, inv_sqrt, coe_sum_mul (fun d => (H h).Q i.val d) (fun d => (H h).K j.val d), ← EReal.coe_mul]
  rfl

theorem hExp_at {s : FVec Ideal S4x16384x16384 .f32} {x : FVec Ideal S4x16384 .f32} {h : Fin 4} {i : Fin 16384} {M : ℝ}
    (hs : ∀ j, s (ix3 h i j) = if j.val / 64 ≤ i.val / 64 then (((H h).sc i.val j.val : ℝ) : EReal) else ⊥)
    (hx : x (ix2 h i) = (M : EReal)) (j : Fin 16384) : hExp s x (ix3 h i j) = (((H h).E i.val j.val * Real.exp (-M) : ℝ) : EReal) := by
  unfold hExp
  pointwise
  rw [hs, hx]
  unfold Head.E
  exact exp_masked _ _ _

theorem hSum_at {e : FVec Ideal S4x16384x16384 .f32} {h : Fin 4} {i : Fin 16384} {x : ℝ}
    (he : ∀ j, e (ix3 h i j) = (((H h).E i.val j.val * x : ℝ) : EReal)) : hSum e (ix2 h i) = (((H h).L i.val * x : ℝ) : EReal) := by
  unfold hSum
  pointwise
  simp only [he]
  rw [coe_sum_fin (fun j => (H h).E i.val j * x), (H h).sum_scaled]

theorem hMax_at {s : FVec Ideal S4x16384x16384 .f32} {h : Fin 4} {i : Fin 16384}
    (hs : ∀ j, s (ix3 h i j) = if j.val / 64 ≤ i.val / 64 then (((H h).sc i.val j.val : ℝ) : EReal) else ⊥) :
    ∃ M : ℝ, hMax s (ix2 h i) = (M : EReal) := by
  unfold hMax
  pointwise
  refine fold_max_real _ (fun j => ?_) i ?_
  · rw [hs]; split
    · exact EReal.coe_ne_top _
    · exact bot_ne_top
  · rw [hs, if_pos le_rfl]; exact EReal.coe_ne_bot _

theorem hO_at {v : FVec Ideal S4x16384x128 .bf16} {e : FVec Ideal S4x16384x16384 .f32} {l : FVec Ideal S4x16384 .f32} {h : Fin 4} {i : Fin 16384} {M : ℝ}
    (hv : ∀ j d, v (ix3 h j d) = (((H h).V j.val d.val : ℝ) : EReal))
    (he : ∀ j, e (ix3 h i j) = (((H h).E i.val j.val * Real.exp (-M) : ℝ) : EReal)) (hl : l (ix2 h i) = (((H h).L i.val * Real.exp (-M) : ℝ) : EReal))
    (d : Fin 128) : hO v e l (ix2 i ⟨h.val * 128 + d.val, by omega⟩) = (((H h).O i.val d.val : ℝ) : EReal) := by
  unfold hO
  pointwise
  simp only [hv, he, hl, prob_eq (H h) i.isLt]
  rw [coe_sum_mul (fun j => (H h).V j d.val) (fun j => (H h).P i.val j)]
  unfold Head.O
  simp only [mul_comm]

theorem hLse_at {x l : FVec Ideal S4x16384 .f32} {h : Fin 4} {i : Fin 16384} {M : ℝ}
    (hx : x (ix2 h i) = (M : EReal)) (hl : l (ix2 h i) = (((H h).L i.val * Real.exp (-M) : ℝ) : EReal)) (c : Fin 128) :
    hLse x l (ix3 h i c) = ((Real.log ((H h).L i.val) / Real.log 2 : ℝ) : EReal) := by
  unfold hLse
  pointwise
  rw [hx, hl]
  rw [log_two, lse_eq (H h) i.isLt]

end Cert.KernelIdeal.Hand

end
-- ==== Proof.VReal.lean ====
/- Arrays of real numbers: the heads the argument arrays hold, and what the host computes of them. -/
module

public import proofs.«01_k».proof.Proof.VHostAt

@[expose] public section
set_option maxRecDepth 16384
noncomputable section

namespace Cert.KernelIdeal.Hand

open Cert.KernelIdeal Facts₀ Facts
open Idealize.ShloMosaic Idealize.ShloMosaic.TcCoe
open Cert.Math

/-- The argument arrays hold the four heads `H`. -/
structure Reals (H : Fin 4 → Head) (q k : FVec Ideal S4x16384x256 .bf16) (v : FVec Ideal S4x16384x128 .bf16)
    (y : FVec Ideal S16384x1024 .f32) (z : FVec Ideal S16384x2560 .f32) : Prop where
  q : ∀ h i d, q (ix3 h i d) = (((H h).Q i.val d.val : ℝ) : EReal)
  k : ∀ h i d, k (ix3 h i d) = (((H h).K i.val d.val : ℝ) : EReal)
  v : ∀ h i d, v (ix3 h i d) = (((H h).V i.val d.val : ℝ) : EReal)
  y : ∀ (h : Fin 4) (i : Fin 16384) (d : Fin 128), y (ix2 i ⟨512 + (h.val * 128 + d.val), by omega⟩) = (((H h).Y i.val d.val : ℝ) : EReal)
  g : ∀ (h : Fin 4) (i : Fin 16384) (d : Fin 128), z (ix2 i ⟨2048 + (h.val * 128 + d.val), by omega⟩) = (((H h).G i.val d.val : ℝ) : EReal)

/-- The heads five arrays hold. -/
def headsOf (q k : FVec Ideal S4x16384x256 .bf16) (v : FVec Ideal S4x16384x128 .bf16)
    (y : FVec Ideal S16384x1024 .f32) (z : FVec Ideal S16384x2560 .f32) (h : Fin 4) : Head where
  Q i d := (q (ix3 h (Fin.ofNat 16384 i) (Fin.ofNat 256 d))).toReal
  K i d := (k (ix3 h (Fin.ofNat 16384 i) (Fin.ofNat 256 d))).toReal
  V i d := (v (ix3 h (Fin.ofNat 16384 i) (Fin.ofNat 128 d))).toReal
  Y i d := (y (ix2 (Fin.ofNat 16384 i) (Fin.ofNat 1024 (512 + (h.val * 128 + d))))).toReal
  G i d := (z (ix2 (Fin.ofNat 16384 i) (Fin.ofNat 2560 (2048 + (h.val * 128 + d))))).toReal

theorem ofNat_val {n : ℕ} [NeZero n] (i : Fin n) : Fin.ofNat n i.val = i := Fin.ext (Nat.mod_eq_of_lt i.isLt)
theorem ofNat_lt {n : ℕ} [NeZero n] {x : ℕ} (h : x < n) : Fin.ofNat n x = ⟨x, h⟩ := Fin.ext (Nat.mod_eq_of_lt h)

theorem reals_of (q k : FVec Ideal S4x16384x256 .bf16) (v : FVec Ideal S4x16384x128 .bf16)
    (y : FVec Ideal S16384x1024 .f32) (z : FVec Ideal S16384x2560 .f32)
    (hq : ∀ i, q i ≠ (⊤ : EReal) ∧ q i ≠ (⊥ : EReal)) (hk : ∀ i, k i ≠ (⊤ : EReal) ∧ k i ≠ (⊥ : EReal)) (hv : ∀ i, v i ≠ (⊤ : EReal) ∧ v i ≠ (⊥ : EReal))
    (hy : ∀ i, y i ≠ (⊤ : EReal) ∧ y i ≠ (⊥ : EReal)) (hz : ∀ i, z i ≠ (⊤ : EReal) ∧ z i ≠ (⊥ : EReal)) :
    Reals (headsOf q k v y z) q k v y z where
  q h i d := by unfold headsOf; simp only [ofNat_val]; exact (EReal.coe_toReal (hq _).1 (hq _).2).symm
  k h i d := by unfold headsOf; simp only [ofNat_val]; exact (EReal.coe_toReal (hk _).1 (hk _).2).symm
  v h i d := by unfold headsOf; simp only [ofNat_val]; exact (EReal.coe_toReal (hv _).1 (hv _).2).symm
  y h i d := by
    unfold headsOf
    simp only [ofNat_val, ofNat_lt (show 512 + (h.val * 128 + d.val) < 1024 by omega)]
    exact (EReal.coe_toReal (hy _).1 (hy _).2).symm
  g h i d := by
    unfold headsOf
    simp only [ofNat_val, ofNat_lt (show 2048 + (h.val * 128 + d.val) < 2560 by omega)]
    exact (EReal.coe_toReal (hz _).1 (hz _).2).symm

variable [Facts]

section
variable {H : Fin 4 → Head} {q k : FVec Ideal S4x16384x256 .bf16} {v : FVec Ideal S4x16384x128 .bf16} {y : FVec Ideal S16384x1024 .f32} {z : FVec Ideal S16384x2560 .f32}

theorem Reals.top (R : Reals H q k v y z) (h : Fin 4) (i : Fin 16384) : ∃ M : ℝ, hMax (hS q k) (ix2 h i) = (M : EReal) :=
  hMax_at fun j => hS_at R.q R.k h i j
theorem Reals.exp (R : Reals H q k v y z) {h : Fin 4} {i : Fin 16384} {M : ℝ} (hM : hMax (hS q k) (ix2 h i) = (M : EReal)) (j : Fin 16384) :
    hExp (hS q k) (hMax (hS q k)) (ix3 h i j) = (((H h).E i.val j.val * Real.exp (-M) : ℝ) : EReal) :=
  hExp_at (fun j => hS_at R.q R.k h i j) hM j
theorem Reals.sum (R : Reals H q k v y z) {h : Fin 4} {i : Fin 16384} {M : ℝ} (hM : hMax (hS q k) (ix2 h i) = (M : EReal)) :
    hSum (hExp (hS q k) (hMax (hS q k))) (ix2 h i) = (((H h).L i.val * Real.exp (-M) : ℝ) : EReal) :=
  hSum_at (R.exp hM)
/-- The host's attention output. -/
theorem Reals.o (R : Reals H q k v y z) (h : Fin 4) (i : Fin 16384) (d : Fin 128) :
    hO v (hExp (hS q k) (hMax (hS q k))) (hSum (hExp (hS q k) (hMax (hS q k)))) (ix2 i ⟨h.val * 128 + d.val, by omega⟩) = (((H h).O i.val d.val : ℝ) : EReal) := by
  obtain ⟨M, hM⟩ := R.top h i
  exact hO_at (fun j d => R.v h j d) (R.exp hM) (R.sum hM) d
/-- The host's rows' log-sums. -/
theorem Reals.lse (R : Reals H q k v y z) (h : Fin 4) (i : Fin 16384) (c : Fin 128) :
    hLse (hMax (hS q k)) (hSum (hExp (hS q k) (hMax (hS q k)))) (ix3 h i c) = ((Real.log ((H h).L i.val) / Real.log 2 : ℝ) : EReal) := by
  obtain ⟨M, hM⟩ := R.top h i
  exact hLse_at hM (R.sum hM) c
end

/-- The memory's argument arrays hold the heads `H`. -/
abbrev RealsAt (m : (ℓ : Loc nD τ sig) → Buf (Elt Ideal) ℓ) (c : Dev nD) (H : Fin 4 → Head) : Prop :=
  Reals H (m ((c : Thread nD τ).loc main_arg0)) (m ((c : Thread nD τ).loc main_arg1)) (m ((c : Thread nD τ).loc main_arg2)) (m ((c : Thread nD τ).loc main_arg3)) (m ((c : Thread nD τ).loc main_arg4))

end Cert.KernelIdeal.Hand

end
-- ==== Proof.VSteps.lean ====
/- The values of one block of scores and gradients, read at an index over the extended reals. -/
module

public import proofs.«01_k».proof.Proof.Point
public import Idealize.ShloMosaic.Lib.Pointwise

@[expose] public section
set_option maxRecDepth 16384
noncomputable section

namespace Cert.KernelIdeal.Hand

open Cert.KernelIdeal Facts₀ Facts
open Idealize.ShloMosaic Idealize.ShloMosaic.TcCoe

variable [Facts]

theorem named_scale_log2e : (Named.named κ "scale_log2e" 0x3DD53B95#32 : Ideal .f32) = (((Real.sqrt 192)⁻¹ * (Real.log 2)⁻¹ : ℝ) : EReal) :=
  IdealRules.named_const.ideal_named_scalar _ _ _ _ rfl
theorem named_scale : (Named.named κ "scale" 0x3D93CD3A#32 : Ideal .f32) = (((Real.sqrt 192)⁻¹ : ℝ) : EReal) :=
  IdealRules.named_const.ideal_named_scalar _ _ _ _ rfl
theorem named_mask : (Named.named κ "mask" 0xF149F2CA#32 : Ideal .f32) = (⊥ : EReal) :=
  IdealRules.named_const.ideal_named_scalar _ _ _ _ rfl

theorem tile4_at (v : FVec Ideal S512x128 .f32) (r c : Fin 512) : tile4 v (ix2 r c) = v (ix2 r ⟨c.val % 128, Nat.mod_lt _ (by omega)⟩) := by
  unfold tile4
  pointwise
  split
  · congr 3; omega
  split
  · congr 3; omega
  split
  · congr 3; omega
  · congr 3; omega

theorem sVal_at (q k : FVec Ideal S512x256 .bf16) (b : FVec Ideal S1x512x512 .f32) (l : FVec Ideal S1x512x128 .f32) (r c : Fin 512) :
    sVal q k b l (ix2 r c) = (∑ d : Fin 256, q (ix2 r d) * k (ix2 c d)) * (((Real.sqrt 192)⁻¹ * (Real.log 2)⁻¹ : ℝ) : EReal)
      + b (ix3 0 r c) - l (ix3 0 r ⟨c.val % 128, Nat.mod_lt _ (by omega)⟩) := by
  unfold sVal
  pointwise
  rw [tile4_at, named_scale_log2e]
  pointwise

theorem dpVal_at (dob v : FVec Ideal S512x128 .bf16) (δ : FVec Ideal S512x128 .f32) (r c : Fin 512) :
    dpVal dob v δ (ix2 r c) = (∑ d : Fin 128, dob (ix2 r d) * v (ix2 c d)) - δ (ix2 r ⟨c.val % 128, Nat.mod_lt _ (by omega)⟩) := by
  unfold dpVal
  pointwise
  rw [tile4_at]

theorem pVal_at (s : FVec Ideal S512x512 .f32) (r c : Fin 512) : pVal s (ix2 r c) = Ideal.exp2 (s (ix2 r c)) := by
  unfold pVal
  pointwise
  rfl

theorem dsVal_at (s d : FVec Ideal S512x512 .f32) (r c : Fin 512) :
    dsVal s d (ix2 r c) = Ideal.exp2 (s (ix2 r c)) * d (ix2 r c) * (((Real.sqrt 192)⁻¹ : ℝ) : EReal) := by
  unfold dsVal
  pointwise
  rw [named_scale]
  rfl

theorem dqVal_at (x : FVec Ideal S512x256 .f32) (ds : FVec Ideal S512x512 .bf16) (k : FVec Ideal S512x256 .bf16) (r : Fin 512) (d : Fin 256) :
    dqVal x ds k (ix2 r d) = x (ix2 r d) + ∑ c : Fin 512, ds (ix2 r c) * k (ix2 c d) := by
  unfold dqVal
  pointwise

theorem dkVal_at (x : FVec Ideal S512x256 .f32) (ds : FVec Ideal S512x512 .bf16) (q : FVec Ideal S512x256 .bf16) (c : Fin 512) (d : Fin 256) :
    dkVal x ds q (ix2 c d) = x (ix2 c d) + ∑ r : Fin 512, ds (ix2 r c) * q (ix2 r d) := by
  unfold dkVal
  pointwise

theorem dvVal_at (x : FVec Ideal S512x128 .f32) (p : FVec Ideal S512x512 .bf16) (dob : FVec Ideal S512x128 .bf16) (c : Fin 512) (d : Fin 128) :
    dvVal x p dob (ix2 c d) = x (ix2 c d) + ∑ r : Fin 512, p (ix2 r c) * dob (ix2 r d) := by
  unfold dvVal
  pointwise

theorem doVal_at (g y : FVec Ideal S512x128 .f32) (r : Fin 512) (d : Fin 128) :
    doVal g y (ix2 r d) = y (ix2 r d) * (g (ix2 r d) * Ideal.logistic (g (ix2 r d))) := by
  unfold doVal
  pointwise

theorem dobVal_at (g y : FVec Ideal S512x128 .f32) (r : Fin 512) (d : Fin 128) :
    dobVal g y (ix2 r d) = y (ix2 r d) * (g (ix2 r d) * Ideal.logistic (g (ix2 r d))) := by
  unfold dobVal
  pointwise
  rw [doVal_at]

theorem dgateVal_at (g y o : FVec Ideal S512x128 .f32) (r : Fin 512) (d : Fin 128) :
    dgateVal g y o (ix2 r d) = y (ix2 r d) * o (ix2 r d)
      * (Ideal.logistic (g (ix2 r d)) * (1 + g (ix2 r d) * (1 - Ideal.logistic (g (ix2 r d))))) := by
  unfold dgateVal
  pointwise

theorem qVal_at (q : FVec Ideal S1x512x256 .bf16) (r : Fin 512) (d : Fin 256) : qVal q (ix2 r d) = q (ix3 0 r d) := by
  unfold qVal
  pointwise

theorem deltaSt_at (g y o : FVec Ideal S512x128 .f32) (r : Fin 512) (l : Fin 128) :
    deltaSt (deltaVal g y o) (ix2 r l) = ∑ d : Fin 128, doVal g y (ix2 r d) * o (ix2 r d) := by
  unfold deltaSt deltaVal
  pointwise

theorem zeroQ_at (r : Fin 512) (d : Fin 256) : (zeroQ : FVec Ideal S512x256 .f32) (ix2 r d) = 0 := by
  unfold zeroQ
  pointwise
theorem zero256_at (r : Fin 16384) (d : Fin 256) : (zero256 : FVec Ideal S16384x256 .f32) (ix2 r d) = 0 := by
  unfold zero256
  pointwise
theorem zero128_at (r : Fin 16384) (d : Fin 128) : (zero128 : FVec Ideal S16384x128 .f32) (ix2 r d) = 0 := by
  unfold zero128
  pointwise
theorem dqOut_at (x : FVec Ideal S512x256 .f32) (r : Fin 512) (d : Fin 256) : dqOut x (ix3 0 r d) = x (ix2 r d) := by
  unfold dqOut
  pointwise

end Cert.KernelIdeal.Hand

end
-- ==== Proof.VFold.lean ====
/- A grid point's blocks as one fold over them, and its windows read at an index. -/
module

public import proofs.«01_k».proof.Proof.VSteps

@[expose] public section
set_option maxRecDepth 16384
noncomputable section

namespace Cert.KernelIdeal.Hand

open Cert.KernelIdeal Facts₀ Facts
open Idealize.ShloMosaic Idealize.ShloMosaic.TcCoe

variable [Facts] {F : FTy → Type} [FloatOps F] [Named F]

/-- The gradients after the first `k` blocks, taken one after another. -/
def St.blocks (X : Cx F) (σ : St F) : ℕ → St F
  | 0 => σ
  | k + 1 => (St.blocks X σ k).grads X (X.s k) (X.d k) k

/-- Two states with the same gradients. -/
def Same (σ σ' : St F) : Prop := σ.dq = σ'.dq ∧ σ.dk = σ'.dk ∧ σ.dv = σ'.dv

theorem Same.grads {X : Cx F} {σ σ' : St F} (h : Same σ σ') (s d : FVec F S512x512 .f32) (j : ℕ) : Same (σ.grads X s d j) (σ'.grads X s d j) := by
  obtain ⟨h1, h2, h3⟩ := h
  unfold St.grads
  exact ⟨by simp only [h1], by simp only [h2], by simp only [h3]⟩

theorem pairs_blocks (X : Cx F) (sb db : FVec F S512x512 .f32) (dk : FVec F S16384x256 .f32) (dv : FVec F S16384x128 .f32) (p : ℕ) (hp : 2 * p ≤ X.i + 1) :
    Same ((St.start X sb db dk dv).pairs X p) ((St.start X sb db dk dv).blocks X (2 * p))
    ∧ (2 * p ≤ X.i → ((St.start X sb db dk dv).pairs X p).sa = X.s (2 * p) ∧ ((St.start X sb db dk dv).pairs X p).da = X.d (2 * p)) := by
  induction p with
  | zero => exact ⟨⟨rfl, rfl, rfl⟩, fun _ => ⟨rfl, rfl⟩⟩
  | succ p ih =>
    obtain ⟨hS, hA⟩ := ih (by omega)
    obtain ⟨hs, hd⟩ := hA (by omega)
    obtain ⟨h1, h2, h3⟩ := hS
    have e : (St.start X sb db dk dv).pairs X (p + 1) = St.pair X ((St.start X sb db dk dv).pairs X p) p := rfl
    have e' : (St.start X sb db dk dv).blocks X (2 * (p + 1))
        = (((St.start X sb db dk dv).blocks X (2 * p)).grads X (X.s (2 * p)) (X.d (2 * p)) (2 * p)).grads X (X.s (2 * p + 1)) (X.d (2 * p + 1)) (2 * p + 1) := rfl
    rw [e, e']
    generalize (St.start X sb db dk dv).pairs X p = τ at h1 h2 h3 hs hd ⊢
    generalize (St.start X sb db dk dv).blocks X (2 * p) = υ at h1 h2 h3 ⊢
    refine ⟨?_, ?_⟩
    · unfold St.pair St.grads
      refine ⟨?_, ?_, ?_⟩
      · simp only [h1, hs, hd]
      · simp only [h2, hs, hd]
      · simp only [h3, hs, hd]
    · intro hle
      have em : min (2 * p + 2) X.i = 2 * (p + 1) := by omega
      unfold St.pair St.grads
      exact ⟨congrArg X.s em, congrArg X.d em⟩

theorem done_blocks (X : Cx F) (sb db : FVec F S512x512 .f32) (dk : FVec F S16384x256 .f32) (dv : FVec F S16384x128 .f32) :
    Same ((St.start X sb db dk dv).done X) ((St.start X sb db dk dv).blocks X (X.i + 1)) := by
  obtain ⟨hS, hA⟩ := pairs_blocks X sb db dk dv ((X.i + 1) / 2) (by omega)
  unfold St.done
  split
  · next h =>
    have e : 2 * ((X.i + 1) / 2) = X.i := by omega
    obtain ⟨hs, hd⟩ := hA (by omega)
    rw [e] at hS hs hd
    rw [hs, hd]
    exact hS.grads _ _ _
  · next h =>
    have e : 2 * ((X.i + 1) / 2) = X.i + 1 := by omega
    rw [e] at hS
    exact hS

/-! ## Windows -/

theorem rows256_at (x : FVec F S16384x256 .f32) {j : ℕ} (hj : j < 32) (c : Fin 512) (d : Fin 256) :
    rows256 x j (ix2 c d) = x (ix2 ⟨512 * j + c.val, by omega⟩ d) := by
  unfold rows256 VecWindow.window
  rw [dif_pos hj]
  refine congrArg x (funext fun b => ?_)
  fin_cases b
  · exact Fin.ext (by show 512 * j + 1 * c.val = 512 * j + c.val; omega)
  · exact Fin.ext (by show 0 + 1 * d.val = d.val; omega)

theorem rows128_at (x : FVec F S16384x128 .f32) {j : ℕ} (hj : j < 32) (c : Fin 512) (d : Fin 128) :
    rows128 x j (ix2 c d) = x (ix2 ⟨512 * j + c.val, by omega⟩ d) := by
  unfold rows128 VecWindow.window
  rw [dif_pos hj]
  refine congrArg x (funext fun b => ?_)
  fin_cases b
  · exact Fin.ext (by show 512 * j + 1 * c.val = 512 * j + c.val; omega)
  · exact Fin.ext (by show 0 + 1 * d.val = d.val; omega)

theorem rowsK_at (x : FVec F S16384x256 .bf16) {j : ℕ} (hj : j < 32) (c : Fin 512) (d : Fin 256) :
    rowsK x j (ix2 c d) = x (ix2 ⟨512 * j + c.val, by omega⟩ d) := by
  unfold rowsK VecWindow.window
  rw [dif_pos hj]
  refine congrArg x (funext fun b => ?_)
  fin_cases b
  · exact Fin.ext (by show 512 * j + 1 * c.val = 512 * j + c.val; omega)
  · exact Fin.ext (by show 0 + 1 * d.val = d.val; omega)

theorem rowsV_at (x : FVec F S16384x128 .bf16) {j : ℕ} (hj : j < 32) (c : Fin 512) (d : Fin 128) :
    rowsV x j (ix2 c d) = x (ix2 ⟨512 * j + c.val, by omega⟩ d) := by
  unfold rowsV VecWindow.window
  rw [dif_pos hj]
  refine congrArg x (funext fun b => ?_)
  fin_cases b
  · exact Fin.ext (by show 512 * j + 1 * c.val = 512 * j + c.val; omega)
  · exact Fin.ext (by show 0 + 1 * d.val = d.val; omega)

theorem put256_at (x : FVec F S16384x256 .f32) (j : ℕ) (w : FVec F S512x256 .f32) (a : Fin 16384) (d : Fin 256) :
    put256 x j w (ix2 a d) = if a.val / 512 = j then w (ix2 ⟨a.val % 512, Nat.mod_lt _ (by omega)⟩ d) else x (ix2 a d) := by
  unfold put256 VecWindow.put
  split
  · next h =>
    have h0 := h 0
    change 512 * j ≤ a.val ∧ a.val < 512 * j + 512 at h0
    rw [if_pos (by omega)]
    refine congrArg w (funext fun b => ?_)
    fin_cases b
    · exact Fin.ext (by show a.val - 512 * j = a.val % 512; omega)
    · exact Fin.ext (by show d.val - 0 = d.val; omega)
  · next h =>
    rw [if_neg]
    intro e
    apply h
    intro b
    fin_cases b
    · show 512 * j ≤ a.val ∧ a.val < 512 * j + 512; omega
    · show 0 ≤ d.val ∧ d.val < 0 + 256; omega

theorem put128_at (x : FVec F S16384x128 .f32) (j : ℕ) (w : FVec F S512x128 .f32) (a : Fin 16384) (d : Fin 128) :
    put128 x j w (ix2 a d) = if a.val / 512 = j then w (ix2 ⟨a.val % 512, Nat.mod_lt _ (by omega)⟩ d) else x (ix2 a d) := by
  unfold put128 VecWindow.put
  split
  · next h =>
    have h0 := h 0
    change 512 * j ≤ a.val ∧ a.val < 512 * j + 512 at h0
    rw [if_pos (by omega)]
    refine congrArg w (funext fun b => ?_)
    fin_cases b
    · exact Fin.ext (by show a.val - 512 * j = a.val % 512; omega)
    · exact Fin.ext (by show d.val - 0 = d.val; omega)
  · next h =>
    rw [if_neg]
    intro e
    apply h
    intro b
    fin_cases b
    · show 512 * j ≤ a.val ∧ a.val < 512 * j + 512; omega
    · show 0 ≤ d.val ∧ d.val < 0 + 128; omega

theorem b_at (X : Cx F) (j : ℕ) (r c : Fin 512) :
    X.b j (ix3 0 r c) = X.bias (ix3 (if j = X.i then 1 else 0) r c) := by
  unfold Cx.b VecWindow.window
  refine congrArg X.bias (funext fun b => ?_)
  fin_cases b
  · refine Fin.ext ?_
    show (decide (j = X.i)).toNat + 1 * 0 = _
    by_cases h : j = X.i
    · simp [h]
    · simp [h]
  · exact Fin.ext (by show 0 + 1 * r.val = r.val; omega)
  · exact Fin.ext (by show 0 + 1 * c.val = c.val; omega)

end Cert.KernelIdeal.Hand

end
-- ==== Proof.VNum.lean ====
/- A grid point over the real numbers: what its blocks add to each gradient. -/
module

public import proofs.«01_k».proof.Proof.VFold
public import proofs.«01_k».proof.Proof.MathE
public import proofs.«01_k».proof.Proof.Words

@[expose] public section
set_option maxRecDepth 16384
noncomputable section

namespace Cert.KernelIdeal.Hand

open Cert.KernelIdeal Facts₀ Facts
open Idealize.ShloMosaic Idealize.ShloMosaic.TcCoe
open Cert.Math

variable [Facts]

/-- A grid point's blocks are those of the head `H`. -/
structure Fits (H : Head) (X : Cx Ideal) : Prop where
  lt : X.i < 32
  q : ∀ (r : Fin 512) (d : Fin 256), X.q (ix2 r d) = ((H.Q (512 * X.i + r.val) d.val : ℝ) : EReal)
  dob : ∀ (r : Fin 512) (d : Fin 128), X.dob (ix2 r d) = ((H.dO (512 * X.i + r.val) d.val : ℝ) : EReal)
  lse : ∀ (r : Fin 512) (l : Fin 128), X.lse (ix3 0 r l) = ((Real.log (H.L (512 * X.i + r.val)) / Real.log 2 : ℝ) : EReal)
  delta : ∀ (r : Fin 512) (l : Fin 128), X.delta (ix2 r l) = ((H.de (512 * X.i + r.val) : ℝ) : EReal)
  b0 : ∀ r c : Fin 512, X.bias (ix3 0 r c) = 0
  b1 : ∀ r c : Fin 512, X.bias (ix3 1 r c) = if c.val / 64 ≤ r.val / 64 then 0 else ⊥
  k : ∀ j, j < 32 → ∀ (r : Fin 512) (d : Fin 256), X.K j (ix2 r d) = ((H.K (512 * j + r.val) d.val : ℝ) : EReal)
  v : ∀ j, j < 32 → ∀ (r : Fin 512) (d : Fin 128), X.V j (ix2 r d) = ((H.V (512 * j + r.val) d.val : ℝ) : EReal)

variable {H : Head} {X : Cx Ideal}

theorem Fits.bias (h : Fits H X) {j : ℕ} (hj : j ≤ X.i) (r c : Fin 512) :
    X.b j (ix3 0 r c) = if (512 * j + c.val) / 64 ≤ (512 * X.i + r.val) / 64 then 0 else ⊥ := by
  rw [b_at]
  by_cases e : j = X.i
  · rw [if_pos e, h.b1]
    subst e
    congr 1
    exact propext ⟨fun _ => by omega, fun _ => by omega⟩
  · rw [if_neg e, h.b0, if_pos (by omega)]

theorem Fits.exp2_s (h : Fits H X) {j : ℕ} (hj : j ≤ X.i) (r c : Fin 512) :
    Ideal.exp2 (X.s j (ix2 r c)) = ((H.P (512 * X.i + r.val) (512 * j + c.val) : ℝ) : EReal) := by
  have hlt := h.lt
  unfold Cx.s
  rw [sVal_at, h.bias hj, h.lse]
  simp only [h.q, h.k j (by omega)]
  rw [coe_sum_mul (fun d => H.Q (512 * X.i + r.val) d) (fun d => H.K (512 * j + c.val) d), ← EReal.coe_mul, exp2_masked]
  split
  · next hle => rw [← H.exp2_eq (by omega) hle]; rfl
  · next hn => rw [H.P_of_not hn]

theorem Fits.d_at (h : Fits H X) {j : ℕ} (hj : j ≤ X.i) (r c : Fin 512) :
    X.d j (ix2 r c) = ((H.dp (512 * X.i + r.val) (512 * j + c.val) - H.de (512 * X.i + r.val) : ℝ) : EReal) := by
  have hlt := h.lt
  unfold Cx.d
  rw [dpVal_at, h.delta]
  simp only [h.dob, h.v j (by omega)]
  rw [coe_sum_mul (fun d => H.dO (512 * X.i + r.val) d) (fun d => H.V (512 * j + c.val) d), ← EReal.coe_sub]
  rfl

theorem Fits.p_at (h : Fits H X) {j : ℕ} (hj : j ≤ X.i) (r c : Fin 512) :
    pVal (X.s j) (ix2 r c) = ((H.P (512 * X.i + r.val) (512 * j + c.val) : ℝ) : EReal) := by
  rw [pVal_at, h.exp2_s hj]

theorem Fits.ds_at (h : Fits H X) {j : ℕ} (hj : j ≤ X.i) (r c : Fin 512) :
    dsVal (X.s j) (X.d j) (ix2 r c) = ((H.ds (512 * X.i + r.val) (512 * j + c.val) : ℝ) : EReal) := by
  rw [dsVal_at, h.exp2_s hj, h.d_at hj, ← EReal.coe_mul, ← EReal.coe_mul]
  rfl

/-- The queries' gradient after `k` blocks. -/
theorem Fits.dq_blocks (h : Fits H X) {σ : St Ideal} (h0 : ∀ (r : Fin 512) (d : Fin 256), σ.dq (ix2 r d) = 0) (k : ℕ) (hk : k ≤ X.i + 1) (r : Fin 512) (d : Fin 256) :
    (σ.blocks X k).dq (ix2 r d) = ((∑ j ∈ Finset.range (512 * k), H.ds (512 * X.i + r.val) j * H.K j d.val : ℝ) : EReal) := by
  have hlt := h.lt
  induction k with
  | zero => rw [Nat.mul_zero, Finset.sum_range_zero, EReal.coe_zero]; exact h0 r d
  | succ k ih =>
    show dqVal (σ.blocks X k).dq (dsVal (X.s k) (X.d k)) (X.K k) (ix2 r d) = _
    rw [dqVal_at, ih (by omega)]
    simp only [h.ds_at (by omega : k ≤ X.i), h.k k (by omega), ← EReal.coe_mul]
    rw [coe_sum, ← EReal.coe_add, ← sum_block (fun j => H.ds (512 * X.i + r.val) j * H.K j d.val)]

/-- The keys' gradient after `k` blocks: the first `k` blocks' rows have gained the point's part. -/
theorem Fits.dk_blocks (h : Fits H X) {σ : St Ideal} {A : ℕ → ℕ → ℝ} (h0 : ∀ (a : Fin 16384) (d : Fin 256), σ.dk (ix2 a d) = ((A a.val d.val : ℝ) : EReal))
    (k : ℕ) (hk : k ≤ X.i + 1) (a : Fin 16384) (d : Fin 256) :
    (σ.blocks X k).dk (ix2 a d) = ((A a.val d.val + if a.val / 512 < k then ∑ r : Fin 512, H.ds (512 * X.i + r.val) a.val * H.Q (512 * X.i + r.val) d.val else 0 : ℝ) : EReal) := by
  have hlt := h.lt
  induction k generalizing a with
  | zero => rw [if_neg (by omega), add_zero]; exact h0 a d
  | succ k ih =>
    show put256 (σ.blocks X k).dk k (dkVal (rows256 (σ.blocks X k).dk k) (dsVal (X.s k) (X.d k)) X.q) (ix2 a d) = _
    rw [put256_at]
    by_cases e : a.val / 512 = k
    · rw [if_pos e, if_pos (by omega), dkVal_at, rows256_at _ (by omega), ih (by omega)]
      simp only [h.ds_at (by omega : k ≤ X.i), h.q, ← EReal.coe_mul]
      have ea : 512 * k + a.val % 512 = a.val := by omega
      simp only [ea]
      rw [if_neg (by omega), add_zero, coe_sum, ← EReal.coe_add]
    · rw [if_neg e, ih (by omega)]
      congr 3
      exact propext ⟨fun _ => by omega, fun _ => by omega⟩

theorem Fits.dv_blocks (h : Fits H X) {σ : St Ideal} {A : ℕ → ℕ → ℝ} (h0 : ∀ (a : Fin 16384) (d : Fin 128), σ.dv (ix2 a d) = ((A a.val d.val : ℝ) : EReal))
    (k : ℕ) (hk : k ≤ X.i + 1) (a : Fin 16384) (d : Fin 128) :
    (σ.blocks X k).dv (ix2 a d) = ((A a.val d.val + if a.val / 512 < k then ∑ r : Fin 512, H.P (512 * X.i + r.val) a.val * H.dO (512 * X.i + r.val) d.val else 0 : ℝ) : EReal) := by
  have hlt := h.lt
  induction k generalizing a with
  | zero => rw [if_neg (by omega), add_zero]; exact h0 a d
  | succ k ih =>
    show put128 (σ.blocks X k).dv k (dvVal (rows128 (σ.blocks X k).dv k) (pVal (X.s k)) X.dob) (ix2 a d) = _
    rw [put128_at]
    by_cases e : a.val / 512 = k
    · rw [if_pos e, if_pos (by omega), dvVal_at, rows128_at _ (by omega), ih (by omega)]
      simp only [h.p_at (by omega : k ≤ X.i), h.dob, ← EReal.coe_mul]
      have ea : 512 * k + a.val % 512 = a.val := by omega
      simp only [ea]
      rw [if_neg (by omega), add_zero, coe_sum, ← EReal.coe_add]
    · rw [if_neg e, ih (by omega)]
      congr 3
      exact propext ⟨fun _ => by omega, fun _ => by omega⟩

theorem Fits.done_dq (h : Fits H X) (dk : FVec Ideal S16384x256 .f32) (dv : FVec Ideal S16384x128 .f32) (r : Fin 512) (d : Fin 256) :
    (ptDone X dk dv).dq (ix2 r d) = ((H.dQ (512 * X.i + r.val) d.val : ℝ) : EReal) := by
  unfold ptDone
  rw [(done_blocks X _ _ dk dv).1, h.dq_blocks (fun r d => zeroQ_at r d) _ le_rfl, H.dQ_blocks h.lt r.isLt]

theorem Fits.done_dk (h : Fits H X) (dk : FVec Ideal S16384x256 .f32) (dv : FVec Ideal S16384x128 .f32)
    (h0 : ∀ (a : Fin 16384) (d : Fin 256), dk (ix2 a d) = ((∑ i ∈ Finset.range (512 * X.i), H.ds i a.val * H.Q i d.val : ℝ) : EReal)) (a : Fin 16384) (d : Fin 256) :
    (ptDone X dk dv).dk (ix2 a d) = ((∑ i ∈ Finset.range (512 * (X.i + 1)), H.ds i a.val * H.Q i d.val : ℝ) : EReal) := by
  unfold ptDone
  rw [(done_blocks X _ _ dk dv).2.1,
    h.dk_blocks (A := fun a d => ∑ i ∈ Finset.range (512 * X.i), H.ds i a * H.Q i d) (fun a d => h0 a d) _ le_rfl, sum_block]
  split
  · rfl
  · next hn =>
    rw [Finset.sum_eq_zero (s := Finset.univ) (f := fun r : Fin 512 => H.ds (512 * X.i + r.val) a.val * H.Q (512 * X.i + r.val) d.val)
      fun r _ => by rw [H.ds_of_not (by omega), zero_mul]]

theorem Fits.done_dv (h : Fits H X) (dk : FVec Ideal S16384x256 .f32) (dv : FVec Ideal S16384x128 .f32)
    (h0 : ∀ (a : Fin 16384) (d : Fin 128), dv (ix2 a d) = ((∑ i ∈ Finset.range (512 * X.i), H.P i a.val * H.dO i d.val : ℝ) : EReal)) (a : Fin 16384) (d : Fin 128) :
    (ptDone X dk dv).dv (ix2 a d) = ((∑ i ∈ Finset.range (512 * (X.i + 1)), H.P i a.val * H.dO i d.val : ℝ) : EReal) := by
  unfold ptDone
  rw [(done_blocks X _ _ dk dv).2.2,
    h.dv_blocks (A := fun a d => ∑ i ∈ Finset.range (512 * X.i), H.P i a * H.dO i d) (fun a d => h0 a d) _ le_rfl, sum_block]
  split
  · rfl
  · next hn =>
    rw [Finset.sum_eq_zero (s := Finset.univ) (f := fun r : Fin 512 => H.P (512 * X.i + r.val) a.val * H.dO (512 * X.i + r.val) d.val)
      fun r _ => by rw [H.P_of_not (by omega), zero_mul]]

/-! ## The mask's blocks -/

theorem biasDiag_at (r c : Fin 512) : (biasDiag : FVec Ideal S512x512 .f32) (ix2 r c) = if c.val / 64 ≤ r.val / 64 then 0 else ⊥ := by
  unfold biasDiag
  pointwise
  rw [blk_core r, blk_core c, sle_core (by omega) (by omega), select_ofBool, named_mask]

theorem biasAll_zero (r c : Fin 512) : (biasAll : FVec Ideal S2x512x512 .f32) (ix3 0 r c) = 0 := by
  unfold biasAll VecWindow.put
  rw [dif_neg (fun h => by have := (h 0).1; change 1 ≤ 0 at this; omega), dif_pos]
  · unfold bias0
    pointwise
  · intro b
    fin_cases b
    · show 0 ≤ 0 ∧ 0 < 0 + 1; omega
    · show 0 ≤ r.val ∧ r.val < 0 + 512; omega
    · show 0 ≤ c.val ∧ c.val < 0 + 512; omega

theorem biasAll_one (r c : Fin 512) : (biasAll : FVec Ideal S2x512x512 .f32) (ix3 1 r c) = if c.val / 64 ≤ r.val / 64 then 0 else ⊥ := by
  rw [← biasDiag_at]
  unfold biasAll VecWindow.put
  rw [dif_pos]
  · have e : (bias1 : FVec Ideal S1x512x512 .f32) (ix3 0 r c) = biasDiag (ix2 r c) := by
      unfold bias1
      pointwise
    refine Eq.trans ?_ e
    refine congrArg _ (funext fun b => ?_)
    fin_cases b
    · exact Fin.ext rfl
    · exact Fin.ext (by show r.val - 0 = r.val; omega)
    · exact Fin.ext (by show c.val - 0 = c.val; omega)
  · intro b
    fin_cases b
    · show 1 ≤ 1 ∧ 1 < 1 + 1; omega
    · show 0 ≤ r.val ∧ r.val < 0 + 512; omega
    · show 0 ≤ c.val ∧ c.val < 0 + 512; omega

end Cert.KernelIdeal.Hand

end
-- ==== Proof.VPoint.lean ====
/- A grid point's blocks are those of its head. -/
module

public import proofs.«01_k».proof.Proof.Grid
public import proofs.«01_k».proof.Proof.VReal
public import proofs.«01_k».proof.Proof.VNum
public import Idealize.ShloMosaic.Lib.Pipeline.ValueKit

@[expose] public section
set_option maxRecDepth 16384
noncomputable section

namespace Cert.KernelIdeal.Hand

open Cert.KernelIdeal Facts₀ Facts
open Idealize.ShloMosaic Idealize.ShloMosaic.TcCoe Idealize.ShloMosaic.Pipeline
open Cert.KernelIdeal.Gen (iblk V)
open Cert.Math

theorem idx0 : ∀ t : Fin cfg0.N, win0_0.index t = ![t.val / 32, t.val % 32, 0] := (by decide +kernel : ∀ t : Fin grid0.N, _)
theorem idx1 : ∀ t : Fin cfg0.N, win0_1.index t = ![t.val % 32, t.val / 32] := (by decide +kernel : ∀ t : Fin grid0.N, _)
theorem idx2 : ∀ t : Fin cfg0.N, win0_2.index t = ![t.val / 32, t.val % 32, 0] := (by decide +kernel : ∀ t : Fin grid0.N, _)
theorem idx3 : ∀ t : Fin cfg0.N, win0_3.index t = ![t.val % 32, 4 + t.val / 32] := (by decide +kernel : ∀ t : Fin grid0.N, _)
theorem idx4 : ∀ t : Fin cfg0.N, win0_4.index t = ![t.val % 32, 16 + t.val / 32] := (by decide +kernel : ∀ t : Fin grid0.N, _)
theorem idx5 : ∀ t : Fin cfg0.N, win0_5.index t = ![t.val / 32, t.val % 32, 0] := (by decide +kernel : ∀ t : Fin grid0.N, _)
theorem idx6 : ∀ t : Fin cfg0.N, win0_6.index t = ![t.val % 32, t.val / 32] := (by decide +kernel : ∀ t : Fin grid0.N, _)
variable [Facts]

theorem lt128 (t : Fin cfg0.N) : t.val < 128 := t.isLt

section
variable {F : FTy → Type} [FloatOps F] [Named F] (m : (ℓ : Loc nD τ sig) → Buf (Elt F) ℓ) (c : Dev nD) (t : Fin cfg0.N)

/-- The row of the whole array a point's block's row is. -/
def rowAt (r : Fin 512) : Fin 16384 := ⟨512 * (t.val % 32) + r.val, by omega⟩

theorem headOf_val : (headOf t.val).val = t.val / 32 := by
  have := lt128 t
  show t.val / 32 % 4 = _
  omega

theorem blkQ_at (r : Fin 512) (d : Fin 256) :
    blkQ m c t (ix3 0 r d) = (m ((c : Thread nD τ).loc main_arg0) : FVec F S4x16384x256 .bf16) (ix3 (headOf t.val) (rowAt t r) d) := by
  rw [← Gen.V_main_arg0 m c]
  unfold blkQ
  blk_simp [iblk]
  refine congrArg (V m c main_arg0) ?_
  have := headOf_val t
  unfold rowAt
  blk_ext [idx0 t]

theorem blkO_at (r : Fin 512) (d : Fin 128) :
    blkO m c t (ix2 r d) = (V m c main_v27 : FVec F S16384x512 .f32) (ix2 (rowAt t r) ⟨(headOf t.val).val * 128 + d.val, by omega⟩) := by
  unfold blkO
  blk_simp [iblk]
  refine congrArg (V m c main_v27) ?_
  have := headOf_val t
  unfold rowAt
  blk_ext [idx1 t]

theorem blkL_at (r : Fin 512) (l : Fin 128) :
    blkL m c t (ix3 0 r l) = (V m c main_v33 : FVec F S4x16384x128 .f32) (ix3 (headOf t.val) (rowAt t r) l) := by
  unfold blkL
  blk_simp [iblk]
  refine congrArg (V m c main_v33) ?_
  have := headOf_val t
  unfold rowAt
  blk_ext [idx2 t]

theorem blkY_at (r : Fin 512) (d : Fin 128) :
    blkY m c t (ix2 r d) = (m ((c : Thread nD τ).loc main_arg3) : FVec F S16384x1024 .f32) (ix2 (rowAt t r) ⟨512 + ((headOf t.val).val * 128 + d.val), by omega⟩) := by
  rw [← Gen.V_main_arg3 m c]
  unfold blkY
  blk_simp [iblk]
  refine congrArg (V m c main_arg3) ?_
  have := headOf_val t
  unfold rowAt
  blk_ext [idx3 t]

theorem blkG_at (r : Fin 512) (d : Fin 128) :
    blkG m c t (ix2 r d) = (m ((c : Thread nD τ).loc main_arg4) : FVec F S16384x2560 .f32) (ix2 (rowAt t r) ⟨2048 + ((headOf t.val).val * 128 + d.val), by omega⟩) := by
  rw [← Gen.V_main_arg4 m c]
  unfold blkG
  blk_simp [iblk]
  refine congrArg (V m c main_arg4) ?_
  have := headOf_val t
  unfold rowAt
  blk_ext [idx4 t]

end

variable {m : (ℓ : Loc nD τ sig) → Buf (Elt Ideal) ℓ} {c : Dev nD} {H : Fin 4 → Head}

section
variable (R : RealsAt m c H) (t : Fin cfg0.N) (r : Fin 512)
include R

theorem y_at (d : Fin 128) : blkY m c t (ix2 r d) = (((H (headOf t.val)).Y (rowAt t r).val d.val : ℝ) : EReal) :=
  (blkY_at m c t r d).trans (R.y _ _ _)
theorem g_at (d : Fin 128) : blkG m c t (ix2 r d) = (((H (headOf t.val)).G (rowAt t r).val d.val : ℝ) : EReal) :=
  (blkG_at m c t r d).trans (R.g _ _ _)
theorem o_at (d : Fin 128) : blkO m c t (ix2 r d) = (((H (headOf t.val)).O (rowAt t r).val d.val : ℝ) : EReal) := by
  rw [blkO_at, V_o]
  exact R.o _ _ _
theorem do_at (d : Fin 128) : doVal (blkG m c t) (blkY m c t) (ix2 r d) = (((H (headOf t.val)).dO (rowAt t r).val d.val : ℝ) : EReal) := by
  rw [doVal_at, y_at R, g_at R, logistic_head, ← EReal.coe_mul]
  rfl

/-- A point's blocks are those of its head. -/
theorem fits : Fits (H (headOf t.val)) (ctxAt m c t) where
  lt := Nat.mod_lt _ (by omega)
  q r d := by
    show qVal (blkQ m c t) (ix2 r d) = _
    rw [qVal_at, blkQ_at]
    exact R.q _ _ _
  dob r d := by
    show dobVal (blkG m c t) (blkY m c t) (ix2 r d) = _
    rw [dobVal_at, ← doVal_at, do_at R]
    rfl
  lse r l := by
    show blkL m c t (ix3 0 r l) = _
    rw [blkL_at, V_lse]
    exact R.lse _ _ _
  delta r l := by
    show deltaSt (deltaVal (blkG m c t) (blkY m c t) (blkO m c t)) (ix2 r l) = _
    rw [deltaSt_at]
    simp only [do_at R, o_at R]
    rw [coe_sum_mul (fun d => (H (headOf t.val)).dO (rowAt t r).val d) (fun d => (H (headOf t.val)).O (rowAt t r).val d)]
    rfl
  b0 := biasAll_zero
  b1 := biasAll_one
  k j hj r d := by
    show rowsK (headK (keys m c) (headOf t.val)) j (ix2 r d) = _
    rw [rowsK_at _ hj]
    show (V m c main_arg1 : FVec Ideal S4x16384x256 .bf16) (ix3 (headOf t.val) _ d) = _
    rw [Gen.V_main_arg1]
    exact R.k _ _ _
  v j hj r d := by
    show rowsV (headV (vals m c) (headOf t.val)) j (ix2 r d) = _
    rw [rowsV_at _ hj]
    show (V m c main_arg2 : FVec Ideal S4x16384x128 .bf16) (ix3 (headOf t.val) _ d) = _
    rw [Gen.V_main_arg2]
    exact R.v _ _ _

end

end Cert.KernelIdeal.Hand

end
-- ==== Proof.VAccs.lean ====
/- What the grid's points accumulate: the keys' and values' gradients. -/
module

public import proofs.«01_k».proof.Proof.VPoint

@[expose] public section
set_option maxRecDepth 16384
noncomputable section

namespace Cert.KernelIdeal.Hand

open Cert.KernelIdeal Facts₀ Facts
open Idealize.ShloMosaic Idealize.ShloMosaic.TcCoe
open Cert.Math

variable [Facts]

variable {m : (ℓ : Loc nD τ sig) → Buf (Elt Ideal) ℓ} {c : Dev nD} {H : Fin 4 → Head}

/-- What is known of the accumulators and the results after `n` points. -/
structure Good (H : Fin 4 → Head) (n : ℕ) (x : Accs Ideal) : Prop where
  dk : n % 32 ≠ 0 → ∀ (a : Fin 16384) (d : Fin 256), x.dk (ix2 a d) = ((∑ i ∈ Finset.range (512 * (n % 32)), (H (headOf n)).ds i a.val * (H (headOf n)).Q i d.val : ℝ) : EReal)
  dv : n % 32 ≠ 0 → ∀ (a : Fin 16384) (d : Fin 128), x.dv (ix2 a d) = ((∑ i ∈ Finset.range (512 * (n % 32)), (H (headOf n)).P i a.val * (H (headOf n)).dO i d.val : ℝ) : EReal)
  y11 : ∀ h : Fin 4, h.val < n / 32 → ∀ (a : Fin 16384) (d : Fin 256), x.y11 (ix3 h a d) = (((H h).dK a.val d.val : ℝ) : EReal)
  y12 : ∀ h : Fin 4, h.val < n / 32 → ∀ (a : Fin 16384) (d : Fin 128), x.y12 (ix3 h a d) = (((H h).dV a.val d.val : ℝ) : EReal)

section
variable (R : RealsAt m c H) (t : Fin cfg0.N) {x : Accs Ideal} (G : Good H t.val x)
include R G

theorem res_dk (a : Fin 16384) (d : Fin 256) : (resAt m c t x.dk x.dv).dk (ix2 a d)
    = ((∑ i ∈ Finset.range (512 * (t.val % 32 + 1)), (H (headOf t.val)).ds i a.val * (H (headOf t.val)).Q i d.val : ℝ) : EReal) := by
  unfold resAt
  refine (fits R t).done_dk _ _ (fun a d => ?_) a d
  unfold from256
  split
  · next h =>
    show _ = ((∑ i ∈ Finset.range (512 * (t.val % 32)), _ : ℝ) : EReal)
    rw [h, Nat.mul_zero, Finset.sum_range_zero, EReal.coe_zero]
    exact zero256_at a d
  · next h => exact G.dk h a d

theorem res_dv (a : Fin 16384) (d : Fin 128) : (resAt m c t x.dk x.dv).dv (ix2 a d)
    = ((∑ i ∈ Finset.range (512 * (t.val % 32 + 1)), (H (headOf t.val)).P i a.val * (H (headOf t.val)).dO i d.val : ℝ) : EReal) := by
  unfold resAt
  refine (fits R t).done_dv _ _ (fun a d => ?_) a d
  unfold from128
  split
  · next h =>
    show _ = ((∑ i ∈ Finset.range (512 * (t.val % 32)), _ : ℝ) : EReal)
    rw [h, Nat.mul_zero, Finset.sum_range_zero, EReal.coe_zero]
    exact zero128_at a d
  · next h => exact G.dv h a d

theorem good_step : Good H (t.val + 1) (accStep m c t x) where
  dk h a d := by
    show (resAt m c t x.dk x.dv).dk (ix2 a d) = _
    rw [res_dk R t G]
    have e : headOf (t.val + 1) = headOf t.val := Fin.ext (by show (t.val + 1) / 32 % 4 = t.val / 32 % 4; omega)
    rw [e, show (t.val + 1) % 32 = t.val % 32 + 1 by omega]
  dv h a d := by
    show (resAt m c t x.dk x.dv).dv (ix2 a d) = _
    rw [res_dv R t G]
    have e : headOf (t.val + 1) = headOf t.val := Fin.ext (by show (t.val + 1) / 32 % 4 = t.val / 32 % 4; omega)
    rw [e, show (t.val + 1) % 32 = t.val % 32 + 1 by omega]
  y11 h hh a d := by
    show (if t.val % 32 = 31 then slabPut (F := Ideal) (C := 256) x.y11 (headOf t.val) (resAt m c t x.dk x.dv).dk else x.y11 : FVec Ideal S4x16384x256 .f32) (ix3 h a d) = _
    have hv := headOf_val t
    by_cases e : t.val % 32 = 31
    · rw [if_pos e]
      unfold slabPut
      by_cases e' : h = headOf t.val
      · subst e'
        refine (if_pos rfl).trans ?_
        refine (res_dk R t G a d).trans ?_
        rw [e]
        rfl
      · refine (if_neg fun e'' => e' (Fin.ext e'')).trans ?_
        refine G.y11 h ?_ a d
        have : h.val ≠ (headOf t.val).val := fun e'' => e' (Fin.ext e'')
        omega
    · rw [if_neg e]
      exact G.y11 h (by omega) a d
  y12 h hh a d := by
    show (if t.val % 32 = 31 then slabPut (F := Ideal) (C := 128) x.y12 (headOf t.val) (resAt m c t x.dk x.dv).dv else x.y12 : FVec Ideal S4x16384x128 .f32) (ix3 h a d) = _
    have hv := headOf_val t
    by_cases e : t.val % 32 = 31
    · rw [if_pos e]
      unfold slabPut
      by_cases e' : h = headOf t.val
      · subst e'
        refine (if_pos rfl).trans ?_
        refine (res_dv R t G a d).trans ?_
        rw [e]
        rfl
      · refine (if_neg fun e'' => e' (Fin.ext e'')).trans ?_
        refine G.y12 h ?_ a d
        have : h.val ≠ (headOf t.val).val := fun e'' => e' (Fin.ext e'')
        omega
    · rw [if_neg e]
      exact G.y12 h (by omega) a d
end

theorem good (R : RealsAt m c H) (n : ℕ) (hn : n ≤ 128) : Good H n (accs m c n) := by
  induction n with
  | zero => exact ⟨fun h => absurd rfl h, fun h => absurd rfl h, fun h hh => absurd hh (by omega), fun h hh => absurd hh (by omega)⟩
  | succ n ih =>
    have h : n < cfg0.N := by show n < 128; omega
    rw [accs_succ m c ⟨n, h⟩]
    exact good_step R ⟨n, h⟩ (ih (by omega))

/-- The keys' gradient. -/
theorem y11_at (R : RealsAt m c H) (h : Fin 4) (a : Fin 16384) (d : Fin 256) : (accs m c 128).y11 (ix3 h a d) = (((H h).dK a.val d.val : ℝ) : EReal) :=
  (good R 128 le_rfl).y11 h (by omega) a d
/-- The values' gradient. -/
theorem y12_at (R : RealsAt m c H) (h : Fin 4) (a : Fin 16384) (d : Fin 128) : (accs m c 128).y12 (ix3 h a d) = (((H h).dV a.val d.val : ℝ) : EReal) :=
  (good R 128 le_rfl).y12 h (by omega) a d

/-- A point's part of the queries' gradient. -/
theorem done_dq (R : RealsAt m c H) (t : Fin cfg0.N) (r : Fin 512) (d : Fin 256) :
    (doneAt m c t).dq (ix2 r d) = (((H (headOf t.val)).dQ (rowAt t r).val d.val : ℝ) : EReal) := by
  unfold doneAt resAt
  exact (fits R t).done_dq _ _ r d

/-- A point's part of the gate's gradient. -/
theorem dgate_at (R : RealsAt m c H) (t : Fin cfg0.N) (r : Fin 512) (d : Fin 128) :
    dgateVal (blkG m c t) (blkY m c t) (blkO m c t) (ix2 r d) = (((H (headOf t.val)).dG (rowAt t r).val d.val : ℝ) : EReal) := by
  rw [dgateVal_at, y_at R, g_at R, o_at R, logistic_head]
  unfold Head.dG
  push_cast
  rfl

end Cert.KernelIdeal.Hand

end
-- ==== Proof.VOut.lean ====
/- The call's four results over arrays of real numbers. -/
module

public import proofs.«01_k».proof.Proof.VAccs
public import proofs.«01_k».proof.Proof.Run

@[expose] public section
set_option maxRecDepth 16384
noncomputable section

namespace Cert.KernelIdeal.Hand

open Cert.KernelIdeal Facts₀ Facts
open Idealize.ShloMosaic Idealize.ShloMosaic.TcCoe Idealize.ShloMosaic.Pipeline Idealize.SL.Sem
open Cert.Math

theorem covers5 : (cfg0.win 5).Covers := by decide +kernel
theorem covers6 : (cfg0.win 6).Covers := by decide +kernel

theorem block_cell (y : S1x512x256.Idx) : ∃ (r : Fin 512) (d : Fin 256), y = ix3 0 r d := ⟨y 1, y 2, by
    funext a
    fin_cases a
    · exact Fin.ext (Nat.lt_one_iff.mp (y 0).isLt)
    · rfl
    · rfl⟩
theorem tile_cell (y : S512x128.Idx) : ∃ (r : Fin 512) (d : Fin 128), y = ix2 r d := ⟨y 0, y 1, by
    funext a
    fin_cases a
    · rfl
    · rfl⟩

variable [Facts]

variable {m : (ℓ : Loc nD τ sig) → Buf (Elt Ideal) ℓ} {c : Dev nD} {H : Fin 4 → Head}

/-- The queries' gradient, whole. -/
theorem dq_eq (R : RealsAt m c H) (T : FVec Ideal S4x16384x256 .f32) (hT : ∀ h i d, T (ix3 h i d) = (((H h).dQ i.val d.val : ℝ) : EReal)) :
    (dats m 0 c).arrAt 5 cfg0.N = T := by
  refine (dats m 0 c).arrAt_eq_of_covers 5 _ covers5 fun t hf y => ?_
  blk_simp
  rw [after0_5]
  obtain ⟨r, d, rfl⟩ := block_cell y
  refine (dqOut_at _ r d).trans ?_
  rw [done_dq R, ← hT]
  refine congrArg T ?_
  have := headOf_val t
  unfold rowAt
  blk_ext []
  · exact (headOf_val t).trans (congrFun (idx5 t) 0).symm
  · rw [Nat.mul_comm 512]
    exact (congrArg (fun x => x * 512 + r.val) (congrFun (idx5 t) 1)).symm
  · exact (show d.val = 0 * 256 + d.val by omega).trans (congrArg (fun x => x * 256 + d.val) (congrFun (idx5 t) 2)).symm

/-- The gate's gradient, whole. -/
theorem dg_eq (R : RealsAt m c H) (T : FVec Ideal S16384x512 .bf16) (hT : ∀ (h : Fin 4) (i : Fin 16384) (d : Fin 128), T (ix2 i ⟨h.val * 128 + d.val, by omega⟩) = (((H h).dG i.val d.val : ℝ) : EReal)) :
    (dats m 0 c).arrAt 6 cfg0.N = T := by
  refine (dats m 0 c).arrAt_eq_of_covers 6 _ covers6 fun t hf y => ?_
  blk_simp
  rw [after0_6]
  obtain ⟨r, d, rfl⟩ := tile_cell y
  refine (dgate_at R t r d).trans ?_
  rw [← hT]
  refine congrArg T ?_
  have := headOf_val t
  unfold rowAt
  blk_ext []
  · rw [Nat.mul_comm 512]
    exact (congrArg (fun x => x * 512 + r.val) (congrFun (idx6 t) 0)).symm
  · rw [headOf_val t]
    exact (congrArg (fun x => x * 128 + d.val) (congrFun (idx6 t) 1)).symm

/-- The keys' gradient, whole. -/
theorem dk_eq (R : RealsAt m c H) (T : FVec Ideal S4x16384x256 .f32) (hT : ∀ h i d, T (ix3 h i d) = (((H h).dK i.val d.val : ℝ) : EReal)) :
    (accs m c 128).y11 = T := by
  funext y
  have e : y = ix3 (y 0) (y 1) (y 2) := by funext a; fin_cases a <;> rfl
  rw [e]
  exact (y11_at R _ _ _).trans (hT _ _ _).symm

/-- The values' gradient, whole. -/
theorem dv_eq (R : RealsAt m c H) (T : FVec Ideal S4x16384x128 .f32) (hT : ∀ h i d, T (ix3 h i d) = (((H h).dV i.val d.val : ℝ) : EReal)) :
    (accs m c 128).y12 = T := by
  funext y
  have e : y = ix3 (y 0) (y 1) (y 2) := by funext a; fin_cases a <;> rfl
  rw [e]
  exact (y12_at R _ _ _).trans (hT _ _ _).symm

end Cert.KernelIdeal.Hand

end
-- ==== Proof.RStage.lean ====
/- The reference's results as compositions of a few stages. -/
module

public import proofs.«01_k».proof.Proof.Gen.ReferenceIdeal.Run
public import Idealize.ShloMosaic.Lib.Pointwise

@[expose] public section
set_option maxRecDepth 16384
noncomputable section

namespace Cert.ReferenceIdeal.Hand

open Cert.ReferenceIdeal Cert.ReferenceIdeal.Gen
open Idealize.ShloMosaic Idealize.ShloMosaic.TcCoe

variable {F : FTy → Type} [FloatOps F]

/-- The index over 64, rounded down. -/
def hBlk : IVec S16384 32 :=
  let i : IVec S16384 32 := iotaInDim S16384 32 0
  let n : IVec S_ 32 := constantI S_ 32 64#32
  let nn : IVec S16384 32 := broadcastInDim S16384 ![] bcast_S_S16384 n
  let q : IVec S16384 32 := Host.divsi i nn
  select (andi (cmpi .ne (signi i) (broadcastInDim S16384 ![] bcast_S_S16384 (signi n)))
      (cmpi .ne (Host.remsi i nn) (broadcastInDim S16384 ![] bcast_S_S16384 (constantI S_ 32 0#32))))
    (subi q (broadcastInDim S16384 ![] bcast_S_S16384 (constantI S_ 32 1#32))) q

/-- Where a query may look. -/
def hMask : IVec S4x16384x16384 1 :=
  broadcastInDim S4x16384x16384 ![1, 2] bcast_S16384x16384_S4x16384x16384_1_2
    (cmpi .sle (broadcastInDim S16384x16384 ![0, 1] bcast_S1x16384_S16384x16384_0_1 (broadcastInDim S1x16384 ![1] bcast_S16384_S1x16384_1 hBlk))
      (broadcastInDim S16384x16384 ![0, 1] bcast_S16384x1_S16384x16384_0_1 (broadcastInDim S16384x1 ![0] bcast_S16384_S16384x1_0 hBlk)))

/-- The scaled and masked scores. -/
def hS (q k : FVec F S4x16384x256 .bf16) : FVec F S4x16384x16384 .f32 :=
  select hMask
    (mulf (Host.dotGeneral dot_S4x16384x256_S4x16384x256_S4x16384x16384_2_2_1_1_0_0 none (extf .f32 q bitsLt_bf16_f32) (extf .f32 k bitsLt_bf16_f32))
      (broadcastInDim S4x16384x16384 ![] bcast_S_S4x16384x16384 (Host.divf (constant S_ .f32 0x3F800000#32) (Host.sqrt (constant S_ .f32 0x43400000#32)))))
    (broadcastInDim S4x16384x16384 ![] bcast_S_S4x16384x16384 (constant S_ .f32 0xFF800000#32))

/-- A row's largest score. -/
def hMax (s : FVec F S4x16384x16384 .f32) : FVec F S4x16384 .f32 :=
  Host.reduce FloatOps.maximumf s (constant S_ .f32 0xFF800000#32) reducesTo_S4x16384x16384_S4x16384_d2 h_S_

/-- What a row's exponentials are taken less of. -/
def hTop (x : FVec F S4x16384 .f32) : FVec F S4x16384 .f32 :=
  maximumf (broadcastInDim S4x16384 ![] bcast_S_S4x16384 (constant S_ .f32 0xFF800000#32)) x

def hCol (x : FVec F S4x16384 .f32) : FVec F S4x16384x1 .f32 := broadcastInDim S4x16384x1 ![0, 1] bcast_S4x16384_S4x16384x1_0_1 x
def hWide (x : FVec F S4x16384x1 .f32) : FVec F S4x16384x16384 .f32 := broadcastInDim S4x16384x16384 ![0, 1, 2] bcast_S4x16384x1_S4x16384x16384_0_1_2 x

def hExp (s : FVec F S4x16384x16384 .f32) (x : FVec F S4x16384 .f32) : FVec F S4x16384x16384 .f32 := Host.exp (subf s (hWide (hCol x)))

def hSum (e : FVec F S4x16384x16384 .f32) : FVec F S4x16384 .f32 :=
  Host.reduceAdd e (constant S_ .f32 0x00000000#32) reducesTo_S4x16384x16384_S4x16384_d2 h_S_

/-- The probabilities. -/
def hP (e : FVec F S4x16384x16384 .f32) (l : FVec F S4x16384 .f32) : FVec F S4x16384x16384 .f32 := Host.divf e (hWide (hCol l))

/-- The heads' outputs, a head after another in each row. -/
def hO (v : FVec F S4x16384x128 .bf16) (p : FVec F S4x16384x16384 .f32) : FVec F S16384x512 .f32 :=
  shapeCast _ (transpose S16384x4x128 [2, 0, 1]
    (Host.dotGeneral dot_S4x16384x128_S4x16384x16384_S4x128x16384_1_2_2_1_0_0 none (extf .f32 v bitsLt_bf16_f32) p)
    transposes_S4x128x16384_S16384x4x128_2_0_1) shapeCasts_S16384x4x128_S16384x512

def hG (z : FVec F S16384x2560 .f32) : FVec F S16384x512 .f32 := extractStridedSlice S16384x512 ![0, 2048] z slices_S16384x2560_S16384x512_0_2048
def hY (y : FVec F S16384x1024 .f32) : FVec F S16384x512 .f32 := extractStridedSlice S16384x512 ![0, 512] y slices_S16384x1024_S16384x512_0_512
def hOne : FVec F S16384x512 .f32 := broadcastInDim S16384x512 ![] bcast_S_S16384x512 (constant S_ .f32 0x3F800000#32)
def hSg (g : FVec F S16384x512 .f32) : FVec F S16384x512 .f32 := Host.divf hOne (addf hOne (Host.exp (Host.negf g)))

/-- The gate's gradient. -/
def hDg (g y o : FVec F S16384x512 .f32) : FVec F S16384x512 .bf16 :=
  truncf .bf16 (addf (mulf (mulf o y) (hSg g)) (mulf (mulf g (mulf o y)) (mulf (hSg g) (subf hOne (hSg g))))) bitsLt_bf16_f32

/-- The cotangent of the heads' outputs, a head's own array. -/
def hDo (g y : FVec F S16384x512 .f32) : FVec F S4x128x16384 .f32 :=
  transpose S4x128x16384 [1, 2, 0] (shapeCast S16384x4x128 (mulf y (mulf g (hSg g))) shapeCasts_S16384x512_S16384x4x128) transposes_S16384x4x128_S4x128x16384_1_2_0

def hDp (o : FVec F S4x128x16384 .f32) (v : FVec F S4x16384x128 .bf16) : FVec F S4x16384x16384 .f32 :=
  Host.dotGeneral dot_S4x128x16384_S4x16384x128_S4x16384x16384_1_2_2_1_0_0 none o (extf .f32 v bitsLt_bf16_f32)

def hDv (o : FVec F S4x128x16384 .f32) (p : FVec F S4x16384x16384 .f32) : FVec F S4x16384x128 .f32 :=
  transpose S4x16384x128 [0, 2, 1] (Host.dotGeneral dot_S4x128x16384_S4x16384x16384_S4x128x16384_2_1_1_2_0_0 none o p) transposes_S4x128x16384_S4x16384x128_0_2_1

/-- The rows' sums the softmax's gradient takes off. -/
def hOff (dp e : FVec F S4x16384x16384 .f32) (l : FVec F S4x16384 .f32) : FVec F S4x16384 .f32 :=
  Host.reduceAdd (Host.negf (shapeCast S4x16384x1 (hSum (mulf (mulf dp (hWide (Host.divf (broadcastInDim S4x16384x1 ![] bcast_S_S4x16384x1 (constant S_ .f32 0x3F800000#32)) (mulf (hCol l) (hCol l))))) e)) shapeCasts_S4x16384_S4x16384x1))
    (constant S_ .f32 0x00000000#32) reducesTo_S4x16384x1_S4x16384_d2 h_S_

/-- The scores' gradient. -/
def hDs (dp e : FVec F S4x16384x16384 .f32) (l w : FVec F S4x16384 .f32) : FVec F S4x16384x16384 .f32 :=
  mulf (select hMask (mulf (addf (Host.divf dp (hWide (hCol l))) (broadcastInDim S4x16384x16384 ![0, 1] bcast_S4x16384_S4x16384x16384_0_1 w)) e)
      (broadcastInDim S4x16384x16384 ![] bcast_S_S4x16384x16384 (constant S_ .f32 0x00000000#32)))
    (broadcastInDim S4x16384x16384 ![] bcast_S_S4x16384x16384 (Host.divf (constant S_ .f32 0x3F800000#32) (Host.sqrt (constant S_ .f32 0x43400000#32))))

def hDk (ds : FVec F S4x16384x16384 .f32) (q : FVec F S4x16384x256 .bf16) : FVec F S4x16384x256 .f32 :=
  Host.dotGeneral dot_S4x16384x16384_S4x16384x256_S4x16384x256_1_1_2_2_0_0 none ds (extf .f32 q bitsLt_bf16_f32)
def hDq (ds : FVec F S4x16384x16384 .f32) (k : FVec F S4x16384x256 .bf16) : FVec F S4x16384x256 .f32 :=
  Host.dotGeneral dot_S4x16384x16384_S4x16384x256_S4x16384x256_2_1_1_2_0_0 none ds (extf .f32 k bitsLt_bf16_f32)

variable (m : (ℓ : Loc nD τ sig) → Buf (Elt F) ℓ) (c : Dev nD)

abbrev hs : FVec F S4x16384x16384 .f32 := hS (m ((c.tc : Thread nD τ).loc main_arg0)) (m ((c.tc : Thread nD τ).loc main_arg1))
abbrev hx : FVec F S4x16384 .f32 := hTop (hMax (hs m c))
abbrev he : FVec F S4x16384x16384 .f32 := hExp (hs m c) (hx m c)
abbrev hl : FVec F S4x16384 .f32 := hSum (he m c)
abbrev hg : FVec F S16384x512 .f32 := hG (m ((c.tc : Thread nD τ).loc main_arg4))
abbrev hy : FVec F S16384x512 .f32 := hY (m ((c.tc : Thread nD τ).loc main_arg3))
abbrev hdp : FVec F S4x16384x16384 .f32 := hDp (hDo (hg m c) (hy m c)) (m ((c.tc : Thread nD τ).loc main_arg2))
abbrev hds : FVec F S4x16384x16384 .f32 := hDs (hdp m c) (he m c) (hl m c) (hOff (hdp m c) (he m c) (hl m c))

theorem res_dq : Value.res_main_v75 m c = hDq (hds m c) (m ((c.tc : Thread nD τ).loc main_arg1)) := by
  unfold Value.res_main_v75
  rfl
theorem res_dk : Value.res_main_v74 m c = hDk (hds m c) (m ((c.tc : Thread nD τ).loc main_arg0)) := by
  unfold Value.res_main_v74
  rfl
theorem res_dv : Value.res_main_v58 m c = hDv (hDo (hg m c) (hy m c)) (hP (he m c) (hl m c)) := by
  unfold Value.res_main_v58
  rfl
theorem res_dg : Value.res_main_v76 m c = hDg (hg m c) (hy m c) (hO (m ((c.tc : Thread nD τ).loc main_arg2)) (hP (he m c) (hl m c))) := by
  unfold Value.res_main_v76
  rfl

end Cert.ReferenceIdeal.Hand

end
-- ==== Proof.RefAt.lean ====
/- The masked scores, their exponentials and sums, read at an index: the reference. -/
module

public import proofs.«01_k».proof.Proof.RStage
public import proofs.«01_k».proof.Proof.MathE
public import proofs.«01_k».proof.Proof.Words

@[expose] public section
set_option maxRecDepth 16384
noncomputable section

namespace Cert.ReferenceIdeal.Hand

open Cert.ReferenceIdeal Cert.ReferenceIdeal.Gen
open Idealize.ShloMosaic Idealize.ShloMosaic.TcCoe
open Cert.Math

theorem hBlk_at (i : Fin 16384) : hBlk (ix1 i) = BitVec.ofNat 32 (i.val / 64) := by
  unfold hBlk
  pointwise
  exact blk_host i

theorem hMask_at (h : Fin 4) (i j : Fin 16384) : hMask (ix3 h i j) = BitVec.ofBool (decide (j.val / 64 ≤ i.val / 64)) := by
  unfold hMask
  pointwise
  rw [hBlk_at, hBlk_at]
  exact sle_small (by omega) (by omega)

variable {q k : FVec Ideal S4x16384x256 .bf16} {H : Fin 4 → Head}

theorem hS_at (hq : ∀ h i d, q (ix3 h i d) = (((H h).Q i.val d.val : ℝ) : EReal)) (hk : ∀ h i d, k (ix3 h i d) = (((H h).K i.val d.val : ℝ) : EReal))
    (h : Fin 4) (i j : Fin 16384) : hS q k (ix3 h i j) = if j.val / 64 ≤ i.val / 64 then (((H h).sc i.val j.val : ℝ) : EReal) else ⊥ := by
  unfold hS
  pointwise
  rw [hMask_at]
  simp only [hq, hk]
  rw [select_ofBool, ofBits_neg_inf, inv_sqrt, coe_sum_mul (fun d => (H h).Q i.val d) (fun d => (H h).K j.val d), ← EReal.coe_mul]
  rfl

theorem hExp_at {s : FVec Ideal S4x16384x16384 .f32} {x : FVec Ideal S4x16384 .f32} {h : Fin 4} {i : Fin 16384} {M : ℝ}
    (hs : ∀ j, s (ix3 h i j) = if j.val / 64 ≤ i.val / 64 then (((H h).sc i.val j.val : ℝ) : EReal) else ⊥)
    (hx : x (ix2 h i) = (M : EReal)) (j : Fin 16384) : hExp s x (ix3 h i j) = (((H h).E i.val j.val * Real.exp (-M) : ℝ) : EReal) := by
  unfold hExp hWide hCol
  pointwise
  rw [hs, hx]
  unfold Head.E
  exact exp_masked _ _ _

theorem hSum_at {e : FVec Ideal S4x16384x16384 .f32} {h : Fin 4} {i : Fin 16384} {x : ℝ}
    (he : ∀ j, e (ix3 h i j) = (((H h).E i.val j.val * x : ℝ) : EReal)) : hSum e (ix2 h i) = (((H h).L i.val * x : ℝ) : EReal) := by
  unfold hSum
  pointwise
  simp only [he]
  rw [coe_sum_fin (fun j => (H h).E i.val j * x), (H h).sum_scaled]

theorem hMax_at {s : FVec Ideal S4x16384x16384 .f32} {h : Fin 4} {i : Fin 16384}
    (hs : ∀ j, s (ix3 h i j) = if j.val / 64 ≤ i.val / 64 then (((H h).sc i.val j.val : ℝ) : EReal) else ⊥) :
    ∃ M : ℝ, hMax s (ix2 h i) = (M : EReal) := by
  unfold hMax
  pointwise
  refine fold_max_real _ (fun j => ?_) i ?_
  · rw [hs]; split
    · exact EReal.coe_ne_top _
    · exact bot_ne_top
  · rw [hs, if_pos le_rfl]; exact EReal.coe_ne_bot _

theorem hTop_at {x : FVec Ideal S4x16384 .f32} {h : Fin 4} {i : Fin 16384} : hTop x (ix2 h i) = x (ix2 h i) := by
  unfold hTop
  pointwise
  rw [ofBits_neg_inf]
  exact max_eq_right bot_le

variable {e : FVec Ideal S4x16384x16384 .f32} {l : FVec Ideal S4x16384 .f32} {h : Fin 4} {i : Fin 16384} {M : ℝ}

theorem hP_at (he : ∀ j, e (ix3 h i j) = (((H h).E i.val j.val * Real.exp (-M) : ℝ) : EReal)) (hl : l (ix2 h i) = (((H h).L i.val * Real.exp (-M) : ℝ) : EReal))
    (j : Fin 16384) : hP e l (ix3 h i j) = (((H h).P i.val j.val : ℝ) : EReal) := by
  unfold hP hWide hCol
  pointwise
  rw [he, hl, prob_eq (H h) i.isLt]

theorem hO_at {v : FVec Ideal S4x16384x128 .bf16} {p : FVec Ideal S4x16384x16384 .f32}
    (hv : ∀ j d, v (ix3 h j d) = (((H h).V j.val d.val : ℝ) : EReal)) (hp : ∀ j, p (ix3 h i j) = (((H h).P i.val j.val : ℝ) : EReal))
    (d : Fin 128) : hO v p (ix2 i ⟨h.val * 128 + d.val, by omega⟩) = (((H h).O i.val d.val : ℝ) : EReal) := by
  unfold hO
  pointwise
  simp only [hv, hp]
  rw [coe_sum_mul (fun j => (H h).V j d.val) (fun j => (H h).P i.val j)]
  unfold Head.O
  simp only [mul_comm]

theorem hG_at (z : FVec Ideal S16384x2560 .f32) (i : Fin 16384) (d : Fin 512) : hG z (ix2 i d) = z (ix2 i ⟨2048 + d.val, by omega⟩) := by
  unfold hG
  pointwise
theorem hY_at (y : FVec Ideal S16384x1024 .f32) (i : Fin 16384) (d : Fin 512) : hY y (ix2 i d) = y (ix2 i ⟨512 + d.val, by omega⟩) := by
  unfold hY
  pointwise
theorem hOne_at (i : Fin 16384) (d : Fin 512) : (hOne : FVec Ideal S16384x512 .f32) (ix2 i d) = 1 := by
  unfold hOne
  pointwise

theorem hSg_at (g : FVec Ideal S16384x512 .f32) (i : Fin 16384) (d : Fin 512) : hSg g (ix2 i d) = Ideal.logistic (g (ix2 i d)) := by
  unfold hSg
  pointwise
  rw [hOne_at]
  rfl

variable {g y : FVec Ideal S16384x512 .f32}

theorem hDo_at (hg : ∀ h i (d : Fin 128), g (ix2 i ⟨h.val * 128 + d.val, by omega⟩) = (((H h).G i.val d.val : ℝ) : EReal))
    (hy : ∀ h i (d : Fin 128), y (ix2 i ⟨h.val * 128 + d.val, by omega⟩) = (((H h).Y i.val d.val : ℝ) : EReal))
    (h : Fin 4) (d : Fin 128) (i : Fin 16384) : hDo g y (ix3 h d i) = (((H h).dO i.val d.val : ℝ) : EReal) := by
  unfold hDo
  pointwise
  rw [hSg_at]
  rw [hg, hy, logistic_head, ← EReal.coe_mul, ← EReal.coe_mul]
  rfl

theorem hDp_at {o : FVec Ideal S4x128x16384 .f32} {v : FVec Ideal S4x16384x128 .bf16}
    (ho : ∀ h d i, o (ix3 h d i) = (((H h).dO i.val d.val : ℝ) : EReal)) (hv : ∀ h j d, v (ix3 h j d) = (((H h).V j.val d.val : ℝ) : EReal))
    (h : Fin 4) (i j : Fin 16384) : hDp o v (ix3 h i j) = (((H h).dp i.val j.val : ℝ) : EReal) := by
  unfold hDp
  pointwise
  simp only [ho, hv]
  rw [coe_sum_mul (fun d => (H h).dO i.val d) (fun d => (H h).V j.val d)]
  rfl

theorem hDv_at {o : FVec Ideal S4x128x16384 .f32} {p : FVec Ideal S4x16384x16384 .f32}
    (ho : ∀ h d i, o (ix3 h d i) = (((H h).dO i.val d.val : ℝ) : EReal)) (hp : ∀ h i j, p (ix3 h i j) = (((H h).P i.val j.val : ℝ) : EReal))
    (h : Fin 4) (j : Fin 16384) (d : Fin 128) : hDv o p (ix3 h j d) = (((H h).dV j.val d.val : ℝ) : EReal) := by
  unfold hDv
  pointwise
  simp only [ho, hp]
  rw [coe_sum_mul (fun i => (H h).dO i d.val) (fun i => (H h).P i j.val)]
  unfold Head.dV
  simp only [mul_comm]

theorem hOff_at {dp : FVec Ideal S4x16384x16384 .f32} (hd : ∀ j, dp (ix3 h i j) = (((H h).dp i.val j.val : ℝ) : EReal))
    (he : ∀ j, e (ix3 h i j) = (((H h).E i.val j.val * Real.exp (-M) : ℝ) : EReal)) (hl : l (ix2 h i) = (((H h).L i.val * Real.exp (-M) : ℝ) : EReal)) :
    hOff dp e l (ix2 h i) = ((-(∑ k ∈ Finset.range 16384, (H h).dp i.val k * (1 / ((H h).L i.val * Real.exp (-M) * ((H h).L i.val * Real.exp (-M)))) * ((H h).E i.val k * Real.exp (-M))) : ℝ) : EReal) := by
  unfold hOff hSum hWide hCol
  pointwise
  simp only [hd, he, hl]
  have hL : (H h).L i.val * Real.exp (-M) * ((H h).L i.val * Real.exp (-M)) ≠ 0 :=
    (mul_pos (mul_pos ((H h).L_pos i.isLt) (Real.exp_pos _)) (mul_pos ((H h).L_pos i.isLt) (Real.exp_pos _))).ne'
  rw [Fin.sum_univ_one, ← EReal.coe_mul ((H h).L i.val * Real.exp (-M)), ← EReal.coe_one, div_real _ hL, EReal.coe_neg]
  simp only [← EReal.coe_mul, one_mul]
  rw [coe_sum_fin (fun k => (H h).dp i.val k * (1 / ((H h).L i.val * Real.exp (-M) * ((H h).L i.val * Real.exp (-M)))) * ((H h).E i.val k * Real.exp (-M)))]

theorem hDs_at {dp : FVec Ideal S4x16384x16384 .f32} {w : FVec Ideal S4x16384 .f32} (hd : ∀ j, dp (ix3 h i j) = (((H h).dp i.val j.val : ℝ) : EReal))
    (he : ∀ j, e (ix3 h i j) = (((H h).E i.val j.val * Real.exp (-M) : ℝ) : EReal)) (hl : l (ix2 h i) = (((H h).L i.val * Real.exp (-M) : ℝ) : EReal))
    (hw : w (ix2 h i) = ((-(∑ k ∈ Finset.range 16384, (H h).dp i.val k * (1 / ((H h).L i.val * Real.exp (-M) * ((H h).L i.val * Real.exp (-M)))) * ((H h).E i.val k * Real.exp (-M))) : ℝ) : EReal))
    (j : Fin 16384) : hDs dp e l w (ix3 h i j) = (((H h).ds i.val j.val : ℝ) : EReal) := by
  unfold hDs hWide hCol
  pointwise
  rw [hMask_at, hd, he, hl, hw, select_ofBool]
  split
  · rw [div_real _ (mul_pos ((H h).L_pos i.isLt) (Real.exp_pos _)).ne', inv_sqrt, ← EReal.coe_add, ← EReal.coe_mul, ← EReal.coe_mul, (H h).ds_scaled i.isLt (Real.exp_pos _).ne']
  · next hn => rw [(H h).ds_of_not hn, EReal.coe_zero]

theorem hDk_at {ds : FVec Ideal S4x16384x16384 .f32} {q : FVec Ideal S4x16384x256 .bf16} (hds : ∀ h i j, ds (ix3 h i j) = (((H h).ds i.val j.val : ℝ) : EReal))
    (hq : ∀ h i d, q (ix3 h i d) = (((H h).Q i.val d.val : ℝ) : EReal)) (h : Fin 4) (j : Fin 16384) (d : Fin 256) :
    hDk ds q (ix3 h j d) = (((H h).dK j.val d.val : ℝ) : EReal) := by
  unfold hDk
  pointwise
  simp only [hds, hq]
  rw [coe_sum_mul (fun i => (H h).ds i j.val) (fun i => (H h).Q i d.val)]
  rfl

theorem hDq_at {ds : FVec Ideal S4x16384x16384 .f32} {k : FVec Ideal S4x16384x256 .bf16} (hds : ∀ h i j, ds (ix3 h i j) = (((H h).ds i.val j.val : ℝ) : EReal))
    (hk : ∀ h i d, k (ix3 h i d) = (((H h).K i.val d.val : ℝ) : EReal)) (h : Fin 4) (i : Fin 16384) (d : Fin 256) :
    hDq ds k (ix3 h i d) = (((H h).dQ i.val d.val : ℝ) : EReal) := by
  unfold hDq
  pointwise
  simp only [hds, hk]
  rw [coe_sum_mul (fun j => (H h).ds i.val j) (fun j => (H h).K j d.val)]
  rfl

theorem hDg_at {o : FVec Ideal S16384x512 .f32} (hg : ∀ h i (d : Fin 128), g (ix2 i ⟨h.val * 128 + d.val, by omega⟩) = (((H h).G i.val d.val : ℝ) : EReal))
    (hy : ∀ h i (d : Fin 128), y (ix2 i ⟨h.val * 128 + d.val, by omega⟩) = (((H h).Y i.val d.val : ℝ) : EReal))
    (ho : ∀ h i (d : Fin 128), o (ix2 i ⟨h.val * 128 + d.val, by omega⟩) = (((H h).O i.val d.val : ℝ) : EReal))
    (h : Fin 4) (d : Fin 128) (i : Fin 16384) : hDg g y o (ix2 i ⟨h.val * 128 + d.val, by omega⟩) = (((H h).dG i.val d.val : ℝ) : EReal) := by
  unfold hDg
  pointwise
  rw [hSg_at, hOne_at, hg, hy, ho, logistic_head]
  rw [← (H h).dG_eq, add_comm]
  push_cast
  rfl

end Cert.ReferenceIdeal.Hand

end
-- ==== Proof.RVal.lean ====
/- The reference's four results over arrays of real numbers. -/
module

public import proofs.«01_k».proof.Proof.RefAt

@[expose] public section
set_option maxRecDepth 16384
noncomputable section

namespace Cert.ReferenceIdeal.Hand

open Cert.ReferenceIdeal Cert.ReferenceIdeal.Gen
open Idealize.ShloMosaic Idealize.ShloMosaic.TcCoe
open Cert.Math

variable (m : (ℓ : Loc nD τ sig) → Buf (Elt Ideal) ℓ) (c : Dev nD)

/-- The memory's argument arrays hold the heads `H`. -/
structure RealsAt (H : Fin 4 → Head) : Prop where
  q : ∀ (h : Fin 4) (i : Fin 16384) (d : Fin 256), (m ((c.tc : Thread nD τ).loc main_arg0) : FVec Ideal S4x16384x256 .bf16) (ix3 h i d) = (((H h).Q i.val d.val : ℝ) : EReal)
  k : ∀ (h : Fin 4) (i : Fin 16384) (d : Fin 256), (m ((c.tc : Thread nD τ).loc main_arg1) : FVec Ideal S4x16384x256 .bf16) (ix3 h i d) = (((H h).K i.val d.val : ℝ) : EReal)
  v : ∀ (h : Fin 4) (i : Fin 16384) (d : Fin 128), (m ((c.tc : Thread nD τ).loc main_arg2) : FVec Ideal S4x16384x128 .bf16) (ix3 h i d) = (((H h).V i.val d.val : ℝ) : EReal)
  y : ∀ (h : Fin 4) (i : Fin 16384) (d : Fin 128), (m ((c.tc : Thread nD τ).loc main_arg3) : FVec Ideal S16384x1024 .f32) (ix2 i ⟨512 + (h.val * 128 + d.val), by omega⟩) = (((H h).Y i.val d.val : ℝ) : EReal)
  g : ∀ (h : Fin 4) (i : Fin 16384) (d : Fin 128), (m ((c.tc : Thread nD τ).loc main_arg4) : FVec Ideal S16384x2560 .f32) (ix2 i ⟨2048 + (h.val * 128 + d.val), by omega⟩) = (((H h).G i.val d.val : ℝ) : EReal)

variable {m c} {H : Fin 4 → Head} (R : RealsAt m c H)
include R

theorem RealsAt.top (h : Fin 4) (i : Fin 16384) : ∃ M : ℝ, hx m c (ix2 h i) = (M : EReal) := by
  obtain ⟨M, hM⟩ := hMax_at (s := hs m c) (H := H) (h := h) (i := i) fun j => hS_at R.q R.k h i j
  exact ⟨M, hTop_at.trans hM⟩
theorem RealsAt.exp {h : Fin 4} {i : Fin 16384} {M : ℝ} (hM : hx m c (ix2 h i) = (M : EReal)) (j : Fin 16384) :
    he m c (ix3 h i j) = (((H h).E i.val j.val * Real.exp (-M) : ℝ) : EReal) :=
  hExp_at (fun j => hS_at R.q R.k h i j) hM j
theorem RealsAt.sum {h : Fin 4} {i : Fin 16384} {M : ℝ} (hM : hx m c (ix2 h i) = (M : EReal)) :
    hl m c (ix2 h i) = (((H h).L i.val * Real.exp (-M) : ℝ) : EReal) :=
  hSum_at (R.exp hM)
theorem RealsAt.p (h : Fin 4) (i j : Fin 16384) : hP (he m c) (hl m c) (ix3 h i j) = (((H h).P i.val j.val : ℝ) : EReal) := by
  obtain ⟨M, hM⟩ := R.top h i
  exact hP_at (R.exp hM) (R.sum hM) j
theorem RealsAt.o (h : Fin 4) (i : Fin 16384) (d : Fin 128) :
    hO (m ((c.tc : Thread nD τ).loc main_arg2)) (hP (he m c) (hl m c)) (ix2 i ⟨h.val * 128 + d.val, by omega⟩) = (((H h).O i.val d.val : ℝ) : EReal) :=
  hO_at (fun j d => R.v h j d) (fun j => R.p h i j) d
theorem RealsAt.gate (h : Fin 4) (i : Fin 16384) (d : Fin 128) : hg m c (ix2 i ⟨h.val * 128 + d.val, by omega⟩) = (((H h).G i.val d.val : ℝ) : EReal) :=
  (hG_at _ _ _).trans (R.g h i d)
theorem RealsAt.out (h : Fin 4) (i : Fin 16384) (d : Fin 128) : hy m c (ix2 i ⟨h.val * 128 + d.val, by omega⟩) = (((H h).Y i.val d.val : ℝ) : EReal) :=
  (hY_at _ _ _).trans (R.y h i d)
theorem RealsAt.dO (h : Fin 4) (d : Fin 128) (i : Fin 16384) : hDo (hg m c) (hy m c) (ix3 h d i) = (((H h).dO i.val d.val : ℝ) : EReal) :=
  hDo_at R.gate R.out h d i
theorem RealsAt.dp (h : Fin 4) (i j : Fin 16384) : hdp m c (ix3 h i j) = (((H h).dp i.val j.val : ℝ) : EReal) :=
  hDp_at R.dO R.v h i j
theorem RealsAt.ds (h : Fin 4) (i j : Fin 16384) : hds m c (ix3 h i j) = (((H h).ds i.val j.val : ℝ) : EReal) := by
  obtain ⟨M, hM⟩ := R.top h i
  exact hDs_at (fun j => R.dp h i j) (R.exp hM) (R.sum hM) (hOff_at (fun j => R.dp h i j) (R.exp hM) (R.sum hM)) j

theorem RealsAt.res_dq (h : Fin 4) (i : Fin 16384) (d : Fin 256) : (Value.res_main_v75 m c : FVec Ideal S4x16384x256 .f32) (ix3 h i d) = (((H h).dQ i.val d.val : ℝ) : EReal) := by
  rw [Hand.res_dq]; exact hDq_at R.ds R.k h i d
theorem RealsAt.res_dk (h : Fin 4) (i : Fin 16384) (d : Fin 256) : (Value.res_main_v74 m c : FVec Ideal S4x16384x256 .f32) (ix3 h i d) = (((H h).dK i.val d.val : ℝ) : EReal) := by
  rw [Hand.res_dk]; exact hDk_at R.ds R.q h i d
theorem RealsAt.res_dv (h : Fin 4) (i : Fin 16384) (d : Fin 128) : (Value.res_main_v58 m c : FVec Ideal S4x16384x128 .f32) (ix3 h i d) = (((H h).dV i.val d.val : ℝ) : EReal) := by
  rw [Hand.res_dv]; exact hDv_at R.dO R.p h i d
theorem RealsAt.res_dg (h : Fin 4) (i : Fin 16384) (d : Fin 128) : Value.res_main_v76 m c (ix2 i ⟨h.val * 128 + d.val, by omega⟩) = (((H h).dG i.val d.val : ℝ) : EReal) := by
  rw [Hand.res_dg]; exact hDg_at R.gate R.out R.o h d i

end Cert.ReferenceIdeal.Hand

end
-- ==== Proof.VFinal.lean ====
/- The kernel's four results are the reference's. -/
module

public import proofs.«01_k».proof.Defs
public import proofs.«01_k».proof.Proof.VOut
public import proofs.«01_k».proof.Proof.RVal
public import proofs.«01_k».proof.Proof.Consts
public import proofs.«01_k».proof.Proof.Gen.Pre_finite
public import proofs.«01_k».proof.Proof.Gen.ReferenceIdeal
public import proofs.«01_k».proof.Proof.Gen.ReferenceIdeal.Run
public import Idealize.ShloMosaic.Lib.Pointwise

@[expose] public section
set_option maxRecDepth 16384
noncomputable section

open Idealize.ShloMosaic Idealize.ShloMosaic.TcCoe Idealize.SL.Sem
open Cert.Math

namespace Cert.KernelIdeal.Hand

open Cert.KernelIdeal Facts₀ Facts
open Idealize.ShloMosaic.Pipeline

variable [Facts]
variable (m : (ℓ : Loc nD τ sig) → Buf (Elt Ideal) ℓ) (ρ : Dev nD → PrngReg)

theorem rest_dk : main_v34_2 ∈ R0 := by decide
theorem rest_dv : main_v34_3 ∈ R0 := by decide

/-- The run, over memories that hold real numbers: the four results are any four arrays of the heads' gradients. -/
theorem run_values {H : Dev nD → Fin 4 → Head} (R : ∀ c, RealsAt m c (H c))
    (a : Dev nD → FVec Ideal S4x16384x256 .f32) (ha : ∀ c h i d, a c (ix3 h i d) = (((H c h).dQ i.val d.val : ℝ) : EReal))
    (b : Dev nD → FVec Ideal S16384x512 .bf16) (hb : ∀ c (h : Fin 4) (i : Fin 16384) (d : Fin 128), b c (ix2 i ⟨h.val * 128 + d.val, by omega⟩) = (((H c h).dG i.val d.val : ℝ) : EReal))
    (k : Dev nD → FVec Ideal S4x16384x256 .f32) (hk : ∀ c h i d, k c (ix3 h i d) = (((H c h).dK i.val d.val : ℝ) : EReal))
    (v : Dev nD → FVec Ideal S4x16384x128 .f32) (hv : ∀ c h i d, v c (ix3 h i d) = (((H c h).dV i.val d.val : ℝ) : EReal)) :
    θ_run defs (onTc (τ := τ) (main (F := Ideal))) ⟨m, fun _ => 0, ρ⟩ (fun r => ∀ c : Dev nD,
      r.2.mem ((c.tc : Thread nD τ).loc main_v34_0) = a c
      ∧ r.2.mem ((c.tc : Thread nD τ).loc main_v34_1) = b c
      ∧ r.2.mem ((c.tc : Thread nD τ).loc main_v34_2) = k c
      ∧ r.2.mem ((c.tc : Thread nD τ).loc main_v34_3) = v c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1.1 c).1 5).trans (dq_eq (R c) (a c) (ha c)),
      ((h.1.1 c).1 6).trans (dg_eq (R c) (b c) (hb c)),
      (h.1.2 c main_v34_2 rest_dk).trans ((G_dk m c).trans (dk_eq (R c) (k c) (hk c))),
      (h.1.2 c main_v34_3 rest_dv).trans ((G_dv m c).trans (dv_eq (R c) (v c) (hv c))),
      ((h.1.1 c).1 0).trans (((dats m 0 c).arrAt_in 0 rfl _).trans ((A_eq m c 0).trans (Gen.V_main_arg0 m c))),
      ((h.1.1 c).2 main_arg1 arg1_rest).trans (Gen.V_main_arg1 m c),
      ((h.1.1 c).2 main_arg2 arg2_rest).trans (Gen.V_main_arg2 m c),
      ((h.1.1 c).1 3).trans (((dats m 0 c).arrAt_in 3 rfl _).trans ((A_eq m c 3).trans (Gen.V_main_arg3 m c))),
      ((h.1.1 c).1 4).trans (((dats m 0 c).arrAt_in 4 rfl _).trans ((A_eq m c 4).trans (Gen.V_main_arg4 m c)))⟩) (run_main m ρ)

end Cert.KernelIdeal.Hand

namespace Cert.Proof

/-- A number whose size is below infinity is a real one. -/
theorem finite_of {x : EReal} (h : Ideal.cmp .olt (max x (-x)) (Ideal.ofBits .f32 0x7F800000#32) = 1#1) : x ≠ ⊤ ∧ x ≠ ⊥ := by
  rw [ofBits_pos_inf] at h
  have hx : max x (-x) < (⊤ : EReal) := by
    by_contra hn
    have e : Ideal.cmp .olt (max x (-x)) (⊤ : EReal) = 0#1 := by
      show BitVec.ofBool (decide (max x (-x) < (⊤ : EReal))) = 0#1
      rw [decide_eq_false hn]
      rfl
    rw [e] at h
    exact absurd h (by decide)
  constructor
  · rintro rfl
    exact absurd hx (by simp)
  · rintro rfl
    exact absurd hx (by simp)

theorem reals_of_pre [Cert.KernelIdeal.Facts] [Cert.Pre_finite.Facts] (m : (ℓ : Loc Cert.KernelIdeal.nD Cert.KernelIdeal.τ Cert.KernelIdeal.sig) → Buf (Elt Ideal) ℓ)
    (h : Cert.Pre_KernelIdeal_finite m) (c : Dev Cert.KernelIdeal.nD) : ∃ H : Fin 4 → Head, Cert.KernelIdeal.Hand.RealsAt m c H := by
  obtain ⟨h0, h1, h2, h3, h4⟩ := h c
  exact ⟨_, Cert.KernelIdeal.Hand.reals_of _ _ _ _ _ (fun i => finite_of (congrFun h0 i)) (fun i => finite_of (congrFun h1 i))
    (fun i => finite_of (congrFun h2 i)) (fun i => finite_of (congrFun h3 i)) (fun i => finite_of (congrFun h4 i))⟩

/-- The kernel's four results are the reference's, of finite arguments. -/
theorem algebraic [Cert.KernelIdeal.Facts] [Cert.Pre_finite.Facts] : Cert.algebraic_KernelIdeal_ReferenceIdeal_pre_finite := by
  intro m ρ m' ρ' hpre hagree
  choose H R using reals_of_pre m hpre
  have R' : ∀ c, Cert.ReferenceIdeal.Hand.RealsAt m' c (H c) := fun c => by
    obtain ⟨e0, e1, e2, e3, e4⟩ := hagree c
    constructor
    · rw [e0]; exact (R c).q
    · rw [e1]; exact (R c).k
    · rw [e2]; exact (R c).v
    · rw [e3]; exact (R c).y
    · rw [e4]; exact (R c).g
  exact ⟨_, _, _, _, Cert.KernelIdeal.Hand.run_values m ρ R
      (fun c => Cert.ReferenceIdeal.Value.res_main_v75 m' c) (fun c => (R' c).res_dq)
      (fun c => Cert.ReferenceIdeal.Value.res_main_v76 m' c) (fun c => (R' c).res_dg)
      (fun c => Cert.ReferenceIdeal.Value.res_main_v74 m' c) (fun c => (R' c).res_dk)
      (fun c => Cert.ReferenceIdeal.Value.res_main_v58 m' c) (fun c => (R' c).res_dv),
    Cert.ReferenceIdeal.Value.run (F := Ideal) m' ρ'⟩

end Cert.Proof

end
-- ==== Proof.ProjFrames.lean ====
/- The two projections' backward calls and their references: each runs and leaves its arguments as they were. -/
module

public import proofs.«01_k».proof.Defs
public import proofs.«01_k».proof.Proof.Gen.InProj.Frame
public import proofs.«01_k».proof.Proof.Gen.InProjIdeal.Frame
public import proofs.«01_k».proof.Proof.Gen.InProjRefIdeal.Run
public import proofs.«01_k».proof.Proof.Gen.OutProj.Frame
public import proofs.«01_k».proof.Proof.Gen.OutProjIdeal.Frame
public import proofs.«01_k».proof.Proof.Gen.OutProjRefIdeal.Run
public import Idealize.ShloMosaic.Lib.Quiescent

@[expose] public section
noncomputable section
open Idealize.ShloMosaic Idealize.ShloMosaic.TcCoe Idealize.SL.Sem

namespace Cert.Proof

theorem frame_in : Cert.quiescent_InProj := fun m ρ _ => Cert.InProj.Gen.frame m ρ
theorem frame_inIdeal : Cert.quiescent_InProjIdeal := fun m ρ _ => Cert.InProjIdeal.Gen.frame m ρ
theorem frame_inRef : Cert.quiescent_InProjRefIdeal := fun m ρ _ =>
  (θ_run Cert.InProjRefIdeal.defs _ _).mono (fun r h => ⟨fun c => (h c).2.2.2,
      Idealize.ShloMosaic.sem_eq_zero_of_no_sems (by decide) r.2⟩)
    (Cert.InProjRefIdeal.Value.run (F := Ideal) m ρ)
theorem frame_out : Cert.quiescent_OutProj := fun m ρ _ => Cert.OutProj.Gen.frame m ρ
theorem frame_outIdeal : Cert.quiescent_OutProjIdeal := fun m ρ _ => Cert.OutProjIdeal.Gen.frame m ρ
theorem frame_outRef : Cert.quiescent_OutProjRefIdeal := fun m ρ _ =>
  (θ_run Cert.OutProjRefIdeal.defs _ _).mono (fun r h => ⟨fun c => (h c).2.2.2,
      Idealize.ShloMosaic.sem_eq_zero_of_no_sems (by decide) r.2⟩)
    (Cert.OutProjRefIdeal.Value.run (F := Ideal) m ρ)

end Cert.Proof

end
-- ==== Proof.RmsMath.lean ====
/- The backward row of a root-mean-square norm, over the extended reals: the kernel's form and the
   reference's form agree for every row, also for rows with infinite entries. -/
module

public import Idealize.ShloMosaic.Lib.Pointwise
public import proofs.«01_k».proof.Proof.Consts

@[expose] public section
noncomputable section
open Idealize.ShloMosaic
open scoped BigOperators

namespace Cert.Math

/-- The width of a row. -/
abbrev wN : EReal := Ideal.ofBits .f32 0x44800000#32
/-- The small number added to the mean square. -/
abbrev wEps : EReal := Ideal.ofBits .f32 0x358637BD#32
/-- Minus one half. -/
abbrev wMH : EReal := Ideal.ofBits .f32 0xBF000000#32

theorem wN_eq : wN = ((1024 : ℝ) : EReal) := by
  simp [wN, Ideal.ofBits, Ideal.ieee, -EReal.coe_mul]; norm_num
theorem wMH_eq : wMH = ((-(1/2) : ℝ) : EReal) := by
  simp [wMH, Ideal.ofBits, Ideal.ieee, -EReal.coe_mul]; norm_num
theorem wEps_eq : ∃ e : ℝ, 0 < e ∧ wEps = (e : EReal) := by
  refine ⟨_, ?_, by simp [wEps, Ideal.ofBits, Ideal.ieee, -EReal.coe_mul]; rfl⟩
  norm_num

/-- The mean square of a row plus the small number. -/
def msq {n : ℕ} (x : Fin n → EReal) : EReal := Ideal.div (∑ k, x k * x k) wN + wEps
/-- Its reciprocal root. -/
def rs {n : ℕ} (x : Fin n → EReal) : EReal := Ideal.rsqrt (msq x)
/-- The weight of a row's own entries in the reference's gradient. -/
def rcoef {n : ℕ} (x a : Fin n → EReal) : EReal :=
  Ideal.div ((∑ k, x k * a k) * (wMH * Ideal.div (rs x) (msq x))) wN

/-- Four rows side by side. -/
def cat4 (f0 : Fin 1280 → EReal) (f1 : Fin 640 → EReal) (f2 : Fin 128 → EReal) (f3 : Fin 512 → EReal) (k : Fin 2560) : EReal :=
  if h : k.val < 1280 then f0 ⟨k.val, h⟩
  else if h : k.val - 1280 < 640 then f1 ⟨k.val - 1280, h⟩
  else if h : k.val - 1280 - 640 < 128 then f2 ⟨k.val - 1280 - 640, h⟩
  else f3 ⟨k.val - 1280 - 640 - 128, by omega⟩

/-- Two rows side by side. -/
def cat2 (f0 f1 : Fin 512 → EReal) (k : Fin 1024) : EReal :=
  if h : k.val < 512 then f0 ⟨k.val, h⟩ else f1 ⟨k.val - 512, by omega⟩

theorem sum_mul_real {n : ℕ} (y : Fin n → EReal) (ρ : ℝ) (h : 0 ≤ ρ) :
    ∑ k, y k * (ρ : EReal) = (∑ k, y k) * (ρ : EReal) := by
  classical
  refine Finset.induction_on (s := Finset.univ)
    (motive := fun s => ∑ k ∈ s, y k * (ρ : EReal) = (∑ k ∈ s, y k) * (ρ : EReal)) (by simp) ?_
  intro i s hi ih
  rw [Finset.sum_insert hi, Finset.sum_insert hi, ih,
    EReal.right_distrib_of_nonneg_of_ne_top (by exact_mod_cast h) (EReal.coe_ne_top ρ)]

theorem sq_nonneg' (z : EReal) : 0 ≤ z * z := by
  induction z with
  | bot => simp
  | top => simp
  | coe r => exact_mod_cast mul_self_nonneg r

theorem twice (y : EReal) : y + y = ((2 : ℝ) : EReal) * y := by
  have : ((2 : ℝ) : EReal) = 1 + 1 := by norm_cast
  rw [this, EReal.right_distrib_of_nonneg zero_le_one zero_le_one, one_mul]

/-- Either some entry is infinite and the reciprocal root is zero over an infinite mean square, or
    the row is real and its reciprocal root is a positive real. -/
theorem row_cases {n : ℕ} (x : Fin n → EReal) :
    (msq x = ⊤ ∧ rs x = 0) ∨
    ∃ (X : Fin n → ℝ) (p ρ : ℝ), x = (fun k => (X k : EReal)) ∧ 0 < p ∧ 0 < ρ ∧ ρ * ρ * p = 1 ∧
      msq x = (p : EReal) ∧ rs x = (ρ : EReal) := by
  obtain ⟨e, he, hE⟩ := wEps_eq
  by_cases h : ∃ k, x k = ⊤ ∨ x k = ⊥
  · left
    obtain ⟨k, hk⟩ := h
    have hs : ∑ k, x k * x k = ⊤ := by
      refine top_unique ?_
      have h1 : x k * x k = ⊤ := by rcases hk with hk | hk <;> rw [hk] <;> simp
      rw [← h1]
      exact Finset.single_le_sum (f := fun k => x k * x k) (fun i _ => sq_nonneg' (x i)) (Finset.mem_univ k)
    have hm : msq x = ⊤ := by
      rw [msq, hs, wN_eq, Ideal.div_coe (by norm_num), hE,
        EReal.top_mul_coe_of_pos (by norm_num), EReal.top_add_coe]
    exact ⟨hm, by rw [rs, hm]; rfl⟩
  · right
    push Not at h
    have hx : x = fun k => ((x k).toReal : EReal) :=
      funext fun k => (EReal.coe_toReal (h k).1 (h k).2).symm
    set X : Fin n → ℝ := fun k => (x k).toReal with hX
    have hs : ∑ k, x k * x k = ((∑ k, X k * X k : ℝ) : EReal) := by
      rw [hx]
      simp only [← EReal.coe_mul]
      exact (map_sum (⟨⟨Real.toEReal, EReal.coe_zero⟩, EReal.coe_add⟩ : ℝ →+ EReal) _ _).symm
    have hs0 : 0 ≤ ∑ k, X k * X k := Finset.sum_nonneg fun k _ => mul_self_nonneg _
    have hm : msq x = (((∑ k, X k * X k) * (1 / 1024) + e : ℝ) : EReal) := by
      rw [msq, hs, wN_eq, Ideal.div_coe (by norm_num), hE]; norm_cast
    have hp : 0 < (∑ k, X k * X k) * (1 / 1024) + e := by positivity
    refine ⟨X, _, (Real.sqrt ((∑ k, X k * X k) * (1 / 1024) + e))⁻¹, hx, hp,
      inv_pos.mpr (Real.sqrt_pos.mpr hp), ?_, hm, ?_⟩
    · rw [← mul_inv, Real.mul_self_sqrt hp.le, inv_mul_cancel₀ hp.ne']
    · rw [rs, hm, Ideal.rsqrt_coe, if_neg (not_lt.mpr hp.le), if_neg hp.ne']

/-- The two forms of the backward row. -/
theorem rms_row {n : ℕ} (x a : Fin n → EReal) (j : Fin n) (d : EReal) :
    rs x * (a j - x j * rs x * Ideal.div (∑ k, a k * (x k * rs x)) wN) + d
      = ((d + a j * rs x) + x j * rcoef x a) + rcoef x a * x j := by
  rcases row_cases x with ⟨hm, hr⟩ | ⟨X, p, ρ, hx, hp, hρ, h1, hm, hr⟩
  · have hd : Ideal.div 0 ⊤ = 0 := by rw [Ideal.div, if_neg (by simp)]; simp
    rw [rcoef, hm, hr, hd]
    simp [wN_eq, Ideal.div_coe]
  · have hS : ∑ k, a k * (x k * rs x) = (∑ k, x k * a k) * (ρ : EReal) := by
      rw [← sum_mul_real _ ρ hρ.le, hr]
      exact Finset.sum_congr rfl fun k _ => by rw [← mul_assoc, mul_comm (a k)]
    rw [rcoef, hS, hm, hr, wN_eq, wMH_eq, Ideal.div_coe (by norm_num), Ideal.div_coe (by norm_num),
      Ideal.div_coe hp.ne']
    generalize (∑ k, x k * a k) = S
    have hj : x j = (X j : EReal) := congrFun hx j
    rw [hj]
    rw [sub_eq_add_neg, EReal.left_distrib_of_nonneg_of_ne_top (by exact_mod_cast hρ.le) (EReal.coe_ne_top ρ),
      add_comm _ d, mul_comm (S * _ * _) (X j : EReal), add_assoc, add_assoc, twice, mul_comm (ρ : EReal) (a j)]
    congr 2
    have e1 : (X j : EReal) * ρ * (S * ρ * ((1 / 1024 : ℝ) : EReal)) = S * ((X j * ρ * ρ * (1 / 1024) : ℝ) : EReal) := by
      push_cast; ac_rfl
    have e2 : ((2 : ℝ) : EReal) * ((X j : EReal) * (S * (((-(1 / 2) : ℝ) : EReal) * (ρ * ((1 / p : ℝ) : EReal))) *
        ((1 / 1024 : ℝ) : EReal))) = S * ((2 * X j * -(1 / 2) * ρ * (1 / p) * (1 / 1024) : ℝ) : EReal) := by
      push_cast; ac_rfl
    have e3 : (ρ : EReal) * -(S * ((X j * ρ * ρ * (1 / 1024) : ℝ) : EReal))
        = S * ((-(ρ * (X j * ρ * ρ * (1 / 1024))) : ℝ) : EReal) := by
      rw [mul_neg, EReal.coe_neg, mul_neg, EReal.coe_mul ρ]; congr 1; ac_rfl
    have e4 : 1 / p = ρ * ρ := by field_simp; linarith
    rw [e1, e2, e3, e4]
    congr 2
    ring

end Cert.Math

end
-- ==== Proof.InPay.lean ====
/- What the input projection's backward body computes of its blocks, read at an index. -/
module

public import proofs.«01_k».proof.Proof.Gen.InProjIdeal.Frame
public import Idealize.ShloMosaic.Lib.Pipeline.ValueKit
public import proofs.«01_k».proof.Proof.RmsMath

@[expose] public section
set_option maxRecDepth 16384
noncomputable section

namespace Cert.InProjIdeal.Hand

open Cert.InProjIdeal Cert.InProjIdeal.Gen
open Idealize.ShloMosaic Idealize.ShloMosaic.TcCoe
open Cert.Math
open scoped BigOperators

/-- The normed rows times the gain, as the host makes them. -/
def hH {F : FTy → Type} [FloatOps F] (x : FVec F S16384x1024 .f32) (g : FVec F S1x1024 .f32) : FVec F S16384x1024 .bf16 :=
  truncf .bf16 (mulf (mulf x (broadcastInDim S16384x1024 ![0, 1] bcast_S16384x1_S16384x1024_0_1
    (Host.rsqrt (addf (Host.divf (broadcastInDim S16384x1 ![0] bcast_S16384_S16384x1_0
        (Host.reduceAdd (mulf x x) (constant S_ .f32 0x00000000#32) reducesTo_S16384x1024_S16384_d1 h_S_))
      (broadcastInDim S16384x1 ![] bcast_S_S16384x1 (constant S_ .f32 0x44800000#32))) (broadcastInDim S16384x1 ![] bcast_S_S16384x1 (constant S_ .f32 0x358637BD#32))))))
    (broadcastInDim S16384x1024 ![0, 1] bcast_S1x1024_S16384x1024_0_1 g)) bitsLt_bf16_f32

theorem hH_at (x : FVec Ideal S16384x1024 .f32) (g : FVec Ideal S1x1024 .f32) (i : Fin 16384) (j : Fin 1024) :
    hH x g (ix2 i j) = x (ix2 i j) * rs (fun k : Fin 1024 => x (ix2 i k)) * g (ix2 0 j) := by
  unfold hH rs msq
  pointwise

theorem V_h {F : FTy → Type} [FloatOps F] (m : (ℓ : Loc nD τ sig) → Buf (Elt F) ℓ) (c : Dev nD) :
    Gen.V m c main_v12 = hH (m ((c : Thread nD τ).loc main_arg4)) (m ((c : Thread nD τ).loc main_arg7)) := by
  unfold Gen.V
  simp only [hostOps0, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp
  rfl

variable (v1 : FVec Ideal S512x1280 .bf16) (v2 : FVec Ideal S512x640 .bf16) (v3 : FVec Ideal S512x128 .bf16) (v4 : FVec Ideal S512x512 .bf16)
variable (w : FVec Ideal S1024x2560 .bf16) (h : FVec Ideal S512x1024 .bf16) (x d dh : FVec Ideal S512x1024 .f32) (g : FVec Ideal S1x1024 .f32)

/-- A row of the incoming gradient's block. -/
abbrev zrow (i : Fin 512) : Fin 2560 → EReal :=
  cat4 (fun k => v1 (ix2 i k)) (fun k => v2 (ix2 i k)) (fun k => v3 (ix2 i k)) (fun k => v4 (ix2 i k))

theorem pay3_at (i : Fin 512) (k : Fin 2560) : k0_pay3 (F := Ideal) v1 v2 v3 v4 (ix2 i k) = zrow v1 v2 v3 v4 i k := by
  unfold k0_pay3 zrow cat4
  pointwise

theorem pay6_at (i : Fin 512) (j : Fin 1024) : k0_pay6 (F := Ideal) v1 v2 v3 v4 w (ix2 i j) = ∑ k : Fin 2560, zrow v1 v2 v3 v4 i k * w (ix2 j k) := by
  unfold k0_pay6
  pointwise
  simp only [pay3_at]

theorem pay15_at (i : Fin 512) : k0_pay15 (F := Ideal) x (ix2 i 0) = rs (fun k : Fin 1024 => x (ix2 i k)) := by
  unfold k0_pay15 rs msq
  pointwise

theorem pay16_at (i : Fin 512) (j : Fin 1024) : k0_pay16 (F := Ideal) x (ix2 i j) = x (ix2 i j) * rs (fun k : Fin 1024 => x (ix2 i k)) := by
  unfold k0_pay16
  pointwise
  rw [pay15_at]

theorem pay17_at (i : Fin 512) (j : Fin 1024) : k0_pay17 (F := Ideal) dh x g (ix2 i j)
    = dh (ix2 i j) * g (ix2 0 j) - x (ix2 i j) * rs (fun k : Fin 1024 => x (ix2 i k)) *
      Ideal.div (∑ k : Fin 1024, dh (ix2 i k) * g (ix2 0 k) * (x (ix2 i k) * rs (fun k : Fin 1024 => x (ix2 i k)))) wN := by
  unfold k0_pay17
  pointwise
  simp only [pay16_at]

theorem dx_at (i : Fin 512) (j : Fin 1024) : k0_pay1 (F := Ideal) (k0_pay15 x) (k0_pay17 dh x g) d (ix2 i j)
    = rs (fun k : Fin 1024 => x (ix2 i k)) * (dh (ix2 i j) * g (ix2 0 j) - x (ix2 i j) * rs (fun k : Fin 1024 => x (ix2 i k)) *
      Ideal.div (∑ k : Fin 1024, dh (ix2 i k) * g (ix2 0 k) * (x (ix2 i k) * rs (fun k : Fin 1024 => x (ix2 i k)))) wN) + d (ix2 i j) := by
  unfold k0_pay1
  pointwise
  rw [pay15_at, pay17_at]

/-- What a point adds to the gain's gradient. -/
theorem pay2_at (a : FVec Ideal S1x1024 .f32) (j : Fin 1024) : k0_pay2 (F := Ideal) dh (k0_pay16 x) a (ix2 0 j)
    = a (ix2 0 j) + ∑ i : Fin 512, dh (ix2 i j) * (x (ix2 i j) * rs (fun k : Fin 1024 => x (ix2 i k))) := by
  unfold k0_pay2
  pointwise
  simp only [pay16_at]

/-- What a point adds to a chunk of columns of the projection's gradient. -/
theorem pay8_at (a : FVec Ideal S1024x512 .f32) (j : Fin 1024) (k : Fin 512) : k0_pay8 (F := Ideal) v1 v2 v3 v4 h a (ix2 j k)
    = a (ix2 j k) + ∑ i : Fin 512, h (ix2 i j) * zrow v1 v2 v3 v4 i ⟨k.val, by omega⟩ := by
  unfold k0_pay8 k0_pay7
  pointwise
  simp only [pay3_at]
theorem pay9_at (a : FVec Ideal S1024x512 .f32) (j : Fin 1024) (k : Fin 512) : k0_pay9 (F := Ideal) v1 v2 v3 v4 h a (ix2 j k)
    = a (ix2 j k) + ∑ i : Fin 512, h (ix2 i j) * zrow v1 v2 v3 v4 i ⟨512 + k.val, by omega⟩ := by
  unfold k0_pay9 k0_pay7
  pointwise
  simp only [pay3_at]
theorem pay12_at (a : FVec Ideal S1024x512 .f32) (j : Fin 1024) (k : Fin 512) : k0_pay12 (F := Ideal) (k0_pay10 a) (k0_pay11 v1 v2 v3 v4 h) (ix2 j k)
    = a (ix2 j k) + ∑ i : Fin 512, h (ix2 i j) * zrow v1 v2 v3 v4 i ⟨1024 + k.val, by omega⟩ := by
  unfold k0_pay12 k0_pay10 k0_pay11 k0_pay7
  pointwise
  simp only [pay3_at]
theorem pay13_at (a : FVec Ideal S1024x512 .f32) (j : Fin 1024) (k : Fin 512) : k0_pay13 (F := Ideal) (k0_pay3 v1 v2 v3 v4) (k0_pay7 h) a (ix2 j k)
    = a (ix2 j k) + ∑ i : Fin 512, h (ix2 i j) * zrow v1 v2 v3 v4 i ⟨1536 + k.val, by omega⟩ := by
  unfold k0_pay13 k0_pay7
  pointwise
  simp only [pay3_at]
theorem pay14_at (a : FVec Ideal S1024x512 .f32) (j : Fin 1024) (k : Fin 512) : k0_pay14 (F := Ideal) (k0_pay3 v1 v2 v3 v4) (k0_pay7 h) a (ix2 j k)
    = a (ix2 j k) + ∑ i : Fin 512, h (ix2 i j) * zrow v1 v2 v3 v4 i ⟨2048 + k.val, by omega⟩ := by
  unfold k0_pay14 k0_pay7
  pointwise
  simp only [pay3_at]

end Cert.InProjIdeal.Hand

end
-- ==== Proof.InBase.lean ====
/- The blocks of the input projection's backward call, and its arguments by what they are. -/
module

public import proofs.«01_k».proof.Proof.InPay

@[expose] public section
set_option maxRecDepth 16384
noncomputable section

namespace Cert.InProjIdeal.Hand

open Cert.InProjIdeal Cert.InProjIdeal.Gen
open Idealize.ShloMosaic Idealize.ShloMosaic.TcCoe
open Cert.Math
open scoped BigOperators

theorem idx : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![0, 0]
    ∧ win0_8.index t = ![0, 0]
    ∧ win0_9.index t = ![t.val, 0]
    ∧ win0_10.index t = ![0, 0]
    ∧ win0_11.index t = ![0, 0] :=
  (by decide +kernel : ∀ t : Fin grid0.N, _)

variable (m : (ℓ : Loc nD τ sig) → Buf (Elt Ideal) ℓ) (c : Dev nD)

/-- A row of the incoming gradient. -/
abbrev zr (i : Fin 16384) : Fin 2560 → EReal :=
  cat4 (fun k => (m ((c : Thread nD τ).loc main_arg0) : FVec Ideal S16384x1280 .bf16) (ix2 i k)) (fun k => (m ((c : Thread nD τ).loc main_arg1) : FVec Ideal S16384x640 .bf16) (ix2 i k))
    (fun k => (m ((c : Thread nD τ).loc main_arg2) : FVec Ideal S16384x128 .bf16) (ix2 i k)) (fun k => (m ((c : Thread nD τ).loc main_arg3) : FVec Ideal S16384x512 .bf16) (ix2 i k))
abbrev aX : FVec Ideal S16384x1024 .f32 := m ((c : Thread nD τ).loc main_arg4)
abbrev aD : FVec Ideal S16384x1024 .f32 := m ((c : Thread nD τ).loc main_arg5)
abbrev aW : FVec Ideal S1024x2560 .bf16 := m ((c : Thread nD τ).loc main_arg6)
abbrev aG : FVec Ideal S1x1024 .f32 := m ((c : Thread nD τ).loc main_arg7)
/-- The gradient before the projection. -/
abbrev dH (i : Fin 16384) (j : Fin 1024) : EReal := ∑ k : Fin 2560, zr m c i k * aW m c (ix2 j k)
/-- A row's reciprocal root mean square. -/
abbrev rX (i : Fin 16384) : EReal := rs fun k : Fin 1024 => aX m c (ix2 i k)

theorem N_eq : cfg0.N = 32 := by decide

/-- The array row of a block's row. -/
abbrev row (t : Fin cfg0.N) (i : Fin 512) : Fin 16384 := ⟨512 * t.val + i.val, by have := lt_of_lt_of_eq t.isLt N_eq; omega⟩

variable (t : Fin cfg0.N)

theorem b0_at (i : Fin 512) (k : Fin 1280) : (iblk m c 0 t : FVec Ideal S512x1280 .bf16) (ix2 i k)
    = (m ((c : Thread nD τ).loc main_arg0) : FVec Ideal S16384x1280 .bf16) (ix2 (row t i) k) := by
  blk_point [iblk, V, idx t]
theorem b1_at (i : Fin 512) (k : Fin 640) : (iblk m c 1 t : FVec Ideal S512x640 .bf16) (ix2 i k)
    = (m ((c : Thread nD τ).loc main_arg1) : FVec Ideal S16384x640 .bf16) (ix2 (row t i) k) := by
  blk_point [iblk, V, idx t]
theorem b2_at (i : Fin 512) (k : Fin 128) : (iblk m c 2 t : FVec Ideal S512x128 .bf16) (ix2 i k)
    = (m ((c : Thread nD τ).loc main_arg2) : FVec Ideal S16384x128 .bf16) (ix2 (row t i) k) := by
  blk_point [iblk, V, idx t]
theorem b3_at (i : Fin 512) (k : Fin 512) : (iblk m c 3 t : FVec Ideal S512x512 .bf16) (ix2 i k)
    = (m ((c : Thread nD τ).loc main_arg3) : FVec Ideal S16384x512 .bf16) (ix2 (row t i) k) := by
  blk_point [iblk, V, idx t]
theorem b4_at (i : Fin 512) (k : Fin 1024) : (iblk m c 4 t : FVec Ideal S512x1024 .bf16) (ix2 i k)
    = aX m c (ix2 (row t i) k) * rX m c (row t i) * aG m c (ix2 0 k) := by
  rw [← hH_at, ← V_h]
  blk_ext [iblk, idx t]
theorem b5_at (i : Fin 512) (k : Fin 1024) : (iblk m c 5 t : FVec Ideal S512x1024 .f32) (ix2 i k) = aX m c (ix2 (row t i) k) := by
  blk_point [iblk, V, idx t]
theorem b6_at (i : Fin 512) (k : Fin 1024) : (iblk m c 6 t : FVec Ideal S512x1024 .f32) (ix2 i k) = aD m c (ix2 (row t i) k) := by
  blk_point [iblk, V, idx t]
theorem b7_at (i : Fin 1024) (k : Fin 2560) : (iblk m c 7 t : FVec Ideal S1024x2560 .bf16) (ix2 i k) = aW m c (ix2 i k) := by
  blk_point [iblk, V, idx t]
theorem b8_at (k : Fin 1024) : (iblk m c 8 t : FVec Ideal S1x1024 .f32) (ix2 0 k) = aG m c (ix2 0 k) := by
  blk_point [iblk, V, idx t]

theorem zrow_blk (i : Fin 512) : zrow (iblk m c 0 t) (iblk m c 1 t) (iblk m c 2 t) (iblk m c 3 t) i = zr m c (row t i) := by
  unfold zrow zr
  simp only [b0_at, b1_at, b2_at, b3_at]

theorem dh_blk (i : Fin 512) (j : Fin 1024) : k0_pay6 (F := Ideal) (iblk m c 0 t) (iblk m c 1 t) (iblk m c 2 t) (iblk m c 3 t) (iblk m c 7 t) (ix2 i j)
    = dH m c (row t i) j := by
  rw [pay6_at, zrow_blk]
  simp only [b7_at]

theorem rs_blk (i : Fin 512) : (rs fun k : Fin 1024 => (iblk m c 5 t : FVec Ideal S512x1024 .f32) (ix2 i k)) = rX m c (row t i) := by
  simp only [b5_at]

theorem cell (y : S512x1024.Idx) : ∃ (a : Fin 512) (b : Fin 1024), y = ix2 a b := ⟨y 0, y 1, (ix2_eta _).symm⟩
theorem line (y : S1x1024.Idx) : ∃ b : Fin 1024, y = ix2 0 b :=
  ⟨y 1, by rw [← ix2_eta y]; exact congrArg (fun a => ix2 a (y 1)) (Subsingleton.elim (α := Fin 1) (y 0) 0)⟩

/-- A sum over all rows, point by point. -/
theorem sum_rows (f : Fin 16384 → EReal) (t : Fin cfg0.N) (h : ∀ s : Fin 32, 32 * (t.val / 32) + s.val < cfg0.N) :
    ∑ s : Fin 32, ∑ i : Fin 512, f (row ⟨32 * (t.val / 32) + s.val, h s⟩ i) = ∑ i : Fin 16384, f i := by
  have ht := lt_of_lt_of_eq t.isLt N_eq
  refine Fin.sum_mul_add_congr (fun s k hl => congrArg f (Fin.ext ?_))
  show 512 * (32 * (t.val / 32) + s.val) + k.val = _
  simp only []
  omega

end Cert.InProjIdeal.Hand

end
-- ==== Proof.InDx.lean ====
/- The gradient of the norm's input, as the call leaves it. -/
module

public import proofs.«01_k».proof.Proof.InBase

@[expose] public section
set_option maxRecDepth 16384
noncomputable section

namespace Cert.InProjIdeal.Hand

open Cert.InProjIdeal Cert.InProjIdeal.Gen
open Idealize.ShloMosaic Idealize.ShloMosaic.TcCoe
open Cert.Math
open scoped BigOperators

variable (m : (ℓ : Loc nD τ sig) → Buf (Elt Ideal) ℓ) (c : Dev nD)

theorem arr_dx (T : FVec Ideal S16384x1024 .f32)
    (hT : ∀ i j, T (ix2 i j) = rX m c i * (dH m c i j * aG m c (ix2 0 j) - aX m c (ix2 i j) * rX m c i *
      Ideal.div (∑ k : Fin 1024, dH m c i k * aG m c (ix2 0 k) * (aX m c (ix2 i k) * rX m c i)) wN) + aD m c (ix2 i j)) :
    (dats m 0 c).arrAt 9 (cfgs 0).N = T := by
  refine (dats m 0 c).arrAt_eq_of_covers 9 _ (by decide +kernel) fun t hf y => ?_
  blk_simp; rw [after0_9]
  have e : (outsAt0 m c t.val t.isLt).1 = k0_pay1 (F := Ideal) (k0_pay15 (iblk m c 5 t))
      (k0_pay17 (k0_pay6 (iblk m c 0 t) (iblk m c 1 t) (iblk m c 2 t) (iblk m c 3 t) (iblk m c 7 t)) (iblk m c 5 t) (iblk m c 8 t)) (iblk m c 6 t) := by
    by_cases h : t.val % 32 = 0
    · rw [outsAt0_A m c t h]
      frame_out
    · rw [outsAt0_B m c t h]
      frame_out
  rw [e]
  obtain ⟨a, b, rfl⟩ := cell y
  refine (dx_at _ _ _ _ a b).trans ?_
  rw [rs_blk, dh_blk, b5_at, b6_at, b8_at]
  simp only [dh_blk, b5_at, b8_at]
  rw [← hT]
  refine congrArg T ?_
  obtain ⟨-, -, -, -, -, -, -, -, -, e9, -⟩ := idx t
  blk_ext [idx t]

end Cert.InProjIdeal.Hand

end
-- ==== Proof.InDg.lean ====
/- The gradient of the norm's gain, as the call leaves it. -/
module

public import proofs.«01_k».proof.Proof.InBase

@[expose] public section
set_option maxRecDepth 16384
noncomputable section

namespace Cert.InProjIdeal.Hand

open Cert.InProjIdeal Cert.InProjIdeal.Gen
open Idealize.ShloMosaic Idealize.ShloMosaic.TcCoe
open Cert.Math
open scoped BigOperators

variable (m : (ℓ : Loc nD τ sig) → Buf (Elt Ideal) ℓ) (c : Dev nD)

/-- What a point adds. -/
theorem part (t : Fin cfg0.N) (a : FVec Ideal S1x1024 .f32) (j : S1x1024.Idx) :
    k0_pay2 (F := Ideal) (k0_pay6 (iblk m c 0 t) (iblk m c 1 t) (iblk m c 2 t) (iblk m c 3 t) (iblk m c 7 t)) (k0_pay16 (iblk m c 5 t)) a j
      = a j + ∑ i : Fin 512, dH m c (row t i) (j 1) * (aX m c (ix2 (row t i) (j 1)) * rX m c (row t i)) := by
  obtain ⟨b, rfl⟩ := line j
  refine (pay2_at _ _ a b).trans (congrArg (a (ix2 0 b) + ·) (Finset.sum_congr rfl fun i _ => ?_))
  rw [rs_blk, dh_blk, b5_at]
  rfl

theorem zero5 (j : S1x1024.Idx) : k0_pay5 (F := Ideal) j = 0 := by
  pointwise! [k0_pay5]

theorem arr_dg (T : FVec Ideal S1x1024 .f32)
    (hT : ∀ j, T (ix2 0 j) = ∑ i : Fin 16384, dH m c i j * (aX m c (ix2 i j) * rX m c i)) :
    (dats m 0 c).arrAt 11 (cfgs 0).N = T := by
  refine (dats m 0 c).arrAt_eq_of_covers 11 _ (by decide +kernel) fun t hf y => ?_
  blk_simp
  rw [after0_11, Pipeline.eq_sum_fin_of_reset_step_apply_of_flush (fun n h => (outsAt0 m c n h).2.2) 32 (fun _ => 0)
      (fun t j => ∑ i : Fin 512, dH m c (row t i) (j 1) * (aX m c (ix2 (row t i) (j 1)) * rX m c (row t i)))
    (fun t h j => by
      rw [outsAt0_A m c t h]; frame_out
      exact (part _ _ _ _ _).trans (congrArg (· + _) (zero5 _)))
    (fun t h j => by
      rw [outsAt0_B m c t h]; frame_out
      exact part _ _ _ _ _)
    t ((flush0_11 t).mp hf) _, zero_add]
  obtain ⟨b, rfl⟩ := line y
  refine (sum_rows (fun i => dH m c i b * (aX m c (ix2 i b) * rX m c i)) t _).trans ?_
  rw [← hT]
  refine congrArg T ?_
  blk_ext [idx t]

end Cert.InProjIdeal.Hand

end
-- ==== Proof.InDw.lean ====
/- The gradient of the projection, as the call leaves it. -/
module

public import Idealize.ShloMosaic.Lib.Pipeline.ReadBack
public import proofs.«01_k».proof.Proof.InBase

@[expose] public section
set_option maxRecDepth 16384
noncomputable section

namespace Cert.InProjIdeal.Hand

open Cert.InProjIdeal Cert.InProjIdeal.Gen
open Idealize.ShloMosaic Idealize.ShloMosaic.TcCoe
open Cert.Math
open scoped BigOperators

variable (m : (ℓ : Loc nD τ sig) → Buf (Elt Ideal) ℓ) (c : Dev nD)

/-- A written piece, and what it is written over, both part of one array. -/
theorem canon_step {S : Shape} {e : EltTy} {p : View.Piece (Elt Ideal) S e} {L : List (View.Piece (Elt Ideal) S e)} {G : S.Idx → Elt Ideal e} {y : S.Idx}
    (hp : ∀ x, p.2 x = G (p.1.emb x)) (hL : y ∉ p.1.set → View.canon L y = G y) : View.canon (p :: L) y = G y := by
  by_cases hm : y ∈ p.1.set
  · obtain ⟨x, rfl⟩ := p.1.exists_idx_of_mem hm
    rw [show p.1.idx x = p.1.emb x from rfl, View.canon_cons_emb]
    exact hp x
  · rw [View.canon_cons_of_not_mem _ _ hm]
    exact hL hm

theorem chunk (y : S1024x512.Idx) : ∃ (a : Fin 1024) (b : Fin 512), y = ix2 a b := ⟨y 0, y 1, (ix2_eta _).symm⟩

/-- What a point leaves of what it found. -/
def upd (t : Fin cfg0.N) (a : FVec Ideal S1024x2560 .f32) : FVec Ideal S1024x2560 .f32 := fun j =>
  a j + ∑ i : Fin 512, aX m c (ix2 (row t i) (j 0)) * rX m c (row t i) * aG m c (ix2 0 (j 0)) * zr m c (row t i) (j 1)

theorem piece (t : Fin cfg0.N) (a : FVec Ideal S1024x2560 .f32) (o : ℕ) (ho : o + 512 ≤ 2560) (inb : ∀ x, (![0, o] : Fin 2 → ℕ) x + (![1024, 512] : Fin 2 → ℕ) x ≤ S1024x2560.size x)
    (w : FVec Ideal S1024x512 .f32) (b4 : FVec Ideal S512x1024 .bf16) (hb : b4 = iblk m c 4 t)
    (hw : ∀ j k, w (ix2 j k) = a ((Rect.unit (s := S1024x2560) ![0, o] ![1024, 512] inb).emb (ix2 j k))
      + ∑ i : Fin 512, b4 (ix2 i j) * zrow (iblk m c 0 t) (iblk m c 1 t) (iblk m c 2 t) (iblk m c 3 t) i ⟨o + k.val, by omega⟩)
    (x : S1024x512.Idx) : w x = upd m c t a ((Rect.unit (s := S1024x2560) ![0, o] ![1024, 512] inb).emb x) := by
  obtain ⟨j, k, rfl⟩ := chunk x
  have e0 : ((Rect.unit (s := S1024x2560) ![0, o] ![1024, 512] inb).emb (ix2 j k)) 0 = j := Fin.ext (by rw [Rect.emb_apply]; show 0 + 1 * j.val = _; omega)
  have e1 : ((Rect.unit (s := S1024x2560) ![0, o] ![1024, 512] inb).emb (ix2 j k)) 1 = (⟨o + k.val, by omega⟩ : Fin 2560) := Fin.ext (by rw [Rect.emb_apply]; show o + 1 * k.val = _; simp only []; omega)
  rw [hw]
  unfold upd
  rw [e0, e1]
  refine congrArg₂ (· + ·) rfl (Finset.sum_congr rfl fun i _ => ?_)
  rw [zrow_blk, hb, b4_at]

theorem out_of {o : ℕ} {inb : ∀ x, (![0, o] : Fin 2 → ℕ) x + (![1024, 512] : Fin 2 → ℕ) x ≤ S1024x2560.size x} {y : S1024x2560.Idx}
    (h : y ∉ (Rect.unit (s := S1024x2560) ![0, o] ![1024, 512] inb).set) : ¬ (o ≤ (y 1).val ∧ (y 1).val < o + 512) := fun hh =>
  h (Rect.mem_set_unit.mpr fun a => by
    have h0 : (y 0).val < 1024 := (y 0).isLt
    fin_cases a
    · exact ⟨Nat.zero_le _, show (y 0).val < 0 + 1024 by omega⟩
    · exact hh)

theorem pay8_at' (v1 : FVec Ideal S512x1280 .bf16) (v2 : FVec Ideal S512x640 .bf16) (v3 : FVec Ideal S512x128 .bf16) (v4 : FVec Ideal S512x512 .bf16)
    (h : FVec Ideal S512x1024 .bf16) (a : FVec Ideal S1024x512 .f32) (j : Fin 1024) (k : Fin 512) : k0_pay8 (F := Ideal) v1 v2 v3 v4 h a (ix2 j k)
    = a (ix2 j k) + ∑ i : Fin 512, h (ix2 i j) * zrow v1 v2 v3 v4 i ⟨0 + k.val, by omega⟩ := by
  rw [pay8_at]
  simp only [Nat.zero_add]

theorem core (t : Fin cfg0.N) (a : FVec Ideal S1024x2560 .f32) (L : List (View.Piece (Elt Ideal) S1024x2560 .f32)) (y : S1024x2560.Idx) :
    View.canon
      (⟨Rect.unit ![0, 2048] ![1024, 512] inb_S1024x2560_S1024x512_0_2048,
          k0_pay14 (F := Ideal) (k0_pay3 (iblk m c 0 t) (iblk m c 1 t) (iblk m c 2 t) (iblk m c 3 t)) (k0_pay7 (iblk m c 4 t))
            (View.ld (Val := Elt Ideal) (S := S1024x2560) (e' := .f32) a (Rect.unit ![0, 2048] ![1024, 512] inb_S1024x2560_S1024x512_0_2048))⟩ ::
        ⟨Rect.unit ![0, 1536] ![1024, 512] inb_S1024x2560_S1024x512_0_1536,
          k0_pay13 (k0_pay3 (iblk m c 0 t) (iblk m c 1 t) (iblk m c 2 t) (iblk m c 3 t)) (k0_pay7 (iblk m c 4 t))
            (View.ld (Val := Elt Ideal) (S := S1024x2560) (e' := .f32) a (Rect.unit ![0, 1536] ![1024, 512] inb_S1024x2560_S1024x512_0_1536))⟩ ::
        ⟨Rect.unit ![0, 1024] ![1024, 512] inb_S1024x2560_S1024x512_0_1024,
          k0_pay12 (k0_pay10 (View.ld (Val := Elt Ideal) (S := S1024x2560) (e' := .f32) a (Rect.unit ![0, 1024] ![1024, 512] inb_S1024x2560_S1024x512_0_1024)))
            (k0_pay11 (iblk m c 0 t) (iblk m c 1 t) (iblk m c 2 t) (iblk m c 3 t) (iblk m c 4 t))⟩ ::
        ⟨Rect.unit ![0, 512] ![1024, 512] inb_S1024x2560_S1024x512_0_512,
          k0_pay9 (iblk m c 0 t) (iblk m c 1 t) (iblk m c 2 t) (iblk m c 3 t) (iblk m c 4 t)
            (View.ld (Val := Elt Ideal) (S := S1024x2560) (e' := .f32) a (Rect.unit ![0, 512] ![1024, 512] inb_S1024x2560_S1024x512_0_512))⟩ ::
        ⟨Rect.unit ![0, 0] ![1024, 512] inb_S1024x2560_S1024x512_0_0,
          k0_pay8 (iblk m c 0 t) (iblk m c 1 t) (iblk m c 2 t) (iblk m c 3 t) (iblk m c 4 t)
            (View.ld (Val := Elt Ideal) (S := S1024x2560) (e' := .f32) a (Rect.unit ![0, 0] ![1024, 512] inb_S1024x2560_S1024x512_0_0))⟩ :: L)
      y = upd m c t a y := by
  refine canon_step (piece m c t a 2048 (by omega) _ _ _ rfl fun j k => pay14_at _ _ _ _ _ _ j k) fun h4 => ?_
  refine canon_step (piece m c t a 1536 (by omega) _ _ _ rfl fun j k => pay13_at _ _ _ _ _ _ j k) fun h3 => ?_
  refine canon_step (piece m c t a 1024 (by omega) _ _ _ rfl fun j k => pay12_at _ _ _ _ _ _ j k) fun h2 => ?_
  refine canon_step (piece m c t a 512 (by omega) _ _ _ rfl fun j k => pay9_at _ _ _ _ _ _ j k) fun h1 => ?_
  refine canon_step (piece m c t a 0 (by omega) _ _ _ rfl fun j k => pay8_at' _ _ _ _ _ _ j k) fun h0 => ?_
  have hy : (y 1).val < 2560 := (y 1).isLt
  have h4 := out_of (inb := inb_S1024x2560_S1024x512_0_2048) h4
  have h3 := out_of (inb := inb_S1024x2560_S1024x512_0_1536) h3
  have h2 := out_of (inb := inb_S1024x2560_S1024x512_0_1024) h2
  have h1 := out_of (inb := inb_S1024x2560_S1024x512_0_512) h1
  have h0 := out_of (inb := inb_S1024x2560_S1024x512_0_0) h0
  omega

theorem zero4 (j : S1024x2560.Idx) : k0_pay4 (F := Ideal) j = 0 := by
  pointwise! [k0_pay4]

theorem arr_dw (T : FVec Ideal S1024x2560 .f32)
    (hT : ∀ j k, T (ix2 j k) = ∑ i : Fin 16384, aX m c (ix2 i j) * rX m c i * aG m c (ix2 0 j) * zr m c i k) :
    (dats m 0 c).arrAt 10 (cfgs 0).N = T := by
  refine (dats m 0 c).arrAt_eq_of_covers 10 _ (by decide +kernel) fun t hf y => ?_
  blk_simp
  rw [after0_10, Pipeline.eq_sum_fin_of_reset_step_apply_of_flush (fun n h => (outsAt0 m c n h).2.1) 32 (fun _ => 0)
      (fun t j => ∑ i : Fin 512, aX m c (ix2 (row t i) (j 0)) * rX m c (row t i) * aG m c (ix2 0 (j 0)) * zr m c (row t i) (j 1))
    (fun t h j => by
      rw [outsAt0_A m c t h]; dsimp only; frame_open
      simp (disch := decide) only [↓ View.readCov_skip, ↓ View.readCov_cons_toLoadRect, ↓ View.readCov_fill]
      frame_out
      refine (core m c t _ _ j).trans ?_
      unfold upd
      rw [zero4])
    (fun t h j => by
      rw [outsAt0_B m c t h]; dsimp only; frame_open
      simp (disch := decide) only [↓ View.readCov_skip, ↓ View.readCov_cons_toLoadRect, ↓ View.readCov_fill]
      frame_out
      exact core m c t _ _ j)
    t ((flush0_10 t).mp hf) _, zero_add]
  obtain ⟨a, b, rfl⟩ : ∃ (a : Fin 1024) (b : Fin 2560), y = ix2 a b := ⟨y 0, y 1, (ix2_eta _).symm⟩
  refine (sum_rows (fun i => aX m c (ix2 i a) * rX m c i * aG m c (ix2 0 a) * zr m c i b) t _).trans ?_
  rw [← hT]
  refine congrArg T ?_
  blk_ext [idx t]

end Cert.InProjIdeal.Hand

end
-- ==== Proof.InRef.lean ====
/- The input projection's gradients by plain mathematics, read at an index. -/
module

public import proofs.«01_k».proof.Proof.Gen.InProjRefIdeal.Run
public import proofs.«01_k».proof.Proof.RmsMath

@[expose] public section
set_option maxRecDepth 16384
noncomputable section

namespace Cert.InProjRefIdeal.Hand

open Cert.InProjRefIdeal Cert.InProjRefIdeal.Gen
open Idealize.ShloMosaic Idealize.ShloMosaic.TcCoe
open Cert.Math
open scoped BigOperators

section Stages
variable {F : FTy → Type} [FloatOps F]

/-- The four parts of the incoming gradient side by side. -/
def zCat (a0 : FVec F S16384x1280 .bf16) (a1 : FVec F S16384x640 .bf16) (a2 : FVec F S16384x128 .bf16) (a3 : FVec F S16384x512 .bf16) :
    FVec F S16384x2560 .f32 :=
  concatenate S16384x2560 1 [⟨S16384x1280, extf .f32 a0 bitsLt_bf16_f32⟩, ⟨S16384x640, extf .f32 a1 bitsLt_bf16_f32⟩,
    ⟨S16384x128, extf .f32 a2 bitsLt_bf16_f32⟩, ⟨S16384x512, extf .f32 a3 bitsLt_bf16_f32⟩]
    concatenates_S16384x1280_S16384x640_S16384x128_S16384x512_S16384x2560_d1

/-- The gradient before the projection. -/
def zH (z : FVec F S16384x2560 .f32) (w : FVec F S1024x2560 .bf16) : FVec F S16384x1024 .f32 :=
  Host.dotGeneral dot_S16384x2560_S1024x2560_S16384x1024_1_1_0_0_n_n none z (extf .f32 w bitsLt_bf16_f32)

/-- The gradient before the norm's gain. -/
def zG (dh : FVec F S16384x1024 .f32) (g : FVec F S1x1024 .f32) : FVec F S16384x1024 .f32 :=
  mulf dh (broadcastInDim S16384x1024 ![0, 1] bcast_S1x1024_S16384x1024_0_1 g)

/-- A row's mean square plus the small number. -/
def zMsq (x : FVec F S16384x1024 .f32) : FVec F S16384x1 .f32 :=
  addf (Host.divf (broadcastInDim S16384x1 ![0] bcast_S16384_S16384x1_0 (Host.reduceAdd (mulf x x) (constant S_ .f32 0x00000000#32) reducesTo_S16384x1024_S16384_d1 h_S_))
    (broadcastInDim S16384x1 ![] bcast_S_S16384x1 (constant S_ .f32 0x44800000#32))) (broadcastInDim S16384x1 ![] bcast_S_S16384x1 (constant S_ .f32 0x358637BD#32))

/-- The normed rows. -/
def zX (x : FVec F S16384x1024 .f32) : FVec F S16384x1024 .f32 :=
  mulf x (broadcastInDim S16384x1024 ![0, 1] bcast_S16384x1_S16384x1024_0_1 (Host.rsqrt (zMsq x)))

/-- The weight of a row's own entries. -/
def zC (x dg : FVec F S16384x1024 .f32) : FVec F S16384x1024 .f32 :=
  broadcastInDim S16384x1024 ![0] bcast_S16384_S16384x1024_0 (Host.reduceAdd (Host.divf (mulf
    (shapeCast _ (Host.reduceAdd (mulf x dg) (constant S_ .f32 0x00000000#32) reducesTo_S16384x1024_S16384_d1 h_S_) shapeCasts_S16384_S16384x1)
    (mulf (broadcastInDim S16384x1 ![] bcast_S_S16384x1 (constant S_ .f32 0xBF000000#32)) (Host.divf (Host.rsqrt (zMsq x)) (zMsq x))))
    (broadcastInDim S16384x1 ![] bcast_S_S16384x1 (constant S_ .f32 0x44800000#32))) (constant S_ .f32 0x00000000#32) reducesTo_S16384x1_S16384_d1 h_S_)

/-- The gradient of the norm's input. -/
def zDx (x dg d : FVec F S16384x1024 .f32) : FVec F S16384x1024 .f32 :=
  addf (addf (addf d (mulf dg (broadcastInDim S16384x1024 ![0, 1] bcast_S16384x1_S16384x1024_0_1 (Host.rsqrt (zMsq x))))) (mulf x (zC x dg))) (mulf (zC x dg) x)

/-- The gradient of the projection. -/
def zDw (z : FVec F S16384x2560 .f32) (x : FVec F S16384x1024 .f32) (g : FVec F S1x1024 .f32) : FVec F S1024x2560 .f32 :=
  transpose S1024x2560 [1, 0] (Host.dotGeneral dot_S16384x2560_S16384x1024_S2560x1024_0_0_1_1_n_n none z (zG (zX x) g)) transposes_S2560x1024_S1024x2560_1_0

/-- The gradient of the norm's gain. -/
def zDg (x dh : FVec F S16384x1024 .f32) : FVec F S1x1024 .f32 :=
  shapeCast _ (Host.reduceAdd (mulf (zX x) dh) (constant S_ .f32 0x00000000#32) reducesTo_S16384x1024_S1024_d0 h_S_) shapeCasts_S1024_S1x1024

variable (m : (ℓ : Loc nD τ sig) → Buf (Elt F) ℓ) (c : Dev nD)

/-- The arguments, by what they are. -/
abbrev aZ : FVec F S16384x2560 .f32 :=
  zCat (m ((c.tc : Thread nD τ).loc main_arg0)) (m ((c.tc : Thread nD τ).loc main_arg1)) (m ((c.tc : Thread nD τ).loc main_arg2)) (m ((c.tc : Thread nD τ).loc main_arg3))
abbrev aX : FVec F S16384x1024 .f32 := m ((c.tc : Thread nD τ).loc main_arg4)
abbrev aD : FVec F S16384x1024 .f32 := m ((c.tc : Thread nD τ).loc main_arg5)
abbrev aW : FVec F S1024x2560 .bf16 := m ((c.tc : Thread nD τ).loc main_arg6)
abbrev aG : FVec F S1x1024 .f32 := m ((c.tc : Thread nD τ).loc main_arg7)

theorem res_dx : Value.res_main_v44 m c = zDx (aX m c) (zG (zH (aZ m c) (aW m c)) (aG m c)) (aD m c) := by
  unfold Value.res_main_v44; rfl

end Stages

section At

variable (a0 : FVec Ideal S16384x1280 .bf16) (a1 : FVec Ideal S16384x640 .bf16) (a2 : FVec Ideal S16384x128 .bf16) (a3 : FVec Ideal S16384x512 .bf16)
variable (z : FVec Ideal S16384x2560 .f32) (w : FVec Ideal S1024x2560 .bf16) (x dg dh d : FVec Ideal S16384x1024 .f32) (g : FVec Ideal S1x1024 .f32)

theorem zCat_at (i : Fin 16384) (k : Fin 2560) :
    zCat a0 a1 a2 a3 (ix2 i k) = cat4 (fun k => a0 (ix2 i k)) (fun k => a1 (ix2 i k)) (fun k => a2 (ix2 i k)) (fun k => a3 (ix2 i k)) k := by
  unfold zCat cat4
  pointwise

theorem zH_at (i : Fin 16384) (j : Fin 1024) : zH z w (ix2 i j) = ∑ k : Fin 2560, z (ix2 i k) * w (ix2 j k) := by
  unfold zH
  pointwise

theorem zG_at (i : Fin 16384) (j : Fin 1024) : zG dh g (ix2 i j) = dh (ix2 i j) * g (ix2 0 j) := by
  unfold zG
  pointwise

theorem zMsq_at (i : Fin 16384) : zMsq x (ix2 i 0) = msq fun k : Fin 1024 => x (ix2 i k) := by
  unfold zMsq msq
  pointwise

theorem zX_at (i : Fin 16384) (j : Fin 1024) : zX x (ix2 i j) = x (ix2 i j) * rs fun k : Fin 1024 => x (ix2 i k) := by
  unfold zX
  pointwise
  rw [zMsq_at]; rfl

theorem zC_at (i : Fin 16384) (j : Fin 1024) : zC x dg (ix2 i j) = rcoef (fun k : Fin 1024 => x (ix2 i k)) (fun k : Fin 1024 => dg (ix2 i k)) := by
  unfold zC
  pointwise
  rw [Fin.sum_univ_one, zMsq_at]; rfl

theorem zDx_at (i : Fin 16384) (j : Fin 1024) : zDx x dg d (ix2 i j)
    = rs (fun k : Fin 1024 => x (ix2 i k)) * (dg (ix2 i j) - x (ix2 i j) * rs (fun k : Fin 1024 => x (ix2 i k)) *
        Ideal.div (∑ k : Fin 1024, dg (ix2 i k) * (x (ix2 i k) * rs (fun k : Fin 1024 => x (ix2 i k)))) wN) + d (ix2 i j) := by
  rw [rms_row (fun k : Fin 1024 => x (ix2 i k)) (fun k : Fin 1024 => dg (ix2 i k)) j]
  unfold zDx
  pointwise
  rw [zC_at, zMsq_at]; rfl

theorem zDw_at (j : Fin 1024) (k : Fin 2560) : zDw z x g (ix2 j k)
    = ∑ i : Fin 16384, z (ix2 i k) * (x (ix2 i j) * rs (fun k : Fin 1024 => x (ix2 i k)) * g (ix2 0 j)) := by
  unfold zDw
  pointwise
  simp only [zG_at, zX_at]

theorem zDg_at (j : Fin 1024) : zDg x dh (ix2 0 j)
    = ∑ i : Fin 16384, x (ix2 i j) * rs (fun k : Fin 1024 => x (ix2 i k)) * dh (ix2 i j) := by
  unfold zDg
  pointwise
  simp only [zX_at]

end At

end Cert.InProjRefIdeal.Hand

end
-- ==== Proof.InFinal.lean ====
/- The input projection's backward call and plain mathematics give the same three gradients. -/
module

public import proofs.«01_k».proof.Defs
public import proofs.«01_k».proof.Proof.Gen.InProjIdeal.Value
public import proofs.«01_k».proof.Proof.InDx
public import proofs.«01_k».proof.Proof.InDg
public import proofs.«01_k».proof.Proof.InDw
public import proofs.«01_k».proof.Proof.InRef

@[expose] public section
set_option maxRecDepth 16384
noncomputable section

namespace Cert.Proof

open Idealize.ShloMosaic Idealize.ShloMosaic.TcCoe Idealize.SL.Sem
open scoped BigOperators

/-- The two programs start from the same arguments. -/
def InAgree (m : (ℓ : Loc Cert.InProjIdeal.nD Cert.InProjIdeal.τ Cert.InProjIdeal.sig) → Buf (Elt Ideal) ℓ)
    (m' : (ℓ : Loc Cert.InProjRefIdeal.nD Cert.InProjRefIdeal.τ Cert.InProjRefIdeal.sig) → Buf (Elt Ideal) ℓ) (c : Dev Cert.InProjIdeal.nD) : Prop :=
  m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
  ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
  ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
  ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
  ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)
  ∧ m' ((c.tc : Thread Cert.InProjRefIdeal.nD Cert.InProjRefIdeal.τ).loc Cert.InProjRefIdeal.main_arg5) = m ((c.tc : Thread Cert.InProjIdeal.nD Cert.InProjIdeal.τ).loc Cert.InProjIdeal.main_arg5)
  ∧ m' ((c.tc : Thread Cert.InProjRefIdeal.nD Cert.InProjRefIdeal.τ).loc Cert.InProjRefIdeal.main_arg6) = m ((c.tc : Thread Cert.InProjIdeal.nD Cert.InProjIdeal.τ).loc Cert.InProjIdeal.main_arg6)
  ∧ m' ((c.tc : Thread Cert.InProjRefIdeal.nD Cert.InProjRefIdeal.τ).loc Cert.InProjRefIdeal.main_arg7) = m ((c.tc : Thread Cert.InProjIdeal.nD Cert.InProjIdeal.τ).loc Cert.InProjIdeal.main_arg7)

variable {m : (ℓ : Loc Cert.InProjIdeal.nD Cert.InProjIdeal.τ Cert.InProjIdeal.sig) → Buf (Elt Ideal) ℓ}
    {m' : (ℓ : Loc Cert.InProjRefIdeal.nD Cert.InProjRefIdeal.τ Cert.InProjRefIdeal.sig) → Buf (Elt Ideal) ℓ} {c : Dev Cert.InProjIdeal.nD}

open Cert.InProjRefIdeal.Hand (zCat zH zG zX zC zDx zDw zDg zDx_at zDw_at zDg_at zG_at zH_at zCat_at res_dx)

theorem in_dx (h : InAgree m m' c) : (Cert.InProjIdeal.Gen.dats m 0 c).arrAt 9 Cert.InProjIdeal.cfg0.N = Cert.InProjRefIdeal.Value.res_main_v44 m' c := by
  obtain ⟨e0, e1, e2, e3, e4, e5, e6, e7⟩ := h
  refine Cert.InProjIdeal.Hand.arr_dx m c _ fun i j => ?_
  rw [res_dx]
  refine (zDx_at _ _ _ i j).trans ?_
  simp only [zG_at, zH_at, zCat_at]
  rw [e0, e1, e2, e3, show Cert.InProjRefIdeal.Hand.aX m' c = Cert.InProjIdeal.Hand.aX m c from e4, show Cert.InProjRefIdeal.Hand.aD m' c = Cert.InProjIdeal.Hand.aD m c from e5, show Cert.InProjRefIdeal.Hand.aW m' c = Cert.InProjIdeal.Hand.aW m c from e6, show Cert.InProjRefIdeal.Hand.aG m' c = Cert.InProjIdeal.Hand.aG m c from e7]

theorem in_dw (h : InAgree m m' c) : (Cert.InProjIdeal.Gen.dats m 0 c).arrAt 10 Cert.InProjIdeal.cfg0.N
    = zDw (Cert.InProjRefIdeal.Hand.aZ m' c) (Cert.InProjRefIdeal.Hand.aX m' c) (Cert.InProjRefIdeal.Hand.aG m' c) := by
  obtain ⟨e0, e1, e2, e3, e4, e5, e6, e7⟩ := h
  refine Cert.InProjIdeal.Hand.arr_dw m c _ fun j k => ?_
  refine (zDw_at _ _ _ j k).trans ?_
  simp only [zCat_at]
  rw [e0, e1, e2, e3, show Cert.InProjRefIdeal.Hand.aX m' c = Cert.InProjIdeal.Hand.aX m c from e4, show Cert.InProjRefIdeal.Hand.aG m' c = Cert.InProjIdeal.Hand.aG m c from e7]
  exact Finset.sum_congr rfl fun i _ => mul_comm _ _

theorem in_dg (h : InAgree m m' c) : (Cert.InProjIdeal.Gen.dats m 0 c).arrAt 11 Cert.InProjIdeal.cfg0.N
    = zDg (Cert.InProjRefIdeal.Hand.aX m' c) (zH (Cert.InProjRefIdeal.Hand.aZ m' c) (Cert.InProjRefIdeal.Hand.aW m' c)) := by
  obtain ⟨e0, e1, e2, e3, e4, e5, e6, e7⟩ := h
  refine Cert.InProjIdeal.Hand.arr_dg m c _ fun j => ?_
  refine (zDg_at _ _ j).trans ?_
  simp only [zH_at, zCat_at]
  rw [e0, e1, e2, e3, show Cert.InProjRefIdeal.Hand.aX m' c = Cert.InProjIdeal.Hand.aX m c from e4, show Cert.InProjRefIdeal.Hand.aW m' c = Cert.InProjIdeal.Hand.aW m c from e6]
  exact Finset.sum_congr rfl fun i _ => mul_comm _ _

/-- The kernel's three results are the reference's. -/
theorem algebraic_in : Cert.algebraic_InProjIdeal_InProjRefIdeal := by
  intro m ρ m' ρ' _ hagree
  refine ⟨_, _, _, (θ_run _ _ _).mono (fun r h c => ?_) (Cert.InProjIdeal.Value.run_blocks (F := Ideal) m ρ), Cert.InProjRefIdeal.Value.run (F := Ideal) m' ρ'⟩
  obtain ⟨h0, h1, h2, h⟩ := h c
  exact ⟨h0.trans (in_dx (hagree c)), h1.trans (in_dw (hagree c)), h2.trans (in_dg (hagree c)), h⟩

end Cert.Proof

end
-- ==== Proof.OutPay.lean ====
/- What the output projection's backward body computes of its blocks, read at an index. -/
module

public import proofs.«01_k».proof.Proof.Gen.OutProjIdeal.Frame
public import Idealize.ShloMosaic.Lib.Pipeline.ValueKit
public import proofs.«01_k».proof.Proof.RmsMath

@[expose] public section
set_option maxRecDepth 16384
noncomputable section

namespace Cert.OutProjIdeal.Hand

open Cert.OutProjIdeal Cert.OutProjIdeal.Gen
open Idealize.ShloMosaic Idealize.ShloMosaic.TcCoe
open Cert.Math
open scoped BigOperators

/-- The projected branches, as the host makes them. -/
def hY {F : FTy → Type} [FloatOps F] (a0 a1 : FVec F S16384x512 .bf16) (w : FVec F S1024x1024 .bf16) : FVec F S16384x1024 .f32 :=
  Host.dotGeneral dot_S16384x1024_S1024x1024_S16384x1024_1_0_0_1_n_n none
    (extf .f32 (concatenate S16384x1024 1 [⟨S16384x512, a0⟩, ⟨S16384x512, a1⟩] concatenates_S16384x512_S16384x512_S16384x1024_d1) bitsLt_bf16_f32)
    (extf .f32 w bitsLt_bf16_f32)

theorem V_y {F : FTy → Type} [FloatOps F] (m : (ℓ : Loc nD τ sig) → Buf (Elt F) ℓ) (c : Dev nD) :
    Gen.V m c main_v3 = hY (m ((c : Thread nD τ).loc main_arg1)) (m ((c : Thread nD τ).loc main_arg2)) (m ((c : Thread nD τ).loc main_arg3)) := by
  unfold Gen.V
  simp only [hostOps0, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp
  rfl

variable (v1 v2 : FVec Ideal S512x512 .bf16) (w a : FVec Ideal S1024x1024 .f32) (wb : FVec Ideal S1024x1024 .bf16)
variable (y d : FVec Ideal S512x1024 .f32) (dy : FVec Ideal S512x1024 .bf16) (g s : FVec Ideal S1x1024 .f32)

theorem pay8_at (i : Fin 512) : k0_pay8 (F := Ideal) y (ix2 i 0) = rs (fun k : Fin 1024 => y (ix2 i k)) := by
  unfold k0_pay8 k0_pay7 rs msq
  pointwise

theorem pay9_at (i : Fin 512) (j : Fin 1024) : k0_pay9 (F := Ideal) y (ix2 i j) = y (ix2 i j) * rs (fun k : Fin 1024 => y (ix2 i k)) := by
  unfold k0_pay9 k0_pay7
  pointwise
  rw [pay8_at]

theorem pay11_at (i : Fin 512) (j : Fin 1024) : k0_pay11 (F := Ideal) y g d (ix2 i j)
    = rs (fun k : Fin 1024 => y (ix2 i k)) * (d (ix2 i j) * g (ix2 0 j) - y (ix2 i j) * rs (fun k : Fin 1024 => y (ix2 i k)) *
      Ideal.div (∑ k : Fin 1024, d (ix2 i k) * g (ix2 0 k) * (y (ix2 i k) * rs (fun k : Fin 1024 => y (ix2 i k)))) wN) := by
  unfold k0_pay11
  pointwise
  simp only [pay8_at, pay9_at]

theorem pay16_at (i : Fin 512) (j : Fin 1024) : k0_pay16 (F := Ideal) y g d (ix2 i j)
    = rs (fun k : Fin 1024 => y (ix2 i k)) * (d (ix2 i j) * g (ix2 0 j) - y (ix2 i j) * rs (fun k : Fin 1024 => y (ix2 i k)) *
      Ideal.div (∑ k : Fin 1024, d (ix2 i k) * g (ix2 0 k) * (y (ix2 i k) * rs (fun k : Fin 1024 => y (ix2 i k)))) wN) :=
  pay11_at y d g i j

/-- What a half adds to the gain's gradient. -/
theorem pay10_at (j : Fin 1024) : k0_pay10 (F := Ideal) y d s (ix2 0 j)
    = s (ix2 0 j) + ∑ i : Fin 512, d (ix2 i j) * (y (ix2 i j) * rs (fun k : Fin 1024 => y (ix2 i k))) := by
  unfold k0_pay10
  pointwise
  simp only [pay9_at]
theorem pay15_at (j : Fin 1024) : k0_pay15 (F := Ideal) y d s (ix2 0 j)
    = s (ix2 0 j) + ∑ i : Fin 512, d (ix2 i j) * (y (ix2 i j) * rs (fun k : Fin 1024 => y (ix2 i k))) :=
  pay10_at y d s j

theorem pay2_at (i : Fin 512) (j : Fin 1024) : k0_pay2 (F := Ideal) dy wb (ix2 i j) = ∑ k : Fin 1024, dy (ix2 i k) * wb (ix2 j k) := by
  unfold k0_pay2
  pointwise
theorem pay4_at (i : Fin 512) (j : Fin 1024) : k0_pay4 (F := Ideal) dy wb (ix2 i j) = ∑ k : Fin 1024, dy (ix2 i k) * wb (ix2 j k) :=
  pay2_at wb dy i j

/-- What a half adds to the projection's gradient. -/
theorem pay3_at (j k : Fin 1024) : k0_pay3 (F := Ideal) dy v1 v2 a (ix2 j k)
    = a (ix2 j k) + ∑ i : Fin 512, cat2 (fun k => v1 (ix2 i k)) (fun k => v2 (ix2 i k)) j * dy (ix2 i k) := by
  unfold k0_pay3 cat2
  pointwise
theorem pay1_at (j k : Fin 1024) : k0_pay1 (F := Ideal) (k0_pay17 dy v1 v2) a (ix2 j k)
    = a (ix2 j k) + ∑ i : Fin 512, cat2 (fun k => v1 (ix2 i k)) (fun k => v2 (ix2 i k)) j * dy (ix2 i k) :=
  pay3_at v1 v2 a dy j k

end Cert.OutProjIdeal.Hand

end
-- ==== Proof.OutBase.lean ====
/- The blocks of the output projection's backward call, and its arguments by what they are. -/
module

public import proofs.«01_k».proof.Proof.OutPay

@[expose] public section
set_option maxRecDepth 16384
noncomputable section

namespace Cert.OutProjIdeal.Hand

open Cert.OutProjIdeal Cert.OutProjIdeal.Gen
open Idealize.ShloMosaic Idealize.ShloMosaic.TcCoe
open Cert.Math
open scoped BigOperators

theorem idx : ∀ t : Fin cfg0.N, win0_0.index t = ![t.val, 0]
    ∧ win0_1.index t = ![t.val, 0]
    ∧ win0_2.index t = ![t.val, 0]
    ∧ win0_3.index t = ![t.val, 0]
    ∧ win0_4.index t = ![0, 0]
    ∧ win0_5.index t = ![0, 0]
    ∧ win0_6.index t = ![t.val, 0]
    ∧ win0_7.index t = ![0, 0]
    ∧ win0_8.index t = ![0, 0] :=
  (by decide +kernel : ∀ t : Fin grid0.N, _)

variable (m : (ℓ : Loc nD τ sig) → Buf (Elt Ideal) ℓ) (c : Dev nD)

/-- A row of the two branches. -/
abbrev zr (i : Fin 16384) : Fin 1024 → EReal :=
  cat2 (fun k => (m ((c : Thread nD τ).loc main_arg1) : FVec Ideal S16384x512 .bf16) (ix2 i k)) (fun k => (m ((c : Thread nD τ).loc main_arg2) : FVec Ideal S16384x512 .bf16) (ix2 i k))
abbrev aD : FVec Ideal S16384x1024 .f32 := m ((c : Thread nD τ).loc main_arg0)
abbrev aW : FVec Ideal S1024x1024 .bf16 := m ((c : Thread nD τ).loc main_arg3)
abbrev aG : FVec Ideal S1x1024 .f32 := m ((c : Thread nD τ).loc main_arg4)
/-- The projected branches. -/
abbrev aY : FVec Ideal S16384x1024 .f32 := hY (m ((c : Thread nD τ).loc main_arg1)) (m ((c : Thread nD τ).loc main_arg2)) (m ((c : Thread nD τ).loc main_arg3))
/-- A row's reciprocal root mean square. -/
abbrev rY (i : Fin 16384) : EReal := rs fun k : Fin 1024 => aY m c (ix2 i k)
/-- The gradient of the norm's input. -/
def dY (i : Fin 16384) (j : Fin 1024) : EReal :=
  rY m c i * (aD m c (ix2 i j) * aG m c (ix2 0 j) - aY m c (ix2 i j) * rY m c i *
    Ideal.div (∑ k : Fin 1024, aD m c (ix2 i k) * aG m c (ix2 0 k) * (aY m c (ix2 i k) * rY m c i)) wN)

theorem N_eq : cfg0.N = 16 := by decide

/-- The array row of a block's row. -/
abbrev row (t : Fin cfg0.N) (i : Fin 1024) : Fin 16384 := ⟨1024 * t.val + i.val, by have := lt_of_lt_of_eq t.isLt N_eq; omega⟩

variable (t : Fin cfg0.N)

theorem b0_at (i k : Fin 1024) : (iblk m c 0 t : FVec Ideal S1024x1024 .f32) (ix2 i k) = aD m c (ix2 (row t i) k) := by
  blk_point [iblk, V, idx t]
theorem b1_at (i k : Fin 1024) : (iblk m c 1 t : FVec Ideal S1024x1024 .f32) (ix2 i k) = aY m c (ix2 (row t i) k) := by
  unfold aY
  rw [← V_y]
  blk_ext [iblk, idx t]
theorem b2_at (i : Fin 1024) (k : Fin 512) : (iblk m c 2 t : FVec Ideal S1024x512 .bf16) (ix2 i k)
    = (m ((c : Thread nD τ).loc main_arg1) : FVec Ideal S16384x512 .bf16) (ix2 (row t i) k) := by
  blk_point [iblk, V, idx t]
theorem b3_at (i : Fin 1024) (k : Fin 512) : (iblk m c 3 t : FVec Ideal S1024x512 .bf16) (ix2 i k)
    = (m ((c : Thread nD τ).loc main_arg2) : FVec Ideal S16384x512 .bf16) (ix2 (row t i) k) := by
  blk_point [iblk, V, idx t]
theorem b4_at (i k : Fin 1024) : (iblk m c 4 t : FVec Ideal S1024x1024 .bf16) (ix2 i k) = aW m c (ix2 i k) := by
  blk_point [iblk, V, idx t]
theorem b5_at (k : Fin 1024) : (iblk m c 5 t : FVec Ideal S1x1024 .f32) (ix2 0 k) = aG m c (ix2 0 k) := by
  blk_point [iblk, V, idx t]

end Cert.OutProjIdeal.Hand

end
-- ==== Proof.OutHalf.lean ====
/- What each half of a block gives. -/
module

public import proofs.«01_k».proof.Proof.OutBase

@[expose] public section
set_option maxRecDepth 16384
noncomputable section

namespace Cert.OutProjIdeal.Hand

open Cert.OutProjIdeal Cert.OutProjIdeal.Gen
open Idealize.ShloMosaic Idealize.ShloMosaic.TcCoe
open Cert.Math
open scoped BigOperators

theorem ld_wide (a : FVec Ideal S1024x1024 .f32) (o : ℕ) (ho : o + 512 ≤ 1024) (inb : ∀ x, (![o, 0] : Fin 2 → ℕ) x + (![512, 1024] : Fin 2 → ℕ) x ≤ S1024x1024.size x)
    (i : Fin 512) (k : Fin 1024) :
    View.ld (Val := Elt Ideal) (S := S1024x1024) (e' := .f32) a (Rect.unit (s := S1024x1024) ![o, 0] ![512, 1024] inb) (ix2 i k) = a (ix2 ⟨o + i.val, by omega⟩ k) := by
  show a ((Rect.unit (s := S1024x1024) ![o, 0] ![512, 1024] inb).emb (ix2 i k)) = _
  refine congrArg a (funext fun x => Fin.ext ((Rect.emb_apply ..).trans ?_))
  fin_cases x
  · show o + 1 * i.val = o + i.val; omega
  · show 0 + 1 * k.val = k.val; omega

theorem ld_slim (a : FVec Ideal S1024x512 .bf16) (o : ℕ) (ho : o + 512 ≤ 1024) (inb : ∀ x, (![o, 0] : Fin 2 → ℕ) x + (![512, 512] : Fin 2 → ℕ) x ≤ S1024x512.size x)
    (i : Fin 512) (k : Fin 512) :
    View.ld (Val := Elt Ideal) (S := S1024x512) (e' := .bf16) a (Rect.unit (s := S1024x512) ![o, 0] ![512, 512] inb) (ix2 i k) = a (ix2 ⟨o + i.val, by omega⟩ k) := by
  show a ((Rect.unit (s := S1024x512) ![o, 0] ![512, 512] inb).emb (ix2 i k)) = _
  refine congrArg a (funext fun x => Fin.ext ((Rect.emb_apply ..).trans ?_))
  fin_cases x
  · show o + 1 * i.val = o + i.val; omega
  · show 0 + 1 * k.val = k.val; omega

variable (m : (ℓ : Loc nD τ sig) → Buf (Elt Ideal) ℓ) (c : Dev nD) (t : Fin cfg0.N)

/-- The array row of a half's row. -/
abbrev hrow (o : ℕ) (ho : o + 512 ≤ 1024) (i : Fin 512) : Fin 16384 := row t ⟨o + i.val, by omega⟩

/-- The halves' blocks: the norm's input, the incoming gradient, the branches. -/
abbrev yH (o : ℕ) (inb : ∀ x, (![o, 0] : Fin 2 → ℕ) x + (![512, 1024] : Fin 2 → ℕ) x ≤ S1024x1024.size x) : FVec Ideal S512x1024 .f32 :=
  View.ld (Val := Elt Ideal) (S := S1024x1024) (e' := .f32) (iblk m c 1 t) (Rect.unit (s := S1024x1024) ![o, 0] ![512, 1024] inb)
abbrev dH (o : ℕ) (inb : ∀ x, (![o, 0] : Fin 2 → ℕ) x + (![512, 1024] : Fin 2 → ℕ) x ≤ S1024x1024.size x) : FVec Ideal S512x1024 .f32 :=
  View.ld (Val := Elt Ideal) (S := S1024x1024) (e' := .f32) (iblk m c 0 t) (Rect.unit (s := S1024x1024) ![o, 0] ![512, 1024] inb)
abbrev uH (o : ℕ) (inb : ∀ x, (![o, 0] : Fin 2 → ℕ) x + (![512, 512] : Fin 2 → ℕ) x ≤ S1024x512.size x) : FVec Ideal S512x512 .bf16 :=
  View.ld (Val := Elt Ideal) (S := S1024x512) (e' := .bf16) (iblk m c 2 t) (Rect.unit (s := S1024x512) ![o, 0] ![512, 512] inb)
abbrev vH (o : ℕ) (inb : ∀ x, (![o, 0] : Fin 2 → ℕ) x + (![512, 512] : Fin 2 → ℕ) x ≤ S1024x512.size x) : FVec Ideal S512x512 .bf16 :=
  View.ld (Val := Elt Ideal) (S := S1024x512) (e' := .bf16) (iblk m c 3 t) (Rect.unit (s := S1024x512) ![o, 0] ![512, 512] inb)

section Half
variable (o : ℕ) (ho : o + 512 ≤ 1024) (inb : ∀ x, (![o, 0] : Fin 2 → ℕ) x + (![512, 1024] : Fin 2 → ℕ) x ≤ S1024x1024.size x)
  (inb' : ∀ x, (![o, 0] : Fin 2 → ℕ) x + (![512, 512] : Fin 2 → ℕ) x ≤ S1024x512.size x)

theorem yH_at (i : Fin 512) (k : Fin 1024) : yH m c t o inb (ix2 i k) = aY m c (ix2 (hrow t o ho i) k) :=
  (ld_wide _ o ho inb i k).trans (b1_at m c t _ k)
theorem dH_at (i : Fin 512) (k : Fin 1024) : dH m c t o inb (ix2 i k) = aD m c (ix2 (hrow t o ho i) k) :=
  (ld_wide _ o ho inb i k).trans (b0_at m c t _ k)
theorem uH_at (i : Fin 512) (k : Fin 512) : uH m c t o inb' (ix2 i k)
    = (m ((c : Thread nD τ).loc main_arg1) : FVec Ideal S16384x512 .bf16) (ix2 (hrow t o ho i) k) :=
  (ld_slim _ o ho inb' i k).trans (b2_at m c t _ k)
theorem vH_at (i : Fin 512) (k : Fin 512) : vH m c t o inb' (ix2 i k)
    = (m ((c : Thread nD τ).loc main_arg2) : FVec Ideal S16384x512 .bf16) (ix2 (hrow t o ho i) k) :=
  (ld_slim _ o ho inb' i k).trans (b3_at m c t _ k)

include ho in
theorem dy_half (i : Fin 512) (j : Fin 1024) : k0_pay11 (F := Ideal) (yH m c t o inb) (iblk m c 5 t) (dH m c t o inb) (ix2 i j) = dY m c (hrow t o ho i) j := by
  refine (pay11_at _ _ _ i j).trans ?_
  simp only [yH_at m c t o ho inb, dH_at m c t o ho inb, b5_at]
  rfl

theorem dg_half (s : FVec Ideal S1x1024 .f32) (j : Fin 1024) : k0_pay10 (F := Ideal) (yH m c t o inb) (dH m c t o inb) s (ix2 0 j)
    = s (ix2 0 j) + ∑ i : Fin 512, aD m c (ix2 (hrow t o ho i) j) * (aY m c (ix2 (hrow t o ho i) j) * rY m c (hrow t o ho i)) := by
  refine (pay10_at _ _ s j).trans ?_
  simp only [yH_at m c t o ho inb, dH_at m c t o ho inb]

theorem dw_half (a : FVec Ideal S1024x1024 .f32) (j k : Fin 1024) :
    k0_pay3 (F := Ideal) (k0_pay11 (yH m c t o inb) (iblk m c 5 t) (dH m c t o inb)) (uH m c t o inb') (vH m c t o inb') a (ix2 j k)
    = a (ix2 j k) + ∑ i : Fin 512, zr m c (hrow t o ho i) j * dY m c (hrow t o ho i) k := by
  refine (pay3_at _ _ a _ j k).trans ?_
  simp only [dy_half m c t o ho inb, uH_at m c t o ho inb', vH_at m c t o ho inb']

theorem dz_half (i : Fin 512) (j : Fin 1024) :
    k0_pay2 (F := Ideal) (k0_pay11 (yH m c t o inb) (iblk m c 5 t) (dH m c t o inb)) (iblk m c 4 t) (ix2 i j)
    = ∑ k : Fin 1024, dY m c (hrow t o ho i) k * aW m c (ix2 j k) := by
  refine (pay2_at _ _ i j).trans ?_
  simp only [dy_half m c t o ho inb, b4_at]

end Half

/-- Both halves are the block. -/
theorem sum_halves (f : Fin 16384 → EReal) :
    (∑ i : Fin 512, f (hrow t 0 (by omega) i)) + ∑ i : Fin 512, f (hrow t 512 (by omega) i) = ∑ i : Fin 1024, f (row t i) := by
  refine Eq.trans (congrArg₂ (· + ·) (Finset.sum_congr rfl fun i _ => ?_) (Finset.sum_congr rfl fun i _ => ?_))
    (Fin.sum_univ_add (a := 512) (b := 512) fun i : Fin 1024 => f (row t i)).symm
  · exact congrArg (fun i => f (row t i)) (Fin.ext (Nat.zero_add _))
  · exact congrArg (fun i => f (row t i)) (Fin.ext rfl)

/-- A sum over all rows, point by point. -/
theorem sum_rows (f : Fin 16384 → EReal) (t : Fin cfg0.N) (h : ∀ s : Fin 16, 16 * (t.val / 16) + s.val < cfg0.N) :
    ∑ s : Fin 16, ∑ i : Fin 1024, f (row ⟨16 * (t.val / 16) + s.val, h s⟩ i) = ∑ i : Fin 16384, f i := by
  have ht := lt_of_lt_of_eq t.isLt N_eq
  refine Fin.sum_mul_add_congr (fun s k hl => congrArg f (Fin.ext ?_))
  show 1024 * (16 * (t.val / 16) + s.val) + k.val = _
  simp only []
  omega

theorem cell (y : S1024x1024.Idx) : ∃ (a b : Fin 1024), y = ix2 a b := ⟨y 0, y 1, (ix2_eta _).symm⟩
theorem part_cell (y : S512x1024.Idx) : ∃ (a : Fin 512) (b : Fin 1024), y = ix2 a b := ⟨y 0, y 1, (ix2_eta _).symm⟩
theorem line (y : S1x1024.Idx) : ∃ b : Fin 1024, y = ix2 0 b :=
  ⟨y 1, by rw [← ix2_eta y]; exact congrArg (fun a => ix2 a (y 1)) (Subsingleton.elim (α := Fin 1) (y 0) 0)⟩

end Cert.OutProjIdeal.Hand

end
-- ==== Proof.OutDz.lean ====
/- The gradient of the branches, as the call leaves it. -/
module

public import Idealize.ShloMosaic.Lib.Pipeline.ReadBack
public import proofs.«01_k».proof.Proof.OutHalf

@[expose] public section
set_option maxRecDepth 16384
noncomputable section

namespace Cert.OutProjIdeal.Hand

open Cert.OutProjIdeal Cert.OutProjIdeal.Gen
open Idealize.ShloMosaic Idealize.ShloMosaic.TcCoe
open Cert.Math
open scoped BigOperators

variable (m : (ℓ : Loc nD τ sig) → Buf (Elt Ideal) ℓ) (c : Dev nD)

/-- A written piece, and what it is written over, both part of one array. -/
theorem canon_step {S : Shape} {e : EltTy} {p : View.Piece (Elt Ideal) S e} {L : List (View.Piece (Elt Ideal) S e)} {G : S.Idx → Elt Ideal e} {y : S.Idx}
    (hp : ∀ x, p.2 x = G (p.1.emb x)) (hL : y ∉ p.1.set → View.canon L y = G y) : View.canon (p :: L) y = G y := by
  by_cases hm : y ∈ p.1.set
  · obtain ⟨x, rfl⟩ := p.1.exists_idx_of_mem hm
    rw [show p.1.idx x = p.1.emb x from rfl, View.canon_cons_emb]
    exact hp x
  · rw [View.canon_cons_of_not_mem _ _ hm]
    exact hL hm

/-- What a point writes. -/
def blk (t : Fin cfg0.N) : FVec Ideal S1024x1024 .f32 := fun y => ∑ k : Fin 1024, dY m c (row t (y 0)) k * aW m c (ix2 (y 1) k)

theorem piece (t : Fin cfg0.N) (o : ℕ) (ho : o + 512 ≤ 1024) (inb : ∀ x, (![o, 0] : Fin 2 → ℕ) x + (![512, 1024] : Fin 2 → ℕ) x ≤ S1024x1024.size x)
    (w : FVec Ideal S512x1024 .f32) (hw : ∀ i j, w (ix2 i j) = ∑ k : Fin 1024, dY m c (hrow t o ho i) k * aW m c (ix2 j k))
    (x : S512x1024.Idx) : w x = blk m c t ((Rect.unit (s := S1024x1024) ![o, 0] ![512, 1024] inb).emb x) := by
  obtain ⟨i, j, rfl⟩ := part_cell x
  have e0 : ((Rect.unit (s := S1024x1024) ![o, 0] ![512, 1024] inb).emb (ix2 i j)) 0 = (⟨o + i.val, by omega⟩ : Fin 1024) := Fin.ext (by rw [Rect.emb_apply]; show o + 1 * i.val = _; simp only []; omega)
  have e1 : ((Rect.unit (s := S1024x1024) ![o, 0] ![512, 1024] inb).emb (ix2 i j)) 1 = j := Fin.ext (by rw [Rect.emb_apply]; show 0 + 1 * j.val = _; omega)
  rw [hw]
  unfold blk
  rw [e0, e1]

theorem out_of {o : ℕ} {inb : ∀ x, (![o, 0] : Fin 2 → ℕ) x + (![512, 1024] : Fin 2 → ℕ) x ≤ S1024x1024.size x} {y : S1024x1024.Idx}
    (h : y ∉ (Rect.unit (s := S1024x1024) ![o, 0] ![512, 1024] inb).set) : ¬ (o ≤ (y 0).val ∧ (y 0).val < o + 512) := fun hh =>
  h (Rect.mem_set_unit.mpr fun a => by
    have h0 : (y 1).val < 1024 := (y 1).isLt
    fin_cases a
    · exact hh
    · exact ⟨Nat.zero_le _, show (y 1).val < 0 + 1024 by omega⟩)

theorem core (t : Fin cfg0.N) (y : S1024x1024.Idx) :
    View.canon (Val := Elt Ideal) (s := S1024x1024) (e := .f32)
      [⟨Rect.unit ![512, 0] ![512, 1024] inb_S1024x1024_S512x1024_512_0,
          k0_pay4 (F := Ideal) (k0_pay16 (yH m c t 512 inb_S1024x1024_S512x1024_512_0) (iblk m c 5 t) (dH m c t 512 inb_S1024x1024_S512x1024_512_0)) (iblk m c 4 t)⟩,
        ⟨Rect.unit ![0, 0] ![512, 1024] inb_S1024x1024_S512x1024_0_0,
          k0_pay2 (F := Ideal) (k0_pay11 (yH m c t 0 inb_S1024x1024_S512x1024_0_0) (iblk m c 5 t) (dH m c t 0 inb_S1024x1024_S512x1024_0_0)) (iblk m c 4 t)⟩]
      y = blk m c t y := by
  refine canon_step (piece m c t 512 (by omega) inb_S1024x1024_S512x1024_512_0 _ fun i j => dz_half m c t 512 (by omega) inb_S1024x1024_S512x1024_512_0 i j) fun h1 => ?_
  refine canon_step (piece m c t 0 (by omega) inb_S1024x1024_S512x1024_0_0 _ fun i j => dz_half m c t 0 (by omega) inb_S1024x1024_S512x1024_0_0 i j) fun h0 => ?_
  have hy : (y 0).val < 1024 := (y 0).isLt
  have h1 := out_of (inb := inb_S1024x1024_S512x1024_512_0) h1
  have h0 := out_of (inb := inb_S1024x1024_S512x1024_0_0) h0
  omega

theorem arr_dz (T : FVec Ideal S16384x1024 .f32)
    (hT : ∀ i j, T (ix2 i j) = ∑ k : Fin 1024, dY m c i k * aW m c (ix2 j k)) :
    (dats m 0 c).arrAt 6 (cfgs 0).N = T := by
  refine (dats m 0 c).arrAt_eq_of_covers 6 _ (by decide +kernel) fun t hf y => ?_
  blk_simp
  rw [after0_6]
  have e : (outsAt0 m c t.val t.isLt).1 y = blk m c t y := by
    by_cases h : t.val % 16 = 0
    · rw [outsAt0_A m c t h]; dsimp only; frame_open
      simp (disch := decide) only [↓ View.readCov_skip, ↓ View.readCov_cons_toLoadRect, ↓ View.readCov_fill]
      frame_out
      exact core m c t y
    · rw [outsAt0_B m c t h]; dsimp only; frame_open
      simp (disch := decide) only [↓ View.readCov_skip, ↓ View.readCov_cons_toLoadRect, ↓ View.readCov_fill]
      frame_out
      exact core m c t y
  refine e.trans ?_
  obtain ⟨a, b, rfl⟩ := cell y
  refine (hT (row t a) b).symm.trans (congrArg T ?_)
  blk_ext [idx t]

end Cert.OutProjIdeal.Hand

end
-- ==== Proof.OutDg.lean ====
/- The gradient of the norm's gain, as the call leaves it. -/
module

public import Idealize.ShloMosaic.Lib.Pipeline.ReadBack
public import proofs.«01_k».proof.Proof.OutHalf

@[expose] public section
set_option maxRecDepth 16384
noncomputable section

namespace Cert.OutProjIdeal.Hand

open Cert.OutProjIdeal Cert.OutProjIdeal.Gen
open Idealize.ShloMosaic Idealize.ShloMosaic.TcCoe
open Cert.Math
open scoped BigOperators

variable (m : (ℓ : Loc nD τ sig) → Buf (Elt Ideal) ℓ) (c : Dev nD)

/-- What a point adds. -/
theorem part (t : Fin cfg0.N) (s : FVec Ideal S1x1024 .f32) (j : S1x1024.Idx) :
    k0_pay15 (F := Ideal) (yH m c t 512 inb_S1024x1024_S512x1024_512_0) (dH m c t 512 inb_S1024x1024_S512x1024_512_0)
      (k0_pay10 (F := Ideal) (yH m c t 0 inb_S1024x1024_S512x1024_0_0) (dH m c t 0 inb_S1024x1024_S512x1024_0_0) s) j
      = s j + ∑ i : Fin 1024, aD m c (ix2 (row t i) (j 1)) * (aY m c (ix2 (row t i) (j 1)) * rY m c (row t i)) := by
  obtain ⟨b, rfl⟩ := line j
  refine (dg_half m c t 512 (by omega) inb_S1024x1024_S512x1024_512_0 _ b).trans ?_
  rw [dg_half m c t 0 (by omega) inb_S1024x1024_S512x1024_0_0 s b, add_assoc]
  exact congrArg (s (ix2 0 b) + ·) (sum_halves t fun i => aD m c (ix2 i b) * (aY m c (ix2 i b) * rY m c i))

theorem zero6 (j : S1x1024.Idx) : k0_pay6 (F := Ideal) j = 0 := by
  pointwise! [k0_pay6]

theorem arr_dg (T : FVec Ideal S1x1024 .f32)
    (hT : ∀ j, T (ix2 0 j) = ∑ i : Fin 16384, aD m c (ix2 i j) * (aY m c (ix2 i j) * rY m c i)) :
    (dats m 0 c).arrAt 8 (cfgs 0).N = T := by
  refine (dats m 0 c).arrAt_eq_of_covers 8 _ (by decide +kernel) fun t hf y => ?_
  blk_simp
  rw [after0_8, Pipeline.eq_sum_fin_of_reset_step_apply_of_flush (fun n h => (outsAt0 m c n h).2.2) 16 (fun _ => 0)
      (fun t j => ∑ i : Fin 1024, aD m c (ix2 (row t i) (j 1)) * (aY m c (ix2 (row t i) (j 1)) * rY m c (row t i)))
    (fun t h j => by
      rw [outsAt0_A m c t h]; dsimp only; frame_open
      simp (disch := decide) only [↓ View.readCov_skip, ↓ View.readCov_cons_toLoadRect, ↓ View.readCov_fill]
      frame_out
      exact (part m c t _ j).trans (congrArg (· + _) (zero6 _)))
    (fun t h j => by
      rw [outsAt0_B m c t h]; dsimp only; frame_open
      simp (disch := decide) only [↓ View.readCov_skip, ↓ View.readCov_cons_toLoadRect, ↓ View.readCov_fill]
      frame_out
      exact part m c t _ j)
    t ((flush0_8 t).mp hf) _, zero_add]
  obtain ⟨b, rfl⟩ := line y
  refine (sum_rows (fun i => aD m c (ix2 i b) * (aY m c (ix2 i b) * rY m c i)) t _).trans ?_
  rw [← hT]
  refine congrArg T ?_
  blk_ext [idx t]

end Cert.OutProjIdeal.Hand

end
-- ==== Proof.OutDw.lean ====
/- The gradient of the projection, as the call leaves it. -/
module

public import Idealize.ShloMosaic.Lib.Pipeline.ReadBack
public import proofs.«01_k».proof.Proof.OutHalf

@[expose] public section
set_option maxRecDepth 16384
noncomputable section

namespace Cert.OutProjIdeal.Hand

open Cert.OutProjIdeal Cert.OutProjIdeal.Gen
open Idealize.ShloMosaic Idealize.ShloMosaic.TcCoe
open Cert.Math
open scoped BigOperators

variable (m : (ℓ : Loc nD τ sig) → Buf (Elt Ideal) ℓ) (c : Dev nD)

/-- What a point adds. -/
theorem part_dw (t : Fin cfg0.N) (a : FVec Ideal S1024x1024 .f32) (j : S1024x1024.Idx) :
    k0_pay3 (F := Ideal) (k0_pay16 (yH m c t 512 inb_S1024x1024_S512x1024_512_0) (iblk m c 5 t) (dH m c t 512 inb_S1024x1024_S512x1024_512_0))
      (uH m c t 512 inb_S1024x512_S512x512_512_0) (vH m c t 512 inb_S1024x512_S512x512_512_0)
      (k0_pay1 (k0_pay17 (k0_pay11 (yH m c t 0 inb_S1024x1024_S512x1024_0_0) (iblk m c 5 t) (dH m c t 0 inb_S1024x1024_S512x1024_0_0))
        (uH m c t 0 inb_S1024x512_S512x512_0_0) (vH m c t 0 inb_S1024x512_S512x512_0_0)) a) j
      = a j + ∑ i : Fin 1024, zr m c (row t i) (j 0) * dY m c (row t i) (j 1) := by
  obtain ⟨p, q, rfl⟩ := cell j
  refine (dw_half m c t 512 (by omega) inb_S1024x1024_S512x1024_512_0 inb_S1024x512_S512x512_512_0 _ p q).trans ?_
  refine (congrArg (· + _) (dw_half m c t 0 (by omega) inb_S1024x1024_S512x1024_0_0 inb_S1024x512_S512x512_0_0 a p q)).trans ?_
  rw [add_assoc]
  exact congrArg (a (ix2 p q) + ·) (sum_halves t fun i => zr m c i p * dY m c i q)

theorem zero5 (j : S1024x1024.Idx) : k0_pay5 (F := Ideal) j = 0 := by
  pointwise! [k0_pay5]

theorem arr_dw (T : FVec Ideal S1024x1024 .f32)
    (hT : ∀ j k, T (ix2 j k) = ∑ i : Fin 16384, zr m c i j * dY m c i k) :
    (dats m 0 c).arrAt 7 (cfgs 0).N = T := by
  refine (dats m 0 c).arrAt_eq_of_covers 7 _ (by decide +kernel) fun t hf y => ?_
  blk_simp
  rw [after0_7, Pipeline.eq_sum_fin_of_reset_step_apply_of_flush (fun n h => (outsAt0 m c n h).2.1) 16 (fun _ => 0)
      (fun t j => ∑ i : Fin 1024, zr m c (row t i) (j 0) * dY m c (row t i) (j 1))
    (fun t h j => by
      rw [outsAt0_A m c t h]; dsimp only; frame_open
      simp (disch := decide) only [↓ View.readCov_skip, ↓ View.readCov_cons_toLoadRect, ↓ View.readCov_fill]
      frame_out
      exact (part_dw m c t _ j).trans (congrArg (· + _) (zero5 _)))
    (fun t h j => by
      rw [outsAt0_B m c t h]; dsimp only; frame_open
      simp (disch := decide) only [↓ View.readCov_skip, ↓ View.readCov_cons_toLoadRect, ↓ View.readCov_fill]
      frame_out
      exact part_dw m c t _ j)
    t ((flush0_7 t).mp hf) _, zero_add]
  obtain ⟨a, b, rfl⟩ := cell y
  refine (sum_rows (fun i => zr m c i a * dY m c i b) t _).trans ?_
  rw [← hT]
  refine congrArg T ?_
  blk_ext [idx t]

end Cert.OutProjIdeal.Hand

end
-- ==== Proof.OutRef.lean ====
/- The output projection's gradients by plain mathematics, read at an index. -/
module

public import proofs.«01_k».proof.Proof.Gen.OutProjRefIdeal.Run
public import proofs.«01_k».proof.Proof.RmsMath

@[expose] public section
set_option maxRecDepth 16384
noncomputable section

namespace Cert.OutProjRefIdeal.Hand

open Cert.OutProjRefIdeal Cert.OutProjRefIdeal.Gen
open Idealize.ShloMosaic Idealize.ShloMosaic.TcCoe
open Cert.Math
open scoped BigOperators

section Stages
variable {F : FTy → Type} [FloatOps F]

/-- The two branches side by side. -/
def zCat (a0 a1 : FVec F S16384x512 .bf16) : FVec F S16384x1024 .f32 :=
  extf .f32 (concatenate S16384x1024 1 [⟨S16384x512, a0⟩, ⟨S16384x512, a1⟩] concatenates_S16384x512_S16384x512_S16384x1024_d1) bitsLt_bf16_f32

/-- Their projection. -/
def zY (z : FVec F S16384x1024 .f32) (w : FVec F S1024x1024 .bf16) : FVec F S16384x1024 .f32 :=
  Host.dotGeneral dot_S16384x1024_S1024x1024_S16384x1024_1_0_0_1_n_n none z (extf .f32 w bitsLt_bf16_f32)

/-- The gradient before the norm's gain. -/
def zG (dh : FVec F S16384x1024 .f32) (g : FVec F S1x1024 .f32) : FVec F S16384x1024 .f32 :=
  mulf dh (broadcastInDim S16384x1024 ![0, 1] bcast_S1x1024_S16384x1024_0_1 g)

/-- A row's mean square plus the small number. -/
def zMsq (x : FVec F S16384x1024 .f32) : FVec F S16384x1 .f32 :=
  addf (Host.divf (broadcastInDim S16384x1 ![0] bcast_S16384_S16384x1_0 (Host.reduceAdd (mulf x x) (constant S_ .f32 0x00000000#32) reducesTo_S16384x1024_S16384_d1 h_S_))
    (broadcastInDim S16384x1 ![] bcast_S_S16384x1 (constant S_ .f32 0x44800000#32))) (broadcastInDim S16384x1 ![] bcast_S_S16384x1 (constant S_ .f32 0x358637BD#32))

/-- The normed rows. -/
def zX (x : FVec F S16384x1024 .f32) : FVec F S16384x1024 .f32 :=
  mulf x (broadcastInDim S16384x1024 ![0, 1] bcast_S16384x1_S16384x1024_0_1 (Host.rsqrt (zMsq x)))

/-- The weight of a row's own entries. -/
def zC (x dg : FVec F S16384x1024 .f32) : FVec F S16384x1024 .f32 :=
  broadcastInDim S16384x1024 ![0] bcast_S16384_S16384x1024_0 (Host.reduceAdd (Host.divf (mulf
    (shapeCast _ (Host.reduceAdd (mulf x dg) (constant S_ .f32 0x00000000#32) reducesTo_S16384x1024_S16384_d1 h_S_) shapeCasts_S16384_S16384x1)
    (mulf (broadcastInDim S16384x1 ![] bcast_S_S16384x1 (constant S_ .f32 0xBF000000#32)) (Host.divf (Host.rsqrt (zMsq x)) (zMsq x))))
    (broadcastInDim S16384x1 ![] bcast_S_S16384x1 (constant S_ .f32 0x44800000#32))) (constant S_ .f32 0x00000000#32) reducesTo_S16384x1_S16384_d1 h_S_)

/-- The gradient of the norm's input. -/
def zDx (x dg : FVec F S16384x1024 .f32) : FVec F S16384x1024 .f32 :=
  addf (addf (mulf dg (broadcastInDim S16384x1024 ![0, 1] bcast_S16384x1_S16384x1024_0_1 (Host.rsqrt (zMsq x)))) (mulf x (zC x dg))) (mulf (zC x dg) x)

/-- The gradient of the branches. -/
def zDz (dy : FVec F S16384x1024 .f32) (w : FVec F S1024x1024 .bf16) : FVec F S16384x1024 .f32 :=
  Host.dotGeneral dot_S16384x1024_S1024x1024_S16384x1024_1_1_0_0_n_n none dy (extf .f32 w bitsLt_bf16_f32)

/-- The gradient of the projection. -/
def zDw (z dy : FVec F S16384x1024 .f32) : FVec F S1024x1024 .f32 :=
  transpose S1024x1024 [1, 0] (Host.dotGeneral dot_S16384x1024_S16384x1024_S1024x1024_0_0_1_1_n_n none dy z) transposes_S1024x1024_S1024x1024_1_0

/-- The gradient of the norm's gain. -/
def zDg (x dh : FVec F S16384x1024 .f32) : FVec F S1x1024 .f32 :=
  shapeCast _ (Host.reduceAdd (mulf (zX x) dh) (constant S_ .f32 0x00000000#32) reducesTo_S16384x1024_S1024_d0 h_S_) shapeCasts_S1024_S1x1024

variable (m : (ℓ : Loc nD τ sig) → Buf (Elt F) ℓ) (c : Dev nD)

/-- The arguments, by what they are. -/
abbrev aZ : FVec F S16384x1024 .f32 := zCat (m ((c.tc : Thread nD τ).loc main_arg1)) (m ((c.tc : Thread nD τ).loc main_arg2))
abbrev aD : FVec F S16384x1024 .f32 := m ((c.tc : Thread nD τ).loc main_arg0)
abbrev aW : FVec F S1024x1024 .bf16 := m ((c.tc : Thread nD τ).loc main_arg3)
abbrev aG : FVec F S1x1024 .f32 := m ((c.tc : Thread nD τ).loc main_arg4)
abbrev aY : FVec F S16384x1024 .f32 := zY (aZ m c) (aW m c)

theorem res_dz : Value.res_main_v40 m c = zDz (zDx (aY m c) (zG (aD m c) (aG m c))) (aW m c) := by
  unfold Value.res_main_v40; rfl
theorem res_dw : Value.res_main_v39 m c = zDw (aZ m c) (zDx (aY m c) (zG (aD m c) (aG m c))) := by
  unfold Value.res_main_v39; rfl

end Stages

section At

variable (a0 a1 : FVec Ideal S16384x512 .bf16)
variable (z x dg dh dy d : FVec Ideal S16384x1024 .f32) (w : FVec Ideal S1024x1024 .bf16) (g : FVec Ideal S1x1024 .f32)

theorem zCat_at (i : Fin 16384) (k : Fin 1024) :
    zCat a0 a1 (ix2 i k) = cat2 (fun k => a0 (ix2 i k)) (fun k => a1 (ix2 i k)) k := by
  unfold zCat cat2
  pointwise

theorem zY_at (i : Fin 16384) (j : Fin 1024) : zY z w (ix2 i j) = ∑ k : Fin 1024, z (ix2 i k) * w (ix2 k j) := by
  unfold zY
  pointwise

theorem zG_at (i : Fin 16384) (j : Fin 1024) : zG dh g (ix2 i j) = dh (ix2 i j) * g (ix2 0 j) := by
  unfold zG
  pointwise

theorem zMsq_at (i : Fin 16384) : zMsq x (ix2 i 0) = msq fun k : Fin 1024 => x (ix2 i k) := by
  unfold zMsq msq
  pointwise

theorem zX_at (i : Fin 16384) (j : Fin 1024) : zX x (ix2 i j) = x (ix2 i j) * rs fun k : Fin 1024 => x (ix2 i k) := by
  unfold zX
  pointwise
  rw [zMsq_at]; rfl

theorem zC_at (i : Fin 16384) (j : Fin 1024) : zC x dg (ix2 i j) = rcoef (fun k : Fin 1024 => x (ix2 i k)) (fun k : Fin 1024 => dg (ix2 i k)) := by
  unfold zC
  pointwise
  rw [Fin.sum_univ_one, zMsq_at]; rfl

theorem zDx_at (i : Fin 16384) (j : Fin 1024) : zDx x dg (ix2 i j)
    = rs (fun k : Fin 1024 => x (ix2 i k)) * (dg (ix2 i j) - x (ix2 i j) * rs (fun k : Fin 1024 => x (ix2 i k)) *
        Ideal.div (∑ k : Fin 1024, dg (ix2 i k) * (x (ix2 i k) * rs (fun k : Fin 1024 => x (ix2 i k)))) wN) := by
  have h := rms_row (fun k : Fin 1024 => x (ix2 i k)) (fun k : Fin 1024 => dg (ix2 i k)) j 0
  rw [add_zero, zero_add] at h
  rw [h]
  unfold zDx
  pointwise
  rw [zC_at, zMsq_at]; rfl

theorem zDz_at (i : Fin 16384) (j : Fin 1024) : zDz dy w (ix2 i j) = ∑ k : Fin 1024, dy (ix2 i k) * w (ix2 j k) := by
  unfold zDz
  pointwise

theorem zDw_at (j k : Fin 1024) : zDw z dy (ix2 j k) = ∑ i : Fin 16384, dy (ix2 i k) * z (ix2 i j) := by
  unfold zDw
  pointwise

theorem zDg_at (j : Fin 1024) : zDg x dh (ix2 0 j)
    = ∑ i : Fin 16384, x (ix2 i j) * rs (fun k : Fin 1024 => x (ix2 i k)) * dh (ix2 i j) := by
  unfold zDg
  pointwise
  simp only [zX_at]

end At

end Cert.OutProjRefIdeal.Hand

end
-- ==== Proof.OutFinal.lean ====
/- The output projection's backward call and plain mathematics give the same three gradients. -/
module

public import proofs.«01_k».proof.Defs
public import proofs.«01_k».proof.Proof.Gen.OutProjIdeal.Value
public import proofs.«01_k».proof.Proof.OutDz
public import proofs.«01_k».proof.Proof.OutDg
public import proofs.«01_k».proof.Proof.OutDw
public import proofs.«01_k».proof.Proof.OutRef

@[expose] public section
set_option maxRecDepth 16384
noncomputable section

namespace Cert.Proof

open Idealize.ShloMosaic Idealize.ShloMosaic.TcCoe Idealize.SL.Sem
open scoped BigOperators

/-- The two programs start from the same arguments. -/
def OutAgree (m : (ℓ : Loc Cert.OutProjIdeal.nD Cert.OutProjIdeal.τ Cert.OutProjIdeal.sig) → Buf (Elt Ideal) ℓ)
    (m' : (ℓ : Loc Cert.OutProjRefIdeal.nD Cert.OutProjRefIdeal.τ Cert.OutProjRefIdeal.sig) → Buf (Elt Ideal) ℓ) (c : Dev Cert.OutProjIdeal.nD) : Prop :=
  m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
  ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
  ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
  ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
  ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)

variable {m : (ℓ : Loc Cert.OutProjIdeal.nD Cert.OutProjIdeal.τ Cert.OutProjIdeal.sig) → Buf (Elt Ideal) ℓ}
    {m' : (ℓ : Loc Cert.OutProjRefIdeal.nD Cert.OutProjRefIdeal.τ Cert.OutProjRefIdeal.sig) → Buf (Elt Ideal) ℓ} {c : Dev Cert.OutProjIdeal.nD}

open Cert.OutProjRefIdeal.Hand (zCat zY zG zX zC zDx zDz zDw zDg zDx_at zDz_at zDw_at zDg_at zG_at zCat_at res_dz res_dw)

/-- The norm's input, made alike. -/
theorem out_y (h : OutAgree m m' c) : Cert.OutProjRefIdeal.Hand.aY m' c = Cert.OutProjIdeal.Hand.aY m c := by
  obtain ⟨e0, e1, e2, e3, e4⟩ := h
  show zY (zCat _ _) _ = _
  rw [e1, e2, show Cert.OutProjRefIdeal.Hand.aW m' c = Cert.OutProjIdeal.Hand.aW m c from e3]
  rfl

theorem out_dy (h : OutAgree m m' c) (i : Fin 16384) (j : Fin 1024) :
    zDx (Cert.OutProjRefIdeal.Hand.aY m' c) (zG (Cert.OutProjRefIdeal.Hand.aD m' c) (Cert.OutProjRefIdeal.Hand.aG m' c)) (ix2 i j)
      = Cert.OutProjIdeal.Hand.dY m c i j := by
  have fY := out_y h
  obtain ⟨e0, e1, e2, e3, e4⟩ := h
  refine (zDx_at _ _ i j).trans ?_
  simp only [zG_at]
  rw [fY, show Cert.OutProjRefIdeal.Hand.aD m' c = Cert.OutProjIdeal.Hand.aD m c from e0, show Cert.OutProjRefIdeal.Hand.aG m' c = Cert.OutProjIdeal.Hand.aG m c from e4]
  rfl

theorem out_dz (h : OutAgree m m' c) : (Cert.OutProjIdeal.Gen.dats m 0 c).arrAt 6 Cert.OutProjIdeal.cfg0.N = Cert.OutProjRefIdeal.Value.res_main_v40 m' c := by
  have d := out_dy h
  obtain ⟨e0, e1, e2, e3, e4⟩ := h
  refine Cert.OutProjIdeal.Hand.arr_dz m c _ fun i j => ?_
  rw [res_dz]
  refine (zDz_at _ _ i j).trans ?_
  simp only [d]
  rw [show Cert.OutProjRefIdeal.Hand.aW m' c = Cert.OutProjIdeal.Hand.aW m c from e3]

theorem out_dw (h : OutAgree m m' c) : (Cert.OutProjIdeal.Gen.dats m 0 c).arrAt 7 Cert.OutProjIdeal.cfg0.N = Cert.OutProjRefIdeal.Value.res_main_v39 m' c := by
  have d := out_dy h
  obtain ⟨e0, e1, e2, e3, e4⟩ := h
  refine Cert.OutProjIdeal.Hand.arr_dw m c _ fun j k => ?_
  rw [res_dw]
  refine (zDw_at _ _ j k).trans ?_
  simp only [d, zCat_at]
  rw [e1, e2]
  exact Finset.sum_congr rfl fun i _ => mul_comm _ _

theorem out_dg (h : OutAgree m m' c) : (Cert.OutProjIdeal.Gen.dats m 0 c).arrAt 8 Cert.OutProjIdeal.cfg0.N
    = zDg (Cert.OutProjRefIdeal.Hand.aY m' c) (Cert.OutProjRefIdeal.Hand.aD m' c) := by
  have fY := out_y h
  obtain ⟨e0, e1, e2, e3, e4⟩ := h
  refine Cert.OutProjIdeal.Hand.arr_dg m c _ fun j => ?_
  refine (zDg_at _ _ j).trans ?_
  rw [fY, show Cert.OutProjRefIdeal.Hand.aD m' c = Cert.OutProjIdeal.Hand.aD m c from e0]
  exact Finset.sum_congr rfl fun i _ => mul_comm _ _

/-- The kernel's three results are the reference's. -/
theorem algebraic_out : Cert.algebraic_OutProjIdeal_OutProjRefIdeal := by
  intro m ρ m' ρ' _ hagree
  refine ⟨_, _, _, (θ_run _ _ _).mono (fun r h c => ?_) (Cert.OutProjIdeal.Value.run_blocks (F := Ideal) m ρ), Cert.OutProjRefIdeal.Value.run (F := Ideal) m' ρ'⟩
  obtain ⟨h0, h1, h2, h⟩ := h c
  exact ⟨h0.trans (out_dz (hagree c)), h1.trans (out_dw (hagree c)), h2.trans (out_dg (hagree c)), h⟩

end Cert.Proof

end
-- ==== Proof.FwdFrames.lean ====
/- The two projections' forward calls and their references: each runs and leaves its arguments as they were. -/
module

public import proofs.«01_k».proof.Defs
public import proofs.«01_k».proof.Proof.Gen.InFwd.Frame
public import proofs.«01_k».proof.Proof.Gen.InFwdIdeal.Frame
public import proofs.«01_k».proof.Proof.Gen.InFwdRefIdeal.Run
public import proofs.«01_k».proof.Proof.Gen.OutFwd.Frame
public import proofs.«01_k».proof.Proof.Gen.OutFwdIdeal.Frame
public import proofs.«01_k».proof.Proof.Gen.OutFwdRefIdeal.Run
public import Idealize.ShloMosaic.Lib.Quiescent

@[expose] public section
noncomputable section
open Idealize.ShloMosaic Idealize.ShloMosaic.TcCoe Idealize.SL.Sem

namespace Cert.Proof

theorem frame_inFwd : Cert.quiescent_InFwd := fun m ρ _ => Cert.InFwd.Gen.frame m ρ
theorem frame_inFwdIdeal : Cert.quiescent_InFwdIdeal := fun m ρ _ => Cert.InFwdIdeal.Gen.frame m ρ
theorem frame_inFwdRef : Cert.quiescent_InFwdRefIdeal := fun m ρ _ =>
  (θ_run Cert.InFwdRefIdeal.defs _ _).mono (fun r h => ⟨fun c => (h c).2.2,
      Idealize.ShloMosaic.sem_eq_zero_of_no_sems (by decide) r.2⟩)
    (Cert.InFwdRefIdeal.Value.run (F := Ideal) m ρ)
theorem frame_outFwd : Cert.quiescent_OutFwd := fun m ρ _ => Cert.OutFwd.Gen.frame m ρ
theorem frame_outFwdIdeal : Cert.quiescent_OutFwdIdeal := fun m ρ _ => Cert.OutFwdIdeal.Gen.frame m ρ
theorem frame_outFwdRef : Cert.quiescent_OutFwdRefIdeal := fun m ρ _ =>
  (θ_run Cert.OutFwdRefIdeal.defs _ _).mono (fun r h => ⟨fun c => (h c).2.2.2,
      Idealize.ShloMosaic.sem_eq_zero_of_no_sems (by decide) r.2⟩)
    (Cert.OutFwdRefIdeal.Value.run (F := Ideal) m ρ)

end Cert.Proof

end
-- ==== Proof.AdamInFinal.lean ====
/- The optimiser's call on a shard of the input projection's weight, and plain mathematics: each runs and leaves its arguments as they
   were, and the two give the same three results. -/
module

public import proofs.«01_k».proof.Defs
public import proofs.«01_k».proof.Proof.Gen.AdamIn.Frame
public import proofs.«01_k».proof.Proof.Gen.AdamInIdeal.Value
public import proofs.«01_k».proof.Proof.Gen.AdamInRefIdeal.Run
public import Idealize.ShloMosaic.Lib.Quiescent

@[expose] public section
set_option maxRecDepth 16384
noncomputable section

namespace Cert.Proof

open Idealize.ShloMosaic Idealize.ShloMosaic.TcCoe Idealize.SL.Sem

theorem frame_adamIn : Cert.quiescent_AdamIn := fun m ρ _ => Cert.AdamIn.Gen.frame m ρ
theorem frame_adamInIdeal : Cert.quiescent_AdamInIdeal := fun m ρ _ => Cert.AdamInIdeal.Gen.frame m ρ
theorem frame_adamInRef : Cert.quiescent_AdamInRefIdeal := fun m ρ _ =>
  (θ_run Cert.AdamInRefIdeal.defs _ _).mono (fun r h => ⟨fun c => (h c).2.2.2,
      Idealize.ShloMosaic.sem_eq_zero_of_no_sems (by decide) r.2⟩)
    (Cert.AdamInRefIdeal.Value.run (F := Ideal) m ρ)

/-- The kernel's three results are the reference's. -/
theorem algebraic_adamIn : Cert.algebraic_AdamInIdeal_AdamInRefIdeal := by
  intro m ρ m' ρ' _ hagree
  refine ⟨_, _, _, Cert.AdamInIdeal.Value.run (F := Ideal) m ρ, (θ_run _ _ _).mono (fun r h c => ?_) (Cert.AdamInRefIdeal.Value.run (F := Ideal) m' ρ')⟩
  obtain ⟨h0, h1, h2, h⟩ := h c
  obtain ⟨e0, e1, e2, e3⟩ := hagree c
  refine ⟨h0.trans ?_, h1.trans ?_, h2.trans ?_, h⟩
  · rw [e0, e1, e2, e3]
    funext i
    rfl
  · rw [e1, e2]
    funext i
    rfl
  · rw [e1, e3]
    funext i
    rfl

end Cert.Proof

end
-- ==== Proof.AdamUqFinal.lean ====
/- The optimiser's call on a shard of the query projection's weight, and plain mathematics: each runs and leaves its arguments as they
   were, and the two give the same three results. -/
module

public import proofs.«01_k».proof.Defs
public import proofs.«01_k».proof.Proof.Gen.AdamUq.Frame
public import proofs.«01_k».proof.Proof.Gen.AdamUqIdeal.Value
public import proofs.«01_k».proof.Proof.Gen.AdamUqRefIdeal.Run
public import Idealize.ShloMosaic.Lib.Quiescent

@[expose] public section
set_option maxRecDepth 16384
noncomputable section

namespace Cert.Proof

open Idealize.ShloMosaic Idealize.ShloMosaic.TcCoe Idealize.SL.Sem

theorem frame_adamUq : Cert.quiescent_AdamUq := fun m ρ _ => Cert.AdamUq.Gen.frame m ρ
theorem frame_adamUqIdeal : Cert.quiescent_AdamUqIdeal := fun m ρ _ => Cert.AdamUqIdeal.Gen.frame m ρ
theorem frame_adamUqRef : Cert.quiescent_AdamUqRefIdeal := fun m ρ _ =>
  (θ_run Cert.AdamUqRefIdeal.defs _ _).mono (fun r h => ⟨fun c => (h c).2.2.2,
      Idealize.ShloMosaic.sem_eq_zero_of_no_sems (by decide) r.2⟩)
    (Cert.AdamUqRefIdeal.Value.run (F := Ideal) m ρ)

/-- The kernel's three results are the reference's. -/
theorem algebraic_adamUq : Cert.algebraic_AdamUqIdeal_AdamUqRefIdeal := by
  intro m ρ m' ρ' _ hagree
  refine ⟨_, _, _, Cert.AdamUqIdeal.Value.run (F := Ideal) m ρ, (θ_run _ _ _).mono (fun r h c => ?_) (Cert.AdamUqRefIdeal.Value.run (F := Ideal) m' ρ')⟩
  obtain ⟨h0, h1, h2, h⟩ := h c
  obtain ⟨e0, e1, e2, e3⟩ := hagree c
  refine ⟨h0.trans ?_, h1.trans ?_, h2.trans ?_, h⟩
  · rw [e0, e1, e2, e3]
    funext i
    rfl
  · rw [e1, e2]
    funext i
    rfl
  · rw [e1, e3]
    funext i
    rfl

end Cert.Proof

end
-- ==== Proof.AdamUkvFinal.lean ====
/- The optimiser's call on a shard of the key and value projection's weight, and plain mathematics: each runs and leaves its arguments as they
   were, and the two give the same three results. -/
module

public import proofs.«01_k».proof.Defs
public import proofs.«01_k».proof.Proof.Gen.AdamUkv.Frame
public import proofs.«01_k».proof.Proof.Gen.AdamUkvIdeal.Value
public import proofs.«01_k».proof.Proof.Gen.AdamUkvRefIdeal.Run
public import Idealize.ShloMosaic.Lib.Quiescent

@[expose] public section
set_option maxRecDepth 16384
noncomputable section

namespace Cert.Proof

open Idealize.ShloMosaic Idealize.ShloMosaic.TcCoe Idealize.SL.Sem

theorem frame_adamUkv : Cert.quiescent_AdamUkv := fun m ρ _ => Cert.AdamUkv.Gen.frame m ρ
theorem frame_adamUkvIdeal : Cert.quiescent_AdamUkvIdeal := fun m ρ _ => Cert.AdamUkvIdeal.Gen.frame m ρ
theorem frame_adamUkvRef : Cert.quiescent_AdamUkvRefIdeal := fun m ρ _ =>
  (θ_run Cert.AdamUkvRefIdeal.defs _ _).mono (fun r h => ⟨fun c => (h c).2.2.2,
      Idealize.ShloMosaic.sem_eq_zero_of_no_sems (by decide) r.2⟩)
    (Cert.AdamUkvRefIdeal.Value.run (F := Ideal) m ρ)

/-- The kernel's three results are the reference's. -/
theorem algebraic_adamUkv : Cert.algebraic_AdamUkvIdeal_AdamUkvRefIdeal := by
  intro m ρ m' ρ' _ hagree
  refine ⟨_, _, _, Cert.AdamUkvIdeal.Value.run (F := Ideal) m ρ, (θ_run _ _ _).mono (fun r h c => ?_) (Cert.AdamUkvRefIdeal.Value.run (F := Ideal) m' ρ')⟩
  obtain ⟨h0, h1, h2, h⟩ := h c
  obtain ⟨e0, e1, e2, e3⟩ := hagree c
  refine ⟨h0.trans ?_, h1.trans ?_, h2.trans ?_, h⟩
  · rw [e0, e1, e2, e3]
    funext i
    rfl
  · rw [e1, e2]
    funext i
    rfl
  · rw [e1, e3]
    funext i
    rfl

end Cert.Proof

end
-- ==== Proof.AdamOutFinal.lean ====
/- The optimiser's call on a shard of the output projection's weight, and plain mathematics: each runs and leaves its arguments as they
   were, and the two give the same three results. -/
module

public import proofs.«01_k».proof.Defs
public import proofs.«01_k».proof.Proof.Gen.AdamOut.Frame
public import proofs.«01_k».proof.Proof.Gen.AdamOutIdeal.Value
public import proofs.«01_k».proof.Proof.Gen.AdamOutRefIdeal.Run
public import Idealize.ShloMosaic.Lib.Quiescent

@[expose] public section
set_option maxRecDepth 16384
noncomputable section

namespace Cert.Proof

open Idealize.ShloMosaic Idealize.ShloMosaic.TcCoe Idealize.SL.Sem

theorem frame_adamOut : Cert.quiescent_AdamOut := fun m ρ _ => Cert.AdamOut.Gen.frame m ρ
theorem frame_adamOutIdeal : Cert.quiescent_AdamOutIdeal := fun m ρ _ => Cert.AdamOutIdeal.Gen.frame m ρ
theorem frame_adamOutRef : Cert.quiescent_AdamOutRefIdeal := fun m ρ _ =>
  (θ_run Cert.AdamOutRefIdeal.defs _ _).mono (fun r h => ⟨fun c => (h c).2.2.2,
      Idealize.ShloMosaic.sem_eq_zero_of_no_sems (by decide) r.2⟩)
    (Cert.AdamOutRefIdeal.Value.run (F := Ideal) m ρ)

/-- The kernel's three results are the reference's. -/
theorem algebraic_adamOut : Cert.algebraic_AdamOutIdeal_AdamOutRefIdeal := by
  intro m ρ m' ρ' _ hagree
  refine ⟨_, _, _, Cert.AdamOutIdeal.Value.run (F := Ideal) m ρ, (θ_run _ _ _).mono (fun r h c => ?_) (Cert.AdamOutRefIdeal.Value.run (F := Ideal) m' ρ')⟩
  obtain ⟨h0, h1, h2, h⟩ := h c
  obtain ⟨e0, e1, e2, e3⟩ := hagree c
  refine ⟨h0.trans ?_, h1.trans ?_, h2.trans ?_, h⟩
  · rw [e0, e1, e2, e3]
    funext i
    rfl
  · rw [e1, e2]
    funext i
    rfl
  · rw [e1, e3]
    funext i
    rfl

end Cert.Proof

end
-- ==== Proof.FwdIn.lean ====
/- The input projection's forward call: its blocks, what its body computes of them, and what it leaves. -/
module

public import proofs.«01_k».proof.Proof.Gen.InFwdIdeal.Frame
public import Idealize.ShloMosaic.Lib.Pipeline.ValueKit
public import proofs.«01_k».proof.Proof.RmsMath
public import proofs.«01_k».proof.Proof.OutDz

@[expose] public section
set_option maxRecDepth 16384
noncomputable section

namespace Cert.InFwdIdeal.Hand

open Cert.InFwdIdeal Cert.InFwdIdeal.Gen
open Idealize.ShloMosaic Idealize.ShloMosaic.TcCoe
open Cert.Math
open scoped BigOperators

section Pay
variable (x : FVec Ideal S512x1024 .f32) (h : FVec Ideal S512x1024 .bf16) (g : FVec Ideal S1x1024 .f32) (w : FVec Ideal S1024x2560 .bf16)

theorem pay2_at (i : Fin 512) (j : Fin 1024) : k0_pay2 (F := Ideal) x g (ix2 i j)
    = x (ix2 i j) * rs (fun k : Fin 1024 => x (ix2 i k)) * g (ix2 0 j) := by
  unfold k0_pay2 rs msq
  pointwise

theorem pay3_at (i : Fin 512) (j : Fin 1024) : k0_pay3 (F := Ideal) x g (ix2 i j)
    = x (ix2 i j) * rs (fun k : Fin 1024 => x (ix2 i k)) * g (ix2 0 j) :=
  pay2_at x g i j

theorem pay1_at (i : Fin 512) (k : Fin 2560) : k0_pay1 (F := Ideal) h w (ix2 i k) = ∑ l : Fin 1024, h (ix2 i l) * w (ix2 l k) := by
  unfold k0_pay1
  pointwise

theorem pay4_at (i : Fin 512) (k : Fin 2560) : k0_pay4 (F := Ideal) x g w (ix2 i k)
    = ∑ l : Fin 1024, k0_pay2 (F := Ideal) x g (ix2 i l) * w (ix2 l k) := by
  unfold k0_pay4
  pointwise

end Pay

theorem idx : ∀ t : Fin cfg0.N, win0_0.index t = ![t.val, 0]
    ∧ win0_1.index t = ![0, 0]
    ∧ win0_2.index t = ![0, 0]
    ∧ win0_3.index t = ![t.val, 0]
    ∧ win0_4.index t = ![t.val, 0] :=
  (by decide +kernel : ∀ t : Fin grid0.N, _)

variable (m : (ℓ : Loc nD τ sig) → Buf (Elt Ideal) ℓ) (c : Dev nD)

abbrev aX : FVec Ideal S16384x1024 .f32 := m ((c : Thread nD τ).loc main_arg0)
abbrev aG : FVec Ideal S1x1024 .f32 := m ((c : Thread nD τ).loc main_arg1)
abbrev aW : FVec Ideal S1024x2560 .bf16 := m ((c : Thread nD τ).loc main_arg2)
/-- The normed rows times the gain. -/
def nH (i : Fin 16384) (j : Fin 1024) : EReal := aX m c (ix2 i j) * rs (fun k : Fin 1024 => aX m c (ix2 i k)) * aG m c (ix2 0 j)

theorem N_eq : cfg0.N = 16 := by decide

/-- The array row of a block's row, and of a half's row. -/
abbrev row (t : Fin cfg0.N) (i : Fin 1024) : Fin 16384 := ⟨1024 * t.val + i.val, by have := lt_of_lt_of_eq t.isLt N_eq; omega⟩
abbrev hrow (t : Fin cfg0.N) (o : ℕ) (ho : o + 512 ≤ 1024) (i : Fin 512) : Fin 16384 := row t ⟨o + i.val, by omega⟩

variable (t : Fin cfg0.N)

theorem b0_at (i k : Fin 1024) : (iblk m c 0 t : FVec Ideal S1024x1024 .f32) (ix2 i k) = aX m c (ix2 (row t i) k) := by
  blk_point [iblk, V, idx t]
theorem b1_at (k : Fin 1024) : (iblk m c 1 t : FVec Ideal S1x1024 .f32) (ix2 0 k) = aG m c (ix2 0 k) := by
  blk_point [iblk, V, idx t]
theorem b2_at (i : Fin 1024) (k : Fin 2560) : (iblk m c 2 t : FVec Ideal S1024x2560 .bf16) (ix2 i k) = aW m c (ix2 i k) := by
  blk_point [iblk, V, idx t]

/-- The halves of the rows, the gain and the projection, as the body loads them. -/
abbrev xH (o : ℕ) (inb : ∀ x, (![o, 0] : Fin 2 → ℕ) x + (![512, 1024] : Fin 2 → ℕ) x ≤ S1024x1024.size x) : FVec Ideal S512x1024 .f32 :=
  View.ld (Val := Elt Ideal) (S := S1024x1024) (e' := .f32) (iblk m c 0 t) (Rect.unit (s := S1024x1024) ![o, 0] ![512, 1024] inb)
abbrev gH : FVec Ideal S1x1024 .f32 := View.ld (Val := Elt Ideal) (S := S1x1024) (e' := .f32) (iblk m c 1 t) r0_1
abbrev wH : FVec Ideal S1024x2560 .bf16 := View.ld (Val := Elt Ideal) (S := S1024x2560) (e' := .bf16) (iblk m c 2 t) r0_3

theorem gH_at (k : Fin 1024) : gH m c t (ix2 0 k) = aG m c (ix2 0 k) := by
  refine Eq.trans ?_ (b1_at m c t k)
  show (iblk m c 1 t : FVec Ideal S1x1024 .f32) (r0_1.emb (ix2 0 k)) = _
  refine congrArg (iblk m c 1 t : FVec Ideal S1x1024 .f32) (funext fun x => Fin.ext ((Rect.emb_apply ..).trans ?_))
  fin_cases x
  · rfl
  · show 0 + 1 * k.val = k.val; omega

theorem wH_at (i : Fin 1024) (k : Fin 2560) : wH m c t (ix2 i k) = aW m c (ix2 i k) := by
  refine Eq.trans ?_ (b2_at m c t i k)
  show (iblk m c 2 t : FVec Ideal S1024x2560 .bf16) (r0_3.emb (ix2 i k)) = _
  refine congrArg (iblk m c 2 t : FVec Ideal S1024x2560 .bf16) (funext fun x => Fin.ext ((Rect.emb_apply ..).trans ?_))
  fin_cases x
  · show 0 + 1 * i.val = i.val; omega
  · show 0 + 1 * k.val = k.val; omega

section Half
variable (o : ℕ) (ho : o + 512 ≤ 1024) (inb : ∀ x, (![o, 0] : Fin 2 → ℕ) x + (![512, 1024] : Fin 2 → ℕ) x ≤ S1024x1024.size x)

theorem xH_at (i : Fin 512) (k : Fin 1024) : xH m c t o inb (ix2 i k) = aX m c (ix2 (hrow t o ho i) k) := by
  refine Eq.trans ?_ (b0_at m c t ⟨o + i.val, by omega⟩ k)
  show (iblk m c 0 t : FVec Ideal S1024x1024 .f32) ((Rect.unit (s := S1024x1024) ![o, 0] ![512, 1024] inb).emb (ix2 i k)) = _
  refine congrArg (iblk m c 0 t : FVec Ideal S1024x1024 .f32) (funext fun x => Fin.ext ((Rect.emb_apply ..).trans ?_))
  fin_cases x
  · show o + 1 * i.val = o + i.val; omega
  · show 0 + 1 * k.val = k.val; omega

theorem h_half (i : Fin 512) (j : Fin 1024) : k0_pay2 (F := Ideal) (xH m c t o inb) (gH m c t) (ix2 i j) = nH m c (hrow t o ho i) j := by
  refine (pay2_at _ _ i j).trans ?_
  simp only [xH_at m c t o ho inb, gH_at]
  rfl

theorem z_half (i : Fin 512) (k : Fin 2560) : k0_pay4 (F := Ideal) (xH m c t o inb) (gH m c t) (wH m c t) (ix2 i k)
    = ∑ l : Fin 1024, nH m c (hrow t o ho i) l * aW m c (ix2 l k) := by
  refine (pay4_at _ _ _ i k).trans ?_
  simp only [h_half m c t o ho inb, wH_at]

theorem z_half' (i : Fin 512) (k : Fin 2560) : k0_pay1 (F := Ideal) (k0_pay3 (xH m c t o inb) (gH m c t)) (wH m c t) (ix2 i k)
    = ∑ l : Fin 1024, nH m c (hrow t o ho i) l * aW m c (ix2 l k) := by
  refine (pay1_at _ _ i k).trans ?_
  simp only [show k0_pay3 (F := Ideal) (xH m c t o inb) (gH m c t) = k0_pay2 (xH m c t o inb) (gH m c t) from rfl, h_half m c t o ho inb, wH_at]

end Half

end Cert.InFwdIdeal.Hand

end
-- ==== Proof.FwdInArr.lean ====
/- The projected rows and the normed rows, as the input projection's forward call leaves them. -/
module

public import proofs.«01_k».proof.Proof.FwdIn

@[expose] public section
set_option maxRecDepth 16384
noncomputable section

namespace Cert.InFwdIdeal.Hand

open Cert.InFwdIdeal Cert.InFwdIdeal.Gen
open Idealize.ShloMosaic Idealize.ShloMosaic.TcCoe
open Cert.Math
open Cert.OutProjIdeal.Hand (canon_step)
open scoped BigOperators

variable (m : (ℓ : Loc nD τ sig) → Buf (Elt Ideal) ℓ) (c : Dev nD)

/-- What a point writes of the projected rows, and of the normed rows. -/
def zBlk (t : Fin cfg0.N) : FVec Ideal S1024x2560 .f32 := fun y => ∑ l : Fin 1024, nH m c (row t (y 0)) l * aW m c (ix2 l (y 1))
def hBlk (t : Fin cfg0.N) : FVec Ideal S1024x1024 .bf16 := fun y => nH m c (row t (y 0)) (y 1)

theorem zPiece (t : Fin cfg0.N) (o : ℕ) (ho : o + 512 ≤ 1024) (inb : ∀ x, (![o, 0] : Fin 2 → ℕ) x + (![512, 2560] : Fin 2 → ℕ) x ≤ S1024x2560.size x)
    (w : FVec Ideal S512x2560 .f32) (hw : ∀ i j, w (ix2 i j) = ∑ l : Fin 1024, nH m c (hrow t o ho i) l * aW m c (ix2 l j))
    (x : S512x2560.Idx) : w x = zBlk m c t ((Rect.unit (s := S1024x2560) ![o, 0] ![512, 2560] inb).emb x) := by
  obtain ⟨i, j, rfl⟩ : ∃ (a : Fin 512) (b : Fin 2560), x = ix2 a b := ⟨x 0, x 1, (ix2_eta _).symm⟩
  have e0 : ((Rect.unit (s := S1024x2560) ![o, 0] ![512, 2560] inb).emb (ix2 i j)) 0 = (⟨o + i.val, by omega⟩ : Fin 1024) := Fin.ext (by rw [Rect.emb_apply]; show o + 1 * i.val = _; simp only []; omega)
  have e1 : ((Rect.unit (s := S1024x2560) ![o, 0] ![512, 2560] inb).emb (ix2 i j)) 1 = j := Fin.ext (by rw [Rect.emb_apply]; show 0 + 1 * j.val = _; omega)
  rw [hw]
  unfold zBlk
  rw [e0, e1]

theorem hPiece (t : Fin cfg0.N) (o : ℕ) (ho : o + 512 ≤ 1024) (inb : ∀ x, (![o, 0] : Fin 2 → ℕ) x + (![512, 1024] : Fin 2 → ℕ) x ≤ S1024x1024.size x)
    (w : FVec Ideal S512x1024 .bf16) (hw : ∀ i j, w (ix2 i j) = nH m c (hrow t o ho i) j)
    (x : S512x1024.Idx) : w x = hBlk m c t ((Rect.unit (s := S1024x1024) ![o, 0] ![512, 1024] inb).emb x) := by
  obtain ⟨i, j, rfl⟩ : ∃ (a : Fin 512) (b : Fin 1024), x = ix2 a b := ⟨x 0, x 1, (ix2_eta _).symm⟩
  have e0 : ((Rect.unit (s := S1024x1024) ![o, 0] ![512, 1024] inb).emb (ix2 i j)) 0 = (⟨o + i.val, by omega⟩ : Fin 1024) := Fin.ext (by rw [Rect.emb_apply]; show o + 1 * i.val = _; simp only []; omega)
  have e1 : ((Rect.unit (s := S1024x1024) ![o, 0] ![512, 1024] inb).emb (ix2 i j)) 1 = j := Fin.ext (by rw [Rect.emb_apply]; show 0 + 1 * j.val = _; omega)
  rw [hw]
  unfold hBlk
  rw [e0, e1]

theorem zOut {o : ℕ} {inb : ∀ x, (![o, 0] : Fin 2 → ℕ) x + (![512, 2560] : Fin 2 → ℕ) x ≤ S1024x2560.size x} {y : S1024x2560.Idx}
    (h : y ∉ (Rect.unit (s := S1024x2560) ![o, 0] ![512, 2560] inb).set) : ¬ (o ≤ (y 0).val ∧ (y 0).val < o + 512) := fun hh =>
  h (Rect.mem_set_unit.mpr fun a => by
    have h0 : (y 1).val < 2560 := (y 1).isLt
    fin_cases a
    · exact hh
    · exact ⟨Nat.zero_le _, show (y 1).val < 0 + 2560 by omega⟩)

theorem hOut {o : ℕ} {inb : ∀ x, (![o, 0] : Fin 2 → ℕ) x + (![512, 1024] : Fin 2 → ℕ) x ≤ S1024x1024.size x} {y : S1024x1024.Idx}
    (h : y ∉ (Rect.unit (s := S1024x1024) ![o, 0] ![512, 1024] inb).set) : ¬ (o ≤ (y 0).val ∧ (y 0).val < o + 512) := fun hh =>
  h (Rect.mem_set_unit.mpr fun a => by
    have h0 : (y 1).val < 1024 := (y 1).isLt
    fin_cases a
    · exact hh
    · exact ⟨Nat.zero_le _, show (y 1).val < 0 + 1024 by omega⟩)

theorem zCore (t : Fin cfg0.N) (y : S1024x2560.Idx) :
    View.canon (Val := Elt Ideal) (s := S1024x2560) (e := .f32)
      [⟨Rect.unit ![512, 0] ![512, 2560] inb_S1024x2560_S512x2560_512_0,
          k0_pay1 (F := Ideal) (k0_pay3 (xH m c t 512 inb_S1024x1024_S512x1024_512_0) (gH m c t)) (wH m c t)⟩,
        ⟨Rect.unit ![0, 0] ![512, 2560] inb_S1024x2560_S512x2560_0_0,
          k0_pay4 (F := Ideal) (xH m c t 0 inb_S1024x1024_S512x1024_0_0) (gH m c t) (wH m c t)⟩]
      y = zBlk m c t y := by
  refine canon_step (zPiece m c t 512 (by omega) inb_S1024x2560_S512x2560_512_0 _ fun i j => z_half' m c t 512 (by omega) inb_S1024x1024_S512x1024_512_0 i j) fun h1 => ?_
  refine canon_step (zPiece m c t 0 (by omega) inb_S1024x2560_S512x2560_0_0 _ fun i j => z_half m c t 0 (by omega) inb_S1024x1024_S512x1024_0_0 i j) fun h0 => ?_
  have hy : (y 0).val < 1024 := (y 0).isLt
  have h1 := zOut (inb := inb_S1024x2560_S512x2560_512_0) h1
  have h0 := zOut (inb := inb_S1024x2560_S512x2560_0_0) h0
  omega

theorem hCore (t : Fin cfg0.N) (y : S1024x1024.Idx) :
    View.canon (Val := Elt Ideal) (s := S1024x1024) (e := .bf16)
      [⟨Rect.unit ![512, 0] ![512, 1024] inb_S1024x1024_S512x1024_512_0,
          k0_pay3 (F := Ideal) (xH m c t 512 inb_S1024x1024_S512x1024_512_0) (gH m c t)⟩,
        ⟨Rect.unit ![0, 0] ![512, 1024] inb_S1024x1024_S512x1024_0_0,
          k0_pay2 (F := Ideal) (xH m c t 0 inb_S1024x1024_S512x1024_0_0) (gH m c t)⟩]
      y = hBlk m c t y := by
  refine canon_step (hPiece m c t 512 (by omega) inb_S1024x1024_S512x1024_512_0 _ fun i j => h_half m c t 512 (by omega) inb_S1024x1024_S512x1024_512_0 i j) fun h1 => ?_
  refine canon_step (hPiece m c t 0 (by omega) inb_S1024x1024_S512x1024_0_0 _ fun i j => h_half m c t 0 (by omega) inb_S1024x1024_S512x1024_0_0 i j) fun h0 => ?_
  have hy : (y 0).val < 1024 := (y 0).isLt
  have h1 := hOut (inb := inb_S1024x1024_S512x1024_512_0) h1
  have h0 := hOut (inb := inb_S1024x1024_S512x1024_0_0) h0
  omega

theorem arr_z (T : FVec Ideal S16384x2560 .f32)
    (hT : ∀ i j, T (ix2 i j) = ∑ l : Fin 1024, nH m c i l * aW m c (ix2 l j)) :
    (dats m 0 c).arrAt 3 (cfgs 0).N = T := by
  refine (dats m 0 c).arrAt_eq_of_covers 3 _ (by decide +kernel) fun t hf y => ?_
  blk_simp
  rw [after0_3]
  refine (zCore m c t y).trans ?_
  obtain ⟨a, b, rfl⟩ : ∃ (a : Fin 1024) (b : Fin 2560), y = ix2 a b := ⟨y 0, y 1, (ix2_eta _).symm⟩
  refine (hT (row t a) b).symm.trans (congrArg T ?_)
  blk_ext [idx t]

theorem arr_h (T : FVec Ideal S16384x1024 .bf16) (hT : ∀ i j, T (ix2 i j) = nH m c i j) :
    (dats m 0 c).arrAt 4 (cfgs 0).N = T := by
  refine (dats m 0 c).arrAt_eq_of_covers 4 _ (by decide +kernel) fun t hf y => ?_
  blk_simp
  rw [after0_4]
  refine (hCore m c t y).trans ?_
  obtain ⟨a, b, rfl⟩ : ∃ (a : Fin 1024) (b : Fin 1024), y = ix2 a b := ⟨y 0, y 1, (ix2_eta _).symm⟩
  refine (hT (row t a) b).symm.trans (congrArg T ?_)
  blk_ext [idx t]

end Cert.InFwdIdeal.Hand

end
-- ==== Proof.FwdInFinal.lean ====
/- The input projection's forward call and plain mathematics give the same two results. -/
module

public import proofs.«01_k».proof.Defs
public import proofs.«01_k».proof.Proof.Gen.InFwdIdeal.Value
public import proofs.«01_k».proof.Proof.Gen.InFwdRefIdeal.Run
public import proofs.«01_k».proof.Proof.FwdInArr

@[expose] public section
set_option maxRecDepth 16384
noncomputable section

namespace Cert.InFwdRefIdeal.Hand

open Cert.InFwdRefIdeal Cert.InFwdRefIdeal.Gen
open Idealize.ShloMosaic Idealize.ShloMosaic.TcCoe
open Cert.Math
open scoped BigOperators

section Stages
variable {F : FTy → Type} [FloatOps F]

/-- The normed rows times the gain. -/
def zN (x : FVec F S16384x1024 .f32) (g : FVec F S1x1024 .f32) : FVec F S16384x1024 .f32 :=
  mulf (mulf x (broadcastInDim S16384x1024 ![0, 1] bcast_S16384x1_S16384x1024_0_1 (Host.rsqrt (addf (Host.divf
    (broadcastInDim S16384x1 ![0] bcast_S16384_S16384x1_0 (Host.reduceAdd (mulf x x) (constant S_ .f32 0x00000000#32) reducesTo_S16384x1024_S16384_d1 h_S_))
    (broadcastInDim S16384x1 ![] bcast_S_S16384x1 (constant S_ .f32 0x44800000#32))) (broadcastInDim S16384x1 ![] bcast_S_S16384x1 (constant S_ .f32 0x358637BD#32))))))
    (broadcastInDim S16384x1024 ![0, 1] bcast_S1x1024_S16384x1024_0_1 g)

/-- Their projection. -/
def zZ (h : FVec F S16384x1024 .f32) (w : FVec F S1024x2560 .bf16) : FVec F S16384x2560 .f32 :=
  Host.dotGeneral dot_S16384x1024_S1024x2560_S16384x2560_1_0_0_1_n_n none h (extf .f32 w bitsLt_bf16_f32)

/-- The normed rows, narrowed. -/
def zT (h : FVec F S16384x1024 .f32) : FVec F S16384x1024 .bf16 := truncf .bf16 h bitsLt_bf16_f32

end Stages

variable (x : FVec Ideal S16384x1024 .f32) (g : FVec Ideal S1x1024 .f32) (h : FVec Ideal S16384x1024 .f32) (w : FVec Ideal S1024x2560 .bf16)

theorem zN_at (i : Fin 16384) (j : Fin 1024) : zN x g (ix2 i j) = x (ix2 i j) * rs (fun k : Fin 1024 => x (ix2 i k)) * g (ix2 0 j) := by
  unfold zN rs msq
  pointwise

theorem zZ_at (i : Fin 16384) (j : Fin 2560) : zZ h w (ix2 i j) = ∑ l : Fin 1024, h (ix2 i l) * w (ix2 l j) := by
  unfold zZ
  pointwise

theorem zT_at (i : Fin 16384) (j : Fin 1024) : zT h (ix2 i j) = h (ix2 i j) := by
  unfold zT
  pointwise

end Cert.InFwdRefIdeal.Hand

namespace Cert.Proof

open Idealize.ShloMosaic Idealize.ShloMosaic.TcCoe Idealize.SL.Sem
open scoped BigOperators

/-- The two programs start from the same arguments. -/
def InFwdAgree (m : (ℓ : Loc Cert.InFwdIdeal.nD Cert.InFwdIdeal.τ Cert.InFwdIdeal.sig) → Buf (Elt Ideal) ℓ)
    (m' : (ℓ : Loc Cert.InFwdRefIdeal.nD Cert.InFwdRefIdeal.τ Cert.InFwdRefIdeal.sig) → Buf (Elt Ideal) ℓ) (c : Dev Cert.InFwdIdeal.nD) : Prop :=
  m' ((c.tc : Thread Cert.InFwdRefIdeal.nD Cert.InFwdRefIdeal.τ).loc Cert.InFwdRefIdeal.main_arg0) = m ((c.tc : Thread Cert.InFwdIdeal.nD Cert.InFwdIdeal.τ).loc Cert.InFwdIdeal.main_arg0)
  ∧ m' ((c.tc : Thread Cert.InFwdRefIdeal.nD Cert.InFwdRefIdeal.τ).loc Cert.InFwdRefIdeal.main_arg1) = m ((c.tc : Thread Cert.InFwdIdeal.nD Cert.InFwdIdeal.τ).loc Cert.InFwdIdeal.main_arg1)
  ∧ m' ((c.tc : Thread Cert.InFwdRefIdeal.nD Cert.InFwdRefIdeal.τ).loc Cert.InFwdRefIdeal.main_arg2) = m ((c.tc : Thread Cert.InFwdIdeal.nD Cert.InFwdIdeal.τ).loc Cert.InFwdIdeal.main_arg2)

variable {m : (ℓ : Loc Cert.InFwdIdeal.nD Cert.InFwdIdeal.τ Cert.InFwdIdeal.sig) → Buf (Elt Ideal) ℓ}
    {m' : (ℓ : Loc Cert.InFwdRefIdeal.nD Cert.InFwdRefIdeal.τ Cert.InFwdRefIdeal.sig) → Buf (Elt Ideal) ℓ} {c : Dev Cert.InFwdIdeal.nD}

open Cert.InFwdRefIdeal.Hand (zN zZ zT zN_at zZ_at zT_at)

theorem in_fwd_z (h : InFwdAgree m m' c) : (Cert.InFwdIdeal.Gen.dats m 0 c).arrAt 3 Cert.InFwdIdeal.cfg0.N
    = zZ (F := Ideal) (zN (F := Ideal) (m' ((c.tc : Thread Cert.InFwdRefIdeal.nD Cert.InFwdRefIdeal.τ).loc Cert.InFwdRefIdeal.main_arg0)) (m' ((c.tc : Thread Cert.InFwdRefIdeal.nD Cert.InFwdRefIdeal.τ).loc Cert.InFwdRefIdeal.main_arg1)))
      (m' ((c.tc : Thread Cert.InFwdRefIdeal.nD Cert.InFwdRefIdeal.τ).loc Cert.InFwdRefIdeal.main_arg2)) := by
  obtain ⟨e0, e1, e2⟩ := h
  refine Cert.InFwdIdeal.Hand.arr_z m c _ fun i j => ?_
  refine (zZ_at _ _ i j).trans ?_
  simp only [zN_at]
  rw [e0, e1, e2]
  rfl

theorem in_fwd_h (h : InFwdAgree m m' c) : (Cert.InFwdIdeal.Gen.dats m 0 c).arrAt 4 Cert.InFwdIdeal.cfg0.N
    = zT (F := Ideal) (zN (F := Ideal) (m' ((c.tc : Thread Cert.InFwdRefIdeal.nD Cert.InFwdRefIdeal.τ).loc Cert.InFwdRefIdeal.main_arg0)) (m' ((c.tc : Thread Cert.InFwdRefIdeal.nD Cert.InFwdRefIdeal.τ).loc Cert.InFwdRefIdeal.main_arg1))) := by
  obtain ⟨e0, e1, e2⟩ := h
  refine Cert.InFwdIdeal.Hand.arr_h m c _ fun i j => ?_
  refine ((zT_at _ i j).trans (zN_at _ _ i j)).trans ?_
  rw [e0, e1]
  rfl

/-- The kernel's two results are the reference's. -/
theorem algebraic_in_fwd : Cert.algebraic_InFwdIdeal_InFwdRefIdeal := by
  intro m ρ m' ρ' _ hagree
  refine ⟨_, _, (θ_run _ _ _).mono (fun r h c => ?_) (Cert.InFwdIdeal.Value.run_blocks (F := Ideal) m ρ), Cert.InFwdRefIdeal.Value.run (F := Ideal) m' ρ'⟩
  obtain ⟨h0, h1, h⟩ := h c
  exact ⟨h0.trans (in_fwd_z (hagree c)), h1.trans (in_fwd_h (hagree c)), h⟩

end Cert.Proof

end
-- ==== Proof.FwdOut.lean ====
/- The output projection's forward call with the loss: its blocks, and what its body computes of them. -/
module

public import proofs.«01_k».proof.Proof.Gen.OutFwdIdeal.Frame
public import Idealize.ShloMosaic.Lib.Pipeline.ValueKit
public import proofs.«01_k».proof.Proof.RmsMath

@[expose] public section
set_option maxRecDepth 16384
noncomputable section

namespace Cert.OutFwdIdeal.Hand

open Cert.OutFwdIdeal Cert.OutFwdIdeal.Gen
open Idealize.ShloMosaic Idealize.ShloMosaic.TcCoe
open Cert.Math
open scoped BigOperators

/-- One over the width, and half of it. -/
abbrev wInv : EReal := Ideal.ofBits .f32 0x3A800000#32
abbrev wHalf : EReal := Ideal.ofBits .f32 0x3A000000#32

theorem wInv_eq : wInv = ((1 / 1024 : ℝ) : EReal) := by
  simp [wInv, Ideal.ofBits, Ideal.ieee, -EReal.coe_mul]; norm_num
theorem wHalf_eq : wHalf = ((1 / 2048 : ℝ) : EReal) := by
  simp [wHalf, Ideal.ofBits, Ideal.ieee, -EReal.coe_mul]; norm_num

section Pay
variable (u v : FVec Ideal S512x512 .bf16) (w : FVec Ideal S1024x1024 .bf16) (x d : FVec Ideal S512x1024 .f32) (g : FVec Ideal S1x1024 .f32)
  (s : FVec Ideal S512x1 .f32) (a : FVec Ideal S1x128 .f32)

theorem pay3_at (i : Fin 512) (j : Fin 1024) : k0_pay3 (F := Ideal) u v w (ix2 i j)
    = ∑ k : Fin 1024, cat2 (fun k => u (ix2 i k)) (fun k => v (ix2 i k)) k * w (ix2 k j) := by
  unfold k0_pay3 cat2
  pointwise

theorem pay4_at (i : Fin 512) (j : Fin 1024) : k0_pay4 (F := Ideal) u v w x g d (ix2 i j)
    = x (ix2 i j) + k0_pay3 (F := Ideal) u v w (ix2 i j) * rs (fun k : Fin 1024 => k0_pay3 (F := Ideal) u v w (ix2 i k)) * g (ix2 0 j) - d (ix2 i j) := by
  unfold k0_pay4 rs msq
  pointwise

theorem pay5_at (i : Fin 512) (j : Fin 1024) : k0_pay5 (F := Ideal) u v w x g d (ix2 i j) = k0_pay4 (F := Ideal) u v w x g d (ix2 i j) * wInv := by
  unfold k0_pay5
  pointwise

theorem pay6_at (i : Fin 512) : k0_pay6 (F := Ideal) u v w x g d (ix2 i 0)
    = ∑ k : Fin 1024, k0_pay4 (F := Ideal) u v w x g d (ix2 i k) * k0_pay4 (F := Ideal) u v w x g d (ix2 i k) := by
  unfold k0_pay6
  pointwise

theorem pay1_at (j : Fin 128) : k0_pay1 (F := Ideal) s a (ix2 0 j) = a (ix2 0 j) + (∑ i : Fin 512, s (ix2 i 0)) * wHalf := by
  unfold k0_pay1
  pointwise

theorem pay2_at (j : S1x128.Idx) : k0_pay2 (F := Ideal) j = 0 := by
  pointwise! [k0_pay2]

end Pay

theorem idx : ∀ t : Fin cfg0.N, win0_0.index t = ![t.val, 0]
    ∧ win0_1.index t = ![t.val, 0]
    ∧ win0_2.index t = ![0, 0]
    ∧ win0_3.index t = ![t.val, 0]
    ∧ win0_4.index t = ![0, 0]
    ∧ win0_5.index t = ![t.val, 0]
    ∧ win0_6.index t = ![t.val, 0]
    ∧ win0_7.index t = ![t.val, 0]
    ∧ win0_8.index t = ![0, 0] :=
  (by decide +kernel : ∀ t : Fin grid0.N, _)

variable (m : (ℓ : Loc nD τ sig) → Buf (Elt Ideal) ℓ) (c : Dev nD)

abbrev aU : FVec Ideal S16384x512 .bf16 := m ((c : Thread nD τ).loc main_arg0)
abbrev aV : FVec Ideal S16384x512 .bf16 := m ((c : Thread nD τ).loc main_arg1)
abbrev aW : FVec Ideal S1024x1024 .bf16 := m ((c : Thread nD τ).loc main_arg2)
abbrev aX : FVec Ideal S16384x1024 .f32 := m ((c : Thread nD τ).loc main_arg3)
abbrev aG : FVec Ideal S1x1024 .f32 := m ((c : Thread nD τ).loc main_arg4)
abbrev aT : FVec Ideal S16384x1024 .f32 := m ((c : Thread nD τ).loc main_arg5)
/-- The projected branches. -/
def nY (i : Fin 16384) (j : Fin 1024) : EReal := ∑ k : Fin 1024, cat2 (fun k => aU m c (ix2 i k)) (fun k => aV m c (ix2 i k)) k * aW m c (ix2 k j)
/-- The layer's output less the target. -/
def nE (i : Fin 16384) (j : Fin 1024) : EReal :=
  aX m c (ix2 i j) + nY m c i j * rs (fun k : Fin 1024 => nY m c i k) * aG m c (ix2 0 j) - aT m c (ix2 i j)

theorem N_eq : cfg0.N = 32 := by decide

/-- The array row of a block's row. -/
abbrev row (t : Fin cfg0.N) (i : Fin 512) : Fin 16384 := ⟨512 * t.val + i.val, by have := lt_of_lt_of_eq t.isLt N_eq; omega⟩

variable (t : Fin cfg0.N)

theorem b0_at (i k : Fin 512) : (iblk m c 0 t : FVec Ideal S512x512 .bf16) (ix2 i k) = aU m c (ix2 (row t i) k) := by
  blk_point [iblk, V, idx t]
theorem b1_at (i k : Fin 512) : (iblk m c 1 t : FVec Ideal S512x512 .bf16) (ix2 i k) = aV m c (ix2 (row t i) k) := by
  blk_point [iblk, V, idx t]
theorem b2_at (i k : Fin 1024) : (iblk m c 2 t : FVec Ideal S1024x1024 .bf16) (ix2 i k) = aW m c (ix2 i k) := by
  blk_point [iblk, V, idx t]
theorem b3_at (i : Fin 512) (k : Fin 1024) : (iblk m c 3 t : FVec Ideal S512x1024 .f32) (ix2 i k) = aX m c (ix2 (row t i) k) := by
  blk_point [iblk, V, idx t]
theorem b4_at (k : Fin 1024) : (iblk m c 4 t : FVec Ideal S1x1024 .f32) (ix2 0 k) = aG m c (ix2 0 k) := by
  blk_point [iblk, V, idx t]
theorem b5_at (i : Fin 512) (k : Fin 1024) : (iblk m c 5 t : FVec Ideal S512x1024 .f32) (ix2 i k) = aT m c (ix2 (row t i) k) := by
  blk_point [iblk, V, idx t]

theorem y_blk (i : Fin 512) (j : Fin 1024) : k0_pay3 (F := Ideal) (iblk m c 0 t) (iblk m c 1 t) (iblk m c 2 t) (ix2 i j) = nY m c (row t i) j := by
  refine (pay3_at _ _ _ i j).trans ?_
  simp only [b0_at, b1_at, b2_at]
  rfl

theorem e_blk (i : Fin 512) (j : Fin 1024) :
    k0_pay4 (F := Ideal) (iblk m c 0 t) (iblk m c 1 t) (iblk m c 2 t) (iblk m c 3 t) (iblk m c 4 t) (iblk m c 5 t) (ix2 i j) = nE m c (row t i) j := by
  refine (pay4_at _ _ _ _ _ _ i j).trans ?_
  simp only [y_blk, b3_at, b4_at, b5_at]
  rfl

theorem d_blk (i : Fin 512) (j : Fin 1024) :
    k0_pay5 (F := Ideal) (iblk m c 0 t) (iblk m c 1 t) (iblk m c 2 t) (iblk m c 3 t) (iblk m c 4 t) (iblk m c 5 t) (ix2 i j) = nE m c (row t i) j * wInv := by
  refine (pay5_at _ _ _ _ _ _ i j).trans ?_
  rw [e_blk]

/-- What a point adds to the loss. -/
theorem l_blk (a : FVec Ideal S1x128 .f32) (j : Fin 128) :
    k0_pay1 (F := Ideal) (k0_pay6 (iblk m c 0 t) (iblk m c 1 t) (iblk m c 2 t) (iblk m c 3 t) (iblk m c 4 t) (iblk m c 5 t)) a (ix2 0 j)
    = a (ix2 0 j) + ∑ i : Fin 512, (∑ k : Fin 1024, nE m c (row t i) k * nE m c (row t i) k) * wHalf := by
  refine (pay1_at _ a j).trans (congrArg (a (ix2 0 j) + ·) ?_)
  rw [wHalf_eq, sum_mul_real _ _ (by norm_num)]
  refine congrArg (· * _) (Finset.sum_congr rfl fun i _ => ?_)
  refine (pay6_at _ _ _ _ _ _ i).trans ?_
  simp only [e_blk]

theorem cell (y : S512x1024.Idx) : ∃ (a : Fin 512) (b : Fin 1024), y = ix2 a b := ⟨y 0, y 1, (ix2_eta _).symm⟩
theorem line (y : S1x128.Idx) : ∃ b : Fin 128, y = ix2 0 b :=
  ⟨y 1, by rw [← ix2_eta y]; exact congrArg (fun a => ix2 a (y 1)) (Subsingleton.elim (α := Fin 1) (y 0) 0)⟩

/-- A sum over all rows, point by point. -/
theorem sum_rows (f : Fin 16384 → EReal) (t : Fin cfg0.N) (h : ∀ s : Fin 32, 32 * (t.val / 32) + s.val < cfg0.N) :
    ∑ s : Fin 32, ∑ i : Fin 512, f (row ⟨32 * (t.val / 32) + s.val, h s⟩ i) = ∑ i : Fin 16384, f i := by
  have ht := lt_of_lt_of_eq t.isLt N_eq
  refine Fin.sum_mul_add_congr (fun s k hl => congrArg f (Fin.ext ?_))
  show 512 * (32 * (t.val / 32) + s.val) + k.val = _
  simp only []
  omega

end Cert.OutFwdIdeal.Hand

end
-- ==== Proof.FwdOutArr.lean ====
/- The projected branches, the loss's gradient and the loss, as the output projection's forward call leaves them. -/
module

public import Idealize.ShloMosaic.Lib.Pipeline.ReadBack
public import proofs.«01_k».proof.Proof.FwdOut

@[expose] public section
set_option maxRecDepth 16384
noncomputable section

namespace Cert.OutFwdIdeal.Hand

open Cert.OutFwdIdeal Cert.OutFwdIdeal.Gen
open Idealize.ShloMosaic Idealize.ShloMosaic.TcCoe
open Cert.Math
open scoped BigOperators

variable (m : (ℓ : Loc nD τ sig) → Buf (Elt Ideal) ℓ) (c : Dev nD)

theorem arr_y (T : FVec Ideal S16384x1024 .f32) (hT : ∀ i j, T (ix2 i j) = nY m c i j) :
    (dats m 0 c).arrAt 6 (cfgs 0).N = T := by
  refine (dats m 0 c).arrAt_eq_of_covers 6 _ (by decide +kernel) fun t hf y => ?_
  blk_simp
  rw [after0_6]
  have e : (outsAt0 m c t.val t.isLt).1 = k0_pay3 (F := Ideal) (iblk m c 0 t) (iblk m c 1 t) (iblk m c 2 t) := by
    by_cases h : t.val % 32 = 0
    · rw [outsAt0_A m c t h]
      frame_out
    · rw [outsAt0_B m c t h]
      frame_out
  rw [e]
  obtain ⟨a, b, rfl⟩ := cell y
  refine ((y_blk m c t a b).trans (hT (row t a) b).symm).trans (congrArg T ?_)
  blk_ext [idx t]

theorem arr_d (T : FVec Ideal S16384x1024 .f32) (hT : ∀ i j, T (ix2 i j) = nE m c i j * wInv) :
    (dats m 0 c).arrAt 7 (cfgs 0).N = T := by
  refine (dats m 0 c).arrAt_eq_of_covers 7 _ (by decide +kernel) fun t hf y => ?_
  blk_simp
  rw [after0_7]
  have e : (outsAt0 m c t.val t.isLt).2.1
      = k0_pay5 (F := Ideal) (iblk m c 0 t) (iblk m c 1 t) (iblk m c 2 t) (iblk m c 3 t) (iblk m c 4 t) (iblk m c 5 t) := by
    by_cases h : t.val % 32 = 0
    · rw [outsAt0_A m c t h]
      frame_out
    · rw [outsAt0_B m c t h]
      frame_out
  rw [e]
  obtain ⟨a, b, rfl⟩ := cell y
  refine ((d_blk m c t a b).trans (hT (row t a) b).symm).trans (congrArg T ?_)
  blk_ext [idx t]

theorem arr_l (T : FVec Ideal S1x128 .f32)
    (hT : ∀ j, T (ix2 0 j) = ∑ i : Fin 16384, (∑ k : Fin 1024, nE m c i k * nE m c i k) * wHalf) :
    (dats m 0 c).arrAt 8 (cfgs 0).N = T := by
  refine (dats m 0 c).arrAt_eq_of_covers 8 _ (by decide +kernel) fun t hf y => ?_
  blk_simp
  rw [after0_8, Pipeline.eq_sum_fin_of_reset_step_apply_of_flush (fun n h => (outsAt0 m c n h).2.2) 32 (fun _ => 0)
      (fun t j => ∑ i : Fin 512, (∑ k : Fin 1024, nE m c (row t i) k * nE m c (row t i) k) * wHalf)
    (fun t h j => by
      rw [outsAt0_A m c t h]; dsimp only; frame_open
      simp (disch := decide) only [↓ View.readCov_skip, ↓ View.readCov_cons_toLoadRect, ↓ View.readCov_fill]
      frame_out
      obtain ⟨b, rfl⟩ := line j
      exact (l_blk m c t _ b).trans (congrArg (· + _) (pay2_at _)))
    (fun t h j => by
      rw [outsAt0_B m c t h]; dsimp only; frame_open
      simp (disch := decide) only [↓ View.readCov_skip, ↓ View.readCov_cons_toLoadRect, ↓ View.readCov_fill]
      frame_out
      obtain ⟨b, rfl⟩ := line j
      exact l_blk m c t _ b)
    t ((flush0_8 t).mp hf) _, zero_add]
  obtain ⟨b, rfl⟩ := line y
  refine (sum_rows (fun i => (∑ k : Fin 1024, nE m c i k * nE m c i k) * wHalf) t _).trans ?_
  rw [← hT b]
  refine congrArg T ?_
  blk_ext [idx t]

end Cert.OutFwdIdeal.Hand

end
-- ==== Proof.FwdOutFinal.lean ====
/- The output projection's forward call and plain mathematics give the same three results. -/
module

public import proofs.«01_k».proof.Defs
public import proofs.«01_k».proof.Proof.Gen.OutFwdIdeal.Value
public import proofs.«01_k».proof.Proof.Gen.OutFwdRefIdeal.Run
public import proofs.«01_k».proof.Proof.FwdOutArr

@[expose] public section
set_option maxRecDepth 16384
noncomputable section

namespace Cert.OutFwdRefIdeal.Hand

open Cert.OutFwdRefIdeal Cert.OutFwdRefIdeal.Gen
open Idealize.ShloMosaic Idealize.ShloMosaic.TcCoe
open Cert.Math
open scoped BigOperators

section Stages
variable {F : FTy → Type} [FloatOps F]

/-- The projected branches. -/
def zY (u v : FVec F S16384x512 .bf16) (w : FVec F S1024x1024 .bf16) : FVec F S16384x1024 .f32 :=
  Host.dotGeneral dot_S16384x1024_S1024x1024_S16384x1024_1_0_0_1_n_n none
    (extf .f32 (concatenate S16384x1024 1 [⟨S16384x512, u⟩, ⟨S16384x512, v⟩] concatenates_S16384x512_S16384x512_S16384x1024_d1) bitsLt_bf16_f32)
    (extf .f32 w bitsLt_bf16_f32)

/-- The layer's output less the target. -/
def zE (y x d : FVec F S16384x1024 .f32) (g : FVec F S1x1024 .f32) : FVec F S16384x1024 .f32 :=
  subf (addf x (mulf (mulf y (broadcastInDim S16384x1024 ![0, 1] bcast_S16384x1_S16384x1024_0_1 (Host.rsqrt (addf (Host.divf
    (broadcastInDim S16384x1 ![0] bcast_S16384_S16384x1_0 (Host.reduceAdd (mulf y y) (constant S_ .f32 0x00000000#32) reducesTo_S16384x1024_S16384_d1 h_S_))
    (broadcastInDim S16384x1 ![] bcast_S_S16384x1 (constant S_ .f32 0x44800000#32))) (broadcastInDim S16384x1 ![] bcast_S_S16384x1 (constant S_ .f32 0x358637BD#32))))))
    (broadcastInDim S16384x1024 ![0, 1] bcast_S1x1024_S16384x1024_0_1 g))) d

/-- The loss's gradient. -/
def zD (e : FVec F S16384x1024 .f32) : FVec F S16384x1024 .f32 :=
  mulf (broadcastInDim S16384x1024 ![0] bcast_S16384_S16384x1024_0 (Host.divf
    (broadcastInDim S16384 ![] bcast_S_S16384 (mulf (constant S_ .f32 0x3F000000#32) (constant S_ .f32 0x3F800000#32)))
    (broadcastInDim S16384 ![] bcast_S_S16384 (constant S_ .f32 0x44800000#32))))
    (mulf (broadcastInDim S16384x1024 ![] bcast_S_S16384x1024 (constant S_ .f32 0x40000000#32)) e)

/-- The loss. -/
def zL (e : FVec F S16384x1024 .f32) : FVec F S1x128 .f32 :=
  broadcastInDim S1x128 ![] bcast_S_S1x128 (mulf (constant S_ .f32 0x3F000000#32) (Host.reduceAdd (Host.divf
    (Host.reduceAdd (mulf e e) (constant S_ .f32 0x00000000#32) reducesTo_S16384x1024_S16384_d1 h_S_)
    (broadcastInDim S16384 ![] bcast_S_S16384 (constant S_ .f32 0x44800000#32))) (constant S_ .f32 0x00000000#32) reducesTo_S16384_S_d0 h_S_))

end Stages

/-- One half, one and two. -/
abbrev wH : EReal := Ideal.ofBits .f32 0x3F000000#32
abbrev w1 : EReal := Ideal.ofBits .f32 0x3F800000#32
abbrev w2 : EReal := Ideal.ofBits .f32 0x40000000#32

theorem wH_eq : wH = ((1 / 2 : ℝ) : EReal) := by
  simp [wH, Ideal.ofBits, Ideal.ieee, -EReal.coe_mul]; norm_num
theorem w1_eq : w1 = ((1 : ℝ) : EReal) := by
  simp [w1, Ideal.ofBits, Ideal.ieee, -EReal.coe_mul]; norm_num
theorem w2_eq : w2 = ((2 : ℝ) : EReal) := by
  simp [w2, Ideal.ofBits, Ideal.ieee, -EReal.coe_mul]; norm_num

/-- Half the sum of the means is the sum of the halved means. -/
theorem mean_half {n : ℕ} (f : Fin n → EReal) : wH * ∑ i, Ideal.div (f i) wN = ∑ i, f i * Cert.OutFwdIdeal.Hand.wHalf := by
  rw [wH_eq, wN_eq, Cert.OutFwdIdeal.Hand.wHalf_eq]
  simp only [Ideal.div_coe (show (1024 : ℝ) ≠ 0 by norm_num)]
  rw [sum_mul_real _ _ (by norm_num), sum_mul_real _ _ (by norm_num)]
  generalize (∑ i, f i) = S
  rw [mul_comm, mul_assoc]
  refine congrArg (S * ·) ?_
  norm_cast
  norm_num

variable (u v : FVec Ideal S16384x512 .bf16) (w : FVec Ideal S1024x1024 .bf16) (y x d e : FVec Ideal S16384x1024 .f32) (g : FVec Ideal S1x1024 .f32)

theorem zY_at (i : Fin 16384) (j : Fin 1024) : zY u v w (ix2 i j)
    = ∑ k : Fin 1024, cat2 (fun k => u (ix2 i k)) (fun k => v (ix2 i k)) k * w (ix2 k j) := by
  unfold zY cat2
  pointwise

theorem zE_at (i : Fin 16384) (j : Fin 1024) : zE y x d g (ix2 i j)
    = x (ix2 i j) + y (ix2 i j) * rs (fun k : Fin 1024 => y (ix2 i k)) * g (ix2 0 j) - d (ix2 i j) := by
  unfold zE rs msq
  pointwise

theorem zD_at (i : Fin 16384) (j : Fin 1024) : zD e (ix2 i j) = e (ix2 i j) * Cert.OutFwdIdeal.Hand.wInv := by
  have h : zD e (ix2 i j) = Ideal.div (wH * w1) wN * (w2 * e (ix2 i j)) := by
    unfold zD
    pointwise
  rw [h, wH_eq, w1_eq, w2_eq, wN_eq, Cert.OutFwdIdeal.Hand.wInv_eq, Ideal.div_coe (by norm_num), ← mul_assoc, mul_comm _ (e (ix2 i j))]
  refine congrArg (e (ix2 i j) * ·) ?_
  norm_cast
  norm_num

theorem zL_at (j : Fin 128) : zL e (ix2 0 j) = ∑ i : Fin 16384, (∑ k : Fin 1024, e (ix2 i k) * e (ix2 i k)) * Cert.OutFwdIdeal.Hand.wHalf := by
  have h : zL e (ix2 0 j) = wH * ∑ i : Fin 16384, Ideal.div (∑ k : Fin 1024, e (ix2 i k) * e (ix2 i k)) wN := by
    unfold zL
    pointwise
  rw [h]
  exact mean_half fun i => ∑ k : Fin 1024, e (ix2 i k) * e (ix2 i k)

end Cert.OutFwdRefIdeal.Hand

namespace Cert.Proof

open Idealize.ShloMosaic Idealize.ShloMosaic.TcCoe Idealize.SL.Sem
open scoped BigOperators

/-- The two programs start from the same arguments. -/
def OutFwdAgree (m : (ℓ : Loc Cert.OutFwdIdeal.nD Cert.OutFwdIdeal.τ Cert.OutFwdIdeal.sig) → Buf (Elt Ideal) ℓ)
    (m' : (ℓ : Loc Cert.OutFwdRefIdeal.nD Cert.OutFwdRefIdeal.τ Cert.OutFwdRefIdeal.sig) → Buf (Elt Ideal) ℓ) (c : Dev Cert.OutFwdIdeal.nD) : Prop :=
  m' ((c.tc : Thread Cert.OutFwdRefIdeal.nD Cert.OutFwdRefIdeal.τ).loc Cert.OutFwdRefIdeal.main_arg0) = m ((c.tc : Thread Cert.OutFwdIdeal.nD Cert.OutFwdIdeal.τ).loc Cert.OutFwdIdeal.main_arg0)
  ∧ m' ((c.tc : Thread Cert.OutFwdRefIdeal.nD Cert.OutFwdRefIdeal.τ).loc Cert.OutFwdRefIdeal.main_arg1) = m ((c.tc : Thread Cert.OutFwdIdeal.nD Cert.OutFwdIdeal.τ).loc Cert.OutFwdIdeal.main_arg1)
  ∧ m' ((c.tc : Thread Cert.OutFwdRefIdeal.nD Cert.OutFwdRefIdeal.τ).loc Cert.OutFwdRefIdeal.main_arg2) = m ((c.tc : Thread Cert.OutFwdIdeal.nD Cert.OutFwdIdeal.τ).loc Cert.OutFwdIdeal.main_arg2)
  ∧ m' ((c.tc : Thread Cert.OutFwdRefIdeal.nD Cert.OutFwdRefIdeal.τ).loc Cert.OutFwdRefIdeal.main_arg3) = m ((c.tc : Thread Cert.OutFwdIdeal.nD Cert.OutFwdIdeal.τ).loc Cert.OutFwdIdeal.main_arg3)
  ∧ m' ((c.tc : Thread Cert.OutFwdRefIdeal.nD Cert.OutFwdRefIdeal.τ).loc Cert.OutFwdRefIdeal.main_arg4) = m ((c.tc : Thread Cert.OutFwdIdeal.nD Cert.OutFwdIdeal.τ).loc Cert.OutFwdIdeal.main_arg4)
  ∧ m' ((c.tc : Thread Cert.OutFwdRefIdeal.nD Cert.OutFwdRefIdeal.τ).loc Cert.OutFwdRefIdeal.main_arg5) = m ((c.tc : Thread Cert.OutFwdIdeal.nD Cert.OutFwdIdeal.τ).loc Cert.OutFwdIdeal.main_arg5)

variable {m : (ℓ : Loc Cert.OutFwdIdeal.nD Cert.OutFwdIdeal.τ Cert.OutFwdIdeal.sig) → Buf (Elt Ideal) ℓ}
    {m' : (ℓ : Loc Cert.OutFwdRefIdeal.nD Cert.OutFwdRefIdeal.τ Cert.OutFwdRefIdeal.sig) → Buf (Elt Ideal) ℓ} {c : Dev Cert.OutFwdIdeal.nD}

open Cert.OutFwdRefIdeal.Hand (zY zE zD zL zY_at zE_at zD_at zL_at)

/-- The reference's projected branches, and its output less the target. -/
abbrev refY (m' : (ℓ : Loc Cert.OutFwdRefIdeal.nD Cert.OutFwdRefIdeal.τ Cert.OutFwdRefIdeal.sig) → Buf (Elt Ideal) ℓ) (c : Dev Cert.OutFwdIdeal.nD) :=
  zY (F := Ideal) (m' ((c.tc : Thread Cert.OutFwdRefIdeal.nD Cert.OutFwdRefIdeal.τ).loc Cert.OutFwdRefIdeal.main_arg0))
    (m' ((c.tc : Thread Cert.OutFwdRefIdeal.nD Cert.OutFwdRefIdeal.τ).loc Cert.OutFwdRefIdeal.main_arg1)) (m' ((c.tc : Thread Cert.OutFwdRefIdeal.nD Cert.OutFwdRefIdeal.τ).loc Cert.OutFwdRefIdeal.main_arg2))
abbrev refE (m' : (ℓ : Loc Cert.OutFwdRefIdeal.nD Cert.OutFwdRefIdeal.τ Cert.OutFwdRefIdeal.sig) → Buf (Elt Ideal) ℓ) (c : Dev Cert.OutFwdIdeal.nD) :=
  zE (F := Ideal) (refY m' c) (m' ((c.tc : Thread Cert.OutFwdRefIdeal.nD Cert.OutFwdRefIdeal.τ).loc Cert.OutFwdRefIdeal.main_arg3))
    (m' ((c.tc : Thread Cert.OutFwdRefIdeal.nD Cert.OutFwdRefIdeal.τ).loc Cert.OutFwdRefIdeal.main_arg5)) (m' ((c.tc : Thread Cert.OutFwdRefIdeal.nD Cert.OutFwdRefIdeal.τ).loc Cert.OutFwdRefIdeal.main_arg4))

theorem refY_at (h : OutFwdAgree m m' c) (i : Fin 16384) (j : Fin 1024) : refY m' c (ix2 i j) = Cert.OutFwdIdeal.Hand.nY m c i j := by
  obtain ⟨e0, e1, e2, e3, e4, e5⟩ := h
  refine (zY_at _ _ _ i j).trans ?_
  rw [e0, e1, e2]
  rfl

theorem refE_at (h : OutFwdAgree m m' c) (i : Fin 16384) (j : Fin 1024) : refE m' c (ix2 i j) = Cert.OutFwdIdeal.Hand.nE m c i j := by
  refine (zE_at _ _ _ _ i j).trans ?_
  simp only [refY_at h]
  obtain ⟨e0, e1, e2, e3, e4, e5⟩ := h
  rw [e3, e4, e5]
  rfl

theorem out_fwd_y (h : OutFwdAgree m m' c) : (Cert.OutFwdIdeal.Gen.dats m 0 c).arrAt 6 Cert.OutFwdIdeal.cfg0.N = refY m' c :=
  Cert.OutFwdIdeal.Hand.arr_y m c _ fun i j => refY_at h i j

theorem out_fwd_d (h : OutFwdAgree m m' c) : (Cert.OutFwdIdeal.Gen.dats m 0 c).arrAt 7 Cert.OutFwdIdeal.cfg0.N = zD (refE m' c) :=
  Cert.OutFwdIdeal.Hand.arr_d m c _ fun i j => (zD_at _ i j).trans (congrArg (· * _) (refE_at h i j))

theorem out_fwd_l (h : OutFwdAgree m m' c) : (Cert.OutFwdIdeal.Gen.dats m 0 c).arrAt 8 Cert.OutFwdIdeal.cfg0.N = zL (refE m' c) :=
  Cert.OutFwdIdeal.Hand.arr_l m c _ fun j => (zL_at _ j).trans (by simp only [refE_at h])

/-- The kernel's three results are the reference's. -/
theorem algebraic_out_fwd : Cert.algebraic_OutFwdIdeal_OutFwdRefIdeal := by
  intro m ρ m' ρ' _ hagree
  refine ⟨_, _, _, (θ_run _ _ _).mono (fun r h c => ?_) (Cert.OutFwdIdeal.Value.run_blocks (F := Ideal) m ρ), Cert.OutFwdRefIdeal.Value.run (F := Ideal) m' ρ'⟩
  obtain ⟨h0, h1, h2, h⟩ := h c
  exact ⟨h0.trans (out_fwd_y (hagree c)), h1.trans (out_fwd_d (hagree c)), h2.trans (out_fwd_l (hagree c)), h⟩

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.Gen.InProj
public import proofs.«01_k».proof.Proof.Gen.InProjIdeal
public import proofs.«01_k».proof.Proof.Gen.InProjRefIdeal
public import proofs.«01_k».proof.Proof.Gen.OutProj
public import proofs.«01_k».proof.Proof.Gen.OutProjIdeal
public import proofs.«01_k».proof.Proof.Gen.OutProjRefIdeal
public import proofs.«01_k».proof.Proof.Gen.InProj.Frame
public import proofs.«01_k».proof.Proof.Gen.InProjIdeal.Frame
public import proofs.«01_k».proof.Proof.Gen.OutProj.Frame
public import proofs.«01_k».proof.Proof.Gen.OutProjIdeal.Frame
public import proofs.«01_k».proof.Proof.Gen.InProjIdeal.Value
public import proofs.«01_k».proof.Proof.Gen.OutProjIdeal.Value
public import proofs.«01_k».proof.Proof.Gen.InProjRefIdeal.Run
public import proofs.«01_k».proof.Proof.Gen.OutProjRefIdeal.Run
public import proofs.«01_k».proof.Proof.Gen.InFwd
public import proofs.«01_k».proof.Proof.Gen.InFwdIdeal
public import proofs.«01_k».proof.Proof.Gen.InFwdRefIdeal
public import proofs.«01_k».proof.Proof.Gen.InFwd.Frame
public import proofs.«01_k».proof.Proof.Gen.InFwdIdeal.Frame
public import proofs.«01_k».proof.Proof.Gen.InFwdIdeal.Value
public import proofs.«01_k».proof.Proof.Gen.InFwdRefIdeal.Run
public import proofs.«01_k».proof.Proof.Gen.OutFwd
public import proofs.«01_k».proof.Proof.Gen.OutFwdIdeal
public import proofs.«01_k».proof.Proof.Gen.OutFwdRefIdeal
public import proofs.«01_k».proof.Proof.Gen.OutFwd.Frame
public import proofs.«01_k».proof.Proof.Gen.OutFwdIdeal.Frame
public import proofs.«01_k».proof.Proof.Gen.OutFwdIdeal.Value
public import proofs.«01_k».proof.Proof.Gen.OutFwdRefIdeal.Run
public import proofs.«01_k».proof.Proof.Run
public import proofs.«01_k».proof.Proof.Ref
public import proofs.«01_k».proof.Proof.Claims
public import proofs.«01_k».proof.Proof.VFinal
public import proofs.«01_k».proof.Proof.ProjFrames
public import proofs.«01_k».proof.Proof.InFinal
public import proofs.«01_k».proof.Proof.OutFinal
public import proofs.«01_k».proof.Proof.FwdFrames
public import proofs.«01_k».proof.Proof.AdamInFinal
public import proofs.«01_k».proof.Proof.AdamUqFinal
public import proofs.«01_k».proof.Proof.AdamUkvFinal
public import proofs.«01_k».proof.Proof.AdamOutFinal
public import proofs.«01_k».proof.Proof.FwdInFinal
public import proofs.«01_k».proof.Proof.FwdOutFinal

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.InProj.Gen.facts, Cert.InProjIdeal.Gen.facts, Cert.InProjRefIdeal.Gen.facts,
    Cert.OutProj.Gen.facts, Cert.OutProjIdeal.Gen.facts, Cert.OutProjRefIdeal.Gen.facts,
    Cert.InFwd.Gen.facts, Cert.InFwdIdeal.Gen.facts, Cert.InFwdRefIdeal.Gen.facts,
    Cert.OutFwd.Gen.facts, Cert.OutFwdIdeal.Gen.facts, Cert.OutFwdRefIdeal.Gen.facts,
    Cert.AdamIn.Gen.facts, Cert.AdamInIdeal.Gen.facts, Cert.AdamInRefIdeal.Gen.facts,
    Cert.AdamUq.Gen.facts, Cert.AdamUqIdeal.Gen.facts, Cert.AdamUqRefIdeal.Gen.facts,
    Cert.AdamUkv.Gen.facts, Cert.AdamUkvIdeal.Gen.facts, Cert.AdamUkvRefIdeal.Gen.facts,
    Cert.AdamOut.Gen.facts, Cert.AdamOutIdeal.Gen.facts, Cert.AdamOutRefIdeal.Gen.facts, Cert.Pre_finite.Gen.facts,
    frame_kernel, frame_kernelIdeal, frame_kernelIdeal_finite, frame_reference, frame_reference_finite,
    frame_in, frame_inIdeal, frame_inRef, frame_out, frame_outIdeal, frame_outRef,
    frame_inFwd, frame_inFwdIdeal, frame_inFwdRef, frame_outFwd, frame_outFwdIdeal, frame_outFwdRef,
    frame_adamIn, frame_adamInIdeal, frame_adamInRef,
    frame_adamUq, frame_adamUqIdeal, frame_adamUqRef,
    frame_adamUkv, frame_adamUkvIdeal, frame_adamUkvRef,
    frame_adamOut, frame_adamOutIdeal, frame_adamOutRef,
    preserves, algebraic, trivial, algebraic_in, trivial, algebraic_out,
    trivial, algebraic_in_fwd, trivial, algebraic_out_fwd,
    trivial, algebraic_adamIn, trivial, algebraic_adamUq, trivial, algebraic_adamUkv, trivial, algebraic_adamOut⟩

end Cert.Proof

end
